-- ==== Defs.lean ====
def Pre_Kernel [hPre_reset_is_flag : Cert.Pre_reset_is_flag.Facts] (m : (ℓ : Loc Cert.Kernel.nD Cert.Kernel.τ Cert.Kernel.sig) → Buf (Elt Bits) ℓ) : Prop :=
  ∀ c : Dev Cert.Kernel.nD,
    (Cert.Pre_reset_is_flag.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_reset_is_flag : Cert.Pre_reset_is_flag.Facts] (m : (ℓ : Loc Cert.KernelIdeal.nD Cert.KernelIdeal.τ Cert.KernelIdeal.sig) → Buf (Elt Ideal) ℓ) : Prop :=
  ∀ c : Dev Cert.KernelIdeal.nD,
    (Cert.Pre_reset_is_flag.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_reset_is_flag [hPre_reset_is_flag : Cert.Pre_reset_is_flag.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_reset_is_flag.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_reset_is_flag : Cert.Pre_reset_is_flag.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_reset_is_flag : Cert.Pre_reset_is_flag.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_reset_is_flag [hReferenceIdeal : Cert.ReferenceIdeal.Facts] [hPre_reset_is_flag : Cert.Pre_reset_is_flag.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_reset_is_flag m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "reset_mask" .f32 0xFF61B1E6#32 ⊥
  ∧ IdealRules.named_const.Statement Cert.KernelIdeal.κ "neg_log2e" .f32 0xBFB8AA3B#32 ((-((Real.log 2)⁻¹) : ℝ) : EReal)

def algebraic_KernelIdeal_ReferenceIdeal [hKernelIdeal : Cert.KernelIdeal.Facts] [hReferenceIdeal : Cert.ReferenceIdeal.Facts] [hPre_reset_is_flag : Cert.Pre_reset_is_flag.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_reset_is_flag : Cert.Pre_reset_is_flag.Facts),
    quiescent_Kernel (hKernel := hKernel) (hPre_reset_is_flag := hPre_reset_is_flag)
    ∧ quiescent_KernelIdeal (hKernelIdeal := hKernelIdeal) (hPre_reset_is_flag := hPre_reset_is_flag)
    ∧ quiescent_ReferenceIdeal (hReferenceIdeal := hReferenceIdeal)
    ∧ quiescent_ReferenceIdeal_pre_reset_is_flag (hReferenceIdeal := hReferenceIdeal) (hPre_reset_is_flag := hPre_reset_is_flag)
    ∧ preserves_Kernel_KernelIdeal
    ∧ algebraic_KernelIdeal_ReferenceIdeal (hKernelIdeal := hKernelIdeal) (hReferenceIdeal := hReferenceIdeal) (hPre_reset_is_flag := hPre_reset_is_flag)
-- ==== Pre_reset_is_flag.lean ====
abbrev S2x128x8192 : Shape := ⟨3, ![2, 128, 8192]⟩
abbrev S2x128 : Shape := ⟨2, ![2, 128]⟩
abbrev S2x128x16 : Shape := ⟨3, ![2, 128, 16]⟩
abbrev S8192x16 : Shape := ⟨2, ![8192, 16]⟩
abbrev S8192 : Shape := ⟨1, ![8192]⟩
abbrev S_ : Shape := ⟨0, ![]⟩

class Facts : Prop where
  bcast_S_S2x128 : S_.BroadcastsInDim S2x128 (![] : Fin 0 → Fin S2x128.rank)

variable [Facts]

def fn {F : FTy → Type} [FloatOps F] (main_arg0 : FVec F S2x128x8192 .fp8e4m3) (main_arg1 : FVec F S2x128 .f32) (main_arg2 : FVec F S2x128x8192 .fp8e4m3) (main_arg3 : FVec F S2x128 .f32) (main_arg4 : FVec F S2x128x16 .fp8e4m3) (main_arg5 : FVec F S2x128 .f32) (main_arg6 : FVec F S2x128x16 .fp8e4m3) (main_arg7 : FVec F S2x128 .f32) (main_arg8 : FVec F S2x128x8192 .bf16) (main_arg9 : FVec F S8192x16 .f32) (main_arg10 : FVec F S8192 .f32) (main_arg11 : FVec F S8192 .f32) (main_arg12 : IVec S2x128 32) : IVec S2x128 1 :=
  let main_c : IVec S_ 32 := constantI S_ 32 0#32
  let main_v0 : IVec S2x128 32 := broadcastInDim S2x128 ![] bcast_S_S2x128 main_c
  let main_v1 : IVec S2x128 1 := cmpi .eq main_arg12 main_v0
  let main_c_0 : IVec S_ 32 := constantI S_ 32 1#32
  let main_v2 : IVec S2x128 32 := broadcastInDim S2x128 ![] bcast_S_S2x128 main_c_0
  let main_v3 : IVec S2x128 1 := cmpi .eq main_arg12 main_v2
  let main_v4 : IVec S2x128 1 := ori main_v1 main_v3
  main_v4
-- ==== Kernel.lean ====
abbrev S2x128x8192 : Shape := ⟨3, ![2, 128, 8192]⟩
abbrev S2x128 : Shape := ⟨2, ![2, 128]⟩
abbrev S2x128x16 : Shape := ⟨3, ![2, 128, 16]⟩
abbrev S8192x16 : Shape := ⟨2, ![8192, 16]⟩
abbrev S8192 : Shape := ⟨1, ![8192]⟩
abbrev S16x8192 : Shape := ⟨2, ![16, 8192]⟩
abbrev S1x8192 : Shape := ⟨2, ![1, 8192]⟩
abbrev S_ : Shape := ⟨0, ![]⟩
abbrev S2x16x8192 : Shape := ⟨3, ![2, 16, 8192]⟩
abbrev S1x128x1024 : Shape := ⟨3, ![1, 128, 1024]⟩
abbrev S16x1024 : Shape := ⟨2, ![16, 1024]⟩
abbrev S1x1024 : Shape := ⟨2, ![1, 1024]⟩
abbrev S1x16x1024 : Shape := ⟨3, ![1, 16, 1024]⟩
abbrev S2x128x128 : Shape := ⟨3, ![2, 128, 128]⟩
abbrev S2x128x16x128 : Shape := ⟨4, ![2, 128, 16, 128]⟩
abbrev S2x16x1024 : Shape := ⟨3, ![2, 16, 1024]⟩
abbrev S8x128x128 : Shape := ⟨3, ![8, 128, 128]⟩
abbrev S8x72x128 : Shape := ⟨3, ![8, 72, 128]⟩
abbrev S1x128 : Shape := ⟨2, ![1, 128]⟩
abbrev S128x128 : Shape := ⟨2, ![128, 128]⟩
abbrev S1x128x128 : Shape := ⟨3, ![1, 128, 128]⟩
abbrev S1x128x16 : Shape := ⟨3, ![1, 128, 16]⟩
abbrev S128x16 : Shape := ⟨2, ![128, 16]⟩
abbrev S16x128 : Shape := ⟨2, ![16, 128]⟩
abbrev S16x1 : Shape := ⟨2, ![16, 1]⟩
abbrev S1x1x16x128 : Shape := ⟨4, ![1, 1, 16, 128]⟩
abbrev S8x128 : Shape := ⟨2, ![8, 128]⟩
abbrev S1x1 : Shape := ⟨2, ![1, 1]⟩
abbrev S1x1x128 : Shape := ⟨3, ![1, 1, 128]⟩
abbrev S1x8x128 : Shape := ⟨3, ![1, 8, 128]⟩
abbrev S1x1x8x128 : Shape := ⟨4, ![1, 1, 8, 128]⟩

abbrev nBuf : Space → Nat
  | .hbm => 20
  | .vmem => 33
  | .smem => 1
  | _ => 0

abbrev bufTy : (tb : Table) → Fin (tcTables nBuf tb) → BufTy
  | .hbm, ⟨0, _⟩ => ⟨S2x128x8192, .fp8e4m3⟩
  | .hbm, ⟨1, _⟩ => ⟨S2x128, .f32⟩
  | .hbm, ⟨2, _⟩ => ⟨S2x128x8192, .fp8e4m3⟩
  | .hbm, ⟨3, _⟩ => ⟨S2x128, .f32⟩
  | .hbm, ⟨4, _⟩ => ⟨S2x128x16, .fp8e4m3⟩
  | .hbm, ⟨5, _⟩ => ⟨S2x128, .f32⟩
  | .hbm, ⟨6, _⟩ => ⟨S2x128x16, .fp8e4m3⟩
  | .hbm, ⟨7, _⟩ => ⟨S2x128, .f32⟩
  | .hbm, ⟨8, _⟩ => ⟨S2x128x8192, .bf16⟩
  | .hbm, ⟨9, _⟩ => ⟨S8192x16, .f32⟩
  | .hbm, ⟨10, _⟩ => ⟨S8192, .f32⟩
  | .hbm, ⟨11, _⟩ => ⟨S8192, .f32⟩
  | .hbm, ⟨12, _⟩ => ⟨S16x8192, .f32⟩
  | .hbm, ⟨13, _⟩ => ⟨S1x8192, .f32⟩
  | .hbm, ⟨14, _⟩ => ⟨S1x8192, .f32⟩
  | .hbm, ⟨15, _⟩ => ⟨S_, .i32⟩
  | .hbm, ⟨16, _⟩ => ⟨S2x128, .i32⟩
  | .hbm, ⟨17, _⟩ => ⟨S2x128, .i32⟩
  | .hbm, ⟨18, _⟩ => ⟨S2x128x8192, .bf16⟩
  | .hbm, ⟨19, _⟩ => ⟨S2x16x8192, .f32⟩
  | .local _ .vmem, ⟨0, _⟩ => ⟨S1x128x1024, .fp8e4m3⟩
  | .local _ .vmem, ⟨1, _⟩ => ⟨S1x128x1024, .fp8e4m3⟩
  | .local _ .vmem, ⟨2, _⟩ => ⟨S2x128, .f32⟩
  | .local _ .vmem, ⟨3, _⟩ => ⟨S1x128x1024, .fp8e4m3⟩
  | .local _ .vmem, ⟨4, _⟩ => ⟨S1x128x1024, .fp8e4m3⟩
  | .local _ .vmem, ⟨5, _⟩ => ⟨S2x128, .f32⟩
  | .local _ .vmem, ⟨6, _⟩ => ⟨S2x128x16, .fp8e4m3⟩
  | .local _ .vmem, ⟨7, _⟩ => ⟨S2x128, .f32⟩
  | .local _ .vmem, ⟨8, _⟩ => ⟨S2x128x16, .fp8e4m3⟩
  | .local _ .vmem, ⟨9, _⟩ => ⟨S2x128, .f32⟩
  | .local _ .vmem, ⟨10, _⟩ => ⟨S1x128x1024, .bf16⟩
  | .local _ .vmem, ⟨11, _⟩ => ⟨S1x128x1024, .bf16⟩
  | .local _ .vmem, ⟨12, _⟩ => ⟨S16x1024, .f32⟩
  | .local _ .vmem, ⟨13, _⟩ => ⟨S16x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S2x128, .i32⟩
  | .local _ .vmem, ⟨19, _⟩ => ⟨S1x128x1024, .bf16⟩
  | .local _ .vmem, ⟨20, _⟩ => ⟨S1x128x1024, .bf16⟩
  | .local _ .vmem, ⟨21, _⟩ => ⟨S1x16x1024, .f32⟩
  | .local _ .vmem, ⟨22, _⟩ => ⟨S1x16x1024, .f32⟩
  | .local _ .vmem, ⟨23, _⟩ => ⟨S2x128x128, .f32⟩
  | .local _ .vmem, ⟨24, _⟩ => ⟨S2x128x128, .f32⟩
  | .local _ .vmem, ⟨25, _⟩ => ⟨S2x128x128, .f32⟩
  | .local _ .vmem, ⟨26, _⟩ => ⟨S2x128x16x128, .f32⟩
  | .local _ .vmem, ⟨27, _⟩ => ⟨S2x128x16x128, .f32⟩
  | .local _ .vmem, ⟨28, _⟩ => ⟨S2x16x1024, .f32⟩
  | .local _ .vmem, ⟨29, _⟩ => ⟨S8x128x128, .f32⟩
  | .local _ .vmem, ⟨30, _⟩ => ⟨S8x128x128, .f32⟩
  | .local _ .vmem, ⟨31, _⟩ => ⟨S8x128x128, .f32⟩
  | .local _ .vmem, ⟨32, _⟩ => ⟨S8x72x128, .f32⟩
  | .local _ .smem, ⟨0, _⟩ => ⟨S2x128, .i32⟩
  | _, _ => ⟨S2x128x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_arg12 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_arg12.idx], fun | 0 => main_arg12.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg1 : BitVec 32 := BitVec.ofNat 32 (i 1).val
  let v13 : Index := Scalar.indexCast arg1
  let c0_8 : Index := 0#32
  let c0_9 : Index := 0#32
  ![v13.toNat, 0, 0]
@[reducible] def k0_t1_loop : Scf.Loop 32 :=
  let c0_i32_245 : BitVec 32 := 0#32
  let c16_i32 : BitVec 32 := 16#32
  let v449 : BitVec 32 := Scalar.addi c0_i32_245 c16_i32
  let c1_i32 : BitVec 32 := 1#32
  ⟨c0_i32_245, v449, c1_i32⟩
def k0_mult1 (k0_t1 : Fin k0_t1_loop.trips) : BitVec 32 :=
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  v499
def k0_off2 (i : grid0.Coords) (k0_t1 : Fin k0_t1_loop.trips) : Fin 2 → Nat :=
  let arg1 : BitVec 32 := BitVec.ofNat 32 (i 1).val
  let v502 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c0_i32_294 : BitVec 32 := 0#32
  let v501 : BitVec 32 := Scalar.addi v500 c0_i32_294
  let v503 : Index := Scalar.indexCast v501
  ![v502.toNat, v503.toNat]
def k0_off3 (k0_t1 : Fin k0_t1_loop.trips) : Fin 3 → Nat :=
  let c0_295 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c0_i32_294 : BitVec 32 := 0#32
  let v501 : BitVec 32 := Scalar.addi v500 c0_i32_294
  let v505 : Index := Scalar.indexCast v501
  let c0_296 : Index := 0#32
  ![0, v505.toNat, 0]
def k0_off4 (v504 : BitVec 32) : Fin 3 → Nat :=
  let v515 : Index := Scalar.indexCast v504
  let c0_299 : Index := 0#32
  let c0_300 : Index := 0#32
  ![v515.toNat, 0, 0]

def k0_off5 (i : grid0.Coords) (k0_t1 : Fin k0_t1_loop.trips) : Fin 4 → Nat :=
  let arg1 : BitVec 32 := BitVec.ofNat 32 (i 1).val
  let v521 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c0_i32_294 : BitVec 32 := 0#32
  let v501 : BitVec 32 := Scalar.addi v500 c0_i32_294
  let v522 : Index := Scalar.indexCast v501
  let c0_301 : Index := 0#32
  let c0_302 : Index := 0#32
  ![v521.toNat, v522.toNat, 0, 0]
def k0_off6 (v504 : BitVec 32) : Fin 3 → Nat :=
  let v532 : Index := Scalar.indexCast v504
  let c8_305 : Index := 8#32
  let c0_306 : Index := 0#32
  ![v532.toNat, 8, 0]
def k0_off7 (i : grid0.Coords) (k0_t1 : Fin k0_t1_loop.trips) : Fin 4 → Nat :=
  let arg1 : BitVec 32 := BitVec.ofNat 32 (i 1).val
  let v538 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c0_i32_294 : BitVec 32 := 0#32
  let v501 : BitVec 32 := Scalar.addi v500 c0_i32_294
  let v539 : Index := Scalar.indexCast v501
  let c8_307 : Index := 8#32
  let c0_308 : Index := 0#32
  ![v538.toNat, v539.toNat, 8, 0]
def k0_off8 (k0_t1 : Fin k0_t1_loop.trips) : Fin 3 → Nat :=
  let c1_314 : Index := 1#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c0_i32_294 : BitVec 32 := 0#32
  let v501 : BitVec 32 := Scalar.addi v500 c0_i32_294
  let v553 : Index := Scalar.indexCast v501
  let c0_315 : Index := 0#32
  ![1, v553.toNat, 0]
def k0_off9 (v504 : BitVec 32) : Fin 3 → Nat :=
  let v563 : Index := Scalar.indexCast v504
  let c0_318 : Index := 0#32
  let c128_319 : Index := 128#32
  ![v563.toNat, 0, 128]
def k0_off10 (v504 : BitVec 32) : Fin 3 → Nat :=
  let v580 : Index := Scalar.indexCast v504
  let c8_324 : Index := 8#32
  let c128_325 : Index := 128#32
  ![v580.toNat, 8, 128]
def k0_off11 (k0_t1 : Fin k0_t1_loop.trips) : Fin 3 → Nat :=
  let c2_333 : Index := 2#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c0_i32_294 : BitVec 32 := 0#32
  let v501 : BitVec 32 := Scalar.addi v500 c0_i32_294
  let v601 : Index := Scalar.indexCast v501
  let c0_334 : Index := 0#32
  ![2, v601.toNat, 0]
def k0_off12 (v504 : BitVec 32) : Fin 3 → Nat :=
  let v611 : Index := Scalar.indexCast v504
  let c0_337 : Index := 0#32
  let c256_338 : Index := 256#32
  ![v611.toNat, 0, 256]
def k0_off13 (v504 : BitVec 32) : Fin 3 → Nat :=
  let v628 : Index := Scalar.indexCast v504
  let c8_343 : Index := 8#32
  let c256_344 : Index := 256#32
  ![v628.toNat, 8, 256]
def k0_off14 (k0_t1 : Fin k0_t1_loop.trips) : Fin 3 → Nat :=
  let c3_352 : Index := 3#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c0_i32_294 : BitVec 32 := 0#32
  let v501 : BitVec 32 := Scalar.addi v500 c0_i32_294
  let v649 : Index := Scalar.indexCast v501
  let c0_353 : Index := 0#32
  ![3, v649.toNat, 0]
def k0_off15 (v504 : BitVec 32) : Fin 3 → Nat :=
  let v659 : Index := Scalar.indexCast v504
  let c0_356 : Index := 0#32
  let c384_357 : Index := 384#32
  ![v659.toNat, 0, 384]
def k0_off16 (v504 : BitVec 32) : Fin 3 → Nat :=
  let v676 : Index := Scalar.indexCast v504
  let c8_362 : Index := 8#32
  let c384_363 : Index := 384#32
  ![v676.toNat, 8, 384]
def k0_off17 (k0_t1 : Fin k0_t1_loop.trips) : Fin 3 → Nat :=
  let c4_371 : Index := 4#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c0_i32_294 : BitVec 32 := 0#32
  let v501 : BitVec 32 := Scalar.addi v500 c0_i32_294
  let v697 : Index := Scalar.indexCast v501
  let c0_372 : Index := 0#32
  ![4, v697.toNat, 0]
def k0_off18 (v504 : BitVec 32) : Fin 3 → Nat :=
  let v707 : Index := Scalar.indexCast v504
  let c0_375 : Index := 0#32
  let c512_376 : Index := 512#32
  ![v707.toNat, 0, 512]
def k0_off19 (v504 : BitVec 32) : Fin 3 → Nat :=
  let v724 : Index := Scalar.indexCast v504
  let c8_381 : Index := 8#32
  let c512_382 : Index := 512#32
  ![v724.toNat, 8, 512]
def k0_off20 (k0_t1 : Fin k0_t1_loop.trips) : Fin 3 → Nat :=
  let c5_390 : Index := 5#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c0_i32_294 : BitVec 32 := 0#32
  let v501 : BitVec 32 := Scalar.addi v500 c0_i32_294
  let v745 : Index := Scalar.indexCast v501
  let c0_391 : Index := 0#32
  ![5, v745.toNat, 0]
def k0_off21 (v504 : BitVec 32) : Fin 3 → Nat :=
  let v755 : Index := Scalar.indexCast v504
  let c0_394 : Index := 0#32
  let c640_395 : Index := 640#32
  ![v755.toNat, 0, 640]
def k0_off22 (v504 : BitVec 32) : Fin 3 → Nat :=
  let v772 : Index := Scalar.indexCast v504
  let c8_400 : Index := 8#32
  let c640_401 : Index := 640#32
  ![v772.toNat, 8, 640]
def k0_off23 (k0_t1 : Fin k0_t1_loop.trips) : Fin 3 → Nat :=
  let c6_409 : Index := 6#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c0_i32_294 : BitVec 32 := 0#32
  let v501 : BitVec 32 := Scalar.addi v500 c0_i32_294
  let v793 : Index := Scalar.indexCast v501
  let c0_410 : Index := 0#32
  ![6, v793.toNat, 0]
def k0_off24 (v504 : BitVec 32) : Fin 3 → Nat :=
  let v803 : Index := Scalar.indexCast v504
  let c0_413 : Index := 0#32
  let c768_414 : Index := 768#32
  ![v803.toNat, 0, 768]
def k0_off25 (v504 : BitVec 32) : Fin 3 → Nat :=
  let v820 : Index := Scalar.indexCast v504
  let c8_419 : Index := 8#32
  let c768_420 : Index := 768#32
  ![v820.toNat, 8, 768]
def k0_off26 (k0_t1 : Fin k0_t1_loop.trips) : Fin 3 → Nat :=
  let c7_428 : Index := 7#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c0_i32_294 : BitVec 32 := 0#32
  let v501 : BitVec 32 := Scalar.addi v500 c0_i32_294
  let v841 : Index := Scalar.indexCast v501
  let c0_429 : Index := 0#32
  ![7, v841.toNat, 0]
def k0_off27 (v504 : BitVec 32) : Fin 3 → Nat :=
  let v851 : Index := Scalar.indexCast v504
  let c0_432 : Index := 0#32
  let c896_433 : Index := 896#32
  ![v851.toNat, 0, 896]
def k0_off28 (v504 : BitVec 32) : Fin 3 → Nat :=
  let v868 : Index := Scalar.indexCast v504
  let c8_438 : Index := 8#32
  let c896_439 : Index := 896#32
  ![v868.toNat, 8, 896]

def k0_chk1 (v504 : BitVec 32) : Prop :=
  (∀ a, (k0_off4 v504) a + S1x8x128.size a ≤ S2x16x1024.size a) ∧
  (∀ a, (k0_off6 v504) a + S1x8x128.size a ≤ S2x16x1024.size a) ∧
  (∀ a, (k0_off9 v504) a + S1x8x128.size a ≤ S2x16x1024.size a) ∧
  (∀ a, (k0_off10 v504) a + S1x8x128.size a ≤ S2x16x1024.size a) ∧
  (∀ a, (k0_off12 v504) a + S1x8x128.size a ≤ S2x16x1024.size a) ∧
  (∀ a, (k0_off13 v504) a + S1x8x128.size a ≤ S2x16x1024.size a) ∧
  (∀ a, (k0_off15 v504) a + S1x8x128.size a ≤ S2x16x1024.size a) ∧
  (∀ a, (k0_off16 v504) a + S1x8x128.size a ≤ S2x16x1024.size a) ∧
  (∀ a, (k0_off18 v504) a + S1x8x128.size a ≤ S2x16x1024.size a) ∧
  (∀ a, (k0_off19 v504) a + S1x8x128.size a ≤ S2x16x1024.size a) ∧
  (∀ a, (k0_off21 v504) a + S1x8x128.size a ≤ S2x16x1024.size a) ∧
  (∀ a, (k0_off22 v504) a + S1x8x128.size a ≤ S2x16x1024.size a) ∧
  (∀ a, (k0_off24 v504) a + S1x8x128.size a ≤ S2x16x1024.size a) ∧
  (∀ a, (k0_off25 v504) a + S1x8x128.size a ≤ S2x16x1024.size a) ∧
  (∀ a, (k0_off27 v504) a + S1x8x128.size a ≤ S2x16x1024.size a) ∧
  (∀ a, (k0_off28 v504) a + S1x8x128.size a ≤ S2x16x1024.size a)
theorem k0_off4_inb : ∀ (v504 : BitVec 32) (k0_hw1 : k0_chk1 v504), ∀ a, (k0_off4 v504) a + S1x8x128.size a ≤ S2x16x1024.size a := fun v504 k0_hw1 => k0_hw1.1
theorem k0_off6_inb : ∀ (v504 : BitVec 32) (k0_hw1 : k0_chk1 v504), ∀ a, (k0_off6 v504) a + S1x8x128.size a ≤ S2x16x1024.size a := fun v504 k0_hw1 => k0_hw1.2.1
theorem k0_off9_inb : ∀ (v504 : BitVec 32) (k0_hw1 : k0_chk1 v504), ∀ a, (k0_off9 v504) a + S1x8x128.size a ≤ S2x16x1024.size a := fun v504 k0_hw1 => k0_hw1.2.2.1
theorem k0_off10_inb : ∀ (v504 : BitVec 32) (k0_hw1 : k0_chk1 v504), ∀ a, (k0_off10 v504) a + S1x8x128.size a ≤ S2x16x1024.size a := fun v504 k0_hw1 => k0_hw1.2.2.2.1
theorem k0_off12_inb : ∀ (v504 : BitVec 32) (k0_hw1 : k0_chk1 v504), ∀ a, (k0_off12 v504) a + S1x8x128.size a ≤ S2x16x1024.size a := fun v504 k0_hw1 => k0_hw1.2.2.2.2.1
theorem k0_off13_inb : ∀ (v504 : BitVec 32) (k0_hw1 : k0_chk1 v504), ∀ a, (k0_off13 v504) a + S1x8x128.size a ≤ S2x16x1024.size a := fun v504 k0_hw1 => k0_hw1.2.2.2.2.2.1
theorem k0_off15_inb : ∀ (v504 : BitVec 32) (k0_hw1 : k0_chk1 v504), ∀ a, (k0_off15 v504) a + S1x8x128.size a ≤ S2x16x1024.size a := fun v504 k0_hw1 => k0_hw1.2.2.2.2.2.2.1
theorem k0_off16_inb : ∀ (v504 : BitVec 32) (k0_hw1 : k0_chk1 v504), ∀ a, (k0_off16 v504) a + S1x8x128.size a ≤ S2x16x1024.size a := fun v504 k0_hw1 => k0_hw1.2.2.2.2.2.2.2.1
theorem k0_off18_inb : ∀ (v504 : BitVec 32) (k0_hw1 : k0_chk1 v504), ∀ a, (k0_off18 v504) a + S1x8x128.size a ≤ S2x16x1024.size a := fun v504 k0_hw1 => k0_hw1.2.2.2.2.2.2.2.2.1
theorem k0_off19_inb : ∀ (v504 : BitVec 32) (k0_hw1 : k0_chk1 v504), ∀ a, (k0_off19 v504) a + S1x8x128.size a ≤ S2x16x1024.size a := fun v504 k0_hw1 => k0_hw1.2.2.2.2.2.2.2.2.2.1
theorem k0_off21_inb : ∀ (v504 : BitVec 32) (k0_hw1 : k0_chk1 v504), ∀ a, (k0_off21 v504) a + S1x8x128.size a ≤ S2x16x1024.size a := fun v504 k0_hw1 => k0_hw1.2.2.2.2.2.2.2.2.2.2.1
theorem k0_off22_inb : ∀ (v504 : BitVec 32) (k0_hw1 : k0_chk1 v504), ∀ a, (k0_off22 v504) a + S1x8x128.size a ≤ S2x16x1024.size a := fun v504 k0_hw1 => k0_hw1.2.2.2.2.2.2.2.2.2.2.2.1
theorem k0_off24_inb : ∀ (v504 : BitVec 32) (k0_hw1 : k0_chk1 v504), ∀ a, (k0_off24 v504) a + S1x8x128.size a ≤ S2x16x1024.size a := fun v504 k0_hw1 => k0_hw1.2.2.2.2.2.2.2.2.2.2.2.2.1
theorem k0_off25_inb : ∀ (v504 : BitVec 32) (k0_hw1 : k0_chk1 v504), ∀ a, (k0_off25 v504) a + S1x8x128.size a ≤ S2x16x1024.size a := fun v504 k0_hw1 => k0_hw1.2.2.2.2.2.2.2.2.2.2.2.2.2.1
theorem k0_off27_inb : ∀ (v504 : BitVec 32) (k0_hw1 : k0_chk1 v504), ∀ a, (k0_off27 v504) a + S1x8x128.size a ≤ S2x16x1024.size a := fun v504 k0_hw1 => k0_hw1.2.2.2.2.2.2.2.2.2.2.2.2.2.2.1
theorem k0_off28_inb : ∀ (v504 : BitVec 32) (k0_hw1 : k0_chk1 v504), ∀ a, (k0_off28 v504) a + S1x8x128.size a ≤ S2x16x1024.size a := fun v504 k0_hw1 => k0_hw1.2.2.2.2.2.2.2.2.2.2.2.2.2.2.2

def k0_off29 (i : grid0.Coords) (k0_t1 : Fin k0_t1_loop.trips) : Fin 2 → Nat :=
  let arg1 : BitVec 32 := BitVec.ofNat 32 (i 1).val
  let v890 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c1_i32_447 : BitVec 32 := 1#32
  let v889 : BitVec 32 := Scalar.addi v500 c1_i32_447
  let v891 : Index := Scalar.indexCast v889
  ![v890.toNat, v891.toNat]
def k0_off30 (k0_t1 : Fin k0_t1_loop.trips) : Fin 3 → Nat :=
  let c0_448 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c1_i32_447 : BitVec 32 := 1#32
  let v889 : BitVec 32 := Scalar.addi v500 c1_i32_447
  let v893 : Index := Scalar.indexCast v889
  let c0_449 : Index := 0#32
  ![0, v893.toNat, 0]
def k0_off31 (v892 : BitVec 32) : Fin 3 → Nat :=
  let v903 : Index := Scalar.indexCast v892
  let c0_452 : Index := 0#32
  let c0_453 : Index := 0#32
  ![v903.toNat, 0, 0]

def k0_off32 (i : grid0.Coords) (k0_t1 : Fin k0_t1_loop.trips) : Fin 4 → Nat :=
  let arg1 : BitVec 32 := BitVec.ofNat 32 (i 1).val
  let v909 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c1_i32_447 : BitVec 32 := 1#32
  let v889 : BitVec 32 := Scalar.addi v500 c1_i32_447
  let v910 : Index := Scalar.indexCast v889
  let c0_454 : Index := 0#32
  let c0_455 : Index := 0#32
  ![v909.toNat, v910.toNat, 0, 0]
def k0_off33 (v892 : BitVec 32) : Fin 3 → Nat :=
  let v920 : Index := Scalar.indexCast v892
  let c8_458 : Index := 8#32
  let c0_459 : Index := 0#32
  ![v920.toNat, 8, 0]
def k0_off34 (i : grid0.Coords) (k0_t1 : Fin k0_t1_loop.trips) : Fin 4 → Nat :=
  let arg1 : BitVec 32 := BitVec.ofNat 32 (i 1).val
  let v926 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c1_i32_447 : BitVec 32 := 1#32
  let v889 : BitVec 32 := Scalar.addi v500 c1_i32_447
  let v927 : Index := Scalar.indexCast v889
  let c8_460 : Index := 8#32
  let c0_461 : Index := 0#32
  ![v926.toNat, v927.toNat, 8, 0]
def k0_off35 (k0_t1 : Fin k0_t1_loop.trips) : Fin 3 → Nat :=
  let c1_467 : Index := 1#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c1_i32_447 : BitVec 32 := 1#32
  let v889 : BitVec 32 := Scalar.addi v500 c1_i32_447
  let v941 : Index := Scalar.indexCast v889
  let c0_468 : Index := 0#32
  ![1, v941.toNat, 0]
def k0_off36 (v892 : BitVec 32) : Fin 3 → Nat :=
  let v951 : Index := Scalar.indexCast v892
  let c0_471 : Index := 0#32
  let c128_472 : Index := 128#32
  ![v951.toNat, 0, 128]
def k0_off37 (v892 : BitVec 32) : Fin 3 → Nat :=
  let v968 : Index := Scalar.indexCast v892
  let c8_477 : Index := 8#32
  let c128_478 : Index := 128#32
  ![v968.toNat, 8, 128]
def k0_off38 (k0_t1 : Fin k0_t1_loop.trips) : Fin 3 → Nat :=
  let c2_486 : Index := 2#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c1_i32_447 : BitVec 32 := 1#32
  let v889 : BitVec 32 := Scalar.addi v500 c1_i32_447
  let v989 : Index := Scalar.indexCast v889
  let c0_487 : Index := 0#32
  ![2, v989.toNat, 0]
def k0_off39 (v892 : BitVec 32) : Fin 3 → Nat :=
  let v999 : Index := Scalar.indexCast v892
  let c0_490 : Index := 0#32
  let c256_491 : Index := 256#32
  ![v999.toNat, 0, 256]
def k0_off40 (v892 : BitVec 32) : Fin 3 → Nat :=
  let v1016 : Index := Scalar.indexCast v892
  let c8_496 : Index := 8#32
  let c256_497 : Index := 256#32
  ![v1016.toNat, 8, 256]
def k0_off41 (k0_t1 : Fin k0_t1_loop.trips) : Fin 3 → Nat :=
  let c3_505 : Index := 3#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c1_i32_447 : BitVec 32 := 1#32
  let v889 : BitVec 32 := Scalar.addi v500 c1_i32_447
  let v1037 : Index := Scalar.indexCast v889
  let c0_506 : Index := 0#32
  ![3, v1037.toNat, 0]
def k0_off42 (v892 : BitVec 32) : Fin 3 → Nat :=
  let v1047 : Index := Scalar.indexCast v892
  let c0_509 : Index := 0#32
  let c384_510 : Index := 384#32
  ![v1047.toNat, 0, 384]
def k0_off43 (v892 : BitVec 32) : Fin 3 → Nat :=
  let v1064 : Index := Scalar.indexCast v892
  let c8_515 : Index := 8#32
  let c384_516 : Index := 384#32
  ![v1064.toNat, 8, 384]
def k0_off44 (k0_t1 : Fin k0_t1_loop.trips) : Fin 3 → Nat :=
  let c4_524 : Index := 4#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c1_i32_447 : BitVec 32 := 1#32
  let v889 : BitVec 32 := Scalar.addi v500 c1_i32_447
  let v1085 : Index := Scalar.indexCast v889
  let c0_525 : Index := 0#32
  ![4, v1085.toNat, 0]
def k0_off45 (v892 : BitVec 32) : Fin 3 → Nat :=
  let v1095 : Index := Scalar.indexCast v892
  let c0_528 : Index := 0#32
  let c512_529 : Index := 512#32
  ![v1095.toNat, 0, 512]
def k0_off46 (v892 : BitVec 32) : Fin 3 → Nat :=
  let v1112 : Index := Scalar.indexCast v892
  let c8_534 : Index := 8#32
  let c512_535 : Index := 512#32
  ![v1112.toNat, 8, 512]
def k0_off47 (k0_t1 : Fin k0_t1_loop.trips) : Fin 3 → Nat :=
  let c5_543 : Index := 5#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c1_i32_447 : BitVec 32 := 1#32
  let v889 : BitVec 32 := Scalar.addi v500 c1_i32_447
  let v1133 : Index := Scalar.indexCast v889
  let c0_544 : Index := 0#32
  ![5, v1133.toNat, 0]
def k0_off48 (v892 : BitVec 32) : Fin 3 → Nat :=
  let v1143 : Index := Scalar.indexCast v892
  let c0_547 : Index := 0#32
  let c640_548 : Index := 640#32
  ![v1143.toNat, 0, 640]
def k0_off49 (v892 : BitVec 32) : Fin 3 → Nat :=
  let v1160 : Index := Scalar.indexCast v892
  let c8_553 : Index := 8#32
  let c640_554 : Index := 640#32
  ![v1160.toNat, 8, 640]
def k0_off50 (k0_t1 : Fin k0_t1_loop.trips) : Fin 3 → Nat :=
  let c6_562 : Index := 6#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c1_i32_447 : BitVec 32 := 1#32
  let v889 : BitVec 32 := Scalar.addi v500 c1_i32_447
  let v1181 : Index := Scalar.indexCast v889
  let c0_563 : Index := 0#32
  ![6, v1181.toNat, 0]
def k0_off51 (v892 : BitVec 32) : Fin 3 → Nat :=
  let v1191 : Index := Scalar.indexCast v892
  let c0_566 : Index := 0#32
  let c768_567 : Index := 768#32
  ![v1191.toNat, 0, 768]
def k0_off52 (v892 : BitVec 32) : Fin 3 → Nat :=
  let v1208 : Index := Scalar.indexCast v892
  let c8_572 : Index := 8#32
  let c768_573 : Index := 768#32
  ![v1208.toNat, 8, 768]
def k0_off53 (k0_t1 : Fin k0_t1_loop.trips) : Fin 3 → Nat :=
  let c7_581 : Index := 7#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c1_i32_447 : BitVec 32 := 1#32
  let v889 : BitVec 32 := Scalar.addi v500 c1_i32_447
  let v1229 : Index := Scalar.indexCast v889
  let c0_582 : Index := 0#32
  ![7, v1229.toNat, 0]
def k0_off54 (v892 : BitVec 32) : Fin 3 → Nat :=
  let v1239 : Index := Scalar.indexCast v892
  let c0_585 : Index := 0#32
  let c896_586 : Index := 896#32
  ![v1239.toNat, 0, 896]
def k0_off55 (v892 : BitVec 32) : Fin 3 → Nat :=
  let v1256 : Index := Scalar.indexCast v892
  let c8_591 : Index := 8#32
  let c896_592 : Index := 896#32
  ![v1256.toNat, 8, 896]

def k0_chk2 (v892 : BitVec 32) : Prop :=
  (∀ a, (k0_off31 v892) a + S1x8x128.size a ≤ S2x16x1024.size a) ∧
  (∀ a, (k0_off33 v892) a + S1x8x128.size a ≤ S2x16x1024.size a) ∧
  (∀ a, (k0_off36 v892) a + S1x8x128.size a ≤ S2x16x1024.size a) ∧
  (∀ a, (k0_off37 v892) a + S1x8x128.size a ≤ S2x16x1024.size a) ∧
  (∀ a, (k0_off39 v892) a + S1x8x128.size a ≤ S2x16x1024.size a) ∧
  (∀ a, (k0_off40 v892) a + S1x8x128.size a ≤ S2x16x1024.size a) ∧
  (∀ a, (k0_off42 v892) a + S1x8x128.size a ≤ S2x16x1024.size a) ∧
  (∀ a, (k0_off43 v892) a + S1x8x128.size a ≤ S2x16x1024.size a) ∧
  (∀ a, (k0_off45 v892) a + S1x8x128.size a ≤ S2x16x1024.size a) ∧
  (∀ a, (k0_off46 v892) a + S1x8x128.size a ≤ S2x16x1024.size a) ∧
  (∀ a, (k0_off48 v892) a + S1x8x128.size a ≤ S2x16x1024.size a) ∧
  (∀ a, (k0_off49 v892) a + S1x8x128.size a ≤ S2x16x1024.size a) ∧
  (∀ a, (k0_off51 v892) a + S1x8x128.size a ≤ S2x16x1024.size a) ∧
  (∀ a, (k0_off52 v892) a + S1x8x128.size a ≤ S2x16x1024.size a) ∧
  (∀ a, (k0_off54 v892) a + S1x8x128.size a ≤ S2x16x1024.size a) ∧
  (∀ a, (k0_off55 v892) a + S1x8x128.size a ≤ S2x16x1024.size a)
theorem k0_off31_inb : ∀ (v892 : BitVec 32) (k0_hw2 : k0_chk2 v892), ∀ a, (k0_off31 v892) a + S1x8x128.size a ≤ S2x16x1024.size a := fun v892 k0_hw2 => k0_hw2.1
theorem k0_off33_inb : ∀ (v892 : BitVec 32) (k0_hw2 : k0_chk2 v892), ∀ a, (k0_off33 v892) a + S1x8x128.size a ≤ S2x16x1024.size a := fun v892 k0_hw2 => k0_hw2.2.1
theorem k0_off36_inb : ∀ (v892 : BitVec 32) (k0_hw2 : k0_chk2 v892), ∀ a, (k0_off36 v892) a + S1x8x128.size a ≤ S2x16x1024.size a := fun v892 k0_hw2 => k0_hw2.2.2.1
theorem k0_off37_inb : ∀ (v892 : BitVec 32) (k0_hw2 : k0_chk2 v892), ∀ a, (k0_off37 v892) a + S1x8x128.size a ≤ S2x16x1024.size a := fun v892 k0_hw2 => k0_hw2.2.2.2.1
theorem k0_off39_inb : ∀ (v892 : BitVec 32) (k0_hw2 : k0_chk2 v892), ∀ a, (k0_off39 v892) a + S1x8x128.size a ≤ S2x16x1024.size a := fun v892 k0_hw2 => k0_hw2.2.2.2.2.1
theorem k0_off40_inb : ∀ (v892 : BitVec 32) (k0_hw2 : k0_chk2 v892), ∀ a, (k0_off40 v892) a + S1x8x128.size a ≤ S2x16x1024.size a := fun v892 k0_hw2 => k0_hw2.2.2.2.2.2.1
theorem k0_off42_inb : ∀ (v892 : BitVec 32) (k0_hw2 : k0_chk2 v892), ∀ a, (k0_off42 v892) a + S1x8x128.size a ≤ S2x16x1024.size a := fun v892 k0_hw2 => k0_hw2.2.2.2.2.2.2.1
theorem k0_off43_inb : ∀ (v892 : BitVec 32) (k0_hw2 : k0_chk2 v892), ∀ a, (k0_off43 v892) a + S1x8x128.size a ≤ S2x16x1024.size a := fun v892 k0_hw2 => k0_hw2.2.2.2.2.2.2.2.1
theorem k0_off45_inb : ∀ (v892 : BitVec 32) (k0_hw2 : k0_chk2 v892), ∀ a, (k0_off45 v892) a + S1x8x128.size a ≤ S2x16x1024.size a := fun v892 k0_hw2 => k0_hw2.2.2.2.2.2.2.2.2.1
theorem k0_off46_inb : ∀ (v892 : BitVec 32) (k0_hw2 : k0_chk2 v892), ∀ a, (k0_off46 v892) a + S1x8x128.size a ≤ S2x16x1024.size a := fun v892 k0_hw2 => k0_hw2.2.2.2.2.2.2.2.2.2.1
theorem k0_off48_inb : ∀ (v892 : BitVec 32) (k0_hw2 : k0_chk2 v892), ∀ a, (k0_off48 v892) a + S1x8x128.size a ≤ S2x16x1024.size a := fun v892 k0_hw2 => k0_hw2.2.2.2.2.2.2.2.2.2.2.1
theorem k0_off49_inb : ∀ (v892 : BitVec 32) (k0_hw2 : k0_chk2 v892), ∀ a, (k0_off49 v892) a + S1x8x128.size a ≤ S2x16x1024.size a := fun v892 k0_hw2 => k0_hw2.2.2.2.2.2.2.2.2.2.2.2.1
theorem k0_off51_inb : ∀ (v892 : BitVec 32) (k0_hw2 : k0_chk2 v892), ∀ a, (k0_off51 v892) a + S1x8x128.size a ≤ S2x16x1024.size a := fun v892 k0_hw2 => k0_hw2.2.2.2.2.2.2.2.2.2.2.2.2.1
theorem k0_off52_inb : ∀ (v892 : BitVec 32) (k0_hw2 : k0_chk2 v892), ∀ a, (k0_off52 v892) a + S1x8x128.size a ≤ S2x16x1024.size a := fun v892 k0_hw2 => k0_hw2.2.2.2.2.2.2.2.2.2.2.2.2.2.1
theorem k0_off54_inb : ∀ (v892 : BitVec 32) (k0_hw2 : k0_chk2 v892), ∀ a, (k0_off54 v892) a + S1x8x128.size a ≤ S2x16x1024.size a := fun v892 k0_hw2 => k0_hw2.2.2.2.2.2.2.2.2.2.2.2.2.2.2.1
theorem k0_off55_inb : ∀ (v892 : BitVec 32) (k0_hw2 : k0_chk2 v892), ∀ a, (k0_off55 v892) a + S1x8x128.size a ≤ S2x16x1024.size a := fun v892 k0_hw2 => k0_hw2.2.2.2.2.2.2.2.2.2.2.2.2.2.2.2

def k0_off56 (i : grid0.Coords) (k0_t1 : Fin k0_t1_loop.trips) : Fin 2 → Nat :=
  let arg1 : BitVec 32 := BitVec.ofNat 32 (i 1).val
  let v1278 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c2_i32 : BitVec 32 := 2#32
  let v1277 : BitVec 32 := Scalar.addi v500 c2_i32
  let v1279 : Index := Scalar.indexCast v1277
  ![v1278.toNat, v1279.toNat]
def k0_off57 (k0_t1 : Fin k0_t1_loop.trips) : Fin 3 → Nat :=
  let c0_600 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c2_i32 : BitVec 32 := 2#32
  let v1277 : BitVec 32 := Scalar.addi v500 c2_i32
  let v1281 : Index := Scalar.indexCast v1277
  let c0_601 : Index := 0#32
  ![0, v1281.toNat, 0]
def k0_off58 (v1280 : BitVec 32) : Fin 3 → Nat :=
  let v1291 : Index := Scalar.indexCast v1280
  let c0_604 : Index := 0#32
  let c0_605 : Index := 0#32
  ![v1291.toNat, 0, 0]

def k0_off59 (i : grid0.Coords) (k0_t1 : Fin k0_t1_loop.trips) : Fin 4 → Nat :=
  let arg1 : BitVec 32 := BitVec.ofNat 32 (i 1).val
  let v1297 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c2_i32 : BitVec 32 := 2#32
  let v1277 : BitVec 32 := Scalar.addi v500 c2_i32
  let v1298 : Index := Scalar.indexCast v1277
  let c0_606 : Index := 0#32
  let c0_607 : Index := 0#32
  ![v1297.toNat, v1298.toNat, 0, 0]
def k0_off60 (v1280 : BitVec 32) : Fin 3 → Nat :=
  let v1308 : Index := Scalar.indexCast v1280
  let c8_610 : Index := 8#32
  let c0_611 : Index := 0#32
  ![v1308.toNat, 8, 0]
def k0_off61 (i : grid0.Coords) (k0_t1 : Fin k0_t1_loop.trips) : Fin 4 → Nat :=
  let arg1 : BitVec 32 := BitVec.ofNat 32 (i 1).val
  let v1314 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c2_i32 : BitVec 32 := 2#32
  let v1277 : BitVec 32 := Scalar.addi v500 c2_i32
  let v1315 : Index := Scalar.indexCast v1277
  let c8_612 : Index := 8#32
  let c0_613 : Index := 0#32
  ![v1314.toNat, v1315.toNat, 8, 0]
def k0_off62 (k0_t1 : Fin k0_t1_loop.trips) : Fin 3 → Nat :=
  let c1_619 : Index := 1#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c2_i32 : BitVec 32 := 2#32
  let v1277 : BitVec 32 := Scalar.addi v500 c2_i32
  let v1329 : Index := Scalar.indexCast v1277
  let c0_620 : Index := 0#32
  ![1, v1329.toNat, 0]
def k0_off63 (v1280 : BitVec 32) : Fin 3 → Nat :=
  let v1339 : Index := Scalar.indexCast v1280
  let c0_623 : Index := 0#32
  let c128_624 : Index := 128#32
  ![v1339.toNat, 0, 128]
def k0_off64 (v1280 : BitVec 32) : Fin 3 → Nat :=
  let v1356 : Index := Scalar.indexCast v1280
  let c8_629 : Index := 8#32
  let c128_630 : Index := 128#32
  ![v1356.toNat, 8, 128]
def k0_off65 (k0_t1 : Fin k0_t1_loop.trips) : Fin 3 → Nat :=
  let c2_638 : Index := 2#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c2_i32 : BitVec 32 := 2#32
  let v1277 : BitVec 32 := Scalar.addi v500 c2_i32
  let v1377 : Index := Scalar.indexCast v1277
  let c0_639 : Index := 0#32
  ![2, v1377.toNat, 0]
def k0_off66 (v1280 : BitVec 32) : Fin 3 → Nat :=
  let v1387 : Index := Scalar.indexCast v1280
  let c0_642 : Index := 0#32
  let c256_643 : Index := 256#32
  ![v1387.toNat, 0, 256]
def k0_off67 (v1280 : BitVec 32) : Fin 3 → Nat :=
  let v1404 : Index := Scalar.indexCast v1280
  let c8_648 : Index := 8#32
  let c256_649 : Index := 256#32
  ![v1404.toNat, 8, 256]
def k0_off68 (k0_t1 : Fin k0_t1_loop.trips) : Fin 3 → Nat :=
  let c3_657 : Index := 3#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c2_i32 : BitVec 32 := 2#32
  let v1277 : BitVec 32 := Scalar.addi v500 c2_i32
  let v1425 : Index := Scalar.indexCast v1277
  let c0_658 : Index := 0#32
  ![3, v1425.toNat, 0]
def k0_off69 (v1280 : BitVec 32) : Fin 3 → Nat :=
  let v1435 : Index := Scalar.indexCast v1280
  let c0_661 : Index := 0#32
  let c384_662 : Index := 384#32
  ![v1435.toNat, 0, 384]
def k0_off70 (v1280 : BitVec 32) : Fin 3 → Nat :=
  let v1452 : Index := Scalar.indexCast v1280
  let c8_667 : Index := 8#32
  let c384_668 : Index := 384#32
  ![v1452.toNat, 8, 384]
def k0_off71 (k0_t1 : Fin k0_t1_loop.trips) : Fin 3 → Nat :=
  let c4_676 : Index := 4#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c2_i32 : BitVec 32 := 2#32
  let v1277 : BitVec 32 := Scalar.addi v500 c2_i32
  let v1473 : Index := Scalar.indexCast v1277
  let c0_677 : Index := 0#32
  ![4, v1473.toNat, 0]
def k0_off72 (v1280 : BitVec 32) : Fin 3 → Nat :=
  let v1483 : Index := Scalar.indexCast v1280
  let c0_680 : Index := 0#32
  let c512_681 : Index := 512#32
  ![v1483.toNat, 0, 512]
def k0_off73 (v1280 : BitVec 32) : Fin 3 → Nat :=
  let v1500 : Index := Scalar.indexCast v1280
  let c8_686 : Index := 8#32
  let c512_687 : Index := 512#32
  ![v1500.toNat, 8, 512]
def k0_off74 (k0_t1 : Fin k0_t1_loop.trips) : Fin 3 → Nat :=
  let c5_695 : Index := 5#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c2_i32 : BitVec 32 := 2#32
  let v1277 : BitVec 32 := Scalar.addi v500 c2_i32
  let v1521 : Index := Scalar.indexCast v1277
  let c0_696 : Index := 0#32
  ![5, v1521.toNat, 0]
def k0_off75 (v1280 : BitVec 32) : Fin 3 → Nat :=
  let v1531 : Index := Scalar.indexCast v1280
  let c0_699 : Index := 0#32
  let c640_700 : Index := 640#32
  ![v1531.toNat, 0, 640]
def k0_off76 (v1280 : BitVec 32) : Fin 3 → Nat :=
  let v1548 : Index := Scalar.indexCast v1280
  let c8_705 : Index := 8#32
  let c640_706 : Index := 640#32
  ![v1548.toNat, 8, 640]
def k0_off77 (k0_t1 : Fin k0_t1_loop.trips) : Fin 3 → Nat :=
  let c6_714 : Index := 6#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c2_i32 : BitVec 32 := 2#32
  let v1277 : BitVec 32 := Scalar.addi v500 c2_i32
  let v1569 : Index := Scalar.indexCast v1277
  let c0_715 : Index := 0#32
  ![6, v1569.toNat, 0]
def k0_off78 (v1280 : BitVec 32) : Fin 3 → Nat :=
  let v1579 : Index := Scalar.indexCast v1280
  let c0_718 : Index := 0#32
  let c768_719 : Index := 768#32
  ![v1579.toNat, 0, 768]
def k0_off79 (v1280 : BitVec 32) : Fin 3 → Nat :=
  let v1596 : Index := Scalar.indexCast v1280
  let c8_724 : Index := 8#32
  let c768_725 : Index := 768#32
  ![v1596.toNat, 8, 768]
def k0_off80 (k0_t1 : Fin k0_t1_loop.trips) : Fin 3 → Nat :=
  let c7_733 : Index := 7#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c2_i32 : BitVec 32 := 2#32
  let v1277 : BitVec 32 := Scalar.addi v500 c2_i32
  let v1617 : Index := Scalar.indexCast v1277
  let c0_734 : Index := 0#32
  ![7, v1617.toNat, 0]
def k0_off81 (v1280 : BitVec 32) : Fin 3 → Nat :=
  let v1627 : Index := Scalar.indexCast v1280
  let c0_737 : Index := 0#32
  let c896_738 : Index := 896#32
  ![v1627.toNat, 0, 896]
def k0_off82 (v1280 : BitVec 32) : Fin 3 → Nat :=
  let v1644 : Index := Scalar.indexCast v1280
  let c8_743 : Index := 8#32
  let c896_744 : Index := 896#32
  ![v1644.toNat, 8, 896]

def k0_chk3 (v1280 : BitVec 32) : Prop :=
  (∀ a, (k0_off58 v1280) a + S1x8x128.size a ≤ S2x16x1024.size a) ∧
  (∀ a, (k0_off60 v1280) a + S1x8x128.size a ≤ S2x16x1024.size a) ∧
  (∀ a, (k0_off63 v1280) a + S1x8x128.size a ≤ S2x16x1024.size a) ∧
  (∀ a, (k0_off64 v1280) a + S1x8x128.size a ≤ S2x16x1024.size a) ∧
  (∀ a, (k0_off66 v1280) a + S1x8x128.size a ≤ S2x16x1024.size a) ∧
  (∀ a, (k0_off67 v1280) a + S1x8x128.size a ≤ S2x16x1024.size a) ∧
  (∀ a, (k0_off69 v1280) a + S1x8x128.size a ≤ S2x16x1024.size a) ∧
  (∀ a, (k0_off70 v1280) a + S1x8x128.size a ≤ S2x16x1024.size a) ∧
  (∀ a, (k0_off72 v1280) a + S1x8x128.size a ≤ S2x16x1024.size a) ∧
  (∀ a, (k0_off73 v1280) a + S1x8x128.size a ≤ S2x16x1024.size a) ∧
  (∀ a, (k0_off75 v1280) a + S1x8x128.size a ≤ S2x16x1024.size a) ∧
  (∀ a, (k0_off76 v1280) a + S1x8x128.size a ≤ S2x16x1024.size a) ∧
  (∀ a, (k0_off78 v1280) a + S1x8x128.size a ≤ S2x16x1024.size a) ∧
  (∀ a, (k0_off79 v1280) a + S1x8x128.size a ≤ S2x16x1024.size a) ∧
  (∀ a, (k0_off81 v1280) a + S1x8x128.size a ≤ S2x16x1024.size a) ∧
  (∀ a, (k0_off82 v1280) a + S1x8x128.size a ≤ S2x16x1024.size a)
theorem k0_off58_inb : ∀ (v1280 : BitVec 32) (k0_hw3 : k0_chk3 v1280), ∀ a, (k0_off58 v1280) a + S1x8x128.size a ≤ S2x16x1024.size a := fun v1280 k0_hw3 => k0_hw3.1
theorem k0_off60_inb : ∀ (v1280 : BitVec 32) (k0_hw3 : k0_chk3 v1280), ∀ a, (k0_off60 v1280) a + S1x8x128.size a ≤ S2x16x1024.size a := fun v1280 k0_hw3 => k0_hw3.2.1
theorem k0_off63_inb : ∀ (v1280 : BitVec 32) (k0_hw3 : k0_chk3 v1280), ∀ a, (k0_off63 v1280) a + S1x8x128.size a ≤ S2x16x1024.size a := fun v1280 k0_hw3 => k0_hw3.2.2.1
theorem k0_off64_inb : ∀ (v1280 : BitVec 32) (k0_hw3 : k0_chk3 v1280), ∀ a, (k0_off64 v1280) a + S1x8x128.size a ≤ S2x16x1024.size a := fun v1280 k0_hw3 => k0_hw3.2.2.2.1
theorem k0_off66_inb : ∀ (v1280 : BitVec 32) (k0_hw3 : k0_chk3 v1280), ∀ a, (k0_off66 v1280) a + S1x8x128.size a ≤ S2x16x1024.size a := fun v1280 k0_hw3 => k0_hw3.2.2.2.2.1
theorem k0_off67_inb : ∀ (v1280 : BitVec 32) (k0_hw3 : k0_chk3 v1280), ∀ a, (k0_off67 v1280) a + S1x8x128.size a ≤ S2x16x1024.size a := fun v1280 k0_hw3 => k0_hw3.2.2.2.2.2.1
theorem k0_off69_inb : ∀ (v1280 : BitVec 32) (k0_hw3 : k0_chk3 v1280), ∀ a, (k0_off69 v1280) a + S1x8x128.size a ≤ S2x16x1024.size a := fun v1280 k0_hw3 => k0_hw3.2.2.2.2.2.2.1
theorem k0_off70_inb : ∀ (v1280 : BitVec 32) (k0_hw3 : k0_chk3 v1280), ∀ a, (k0_off70 v1280) a + S1x8x128.size a ≤ S2x16x1024.size a := fun v1280 k0_hw3 => k0_hw3.2.2.2.2.2.2.2.1
theorem k0_off72_inb : ∀ (v1280 : BitVec 32) (k0_hw3 : k0_chk3 v1280), ∀ a, (k0_off72 v1280) a + S1x8x128.size a ≤ S2x16x1024.size a := fun v1280 k0_hw3 => k0_hw3.2.2.2.2.2.2.2.2.1
theorem k0_off73_inb : ∀ (v1280 : BitVec 32) (k0_hw3 : k0_chk3 v1280), ∀ a, (k0_off73 v1280) a + S1x8x128.size a ≤ S2x16x1024.size a := fun v1280 k0_hw3 => k0_hw3.2.2.2.2.2.2.2.2.2.1
theorem k0_off75_inb : ∀ (v1280 : BitVec 32) (k0_hw3 : k0_chk3 v1280), ∀ a, (k0_off75 v1280) a + S1x8x128.size a ≤ S2x16x1024.size a := fun v1280 k0_hw3 => k0_hw3.2.2.2.2.2.2.2.2.2.2.1
theorem k0_off76_inb : ∀ (v1280 : BitVec 32) (k0_hw3 : k0_chk3 v1280), ∀ a, (k0_off76 v1280) a + S1x8x128.size a ≤ S2x16x1024.size a := fun v1280 k0_hw3 => k0_hw3.2.2.2.2.2.2.2.2.2.2.2.1
theorem k0_off78_inb : ∀ (v1280 : BitVec 32) (k0_hw3 : k0_chk3 v1280), ∀ a, (k0_off78 v1280) a + S1x8x128.size a ≤ S2x16x1024.size a := fun v1280 k0_hw3 => k0_hw3.2.2.2.2.2.2.2.2.2.2.2.2.1
theorem k0_off79_inb : ∀ (v1280 : BitVec 32) (k0_hw3 : k0_chk3 v1280), ∀ a, (k0_off79 v1280) a + S1x8x128.size a ≤ S2x16x1024.size a := fun v1280 k0_hw3 => k0_hw3.2.2.2.2.2.2.2.2.2.2.2.2.2.1
theorem k0_off81_inb : ∀ (v1280 : BitVec 32) (k0_hw3 : k0_chk3 v1280), ∀ a, (k0_off81 v1280) a + S1x8x128.size a ≤ S2x16x1024.size a := fun v1280 k0_hw3 => k0_hw3.2.2.2.2.2.2.2.2.2.2.2.2.2.2.1
theorem k0_off82_inb : ∀ (v1280 : BitVec 32) (k0_hw3 : k0_chk3 v1280), ∀ a, (k0_off82 v1280) a + S1x8x128.size a ≤ S2x16x1024.size a := fun v1280 k0_hw3 => k0_hw3.2.2.2.2.2.2.2.2.2.2.2.2.2.2.2

def k0_off83 (i : grid0.Coords) (k0_t1 : Fin k0_t1_loop.trips) : Fin 2 → Nat :=
  let arg1 : BitVec 32 := BitVec.ofNat 32 (i 1).val
  let v1666 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c3_i32 : BitVec 32 := 3#32
  let v1665 : BitVec 32 := Scalar.addi v500 c3_i32
  let v1667 : Index := Scalar.indexCast v1665
  ![v1666.toNat, v1667.toNat]
def k0_off84 (k0_t1 : Fin k0_t1_loop.trips) : Fin 3 → Nat :=
  let c0_752 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c3_i32 : BitVec 32 := 3#32
  let v1665 : BitVec 32 := Scalar.addi v500 c3_i32
  let v1669 : Index := Scalar.indexCast v1665
  let c0_753 : Index := 0#32
  ![0, v1669.toNat, 0]
def k0_off85 (v1668 : BitVec 32) : Fin 3 → Nat :=
  let v1679 : Index := Scalar.indexCast v1668
  let c0_756 : Index := 0#32
  let c0_757 : Index := 0#32
  ![v1679.toNat, 0, 0]

def k0_off86 (i : grid0.Coords) (k0_t1 : Fin k0_t1_loop.trips) : Fin 4 → Nat :=
  let arg1 : BitVec 32 := BitVec.ofNat 32 (i 1).val
  let v1685 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c3_i32 : BitVec 32 := 3#32
  let v1665 : BitVec 32 := Scalar.addi v500 c3_i32
  let v1686 : Index := Scalar.indexCast v1665
  let c0_758 : Index := 0#32
  let c0_759 : Index := 0#32
  ![v1685.toNat, v1686.toNat, 0, 0]
def k0_off87 (v1668 : BitVec 32) : Fin 3 → Nat :=
  let v1696 : Index := Scalar.indexCast v1668
  let c8_762 : Index := 8#32
  let c0_763 : Index := 0#32
  ![v1696.toNat, 8, 0]
def k0_off88 (i : grid0.Coords) (k0_t1 : Fin k0_t1_loop.trips) : Fin 4 → Nat :=
  let arg1 : BitVec 32 := BitVec.ofNat 32 (i 1).val
  let v1702 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c3_i32 : BitVec 32 := 3#32
  let v1665 : BitVec 32 := Scalar.addi v500 c3_i32
  let v1703 : Index := Scalar.indexCast v1665
  let c8_764 : Index := 8#32
  let c0_765 : Index := 0#32
  ![v1702.toNat, v1703.toNat, 8, 0]
def k0_off89 (k0_t1 : Fin k0_t1_loop.trips) : Fin 3 → Nat :=
  let c1_771 : Index := 1#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c3_i32 : BitVec 32 := 3#32
  let v1665 : BitVec 32 := Scalar.addi v500 c3_i32
  let v1717 : Index := Scalar.indexCast v1665
  let c0_772 : Index := 0#32
  ![1, v1717.toNat, 0]
def k0_off90 (v1668 : BitVec 32) : Fin 3 → Nat :=
  let v1727 : Index := Scalar.indexCast v1668
  let c0_775 : Index := 0#32
  let c128_776 : Index := 128#32
  ![v1727.toNat, 0, 128]
def k0_off91 (v1668 : BitVec 32) : Fin 3 → Nat :=
  let v1744 : Index := Scalar.indexCast v1668
  let c8_781 : Index := 8#32
  let c128_782 : Index := 128#32
  ![v1744.toNat, 8, 128]
def k0_off92 (k0_t1 : Fin k0_t1_loop.trips) : Fin 3 → Nat :=
  let c2_790 : Index := 2#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c3_i32 : BitVec 32 := 3#32
  let v1665 : BitVec 32 := Scalar.addi v500 c3_i32
  let v1765 : Index := Scalar.indexCast v1665
  let c0_791 : Index := 0#32
  ![2, v1765.toNat, 0]
def k0_off93 (v1668 : BitVec 32) : Fin 3 → Nat :=
  let v1775 : Index := Scalar.indexCast v1668
  let c0_794 : Index := 0#32
  let c256_795 : Index := 256#32
  ![v1775.toNat, 0, 256]
def k0_off94 (v1668 : BitVec 32) : Fin 3 → Nat :=
  let v1792 : Index := Scalar.indexCast v1668
  let c8_800 : Index := 8#32
  let c256_801 : Index := 256#32
  ![v1792.toNat, 8, 256]
def k0_off95 (k0_t1 : Fin k0_t1_loop.trips) : Fin 3 → Nat :=
  let c3_809 : Index := 3#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c3_i32 : BitVec 32 := 3#32
  let v1665 : BitVec 32 := Scalar.addi v500 c3_i32
  let v1813 : Index := Scalar.indexCast v1665
  let c0_810 : Index := 0#32
  ![3, v1813.toNat, 0]
def k0_off96 (v1668 : BitVec 32) : Fin 3 → Nat :=
  let v1823 : Index := Scalar.indexCast v1668
  let c0_813 : Index := 0#32
  let c384_814 : Index := 384#32
  ![v1823.toNat, 0, 384]
def k0_off97 (v1668 : BitVec 32) : Fin 3 → Nat :=
  let v1840 : Index := Scalar.indexCast v1668
  let c8_819 : Index := 8#32
  let c384_820 : Index := 384#32
  ![v1840.toNat, 8, 384]
def k0_off98 (k0_t1 : Fin k0_t1_loop.trips) : Fin 3 → Nat :=
  let c4_828 : Index := 4#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c3_i32 : BitVec 32 := 3#32
  let v1665 : BitVec 32 := Scalar.addi v500 c3_i32
  let v1861 : Index := Scalar.indexCast v1665
  let c0_829 : Index := 0#32
  ![4, v1861.toNat, 0]
def k0_off99 (v1668 : BitVec 32) : Fin 3 → Nat :=
  let v1871 : Index := Scalar.indexCast v1668
  let c0_832 : Index := 0#32
  let c512_833 : Index := 512#32
  ![v1871.toNat, 0, 512]
def k0_off100 (v1668 : BitVec 32) : Fin 3 → Nat :=
  let v1888 : Index := Scalar.indexCast v1668
  let c8_838 : Index := 8#32
  let c512_839 : Index := 512#32
  ![v1888.toNat, 8, 512]
def k0_off101 (k0_t1 : Fin k0_t1_loop.trips) : Fin 3 → Nat :=
  let c5_847 : Index := 5#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c3_i32 : BitVec 32 := 3#32
  let v1665 : BitVec 32 := Scalar.addi v500 c3_i32
  let v1909 : Index := Scalar.indexCast v1665
  let c0_848 : Index := 0#32
  ![5, v1909.toNat, 0]
def k0_off102 (v1668 : BitVec 32) : Fin 3 → Nat :=
  let v1919 : Index := Scalar.indexCast v1668
  let c0_851 : Index := 0#32
  let c640_852 : Index := 640#32
  ![v1919.toNat, 0, 640]
def k0_off103 (v1668 : BitVec 32) : Fin 3 → Nat :=
  let v1936 : Index := Scalar.indexCast v1668
  let c8_857 : Index := 8#32
  let c640_858 : Index := 640#32
  ![v1936.toNat, 8, 640]
def k0_off104 (k0_t1 : Fin k0_t1_loop.trips) : Fin 3 → Nat :=
  let c6_866 : Index := 6#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c3_i32 : BitVec 32 := 3#32
  let v1665 : BitVec 32 := Scalar.addi v500 c3_i32
  let v1957 : Index := Scalar.indexCast v1665
  let c0_867 : Index := 0#32
  ![6, v1957.toNat, 0]
def k0_off105 (v1668 : BitVec 32) : Fin 3 → Nat :=
  let v1967 : Index := Scalar.indexCast v1668
  let c0_870 : Index := 0#32
  let c768_871 : Index := 768#32
  ![v1967.toNat, 0, 768]
def k0_off106 (v1668 : BitVec 32) : Fin 3 → Nat :=
  let v1984 : Index := Scalar.indexCast v1668
  let c8_876 : Index := 8#32
  let c768_877 : Index := 768#32
  ![v1984.toNat, 8, 768]
def k0_off107 (k0_t1 : Fin k0_t1_loop.trips) : Fin 3 → Nat :=
  let c7_885 : Index := 7#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c3_i32 : BitVec 32 := 3#32
  let v1665 : BitVec 32 := Scalar.addi v500 c3_i32
  let v2005 : Index := Scalar.indexCast v1665
  let c0_886 : Index := 0#32
  ![7, v2005.toNat, 0]
def k0_off108 (v1668 : BitVec 32) : Fin 3 → Nat :=
  let v2015 : Index := Scalar.indexCast v1668
  let c0_889 : Index := 0#32
  let c896_890 : Index := 896#32
  ![v2015.toNat, 0, 896]
def k0_off109 (v1668 : BitVec 32) : Fin 3 → Nat :=
  let v2032 : Index := Scalar.indexCast v1668
  let c8_895 : Index := 8#32
  let c896_896 : Index := 896#32
  ![v2032.toNat, 8, 896]

def k0_chk4 (v1668 : BitVec 32) : Prop :=
  (∀ a, (k0_off85 v1668) a + S1x8x128.size a ≤ S2x16x1024.size a) ∧
  (∀ a, (k0_off87 v1668) a + S1x8x128.size a ≤ S2x16x1024.size a) ∧
  (∀ a, (k0_off90 v1668) a + S1x8x128.size a ≤ S2x16x1024.size a) ∧
  (∀ a, (k0_off91 v1668) a + S1x8x128.size a ≤ S2x16x1024.size a) ∧
  (∀ a, (k0_off93 v1668) a + S1x8x128.size a ≤ S2x16x1024.size a) ∧
  (∀ a, (k0_off94 v1668) a + S1x8x128.size a ≤ S2x16x1024.size a) ∧
  (∀ a, (k0_off96 v1668) a + S1x8x128.size a ≤ S2x16x1024.size a) ∧
  (∀ a, (k0_off97 v1668) a + S1x8x128.size a ≤ S2x16x1024.size a) ∧
  (∀ a, (k0_off99 v1668) a + S1x8x128.size a ≤ S2x16x1024.size a) ∧
  (∀ a, (k0_off100 v1668) a + S1x8x128.size a ≤ S2x16x1024.size a) ∧
  (∀ a, (k0_off102 v1668) a + S1x8x128.size a ≤ S2x16x1024.size a) ∧
  (∀ a, (k0_off103 v1668) a + S1x8x128.size a ≤ S2x16x1024.size a) ∧
  (∀ a, (k0_off105 v1668) a + S1x8x128.size a ≤ S2x16x1024.size a) ∧
  (∀ a, (k0_off106 v1668) a + S1x8x128.size a ≤ S2x16x1024.size a) ∧
  (∀ a, (k0_off108 v1668) a + S1x8x128.size a ≤ S2x16x1024.size a) ∧
  (∀ a, (k0_off109 v1668) a + S1x8x128.size a ≤ S2x16x1024.size a)
theorem k0_off85_inb : ∀ (v1668 : BitVec 32) (k0_hw4 : k0_chk4 v1668), ∀ a, (k0_off85 v1668) a + S1x8x128.size a ≤ S2x16x1024.size a := fun v1668 k0_hw4 => k0_hw4.1
theorem k0_off87_inb : ∀ (v1668 : BitVec 32) (k0_hw4 : k0_chk4 v1668), ∀ a, (k0_off87 v1668) a + S1x8x128.size a ≤ S2x16x1024.size a := fun v1668 k0_hw4 => k0_hw4.2.1
theorem k0_off90_inb : ∀ (v1668 : BitVec 32) (k0_hw4 : k0_chk4 v1668), ∀ a, (k0_off90 v1668) a + S1x8x128.size a ≤ S2x16x1024.size a := fun v1668 k0_hw4 => k0_hw4.2.2.1
theorem k0_off91_inb : ∀ (v1668 : BitVec 32) (k0_hw4 : k0_chk4 v1668), ∀ a, (k0_off91 v1668) a + S1x8x128.size a ≤ S2x16x1024.size a := fun v1668 k0_hw4 => k0_hw4.2.2.2.1
theorem k0_off93_inb : ∀ (v1668 : BitVec 32) (k0_hw4 : k0_chk4 v1668), ∀ a, (k0_off93 v1668) a + S1x8x128.size a ≤ S2x16x1024.size a := fun v1668 k0_hw4 => k0_hw4.2.2.2.2.1
theorem k0_off94_inb : ∀ (v1668 : BitVec 32) (k0_hw4 : k0_chk4 v1668), ∀ a, (k0_off94 v1668) a + S1x8x128.size a ≤ S2x16x1024.size a := fun v1668 k0_hw4 => k0_hw4.2.2.2.2.2.1
theorem k0_off96_inb : ∀ (v1668 : BitVec 32) (k0_hw4 : k0_chk4 v1668), ∀ a, (k0_off96 v1668) a + S1x8x128.size a ≤ S2x16x1024.size a := fun v1668 k0_hw4 => k0_hw4.2.2.2.2.2.2.1
theorem k0_off97_inb : ∀ (v1668 : BitVec 32) (k0_hw4 : k0_chk4 v1668), ∀ a, (k0_off97 v1668) a + S1x8x128.size a ≤ S2x16x1024.size a := fun v1668 k0_hw4 => k0_hw4.2.2.2.2.2.2.2.1
theorem k0_off99_inb : ∀ (v1668 : BitVec 32) (k0_hw4 : k0_chk4 v1668), ∀ a, (k0_off99 v1668) a + S1x8x128.size a ≤ S2x16x1024.size a := fun v1668 k0_hw4 => k0_hw4.2.2.2.2.2.2.2.2.1
theorem k0_off100_inb : ∀ (v1668 : BitVec 32) (k0_hw4 : k0_chk4 v1668), ∀ a, (k0_off100 v1668) a + S1x8x128.size a ≤ S2x16x1024.size a := fun v1668 k0_hw4 => k0_hw4.2.2.2.2.2.2.2.2.2.1
theorem k0_off102_inb : ∀ (v1668 : BitVec 32) (k0_hw4 : k0_chk4 v1668), ∀ a, (k0_off102 v1668) a + S1x8x128.size a ≤ S2x16x1024.size a := fun v1668 k0_hw4 => k0_hw4.2.2.2.2.2.2.2.2.2.2.1
theorem k0_off103_inb : ∀ (v1668 : BitVec 32) (k0_hw4 : k0_chk4 v1668), ∀ a, (k0_off103 v1668) a + S1x8x128.size a ≤ S2x16x1024.size a := fun v1668 k0_hw4 => k0_hw4.2.2.2.2.2.2.2.2.2.2.2.1
theorem k0_off105_inb : ∀ (v1668 : BitVec 32) (k0_hw4 : k0_chk4 v1668), ∀ a, (k0_off105 v1668) a + S1x8x128.size a ≤ S2x16x1024.size a := fun v1668 k0_hw4 => k0_hw4.2.2.2.2.2.2.2.2.2.2.2.2.1
theorem k0_off106_inb : ∀ (v1668 : BitVec 32) (k0_hw4 : k0_chk4 v1668), ∀ a, (k0_off106 v1668) a + S1x8x128.size a ≤ S2x16x1024.size a := fun v1668 k0_hw4 => k0_hw4.2.2.2.2.2.2.2.2.2.2.2.2.2.1
theorem k0_off108_inb : ∀ (v1668 : BitVec 32) (k0_hw4 : k0_chk4 v1668), ∀ a, (k0_off108 v1668) a + S1x8x128.size a ≤ S2x16x1024.size a := fun v1668 k0_hw4 => k0_hw4.2.2.2.2.2.2.2.2.2.2.2.2.2.2.1
theorem k0_off109_inb : ∀ (v1668 : BitVec 32) (k0_hw4 : k0_chk4 v1668), ∀ a, (k0_off109 v1668) a + S1x8x128.size a ≤ S2x16x1024.size a := fun v1668 k0_hw4 => k0_hw4.2.2.2.2.2.2.2.2.2.2.2.2.2.2.2

def k0_off110 (i : grid0.Coords) (k0_t1 : Fin k0_t1_loop.trips) : Fin 2 → Nat :=
  let arg1 : BitVec 32 := BitVec.ofNat 32 (i 1).val
  let v2054 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c4_i32 : BitVec 32 := 4#32
  let v2053 : BitVec 32 := Scalar.addi v500 c4_i32
  let v2055 : Index := Scalar.indexCast v2053
  ![v2054.toNat, v2055.toNat]
def k0_off111 (k0_t1 : Fin k0_t1_loop.trips) : Fin 3 → Nat :=
  let c0_904 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c4_i32 : BitVec 32 := 4#32
  let v2053 : BitVec 32 := Scalar.addi v500 c4_i32
  let v2057 : Index := Scalar.indexCast v2053
  let c0_905 : Index := 0#32
  ![0, v2057.toNat, 0]
def k0_off112 (v2056 : BitVec 32) : Fin 3 → Nat :=
  let v2067 : Index := Scalar.indexCast v2056
  let c0_908 : Index := 0#32
  let c0_909 : Index := 0#32
  ![v2067.toNat, 0, 0]

def k0_off113 (i : grid0.Coords) (k0_t1 : Fin k0_t1_loop.trips) : Fin 4 → Nat :=
  let arg1 : BitVec 32 := BitVec.ofNat 32 (i 1).val
  let v2073 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c4_i32 : BitVec 32 := 4#32
  let v2053 : BitVec 32 := Scalar.addi v500 c4_i32
  let v2074 : Index := Scalar.indexCast v2053
  let c0_910 : Index := 0#32
  let c0_911 : Index := 0#32
  ![v2073.toNat, v2074.toNat, 0, 0]
def k0_off114 (v2056 : BitVec 32) : Fin 3 → Nat :=
  let v2084 : Index := Scalar.indexCast v2056
  let c8_914 : Index := 8#32
  let c0_915 : Index := 0#32
  ![v2084.toNat, 8, 0]
def k0_off115 (i : grid0.Coords) (k0_t1 : Fin k0_t1_loop.trips) : Fin 4 → Nat :=
  let arg1 : BitVec 32 := BitVec.ofNat 32 (i 1).val
  let v2090 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c4_i32 : BitVec 32 := 4#32
  let v2053 : BitVec 32 := Scalar.addi v500 c4_i32
  let v2091 : Index := Scalar.indexCast v2053
  let c8_916 : Index := 8#32
  let c0_917 : Index := 0#32
  ![v2090.toNat, v2091.toNat, 8, 0]
def k0_off116 (k0_t1 : Fin k0_t1_loop.trips) : Fin 3 → Nat :=
  let c1_923 : Index := 1#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c4_i32 : BitVec 32 := 4#32
  let v2053 : BitVec 32 := Scalar.addi v500 c4_i32
  let v2105 : Index := Scalar.indexCast v2053
  let c0_924 : Index := 0#32
  ![1, v2105.toNat, 0]
def k0_off117 (v2056 : BitVec 32) : Fin 3 → Nat :=
  let v2115 : Index := Scalar.indexCast v2056
  let c0_927 : Index := 0#32
  let c128_928 : Index := 128#32
  ![v2115.toNat, 0, 128]
def k0_off118 (v2056 : BitVec 32) : Fin 3 → Nat :=
  let v2132 : Index := Scalar.indexCast v2056
  let c8_933 : Index := 8#32
  let c128_934 : Index := 128#32
  ![v2132.toNat, 8, 128]
def k0_off119 (k0_t1 : Fin k0_t1_loop.trips) : Fin 3 → Nat :=
  let c2_942 : Index := 2#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c4_i32 : BitVec 32 := 4#32
  let v2053 : BitVec 32 := Scalar.addi v500 c4_i32
  let v2153 : Index := Scalar.indexCast v2053
  let c0_943 : Index := 0#32
  ![2, v2153.toNat, 0]
def k0_off120 (v2056 : BitVec 32) : Fin 3 → Nat :=
  let v2163 : Index := Scalar.indexCast v2056
  let c0_946 : Index := 0#32
  let c256_947 : Index := 256#32
  ![v2163.toNat, 0, 256]
def k0_off121 (v2056 : BitVec 32) : Fin 3 → Nat :=
  let v2180 : Index := Scalar.indexCast v2056
  let c8_952 : Index := 8#32
  let c256_953 : Index := 256#32
  ![v2180.toNat, 8, 256]
def k0_off122 (k0_t1 : Fin k0_t1_loop.trips) : Fin 3 → Nat :=
  let c3_961 : Index := 3#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c4_i32 : BitVec 32 := 4#32
  let v2053 : BitVec 32 := Scalar.addi v500 c4_i32
  let v2201 : Index := Scalar.indexCast v2053
  let c0_962 : Index := 0#32
  ![3, v2201.toNat, 0]
def k0_off123 (v2056 : BitVec 32) : Fin 3 → Nat :=
  let v2211 : Index := Scalar.indexCast v2056
  let c0_965 : Index := 0#32
  let c384_966 : Index := 384#32
  ![v2211.toNat, 0, 384]
def k0_off124 (v2056 : BitVec 32) : Fin 3 → Nat :=
  let v2228 : Index := Scalar.indexCast v2056
  let c8_971 : Index := 8#32
  let c384_972 : Index := 384#32
  ![v2228.toNat, 8, 384]
def k0_off125 (k0_t1 : Fin k0_t1_loop.trips) : Fin 3 → Nat :=
  let c4_980 : Index := 4#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c4_i32 : BitVec 32 := 4#32
  let v2053 : BitVec 32 := Scalar.addi v500 c4_i32
  let v2249 : Index := Scalar.indexCast v2053
  let c0_981 : Index := 0#32
  ![4, v2249.toNat, 0]
def k0_off126 (v2056 : BitVec 32) : Fin 3 → Nat :=
  let v2259 : Index := Scalar.indexCast v2056
  let c0_984 : Index := 0#32
  let c512_985 : Index := 512#32
  ![v2259.toNat, 0, 512]
def k0_off127 (v2056 : BitVec 32) : Fin 3 → Nat :=
  let v2276 : Index := Scalar.indexCast v2056
  let c8_990 : Index := 8#32
  let c512_991 : Index := 512#32
  ![v2276.toNat, 8, 512]
def k0_off128 (k0_t1 : Fin k0_t1_loop.trips) : Fin 3 → Nat :=
  let c5_999 : Index := 5#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c4_i32 : BitVec 32 := 4#32
  let v2053 : BitVec 32 := Scalar.addi v500 c4_i32
  let v2297 : Index := Scalar.indexCast v2053
  let c0_1000 : Index := 0#32
  ![5, v2297.toNat, 0]
def k0_off129 (v2056 : BitVec 32) : Fin 3 → Nat :=
  let v2307 : Index := Scalar.indexCast v2056
  let c0_1003 : Index := 0#32
  let c640_1004 : Index := 640#32
  ![v2307.toNat, 0, 640]
def k0_off130 (v2056 : BitVec 32) : Fin 3 → Nat :=
  let v2324 : Index := Scalar.indexCast v2056
  let c8_1009 : Index := 8#32
  let c640_1010 : Index := 640#32
  ![v2324.toNat, 8, 640]
def k0_off131 (k0_t1 : Fin k0_t1_loop.trips) : Fin 3 → Nat :=
  let c6_1018 : Index := 6#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c4_i32 : BitVec 32 := 4#32
  let v2053 : BitVec 32 := Scalar.addi v500 c4_i32
  let v2345 : Index := Scalar.indexCast v2053
  let c0_1019 : Index := 0#32
  ![6, v2345.toNat, 0]
def k0_off132 (v2056 : BitVec 32) : Fin 3 → Nat :=
  let v2355 : Index := Scalar.indexCast v2056
  let c0_1022 : Index := 0#32
  let c768_1023 : Index := 768#32
  ![v2355.toNat, 0, 768]
def k0_off133 (v2056 : BitVec 32) : Fin 3 → Nat :=
  let v2372 : Index := Scalar.indexCast v2056
  let c8_1028 : Index := 8#32
  let c768_1029 : Index := 768#32
  ![v2372.toNat, 8, 768]
def k0_off134 (k0_t1 : Fin k0_t1_loop.trips) : Fin 3 → Nat :=
  let c7_1037 : Index := 7#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c4_i32 : BitVec 32 := 4#32
  let v2053 : BitVec 32 := Scalar.addi v500 c4_i32
  let v2393 : Index := Scalar.indexCast v2053
  let c0_1038 : Index := 0#32
  ![7, v2393.toNat, 0]
def k0_off135 (v2056 : BitVec 32) : Fin 3 → Nat :=
  let v2403 : Index := Scalar.indexCast v2056
  let c0_1041 : Index := 0#32
  let c896_1042 : Index := 896#32
  ![v2403.toNat, 0, 896]
def k0_off136 (v2056 : BitVec 32) : Fin 3 → Nat :=
  let v2420 : Index := Scalar.indexCast v2056
  let c8_1047 : Index := 8#32
  let c896_1048 : Index := 896#32
  ![v2420.toNat, 8, 896]

def k0_chk5 (v2056 : BitVec 32) : Prop :=
  (∀ a, (k0_off112 v2056) a + S1x8x128.size a ≤ S2x16x1024.size a) ∧
  (∀ a, (k0_off114 v2056) a + S1x8x128.size a ≤ S2x16x1024.size a) ∧
  (∀ a, (k0_off117 v2056) a + S1x8x128.size a ≤ S2x16x1024.size a) ∧
  (∀ a, (k0_off118 v2056) a + S1x8x128.size a ≤ S2x16x1024.size a) ∧
  (∀ a, (k0_off120 v2056) a + S1x8x128.size a ≤ S2x16x1024.size a) ∧
  (∀ a, (k0_off121 v2056) a + S1x8x128.size a ≤ S2x16x1024.size a) ∧
  (∀ a, (k0_off123 v2056) a + S1x8x128.size a ≤ S2x16x1024.size a) ∧
  (∀ a, (k0_off124 v2056) a + S1x8x128.size a ≤ S2x16x1024.size a) ∧
  (∀ a, (k0_off126 v2056) a + S1x8x128.size a ≤ S2x16x1024.size a) ∧
  (∀ a, (k0_off127 v2056) a + S1x8x128.size a ≤ S2x16x1024.size a) ∧
  (∀ a, (k0_off129 v2056) a + S1x8x128.size a ≤ S2x16x1024.size a) ∧
  (∀ a, (k0_off130 v2056) a + S1x8x128.size a ≤ S2x16x1024.size a) ∧
  (∀ a, (k0_off132 v2056) a + S1x8x128.size a ≤ S2x16x1024.size a) ∧
  (∀ a, (k0_off133 v2056) a + S1x8x128.size a ≤ S2x16x1024.size a) ∧
  (∀ a, (k0_off135 v2056) a + S1x8x128.size a ≤ S2x16x1024.size a) ∧
  (∀ a, (k0_off136 v2056) a + S1x8x128.size a ≤ S2x16x1024.size a)
theorem k0_off112_inb : ∀ (v2056 : BitVec 32) (k0_hw5 : k0_chk5 v2056), ∀ a, (k0_off112 v2056) a + S1x8x128.size a ≤ S2x16x1024.size a := fun v2056 k0_hw5 => k0_hw5.1
theorem k0_off114_inb : ∀ (v2056 : BitVec 32) (k0_hw5 : k0_chk5 v2056), ∀ a, (k0_off114 v2056) a + S1x8x128.size a ≤ S2x16x1024.size a := fun v2056 k0_hw5 => k0_hw5.2.1
theorem k0_off117_inb : ∀ (v2056 : BitVec 32) (k0_hw5 : k0_chk5 v2056), ∀ a, (k0_off117 v2056) a + S1x8x128.size a ≤ S2x16x1024.size a := fun v2056 k0_hw5 => k0_hw5.2.2.1
theorem k0_off118_inb : ∀ (v2056 : BitVec 32) (k0_hw5 : k0_chk5 v2056), ∀ a, (k0_off118 v2056) a + S1x8x128.size a ≤ S2x16x1024.size a := fun v2056 k0_hw5 => k0_hw5.2.2.2.1
theorem k0_off120_inb : ∀ (v2056 : BitVec 32) (k0_hw5 : k0_chk5 v2056), ∀ a, (k0_off120 v2056) a + S1x8x128.size a ≤ S2x16x1024.size a := fun v2056 k0_hw5 => k0_hw5.2.2.2.2.1
theorem k0_off121_inb : ∀ (v2056 : BitVec 32) (k0_hw5 : k0_chk5 v2056), ∀ a, (k0_off121 v2056) a + S1x8x128.size a ≤ S2x16x1024.size a := fun v2056 k0_hw5 => k0_hw5.2.2.2.2.2.1
theorem k0_off123_inb : ∀ (v2056 : BitVec 32) (k0_hw5 : k0_chk5 v2056), ∀ a, (k0_off123 v2056) a + S1x8x128.size a ≤ S2x16x1024.size a := fun v2056 k0_hw5 => k0_hw5.2.2.2.2.2.2.1
theorem k0_off124_inb : ∀ (v2056 : BitVec 32) (k0_hw5 : k0_chk5 v2056), ∀ a, (k0_off124 v2056) a + S1x8x128.size a ≤ S2x16x1024.size a := fun v2056 k0_hw5 => k0_hw5.2.2.2.2.2.2.2.1
theorem k0_off126_inb : ∀ (v2056 : BitVec 32) (k0_hw5 : k0_chk5 v2056), ∀ a, (k0_off126 v2056) a + S1x8x128.size a ≤ S2x16x1024.size a := fun v2056 k0_hw5 => k0_hw5.2.2.2.2.2.2.2.2.1
theorem k0_off127_inb : ∀ (v2056 : BitVec 32) (k0_hw5 : k0_chk5 v2056), ∀ a, (k0_off127 v2056) a + S1x8x128.size a ≤ S2x16x1024.size a := fun v2056 k0_hw5 => k0_hw5.2.2.2.2.2.2.2.2.2.1
theorem k0_off129_inb : ∀ (v2056 : BitVec 32) (k0_hw5 : k0_chk5 v2056), ∀ a, (k0_off129 v2056) a + S1x8x128.size a ≤ S2x16x1024.size a := fun v2056 k0_hw5 => k0_hw5.2.2.2.2.2.2.2.2.2.2.1
theorem k0_off130_inb : ∀ (v2056 : BitVec 32) (k0_hw5 : k0_chk5 v2056), ∀ a, (k0_off130 v2056) a + S1x8x128.size a ≤ S2x16x1024.size a := fun v2056 k0_hw5 => k0_hw5.2.2.2.2.2.2.2.2.2.2.2.1
theorem k0_off132_inb : ∀ (v2056 : BitVec 32) (k0_hw5 : k0_chk5 v2056), ∀ a, (k0_off132 v2056) a + S1x8x128.size a ≤ S2x16x1024.size a := fun v2056 k0_hw5 => k0_hw5.2.2.2.2.2.2.2.2.2.2.2.2.1
theorem k0_off133_inb : ∀ (v2056 : BitVec 32) (k0_hw5 : k0_chk5 v2056), ∀ a, (k0_off133 v2056) a + S1x8x128.size a ≤ S2x16x1024.size a := fun v2056 k0_hw5 => k0_hw5.2.2.2.2.2.2.2.2.2.2.2.2.2.1
theorem k0_off135_inb : ∀ (v2056 : BitVec 32) (k0_hw5 : k0_chk5 v2056), ∀ a, (k0_off135 v2056) a + S1x8x128.size a ≤ S2x16x1024.size a := fun v2056 k0_hw5 => k0_hw5.2.2.2.2.2.2.2.2.2.2.2.2.2.2.1
theorem k0_off136_inb : ∀ (v2056 : BitVec 32) (k0_hw5 : k0_chk5 v2056), ∀ a, (k0_off136 v2056) a + S1x8x128.size a ≤ S2x16x1024.size a := fun v2056 k0_hw5 => k0_hw5.2.2.2.2.2.2.2.2.2.2.2.2.2.2.2

def k0_off137 (i : grid0.Coords) (k0_t1 : Fin k0_t1_loop.trips) : Fin 2 → Nat :=
  let arg1 : BitVec 32 := BitVec.ofNat 32 (i 1).val
  let v2442 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c5_i32 : BitVec 32 := 5#32
  let v2441 : BitVec 32 := Scalar.addi v500 c5_i32
  let v2443 : Index := Scalar.indexCast v2441
  ![v2442.toNat, v2443.toNat]
def k0_off138 (k0_t1 : Fin k0_t1_loop.trips) : Fin 3 → Nat :=
  let c0_1056 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c5_i32 : BitVec 32 := 5#32
  let v2441 : BitVec 32 := Scalar.addi v500 c5_i32
  let v2445 : Index := Scalar.indexCast v2441
  let c0_1057 : Index := 0#32
  ![0, v2445.toNat, 0]
def k0_off139 (v2444 : BitVec 32) : Fin 3 → Nat :=
  let v2455 : Index := Scalar.indexCast v2444
  let c0_1060 : Index := 0#32
  let c0_1061 : Index := 0#32
  ![v2455.toNat, 0, 0]

def k0_off140 (i : grid0.Coords) (k0_t1 : Fin k0_t1_loop.trips) : Fin 4 → Nat :=
  let arg1 : BitVec 32 := BitVec.ofNat 32 (i 1).val
  let v2461 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c5_i32 : BitVec 32 := 5#32
  let v2441 : BitVec 32 := Scalar.addi v500 c5_i32
  let v2462 : Index := Scalar.indexCast v2441
  let c0_1062 : Index := 0#32
  let c0_1063 : Index := 0#32
  ![v2461.toNat, v2462.toNat, 0, 0]
def k0_off141 (v2444 : BitVec 32) : Fin 3 → Nat :=
  let v2472 : Index := Scalar.indexCast v2444
  let c8_1066 : Index := 8#32
  let c0_1067 : Index := 0#32
  ![v2472.toNat, 8, 0]
def k0_off142 (i : grid0.Coords) (k0_t1 : Fin k0_t1_loop.trips) : Fin 4 → Nat :=
  let arg1 : BitVec 32 := BitVec.ofNat 32 (i 1).val
  let v2478 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c5_i32 : BitVec 32 := 5#32
  let v2441 : BitVec 32 := Scalar.addi v500 c5_i32
  let v2479 : Index := Scalar.indexCast v2441
  let c8_1068 : Index := 8#32
  let c0_1069 : Index := 0#32
  ![v2478.toNat, v2479.toNat, 8, 0]
def k0_off143 (k0_t1 : Fin k0_t1_loop.trips) : Fin 3 → Nat :=
  let c1_1075 : Index := 1#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c5_i32 : BitVec 32 := 5#32
  let v2441 : BitVec 32 := Scalar.addi v500 c5_i32
  let v2493 : Index := Scalar.indexCast v2441
  let c0_1076 : Index := 0#32
  ![1, v2493.toNat, 0]
def k0_off144 (v2444 : BitVec 32) : Fin 3 → Nat :=
  let v2503 : Index := Scalar.indexCast v2444
  let c0_1079 : Index := 0#32
  let c128_1080 : Index := 128#32
  ![v2503.toNat, 0, 128]
def k0_off145 (v2444 : BitVec 32) : Fin 3 → Nat :=
  let v2520 : Index := Scalar.indexCast v2444
  let c8_1085 : Index := 8#32
  let c128_1086 : Index := 128#32
  ![v2520.toNat, 8, 128]
def k0_off146 (k0_t1 : Fin k0_t1_loop.trips) : Fin 3 → Nat :=
  let c2_1094 : Index := 2#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c5_i32 : BitVec 32 := 5#32
  let v2441 : BitVec 32 := Scalar.addi v500 c5_i32
  let v2541 : Index := Scalar.indexCast v2441
  let c0_1095 : Index := 0#32
  ![2, v2541.toNat, 0]
def k0_off147 (v2444 : BitVec 32) : Fin 3 → Nat :=
  let v2551 : Index := Scalar.indexCast v2444
  let c0_1098 : Index := 0#32
  let c256_1099 : Index := 256#32
  ![v2551.toNat, 0, 256]
def k0_off148 (v2444 : BitVec 32) : Fin 3 → Nat :=
  let v2568 : Index := Scalar.indexCast v2444
  let c8_1104 : Index := 8#32
  let c256_1105 : Index := 256#32
  ![v2568.toNat, 8, 256]
def k0_off149 (k0_t1 : Fin k0_t1_loop.trips) : Fin 3 → Nat :=
  let c3_1113 : Index := 3#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c5_i32 : BitVec 32 := 5#32
  let v2441 : BitVec 32 := Scalar.addi v500 c5_i32
  let v2589 : Index := Scalar.indexCast v2441
  let c0_1114 : Index := 0#32
  ![3, v2589.toNat, 0]
def k0_off150 (v2444 : BitVec 32) : Fin 3 → Nat :=
  let v2599 : Index := Scalar.indexCast v2444
  let c0_1117 : Index := 0#32
  let c384_1118 : Index := 384#32
  ![v2599.toNat, 0, 384]
def k0_off151 (v2444 : BitVec 32) : Fin 3 → Nat :=
  let v2616 : Index := Scalar.indexCast v2444
  let c8_1123 : Index := 8#32
  let c384_1124 : Index := 384#32
  ![v2616.toNat, 8, 384]
def k0_off152 (k0_t1 : Fin k0_t1_loop.trips) : Fin 3 → Nat :=
  let c4_1132 : Index := 4#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c5_i32 : BitVec 32 := 5#32
  let v2441 : BitVec 32 := Scalar.addi v500 c5_i32
  let v2637 : Index := Scalar.indexCast v2441
  let c0_1133 : Index := 0#32
  ![4, v2637.toNat, 0]
def k0_off153 (v2444 : BitVec 32) : Fin 3 → Nat :=
  let v2647 : Index := Scalar.indexCast v2444
  let c0_1136 : Index := 0#32
  let c512_1137 : Index := 512#32
  ![v2647.toNat, 0, 512]
def k0_off154 (v2444 : BitVec 32) : Fin 3 → Nat :=
  let v2664 : Index := Scalar.indexCast v2444
  let c8_1142 : Index := 8#32
  let c512_1143 : Index := 512#32
  ![v2664.toNat, 8, 512]
def k0_off155 (k0_t1 : Fin k0_t1_loop.trips) : Fin 3 → Nat :=
  let c5_1151 : Index := 5#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c5_i32 : BitVec 32 := 5#32
  let v2441 : BitVec 32 := Scalar.addi v500 c5_i32
  let v2685 : Index := Scalar.indexCast v2441
  let c0_1152 : Index := 0#32
  ![5, v2685.toNat, 0]
def k0_off156 (v2444 : BitVec 32) : Fin 3 → Nat :=
  let v2695 : Index := Scalar.indexCast v2444
  let c0_1155 : Index := 0#32
  let c640_1156 : Index := 640#32
  ![v2695.toNat, 0, 640]
def k0_off157 (v2444 : BitVec 32) : Fin 3 → Nat :=
  let v2712 : Index := Scalar.indexCast v2444
  let c8_1161 : Index := 8#32
  let c640_1162 : Index := 640#32
  ![v2712.toNat, 8, 640]
def k0_off158 (k0_t1 : Fin k0_t1_loop.trips) : Fin 3 → Nat :=
  let c6_1170 : Index := 6#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c5_i32 : BitVec 32 := 5#32
  let v2441 : BitVec 32 := Scalar.addi v500 c5_i32
  let v2733 : Index := Scalar.indexCast v2441
  let c0_1171 : Index := 0#32
  ![6, v2733.toNat, 0]
def k0_off159 (v2444 : BitVec 32) : Fin 3 → Nat :=
  let v2743 : Index := Scalar.indexCast v2444
  let c0_1174 : Index := 0#32
  let c768_1175 : Index := 768#32
  ![v2743.toNat, 0, 768]
def k0_off160 (v2444 : BitVec 32) : Fin 3 → Nat :=
  let v2760 : Index := Scalar.indexCast v2444
  let c8_1180 : Index := 8#32
  let c768_1181 : Index := 768#32
  ![v2760.toNat, 8, 768]
def k0_off161 (k0_t1 : Fin k0_t1_loop.trips) : Fin 3 → Nat :=
  let c7_1189 : Index := 7#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c5_i32 : BitVec 32 := 5#32
  let v2441 : BitVec 32 := Scalar.addi v500 c5_i32
  let v2781 : Index := Scalar.indexCast v2441
  let c0_1190 : Index := 0#32
  ![7, v2781.toNat, 0]
def k0_off162 (v2444 : BitVec 32) : Fin 3 → Nat :=
  let v2791 : Index := Scalar.indexCast v2444
  let c0_1193 : Index := 0#32
  let c896_1194 : Index := 896#32
  ![v2791.toNat, 0, 896]
def k0_off163 (v2444 : BitVec 32) : Fin 3 → Nat :=
  let v2808 : Index := Scalar.indexCast v2444
  let c8_1199 : Index := 8#32
  let c896_1200 : Index := 896#32
  ![v2808.toNat, 8, 896]

def k0_chk6 (v2444 : BitVec 32) : Prop :=
  (∀ a, (k0_off139 v2444) a + S1x8x128.size a ≤ S2x16x1024.size a) ∧
  (∀ a, (k0_off141 v2444) a + S1x8x128.size a ≤ S2x16x1024.size a) ∧
  (∀ a, (k0_off144 v2444) a + S1x8x128.size a ≤ S2x16x1024.size a) ∧
  (∀ a, (k0_off145 v2444) a + S1x8x128.size a ≤ S2x16x1024.size a) ∧
  (∀ a, (k0_off147 v2444) a + S1x8x128.size a ≤ S2x16x1024.size a) ∧
  (∀ a, (k0_off148 v2444) a + S1x8x128.size a ≤ S2x16x1024.size a) ∧
  (∀ a, (k0_off150 v2444) a + S1x8x128.size a ≤ S2x16x1024.size a) ∧
  (∀ a, (k0_off151 v2444) a + S1x8x128.size a ≤ S2x16x1024.size a) ∧
  (∀ a, (k0_off153 v2444) a + S1x8x128.size a ≤ S2x16x1024.size a) ∧
  (∀ a, (k0_off154 v2444) a + S1x8x128.size a ≤ S2x16x1024.size a) ∧
  (∀ a, (k0_off156 v2444) a + S1x8x128.size a ≤ S2x16x1024.size a) ∧
  (∀ a, (k0_off157 v2444) a + S1x8x128.size a ≤ S2x16x1024.size a) ∧
  (∀ a, (k0_off159 v2444) a + S1x8x128.size a ≤ S2x16x1024.size a) ∧
  (∀ a, (k0_off160 v2444) a + S1x8x128.size a ≤ S2x16x1024.size a) ∧
  (∀ a, (k0_off162 v2444) a + S1x8x128.size a ≤ S2x16x1024.size a) ∧
  (∀ a, (k0_off163 v2444) a + S1x8x128.size a ≤ S2x16x1024.size a)
theorem k0_off139_inb : ∀ (v2444 : BitVec 32) (k0_hw6 : k0_chk6 v2444), ∀ a, (k0_off139 v2444) a + S1x8x128.size a ≤ S2x16x1024.size a := fun v2444 k0_hw6 => k0_hw6.1
theorem k0_off141_inb : ∀ (v2444 : BitVec 32) (k0_hw6 : k0_chk6 v2444), ∀ a, (k0_off141 v2444) a + S1x8x128.size a ≤ S2x16x1024.size a := fun v2444 k0_hw6 => k0_hw6.2.1
theorem k0_off144_inb : ∀ (v2444 : BitVec 32) (k0_hw6 : k0_chk6 v2444), ∀ a, (k0_off144 v2444) a + S1x8x128.size a ≤ S2x16x1024.size a := fun v2444 k0_hw6 => k0_hw6.2.2.1
theorem k0_off145_inb : ∀ (v2444 : BitVec 32) (k0_hw6 : k0_chk6 v2444), ∀ a, (k0_off145 v2444) a + S1x8x128.size a ≤ S2x16x1024.size a := fun v2444 k0_hw6 => k0_hw6.2.2.2.1
theorem k0_off147_inb : ∀ (v2444 : BitVec 32) (k0_hw6 : k0_chk6 v2444), ∀ a, (k0_off147 v2444) a + S1x8x128.size a ≤ S2x16x1024.size a := fun v2444 k0_hw6 => k0_hw6.2.2.2.2.1
theorem k0_off148_inb : ∀ (v2444 : BitVec 32) (k0_hw6 : k0_chk6 v2444), ∀ a, (k0_off148 v2444) a + S1x8x128.size a ≤ S2x16x1024.size a := fun v2444 k0_hw6 => k0_hw6.2.2.2.2.2.1
theorem k0_off150_inb : ∀ (v2444 : BitVec 32) (k0_hw6 : k0_chk6 v2444), ∀ a, (k0_off150 v2444) a + S1x8x128.size a ≤ S2x16x1024.size a := fun v2444 k0_hw6 => k0_hw6.2.2.2.2.2.2.1
theorem k0_off151_inb : ∀ (v2444 : BitVec 32) (k0_hw6 : k0_chk6 v2444), ∀ a, (k0_off151 v2444) a + S1x8x128.size a ≤ S2x16x1024.size a := fun v2444 k0_hw6 => k0_hw6.2.2.2.2.2.2.2.1
theorem k0_off153_inb : ∀ (v2444 : BitVec 32) (k0_hw6 : k0_chk6 v2444), ∀ a, (k0_off153 v2444) a + S1x8x128.size a ≤ S2x16x1024.size a := fun v2444 k0_hw6 => k0_hw6.2.2.2.2.2.2.2.2.1
theorem k0_off154_inb : ∀ (v2444 : BitVec 32) (k0_hw6 : k0_chk6 v2444), ∀ a, (k0_off154 v2444) a + S1x8x128.size a ≤ S2x16x1024.size a := fun v2444 k0_hw6 => k0_hw6.2.2.2.2.2.2.2.2.2.1
theorem k0_off156_inb : ∀ (v2444 : BitVec 32) (k0_hw6 : k0_chk6 v2444), ∀ a, (k0_off156 v2444) a + S1x8x128.size a ≤ S2x16x1024.size a := fun v2444 k0_hw6 => k0_hw6.2.2.2.2.2.2.2.2.2.2.1
theorem k0_off157_inb : ∀ (v2444 : BitVec 32) (k0_hw6 : k0_chk6 v2444), ∀ a, (k0_off157 v2444) a + S1x8x128.size a ≤ S2x16x1024.size a := fun v2444 k0_hw6 => k0_hw6.2.2.2.2.2.2.2.2.2.2.2.1
theorem k0_off159_inb : ∀ (v2444 : BitVec 32) (k0_hw6 : k0_chk6 v2444), ∀ a, (k0_off159 v2444) a + S1x8x128.size a ≤ S2x16x1024.size a := fun v2444 k0_hw6 => k0_hw6.2.2.2.2.2.2.2.2.2.2.2.2.1
theorem k0_off160_inb : ∀ (v2444 : BitVec 32) (k0_hw6 : k0_chk6 v2444), ∀ a, (k0_off160 v2444) a + S1x8x128.size a ≤ S2x16x1024.size a := fun v2444 k0_hw6 => k0_hw6.2.2.2.2.2.2.2.2.2.2.2.2.2.1
theorem k0_off162_inb : ∀ (v2444 : BitVec 32) (k0_hw6 : k0_chk6 v2444), ∀ a, (k0_off162 v2444) a + S1x8x128.size a ≤ S2x16x1024.size a := fun v2444 k0_hw6 => k0_hw6.2.2.2.2.2.2.2.2.2.2.2.2.2.2.1
theorem k0_off163_inb : ∀ (v2444 : BitVec 32) (k0_hw6 : k0_chk6 v2444), ∀ a, (k0_off163 v2444) a + S1x8x128.size a ≤ S2x16x1024.size a := fun v2444 k0_hw6 => k0_hw6.2.2.2.2.2.2.2.2.2.2.2.2.2.2.2

def k0_off164 (i : grid0.Coords) (k0_t1 : Fin k0_t1_loop.trips) : Fin 2 → Nat :=
  let arg1 : BitVec 32 := BitVec.ofNat 32 (i 1).val
  let v2830 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c6_i32 : BitVec 32 := 6#32
  let v2829 : BitVec 32 := Scalar.addi v500 c6_i32
  let v2831 : Index := Scalar.indexCast v2829
  ![v2830.toNat, v2831.toNat]
def k0_off165 (k0_t1 : Fin k0_t1_loop.trips) : Fin 3 → Nat :=
  let c0_1208 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c6_i32 : BitVec 32 := 6#32
  let v2829 : BitVec 32 := Scalar.addi v500 c6_i32
  let v2833 : Index := Scalar.indexCast v2829
  let c0_1209 : Index := 0#32
  ![0, v2833.toNat, 0]
def k0_off166 (v2832 : BitVec 32) : Fin 3 → Nat :=
  let v2843 : Index := Scalar.indexCast v2832
  let c0_1212 : Index := 0#32
  let c0_1213 : Index := 0#32
  ![v2843.toNat, 0, 0]

def k0_off167 (i : grid0.Coords) (k0_t1 : Fin k0_t1_loop.trips) : Fin 4 → Nat :=
  let arg1 : BitVec 32 := BitVec.ofNat 32 (i 1).val
  let v2849 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c6_i32 : BitVec 32 := 6#32
  let v2829 : BitVec 32 := Scalar.addi v500 c6_i32
  let v2850 : Index := Scalar.indexCast v2829
  let c0_1214 : Index := 0#32
  let c0_1215 : Index := 0#32
  ![v2849.toNat, v2850.toNat, 0, 0]
def k0_off168 (v2832 : BitVec 32) : Fin 3 → Nat :=
  let v2860 : Index := Scalar.indexCast v2832
  let c8_1218 : Index := 8#32
  let c0_1219 : Index := 0#32
  ![v2860.toNat, 8, 0]
def k0_off169 (i : grid0.Coords) (k0_t1 : Fin k0_t1_loop.trips) : Fin 4 → Nat :=
  let arg1 : BitVec 32 := BitVec.ofNat 32 (i 1).val
  let v2866 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c6_i32 : BitVec 32 := 6#32
  let v2829 : BitVec 32 := Scalar.addi v500 c6_i32
  let v2867 : Index := Scalar.indexCast v2829
  let c8_1220 : Index := 8#32
  let c0_1221 : Index := 0#32
  ![v2866.toNat, v2867.toNat, 8, 0]
def k0_off170 (k0_t1 : Fin k0_t1_loop.trips) : Fin 3 → Nat :=
  let c1_1227 : Index := 1#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c6_i32 : BitVec 32 := 6#32
  let v2829 : BitVec 32 := Scalar.addi v500 c6_i32
  let v2881 : Index := Scalar.indexCast v2829
  let c0_1228 : Index := 0#32
  ![1, v2881.toNat, 0]
def k0_off171 (v2832 : BitVec 32) : Fin 3 → Nat :=
  let v2891 : Index := Scalar.indexCast v2832
  let c0_1231 : Index := 0#32
  let c128_1232 : Index := 128#32
  ![v2891.toNat, 0, 128]
def k0_off172 (v2832 : BitVec 32) : Fin 3 → Nat :=
  let v2908 : Index := Scalar.indexCast v2832
  let c8_1237 : Index := 8#32
  let c128_1238 : Index := 128#32
  ![v2908.toNat, 8, 128]
def k0_off173 (k0_t1 : Fin k0_t1_loop.trips) : Fin 3 → Nat :=
  let c2_1246 : Index := 2#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c6_i32 : BitVec 32 := 6#32
  let v2829 : BitVec 32 := Scalar.addi v500 c6_i32
  let v2929 : Index := Scalar.indexCast v2829
  let c0_1247 : Index := 0#32
  ![2, v2929.toNat, 0]
def k0_off174 (v2832 : BitVec 32) : Fin 3 → Nat :=
  let v2939 : Index := Scalar.indexCast v2832
  let c0_1250 : Index := 0#32
  let c256_1251 : Index := 256#32
  ![v2939.toNat, 0, 256]
def k0_off175 (v2832 : BitVec 32) : Fin 3 → Nat :=
  let v2956 : Index := Scalar.indexCast v2832
  let c8_1256 : Index := 8#32
  let c256_1257 : Index := 256#32
  ![v2956.toNat, 8, 256]
def k0_off176 (k0_t1 : Fin k0_t1_loop.trips) : Fin 3 → Nat :=
  let c3_1265 : Index := 3#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c6_i32 : BitVec 32 := 6#32
  let v2829 : BitVec 32 := Scalar.addi v500 c6_i32
  let v2977 : Index := Scalar.indexCast v2829
  let c0_1266 : Index := 0#32
  ![3, v2977.toNat, 0]
def k0_off177 (v2832 : BitVec 32) : Fin 3 → Nat :=
  let v2987 : Index := Scalar.indexCast v2832
  let c0_1269 : Index := 0#32
  let c384_1270 : Index := 384#32
  ![v2987.toNat, 0, 384]
def k0_off178 (v2832 : BitVec 32) : Fin 3 → Nat :=
  let v3004 : Index := Scalar.indexCast v2832
  let c8_1275 : Index := 8#32
  let c384_1276 : Index := 384#32
  ![v3004.toNat, 8, 384]
def k0_off179 (k0_t1 : Fin k0_t1_loop.trips) : Fin 3 → Nat :=
  let c4_1284 : Index := 4#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c6_i32 : BitVec 32 := 6#32
  let v2829 : BitVec 32 := Scalar.addi v500 c6_i32
  let v3025 : Index := Scalar.indexCast v2829
  let c0_1285 : Index := 0#32
  ![4, v3025.toNat, 0]
def k0_off180 (v2832 : BitVec 32) : Fin 3 → Nat :=
  let v3035 : Index := Scalar.indexCast v2832
  let c0_1288 : Index := 0#32
  let c512_1289 : Index := 512#32
  ![v3035.toNat, 0, 512]
def k0_off181 (v2832 : BitVec 32) : Fin 3 → Nat :=
  let v3052 : Index := Scalar.indexCast v2832
  let c8_1294 : Index := 8#32
  let c512_1295 : Index := 512#32
  ![v3052.toNat, 8, 512]
def k0_off182 (k0_t1 : Fin k0_t1_loop.trips) : Fin 3 → Nat :=
  let c5_1303 : Index := 5#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c6_i32 : BitVec 32 := 6#32
  let v2829 : BitVec 32 := Scalar.addi v500 c6_i32
  let v3073 : Index := Scalar.indexCast v2829
  let c0_1304 : Index := 0#32
  ![5, v3073.toNat, 0]
def k0_off183 (v2832 : BitVec 32) : Fin 3 → Nat :=
  let v3083 : Index := Scalar.indexCast v2832
  let c0_1307 : Index := 0#32
  let c640_1308 : Index := 640#32
  ![v3083.toNat, 0, 640]
def k0_off184 (v2832 : BitVec 32) : Fin 3 → Nat :=
  let v3100 : Index := Scalar.indexCast v2832
  let c8_1313 : Index := 8#32
  let c640_1314 : Index := 640#32
  ![v3100.toNat, 8, 640]
def k0_off185 (k0_t1 : Fin k0_t1_loop.trips) : Fin 3 → Nat :=
  let c6_1322 : Index := 6#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c6_i32 : BitVec 32 := 6#32
  let v2829 : BitVec 32 := Scalar.addi v500 c6_i32
  let v3121 : Index := Scalar.indexCast v2829
  let c0_1323 : Index := 0#32
  ![6, v3121.toNat, 0]
def k0_off186 (v2832 : BitVec 32) : Fin 3 → Nat :=
  let v3131 : Index := Scalar.indexCast v2832
  let c0_1326 : Index := 0#32
  let c768_1327 : Index := 768#32
  ![v3131.toNat, 0, 768]
def k0_off187 (v2832 : BitVec 32) : Fin 3 → Nat :=
  let v3148 : Index := Scalar.indexCast v2832
  let c8_1332 : Index := 8#32
  let c768_1333 : Index := 768#32
  ![v3148.toNat, 8, 768]
def k0_off188 (k0_t1 : Fin k0_t1_loop.trips) : Fin 3 → Nat :=
  let c7_1341 : Index := 7#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c6_i32 : BitVec 32 := 6#32
  let v2829 : BitVec 32 := Scalar.addi v500 c6_i32
  let v3169 : Index := Scalar.indexCast v2829
  let c0_1342 : Index := 0#32
  ![7, v3169.toNat, 0]
def k0_off189 (v2832 : BitVec 32) : Fin 3 → Nat :=
  let v3179 : Index := Scalar.indexCast v2832
  let c0_1345 : Index := 0#32
  let c896_1346 : Index := 896#32
  ![v3179.toNat, 0, 896]
def k0_off190 (v2832 : BitVec 32) : Fin 3 → Nat :=
  let v3196 : Index := Scalar.indexCast v2832
  let c8_1351 : Index := 8#32
  let c896_1352 : Index := 896#32
  ![v3196.toNat, 8, 896]

def k0_chk7 (v2832 : BitVec 32) : Prop :=
  (∀ a, (k0_off166 v2832) a + S1x8x128.size a ≤ S2x16x1024.size a) ∧
  (∀ a, (k0_off168 v2832) a + S1x8x128.size a ≤ S2x16x1024.size a) ∧
  (∀ a, (k0_off171 v2832) a + S1x8x128.size a ≤ S2x16x1024.size a) ∧
  (∀ a, (k0_off172 v2832) a + S1x8x128.size a ≤ S2x16x1024.size a) ∧
  (∀ a, (k0_off174 v2832) a + S1x8x128.size a ≤ S2x16x1024.size a) ∧
  (∀ a, (k0_off175 v2832) a + S1x8x128.size a ≤ S2x16x1024.size a) ∧
  (∀ a, (k0_off177 v2832) a + S1x8x128.size a ≤ S2x16x1024.size a) ∧
  (∀ a, (k0_off178 v2832) a + S1x8x128.size a ≤ S2x16x1024.size a) ∧
  (∀ a, (k0_off180 v2832) a + S1x8x128.size a ≤ S2x16x1024.size a) ∧
  (∀ a, (k0_off181 v2832) a + S1x8x128.size a ≤ S2x16x1024.size a) ∧
  (∀ a, (k0_off183 v2832) a + S1x8x128.size a ≤ S2x16x1024.size a) ∧
  (∀ a, (k0_off184 v2832) a + S1x8x128.size a ≤ S2x16x1024.size a) ∧
  (∀ a, (k0_off186 v2832) a + S1x8x128.size a ≤ S2x16x1024.size a) ∧
  (∀ a, (k0_off187 v2832) a + S1x8x128.size a ≤ S2x16x1024.size a) ∧
  (∀ a, (k0_off189 v2832) a + S1x8x128.size a ≤ S2x16x1024.size a) ∧
  (∀ a, (k0_off190 v2832) a + S1x8x128.size a ≤ S2x16x1024.size a)
theorem k0_off166_inb : ∀ (v2832 : BitVec 32) (k0_hw7 : k0_chk7 v2832), ∀ a, (k0_off166 v2832) a + S1x8x128.size a ≤ S2x16x1024.size a := fun v2832 k0_hw7 => k0_hw7.1
theorem k0_off168_inb : ∀ (v2832 : BitVec 32) (k0_hw7 : k0_chk7 v2832), ∀ a, (k0_off168 v2832) a + S1x8x128.size a ≤ S2x16x1024.size a := fun v2832 k0_hw7 => k0_hw7.2.1
theorem k0_off171_inb : ∀ (v2832 : BitVec 32) (k0_hw7 : k0_chk7 v2832), ∀ a, (k0_off171 v2832) a + S1x8x128.size a ≤ S2x16x1024.size a := fun v2832 k0_hw7 => k0_hw7.2.2.1
theorem k0_off172_inb : ∀ (v2832 : BitVec 32) (k0_hw7 : k0_chk7 v2832), ∀ a, (k0_off172 v2832) a + S1x8x128.size a ≤ S2x16x1024.size a := fun v2832 k0_hw7 => k0_hw7.2.2.2.1
theorem k0_off174_inb : ∀ (v2832 : BitVec 32) (k0_hw7 : k0_chk7 v2832), ∀ a, (k0_off174 v2832) a + S1x8x128.size a ≤ S2x16x1024.size a := fun v2832 k0_hw7 => k0_hw7.2.2.2.2.1
theorem k0_off175_inb : ∀ (v2832 : BitVec 32) (k0_hw7 : k0_chk7 v2832), ∀ a, (k0_off175 v2832) a + S1x8x128.size a ≤ S2x16x1024.size a := fun v2832 k0_hw7 => k0_hw7.2.2.2.2.2.1
theorem k0_off177_inb : ∀ (v2832 : BitVec 32) (k0_hw7 : k0_chk7 v2832), ∀ a, (k0_off177 v2832) a + S1x8x128.size a ≤ S2x16x1024.size a := fun v2832 k0_hw7 => k0_hw7.2.2.2.2.2.2.1
theorem k0_off178_inb : ∀ (v2832 : BitVec 32) (k0_hw7 : k0_chk7 v2832), ∀ a, (k0_off178 v2832) a + S1x8x128.size a ≤ S2x16x1024.size a := fun v2832 k0_hw7 => k0_hw7.2.2.2.2.2.2.2.1
theorem k0_off180_inb : ∀ (v2832 : BitVec 32) (k0_hw7 : k0_chk7 v2832), ∀ a, (k0_off180 v2832) a + S1x8x128.size a ≤ S2x16x1024.size a := fun v2832 k0_hw7 => k0_hw7.2.2.2.2.2.2.2.2.1
theorem k0_off181_inb : ∀ (v2832 : BitVec 32) (k0_hw7 : k0_chk7 v2832), ∀ a, (k0_off181 v2832) a + S1x8x128.size a ≤ S2x16x1024.size a := fun v2832 k0_hw7 => k0_hw7.2.2.2.2.2.2.2.2.2.1
theorem k0_off183_inb : ∀ (v2832 : BitVec 32) (k0_hw7 : k0_chk7 v2832), ∀ a, (k0_off183 v2832) a + S1x8x128.size a ≤ S2x16x1024.size a := fun v2832 k0_hw7 => k0_hw7.2.2.2.2.2.2.2.2.2.2.1
theorem k0_off184_inb : ∀ (v2832 : BitVec 32) (k0_hw7 : k0_chk7 v2832), ∀ a, (k0_off184 v2832) a + S1x8x128.size a ≤ S2x16x1024.size a := fun v2832 k0_hw7 => k0_hw7.2.2.2.2.2.2.2.2.2.2.2.1
theorem k0_off186_inb : ∀ (v2832 : BitVec 32) (k0_hw7 : k0_chk7 v2832), ∀ a, (k0_off186 v2832) a + S1x8x128.size a ≤ S2x16x1024.size a := fun v2832 k0_hw7 => k0_hw7.2.2.2.2.2.2.2.2.2.2.2.2.1
theorem k0_off187_inb : ∀ (v2832 : BitVec 32) (k0_hw7 : k0_chk7 v2832), ∀ a, (k0_off187 v2832) a + S1x8x128.size a ≤ S2x16x1024.size a := fun v2832 k0_hw7 => k0_hw7.2.2.2.2.2.2.2.2.2.2.2.2.2.1
theorem k0_off189_inb : ∀ (v2832 : BitVec 32) (k0_hw7 : k0_chk7 v2832), ∀ a, (k0_off189 v2832) a + S1x8x128.size a ≤ S2x16x1024.size a := fun v2832 k0_hw7 => k0_hw7.2.2.2.2.2.2.2.2.2.2.2.2.2.2.1
theorem k0_off190_inb : ∀ (v2832 : BitVec 32) (k0_hw7 : k0_chk7 v2832), ∀ a, (k0_off190 v2832) a + S1x8x128.size a ≤ S2x16x1024.size a := fun v2832 k0_hw7 => k0_hw7.2.2.2.2.2.2.2.2.2.2.2.2.2.2.2

def k0_off191 (i : grid0.Coords) (k0_t1 : Fin k0_t1_loop.trips) : Fin 2 → Nat :=
  let arg1 : BitVec 32 := BitVec.ofNat 32 (i 1).val
  let v3218 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c7_i32 : BitVec 32 := 7#32
  let v3217 : BitVec 32 := Scalar.addi v500 c7_i32
  let v3219 : Index := Scalar.indexCast v3217
  ![v3218.toNat, v3219.toNat]
def k0_off192 (k0_t1 : Fin k0_t1_loop.trips) : Fin 3 → Nat :=
  let c0_1360 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c7_i32 : BitVec 32 := 7#32
  let v3217 : BitVec 32 := Scalar.addi v500 c7_i32
  let v3221 : Index := Scalar.indexCast v3217
  let c0_1361 : Index := 0#32
  ![0, v3221.toNat, 0]
def k0_off193 (v3220 : BitVec 32) : Fin 3 → Nat :=
  let v3231 : Index := Scalar.indexCast v3220
  let c0_1364 : Index := 0#32
  let c0_1365 : Index := 0#32
  ![v3231.toNat, 0, 0]

def k0_off194 (i : grid0.Coords) (k0_t1 : Fin k0_t1_loop.trips) : Fin 4 → Nat :=
  let arg1 : BitVec 32 := BitVec.ofNat 32 (i 1).val
  let v3237 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c7_i32 : BitVec 32 := 7#32
  let v3217 : BitVec 32 := Scalar.addi v500 c7_i32
  let v3238 : Index := Scalar.indexCast v3217
  let c0_1366 : Index := 0#32
  let c0_1367 : Index := 0#32
  ![v3237.toNat, v3238.toNat, 0, 0]
def k0_off195 (v3220 : BitVec 32) : Fin 3 → Nat :=
  let v3248 : Index := Scalar.indexCast v3220
  let c8_1370 : Index := 8#32
  let c0_1371 : Index := 0#32
  ![v3248.toNat, 8, 0]
def k0_off196 (i : grid0.Coords) (k0_t1 : Fin k0_t1_loop.trips) : Fin 4 → Nat :=
  let arg1 : BitVec 32 := BitVec.ofNat 32 (i 1).val
  let v3254 : Index := Scalar.indexCast arg1
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c7_i32 : BitVec 32 := 7#32
  let v3217 : BitVec 32 := Scalar.addi v500 c7_i32
  let v3255 : Index := Scalar.indexCast v3217
  let c8_1372 : Index := 8#32
  let c0_1373 : Index := 0#32
  ![v3254.toNat, v3255.toNat, 8, 0]
def k0_off197 (k0_t1 : Fin k0_t1_loop.trips) : Fin 3 → Nat :=
  let c1_1379 : Index := 1#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c7_i32 : BitVec 32 := 7#32
  let v3217 : BitVec 32 := Scalar.addi v500 c7_i32
  let v3269 : Index := Scalar.indexCast v3217
  let c0_1380 : Index := 0#32
  ![1, v3269.toNat, 0]
def k0_off198 (v3220 : BitVec 32) : Fin 3 → Nat :=
  let v3279 : Index := Scalar.indexCast v3220
  let c0_1383 : Index := 0#32
  let c128_1384 : Index := 128#32
  ![v3279.toNat, 0, 128]
def k0_off199 (v3220 : BitVec 32) : Fin 3 → Nat :=
  let v3296 : Index := Scalar.indexCast v3220
  let c8_1389 : Index := 8#32
  let c128_1390 : Index := 128#32
  ![v3296.toNat, 8, 128]
def k0_off200 (k0_t1 : Fin k0_t1_loop.trips) : Fin 3 → Nat :=
  let c2_1398 : Index := 2#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c7_i32 : BitVec 32 := 7#32
  let v3217 : BitVec 32 := Scalar.addi v500 c7_i32
  let v3317 : Index := Scalar.indexCast v3217
  let c0_1399 : Index := 0#32
  ![2, v3317.toNat, 0]
def k0_off201 (v3220 : BitVec 32) : Fin 3 → Nat :=
  let v3327 : Index := Scalar.indexCast v3220
  let c0_1402 : Index := 0#32
  let c256_1403 : Index := 256#32
  ![v3327.toNat, 0, 256]
def k0_off202 (v3220 : BitVec 32) : Fin 3 → Nat :=
  let v3344 : Index := Scalar.indexCast v3220
  let c8_1408 : Index := 8#32
  let c256_1409 : Index := 256#32
  ![v3344.toNat, 8, 256]
def k0_off203 (k0_t1 : Fin k0_t1_loop.trips) : Fin 3 → Nat :=
  let c3_1417 : Index := 3#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c7_i32 : BitVec 32 := 7#32
  let v3217 : BitVec 32 := Scalar.addi v500 c7_i32
  let v3365 : Index := Scalar.indexCast v3217
  let c0_1418 : Index := 0#32
  ![3, v3365.toNat, 0]
def k0_off204 (v3220 : BitVec 32) : Fin 3 → Nat :=
  let v3375 : Index := Scalar.indexCast v3220
  let c0_1421 : Index := 0#32
  let c384_1422 : Index := 384#32
  ![v3375.toNat, 0, 384]
def k0_off205 (v3220 : BitVec 32) : Fin 3 → Nat :=
  let v3392 : Index := Scalar.indexCast v3220
  let c8_1427 : Index := 8#32
  let c384_1428 : Index := 384#32
  ![v3392.toNat, 8, 384]
def k0_off206 (k0_t1 : Fin k0_t1_loop.trips) : Fin 3 → Nat :=
  let c4_1436 : Index := 4#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c7_i32 : BitVec 32 := 7#32
  let v3217 : BitVec 32 := Scalar.addi v500 c7_i32
  let v3413 : Index := Scalar.indexCast v3217
  let c0_1437 : Index := 0#32
  ![4, v3413.toNat, 0]
def k0_off207 (v3220 : BitVec 32) : Fin 3 → Nat :=
  let v3423 : Index := Scalar.indexCast v3220
  let c0_1440 : Index := 0#32
  let c512_1441 : Index := 512#32
  ![v3423.toNat, 0, 512]
def k0_off208 (v3220 : BitVec 32) : Fin 3 → Nat :=
  let v3440 : Index := Scalar.indexCast v3220
  let c8_1446 : Index := 8#32
  let c512_1447 : Index := 512#32
  ![v3440.toNat, 8, 512]
def k0_off209 (k0_t1 : Fin k0_t1_loop.trips) : Fin 3 → Nat :=
  let c5_1455 : Index := 5#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c7_i32 : BitVec 32 := 7#32
  let v3217 : BitVec 32 := Scalar.addi v500 c7_i32
  let v3461 : Index := Scalar.indexCast v3217
  let c0_1456 : Index := 0#32
  ![5, v3461.toNat, 0]
def k0_off210 (v3220 : BitVec 32) : Fin 3 → Nat :=
  let v3471 : Index := Scalar.indexCast v3220
  let c0_1459 : Index := 0#32
  let c640_1460 : Index := 640#32
  ![v3471.toNat, 0, 640]
def k0_off211 (v3220 : BitVec 32) : Fin 3 → Nat :=
  let v3488 : Index := Scalar.indexCast v3220
  let c8_1465 : Index := 8#32
  let c640_1466 : Index := 640#32
  ![v3488.toNat, 8, 640]
def k0_off212 (k0_t1 : Fin k0_t1_loop.trips) : Fin 3 → Nat :=
  let c6_1474 : Index := 6#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c7_i32 : BitVec 32 := 7#32
  let v3217 : BitVec 32 := Scalar.addi v500 c7_i32
  let v3509 : Index := Scalar.indexCast v3217
  let c0_1475 : Index := 0#32
  ![6, v3509.toNat, 0]
def k0_off213 (v3220 : BitVec 32) : Fin 3 → Nat :=
  let v3519 : Index := Scalar.indexCast v3220
  let c0_1478 : Index := 0#32
  let c768_1479 : Index := 768#32
  ![v3519.toNat, 0, 768]
def k0_off214 (v3220 : BitVec 32) : Fin 3 → Nat :=
  let v3536 : Index := Scalar.indexCast v3220
  let c8_1484 : Index := 8#32
  let c768_1485 : Index := 768#32
  ![v3536.toNat, 8, 768]
def k0_off215 (k0_t1 : Fin k0_t1_loop.trips) : Fin 3 → Nat :=
  let c7_1493 : Index := 7#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let c7_i32 : BitVec 32 := 7#32
  let v3217 : BitVec 32 := Scalar.addi v500 c7_i32
  let v3557 : Index := Scalar.indexCast v3217
  let c0_1494 : Index := 0#32
  ![7, v3557.toNat, 0]
def k0_off216 (v3220 : BitVec 32) : Fin 3 → Nat :=
  let v3567 : Index := Scalar.indexCast v3220
  let c0_1497 : Index := 0#32
  let c896_1498 : Index := 896#32
  ![v3567.toNat, 0, 896]
def k0_off217 (v3220 : BitVec 32) : Fin 3 → Nat :=
  let v3584 : Index := Scalar.indexCast v3220
  let c8_1503 : Index := 8#32
  let c896_1504 : Index := 896#32
  ![v3584.toNat, 8, 896]

def k0_chk8 (v3220 : BitVec 32) : Prop :=
  (∀ a, (k0_off193 v3220) a + S1x8x128.size a ≤ S2x16x1024.size a) ∧
  (∀ a, (k0_off195 v3220) a + S1x8x128.size a ≤ S2x16x1024.size a) ∧
  (∀ a, (k0_off198 v3220) a + S1x8x128.size a ≤ S2x16x1024.size a) ∧
  (∀ a, (k0_off199 v3220) a + S1x8x128.size a ≤ S2x16x1024.size a) ∧
  (∀ a, (k0_off201 v3220) a + S1x8x128.size a ≤ S2x16x1024.size a) ∧
  (∀ a, (k0_off202 v3220) a + S1x8x128.size a ≤ S2x16x1024.size a) ∧
  (∀ a, (k0_off204 v3220) a + S1x8x128.size a ≤ S2x16x1024.size a) ∧
  (∀ a, (k0_off205 v3220) a + S1x8x128.size a ≤ S2x16x1024.size a) ∧
  (∀ a, (k0_off207 v3220) a + S1x8x128.size a ≤ S2x16x1024.size a) ∧
  (∀ a, (k0_off208 v3220) a + S1x8x128.size a ≤ S2x16x1024.size a) ∧
  (∀ a, (k0_off210 v3220) a + S1x8x128.size a ≤ S2x16x1024.size a) ∧
  (∀ a, (k0_off211 v3220) a + S1x8x128.size a ≤ S2x16x1024.size a) ∧
  (∀ a, (k0_off213 v3220) a + S1x8x128.size a ≤ S2x16x1024.size a) ∧
  (∀ a, (k0_off214 v3220) a + S1x8x128.size a ≤ S2x16x1024.size a) ∧
  (∀ a, (k0_off216 v3220) a + S1x8x128.size a ≤ S2x16x1024.size a) ∧
  (∀ a, (k0_off217 v3220) a + S1x8x128.size a ≤ S2x16x1024.size a)
theorem k0_off193_inb : ∀ (v3220 : BitVec 32) (k0_hw8 : k0_chk8 v3220), ∀ a, (k0_off193 v3220) a + S1x8x128.size a ≤ S2x16x1024.size a := fun v3220 k0_hw8 => k0_hw8.1
theorem k0_off195_inb : ∀ (v3220 : BitVec 32) (k0_hw8 : k0_chk8 v3220), ∀ a, (k0_off195 v3220) a + S1x8x128.size a ≤ S2x16x1024.size a := fun v3220 k0_hw8 => k0_hw8.2.1
theorem k0_off198_inb : ∀ (v3220 : BitVec 32) (k0_hw8 : k0_chk8 v3220), ∀ a, (k0_off198 v3220) a + S1x8x128.size a ≤ S2x16x1024.size a := fun v3220 k0_hw8 => k0_hw8.2.2.1
theorem k0_off199_inb : ∀ (v3220 : BitVec 32) (k0_hw8 : k0_chk8 v3220), ∀ a, (k0_off199 v3220) a + S1x8x128.size a ≤ S2x16x1024.size a := fun v3220 k0_hw8 => k0_hw8.2.2.2.1
theorem k0_off201_inb : ∀ (v3220 : BitVec 32) (k0_hw8 : k0_chk8 v3220), ∀ a, (k0_off201 v3220) a + S1x8x128.size a ≤ S2x16x1024.size a := fun v3220 k0_hw8 => k0_hw8.2.2.2.2.1
theorem k0_off202_inb : ∀ (v3220 : BitVec 32) (k0_hw8 : k0_chk8 v3220), ∀ a, (k0_off202 v3220) a + S1x8x128.size a ≤ S2x16x1024.size a := fun v3220 k0_hw8 => k0_hw8.2.2.2.2.2.1
theorem k0_off204_inb : ∀ (v3220 : BitVec 32) (k0_hw8 : k0_chk8 v3220), ∀ a, (k0_off204 v3220) a + S1x8x128.size a ≤ S2x16x1024.size a := fun v3220 k0_hw8 => k0_hw8.2.2.2.2.2.2.1
theorem k0_off205_inb : ∀ (v3220 : BitVec 32) (k0_hw8 : k0_chk8 v3220), ∀ a, (k0_off205 v3220) a + S1x8x128.size a ≤ S2x16x1024.size a := fun v3220 k0_hw8 => k0_hw8.2.2.2.2.2.2.2.1
theorem k0_off207_inb : ∀ (v3220 : BitVec 32) (k0_hw8 : k0_chk8 v3220), ∀ a, (k0_off207 v3220) a + S1x8x128.size a ≤ S2x16x1024.size a := fun v3220 k0_hw8 => k0_hw8.2.2.2.2.2.2.2.2.1
theorem k0_off208_inb : ∀ (v3220 : BitVec 32) (k0_hw8 : k0_chk8 v3220), ∀ a, (k0_off208 v3220) a + S1x8x128.size a ≤ S2x16x1024.size a := fun v3220 k0_hw8 => k0_hw8.2.2.2.2.2.2.2.2.2.1
theorem k0_off210_inb : ∀ (v3220 : BitVec 32) (k0_hw8 : k0_chk8 v3220), ∀ a, (k0_off210 v3220) a + S1x8x128.size a ≤ S2x16x1024.size a := fun v3220 k0_hw8 => k0_hw8.2.2.2.2.2.2.2.2.2.2.1
theorem k0_off211_inb : ∀ (v3220 : BitVec 32) (k0_hw8 : k0_chk8 v3220), ∀ a, (k0_off211 v3220) a + S1x8x128.size a ≤ S2x16x1024.size a := fun v3220 k0_hw8 => k0_hw8.2.2.2.2.2.2.2.2.2.2.2.1
theorem k0_off213_inb : ∀ (v3220 : BitVec 32) (k0_hw8 : k0_chk8 v3220), ∀ a, (k0_off213 v3220) a + S1x8x128.size a ≤ S2x16x1024.size a := fun v3220 k0_hw8 => k0_hw8.2.2.2.2.2.2.2.2.2.2.2.2.1
theorem k0_off214_inb : ∀ (v3220 : BitVec 32) (k0_hw8 : k0_chk8 v3220), ∀ a, (k0_off214 v3220) a + S1x8x128.size a ≤ S2x16x1024.size a := fun v3220 k0_hw8 => k0_hw8.2.2.2.2.2.2.2.2.2.2.2.2.2.1
theorem k0_off216_inb : ∀ (v3220 : BitVec 32) (k0_hw8 : k0_chk8 v3220), ∀ a, (k0_off216 v3220) a + S1x8x128.size a ≤ S2x16x1024.size a := fun v3220 k0_hw8 => k0_hw8.2.2.2.2.2.2.2.2.2.2.2.2.2.2.1
theorem k0_off217_inb : ∀ (v3220 : BitVec 32) (k0_hw8 : k0_chk8 v3220), ∀ a, (k0_off217 v3220) a + S1x8x128.size a ≤ S2x16x1024.size a := fun v3220 k0_hw8 => k0_hw8.2.2.2.2.2.2.2.2.2.2.2.2.2.2.2

def k0_off218 (k0_t1 : Fin k0_t1_loop.trips) : Fin 3 → Nat :=
  let c0_1529 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3628 : Index := Scalar.indexCast v500
  let c0_1530 : Index := 0#32
  ![0, v3628.toNat, 0]
def k0_off219 (k0_t1 : Fin k0_t1_loop.trips) : Fin 3 → Nat :=
  let c0_1533 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3638 : Index := Scalar.indexCast v500
  let c0_1534 : Index := 0#32
  ![0, v3638.toNat, 0]
def k0_off220 (k0_t1 : Fin k0_t1_loop.trips) : Fin 3 → Nat :=
  let c0_1561 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3671 : Index := Scalar.indexCast v500
  let c128_1562 : Index := 128#32
  ![0, v3671.toNat, 128]
def k0_off221 (k0_t1 : Fin k0_t1_loop.trips) : Fin 3 → Nat :=
  let c1_1565 : Index := 1#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3681 : Index := Scalar.indexCast v500
  let c0_1566 : Index := 0#32
  ![1, v3681.toNat, 0]
def k0_off222 (k0_t1 : Fin k0_t1_loop.trips) : Fin 3 → Nat :=
  let c0_1593 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3714 : Index := Scalar.indexCast v500
  let c256_1594 : Index := 256#32
  ![0, v3714.toNat, 256]
def k0_off223 (k0_t1 : Fin k0_t1_loop.trips) : Fin 3 → Nat :=
  let c2_1597 : Index := 2#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3724 : Index := Scalar.indexCast v500
  let c0_1598 : Index := 0#32
  ![2, v3724.toNat, 0]
def k0_off224 (k0_t1 : Fin k0_t1_loop.trips) : Fin 3 → Nat :=
  let c0_1625 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3757 : Index := Scalar.indexCast v500
  let c384_1626 : Index := 384#32
  ![0, v3757.toNat, 384]
def k0_off225 (k0_t1 : Fin k0_t1_loop.trips) : Fin 3 → Nat :=
  let c3_1629 : Index := 3#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3767 : Index := Scalar.indexCast v500
  let c0_1630 : Index := 0#32
  ![3, v3767.toNat, 0]
def k0_off226 (k0_t1 : Fin k0_t1_loop.trips) : Fin 3 → Nat :=
  let c0_1657 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3800 : Index := Scalar.indexCast v500
  let c512_1658 : Index := 512#32
  ![0, v3800.toNat, 512]
def k0_off227 (k0_t1 : Fin k0_t1_loop.trips) : Fin 3 → Nat :=
  let c4_1661 : Index := 4#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3810 : Index := Scalar.indexCast v500
  let c0_1662 : Index := 0#32
  ![4, v3810.toNat, 0]
def k0_off228 (k0_t1 : Fin k0_t1_loop.trips) : Fin 3 → Nat :=
  let c0_1689 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3843 : Index := Scalar.indexCast v500
  let c640_1690 : Index := 640#32
  ![0, v3843.toNat, 640]
def k0_off229 (k0_t1 : Fin k0_t1_loop.trips) : Fin 3 → Nat :=
  let c5_1693 : Index := 5#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3853 : Index := Scalar.indexCast v500
  let c0_1694 : Index := 0#32
  ![5, v3853.toNat, 0]
def k0_off230 (k0_t1 : Fin k0_t1_loop.trips) : Fin 3 → Nat :=
  let c0_1721 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3886 : Index := Scalar.indexCast v500
  let c768_1722 : Index := 768#32
  ![0, v3886.toNat, 768]
def k0_off231 (k0_t1 : Fin k0_t1_loop.trips) : Fin 3 → Nat :=
  let c6_1725 : Index := 6#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3896 : Index := Scalar.indexCast v500
  let c0_1726 : Index := 0#32
  ![6, v3896.toNat, 0]
def k0_off232 (k0_t1 : Fin k0_t1_loop.trips) : Fin 3 → Nat :=
  let c0_1753 : Index := 0#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3929 : Index := Scalar.indexCast v500
  let c896_1754 : Index := 896#32
  ![0, v3929.toNat, 896]
def k0_off233 (k0_t1 : Fin k0_t1_loop.trips) : Fin 3 → Nat :=
  let c7_1757 : Index := 7#32
  let c0_i32_245 : BitVec 32 := 0#32
  let c1_i32 : BitVec 32 := 1#32
  let arg28 : BitVec 32 := Scf.iv c0_i32_245 c1_i32 k0_t1
  let c8_i32 : BitVec 32 := 8#32
  let v499 : BitVec 32 := Scalar.muli arg28 c8_i32
  let v500 : BitVec 32 := v499
  let v3939 : Index := Scalar.indexCast v500
  let c0_1758 : Index := 0#32
  ![7, v3939.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x128x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128x16 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x128x16 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S2x128 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "log2e" => some (((Real.log 2)⁻¹ : ℝ) : EReal)
  | "neg_log2e" => some ((-((Real.log 2)⁻¹) : ℝ) : EReal)
  | "reset_mask" => some ⊥
  | _ => none
-- ==== ReferenceIdeal.lean ====
abbrev S2x128x8192 : Shape := ⟨3, ![2, 128, 8192]⟩
abbrev S2x128 : Shape := ⟨2, ![2, 128]⟩
abbrev S2x128x16 : Shape := ⟨3, ![2, 128, 16]⟩
abbrev S8192x16 : Shape := ⟨2, ![8192, 16]⟩
abbrev S8192 : Shape := ⟨1, ![8192]⟩
abbrev S2x16x8192 : Shape := ⟨3, ![2, 16, 8192]⟩
abbrev S16x8192 : Shape := ⟨2, ![16, 8192]⟩
abbrev S2x1x8192 : Shape := ⟨3, ![2, 1, 8192]⟩
abbrev S2x8192 : Shape := ⟨2, ![2, 8192]⟩
abbrev S2x1 : Shape := ⟨2, ![2, 1]⟩
abbrev S2 : Shape := ⟨1, ![2]⟩
abbrev S2x1x16 : Shape := ⟨3, ![2, 1, 16]⟩
abbrev S2x16 : Shape := ⟨2, ![2, 16]⟩
abbrev S1x8192 : Shape := ⟨2, ![1, 8192]⟩
abbrev S1x16x8192 : Shape := ⟨3, ![1, 16, 8192]⟩
abbrev S2x1x1 : Shape := ⟨3, ![2, 1, 1]⟩
abbrev S2x16x1 : Shape := ⟨3, ![2, 16, 1]⟩

abbrev nBuf : Space → Nat
  | .hbm => 15
  | .vmem => 15
  | .smem => 0
  | _ => 0

abbrev bufTy : (tb : Table) → Fin (tcTables nBuf tb) → BufTy
  | .hbm, ⟨0, _⟩ => ⟨S2x128x8192, .fp8e4m3⟩
  | .hbm, ⟨1, _⟩ => ⟨S2x128, .f32⟩
  | .hbm, ⟨2, _⟩ => ⟨S2x128x8192, .fp8e4m3⟩
  | .hbm, ⟨3, _⟩ => ⟨S2x128, .f32⟩
  | .hbm, ⟨4, _⟩ => ⟨S2x128x16, .fp8e4m3⟩
  | .hbm, ⟨5, _⟩ => ⟨S2x128, .f32⟩
  | .hbm, ⟨6, _⟩ => ⟨S2x128x16, .fp8e4m3⟩
  | .hbm, ⟨7, _⟩ => ⟨S2x128, .f32⟩
  | .hbm, ⟨8, _⟩ => ⟨S2x128x8192, .bf16⟩
  | .hbm, ⟨9, _⟩ => ⟨S8192x16, .f32⟩
  | .hbm, ⟨10, _⟩ => ⟨S8192, .f32⟩
  | .hbm, ⟨11, _⟩ => ⟨S8192, .f32⟩
  | .hbm, ⟨12, _⟩ => ⟨S2x128, .i32⟩
  | .hbm, ⟨13, _⟩ => ⟨S2x128x8192, .bf16⟩
  | .hbm, ⟨14, _⟩ => ⟨S2x16x8192, .f32⟩
  | .local _ .vmem, ⟨0, _⟩ => ⟨S2x128x8192, .fp8e4m3⟩
  | .local _ .vmem, ⟨1, _⟩ => ⟨S2x128, .f32⟩
  | .local _ .vmem, ⟨2, _⟩ => ⟨S2x128x8192, .fp8e4m3⟩
  | .local _ .vmem, ⟨3, _⟩ => ⟨S2x128, .f32⟩
  | .local _ .vmem, ⟨4, _⟩ => ⟨S2x128x16, .fp8e4m3⟩
  | .local _ .vmem, ⟨5, _⟩ => ⟨S2x128, .f32⟩
  | .local _ .vmem, ⟨6, _⟩ => ⟨S2x128x16, .fp8e4m3⟩
  | .local _ .vmem, ⟨7, _⟩ => ⟨S2x128, .f32⟩
  | .local _ .vmem, ⟨8, _⟩ => ⟨S2x128x8192, .bf16⟩
  | .local _ .vmem, ⟨9, _⟩ => ⟨S8192x16, .f32⟩
  | .local _ .vmem, ⟨10, _⟩ => ⟨S8192, .f32⟩
  | .local _ .vmem, ⟨11, _⟩ => ⟨S8192, .f32⟩
  | .local _ .vmem, ⟨12, _⟩ => ⟨S2x128, .i32⟩
  | .local _ .vmem, ⟨13, _⟩ => ⟨S2x128x8192, .bf16⟩
  | .local _ .vmem, ⟨14, _⟩ => ⟨S2x16x8192, .f32⟩
  | _, _ => ⟨S2x128x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v9 : BitVec 32 := Scalar.addi c0_i32 c128_i32
  let c1_i32 : BitVec 32 := 1#32
  ⟨c0_i32, v9, c1_i32⟩
def k0_off1 (k0_t1 : Fin k0_t1_loop.trips) : Fin 3 → Nat :=
  let c0_12 : Index := 0#32
  let c0_i32 : BitVec 32 := 0#32
  let c1_i32 : BitVec 32 := 1#32
  let arg15 : BitVec 32 := Scf.iv c0_i32 c1_i32 k0_t1
  let v14 : Index := Scalar.indexCast arg15
  let c0_13 : Index := 0#32
  ![0, v14.toNat, 0]
def k0_off2 (k0_t1 : Fin k0_t1_loop.trips) : Fin 2 → Nat :=
  let c0_14 : Index := 0#32
  let c0_i32 : BitVec 32 := 0#32
  let c1_i32 : BitVec 32 := 1#32
  let arg15 : BitVec 32 := Scf.iv c0_i32 c1_i32 k0_t1
  let v18 : Index := Scalar.indexCast arg15
  ![0, v18.toNat]
def k0_off3 (k0_t1 : Fin k0_t1_loop.trips) : Fin 3 → Nat :=
  let c0_18 : Index := 0#32
  let c0_i32 : BitVec 32 := 0#32
  let c1_i32 : BitVec 32 := 1#32
  let arg15 : BitVec 32 := Scf.iv c0_i32 c1_i32 k0_t1
  let v34 : Index := Scalar.indexCast arg15
  let c0_19 : Index := 0#32
  ![0, v34.toNat, 0]
abbrev stage0_0 : Fin 1 → Memref sig .tc .vmem S2x128x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x16 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x16 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x8192 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x128x8192 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x16x8192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Bridge.Same.lean ====
/- The kernel is the program of its ideal form with each named constant read as the word that the kernel has. -/
module

public import proofs.«01_k».proof.Kernel
public import proofs.«01_k».proof.Proof.Gen.Kernel
public import proofs.«01_k».proof.Proof.Gen.KernelIdeal

@[expose] public section

set_option maxRecDepth 65536
set_option maxHeartbeats 1000000

noncomputable section

namespace Cert.Kernel.Scan

open Idealize.ShloMosaic Idealize.SL.Sem Idealize.ShloMosaic.TcCoe

/-- A named constant read as the word that the kernel has. -/
abbrev word {F : FTy → Type} [FloatOps F] : Named F := ⟨fun _ _ {φ} b => FloatOps.ofBits φ b⟩

variable {F : FTy → Type} [FloatOps F]

/-- The two bodies are the same program. -/
theorem body_eq : @Cert.Kernel.cc0_body F _ _ = @Cert.KernelIdeal.cc0_body F _ word _ := rfl

/-- The two tables of bodies are the same. -/
theorem defs₀_eq : @Cert.Kernel.defs₀ F _ _ = @Cert.KernelIdeal.defs₀ F _ word _ := by
  unfold Cert.Kernel.defs₀ Cert.KernelIdeal.defs₀
  refine congrArg Defs.onTc (funext fun l => funext fun x => ?_)
  match l, x with
  | ⟨0, _⟩, (t, s) =>
    dsimp only
    rw [body_eq]
    rfl

/-- The two tables of bodies, with the pipelines, are the same. -/
theorem defs_eq : @Cert.Kernel.defs F _ _ = @Cert.KernelIdeal.defs F _ word _ :=
  congrArg (fun d => Pipeline.defs Cert.Kernel.pcfgs d) defs₀_eq

/-- The two entry functions are the same. -/
theorem main_eq : @Cert.Kernel.main F _ _ = @Cert.KernelIdeal.main F _ word _ := rfl

end Cert.Kernel.Scan

end
-- ==== Proof.ScanI.Base.lean ====
/- Running the kernel body on the contents of its memrefs: what is held, and a rule for each operation. -/
module

public import proofs.«01_k».proof.Proof.Gen.KernelIdeal.Skeleton
public import proofs.«01_k».proof.Proof.Gen.KernelIdeal.Launch
public import proofs.«01_k».proof.Proof.Gen.KernelIdeal.Loops

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The memrefs of the body and their contents -/

/-- The memrefs one call of the kernel body works on, each a whole buffer. -/
structure Args where
  a2 : Memref sig .tc .smem S2x128 .i32
  h2 : a2.IsWhole
  a3 : Memref sig .tc .vmem S1x128x1024 .fp8e4m3
  h3 : a3.IsWhole
  a4 : Memref sig .tc .vmem S2x128 .f32
  h4 : a4.IsWhole
  a5 : Memref sig .tc .vmem S1x128x1024 .fp8e4m3
  h5 : a5.IsWhole
  a6 : Memref sig .tc .vmem S2x128 .f32
  h6 : a6.IsWhole
  a7 : Memref sig .tc .vmem S2x128x16 .fp8e4m3
  h7 : a7.IsWhole
  a8 : Memref sig .tc .vmem S2x128 .f32
  h8 : a8.IsWhole
  a9 : Memref sig .tc .vmem S2x128x16 .fp8e4m3
  h9 : a9.IsWhole
  a10 : Memref sig .tc .vmem S2x128 .f32
  h10 : a10.IsWhole
  a11 : Memref sig .tc .vmem S1x128x1024 .bf16
  h11 : a11.IsWhole
  a12 : Memref sig .tc .vmem S16x1024 .f32
  h12 : a12.IsWhole
  a13 : Memref sig .tc .vmem S1x1024 .f32
  h13 : a13.IsWhole
  a14 : Memref sig .tc .vmem S1x1024 .f32
  h14 : a14.IsWhole
  a15 : Memref sig .tc .vmem S2x128 .i32
  h15 : a15.IsWhole
  a16 : Memref sig .tc .vmem S1x128x1024 .bf16
  h16 : a16.IsWhole
  a17 : Memref sig .tc .vmem S1x16x1024 .f32
  h17 : a17.IsWhole
  a18 : Memref sig .tc .vmem S2x128x128 .f32
  h18 : a18.IsWhole
  a19 : Memref sig .tc .vmem S2x128x128 .f32
  h19 : a19.IsWhole
  a20 : Memref sig .tc .vmem S2x128x128 .f32
  h20 : a20.IsWhole
  a21 : Memref sig .tc .vmem S2x128x16x128 .f32
  h21 : a21.IsWhole
  a22 : Memref sig .tc .vmem S2x128x16x128 .f32
  h22 : a22.IsWhole
  a23 : Memref sig .tc .vmem S2x16x1024 .f32
  h23 : a23.IsWhole
  a24 : Memref sig .tc .vmem S8x128x128 .f32
  h24 : a24.IsWhole
  a25 : Memref sig .tc .vmem S8x128x128 .f32
  h25 : a25.IsWhole
  a26 : Memref sig .tc .vmem S8x128x128 .f32
  h26 : a26.IsWhole
  a27 : Memref sig .tc .vmem S8x72x128 .f32
  h27 : a27.IsWhole

/-- The contents of those memrefs. -/
@[ext] structure St (F : FTy → Type) where
  x2 : Vec F S2x128 .i32
  x3 : Vec F S1x128x1024 .fp8e4m3
  x4 : Vec F S2x128 .f32
  x5 : Vec F S1x128x1024 .fp8e4m3
  x6 : Vec F S2x128 .f32
  x7 : Vec F S2x128x16 .fp8e4m3
  x8 : Vec F S2x128 .f32
  x9 : Vec F S2x128x16 .fp8e4m3
  x10 : Vec F S2x128 .f32
  x11 : Vec F S1x128x1024 .bf16
  x12 : Vec F S16x1024 .f32
  x13 : Vec F S1x1024 .f32
  x14 : Vec F S1x1024 .f32
  x15 : Vec F S2x128 .i32
  x16 : Vec F S1x128x1024 .bf16
  x17 : Vec F S1x16x1024 .f32
  x18 : Vec F S2x128x128 .f32
  x19 : Vec F S2x128x128 .f32
  x20 : Vec F S2x128x128 .f32
  x21 : Vec F S2x128x16x128 .f32
  x22 : Vec F S2x128x16x128 .f32
  x23 : Vec F S2x16x1024 .f32
  x24 : Vec F S8x128x128 .f32
  x25 : Vec F S8x128x128 .f32
  x26 : Vec F S8x128x128 .f32
  x27 : Vec F S8x72x128 .f32

/-- A function of the memrefs (and of what says they are whole), at `A`. -/
abbrev ap {β : Sort _} (A : Args) (f : (a2 : Memref sig .tc .smem S2x128 .i32) → a2.IsWhole → (a3 : Memref sig .tc .vmem S1x128x1024 .fp8e4m3) → a3.IsWhole → (a4 : Memref sig .tc .vmem S2x128 .f32) → a4.IsWhole → (a5 : Memref sig .tc .vmem S1x128x1024 .fp8e4m3) → a5.IsWhole → (a6 : Memref sig .tc .vmem S2x128 .f32) → a6.IsWhole → (a7 : Memref sig .tc .vmem S2x128x16 .fp8e4m3) → a7.IsWhole → (a8 : Memref sig .tc .vmem S2x128 .f32) → a8.IsWhole → (a9 : Memref sig .tc .vmem S2x128x16 .fp8e4m3) → a9.IsWhole → (a10 : Memref sig .tc .vmem S2x128 .f32) → a10.IsWhole → (a11 : Memref sig .tc .vmem S1x128x1024 .bf16) → a11.IsWhole → (a12 : Memref sig .tc .vmem S16x1024 .f32) → a12.IsWhole → (a13 : Memref sig .tc .vmem S1x1024 .f32) → a13.IsWhole → (a14 : Memref sig .tc .vmem S1x1024 .f32) → a14.IsWhole → (a15 : Memref sig .tc .vmem S2x128 .i32) → a15.IsWhole → (a16 : Memref sig .tc .vmem S1x128x1024 .bf16) → a16.IsWhole → (a17 : Memref sig .tc .vmem S1x16x1024 .f32) → a17.IsWhole → (a18 : Memref sig .tc .vmem S2x128x128 .f32) → a18.IsWhole → (a19 : Memref sig .tc .vmem S2x128x128 .f32) → a19.IsWhole → (a20 : Memref sig .tc .vmem S2x128x128 .f32) → a20.IsWhole → (a21 : Memref sig .tc .vmem S2x128x16x128 .f32) → a21.IsWhole → (a22 : Memref sig .tc .vmem S2x128x16x128 .f32) → a22.IsWhole → (a23 : Memref sig .tc .vmem S2x16x1024 .f32) → a23.IsWhole → (a24 : Memref sig .tc .vmem S8x128x128 .f32) → a24.IsWhole → (a25 : Memref sig .tc .vmem S8x128x128 .f32) → a25.IsWhole → (a26 : Memref sig .tc .vmem S8x128x128 .f32) → a26.IsWhole → (a27 : Memref sig .tc .vmem S8x72x128 .f32) → a27.IsWhole → β) : β :=
  f A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27

variable (c : Dev nD) (A : Args)

/-- Core `c` holds the memrefs at the contents `s`: the table at half a share, everything else at the full share. -/
@[irreducible] def own (s : St F) : sProp 𝕄 := iprop(owns (c : Thread nD τ) A.a2 fullShare.right s.x2 ∗ owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13 ∗ owns (c : Thread nD τ) A.a14 fullShare s.x14 ∗ owns (c : Thread nD τ) A.a15 fullShare s.x15 ∗ owns (c : Thread nD τ) A.a16 fullShare s.x16 ∗ owns (c : Thread nD τ) A.a17 fullShare s.x17 ∗ owns (c : Thread nD τ) A.a18 fullShare s.x18 ∗ owns (c : Thread nD τ) A.a19 fullShare s.x19 ∗ owns (c : Thread nD τ) A.a20 fullShare s.x20 ∗ owns (c : Thread nD τ) A.a21 fullShare s.x21 ∗ owns (c : Thread nD τ) A.a22 fullShare s.x22 ∗ owns (c : Thread nD τ) A.a23 fullShare s.x23 ∗ owns (c : Thread nD τ) A.a24 fullShare s.x24 ∗ owns (c : Thread nD τ) A.a25 fullShare s.x25 ∗ owns (c : Thread nD τ) A.a26 fullShare s.x26 ∗ owns (c : Thread nD τ) A.a27 fullShare s.x27)

/-- The first of two conjuncts taken out. -/
theorem lens_head {β : Type} {P : β → sProp 𝕄} {R : sProp 𝕄} (x : β) : iprop(P x ∗ R) ⊢ iprop(P x ∗ (∀ X, P X -∗ P X ∗ R)) := by
  iintro ⟨H, HR⟩
  isplitl [H]
  · iexact H
  iintro %X H
  isplitl [H]
  · iexact H
  iexact HR

/-- What is taken out of the second of two conjuncts. -/
theorem lens_tail {β : Type} {P : sProp 𝕄} {Q Q' : sProp 𝕄} {S : β → sProp 𝕄} {R : β → sProp 𝕄} (h : Q ⊢ iprop(Q' ∗ (∀ X, S X -∗ R X))) :
    iprop(P ∗ Q) ⊢ iprop(Q' ∗ (∀ X, S X -∗ P ∗ R X)) := by
  iintro ⟨HP, HQ⟩
  ihave HQ := h $$ HQ
  icases HQ with ⟨HQ, Hk⟩
  isplitl [HQ]
  · iexact HQ
  iintro %X H
  isplitl [HP]
  · iexact HP
  iapply Hk $$ %X H

/-- The last conjunct taken out. -/
theorem lens_last {β : Type} {P : β → sProp 𝕄} (x : β) : P x ⊢ iprop(P x ∗ (∀ X, P X -∗ P X)) := by
  iintro H
  isplitl [H]
  · iexact H
  iintro %X H
  iexact H

/-- What is taken out is put back as it was. -/
theorem lens_get {β : Type} {P : β → sProp 𝕄} {W : sProp 𝕄} {R : β → sProp 𝕄} {x : β} (h : W ⊢ iprop(P x ∗ (∀ X, P X -∗ R X))) : W ⊢ iprop(P x ∗ (P x -∗ R x)) := by
  refine h.trans ?_
  iintro ⟨H, Hk⟩
  isplitl [H]
  · iexact H
  iintro H
  iapply Hk $$ %x H

/-- Memref 2 taken out, to be put back at any contents. -/
theorem own_split_2 (s : St F) : own c A s ⊢ iprop(owns (c : Thread nD τ) A.a2 fullShare.right s.x2 ∗ (∀ X, owns (c : Thread nD τ) A.a2 fullShare.right X -∗ own c A { s with x2 := X })) := by
  unfold own
  exact lens_head (P := fun X => owns (c : Thread nD τ) A.a2 fullShare.right X) s.x2

/-- Memref 3 taken out, to be put back at any contents. -/
theorem own_split_3 (s : St F) : own c A s ⊢ iprop(owns (c : Thread nD τ) A.a3 fullShare s.x3 ∗ (∀ X, owns (c : Thread nD τ) A.a3 fullShare X -∗ own c A { s with x3 := X })) := by
  unfold own
  exact lens_tail (lens_head (P := fun X => owns (c : Thread nD τ) A.a3 fullShare X) s.x3)

/-- Memref 4 taken out, to be put back at any contents. -/
theorem own_split_4 (s : St F) : own c A s ⊢ iprop(owns (c : Thread nD τ) A.a4 fullShare s.x4 ∗ (∀ X, owns (c : Thread nD τ) A.a4 fullShare X -∗ own c A { s with x4 := X })) := by
  unfold own
  exact lens_tail (lens_tail (lens_head (P := fun X => owns (c : Thread nD τ) A.a4 fullShare X) s.x4))

/-- Memref 5 taken out, to be put back at any contents. -/
theorem own_split_5 (s : St F) : own c A s ⊢ iprop(owns (c : Thread nD τ) A.a5 fullShare s.x5 ∗ (∀ X, owns (c : Thread nD τ) A.a5 fullShare X -∗ own c A { s with x5 := X })) := by
  unfold own
  exact lens_tail (lens_tail (lens_tail (lens_head (P := fun X => owns (c : Thread nD τ) A.a5 fullShare X) s.x5)))

/-- Memref 6 taken out, to be put back at any contents. -/
theorem own_split_6 (s : St F) : own c A s ⊢ iprop(owns (c : Thread nD τ) A.a6 fullShare s.x6 ∗ (∀ X, owns (c : Thread nD τ) A.a6 fullShare X -∗ own c A { s with x6 := X })) := by
  unfold own
  exact lens_tail (lens_tail (lens_tail (lens_tail (lens_head (P := fun X => owns (c : Thread nD τ) A.a6 fullShare X) s.x6))))

/-- Memref 7 taken out, to be put back at any contents. -/
theorem own_split_7 (s : St F) : own c A s ⊢ iprop(owns (c : Thread nD τ) A.a7 fullShare s.x7 ∗ (∀ X, owns (c : Thread nD τ) A.a7 fullShare X -∗ own c A { s with x7 := X })) := by
  unfold own
  exact lens_tail (lens_tail (lens_tail (lens_tail (lens_tail (lens_head (P := fun X => owns (c : Thread nD τ) A.a7 fullShare X) s.x7)))))

/-- Memref 8 taken out, to be put back at any contents. -/
theorem own_split_8 (s : St F) : own c A s ⊢ iprop(owns (c : Thread nD τ) A.a8 fullShare s.x8 ∗ (∀ X, owns (c : Thread nD τ) A.a8 fullShare X -∗ own c A { s with x8 := X })) := by
  unfold own
  exact lens_tail (lens_tail (lens_tail (lens_tail (lens_tail (lens_tail (lens_head (P := fun X => owns (c : Thread nD τ) A.a8 fullShare X) s.x8))))))

/-- Memref 9 taken out, to be put back at any contents. -/
theorem own_split_9 (s : St F) : own c A s ⊢ iprop(owns (c : Thread nD τ) A.a9 fullShare s.x9 ∗ (∀ X, owns (c : Thread nD τ) A.a9 fullShare X -∗ own c A { s with x9 := X })) := by
  unfold own
  exact lens_tail (lens_tail (lens_tail (lens_tail (lens_tail (lens_tail (lens_tail (lens_head (P := fun X => owns (c : Thread nD τ) A.a9 fullShare X) s.x9)))))))

/-- Memref 10 taken out, to be put back at any contents. -/
theorem own_split_10 (s : St F) : own c A s ⊢ iprop(owns (c : Thread nD τ) A.a10 fullShare s.x10 ∗ (∀ X, owns (c : Thread nD τ) A.a10 fullShare X -∗ own c A { s with x10 := X })) := by
  unfold own
  exact lens_tail (lens_tail (lens_tail (lens_tail (lens_tail (lens_tail (lens_tail (lens_tail (lens_head (P := fun X => owns (c : Thread nD τ) A.a10 fullShare X) s.x10))))))))

/-- Memref 11 taken out, to be put back at any contents. -/
theorem own_split_11 (s : St F) : own c A s ⊢ iprop(owns (c : Thread nD τ) A.a11 fullShare s.x11 ∗ (∀ X, owns (c : Thread nD τ) A.a11 fullShare X -∗ own c A { s with x11 := X })) := by
  unfold own
  exact lens_tail (lens_tail (lens_tail (lens_tail (lens_tail (lens_tail (lens_tail (lens_tail (lens_tail (lens_head (P := fun X => owns (c : Thread nD τ) A.a11 fullShare X) s.x11)))))))))

/-- Memref 12 taken out, to be put back at any contents. -/
theorem own_split_12 (s : St F) : own c A s ⊢ iprop(owns (c : Thread nD τ) A.a12 fullShare s.x12 ∗ (∀ X, owns (c : Thread nD τ) A.a12 fullShare X -∗ own c A { s with x12 := X })) := by
  unfold own
  exact lens_tail (lens_tail (lens_tail (lens_tail (lens_tail (lens_tail (lens_tail (lens_tail (lens_tail (lens_tail (lens_head (P := fun X => owns (c : Thread nD τ) A.a12 fullShare X) s.x12))))))))))

/-- Memref 13 taken out, to be put back at any contents. -/
theorem own_split_13 (s : St F) : own c A s ⊢ iprop(owns (c : Thread nD τ) A.a13 fullShare s.x13 ∗ (∀ X, owns (c : Thread nD τ) A.a13 fullShare X -∗ own c A { s with x13 := X })) := by
  unfold own
  exact lens_tail (lens_tail (lens_tail (lens_tail (lens_tail (lens_tail (lens_tail (lens_tail (lens_tail (lens_tail (lens_tail (lens_head (P := fun X => owns (c : Thread nD τ) A.a13 fullShare X) s.x13)))))))))))

/-- Memref 14 taken out, to be put back at any contents. -/
theorem own_split_14 (s : St F) : own c A s ⊢ iprop(owns (c : Thread nD τ) A.a14 fullShare s.x14 ∗ (∀ X, owns (c : Thread nD τ) A.a14 fullShare X -∗ own c A { s with x14 := X })) := by
  unfold own
  exact lens_tail (lens_tail (lens_tail (lens_tail (lens_tail (lens_tail (lens_tail (lens_tail (lens_tail (lens_tail (lens_tail (lens_tail (lens_head (P := fun X => owns (c : Thread nD τ) A.a14 fullShare X) s.x14))))))))))))

/-- Memref 15 taken out, to be put back at any contents. -/
theorem own_split_15 (s : St F) : own c A s ⊢ iprop(owns (c : Thread nD τ) A.a15 fullShare s.x15 ∗ (∀ X, owns (c : Thread nD τ) A.a15 fullShare X -∗ own c A { s with x15 := X })) := by
  unfold own
  exact lens_tail (lens_tail (lens_tail (lens_tail (lens_tail (lens_tail (lens_tail (lens_tail (lens_tail (lens_tail (lens_tail (lens_tail (lens_tail (lens_head (P := fun X => owns (c : Thread nD τ) A.a15 fullShare X) s.x15)))))))))))))

/-- Memref 16 taken out, to be put back at any contents. -/
theorem own_split_16 (s : St F) : own c A s ⊢ iprop(owns (c : Thread nD τ) A.a16 fullShare s.x16 ∗ (∀ X, owns (c : Thread nD τ) A.a16 fullShare X -∗ own c A { s with x16 := X })) := by
  unfold own
  exact lens_tail (lens_tail (lens_tail (lens_tail (lens_tail (lens_tail (lens_tail (lens_tail (lens_tail (lens_tail (lens_tail (lens_tail (lens_tail (lens_tail (lens_head (P := fun X => owns (c : Thread nD τ) A.a16 fullShare X) s.x16))))))))))))))

/-- Memref 17 taken out, to be put back at any contents. -/
theorem own_split_17 (s : St F) : own c A s ⊢ iprop(owns (c : Thread nD τ) A.a17 fullShare s.x17 ∗ (∀ X, owns (c : Thread nD τ) A.a17 fullShare X -∗ own c A { s with x17 := X })) := by
  unfold own
  exact lens_tail (lens_tail (lens_tail (lens_tail (lens_tail (lens_tail (lens_tail (lens_tail (lens_tail (lens_tail (lens_tail (lens_tail (lens_tail (lens_tail (lens_tail (lens_head (P := fun X => owns (c : Thread nD τ) A.a17 fullShare X) s.x17)))))))))))))))

/-- Memref 18 taken out, to be put back at any contents. -/
theorem own_split_18 (s : St F) : own c A s ⊢ iprop(owns (c : Thread nD τ) A.a18 fullShare s.x18 ∗ (∀ X, owns (c : Thread nD τ) A.a18 fullShare X -∗ own c A { s with x18 := X })) := by
  unfold own
  exact lens_tail (lens_tail (lens_tail (lens_tail (lens_tail (lens_tail (lens_tail (lens_tail (lens_tail (lens_tail (lens_tail (lens_tail (lens_tail (lens_tail (lens_tail (lens_tail (lens_head (P := fun X => owns (c : Thread nD τ) A.a18 fullShare X) s.x18))))))))))))))))

/-- Memref 19 taken out, to be put back at any contents. -/
theorem own_split_19 (s : St F) : own c A s ⊢ iprop(owns (c : Thread nD τ) A.a19 fullShare s.x19 ∗ (∀ X, owns (c : Thread nD τ) A.a19 fullShare X -∗ own c A { s with x19 := X })) := by
  unfold own
  exact lens_tail (lens_tail (lens_tail (lens_tail (lens_tail (lens_tail (lens_tail (lens_tail (lens_tail (lens_tail (lens_tail (lens_tail (lens_tail (lens_tail (lens_tail (lens_tail (lens_tail (lens_head (P := fun X => owns (c : Thread nD τ) A.a19 fullShare X) s.x19)))))))))))))))))

/-- Memref 20 taken out, to be put back at any contents. -/
theorem own_split_20 (s : St F) : own c A s ⊢ iprop(owns (c : Thread nD τ) A.a20 fullShare s.x20 ∗ (∀ X, owns (c : Thread nD τ) A.a20 fullShare X -∗ own c A { s with x20 := X })) := by
  unfold own
  exact lens_tail (lens_tail (lens_tail (lens_tail (lens_tail (lens_tail (lens_tail (lens_tail (lens_tail (lens_tail (lens_tail (lens_tail (lens_tail (lens_tail (lens_tail (lens_tail (lens_tail (lens_tail (lens_head (P := fun X => owns (c : Thread nD τ) A.a20 fullShare X) s.x20))))))))))))))))))

/-- Memref 21 taken out, to be put back at any contents. -/
theorem own_split_21 (s : St F) : own c A s ⊢ iprop(owns (c : Thread nD τ) A.a21 fullShare s.x21 ∗ (∀ X, owns (c : Thread nD τ) A.a21 fullShare X -∗ own c A { s with x21 := X })) := by
  unfold own
  exact lens_tail (lens_tail (lens_tail (lens_tail (lens_tail (lens_tail (lens_tail (lens_tail (lens_tail (lens_tail (lens_tail (lens_tail (lens_tail (lens_tail (lens_tail (lens_tail (lens_tail (lens_tail (lens_tail (lens_head (P := fun X => owns (c : Thread nD τ) A.a21 fullShare X) s.x21)))))))))))))))))))

/-- Memref 22 taken out, to be put back at any contents. -/
theorem own_split_22 (s : St F) : own c A s ⊢ iprop(owns (c : Thread nD τ) A.a22 fullShare s.x22 ∗ (∀ X, owns (c : Thread nD τ) A.a22 fullShare X -∗ own c A { s with x22 := X })) := by
  unfold own
  exact lens_tail (lens_tail (lens_tail (lens_tail (lens_tail (lens_tail (lens_tail (lens_tail (lens_tail (lens_tail (lens_tail (lens_tail (lens_tail (lens_tail (lens_tail (lens_tail (lens_tail (lens_tail (lens_tail (lens_tail (lens_head (P := fun X => owns (c : Thread nD τ) A.a22 fullShare X) s.x22))))))))))))))))))))

/-- Memref 23 taken out, to be put back at any contents. -/
theorem own_split_23 (s : St F) : own c A s ⊢ iprop(owns (c : Thread nD τ) A.a23 fullShare s.x23 ∗ (∀ X, owns (c : Thread nD τ) A.a23 fullShare X -∗ own c A { s with x23 := X })) := by
  unfold own
  exact lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_head (P := fun X => owns (c : Thread nD τ) A.a23 fullShare X) s.x23)))))))))))))))))))))

/-- Memref 24 taken out, to be put back at any contents. -/
theorem own_split_24 (s : St F) : own c A s ⊢ iprop(owns (c : Thread nD τ) A.a24 fullShare s.x24 ∗ (∀ X, owns (c : Thread nD τ) A.a24 fullShare X -∗ own c A { s with x24 := X })) := by
  unfold own
  exact lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_head (P := fun X => owns (c : Thread nD τ) A.a24 fullShare X) s.x24))))))))))))))))))))))

/-- Memref 25 taken out, to be put back at any contents. -/
theorem own_split_25 (s : St F) : own c A s ⊢ iprop(owns (c : Thread nD τ) A.a25 fullShare s.x25 ∗ (∀ X, owns (c : Thread nD τ) A.a25 fullShare X -∗ own c A { s with x25 := X })) := by
  unfold own
  exact lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_head (P := fun X => owns (c : Thread nD τ) A.a25 fullShare X) s.x25)))))))))))))))))))))))

/-- Memref 26 taken out, to be put back at any contents. -/
theorem own_split_26 (s : St F) : own c A s ⊢ iprop(owns (c : Thread nD τ) A.a26 fullShare s.x26 ∗ (∀ X, owns (c : Thread nD τ) A.a26 fullShare X -∗ own c A { s with x26 := X })) := by
  unfold own
  exact lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_head (P := fun X => owns (c : Thread nD τ) A.a26 fullShare X) s.x26))))))))))))))))))))))))

/-- Memref 27 taken out, to be put back at any contents. -/
theorem own_split_27 (s : St F) : own c A s ⊢ iprop(owns (c : Thread nD τ) A.a27 fullShare s.x27 ∗ (∀ X, owns (c : Thread nD τ) A.a27 fullShare X -∗ own c A { s with x27 := X })) := by
  unfold own
  exact lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_tail (lens_last (P := fun X => owns (c : Thread nD τ) A.a27 fullShare X) s.x27)))))))))))))))))))))))))
theorem own_get_2 (s : St F) : own c A s ⊢ iprop(owns (c : Thread nD τ) A.a2 fullShare.right s.x2 ∗ (owns (c : Thread nD τ) A.a2 fullShare.right s.x2 -∗ own c A s)) := lens_get (own_split_2 c A s)
theorem own_get_3 (s : St F) : own c A s ⊢ iprop(owns (c : Thread nD τ) A.a3 fullShare s.x3 ∗ (owns (c : Thread nD τ) A.a3 fullShare s.x3 -∗ own c A s)) := lens_get (own_split_3 c A s)
theorem own_get_4 (s : St F) : own c A s ⊢ iprop(owns (c : Thread nD τ) A.a4 fullShare s.x4 ∗ (owns (c : Thread nD τ) A.a4 fullShare s.x4 -∗ own c A s)) := lens_get (own_split_4 c A s)
theorem own_get_5 (s : St F) : own c A s ⊢ iprop(owns (c : Thread nD τ) A.a5 fullShare s.x5 ∗ (owns (c : Thread nD τ) A.a5 fullShare s.x5 -∗ own c A s)) := lens_get (own_split_5 c A s)
theorem own_get_6 (s : St F) : own c A s ⊢ iprop(owns (c : Thread nD τ) A.a6 fullShare s.x6 ∗ (owns (c : Thread nD τ) A.a6 fullShare s.x6 -∗ own c A s)) := lens_get (own_split_6 c A s)
theorem own_get_7 (s : St F) : own c A s ⊢ iprop(owns (c : Thread nD τ) A.a7 fullShare s.x7 ∗ (owns (c : Thread nD τ) A.a7 fullShare s.x7 -∗ own c A s)) := lens_get (own_split_7 c A s)
theorem own_get_8 (s : St F) : own c A s ⊢ iprop(owns (c : Thread nD τ) A.a8 fullShare s.x8 ∗ (owns (c : Thread nD τ) A.a8 fullShare s.x8 -∗ own c A s)) := lens_get (own_split_8 c A s)
theorem own_get_9 (s : St F) : own c A s ⊢ iprop(owns (c : Thread nD τ) A.a9 fullShare s.x9 ∗ (owns (c : Thread nD τ) A.a9 fullShare s.x9 -∗ own c A s)) := lens_get (own_split_9 c A s)
theorem own_get_10 (s : St F) : own c A s ⊢ iprop(owns (c : Thread nD τ) A.a10 fullShare s.x10 ∗ (owns (c : Thread nD τ) A.a10 fullShare s.x10 -∗ own c A s)) := lens_get (own_split_10 c A s)
theorem own_get_11 (s : St F) : own c A s ⊢ iprop(owns (c : Thread nD τ) A.a11 fullShare s.x11 ∗ (owns (c : Thread nD τ) A.a11 fullShare s.x11 -∗ own c A s)) := lens_get (own_split_11 c A s)
theorem own_get_12 (s : St F) : own c A s ⊢ iprop(owns (c : Thread nD τ) A.a12 fullShare s.x12 ∗ (owns (c : Thread nD τ) A.a12 fullShare s.x12 -∗ own c A s)) := lens_get (own_split_12 c A s)
theorem own_get_13 (s : St F) : own c A s ⊢ iprop(owns (c : Thread nD τ) A.a13 fullShare s.x13 ∗ (owns (c : Thread nD τ) A.a13 fullShare s.x13 -∗ own c A s)) := lens_get (own_split_13 c A s)
theorem own_get_14 (s : St F) : own c A s ⊢ iprop(owns (c : Thread nD τ) A.a14 fullShare s.x14 ∗ (owns (c : Thread nD τ) A.a14 fullShare s.x14 -∗ own c A s)) := lens_get (own_split_14 c A s)
theorem own_get_15 (s : St F) : own c A s ⊢ iprop(owns (c : Thread nD τ) A.a15 fullShare s.x15 ∗ (owns (c : Thread nD τ) A.a15 fullShare s.x15 -∗ own c A s)) := lens_get (own_split_15 c A s)
theorem own_get_16 (s : St F) : own c A s ⊢ iprop(owns (c : Thread nD τ) A.a16 fullShare s.x16 ∗ (owns (c : Thread nD τ) A.a16 fullShare s.x16 -∗ own c A s)) := lens_get (own_split_16 c A s)
theorem own_get_17 (s : St F) : own c A s ⊢ iprop(owns (c : Thread nD τ) A.a17 fullShare s.x17 ∗ (owns (c : Thread nD τ) A.a17 fullShare s.x17 -∗ own c A s)) := lens_get (own_split_17 c A s)
theorem own_get_18 (s : St F) : own c A s ⊢ iprop(owns (c : Thread nD τ) A.a18 fullShare s.x18 ∗ (owns (c : Thread nD τ) A.a18 fullShare s.x18 -∗ own c A s)) := lens_get (own_split_18 c A s)
theorem own_get_19 (s : St F) : own c A s ⊢ iprop(owns (c : Thread nD τ) A.a19 fullShare s.x19 ∗ (owns (c : Thread nD τ) A.a19 fullShare s.x19 -∗ own c A s)) := lens_get (own_split_19 c A s)
theorem own_get_20 (s : St F) : own c A s ⊢ iprop(owns (c : Thread nD τ) A.a20 fullShare s.x20 ∗ (owns (c : Thread nD τ) A.a20 fullShare s.x20 -∗ own c A s)) := lens_get (own_split_20 c A s)
theorem own_get_21 (s : St F) : own c A s ⊢ iprop(owns (c : Thread nD τ) A.a21 fullShare s.x21 ∗ (owns (c : Thread nD τ) A.a21 fullShare s.x21 -∗ own c A s)) := lens_get (own_split_21 c A s)
theorem own_get_22 (s : St F) : own c A s ⊢ iprop(owns (c : Thread nD τ) A.a22 fullShare s.x22 ∗ (owns (c : Thread nD τ) A.a22 fullShare s.x22 -∗ own c A s)) := lens_get (own_split_22 c A s)
theorem own_get_23 (s : St F) : own c A s ⊢ iprop(owns (c : Thread nD τ) A.a23 fullShare s.x23 ∗ (owns (c : Thread nD τ) A.a23 fullShare s.x23 -∗ own c A s)) := lens_get (own_split_23 c A s)
theorem own_get_24 (s : St F) : own c A s ⊢ iprop(owns (c : Thread nD τ) A.a24 fullShare s.x24 ∗ (owns (c : Thread nD τ) A.a24 fullShare s.x24 -∗ own c A s)) := lens_get (own_split_24 c A s)
theorem own_get_25 (s : St F) : own c A s ⊢ iprop(owns (c : Thread nD τ) A.a25 fullShare s.x25 ∗ (owns (c : Thread nD τ) A.a25 fullShare s.x25 -∗ own c A s)) := lens_get (own_split_25 c A s)
theorem own_get_26 (s : St F) : own c A s ⊢ iprop(owns (c : Thread nD τ) A.a26 fullShare s.x26 ∗ (owns (c : Thread nD τ) A.a26 fullShare s.x26 -∗ own c A s)) := lens_get (own_split_26 c A s)
theorem own_get_27 (s : St F) : own c A s ⊢ iprop(owns (c : Thread nD τ) A.a27 fullShare s.x27 ∗ (owns (c : Thread nD τ) A.a27 fullShare s.x27 -∗ own c A s)) := lens_get (own_split_27 c A s)

/-! ## Running a program on those contents -/

/-- From the contents `s` the program `p` runs, and whatever it returns, the contents it leaves and its value satisfy `Φ`. -/
def Runs {α : Type} (p : Prog (TpuEff nD τ sig (Elt F) Λ₀ .tc) α) (Φ : α → St F → Prop) (s : St F) : Prop :=
  own c A s ⊢ wp frame (wpE (defs₀ (F := F)) Variants.none c none) Set.univ p (fun a => iprop(∃ s', ⌜Φ a s'⌝ ∗ own c A s'))

variable {c A}

theorem Runs.pure {α : Type} {a : α} {Φ : α → St F → Prop} {s : St F} (h : Φ a s) : Runs c A (Pure.pure a) Φ s := by
  unfold Runs
  rw [wp_pure]
  iintro H
  imodintro
  iexists s
  isplitr
  · ipureintro; exact h
  iexact H

theorem Runs.bind {α β : Type} {p : Prog (TpuEff nD τ sig (Elt F) Λ₀ .tc) α} {k : α → Prog (TpuEff nD τ sig (Elt F) Λ₀ .tc) β}
    {Φ : β → St F → Prop} {s : St F} (h : Runs c A p (fun a s' => Runs c A (k a) Φ s') s) : Runs c A (p >>= k) Φ s := by
  unfold Runs
  rw [wp_bind]
  refine h.trans (wp_mono _ _ _ fun a => ?_)
  iintro ⟨%s', %h', H⟩
  iapply (show own c A s' ⊢ wp frame (wpE (defs₀ (F := F)) Variants.none c none) Set.univ (k a) (fun b => iprop(∃ s', ⌜Φ b s'⌝ ∗ own c A s')) from h')
  iexact H

theorem Runs.mono {α : Type} {p : Prog (TpuEff nD τ sig (Elt F) Λ₀ .tc) α} {Φ Ψ : α → St F → Prop} {s : St F}
    (h : Runs c A p Φ s) (hi : ∀ a s', Φ a s' → Ψ a s') : Runs c A p Ψ s := by
  refine Idealize.SL.BI.BIBase.Entails.trans h (wp_mono _ _ _ fun a => ?_)
  iintro ⟨%s', %h', H⟩
  iexists s'
  isplitr
  · ipureintro; exact hi _ _ h'
  iexact H

/-- A load through a memref that can be taken out of what is held. -/
theorem Runs.load_of {cs : CoreSpace} {S : Shape} {e : EltTy} {m : Memref sig .tc cs S e} {r : LoadRect S} {hl : m.view.LoadsAt r}
    {Φ : (r.shape.Idx → Elt F e) → St F → Prop} {s : St F} {q : PosShare TreeShare} {X : Vec F S e}
    (hs : own c A s ⊢ iprop(owns (c : Thread nD τ) m q X ∗ (owns (c : Thread nD τ) m q X -∗ own c A s)))
    (h : Φ (fun j => X (r.idx j)) s) : Runs c A (Prog.lift (.load m r hl)) Φ s := by
  unfold Runs
  refine hs.trans ?_
  unfold owns
  iintro ⟨⟨%f, %hf, H⟩, Hk⟩
  iapply (wp_load Variants.none (c : Thread nD τ) none Set.univ (m := m) (r := r) (S := m.view.set) (Finset.map_subset_map.mpr (Finset.subset_univ _))) $$ H
  iintro H
  rw [wp_ret]
  imodintro
  iexists s
  isplitr
  · ipureintro
    have : m.view.readAt (Elt F) r f = fun j => X (r.idx j) := by
      funext j; rw [View.readAt_apply, hf]
    rw [this]; exact h
  iapply Hk
  iexists f
  isplitr
  · ipureintro; exact hf
  iexact H

/-- A store of a whole rectangle through a memref that can be taken out of what is held. -/
theorem Runs.store_of {cs : CoreSpace} {S : Shape} {e : EltTy} {m : Memref sig .tc cs S e} {r : Rect S} {w : r.shape.Idx → Elt F e}
    {hx : (m.access r).Stores Finset.univ} {hm : Finset.univ = Finset.univ ∨ ∀ a, r.stride a = 1}
    {Φ : PUnit → St F → Prop} {s : St F} {X : Vec F S e} {upd : Vec F S e → St F}
    (hs : own c A s ⊢ iprop(owns (c : Thread nD τ) m fullShare X ∗ (∀ X', owns (c : Thread nD τ) m fullShare X' -∗ own c A (upd X'))))
    (h : Φ ⟨⟩ (upd (r.overlay X w))) : Runs c A (Prog.lift (.store m r w Finset.univ hx hm)) Φ s := by
  unfold Runs
  refine hs.trans ?_
  unfold owns
  iintro ⟨⟨%f, %hf, H⟩, Hk⟩
  iapply (wp_store Variants.none (c : Thread nD τ) none Set.univ (m := m) (r := r) (S := m.view.set) (by rw [View.setOn_univ]; exact View.set_slice_subset _ _)) $$ H
  iintro H
  rw [wp_ret]
  imodintro
  iexists (upd (r.overlay X w))
  isplitr
  · ipureintro; exact h
  iapply Hk
  iexists ((m.access r).write (Elt F) f w Finset.univ)
  isplitr
  · ipureintro
    funext j
    by_cases hj : j ∈ r.set
    · obtain ⟨i, rfl⟩ : ∃ i, r.emb i = j := by
        rw [← Rect.map_emb_univ] at hj
        obtain ⟨i, -, hi⟩ := Finset.mem_map.mp hj
        exact ⟨i, hi⟩
      rw [Rect.overlay_emb]
      exact View.read_slice_write_emb r f w (Finset.mem_univ i)
    · rw [Rect.overlay_of_not_mem _ _ _ hj, ← hf]
      exact View.read_slice_write_of_not_mem r f w _ (by rw [Rect.map_emb_univ]; exact hj)
  iexact H

/-- The load of one word of scalar memory. -/
theorem Runs.smem_of {S : Shape} {e : EltTy} {m : Memref sig .tc .smem S e} {r : Rect S} {h1 : r.shape.numel = 1} {hp : e.packing = 1}
    {Φ : Elt F e → St F → Prop} {s : St F} {q : PosShare TreeShare} {X : Vec F S e}
    (hs : own c A s ⊢ iprop(owns (c : Thread nD τ) m q X ∗ (owns (c : Thread nD τ) m q X -∗ own c A s)))
    (h : Φ (X (r.idx (Shape.Idx.first (h1.symm ▸ Nat.one_pos)))) s) : Runs c A (smemLoad m r h1 hp) Φ s := by
  have := Runs.bind (A := A) (c := c) (p := Prog.lift (.load m r (View.loadsAt_rect (View.loads_smem_one hp h1))))
    (k := fun f => Pure.pure (f (Shape.Idx.first (h1.symm ▸ Nat.one_pos)))) (Φ := Φ) (s := s) (Runs.load_of hs (Runs.pure h))
  exact this

theorem Runs.assume {P : Prop} {d : Decidable P} {Φ : PLift P → St F → Prop} {s : St F} (hP : P) (h : Φ ⟨hP⟩ s) :
    Runs c A (Prog.lift (TpuEff.assume P d)) Φ s := by
  unfold Runs
  refine Idealize.SL.BI.BIBase.Entails.trans ?_ (wp_assume Variants.none (c : Thread nD τ) none Set.univ hP)
  exact Runs.pure (c := c) (A := A) h

/-- A loop, by an invariant. -/
theorem Runs.for {σ : Type} {w : ℕ} {lb ub st : BitVec w} {hok : Scf.OK lb ub st} {init : σ}
    {body : Fin (Scf.trips lb ub st) → σ → Prog (TpuEff nD τ sig (Elt F) Λ₀ .tc) σ} {Φ : σ → St F → Prop} {s : St F}
    (I : ℕ → σ → St F → Prop) (h0 : I 0 init s)
    (hbody : ∀ (k : Fin (Scf.trips lb ub st)) acc s, I k acc s → Runs c A (body k acc) (I (k.val + 1)) s)
    (h : ∀ acc s', I (Scf.trips lb ub st) acc s' → Φ acc s') : Runs c A (Scf.for lb ub st hok init body) Φ s := by
  unfold Runs
  refine Idealize.SL.BI.BIBase.Entails.trans ?_ (Scf.wp_for _ _ _ lb ub st hok init body (fun k acc => iprop(∃ s', ⌜I k acc s'⌝ ∗ own c A s')) ?_)
  · iintro H
    isplitl [H]
    · iexists s
      isplitr
      · ipureintro; exact h0
      iexact H
    · iintro %acc ⟨%s', %h', H⟩
      iexists s'
      isplitr
      · ipureintro; exact h _ _ h'
      iexact H
  · intro k acc
    iintro ⟨%s', %h', H⟩
    iapply (show own c A s' ⊢ wp frame (wpE (defs₀ (F := F)) Variants.none c none) Set.univ (body k acc) (fun b => iprop(∃ s', ⌜I (k.val + 1) b s'⌝ ∗ own c A s')) from hbody k acc s' h')
    iexact H

end Cert.KernelIdeal.Scan

end
-- ==== Proof.ScanI.Safe.lean ====
/- The kernel body keeps its operands: the rules. -/
module

public import proofs.«01_k».proof.Proof.ScanI.Base

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The operand contents (the table and the thirteen inputs) are the same. -/
def Keep (s s' : St F) : Prop := s'.x2 = s.x2 ∧ s'.x3 = s.x3 ∧ s'.x4 = s.x4 ∧ s'.x5 = s.x5 ∧ s'.x6 = s.x6 ∧ s'.x7 = s.x7 ∧ s'.x8 = s.x8 ∧ s'.x9 = s.x9 ∧ s'.x10 = s.x10 ∧ s'.x11 = s.x11 ∧ s'.x12 = s.x12 ∧ s'.x13 = s.x13 ∧ s'.x14 = s.x14 ∧ s'.x15 = s.x15

theorem Keep.refl (s : St F) : Keep s s := ⟨rfl, rfl, rfl, rfl, rfl, rfl, rfl, rfl, rfl, rfl, rfl, rfl, rfl, rfl⟩
theorem Keep.trans {s s' s'' : St F} (h : Keep s s') (h' : Keep s' s'') : Keep s s'' := by
  unfold Keep at *
  simp only [h', h, and_self]

variable (c : Dev nD) (A : Args) (T : Vec F S2x128 .i32)

/-- A memref that can be read. -/
class Rd {sp : CoreSpace} {S : Shape} {e : EltTy} (m : Memref sig .tc sp S e) : Prop where
  split : ∀ s : St F, ∃ (q : PosShare TreeShare) (X : Vec F S e), (own c A s ⊢ iprop(owns (c : Thread nD τ) m q X ∗ (owns (c : Thread nD τ) m q X -∗ own c A s)))

/-- A memref that can be written without changing an operand. -/
class Wr {sp : CoreSpace} {S : Shape} {e : EltTy} (m : Memref sig .tc sp S e) : Prop where
  split : ∀ s : St F, ∃ (X : Vec F S e) (upd : Vec F S e → St F), (∀ X', Keep s (upd X'))
    ∧ (own c A s ⊢ iprop(owns (c : Thread nD τ) m fullShare X ∗ (∀ X', owns (c : Thread nD τ) m fullShare X' -∗ own c A (upd X'))))

instance : Rd (F := F) c A A.a2 := ⟨fun s => ⟨fullShare.right, s.x2, own_get_2 c A s⟩⟩
instance : Rd (F := F) c A A.a3 := ⟨fun s => ⟨fullShare, s.x3, own_get_3 c A s⟩⟩
instance : Rd (F := F) c A A.a4 := ⟨fun s => ⟨fullShare, s.x4, own_get_4 c A s⟩⟩
instance : Rd (F := F) c A A.a5 := ⟨fun s => ⟨fullShare, s.x5, own_get_5 c A s⟩⟩
instance : Rd (F := F) c A A.a6 := ⟨fun s => ⟨fullShare, s.x6, own_get_6 c A s⟩⟩
instance : Rd (F := F) c A A.a7 := ⟨fun s => ⟨fullShare, s.x7, own_get_7 c A s⟩⟩
instance : Rd (F := F) c A A.a8 := ⟨fun s => ⟨fullShare, s.x8, own_get_8 c A s⟩⟩
instance : Rd (F := F) c A A.a9 := ⟨fun s => ⟨fullShare, s.x9, own_get_9 c A s⟩⟩
instance : Rd (F := F) c A A.a10 := ⟨fun s => ⟨fullShare, s.x10, own_get_10 c A s⟩⟩
instance : Rd (F := F) c A A.a11 := ⟨fun s => ⟨fullShare, s.x11, own_get_11 c A s⟩⟩
instance : Rd (F := F) c A A.a12 := ⟨fun s => ⟨fullShare, s.x12, own_get_12 c A s⟩⟩
instance : Rd (F := F) c A A.a13 := ⟨fun s => ⟨fullShare, s.x13, own_get_13 c A s⟩⟩
instance : Rd (F := F) c A A.a14 := ⟨fun s => ⟨fullShare, s.x14, own_get_14 c A s⟩⟩
instance : Rd (F := F) c A A.a15 := ⟨fun s => ⟨fullShare, s.x15, own_get_15 c A s⟩⟩
instance : Rd (F := F) c A A.a16 := ⟨fun s => ⟨fullShare, s.x16, own_get_16 c A s⟩⟩
instance : Rd (F := F) c A A.a17 := ⟨fun s => ⟨fullShare, s.x17, own_get_17 c A s⟩⟩
instance : Rd (F := F) c A A.a18 := ⟨fun s => ⟨fullShare, s.x18, own_get_18 c A s⟩⟩
instance : Rd (F := F) c A A.a19 := ⟨fun s => ⟨fullShare, s.x19, own_get_19 c A s⟩⟩
instance : Rd (F := F) c A A.a20 := ⟨fun s => ⟨fullShare, s.x20, own_get_20 c A s⟩⟩
instance : Rd (F := F) c A A.a21 := ⟨fun s => ⟨fullShare, s.x21, own_get_21 c A s⟩⟩
instance : Rd (F := F) c A A.a22 := ⟨fun s => ⟨fullShare, s.x22, own_get_22 c A s⟩⟩
instance : Rd (F := F) c A A.a23 := ⟨fun s => ⟨fullShare, s.x23, own_get_23 c A s⟩⟩
instance : Rd (F := F) c A A.a24 := ⟨fun s => ⟨fullShare, s.x24, own_get_24 c A s⟩⟩
instance : Rd (F := F) c A A.a25 := ⟨fun s => ⟨fullShare, s.x25, own_get_25 c A s⟩⟩
instance : Rd (F := F) c A A.a26 := ⟨fun s => ⟨fullShare, s.x26, own_get_26 c A s⟩⟩
instance : Rd (F := F) c A A.a27 := ⟨fun s => ⟨fullShare, s.x27, own_get_27 c A s⟩⟩
instance : Wr (F := F) c A A.a16 := ⟨fun s => ⟨s.x16, fun X => { s with x16 := X }, fun _ => Keep.refl s, own_split_16 c A s⟩⟩
instance : Wr (F := F) c A A.a17 := ⟨fun s => ⟨s.x17, fun X => { s with x17 := X }, fun _ => Keep.refl s, own_split_17 c A s⟩⟩
instance : Wr (F := F) c A A.a18 := ⟨fun s => ⟨s.x18, fun X => { s with x18 := X }, fun _ => Keep.refl s, own_split_18 c A s⟩⟩
instance : Wr (F := F) c A A.a19 := ⟨fun s => ⟨s.x19, fun X => { s with x19 := X }, fun _ => Keep.refl s, own_split_19 c A s⟩⟩
instance : Wr (F := F) c A A.a20 := ⟨fun s => ⟨s.x20, fun X => { s with x20 := X }, fun _ => Keep.refl s, own_split_20 c A s⟩⟩
instance : Wr (F := F) c A A.a21 := ⟨fun s => ⟨s.x21, fun X => { s with x21 := X }, fun _ => Keep.refl s, own_split_21 c A s⟩⟩
instance : Wr (F := F) c A A.a22 := ⟨fun s => ⟨s.x22, fun X => { s with x22 := X }, fun _ => Keep.refl s, own_split_22 c A s⟩⟩
instance : Wr (F := F) c A A.a23 := ⟨fun s => ⟨s.x23, fun X => { s with x23 := X }, fun _ => Keep.refl s, own_split_23 c A s⟩⟩
instance : Wr (F := F) c A A.a24 := ⟨fun s => ⟨s.x24, fun X => { s with x24 := X }, fun _ => Keep.refl s, own_split_24 c A s⟩⟩
instance : Wr (F := F) c A A.a25 := ⟨fun s => ⟨s.x25, fun X => { s with x25 := X }, fun _ => Keep.refl s, own_split_25 c A s⟩⟩
instance : Wr (F := F) c A A.a26 := ⟨fun s => ⟨s.x26, fun X => { s with x26 := X }, fun _ => Keep.refl s, own_split_26 c A s⟩⟩
instance : Wr (F := F) c A A.a27 := ⟨fun s => ⟨s.x27, fun X => { s with x27 := X }, fun _ => Keep.refl s, own_split_27 c A s⟩⟩

/-- From contents whose table is `T`, the program runs and changes no operand. -/
def Safe {α : Type} (p : Prog (TpuEff nD τ sig (Elt F) Λ₀ .tc) α) : Prop :=
  ∀ s : St F, s.x2 = T → Runs c A p (fun _ s' => Keep s s') s

variable {c A T}

theorem Safe.pure {α : Type} {a : α} : Safe c A T (Pure.pure a) := fun s _ => Runs.pure (Keep.refl s)

theorem Safe.bind {α β : Type} {p : Prog (TpuEff nD τ sig (Elt F) Λ₀ .tc) α} {k : α → Prog (TpuEff nD τ sig (Elt F) Λ₀ .tc) β}
    (h : Safe c A T p) (hk : ∀ a, Safe c A T (k a)) : Safe c A T (p >>= k) := fun s hs =>
  Runs.bind ((h s hs).mono fun a s' h' => (hk a s' (h'.1.trans hs)).mono fun _ _ h'' => h'.trans h'')

theorem Safe.load {cs : CoreSpace} {S : Shape} {e : EltTy} {m : Memref sig .tc cs S e} [h : Rd (F := F) c A m] {r : LoadRect S} {hl : m.view.LoadsAt r} :
    Safe c A T (Prog.lift (.load m r hl)) := fun s _ => by
  obtain ⟨q, X, hX⟩ := h.split s
  exact Runs.load_of hX (Keep.refl s)

theorem Safe.store {cs : CoreSpace} {S : Shape} {e : EltTy} {m : Memref sig .tc cs S e} [h : Wr (F := F) c A m] {r : Rect S} {w : r.shape.Idx → Elt F e}
    {hx : (m.access r).Stores Finset.univ} {hm : Finset.univ = Finset.univ ∨ ∀ a, r.stride a = 1} :
    Safe c A T (Prog.lift (.store m r w Finset.univ hx hm)) := fun s _ => by
  obtain ⟨X, upd, hk, hX⟩ := h.split s
  exact Runs.store_of hX (hk _)

/-- A word of the table is a flag. -/
def Flag (w : BitVec 32) : Prop := w = 0#32 ∨ w = 1#32

theorem Safe.word {β : Type} {r : Rect S2x128} {h1 : r.shape.numel = 1} {hp : EltTy.i32.packing = 1}
    {k : Elt F .i32 → Prog (TpuEff nD τ sig (Elt F) Λ₀ .tc) β}
    (hT : ∀ j, Flag (T j)) (hk : ∀ w : BitVec 32, Flag w → Safe c A T (k w)) : Safe c A T (smemLoad A.a2 r h1 hp >>= k) := fun s hs =>
  Runs.bind (Runs.smem_of (own_get_2 c A s) (hk _ (by rw [hs]; exact hT _) s hs))

theorem Safe.assume {β : Type} {P : Prop} {d : Decidable P} {k : PLift P → Prog (TpuEff nD τ sig (Elt F) Λ₀ .tc) β} (hP : P)
    (hk : ∀ x, Safe c A T (k x)) : Safe c A T (Prog.lift (TpuEff.assume P d) >>= k) := fun s hs =>
  Runs.bind (Runs.assume hP (hk _ s hs))

theorem Safe.dite {α : Type} {P : Prop} [Decidable P] {p : P → Prog (TpuEff nD τ sig (Elt F) Λ₀ .tc) α} {q : ¬P → Prog (TpuEff nD τ sig (Elt F) Λ₀ .tc) α}
    (hp : ∀ h, Safe c A T (p h)) (hq : ∀ h, Safe c A T (q h)) : Safe c A T (if h : P then p h else q h) := by
  split
  · exact hp _
  · exact hq _

theorem Safe.for {σ : Type} {w : ℕ} {lb ub st : BitVec w} {hok : Scf.OK lb ub st} {init : σ}
    {body : Fin (Scf.trips lb ub st) → σ → Prog (TpuEff nD τ sig (Elt F) Λ₀ .tc) σ} (hbody : ∀ k acc, Safe c A T (body k acc)) :
    Safe c A T (Scf.for lb ub st hok init body) := fun s hs =>
  Runs.for (fun _ _ s' => Keep s s') (Keep.refl s) (fun k acc s' h => (hbody k acc s' (h.1.trans hs)).mono fun _ _ h' => h.trans h') fun _ _ h => h

theorem Safe.loop {σ : Type} {w : ℕ} {L : Scf.Loop w} {hok : L.OK} {init : σ}
    {body : Fin L.trips → σ → Prog (TpuEff nD τ sig (Elt F) Λ₀ .tc) σ} (hbody : ∀ k acc, Safe c A T (body k acc)) :
    Safe c A T (L.for hok init body) := Safe.for hbody

theorem chk1_of_flag {w : BitVec 32} (h : Flag w) : k0_chk1 w := by
  rcases h with rfl | rfl <;> decide
theorem chk2_of_flag {w : BitVec 32} (h : Flag w) : k0_chk2 w := by
  rcases h with rfl | rfl <;> decide
theorem chk3_of_flag {w : BitVec 32} (h : Flag w) : k0_chk3 w := by
  rcases h with rfl | rfl <;> decide
theorem chk4_of_flag {w : BitVec 32} (h : Flag w) : k0_chk4 w := by
  rcases h with rfl | rfl <;> decide
theorem chk5_of_flag {w : BitVec 32} (h : Flag w) : k0_chk5 w := by
  rcases h with rfl | rfl <;> decide
theorem chk6_of_flag {w : BitVec 32} (h : Flag w) : k0_chk6 w := by
  rcases h with rfl | rfl <;> decide
theorem chk7_of_flag {w : BitVec 32} (h : Flag w) : k0_chk7 w := by
  rcases h with rfl | rfl <;> decide
theorem chk8_of_flag {w : BitVec 32} (h : Flag w) : k0_chk8 w := by
  rcases h with rfl | rfl <;> decide

end Cert.KernelIdeal.Scan

end
-- ==== Proof.ScanI.Rules.lean ====
/- Reading and writing parts of arrays; what one trip of the loop computes. -/
module

public import proofs.«01_k».proof.Proof.ScanI.Safe
public import Idealize.ShloMosaic.Lib.Pipeline.Value

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Every axis of the shape has an element. -/
class Pos (s : Shape) : Prop where
  p : ∀ a, 0 < s.size a

instance : Pos S2x128 := ⟨by decide⟩
instance : Pos S8x128 := ⟨by decide⟩
instance : Pos S1x8x128 := ⟨by decide⟩
instance : Pos S16x128 := ⟨by decide⟩
instance : Pos S128x128 := ⟨by decide⟩
instance : Pos S16x1024 := ⟨by decide⟩
instance : Pos S1x1024 := ⟨by decide⟩
instance : Pos S1x128 := ⟨by decide⟩
instance : Pos S2x128x16 := ⟨by decide⟩
instance : Pos S2x128x128 := ⟨by decide⟩
instance : Pos S8x128x128 := ⟨by decide⟩
instance : Pos S8x72x128 := ⟨by decide⟩
instance : Pos S2x16x1024 := ⟨by decide⟩
instance : Pos S1x16x1024 := ⟨by decide⟩
instance : Pos S1x128x1024 := ⟨by decide⟩
instance : Pos S2x128x16x128 := ⟨by decide⟩

/-- The element at the given coordinates. -/
def pt {s : Shape} [h : Pos s] (o : Fin s.rank → ℕ) : s.Idx := fun a => ⟨o a % s.size a, Nat.mod_lt _ (h.p a)⟩

theorem pt_eq {s : Shape} [Pos s] {o : Fin s.rank → ℕ} {x : s.Idx} (h : ∀ a, o a = (x a).val) : pt o = x := by
  funext a
  apply Fin.ext
  show o a % s.size a = (x a).val
  rw [h a, Nat.mod_eq_of_lt (x a).isLt]

theorem pt_val {s : Shape} [Pos s] {o : Fin s.rank → ℕ} {a : Fin s.rank} (h : o a < s.size a) : (pt o a).val = o a :=
  Nat.mod_eq_of_lt h

/-- The part of an array of the given sizes at the given offsets. -/
def tile {s : Shape} [Pos s] {α : Type} (X : s.Idx → α) (sz o : Fin s.rank → ℕ) : (⟨s.rank, sz⟩ : Shape).Idx → α :=
  fun x => X (pt fun a => o a + (x a).val)

theorem tile_eq {s : Shape} [Pos s] {α : Type} {X : s.Idx → α} {sz o o' : Fin s.rank → ℕ} {inb : ∀ a, o a + sz a ≤ s.size a} (ho : o = o') :
    (fun x => X ((Rect.unit o sz inb).toLoadRect.idx x)) = tile X sz o' := by
  subst ho
  funext x
  refine congrArg X (pt_eq fun a => ?_).symm
  show _ = o a + 1 * (x a).val
  omega

/-- An array with the part at the given offsets replaced. -/
def put {s : Shape} {α : Type} (X : s.Idx → α) (sz o : Fin s.rank → ℕ) (v : (⟨s.rank, sz⟩ : Shape).Idx → α) : s.Idx → α :=
  fun x => if h : ∀ a, o a ≤ (x a).val ∧ (x a).val < o a + sz a then v (fun a => ⟨(x a).val - o a, by have := h a; show _ < sz a; omega⟩) else X x

theorem put_eq {s : Shape} {α : Type} {X : s.Idx → α} {sz o o' : Fin s.rank → ℕ} {inb : ∀ a, o a + sz a ≤ s.size a} {v : (⟨s.rank, sz⟩ : Shape).Idx → α}
    (ho : o = o') : (Rect.unit o sz inb).overlay X v = put X sz o' v := by
  subst ho
  funext x
  unfold put
  split
  · rename_i h
    rw [← Rect.overlay_emb (Rect.unit o sz inb) X v]
    congr 1
    funext a
    apply Fin.ext
    show (x a).val = o a + 1 * ((x a).val - o a)
    have := h a
    omega
  · rename_i h
    refine Rect.overlay_of_not_mem _ _ _ fun hm => h fun a => ?_
    obtain ⟨j, hj, e⟩ := (LoadRect.mem_set _).mp hm a
    replace e : (x a).val = o a + 1 * j := e
    replace hj : j < sz a := hj
    omega

theorem tile_slab {Y : Vec F S8x72x128 .f32} {o o' : Fin 3 → ℕ} {inb : ∀ a, o a + S1x8x128.size a ≤ S8x72x128.size a} (ho : o = o') :
    (fun x => Y ((Rect.unit (s := S8x72x128) o S1x8x128.size inb).toLoadRect.idx x)) = tile Y S1x8x128.size o' := tile_eq ho

/-- The slab with row `s` of part `j`'s eight groups of nine rows replaced. -/
def put27 (Y : Vec F S8x72x128 .f32) (j s : ℕ) (v : Vec F S1x8x128 .f32) : Vec F S8x72x128 .f32 :=
  fun x => if (x 0).val = j ∧ (x 1).val % 9 = s then v (pt (s := S1x8x128) ![0, (x 1).val / 9, (x 2).val]) else Y x

theorem put27_eq {Y : Vec F S8x72x128 .f32} {j s : ℕ} {inb : ∀ a, S1x8x128.size a = 0 ∨ (![j, s, 0] : Fin 3 → ℕ) a + (![1, 9, 1] : Fin 3 → ℕ) a * (S1x8x128.size a - 1) < S8x72x128.size a}
    {sp : ∀ a, 0 < (![1, 9, 1] : Fin 3 → ℕ) a} {v : Vec F S1x8x128 .f32} :
    (⟨(⟨![j, s, 0], S1x8x128.size, ![1, 9, 1], inb⟩ : LoadRect S8x72x128), sp⟩ : Rect S8x72x128).overlay Y v = put27 Y j s v := by
  have hs : s + 9 * 7 < 72 := by rcases inb 1 with h | h
                                 · exact absurd h (by decide)
                                 · exact h
  funext x
  have hx1 : (x 1).val < 72 := (x 1).isLt
  have hx2 : (x 2).val < 128 := (x 2).isLt
  unfold put27
  split
  · rename_i h
    rw [← Rect.overlay_emb (⟨(⟨![j, s, 0], S1x8x128.size, ![1, 9, 1], inb⟩ : LoadRect S8x72x128), sp⟩ : Rect S8x72x128) Y v]
    congr 1
    funext a
    apply Fin.ext
    match a with
    | ⟨0, _⟩ => show (x 0).val = j + 1 * (0 % 1); omega
    | ⟨1, _⟩ => show (x 1).val = s + 9 * ((x 1).val / 9 % 8); omega
    | ⟨2, _⟩ => show (x 2).val = 0 + 1 * ((x 2).val % 128); omega
  · rename_i h
    refine Rect.overlay_of_not_mem _ _ _ fun hm => h ?_
    have hm := (LoadRect.mem_set _).mp hm
    obtain ⟨j0, hj0, e0⟩ := hm 0
    obtain ⟨j1, hj1, e1⟩ := hm 1
    replace e0 : (x 0).val = j + 1 * j0 := e0
    replace hj0 : j0 < 1 := hj0
    replace e1 : (x 1).val = s + 9 * j1 := e1
    replace hj1 : j1 < 8 := hj1
    omega

/-- One trip of the loop over the groups of eight tokens: the contents it starts from, the grid point, the trip's number, the states it starts from (of lane
tile `j`, half `k`). -/
structure Trip (F : FTy → Type) where
  S : St F
  i : grid0.Coords
  t : Fin k0_t1_loop.trips
  g : ℕ → ℕ → FVec F S8x128 .f32

/-- Eight rows as a register. -/
abbrev q8 (x : Vec F S1x8x128 .f32) : FVec F S8x128 .f32 := shapeCast S8x128 x shapeCasts_S1x8x128_S8x128
/-- Eight rows as a register, from a four-axis array. -/
abbrev q4 (x : Vec F S1x1x8x128 .f32) : FVec F S8x128 .f32 := shapeCast S8x128 x shapeCasts_S1x1x8x128_S8x128
/-- One row, repeated down a register. -/
abbrev rw8 (x : Vec F S1x1x128 .f32) : FVec F S8x128 .f32 :=
  broadcastTo S8x128 (shapeCast S1x128 (shapeCast S1x128 x shapeCasts_S1x1x128_S1x128) shapeCasts_S1x128_S1x128) broadcasts_S1x128_S8x128

/-- The state after a token. -/
def nxt (d u : Vec F S1x1x128 .f32) (a : Vec F S1x8x128 .f32) (b : Vec F S1x1x8x128 .f32) (h : FVec F S8x128 .f32) : FVec F S8x128 .f32 :=
  addf (mulf (exp2 (mulf (rw8 d) (q8 a))) h) (mulf (q4 b) (rw8 u))

/-- What the gate makes of `z`. -/
def gate8 (z : Vec F S1x8x128 .bf16) : FVec F S8x128 .f32 :=
  divf (extf .f32 (shapeCast S8x128 z shapeCasts_S1x8x128_S8x128) bitsLt_bf16_f32)
    (addf (broadcast S8x128 (Scalar.ofBits .f32 0x3F800000#32)) (exp2 (mulf (extf .f32 (shapeCast S8x128 z shapeCasts_S1x8x128_S8x128) bitsLt_bf16_f32) (broadcast S8x128 (Named.named κ "neg_log2e" 0xBFB8AA3B#32)))))

/-- The eight rows of `y` from the eight rows of the slab. -/
def out8 (r : ℕ → Vec F S1x8x128 .f32) (k : Vec F S1x8x128 .f32) (z : Vec F S1x8x128 .bf16) : Vec F S1x8x128 .bf16 :=
  shapeCast S1x8x128 (truncf .bf16 (mulf (addf (addf (addf (addf (q8 (r 0)) (q8 (r 1))) (addf (q8 (r 2)) (q8 (r 3)))) (addf (addf (q8 (r 4)) (q8 (r 5))) (addf (q8 (r 6)) (q8 (r 7))))) (q8 k))
    (gate8 z)) bitsLt_bf16_f32) shapeCasts_S8x128_S1x8x128

namespace Trip

variable (X : Trip F)

/-- The flag of token `s` of the group. -/
def w (s : ℕ) : BitVec 32 := X.S.x2 (pt ![(X.i 1).val, 8 * X.t.val + s])
def d (j s : ℕ) : Vec F S1x1x128 .f32 := tile X.S.x24 S1x1x128.size ![j, 8 * X.t.val + s, 0]
def u (j s : ℕ) : Vec F S1x1x128 .f32 := tile X.S.x25 S1x1x128.size ![j, 8 * X.t.val + s, 0]
def a (j k s : ℕ) : Vec F S1x8x128 .f32 := tile X.S.x23 S1x8x128.size ![(X.w s).toNat, 8 * k, 128 * j]
def b (k s : ℕ) : Vec F S1x1x8x128 .f32 := tile X.S.x21 S1x1x8x128.size ![(X.i 1).val, 8 * X.t.val + s, 8 * k, 0]
def c (k s : ℕ) : Vec F S1x1x8x128 .f32 := tile X.S.x22 S1x1x8x128.size ![(X.i 1).val, 8 * X.t.val + s, 8 * k, 0]
def k (j : ℕ) : Vec F S1x8x128 .f32 := tile X.S.x26 S1x8x128.size ![j, 8 * X.t.val, 0]
def z (j : ℕ) : Vec F S1x8x128 .bf16 := tile X.S.x11 S1x8x128.size ![0, 8 * X.t.val, 128 * j]

/-- The state of tile `j`, half `k`, after `s` tokens of the group. -/
def h (j k : ℕ) : ℕ → FVec F S8x128 .f32
  | 0 => X.g j k
  | s + 1 => nxt (X.d j s) (X.u j s) (X.a j k s) (X.b k s) (h j k s)

/-- The two halves' products with `C` at token `s`, added. -/
def P (j s : ℕ) : FVec F S8x128 .f32 := addf (mulf (X.h j 0 (s + 1)) (q4 (X.c 0 s))) (mulf (X.h j 1 (s + 1)) (q4 (X.c 1 s)))

/-- The slab after `n` of its sixty-four stores. -/
def slab (Y : Vec F S8x72x128 .f32) : ℕ → Vec F S8x72x128 .f32
  | 0 => Y
  | n + 1 => put27 (slab Y n) (n % 8) (n / 8) (shapeCast S1x8x128 (X.P (n % 8) (n / 8)) shapeCasts_S8x128_S1x8x128)

/-- Eight tokens' rows for sublane `i` of tile `j`. -/
def r (j i : ℕ) : Vec F S1x8x128 .f32 := fun x => X.P j (x 1).val (pt ![i, (x 2).val])

/-- The eight rows of `y` of tile `j`. -/
def y (j : ℕ) : Vec F S1x8x128 .bf16 := out8 (X.r j) (X.k j) (X.z j)

/-- The output block after `n` of the trip's eight stores. -/
def yW (W : Vec F S1x128x1024 .bf16) : ℕ → Vec F S1x128x1024 .bf16
  | 0 => W
  | n + 1 => put (yW W n) S1x8x128.size ![0, 8 * X.t.val, 128 * n] (X.y n)

/-- The contents with slab `Y` and output block `W`. -/
def at' (Y : Vec F S8x72x128 .f32) (W : Vec F S1x128x1024 .bf16) : St F := { X.S with x27 := Y, x16 := W }

section eqs
variable {X}

theorem e_d {j s : ℕ} {o : Fin 3 → ℕ} {inb} (ho : o = ![j, 8 * X.t.val + s, 0]) :
    (fun x => X.S.x24 ((Rect.unit (s := S8x128x128) o S1x1x128.size inb).toLoadRect.idx x)) = X.d j s := tile_eq ho
theorem e_u {j s : ℕ} {o : Fin 3 → ℕ} {inb} (ho : o = ![j, 8 * X.t.val + s, 0]) :
    (fun x => X.S.x25 ((Rect.unit (s := S8x128x128) o S1x1x128.size inb).toLoadRect.idx x)) = X.u j s := tile_eq ho
theorem e_a {j k s : ℕ} {o : Fin 3 → ℕ} {inb} (ho : o = ![(X.w s).toNat, 8 * k, 128 * j]) :
    (fun x => X.S.x23 ((Rect.unit (s := S2x16x1024) o S1x8x128.size inb).toLoadRect.idx x)) = X.a j k s := tile_eq ho
theorem e_b {k s : ℕ} {o : Fin 4 → ℕ} {inb} (ho : o = ![(X.i 1).val, 8 * X.t.val + s, 8 * k, 0]) :
    (fun x => X.S.x21 ((Rect.unit (s := S2x128x16x128) o S1x1x8x128.size inb).toLoadRect.idx x)) = X.b k s := tile_eq ho
theorem e_c {k s : ℕ} {o : Fin 4 → ℕ} {inb} (ho : o = ![(X.i 1).val, 8 * X.t.val + s, 8 * k, 0]) :
    (fun x => X.S.x22 ((Rect.unit (s := S2x128x16x128) o S1x1x8x128.size inb).toLoadRect.idx x)) = X.c k s := tile_eq ho
theorem e_k {j : ℕ} {o : Fin 3 → ℕ} {inb} (ho : o = ![j, 8 * X.t.val, 0]) :
    (fun x => X.S.x26 ((Rect.unit (s := S8x128x128) o S1x8x128.size inb).toLoadRect.idx x)) = X.k j := tile_eq ho
theorem e_z {j : ℕ} {o : Fin 3 → ℕ} {inb} (ho : o = ![0, 8 * X.t.val, 128 * j]) :
    (fun x => X.S.x11 ((Rect.unit (s := S1x128x1024) o S1x8x128.size inb).toLoadRect.idx x)) = X.z j := tile_eq ho
theorem e_w {s : ℕ} {o : Fin 2 → ℕ} {inb} {h1 : (Rect.unit (s := S2x128) o S1x1.size inb).shape.numel = 1} (ho : o = ![(X.i 1).val, 8 * X.t.val + s]) :
    X.S.x2 ((Rect.unit (s := S2x128) o S1x1.size inb).toLoadRect.idx (Shape.Idx.first (h1.symm ▸ Nat.one_pos))) = X.w s := by
  have := congrFun (tile_eq (X := X.S.x2) (inb := inb) ho) (Shape.Idx.first (h1.symm ▸ Nat.one_pos))
  exact this
theorem e_y {W : Vec F S1x128x1024 .bf16} {n : ℕ} {o : Fin 3 → ℕ} {inb} {v : Vec F S1x8x128 .bf16} (ho : o = ![0, 8 * X.t.val, 128 * n]) (hv : v = X.y n) :
    (Rect.unit (s := S1x128x1024) o S1x8x128.size inb).overlay (X.yW W n) v = X.yW W (n + 1) := by subst hv; exact put_eq ho
theorem e_s {Y : Vec F S8x72x128 .f32} (n : ℕ) {inb} {sp} {v : Vec F S1x8x128 .f32} (hv : v = shapeCast S1x8x128 (X.P (n % 8) (n / 8)) shapeCasts_S8x128_S1x8x128) :
    (⟨(⟨![n % 8, n / 8, 0], S1x8x128.size, ![1, 9, 1], inb⟩ : LoadRect S8x72x128), sp⟩ : Rect S8x72x128).overlay (X.slab Y n) v = X.slab Y (n + 1) := by
  subst hv; exact put27_eq

end eqs
end Trip

variable {c : Dev nD} {A : Args}
theorem ld2 {s : St F} {r : Rect S2x128} {h1 : r.shape.numel = 1} {hp : EltTy.packing .i32 = 1} {Φ : Elt F .i32 → St F → Prop} {Z : Elt F .i32}
    (e : s.x2 (r.toLoadRect.idx (Shape.Idx.first (h1.symm ▸ Nat.one_pos))) = Z) (h : Φ Z s) : Runs c A (smemLoad A.a2 r h1 hp) Φ s :=
  Runs.smem_of (own_get_2 c A s) (e ▸ h)
theorem ld3 {s : St F} {r : LoadRect S1x128x1024} {hl : A.a3.view.LoadsAt r} {Φ : (r.shape.Idx → Elt F .fp8e4m3) → St F → Prop} {Z : r.shape.Idx → Elt F .fp8e4m3}
    (e : (fun x => s.x3 (r.idx x)) = Z) (h : Φ Z s) : Runs c A (Prog.lift (.load A.a3 r hl)) Φ s :=
  Runs.load_of (own_get_3 c A s) (e ▸ h)
theorem ld4 {s : St F} {r : LoadRect S2x128} {hl : A.a4.view.LoadsAt r} {Φ : (r.shape.Idx → Elt F .f32) → St F → Prop} {Z : r.shape.Idx → Elt F .f32}
    (e : (fun x => s.x4 (r.idx x)) = Z) (h : Φ Z s) : Runs c A (Prog.lift (.load A.a4 r hl)) Φ s :=
  Runs.load_of (own_get_4 c A s) (e ▸ h)
theorem ld5 {s : St F} {r : LoadRect S1x128x1024} {hl : A.a5.view.LoadsAt r} {Φ : (r.shape.Idx → Elt F .fp8e4m3) → St F → Prop} {Z : r.shape.Idx → Elt F .fp8e4m3}
    (e : (fun x => s.x5 (r.idx x)) = Z) (h : Φ Z s) : Runs c A (Prog.lift (.load A.a5 r hl)) Φ s :=
  Runs.load_of (own_get_5 c A s) (e ▸ h)
theorem ld6 {s : St F} {r : LoadRect S2x128} {hl : A.a6.view.LoadsAt r} {Φ : (r.shape.Idx → Elt F .f32) → St F → Prop} {Z : r.shape.Idx → Elt F .f32}
    (e : (fun x => s.x6 (r.idx x)) = Z) (h : Φ Z s) : Runs c A (Prog.lift (.load A.a6 r hl)) Φ s :=
  Runs.load_of (own_get_6 c A s) (e ▸ h)
theorem ld7 {s : St F} {r : LoadRect S2x128x16} {hl : A.a7.view.LoadsAt r} {Φ : (r.shape.Idx → Elt F .fp8e4m3) → St F → Prop} {Z : r.shape.Idx → Elt F .fp8e4m3}
    (e : (fun x => s.x7 (r.idx x)) = Z) (h : Φ Z s) : Runs c A (Prog.lift (.load A.a7 r hl)) Φ s :=
  Runs.load_of (own_get_7 c A s) (e ▸ h)
theorem ld8 {s : St F} {r : LoadRect S2x128} {hl : A.a8.view.LoadsAt r} {Φ : (r.shape.Idx → Elt F .f32) → St F → Prop} {Z : r.shape.Idx → Elt F .f32}
    (e : (fun x => s.x8 (r.idx x)) = Z) (h : Φ Z s) : Runs c A (Prog.lift (.load A.a8 r hl)) Φ s :=
  Runs.load_of (own_get_8 c A s) (e ▸ h)
theorem ld9 {s : St F} {r : LoadRect S2x128x16} {hl : A.a9.view.LoadsAt r} {Φ : (r.shape.Idx → Elt F .fp8e4m3) → St F → Prop} {Z : r.shape.Idx → Elt F .fp8e4m3}
    (e : (fun x => s.x9 (r.idx x)) = Z) (h : Φ Z s) : Runs c A (Prog.lift (.load A.a9 r hl)) Φ s :=
  Runs.load_of (own_get_9 c A s) (e ▸ h)
theorem ld10 {s : St F} {r : LoadRect S2x128} {hl : A.a10.view.LoadsAt r} {Φ : (r.shape.Idx → Elt F .f32) → St F → Prop} {Z : r.shape.Idx → Elt F .f32}
    (e : (fun x => s.x10 (r.idx x)) = Z) (h : Φ Z s) : Runs c A (Prog.lift (.load A.a10 r hl)) Φ s :=
  Runs.load_of (own_get_10 c A s) (e ▸ h)
theorem ld11 {s : St F} {r : LoadRect S1x128x1024} {hl : A.a11.view.LoadsAt r} {Φ : (r.shape.Idx → Elt F .bf16) → St F → Prop} {Z : r.shape.Idx → Elt F .bf16}
    (e : (fun x => s.x11 (r.idx x)) = Z) (h : Φ Z s) : Runs c A (Prog.lift (.load A.a11 r hl)) Φ s :=
  Runs.load_of (own_get_11 c A s) (e ▸ h)
theorem ld12 {s : St F} {r : LoadRect S16x1024} {hl : A.a12.view.LoadsAt r} {Φ : (r.shape.Idx → Elt F .f32) → St F → Prop} {Z : r.shape.Idx → Elt F .f32}
    (e : (fun x => s.x12 (r.idx x)) = Z) (h : Φ Z s) : Runs c A (Prog.lift (.load A.a12 r hl)) Φ s :=
  Runs.load_of (own_get_12 c A s) (e ▸ h)
theorem ld13 {s : St F} {r : LoadRect S1x1024} {hl : A.a13.view.LoadsAt r} {Φ : (r.shape.Idx → Elt F .f32) → St F → Prop} {Z : r.shape.Idx → Elt F .f32}
    (e : (fun x => s.x13 (r.idx x)) = Z) (h : Φ Z s) : Runs c A (Prog.lift (.load A.a13 r hl)) Φ s :=
  Runs.load_of (own_get_13 c A s) (e ▸ h)
theorem ld14 {s : St F} {r : LoadRect S1x1024} {hl : A.a14.view.LoadsAt r} {Φ : (r.shape.Idx → Elt F .f32) → St F → Prop} {Z : r.shape.Idx → Elt F .f32}
    (e : (fun x => s.x14 (r.idx x)) = Z) (h : Φ Z s) : Runs c A (Prog.lift (.load A.a14 r hl)) Φ s :=
  Runs.load_of (own_get_14 c A s) (e ▸ h)
theorem ld15 {s : St F} {r : LoadRect S2x128} {hl : A.a15.view.LoadsAt r} {Φ : (r.shape.Idx → Elt F .i32) → St F → Prop} {Z : r.shape.Idx → Elt F .i32}
    (e : (fun x => s.x15 (r.idx x)) = Z) (h : Φ Z s) : Runs c A (Prog.lift (.load A.a15 r hl)) Φ s :=
  Runs.load_of (own_get_15 c A s) (e ▸ h)
theorem ld16 {s : St F} {r : LoadRect S1x128x1024} {hl : A.a16.view.LoadsAt r} {Φ : (r.shape.Idx → Elt F .bf16) → St F → Prop} {Z : r.shape.Idx → Elt F .bf16}
    (e : (fun x => s.x16 (r.idx x)) = Z) (h : Φ Z s) : Runs c A (Prog.lift (.load A.a16 r hl)) Φ s :=
  Runs.load_of (own_get_16 c A s) (e ▸ h)
theorem ld17 {s : St F} {r : LoadRect S1x16x1024} {hl : A.a17.view.LoadsAt r} {Φ : (r.shape.Idx → Elt F .f32) → St F → Prop} {Z : r.shape.Idx → Elt F .f32}
    (e : (fun x => s.x17 (r.idx x)) = Z) (h : Φ Z s) : Runs c A (Prog.lift (.load A.a17 r hl)) Φ s :=
  Runs.load_of (own_get_17 c A s) (e ▸ h)
theorem ld18 {s : St F} {r : LoadRect S2x128x128} {hl : A.a18.view.LoadsAt r} {Φ : (r.shape.Idx → Elt F .f32) → St F → Prop} {Z : r.shape.Idx → Elt F .f32}
    (e : (fun x => s.x18 (r.idx x)) = Z) (h : Φ Z s) : Runs c A (Prog.lift (.load A.a18 r hl)) Φ s :=
  Runs.load_of (own_get_18 c A s) (e ▸ h)
theorem ld19 {s : St F} {r : LoadRect S2x128x128} {hl : A.a19.view.LoadsAt r} {Φ : (r.shape.Idx → Elt F .f32) → St F → Prop} {Z : r.shape.Idx → Elt F .f32}
    (e : (fun x => s.x19 (r.idx x)) = Z) (h : Φ Z s) : Runs c A (Prog.lift (.load A.a19 r hl)) Φ s :=
  Runs.load_of (own_get_19 c A s) (e ▸ h)
theorem ld20 {s : St F} {r : LoadRect S2x128x128} {hl : A.a20.view.LoadsAt r} {Φ : (r.shape.Idx → Elt F .f32) → St F → Prop} {Z : r.shape.Idx → Elt F .f32}
    (e : (fun x => s.x20 (r.idx x)) = Z) (h : Φ Z s) : Runs c A (Prog.lift (.load A.a20 r hl)) Φ s :=
  Runs.load_of (own_get_20 c A s) (e ▸ h)
theorem ld21 {s : St F} {r : LoadRect S2x128x16x128} {hl : A.a21.view.LoadsAt r} {Φ : (r.shape.Idx → Elt F .f32) → St F → Prop} {Z : r.shape.Idx → Elt F .f32}
    (e : (fun x => s.x21 (r.idx x)) = Z) (h : Φ Z s) : Runs c A (Prog.lift (.load A.a21 r hl)) Φ s :=
  Runs.load_of (own_get_21 c A s) (e ▸ h)
theorem ld22 {s : St F} {r : LoadRect S2x128x16x128} {hl : A.a22.view.LoadsAt r} {Φ : (r.shape.Idx → Elt F .f32) → St F → Prop} {Z : r.shape.Idx → Elt F .f32}
    (e : (fun x => s.x22 (r.idx x)) = Z) (h : Φ Z s) : Runs c A (Prog.lift (.load A.a22 r hl)) Φ s :=
  Runs.load_of (own_get_22 c A s) (e ▸ h)
theorem ld23 {s : St F} {r : LoadRect S2x16x1024} {hl : A.a23.view.LoadsAt r} {Φ : (r.shape.Idx → Elt F .f32) → St F → Prop} {Z : r.shape.Idx → Elt F .f32}
    (e : (fun x => s.x23 (r.idx x)) = Z) (h : Φ Z s) : Runs c A (Prog.lift (.load A.a23 r hl)) Φ s :=
  Runs.load_of (own_get_23 c A s) (e ▸ h)
theorem ld24 {s : St F} {r : LoadRect S8x128x128} {hl : A.a24.view.LoadsAt r} {Φ : (r.shape.Idx → Elt F .f32) → St F → Prop} {Z : r.shape.Idx → Elt F .f32}
    (e : (fun x => s.x24 (r.idx x)) = Z) (h : Φ Z s) : Runs c A (Prog.lift (.load A.a24 r hl)) Φ s :=
  Runs.load_of (own_get_24 c A s) (e ▸ h)
theorem ld25 {s : St F} {r : LoadRect S8x128x128} {hl : A.a25.view.LoadsAt r} {Φ : (r.shape.Idx → Elt F .f32) → St F → Prop} {Z : r.shape.Idx → Elt F .f32}
    (e : (fun x => s.x25 (r.idx x)) = Z) (h : Φ Z s) : Runs c A (Prog.lift (.load A.a25 r hl)) Φ s :=
  Runs.load_of (own_get_25 c A s) (e ▸ h)
theorem ld26 {s : St F} {r : LoadRect S8x128x128} {hl : A.a26.view.LoadsAt r} {Φ : (r.shape.Idx → Elt F .f32) → St F → Prop} {Z : r.shape.Idx → Elt F .f32}
    (e : (fun x => s.x26 (r.idx x)) = Z) (h : Φ Z s) : Runs c A (Prog.lift (.load A.a26 r hl)) Φ s :=
  Runs.load_of (own_get_26 c A s) (e ▸ h)
theorem ld27 {s : St F} {r : LoadRect S8x72x128} {hl : A.a27.view.LoadsAt r} {Φ : (r.shape.Idx → Elt F .f32) → St F → Prop} {Z : r.shape.Idx → Elt F .f32}
    (e : (fun x => s.x27 (r.idx x)) = Z) (h : Φ Z s) : Runs c A (Prog.lift (.load A.a27 r hl)) Φ s :=
  Runs.load_of (own_get_27 c A s) (e ▸ h)
theorem st16 {s : St F} {r : Rect S1x128x1024} {w : r.shape.Idx → Elt F .bf16} {hx : (A.a16.access r).Stores Finset.univ} {hm : Finset.univ = Finset.univ ∨ ∀ a, r.stride a = 1}
    {Φ : PUnit → St F → Prop} {Z : Vec F S1x128x1024 .bf16} (e : r.overlay s.x16 w = Z) (h : Φ ⟨⟩ { s with x16 := Z }) : Runs c A (Prog.lift (.store A.a16 r w Finset.univ hx hm)) Φ s :=
  Runs.store_of (own_split_16 c A s) (e ▸ h)
theorem st17 {s : St F} {r : Rect S1x16x1024} {w : r.shape.Idx → Elt F .f32} {hx : (A.a17.access r).Stores Finset.univ} {hm : Finset.univ = Finset.univ ∨ ∀ a, r.stride a = 1}
    {Φ : PUnit → St F → Prop} {Z : Vec F S1x16x1024 .f32} (e : r.overlay s.x17 w = Z) (h : Φ ⟨⟩ { s with x17 := Z }) : Runs c A (Prog.lift (.store A.a17 r w Finset.univ hx hm)) Φ s :=
  Runs.store_of (own_split_17 c A s) (e ▸ h)
theorem st18 {s : St F} {r : Rect S2x128x128} {w : r.shape.Idx → Elt F .f32} {hx : (A.a18.access r).Stores Finset.univ} {hm : Finset.univ = Finset.univ ∨ ∀ a, r.stride a = 1}
    {Φ : PUnit → St F → Prop} {Z : Vec F S2x128x128 .f32} (e : r.overlay s.x18 w = Z) (h : Φ ⟨⟩ { s with x18 := Z }) : Runs c A (Prog.lift (.store A.a18 r w Finset.univ hx hm)) Φ s :=
  Runs.store_of (own_split_18 c A s) (e ▸ h)
theorem st19 {s : St F} {r : Rect S2x128x128} {w : r.shape.Idx → Elt F .f32} {hx : (A.a19.access r).Stores Finset.univ} {hm : Finset.univ = Finset.univ ∨ ∀ a, r.stride a = 1}
    {Φ : PUnit → St F → Prop} {Z : Vec F S2x128x128 .f32} (e : r.overlay s.x19 w = Z) (h : Φ ⟨⟩ { s with x19 := Z }) : Runs c A (Prog.lift (.store A.a19 r w Finset.univ hx hm)) Φ s :=
  Runs.store_of (own_split_19 c A s) (e ▸ h)
theorem st20 {s : St F} {r : Rect S2x128x128} {w : r.shape.Idx → Elt F .f32} {hx : (A.a20.access r).Stores Finset.univ} {hm : Finset.univ = Finset.univ ∨ ∀ a, r.stride a = 1}
    {Φ : PUnit → St F → Prop} {Z : Vec F S2x128x128 .f32} (e : r.overlay s.x20 w = Z) (h : Φ ⟨⟩ { s with x20 := Z }) : Runs c A (Prog.lift (.store A.a20 r w Finset.univ hx hm)) Φ s :=
  Runs.store_of (own_split_20 c A s) (e ▸ h)
theorem st21 {s : St F} {r : Rect S2x128x16x128} {w : r.shape.Idx → Elt F .f32} {hx : (A.a21.access r).Stores Finset.univ} {hm : Finset.univ = Finset.univ ∨ ∀ a, r.stride a = 1}
    {Φ : PUnit → St F → Prop} {Z : Vec F S2x128x16x128 .f32} (e : r.overlay s.x21 w = Z) (h : Φ ⟨⟩ { s with x21 := Z }) : Runs c A (Prog.lift (.store A.a21 r w Finset.univ hx hm)) Φ s :=
  Runs.store_of (own_split_21 c A s) (e ▸ h)
theorem st22 {s : St F} {r : Rect S2x128x16x128} {w : r.shape.Idx → Elt F .f32} {hx : (A.a22.access r).Stores Finset.univ} {hm : Finset.univ = Finset.univ ∨ ∀ a, r.stride a = 1}
    {Φ : PUnit → St F → Prop} {Z : Vec F S2x128x16x128 .f32} (e : r.overlay s.x22 w = Z) (h : Φ ⟨⟩ { s with x22 := Z }) : Runs c A (Prog.lift (.store A.a22 r w Finset.univ hx hm)) Φ s :=
  Runs.store_of (own_split_22 c A s) (e ▸ h)
theorem st23 {s : St F} {r : Rect S2x16x1024} {w : r.shape.Idx → Elt F .f32} {hx : (A.a23.access r).Stores Finset.univ} {hm : Finset.univ = Finset.univ ∨ ∀ a, r.stride a = 1}
    {Φ : PUnit → St F → Prop} {Z : Vec F S2x16x1024 .f32} (e : r.overlay s.x23 w = Z) (h : Φ ⟨⟩ { s with x23 := Z }) : Runs c A (Prog.lift (.store A.a23 r w Finset.univ hx hm)) Φ s :=
  Runs.store_of (own_split_23 c A s) (e ▸ h)
theorem st24 {s : St F} {r : Rect S8x128x128} {w : r.shape.Idx → Elt F .f32} {hx : (A.a24.access r).Stores Finset.univ} {hm : Finset.univ = Finset.univ ∨ ∀ a, r.stride a = 1}
    {Φ : PUnit → St F → Prop} {Z : Vec F S8x128x128 .f32} (e : r.overlay s.x24 w = Z) (h : Φ ⟨⟩ { s with x24 := Z }) : Runs c A (Prog.lift (.store A.a24 r w Finset.univ hx hm)) Φ s :=
  Runs.store_of (own_split_24 c A s) (e ▸ h)
theorem st25 {s : St F} {r : Rect S8x128x128} {w : r.shape.Idx → Elt F .f32} {hx : (A.a25.access r).Stores Finset.univ} {hm : Finset.univ = Finset.univ ∨ ∀ a, r.stride a = 1}
    {Φ : PUnit → St F → Prop} {Z : Vec F S8x128x128 .f32} (e : r.overlay s.x25 w = Z) (h : Φ ⟨⟩ { s with x25 := Z }) : Runs c A (Prog.lift (.store A.a25 r w Finset.univ hx hm)) Φ s :=
  Runs.store_of (own_split_25 c A s) (e ▸ h)
theorem st26 {s : St F} {r : Rect S8x128x128} {w : r.shape.Idx → Elt F .f32} {hx : (A.a26.access r).Stores Finset.univ} {hm : Finset.univ = Finset.univ ∨ ∀ a, r.stride a = 1}
    {Φ : PUnit → St F → Prop} {Z : Vec F S8x128x128 .f32} (e : r.overlay s.x26 w = Z) (h : Φ ⟨⟩ { s with x26 := Z }) : Runs c A (Prog.lift (.store A.a26 r w Finset.univ hx hm)) Φ s :=
  Runs.store_of (own_split_26 c A s) (e ▸ h)
theorem st27 {s : St F} {r : Rect S8x72x128} {w : r.shape.Idx → Elt F .f32} {hx : (A.a27.access r).Stores Finset.univ} {hm : Finset.univ = Finset.univ ∨ ∀ a, r.stride a = 1}
    {Φ : PUnit → St F → Prop} {Z : Vec F S8x72x128 .f32} (e : r.overlay s.x27 w = Z) (h : Φ ⟨⟩ { s with x27 := Z }) : Runs c A (Prog.lift (.store A.a27 r w Finset.univ hx hm)) Φ s :=
  Runs.store_of (own_split_27 c A s) (e ▸ h)

namespace Trip
variable {X : Trip F}
theorem st27 {Y : Vec F S8x72x128 .f32} {W : Vec F S1x128x1024 .bf16} {r : Rect S8x72x128} {w : r.shape.Idx → Elt F .f32} {hx : (A.a27.access r).Stores Finset.univ} {hm : Finset.univ = Finset.univ ∨ ∀ a, r.stride a = 1}
    {Φ : PUnit → St F → Prop} {Z : Vec F S8x72x128 .f32} (e : r.overlay Y w = Z) (h : Φ ⟨⟩ (X.at' Z W)) : Runs c A (Prog.lift (.store A.a27 r w Finset.univ hx hm)) Φ (X.at' Y W) :=
  Scan.st27 e h
theorem st16 {Y : Vec F S8x72x128 .f32} {W : Vec F S1x128x1024 .bf16} {r : Rect S1x128x1024} {w : r.shape.Idx → Elt F .bf16} {hx : (A.a16.access r).Stores Finset.univ} {hm : Finset.univ = Finset.univ ∨ ∀ a, r.stride a = 1}
    {Φ : PUnit → St F → Prop} {Z : Vec F S1x128x1024 .bf16} (e : r.overlay W w = Z) (h : Φ ⟨⟩ (X.at' Y Z)) : Runs c A (Prog.lift (.store A.a16 r w Finset.univ hx hm)) Φ (X.at' Y W) :=
  Scan.st16 e h
end Trip

/-- What has been put in the slab by its first `n` stores. -/
theorem Trip.slab_read {X : Trip F} {Y : Vec F S8x72x128 .f32} {n j s i l : ℕ} (hn : 8 * s + j < n) (hn' : n ≤ 64) (hj : j < 8) (hs : s < 8) (hi : i < 8) (hl : l < 128) :
    X.slab Y n (pt ![j, 9 * i + s, l]) = X.P j s (pt ![i, l]) := by
  induction n with
  | zero => omega
  | succ n ih =>
    have v0 : ((pt (s := S8x72x128) ![j, 9 * i + s, l]) 0).val = j := pt_val (a := 0) (show j < 8 from hj)
    have v1 : ((pt (s := S8x72x128) ![j, 9 * i + s, l]) 1).val = 9 * i + s := pt_val (a := 1) (show 9 * i + s < 72 by omega)
    have v2 : ((pt (s := S8x72x128) ![j, 9 * i + s, l]) 2).val = l := pt_val (a := 2) (show l < 128 from hl)
    show put27 (X.slab Y n) (n % 8) (n / 8) _ _ = _
    unfold put27
    rw [v0, v1, v2]
    split
    · rename_i h
      have e1 : n % 8 = j := by omega
      have e2 : n / 8 = s := by omega
      rw [e1, e2, show (9 * i + s) / 9 = i by omega]
      refine (shapeCast_addUnit_apply S8x128.size _ _ _).trans (congrArg _ (funext fun a => Fin.ext ?_))
      match a with
      | ⟨0, _⟩ => rfl
      | ⟨1, _⟩ => rfl
    · rename_i h
      refine ih ?_ (by omega)
      omega

theorem Trip.e_r {X : Trip F} {Y : Vec F S8x72x128 .f32} {j i : ℕ} {o : Fin 3 → ℕ} {inb} (hj : j < 8) (hi : i < 8) (ho : o = ![j, 9 * i, 0]) :
    (fun x => X.slab Y 64 ((Rect.unit (s := S8x72x128) o S1x8x128.size inb).toLoadRect.idx x)) = X.r j i := by
  rw [tile_eq ho]
  funext x
  have h0 : (x 0).val = 0 := Nat.lt_one_iff.mp (x 0).isLt
  refine Eq.trans (congrArg (X.slab Y 64) (congrArg pt (funext fun a => ?_))) (Trip.slab_read (n := 64) (by have : (x 1).val < 8 := (x 1).isLt; omega) le_rfl hj (x 1).isLt hi (x 2).isLt)
  match a with
  | ⟨0, _⟩ => show j + (x 0).val = j; omega
  | ⟨1, _⟩ => rfl
  | ⟨2, _⟩ => show 0 + (x 2).val = (x 2).val; omega

end Cert.KernelIdeal.Scan

end
-- ==== Proof.ScanI.Defs.lean ====
/- What the first grid point prepares. -/
module

public import proofs.«01_k».proof.Proof.ScanI.Rules

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The contents of the scratch buffers after the first grid point's preparation -/

/-- One row of the scales of `x`, of `delta`, of `B`, of `C`, and of the flags; one batch of `B` and of `C`. -/
def rx (S : St F) (b : ℕ) : Vec F S1x128 .f32 := tile S.x4 S1x128.size ![b, 0]
def rd (S : St F) (b : ℕ) : Vec F S1x128 .f32 := tile S.x6 S1x128.size ![b, 0]
def rf (S : St F) (b : ℕ) : Vec F S1x128 .i32 := tile S.x15 S1x128.size ![b, 0]
def mB (S : St F) (b : ℕ) : Vec F S1x128x16 .fp8e4m3 := tile S.x7 S1x128x16.size ![b, 0, 0]
def rB (S : St F) (b : ℕ) : Vec F S1x128 .f32 := tile S.x8 S1x128.size ![b, 0]
def mC (S : St F) (b : ℕ) : Vec F S1x128x16 .fp8e4m3 := tile S.x9 S1x128x16.size ![b, 0, 0]
def rC (S : St F) (b : ℕ) : Vec F S1x128 .f32 := tile S.x10 S1x128.size ![b, 0]

/-- `B` and `C` of one batch with their scales multiplied in, tokens along lanes. -/
def tB (S : St F) (b : ℕ) : FVec F S16x128 .f32 := k0_pay7 (mB S b) (rB S b)
def tC (S : St F) (b : ℕ) : FVec F S16x128 .f32 := k0_pay7 (mC S b) (rC S b)

/-- Column `n`, spread over the lanes. -/
def colOf (f : FVec F S16x128 .f32) (n : ℕ) : FVec F S1x1x16x128 .f32 :=
  if h : S16x128.Slices ![0, n] S16x1 then
    shapeCast S1x1x16x128 (broadcastTo S16x128 (shapeCast S16x1 (extractStridedSlice S16x1 ![0, n] f h) shapeCasts_S16x1_S16x1) broadcasts_S16x1_S16x128) shapeCasts_S16x128_S1x1x16x128
  else shapeCast S1x1x16x128 f shapeCasts_S16x128_S1x1x16x128

/-- The five scratch buffers after so many of their stores. -/
def sx (S : St F) : ℕ → Vec F S2x128x128 .f32
  | 0 => S.x18
  | n + 1 => put (sx S n) S1x128x128.size ![n, 0, 0] (k0_pay4 (rx S n))
def sd (S : St F) : ℕ → Vec F S2x128x128 .f32
  | 0 => S.x19
  | n + 1 => put (sd S n) S1x128x128.size ![n, 0, 0] (k0_pay5 (rd S n))
def sf (S : St F) : ℕ → Vec F S2x128x128 .f32
  | 0 => S.x20
  | n + 1 => put (sf S n) S1x128x128.size ![n, 0, 0] (k0_pay6 (rf S n))
def sB (S : St F) : ℕ → Vec F S2x128x16x128 .f32
  | 0 => S.x21
  | n + 1 => put (sB S n) S1x1x16x128.size ![n / 128, n % 128, 0, 0] (colOf (tB S (n / 128)) (n % 128))
def sC (S : St F) : ℕ → Vec F S2x128x16x128 .f32
  | 0 => S.x22
  | n + 1 => put (sC S n) S1x1x16x128.size ![n / 128, n % 128, 0, 0] (colOf (tC S (n / 128)) (n % 128))

/-- The contents with those five buffers so far written. -/
def iniS (S : St F) (a b c n m : ℕ) : St F := { S with x18 := sx S a, x19 := sd S b, x20 := sf S c, x21 := sB S n, x22 := sC S m }

section
variable {S : St F} {c : Dev nD} {A : Args} {p q r n m : ℕ}

theorem e_x (b : ℕ) {inb : ∀ a, (![b, 0, 0] : Fin 3 → ℕ) a + S1x128x128.size a ≤ S2x128x128.size a} :
    (Rect.unit (s := S2x128x128) ![b, 0, 0] S1x128x128.size inb).overlay (sx S b) (k0_pay4 (rx S b)) = sx S (b + 1) := put_eq rfl
theorem e_dt (b : ℕ) {inb : ∀ a, (![b, 0, 0] : Fin 3 → ℕ) a + S1x128x128.size a ≤ S2x128x128.size a} :
    (Rect.unit (s := S2x128x128) ![b, 0, 0] S1x128x128.size inb).overlay (sd S b) (k0_pay5 (rd S b)) = sd S (b + 1) := put_eq rfl
theorem e_f (b : ℕ) {inb : ∀ a, (![b, 0, 0] : Fin 3 → ℕ) a + S1x128x128.size a ≤ S2x128x128.size a} :
    (Rect.unit (s := S2x128x128) ![b, 0, 0] S1x128x128.size inb).overlay (sf S b) (k0_pay6 (rf S b)) = sf S (b + 1) := put_eq rfl

theorem e_B (N b n : ℕ) (hN : N = 128 * b + n) (hn : n < 128) {h : S16x128.Slices ![0, n] S16x1} {inb : ∀ a, (![b, n, 0, 0] : Fin 4 → ℕ) a + S1x1x16x128.size a ≤ S2x128x16x128.size a} :
    (Rect.unit (s := S2x128x16x128) ![b, n, 0, 0] S1x1x16x128.size inb).overlay (sB S N)
      (shapeCast S1x1x16x128 (broadcastTo S16x128 (shapeCast S16x1 (extractStridedSlice S16x1 ![0, n] (tB S b) h) shapeCasts_S16x1_S16x1) broadcasts_S16x1_S16x128) shapeCasts_S16x128_S1x1x16x128) = sB S (N + 1) := by
  have h1 : N / 128 = b := by omega
  have h2 : N % 128 = n := by omega
  show _ = put (sB S N) S1x1x16x128.size ![N / 128, N % 128, 0, 0] (colOf (tB S (N / 128)) (N % 128))
  rw [h1, h2]
  unfold colOf
  rw [dif_pos h]
  exact put_eq rfl
theorem e_C (N b n : ℕ) (hN : N = 128 * b + n) (hn : n < 128) {h : S16x128.Slices ![0, n] S16x1} {inb : ∀ a, (![b, n, 0, 0] : Fin 4 → ℕ) a + S1x1x16x128.size a ≤ S2x128x16x128.size a} :
    (Rect.unit (s := S2x128x16x128) ![b, n, 0, 0] S1x1x16x128.size inb).overlay (sC S N)
      (shapeCast S1x1x16x128 (broadcastTo S16x128 (shapeCast S16x1 (extractStridedSlice S16x1 ![0, n] (tC S b) h) shapeCasts_S16x1_S16x1) broadcasts_S16x1_S16x128) shapeCasts_S16x128_S1x1x16x128) = sC S (N + 1) := by
  have h1 : N / 128 = b := by omega
  have h2 : N % 128 = n := by omega
  show _ = put (sC S N) S1x1x16x128.size ![N / 128, N % 128, 0, 0] (colOf (tC S (N / 128)) (N % 128))
  rw [h1, h2]
  unfold colOf
  rw [dif_pos h]
  exact put_eq rfl

theorem Ini.st18 {t : ℕ} {r' : Rect S2x128x128} {w : r'.shape.Idx → Elt F .f32} {hx : (A.a18.access r').Stores Finset.univ} {hm : Finset.univ = Finset.univ ∨ ∀ a, r'.stride a = 1}
    {Φ : PUnit → St F → Prop} (e : r'.overlay (sx S p) w = sx S t) (h : Φ ⟨⟩ (iniS S t q r n m)) : Runs c A (Prog.lift (.store A.a18 r' w Finset.univ hx hm)) Φ (iniS S p q r n m) :=
  Scan.st18 e h

theorem Ini.st19 {t : ℕ} {r' : Rect S2x128x128} {w : r'.shape.Idx → Elt F .f32} {hx : (A.a19.access r').Stores Finset.univ} {hm : Finset.univ = Finset.univ ∨ ∀ a, r'.stride a = 1}
    {Φ : PUnit → St F → Prop} (e : r'.overlay (sd S q) w = sd S t) (h : Φ ⟨⟩ (iniS S p t r n m)) : Runs c A (Prog.lift (.store A.a19 r' w Finset.univ hx hm)) Φ (iniS S p q r n m) :=
  Scan.st19 e h

theorem Ini.st20 {t : ℕ} {r' : Rect S2x128x128} {w : r'.shape.Idx → Elt F .f32} {hx : (A.a20.access r').Stores Finset.univ} {hm : Finset.univ = Finset.univ ∨ ∀ a, r'.stride a = 1}
    {Φ : PUnit → St F → Prop} (e : r'.overlay (sf S r) w = sf S t) (h : Φ ⟨⟩ (iniS S p q t n m)) : Runs c A (Prog.lift (.store A.a20 r' w Finset.univ hx hm)) Φ (iniS S p q r n m) :=
  Scan.st20 e h

theorem Ini.st21 {t : ℕ} {r' : Rect S2x128x16x128} {w : r'.shape.Idx → Elt F .f32} {hx : (A.a21.access r').Stores Finset.univ} {hm : Finset.univ = Finset.univ ∨ ∀ a, r'.stride a = 1}
    {Φ : PUnit → St F → Prop} (e : r'.overlay (sB S n) w = sB S t) (h : Φ ⟨⟩ (iniS S p q r t m)) : Runs c A (Prog.lift (.store A.a21 r' w Finset.univ hx hm)) Φ (iniS S p q r n m) :=
  Scan.st21 e h

theorem Ini.st22 {t : ℕ} {r' : Rect S2x128x16x128} {w : r'.shape.Idx → Elt F .f32} {hx : (A.a22.access r').Stores Finset.univ} {hm : Finset.univ = Finset.univ ∨ ∀ a, r'.stride a = 1}
    {Φ : PUnit → St F → Prop} (e : r'.overlay (sC S m) w = sC S t) (h : Φ ⟨⟩ (iniS S p q r n t)) : Runs c A (Prog.lift (.store A.a22 r' w Finset.univ hx hm)) Φ (iniS S p q r n m) :=
  Scan.st22 e h
end

end Cert.KernelIdeal.Scan

end
-- ==== Proof.ScanI.Ini1.lean ====
/- What parts of the preparation compute. -/
module

public import proofs.«01_k».proof.Proof.ScanI.Defs

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {S : St F} {i : grid0.Coords}

theorem val_1 {Φ} (hΦ : Φ ⟨tB S 0, broadcastTo S16x128 (shapeCast S16x1 (extractStridedSlice S16x1 ![0, 0] (tB S 0) slices_S16x128_o0_0_S16x1) shapeCasts_S16x1_S16x1) broadcasts_S16x1_S16x128⟩ (iniS S 1 1 1 0 0)) :
    Runs c A (ap A (k0_part1 (F := F) i)) Φ (iniS S 0 0 0 0 0) := by
  rw [k0_part1_eq_skeleton]; unfold ap k0_part1_skel
  refine Runs.bind (ld4 (Z := rx S 0) (tile_eq rfl) ?_)
  refine Runs.bind (ld18 rfl ?_)
  refine Runs.bind (Ini.st18 (t := 1) (e_x 0) ?_)
  refine Runs.bind (ld6 (Z := rd S 0) (tile_eq rfl) ?_)
  refine Runs.bind (ld19 rfl ?_)
  refine Runs.bind (Ini.st19 (t := 1) (e_dt 0) ?_)
  refine Runs.bind (ld15 (Z := rf S 0) (tile_eq rfl) ?_)
  refine Runs.bind (ld20 rfl ?_)
  refine Runs.bind (Ini.st20 (t := 1) (e_f 0) ?_)
  refine Runs.bind (ld7 (Z := mB S 0) (tile_eq rfl) ?_)
  refine Runs.bind (ld8 (Z := rB S 0) (tile_eq rfl) ?_)
  exact Runs.pure hΦ

theorem val_2 {Φ} (hΦ : Φ (extractStridedSlice S16x1 ![0, 6] (tB S 0) slices_S16x128_o0_6_S16x1) (iniS S 1 1 1 6 0)) :
    Runs c A (ap A (k0_part2 (F := F) i) (tB S 0) (broadcastTo S16x128 (shapeCast S16x1 (extractStridedSlice S16x1 ![0, 0] (tB S 0) slices_S16x128_o0_0_S16x1) shapeCasts_S16x1_S16x1) broadcasts_S16x1_S16x128)) Φ (iniS S 1 1 1 0 0) := by
  rw [k0_part2_eq_skeleton]; unfold ap k0_part2_skel
  refine Runs.bind (ld21 rfl ?_)
  refine Runs.bind (Ini.st21 (t := 1) (e_B 0 0 0 rfl (by decide) (h := slices_S16x128_o0_0_S16x1)) ?_)
  refine Runs.bind (ld21 rfl ?_)
  refine Runs.bind (Ini.st21 (t := 2) (e_B 1 0 1 rfl (by decide) (h := slices_S16x128_o0_1_S16x1)) ?_)
  refine Runs.bind (ld21 rfl ?_)
  refine Runs.bind (Ini.st21 (t := 3) (e_B 2 0 2 rfl (by decide) (h := slices_S16x128_o0_2_S16x1)) ?_)
  refine Runs.bind (ld21 rfl ?_)
  refine Runs.bind (Ini.st21 (t := 4) (e_B 3 0 3 rfl (by decide) (h := slices_S16x128_o0_3_S16x1)) ?_)
  refine Runs.bind (ld21 rfl ?_)
  refine Runs.bind (Ini.st21 (t := 5) (e_B 4 0 4 rfl (by decide) (h := slices_S16x128_o0_4_S16x1)) ?_)
  refine Runs.bind (ld21 rfl ?_)
  refine Runs.bind (Ini.st21 (t := 6) (e_B 5 0 5 rfl (by decide) (h := slices_S16x128_o0_5_S16x1)) ?_)
  exact Runs.pure hΦ

theorem val_3 {Φ} (hΦ : Φ (broadcastTo S16x128 (shapeCast S16x1 (extractStridedSlice S16x1 ![0, 11] (tB S 0) slices_S16x128_o0_11_S16x1) shapeCasts_S16x1_S16x1) broadcasts_S16x1_S16x128) (iniS S 1 1 1 11 0)) :
    Runs c A (ap A (k0_part3 (F := F) i) (tB S 0) (extractStridedSlice S16x1 ![0, 6] (tB S 0) slices_S16x128_o0_6_S16x1)) Φ (iniS S 1 1 1 6 0) := by
  rw [k0_part3_eq_skeleton]; unfold ap k0_part3_skel
  refine Runs.bind (ld21 rfl ?_)
  refine Runs.bind (Ini.st21 (t := 7) (e_B 6 0 6 rfl (by decide) (h := slices_S16x128_o0_6_S16x1)) ?_)
  refine Runs.bind (ld21 rfl ?_)
  refine Runs.bind (Ini.st21 (t := 8) (e_B 7 0 7 rfl (by decide) (h := slices_S16x128_o0_7_S16x1)) ?_)
  refine Runs.bind (ld21 rfl ?_)
  refine Runs.bind (Ini.st21 (t := 9) (e_B 8 0 8 rfl (by decide) (h := slices_S16x128_o0_8_S16x1)) ?_)
  refine Runs.bind (ld21 rfl ?_)
  refine Runs.bind (Ini.st21 (t := 10) (e_B 9 0 9 rfl (by decide) (h := slices_S16x128_o0_9_S16x1)) ?_)
  refine Runs.bind (ld21 rfl ?_)
  refine Runs.bind (Ini.st21 (t := 11) (e_B 10 0 10 rfl (by decide) (h := slices_S16x128_o0_10_S16x1)) ?_)
  exact Runs.pure hΦ

theorem val_4 {Φ} (hΦ : Φ PUnit.unit (iniS S 1 1 1 17 0)) :
    Runs c A (ap A (k0_part4 (F := F) i) (tB S 0) (broadcastTo S16x128 (shapeCast S16x1 (extractStridedSlice S16x1 ![0, 11] (tB S 0) slices_S16x128_o0_11_S16x1) shapeCasts_S16x1_S16x1) broadcasts_S16x1_S16x128)) Φ (iniS S 1 1 1 11 0) := by
  rw [k0_part4_eq_skeleton]; unfold ap k0_part4_skel
  refine Runs.bind (ld21 rfl ?_)
  refine Runs.bind (Ini.st21 (t := 12) (e_B 11 0 11 rfl (by decide) (h := slices_S16x128_o0_11_S16x1)) ?_)
  refine Runs.bind (ld21 rfl ?_)
  refine Runs.bind (Ini.st21 (t := 13) (e_B 12 0 12 rfl (by decide) (h := slices_S16x128_o0_12_S16x1)) ?_)
  refine Runs.bind (ld21 rfl ?_)
  refine Runs.bind (Ini.st21 (t := 14) (e_B 13 0 13 rfl (by decide) (h := slices_S16x128_o0_13_S16x1)) ?_)
  refine Runs.bind (ld21 rfl ?_)
  refine Runs.bind (Ini.st21 (t := 15) (e_B 14 0 14 rfl (by decide) (h := slices_S16x128_o0_14_S16x1)) ?_)
  refine Runs.bind (ld21 rfl ?_)
  refine Runs.bind (Ini.st21 (t := 16) (e_B 15 0 15 rfl (by decide) (h := slices_S16x128_o0_15_S16x1)) ?_)
  refine Runs.bind (ld21 rfl ?_)
  refine Runs.bind (Ini.st21 (t := 17) (e_B 16 0 16 rfl (by decide) (h := slices_S16x128_o0_16_S16x1)) ?_)
  exact Runs.pure hΦ

theorem val_5 {Φ} (hΦ : Φ (broadcastTo S16x128 (shapeCast S16x1 (extractStridedSlice S16x1 ![0, 22] (tB S 0) slices_S16x128_o0_22_S16x1) shapeCasts_S16x1_S16x1) broadcasts_S16x1_S16x128) (iniS S 1 1 1 22 0)) :
    Runs c A (ap A (k0_part5 (F := F) i) (tB S 0)) Φ (iniS S 1 1 1 17 0) := by
  rw [k0_part5_eq_skeleton]; unfold ap k0_part5_skel
  refine Runs.bind (ld21 rfl ?_)
  refine Runs.bind (Ini.st21 (t := 18) (e_B 17 0 17 rfl (by decide) (h := slices_S16x128_o0_17_S16x1)) ?_)
  refine Runs.bind (ld21 rfl ?_)
  refine Runs.bind (Ini.st21 (t := 19) (e_B 18 0 18 rfl (by decide) (h := slices_S16x128_o0_18_S16x1)) ?_)
  refine Runs.bind (ld21 rfl ?_)
  refine Runs.bind (Ini.st21 (t := 20) (e_B 19 0 19 rfl (by decide) (h := slices_S16x128_o0_19_S16x1)) ?_)
  refine Runs.bind (ld21 rfl ?_)
  refine Runs.bind (Ini.st21 (t := 21) (e_B 20 0 20 rfl (by decide) (h := slices_S16x128_o0_20_S16x1)) ?_)
  refine Runs.bind (ld21 rfl ?_)
  refine Runs.bind (Ini.st21 (t := 22) (e_B 21 0 21 rfl (by decide) (h := slices_S16x128_o0_21_S16x1)) ?_)
  exact Runs.pure hΦ

theorem val_6 {Φ} (hΦ : Φ (shapeCast S1x1x16x128 (broadcastTo S16x128 (shapeCast S16x1 (extractStridedSlice S16x1 ![0, 27] (tB S 0) slices_S16x128_o0_27_S16x1) shapeCasts_S16x1_S16x1) broadcasts_S16x1_S16x128) shapeCasts_S16x128_S1x1x16x128) (iniS S 1 1 1 27 0)) :
    Runs c A (ap A (k0_part6 (F := F) i) (tB S 0) (broadcastTo S16x128 (shapeCast S16x1 (extractStridedSlice S16x1 ![0, 22] (tB S 0) slices_S16x128_o0_22_S16x1) shapeCasts_S16x1_S16x1) broadcasts_S16x1_S16x128)) Φ (iniS S 1 1 1 22 0) := by
  rw [k0_part6_eq_skeleton]; unfold ap k0_part6_skel
  refine Runs.bind (ld21 rfl ?_)
  refine Runs.bind (Ini.st21 (t := 23) (e_B 22 0 22 rfl (by decide) (h := slices_S16x128_o0_22_S16x1)) ?_)
  refine Runs.bind (ld21 rfl ?_)
  refine Runs.bind (Ini.st21 (t := 24) (e_B 23 0 23 rfl (by decide) (h := slices_S16x128_o0_23_S16x1)) ?_)
  refine Runs.bind (ld21 rfl ?_)
  refine Runs.bind (Ini.st21 (t := 25) (e_B 24 0 24 rfl (by decide) (h := slices_S16x128_o0_24_S16x1)) ?_)
  refine Runs.bind (ld21 rfl ?_)
  refine Runs.bind (Ini.st21 (t := 26) (e_B 25 0 25 rfl (by decide) (h := slices_S16x128_o0_25_S16x1)) ?_)
  refine Runs.bind (ld21 rfl ?_)
  refine Runs.bind (Ini.st21 (t := 27) (e_B 26 0 26 rfl (by decide) (h := slices_S16x128_o0_26_S16x1)) ?_)
  refine Runs.bind (ld21 rfl ?_)
  exact Runs.pure hΦ

theorem val_7 {Φ} (hΦ : Φ (broadcastTo S16x128 (shapeCast S16x1 (extractStridedSlice S16x1 ![0, 33] (tB S 0) slices_S16x128_o0_33_S16x1) shapeCasts_S16x1_S16x1) broadcasts_S16x1_S16x128) (iniS S 1 1 1 33 0)) :
    Runs c A (ap A (k0_part7 (F := F) i) (tB S 0) (shapeCast S1x1x16x128 (broadcastTo S16x128 (shapeCast S16x1 (extractStridedSlice S16x1 ![0, 27] (tB S 0) slices_S16x128_o0_27_S16x1) shapeCasts_S16x1_S16x1) broadcasts_S16x1_S16x128) shapeCasts_S16x128_S1x1x16x128)) Φ (iniS S 1 1 1 27 0) := by
  rw [k0_part7_eq_skeleton]; unfold ap k0_part7_skel
  refine Runs.bind (Ini.st21 (t := 28) (e_B 27 0 27 rfl (by decide) (h := slices_S16x128_o0_27_S16x1)) ?_)
  refine Runs.bind (ld21 rfl ?_)
  refine Runs.bind (Ini.st21 (t := 29) (e_B 28 0 28 rfl (by decide) (h := slices_S16x128_o0_28_S16x1)) ?_)
  refine Runs.bind (ld21 rfl ?_)
  refine Runs.bind (Ini.st21 (t := 30) (e_B 29 0 29 rfl (by decide) (h := slices_S16x128_o0_29_S16x1)) ?_)
  refine Runs.bind (ld21 rfl ?_)
  refine Runs.bind (Ini.st21 (t := 31) (e_B 30 0 30 rfl (by decide) (h := slices_S16x128_o0_30_S16x1)) ?_)
  refine Runs.bind (ld21 rfl ?_)
  refine Runs.bind (Ini.st21 (t := 32) (e_B 31 0 31 rfl (by decide) (h := slices_S16x128_o0_31_S16x1)) ?_)
  refine Runs.bind (ld21 rfl ?_)
  refine Runs.bind (Ini.st21 (t := 33) (e_B 32 0 32 rfl (by decide) (h := slices_S16x128_o0_32_S16x1)) ?_)
  exact Runs.pure hΦ

theorem val_8 {Φ} (hΦ : Φ (broadcastTo S16x128 (shapeCast S16x1 (extractStridedSlice S16x1 ![0, 38] (tB S 0) slices_S16x128_o0_38_S16x1) shapeCasts_S16x1_S16x1) broadcasts_S16x1_S16x128) (iniS S 1 1 1 38 0)) :
    Runs c A (ap A (k0_part8 (F := F) i) (tB S 0) (broadcastTo S16x128 (shapeCast S16x1 (extractStridedSlice S16x1 ![0, 33] (tB S 0) slices_S16x128_o0_33_S16x1) shapeCasts_S16x1_S16x1) broadcasts_S16x1_S16x128)) Φ (iniS S 1 1 1 33 0) := by
  rw [k0_part8_eq_skeleton]; unfold ap k0_part8_skel
  refine Runs.bind (ld21 rfl ?_)
  refine Runs.bind (Ini.st21 (t := 34) (e_B 33 0 33 rfl (by decide) (h := slices_S16x128_o0_33_S16x1)) ?_)
  refine Runs.bind (ld21 rfl ?_)
  refine Runs.bind (Ini.st21 (t := 35) (e_B 34 0 34 rfl (by decide) (h := slices_S16x128_o0_34_S16x1)) ?_)
  refine Runs.bind (ld21 rfl ?_)
  refine Runs.bind (Ini.st21 (t := 36) (e_B 35 0 35 rfl (by decide) (h := slices_S16x128_o0_35_S16x1)) ?_)
  refine Runs.bind (ld21 rfl ?_)
  refine Runs.bind (Ini.st21 (t := 37) (e_B 36 0 36 rfl (by decide) (h := slices_S16x128_o0_36_S16x1)) ?_)
  refine Runs.bind (ld21 rfl ?_)
  refine Runs.bind (Ini.st21 (t := 38) (e_B 37 0 37 rfl (by decide) (h := slices_S16x128_o0_37_S16x1)) ?_)
  refine Runs.bind (ld21 rfl ?_)
  exact Runs.pure hΦ

theorem val_9 {Φ} (hΦ : Φ (broadcastTo S16x128 (shapeCast S16x1 (extractStridedSlice S16x1 ![0, 44] (tB S 0) slices_S16x128_o0_44_S16x1) shapeCasts_S16x1_S16x1) broadcasts_S16x1_S16x128) (iniS S 1 1 1 44 0)) :
    Runs c A (ap A (k0_part9 (F := F) i) (tB S 0) (broadcastTo S16x128 (shapeCast S16x1 (extractStridedSlice S16x1 ![0, 38] (tB S 0) slices_S16x128_o0_38_S16x1) shapeCasts_S16x1_S16x1) broadcasts_S16x1_S16x128)) Φ (iniS S 1 1 1 38 0) := by
  rw [k0_part9_eq_skeleton]; unfold ap k0_part9_skel
  refine Runs.bind (Ini.st21 (t := 39) (e_B 38 0 38 rfl (by decide) (h := slices_S16x128_o0_38_S16x1)) ?_)
  refine Runs.bind (ld21 rfl ?_)
  refine Runs.bind (Ini.st21 (t := 40) (e_B 39 0 39 rfl (by decide) (h := slices_S16x128_o0_39_S16x1)) ?_)
  refine Runs.bind (ld21 rfl ?_)
  refine Runs.bind (Ini.st21 (t := 41) (e_B 40 0 40 rfl (by decide) (h := slices_S16x128_o0_40_S16x1)) ?_)
  refine Runs.bind (ld21 rfl ?_)
  refine Runs.bind (Ini.st21 (t := 42) (e_B 41 0 41 rfl (by decide) (h := slices_S16x128_o0_41_S16x1)) ?_)
  refine Runs.bind (ld21 rfl ?_)
  refine Runs.bind (Ini.st21 (t := 43) (e_B 42 0 42 rfl (by decide) (h := slices_S16x128_o0_42_S16x1)) ?_)
  refine Runs.bind (ld21 rfl ?_)
  refine Runs.bind (Ini.st21 (t := 44) (e_B 43 0 43 rfl (by decide) (h := slices_S16x128_o0_43_S16x1)) ?_)
  exact Runs.pure hΦ

theorem val_10 {Φ} (hΦ : ∀ b0, Φ ⟨broadcastTo S16x128 (shapeCast S16x1 (extractStridedSlice S16x1 ![0, 49] (tB S 0) slices_S16x128_o0_49_S16x1) shapeCasts_S16x1_S16x1) broadcasts_S16x1_S16x128, b0⟩ (iniS S 1 1 1 49 0)) :
    Runs c A (ap A (k0_part10 (F := F) i) (tB S 0) (broadcastTo S16x128 (shapeCast S16x1 (extractStridedSlice S16x1 ![0, 44] (tB S 0) slices_S16x128_o0_44_S16x1) shapeCasts_S16x1_S16x1) broadcasts_S16x1_S16x128)) Φ (iniS S 1 1 1 44 0) := by
  rw [k0_part10_eq_skeleton]; unfold ap k0_part10_skel
  refine Runs.bind (ld21 rfl ?_)
  refine Runs.bind (Ini.st21 (t := 45) (e_B 44 0 44 rfl (by decide) (h := slices_S16x128_o0_44_S16x1)) ?_)
  refine Runs.bind (ld21 rfl ?_)
  refine Runs.bind (Ini.st21 (t := 46) (e_B 45 0 45 rfl (by decide) (h := slices_S16x128_o0_45_S16x1)) ?_)
  refine Runs.bind (ld21 rfl ?_)
  refine Runs.bind (Ini.st21 (t := 47) (e_B 46 0 46 rfl (by decide) (h := slices_S16x128_o0_46_S16x1)) ?_)
  refine Runs.bind (ld21 rfl ?_)
  refine Runs.bind (Ini.st21 (t := 48) (e_B 47 0 47 rfl (by decide) (h := slices_S16x128_o0_47_S16x1)) ?_)
  refine Runs.bind (ld21 rfl ?_)
  refine Runs.bind (Ini.st21 (t := 49) (e_B 48 0 48 rfl (by decide) (h := slices_S16x128_o0_48_S16x1)) ?_)
  refine Runs.bind (ld21 rfl ?_)
  exact Runs.pure (hΦ _)

theorem val_11 (v826 : Vec F S1x1x16x128 .f32) {Φ} (hΦ : Φ (shapeCast S16x1 (extractStridedSlice S16x1 ![0, 55] (tB S 0) slices_S16x128_o0_55_S16x1) shapeCasts_S16x1_S16x1) (iniS S 1 1 1 55 0)) :
    Runs c A (ap A (k0_part11 (F := F) i) (tB S 0) (broadcastTo S16x128 (shapeCast S16x1 (extractStridedSlice S16x1 ![0, 49] (tB S 0) slices_S16x128_o0_49_S16x1) shapeCasts_S16x1_S16x1) broadcasts_S16x1_S16x128) v826) Φ (iniS S 1 1 1 49 0) := by
  rw [k0_part11_eq_skeleton]; unfold ap k0_part11_skel
  refine Runs.bind (Ini.st21 (t := 50) (e_B 49 0 49 rfl (by decide) (h := slices_S16x128_o0_49_S16x1)) ?_)
  refine Runs.bind (ld21 rfl ?_)
  refine Runs.bind (Ini.st21 (t := 51) (e_B 50 0 50 rfl (by decide) (h := slices_S16x128_o0_50_S16x1)) ?_)
  refine Runs.bind (ld21 rfl ?_)
  refine Runs.bind (Ini.st21 (t := 52) (e_B 51 0 51 rfl (by decide) (h := slices_S16x128_o0_51_S16x1)) ?_)
  refine Runs.bind (ld21 rfl ?_)
  refine Runs.bind (Ini.st21 (t := 53) (e_B 52 0 52 rfl (by decide) (h := slices_S16x128_o0_52_S16x1)) ?_)
  refine Runs.bind (ld21 rfl ?_)
  refine Runs.bind (Ini.st21 (t := 54) (e_B 53 0 53 rfl (by decide) (h := slices_S16x128_o0_53_S16x1)) ?_)
  refine Runs.bind (ld21 rfl ?_)
  refine Runs.bind (Ini.st21 (t := 55) (e_B 54 0 54 rfl (by decide) (h := slices_S16x128_o0_54_S16x1)) ?_)
  exact Runs.pure hΦ

theorem val_12 {Φ} (hΦ : Φ (broadcastTo S16x128 (shapeCast S16x1 (extractStridedSlice S16x1 ![0, 60] (tB S 0) slices_S16x128_o0_60_S16x1) shapeCasts_S16x1_S16x1) broadcasts_S16x1_S16x128) (iniS S 1 1 1 60 0)) :
    Runs c A (ap A (k0_part12 (F := F) i) (tB S 0) (shapeCast S16x1 (extractStridedSlice S16x1 ![0, 55] (tB S 0) slices_S16x128_o0_55_S16x1) shapeCasts_S16x1_S16x1)) Φ (iniS S 1 1 1 55 0) := by
  rw [k0_part12_eq_skeleton]; unfold ap k0_part12_skel
  refine Runs.bind (ld21 rfl ?_)
  refine Runs.bind (Ini.st21 (t := 56) (e_B 55 0 55 rfl (by decide) (h := slices_S16x128_o0_55_S16x1)) ?_)
  refine Runs.bind (ld21 rfl ?_)
  refine Runs.bind (Ini.st21 (t := 57) (e_B 56 0 56 rfl (by decide) (h := slices_S16x128_o0_56_S16x1)) ?_)
  refine Runs.bind (ld21 rfl ?_)
  refine Runs.bind (Ini.st21 (t := 58) (e_B 57 0 57 rfl (by decide) (h := slices_S16x128_o0_57_S16x1)) ?_)
  refine Runs.bind (ld21 rfl ?_)
  refine Runs.bind (Ini.st21 (t := 59) (e_B 58 0 58 rfl (by decide) (h := slices_S16x128_o0_58_S16x1)) ?_)
  refine Runs.bind (ld21 rfl ?_)
  refine Runs.bind (Ini.st21 (t := 60) (e_B 59 0 59 rfl (by decide) (h := slices_S16x128_o0_59_S16x1)) ?_)
  exact Runs.pure hΦ

theorem val_13 {Φ} (hΦ : Φ (extractStridedSlice S16x1 ![0, 66] (tB S 0) slices_S16x128_o0_66_S16x1) (iniS S 1 1 1 66 0)) :
    Runs c A (ap A (k0_part13 (F := F) i) (tB S 0) (broadcastTo S16x128 (shapeCast S16x1 (extractStridedSlice S16x1 ![0, 60] (tB S 0) slices_S16x128_o0_60_S16x1) shapeCasts_S16x1_S16x1) broadcasts_S16x1_S16x128)) Φ (iniS S 1 1 1 60 0) := by
  rw [k0_part13_eq_skeleton]; unfold ap k0_part13_skel
  refine Runs.bind (ld21 rfl ?_)
  refine Runs.bind (Ini.st21 (t := 61) (e_B 60 0 60 rfl (by decide) (h := slices_S16x128_o0_60_S16x1)) ?_)
  refine Runs.bind (ld21 rfl ?_)
  refine Runs.bind (Ini.st21 (t := 62) (e_B 61 0 61 rfl (by decide) (h := slices_S16x128_o0_61_S16x1)) ?_)
  refine Runs.bind (ld21 rfl ?_)
  refine Runs.bind (Ini.st21 (t := 63) (e_B 62 0 62 rfl (by decide) (h := slices_S16x128_o0_62_S16x1)) ?_)
  refine Runs.bind (ld21 rfl ?_)
  refine Runs.bind (Ini.st21 (t := 64) (e_B 63 0 63 rfl (by decide) (h := slices_S16x128_o0_63_S16x1)) ?_)
  refine Runs.bind (ld21 rfl ?_)
  refine Runs.bind (Ini.st21 (t := 65) (e_B 64 0 64 rfl (by decide) (h := slices_S16x128_o0_64_S16x1)) ?_)
  refine Runs.bind (ld21 rfl ?_)
  refine Runs.bind (Ini.st21 (t := 66) (e_B 65 0 65 rfl (by decide) (h := slices_S16x128_o0_65_S16x1)) ?_)
  exact Runs.pure hΦ

theorem val_14 {Φ} (hΦ : Φ (broadcastTo S16x128 (shapeCast S16x1 (extractStridedSlice S16x1 ![0, 71] (tB S 0) slices_S16x128_o0_71_S16x1) shapeCasts_S16x1_S16x1) broadcasts_S16x1_S16x128) (iniS S 1 1 1 71 0)) :
    Runs c A (ap A (k0_part14 (F := F) i) (tB S 0) (extractStridedSlice S16x1 ![0, 66] (tB S 0) slices_S16x128_o0_66_S16x1)) Φ (iniS S 1 1 1 66 0) := by
  rw [k0_part14_eq_skeleton]; unfold ap k0_part14_skel
  refine Runs.bind (ld21 rfl ?_)
  refine Runs.bind (Ini.st21 (t := 67) (e_B 66 0 66 rfl (by decide) (h := slices_S16x128_o0_66_S16x1)) ?_)
  refine Runs.bind (ld21 rfl ?_)
  refine Runs.bind (Ini.st21 (t := 68) (e_B 67 0 67 rfl (by decide) (h := slices_S16x128_o0_67_S16x1)) ?_)
  refine Runs.bind (ld21 rfl ?_)
  refine Runs.bind (Ini.st21 (t := 69) (e_B 68 0 68 rfl (by decide) (h := slices_S16x128_o0_68_S16x1)) ?_)
  refine Runs.bind (ld21 rfl ?_)
  refine Runs.bind (Ini.st21 (t := 70) (e_B 69 0 69 rfl (by decide) (h := slices_S16x128_o0_69_S16x1)) ?_)
  refine Runs.bind (ld21 rfl ?_)
  refine Runs.bind (Ini.st21 (t := 71) (e_B 70 0 70 rfl (by decide) (h := slices_S16x128_o0_70_S16x1)) ?_)
  exact Runs.pure hΦ

theorem val_15 {Φ} (hΦ : Φ PUnit.unit (iniS S 1 1 1 77 0)) :
    Runs c A (ap A (k0_part15 (F := F) i) (tB S 0) (broadcastTo S16x128 (shapeCast S16x1 (extractStridedSlice S16x1 ![0, 71] (tB S 0) slices_S16x128_o0_71_S16x1) shapeCasts_S16x1_S16x1) broadcasts_S16x1_S16x128)) Φ (iniS S 1 1 1 71 0) := by
  rw [k0_part15_eq_skeleton]; unfold ap k0_part15_skel
  refine Runs.bind (ld21 rfl ?_)
  refine Runs.bind (Ini.st21 (t := 72) (e_B 71 0 71 rfl (by decide) (h := slices_S16x128_o0_71_S16x1)) ?_)
  refine Runs.bind (ld21 rfl ?_)
  refine Runs.bind (Ini.st21 (t := 73) (e_B 72 0 72 rfl (by decide) (h := slices_S16x128_o0_72_S16x1)) ?_)
  refine Runs.bind (ld21 rfl ?_)
  refine Runs.bind (Ini.st21 (t := 74) (e_B 73 0 73 rfl (by decide) (h := slices_S16x128_o0_73_S16x1)) ?_)
  refine Runs.bind (ld21 rfl ?_)
  refine Runs.bind (Ini.st21 (t := 75) (e_B 74 0 74 rfl (by decide) (h := slices_S16x128_o0_74_S16x1)) ?_)
  refine Runs.bind (ld21 rfl ?_)
  refine Runs.bind (Ini.st21 (t := 76) (e_B 75 0 75 rfl (by decide) (h := slices_S16x128_o0_75_S16x1)) ?_)
  refine Runs.bind (ld21 rfl ?_)
  refine Runs.bind (Ini.st21 (t := 77) (e_B 76 0 76 rfl (by decide) (h := slices_S16x128_o0_76_S16x1)) ?_)
  exact Runs.pure hΦ

theorem val_16 {Φ} (hΦ : Φ (broadcastTo S16x128 (shapeCast S16x1 (extractStridedSlice S16x1 ![0, 82] (tB S 0) slices_S16x128_o0_82_S16x1) shapeCasts_S16x1_S16x1) broadcasts_S16x1_S16x128) (iniS S 1 1 1 82 0)) :
    Runs c A (ap A (k0_part16 (F := F) i) (tB S 0)) Φ (iniS S 1 1 1 77 0) := by
  rw [k0_part16_eq_skeleton]; unfold ap k0_part16_skel
  refine Runs.bind (ld21 rfl ?_)
  refine Runs.bind (Ini.st21 (t := 78) (e_B 77 0 77 rfl (by decide) (h := slices_S16x128_o0_77_S16x1)) ?_)
  refine Runs.bind (ld21 rfl ?_)
  refine Runs.bind (Ini.st21 (t := 79) (e_B 78 0 78 rfl (by decide) (h := slices_S16x128_o0_78_S16x1)) ?_)
  refine Runs.bind (ld21 rfl ?_)
  refine Runs.bind (Ini.st21 (t := 80) (e_B 79 0 79 rfl (by decide) (h := slices_S16x128_o0_79_S16x1)) ?_)
  refine Runs.bind (ld21 rfl ?_)
  refine Runs.bind (Ini.st21 (t := 81) (e_B 80 0 80 rfl (by decide) (h := slices_S16x128_o0_80_S16x1)) ?_)
  refine Runs.bind (ld21 rfl ?_)
  refine Runs.bind (Ini.st21 (t := 82) (e_B 81 0 81 rfl (by decide) (h := slices_S16x128_o0_81_S16x1)) ?_)
  exact Runs.pure hΦ

end Cert.KernelIdeal.Scan

end
-- ==== Proof.ScanI.Ini2.lean ====
/- What parts of the preparation compute. -/
module

public import proofs.«01_k».proof.Proof.ScanI.Defs

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {S : St F} {i : grid0.Coords}

theorem val_17 {Φ} (hΦ : Φ (shapeCast S1x1x16x128 (broadcastTo S16x128 (shapeCast S16x1 (extractStridedSlice S16x1 ![0, 87] (tB S 0) slices_S16x128_o0_87_S16x1) shapeCasts_S16x1_S16x1) broadcasts_S16x1_S16x128) shapeCasts_S16x128_S1x1x16x128) (iniS S 1 1 1 87 0)) :
    Runs c A (ap A (k0_part17 (F := F) i) (tB S 0) (broadcastTo S16x128 (shapeCast S16x1 (extractStridedSlice S16x1 ![0, 82] (tB S 0) slices_S16x128_o0_82_S16x1) shapeCasts_S16x1_S16x1) broadcasts_S16x1_S16x128)) Φ (iniS S 1 1 1 82 0) := by
  rw [k0_part17_eq_skeleton]; unfold ap k0_part17_skel
  refine Runs.bind (ld21 rfl ?_)
  refine Runs.bind (Ini.st21 (t := 83) (e_B 82 0 82 rfl (by decide) (h := slices_S16x128_o0_82_S16x1)) ?_)
  refine Runs.bind (ld21 rfl ?_)
  refine Runs.bind (Ini.st21 (t := 84) (e_B 83 0 83 rfl (by decide) (h := slices_S16x128_o0_83_S16x1)) ?_)
  refine Runs.bind (ld21 rfl ?_)
  refine Runs.bind (Ini.st21 (t := 85) (e_B 84 0 84 rfl (by decide) (h := slices_S16x128_o0_84_S16x1)) ?_)
  refine Runs.bind (ld21 rfl ?_)
  refine Runs.bind (Ini.st21 (t := 86) (e_B 85 0 85 rfl (by decide) (h := slices_S16x128_o0_85_S16x1)) ?_)
  refine Runs.bind (ld21 rfl ?_)
  refine Runs.bind (Ini.st21 (t := 87) (e_B 86 0 86 rfl (by decide) (h := slices_S16x128_o0_86_S16x1)) ?_)
  refine Runs.bind (ld21 rfl ?_)
  exact Runs.pure hΦ

theorem val_18 {Φ} (hΦ : Φ (broadcastTo S16x128 (shapeCast S16x1 (extractStridedSlice S16x1 ![0, 93] (tB S 0) slices_S16x128_o0_93_S16x1) shapeCasts_S16x1_S16x1) broadcasts_S16x1_S16x128) (iniS S 1 1 1 93 0)) :
    Runs c A (ap A (k0_part18 (F := F) i) (tB S 0) (shapeCast S1x1x16x128 (broadcastTo S16x128 (shapeCast S16x1 (extractStridedSlice S16x1 ![0, 87] (tB S 0) slices_S16x128_o0_87_S16x1) shapeCasts_S16x1_S16x1) broadcasts_S16x1_S16x128) shapeCasts_S16x128_S1x1x16x128)) Φ (iniS S 1 1 1 87 0) := by
  rw [k0_part18_eq_skeleton]; unfold ap k0_part18_skel
  refine Runs.bind (Ini.st21 (t := 88) (e_B 87 0 87 rfl (by decide) (h := slices_S16x128_o0_87_S16x1)) ?_)
  refine Runs.bind (ld21 rfl ?_)
  refine Runs.bind (Ini.st21 (t := 89) (e_B 88 0 88 rfl (by decide) (h := slices_S16x128_o0_88_S16x1)) ?_)
  refine Runs.bind (ld21 rfl ?_)
  refine Runs.bind (Ini.st21 (t := 90) (e_B 89 0 89 rfl (by decide) (h := slices_S16x128_o0_89_S16x1)) ?_)
  refine Runs.bind (ld21 rfl ?_)
  refine Runs.bind (Ini.st21 (t := 91) (e_B 90 0 90 rfl (by decide) (h := slices_S16x128_o0_90_S16x1)) ?_)
  refine Runs.bind (ld21 rfl ?_)
  refine Runs.bind (Ini.st21 (t := 92) (e_B 91 0 91 rfl (by decide) (h := slices_S16x128_o0_91_S16x1)) ?_)
  refine Runs.bind (ld21 rfl ?_)
  refine Runs.bind (Ini.st21 (t := 93) (e_B 92 0 92 rfl (by decide) (h := slices_S16x128_o0_92_S16x1)) ?_)
  exact Runs.pure hΦ

theorem val_19 {Φ} (hΦ : Φ (broadcastTo S16x128 (shapeCast S16x1 (extractStridedSlice S16x1 ![0, 98] (tB S 0) slices_S16x128_o0_98_S16x1) shapeCasts_S16x1_S16x1) broadcasts_S16x1_S16x128) (iniS S 1 1 1 98 0)) :
    Runs c A (ap A (k0_part19 (F := F) i) (tB S 0) (broadcastTo S16x128 (shapeCast S16x1 (extractStridedSlice S16x1 ![0, 93] (tB S 0) slices_S16x128_o0_93_S16x1) shapeCasts_S16x1_S16x1) broadcasts_S16x1_S16x128)) Φ (iniS S 1 1 1 93 0) := by
  rw [k0_part19_eq_skeleton]; unfold ap k0_part19_skel
  refine Runs.bind (ld21 rfl ?_)
  refine Runs.bind (Ini.st21 (t := 94) (e_B 93 0 93 rfl (by decide) (h := slices_S16x128_o0_93_S16x1)) ?_)
  refine Runs.bind (ld21 rfl ?_)
  refine Runs.bind (Ini.st21 (t := 95) (e_B 94 0 94 rfl (by decide) (h := slices_S16x128_o0_94_S16x1)) ?_)
  refine Runs.bind (ld21 rfl ?_)
  refine Runs.bind (Ini.st21 (t := 96) (e_B 95 0 95 rfl (by decide) (h := slices_S16x128_o0_95_S16x1)) ?_)
  refine Runs.bind (ld21 rfl ?_)
  refine Runs.bind (Ini.st21 (t := 97) (e_B 96 0 96 rfl (by decide) (h := slices_S16x128_o0_96_S16x1)) ?_)
  refine Runs.bind (ld21 rfl ?_)
  refine Runs.bind (Ini.st21 (t := 98) (e_B 97 0 97 rfl (by decide) (h := slices_S16x128_o0_97_S16x1)) ?_)
  refine Runs.bind (ld21 rfl ?_)
  exact Runs.pure hΦ

theorem val_20 {Φ} (hΦ : Φ (broadcastTo S16x128 (shapeCast S16x1 (extractStridedSlice S16x1 ![0, 104] (tB S 0) slices_S16x128_o0_104_S16x1) shapeCasts_S16x1_S16x1) broadcasts_S16x1_S16x128) (iniS S 1 1 1 104 0)) :
    Runs c A (ap A (k0_part20 (F := F) i) (tB S 0) (broadcastTo S16x128 (shapeCast S16x1 (extractStridedSlice S16x1 ![0, 98] (tB S 0) slices_S16x128_o0_98_S16x1) shapeCasts_S16x1_S16x1) broadcasts_S16x1_S16x128)) Φ (iniS S 1 1 1 98 0) := by
  rw [k0_part20_eq_skeleton]; unfold ap k0_part20_skel
  refine Runs.bind (Ini.st21 (t := 99) (e_B 98 0 98 rfl (by decide) (h := slices_S16x128_o0_98_S16x1)) ?_)
  refine Runs.bind (ld21 rfl ?_)
  refine Runs.bind (Ini.st21 (t := 100) (e_B 99 0 99 rfl (by decide) (h := slices_S16x128_o0_99_S16x1)) ?_)
  refine Runs.bind (ld21 rfl ?_)
  refine Runs.bind (Ini.st21 (t := 101) (e_B 100 0 100 rfl (by decide) (h := slices_S16x128_o0_100_S16x1)) ?_)
  refine Runs.bind (ld21 rfl ?_)
  refine Runs.bind (Ini.st21 (t := 102) (e_B 101 0 101 rfl (by decide) (h := slices_S16x128_o0_101_S16x1)) ?_)
  refine Runs.bind (ld21 rfl ?_)
  refine Runs.bind (Ini.st21 (t := 103) (e_B 102 0 102 rfl (by decide) (h := slices_S16x128_o0_102_S16x1)) ?_)
  refine Runs.bind (ld21 rfl ?_)
  refine Runs.bind (Ini.st21 (t := 104) (e_B 103 0 103 rfl (by decide) (h := slices_S16x128_o0_103_S16x1)) ?_)
  exact Runs.pure hΦ

theorem val_21 {Φ} (hΦ : ∀ b0, Φ ⟨broadcastTo S16x128 (shapeCast S16x1 (extractStridedSlice S16x1 ![0, 109] (tB S 0) slices_S16x128_o0_109_S16x1) shapeCasts_S16x1_S16x1) broadcasts_S16x1_S16x128, b0⟩ (iniS S 1 1 1 109 0)) :
    Runs c A (ap A (k0_part21 (F := F) i) (tB S 0) (broadcastTo S16x128 (shapeCast S16x1 (extractStridedSlice S16x1 ![0, 104] (tB S 0) slices_S16x128_o0_104_S16x1) shapeCasts_S16x1_S16x1) broadcasts_S16x1_S16x128)) Φ (iniS S 1 1 1 104 0) := by
  rw [k0_part21_eq_skeleton]; unfold ap k0_part21_skel
  refine Runs.bind (ld21 rfl ?_)
  refine Runs.bind (Ini.st21 (t := 105) (e_B 104 0 104 rfl (by decide) (h := slices_S16x128_o0_104_S16x1)) ?_)
  refine Runs.bind (ld21 rfl ?_)
  refine Runs.bind (Ini.st21 (t := 106) (e_B 105 0 105 rfl (by decide) (h := slices_S16x128_o0_105_S16x1)) ?_)
  refine Runs.bind (ld21 rfl ?_)
  refine Runs.bind (Ini.st21 (t := 107) (e_B 106 0 106 rfl (by decide) (h := slices_S16x128_o0_106_S16x1)) ?_)
  refine Runs.bind (ld21 rfl ?_)
  refine Runs.bind (Ini.st21 (t := 108) (e_B 107 0 107 rfl (by decide) (h := slices_S16x128_o0_107_S16x1)) ?_)
  refine Runs.bind (ld21 rfl ?_)
  refine Runs.bind (Ini.st21 (t := 109) (e_B 108 0 108 rfl (by decide) (h := slices_S16x128_o0_108_S16x1)) ?_)
  refine Runs.bind (ld21 rfl ?_)
  exact Runs.pure (hΦ _)

theorem val_22 (v1186 : Vec F S1x1x16x128 .f32) {Φ} (hΦ : Φ (shapeCast S16x1 (extractStridedSlice S16x1 ![0, 115] (tB S 0) slices_S16x128_o0_115_S16x1) shapeCasts_S16x1_S16x1) (iniS S 1 1 1 115 0)) :
    Runs c A (ap A (k0_part22 (F := F) i) (tB S 0) (broadcastTo S16x128 (shapeCast S16x1 (extractStridedSlice S16x1 ![0, 109] (tB S 0) slices_S16x128_o0_109_S16x1) shapeCasts_S16x1_S16x1) broadcasts_S16x1_S16x128) v1186) Φ (iniS S 1 1 1 109 0) := by
  rw [k0_part22_eq_skeleton]; unfold ap k0_part22_skel
  refine Runs.bind (Ini.st21 (t := 110) (e_B 109 0 109 rfl (by decide) (h := slices_S16x128_o0_109_S16x1)) ?_)
  refine Runs.bind (ld21 rfl ?_)
  refine Runs.bind (Ini.st21 (t := 111) (e_B 110 0 110 rfl (by decide) (h := slices_S16x128_o0_110_S16x1)) ?_)
  refine Runs.bind (ld21 rfl ?_)
  refine Runs.bind (Ini.st21 (t := 112) (e_B 111 0 111 rfl (by decide) (h := slices_S16x128_o0_111_S16x1)) ?_)
  refine Runs.bind (ld21 rfl ?_)
  refine Runs.bind (Ini.st21 (t := 113) (e_B 112 0 112 rfl (by decide) (h := slices_S16x128_o0_112_S16x1)) ?_)
  refine Runs.bind (ld21 rfl ?_)
  refine Runs.bind (Ini.st21 (t := 114) (e_B 113 0 113 rfl (by decide) (h := slices_S16x128_o0_113_S16x1)) ?_)
  refine Runs.bind (ld21 rfl ?_)
  refine Runs.bind (Ini.st21 (t := 115) (e_B 114 0 114 rfl (by decide) (h := slices_S16x128_o0_114_S16x1)) ?_)
  exact Runs.pure hΦ

theorem val_23 {Φ} (hΦ : Φ (broadcastTo S16x128 (shapeCast S16x1 (extractStridedSlice S16x1 ![0, 120] (tB S 0) slices_S16x128_o0_120_S16x1) shapeCasts_S16x1_S16x1) broadcasts_S16x1_S16x128) (iniS S 1 1 1 120 0)) :
    Runs c A (ap A (k0_part23 (F := F) i) (tB S 0) (shapeCast S16x1 (extractStridedSlice S16x1 ![0, 115] (tB S 0) slices_S16x128_o0_115_S16x1) shapeCasts_S16x1_S16x1)) Φ (iniS S 1 1 1 115 0) := by
  rw [k0_part23_eq_skeleton]; unfold ap k0_part23_skel
  refine Runs.bind (ld21 rfl ?_)
  refine Runs.bind (Ini.st21 (t := 116) (e_B 115 0 115 rfl (by decide) (h := slices_S16x128_o0_115_S16x1)) ?_)
  refine Runs.bind (ld21 rfl ?_)
  refine Runs.bind (Ini.st21 (t := 117) (e_B 116 0 116 rfl (by decide) (h := slices_S16x128_o0_116_S16x1)) ?_)
  refine Runs.bind (ld21 rfl ?_)
  refine Runs.bind (Ini.st21 (t := 118) (e_B 117 0 117 rfl (by decide) (h := slices_S16x128_o0_117_S16x1)) ?_)
  refine Runs.bind (ld21 rfl ?_)
  refine Runs.bind (Ini.st21 (t := 119) (e_B 118 0 118 rfl (by decide) (h := slices_S16x128_o0_118_S16x1)) ?_)
  refine Runs.bind (ld21 rfl ?_)
  refine Runs.bind (Ini.st21 (t := 120) (e_B 119 0 119 rfl (by decide) (h := slices_S16x128_o0_119_S16x1)) ?_)
  exact Runs.pure hΦ

theorem val_24 {Φ} (hΦ : Φ (extractStridedSlice S16x1 ![0, 126] (tB S 0) slices_S16x128_o0_126_S16x1) (iniS S 1 1 1 126 0)) :
    Runs c A (ap A (k0_part24 (F := F) i) (tB S 0) (broadcastTo S16x128 (shapeCast S16x1 (extractStridedSlice S16x1 ![0, 120] (tB S 0) slices_S16x128_o0_120_S16x1) shapeCasts_S16x1_S16x1) broadcasts_S16x1_S16x128)) Φ (iniS S 1 1 1 120 0) := by
  rw [k0_part24_eq_skeleton]; unfold ap k0_part24_skel
  refine Runs.bind (ld21 rfl ?_)
  refine Runs.bind (Ini.st21 (t := 121) (e_B 120 0 120 rfl (by decide) (h := slices_S16x128_o0_120_S16x1)) ?_)
  refine Runs.bind (ld21 rfl ?_)
  refine Runs.bind (Ini.st21 (t := 122) (e_B 121 0 121 rfl (by decide) (h := slices_S16x128_o0_121_S16x1)) ?_)
  refine Runs.bind (ld21 rfl ?_)
  refine Runs.bind (Ini.st21 (t := 123) (e_B 122 0 122 rfl (by decide) (h := slices_S16x128_o0_122_S16x1)) ?_)
  refine Runs.bind (ld21 rfl ?_)
  refine Runs.bind (Ini.st21 (t := 124) (e_B 123 0 123 rfl (by decide) (h := slices_S16x128_o0_123_S16x1)) ?_)
  refine Runs.bind (ld21 rfl ?_)
  refine Runs.bind (Ini.st21 (t := 125) (e_B 124 0 124 rfl (by decide) (h := slices_S16x128_o0_124_S16x1)) ?_)
  refine Runs.bind (ld21 rfl ?_)
  refine Runs.bind (Ini.st21 (t := 126) (e_B 125 0 125 rfl (by decide) (h := slices_S16x128_o0_125_S16x1)) ?_)
  exact Runs.pure hΦ

theorem val_25 {Φ} (hΦ : Φ ⟨tC S 0, broadcastTo S16x128 (shapeCast S16x1 (extractStridedSlice S16x1 ![0, 2] (tC S 0) slices_S16x128_o0_2_S16x1) shapeCasts_S16x1_S16x1) broadcasts_S16x1_S16x128⟩ (iniS S 1 1 1 128 2)) :
    Runs c A (ap A (k0_part25 (F := F) i) (tB S 0) (extractStridedSlice S16x1 ![0, 126] (tB S 0) slices_S16x128_o0_126_S16x1)) Φ (iniS S 1 1 1 126 0) := by
  rw [k0_part25_eq_skeleton]; unfold ap k0_part25_skel
  refine Runs.bind (ld21 rfl ?_)
  refine Runs.bind (Ini.st21 (t := 127) (e_B 126 0 126 rfl (by decide) (h := slices_S16x128_o0_126_S16x1)) ?_)
  refine Runs.bind (ld21 rfl ?_)
  refine Runs.bind (Ini.st21 (t := 128) (e_B 127 0 127 rfl (by decide) (h := slices_S16x128_o0_127_S16x1)) ?_)
  refine Runs.bind (ld9 (Z := mC S 0) (tile_eq rfl) ?_)
  refine Runs.bind (ld10 (Z := rC S 0) (tile_eq rfl) ?_)
  refine Runs.bind (ld22 rfl ?_)
  refine Runs.bind (Ini.st22 (t := 1) (e_C 0 0 0 rfl (by decide) (h := slices_S16x128_o0_0_S16x1)) ?_)
  refine Runs.bind (ld22 rfl ?_)
  refine Runs.bind (Ini.st22 (t := 2) (e_C 1 0 1 rfl (by decide) (h := slices_S16x128_o0_1_S16x1)) ?_)
  exact Runs.pure hΦ

theorem val_26 {Φ} (hΦ : Φ (shapeCast S1x1x16x128 (broadcastTo S16x128 (shapeCast S16x1 (extractStridedSlice S16x1 ![0, 7] (tC S 0) slices_S16x128_o0_7_S16x1) shapeCasts_S16x1_S16x1) broadcasts_S16x1_S16x128) shapeCasts_S16x128_S1x1x16x128) (iniS S 1 1 1 128 7)) :
    Runs c A (ap A (k0_part26 (F := F) i) (tC S 0) (broadcastTo S16x128 (shapeCast S16x1 (extractStridedSlice S16x1 ![0, 2] (tC S 0) slices_S16x128_o0_2_S16x1) shapeCasts_S16x1_S16x1) broadcasts_S16x1_S16x128)) Φ (iniS S 1 1 1 128 2) := by
  rw [k0_part26_eq_skeleton]; unfold ap k0_part26_skel
  refine Runs.bind (ld22 rfl ?_)
  refine Runs.bind (Ini.st22 (t := 3) (e_C 2 0 2 rfl (by decide) (h := slices_S16x128_o0_2_S16x1)) ?_)
  refine Runs.bind (ld22 rfl ?_)
  refine Runs.bind (Ini.st22 (t := 4) (e_C 3 0 3 rfl (by decide) (h := slices_S16x128_o0_3_S16x1)) ?_)
  refine Runs.bind (ld22 rfl ?_)
  refine Runs.bind (Ini.st22 (t := 5) (e_C 4 0 4 rfl (by decide) (h := slices_S16x128_o0_4_S16x1)) ?_)
  refine Runs.bind (ld22 rfl ?_)
  refine Runs.bind (Ini.st22 (t := 6) (e_C 5 0 5 rfl (by decide) (h := slices_S16x128_o0_5_S16x1)) ?_)
  refine Runs.bind (ld22 rfl ?_)
  refine Runs.bind (Ini.st22 (t := 7) (e_C 6 0 6 rfl (by decide) (h := slices_S16x128_o0_6_S16x1)) ?_)
  refine Runs.bind (ld22 rfl ?_)
  exact Runs.pure hΦ

theorem val_27 {Φ} (hΦ : Φ (broadcastTo S16x128 (shapeCast S16x1 (extractStridedSlice S16x1 ![0, 13] (tC S 0) slices_S16x128_o0_13_S16x1) shapeCasts_S16x1_S16x1) broadcasts_S16x1_S16x128) (iniS S 1 1 1 128 13)) :
    Runs c A (ap A (k0_part27 (F := F) i) (tC S 0) (shapeCast S1x1x16x128 (broadcastTo S16x128 (shapeCast S16x1 (extractStridedSlice S16x1 ![0, 7] (tC S 0) slices_S16x128_o0_7_S16x1) shapeCasts_S16x1_S16x1) broadcasts_S16x1_S16x128) shapeCasts_S16x128_S1x1x16x128)) Φ (iniS S 1 1 1 128 7) := by
  rw [k0_part27_eq_skeleton]; unfold ap k0_part27_skel
  refine Runs.bind (Ini.st22 (t := 8) (e_C 7 0 7 rfl (by decide) (h := slices_S16x128_o0_7_S16x1)) ?_)
  refine Runs.bind (ld22 rfl ?_)
  refine Runs.bind (Ini.st22 (t := 9) (e_C 8 0 8 rfl (by decide) (h := slices_S16x128_o0_8_S16x1)) ?_)
  refine Runs.bind (ld22 rfl ?_)
  refine Runs.bind (Ini.st22 (t := 10) (e_C 9 0 9 rfl (by decide) (h := slices_S16x128_o0_9_S16x1)) ?_)
  refine Runs.bind (ld22 rfl ?_)
  refine Runs.bind (Ini.st22 (t := 11) (e_C 10 0 10 rfl (by decide) (h := slices_S16x128_o0_10_S16x1)) ?_)
  refine Runs.bind (ld22 rfl ?_)
  refine Runs.bind (Ini.st22 (t := 12) (e_C 11 0 11 rfl (by decide) (h := slices_S16x128_o0_11_S16x1)) ?_)
  refine Runs.bind (ld22 rfl ?_)
  refine Runs.bind (Ini.st22 (t := 13) (e_C 12 0 12 rfl (by decide) (h := slices_S16x128_o0_12_S16x1)) ?_)
  exact Runs.pure hΦ

theorem val_28 {Φ} (hΦ : Φ (broadcastTo S16x128 (shapeCast S16x1 (extractStridedSlice S16x1 ![0, 18] (tC S 0) slices_S16x128_o0_18_S16x1) shapeCasts_S16x1_S16x1) broadcasts_S16x1_S16x128) (iniS S 1 1 1 128 18)) :
    Runs c A (ap A (k0_part28 (F := F) i) (tC S 0) (broadcastTo S16x128 (shapeCast S16x1 (extractStridedSlice S16x1 ![0, 13] (tC S 0) slices_S16x128_o0_13_S16x1) shapeCasts_S16x1_S16x1) broadcasts_S16x1_S16x128)) Φ (iniS S 1 1 1 128 13) := by
  rw [k0_part28_eq_skeleton]; unfold ap k0_part28_skel
  refine Runs.bind (ld22 rfl ?_)
  refine Runs.bind (Ini.st22 (t := 14) (e_C 13 0 13 rfl (by decide) (h := slices_S16x128_o0_13_S16x1)) ?_)
  refine Runs.bind (ld22 rfl ?_)
  refine Runs.bind (Ini.st22 (t := 15) (e_C 14 0 14 rfl (by decide) (h := slices_S16x128_o0_14_S16x1)) ?_)
  refine Runs.bind (ld22 rfl ?_)
  refine Runs.bind (Ini.st22 (t := 16) (e_C 15 0 15 rfl (by decide) (h := slices_S16x128_o0_15_S16x1)) ?_)
  refine Runs.bind (ld22 rfl ?_)
  refine Runs.bind (Ini.st22 (t := 17) (e_C 16 0 16 rfl (by decide) (h := slices_S16x128_o0_16_S16x1)) ?_)
  refine Runs.bind (ld22 rfl ?_)
  refine Runs.bind (Ini.st22 (t := 18) (e_C 17 0 17 rfl (by decide) (h := slices_S16x128_o0_17_S16x1)) ?_)
  refine Runs.bind (ld22 rfl ?_)
  exact Runs.pure hΦ

theorem val_29 {Φ} (hΦ : Φ (broadcastTo S16x128 (shapeCast S16x1 (extractStridedSlice S16x1 ![0, 24] (tC S 0) slices_S16x128_o0_24_S16x1) shapeCasts_S16x1_S16x1) broadcasts_S16x1_S16x128) (iniS S 1 1 1 128 24)) :
    Runs c A (ap A (k0_part29 (F := F) i) (tC S 0) (broadcastTo S16x128 (shapeCast S16x1 (extractStridedSlice S16x1 ![0, 18] (tC S 0) slices_S16x128_o0_18_S16x1) shapeCasts_S16x1_S16x1) broadcasts_S16x1_S16x128)) Φ (iniS S 1 1 1 128 18) := by
  rw [k0_part29_eq_skeleton]; unfold ap k0_part29_skel
  refine Runs.bind (Ini.st22 (t := 19) (e_C 18 0 18 rfl (by decide) (h := slices_S16x128_o0_18_S16x1)) ?_)
  refine Runs.bind (ld22 rfl ?_)
  refine Runs.bind (Ini.st22 (t := 20) (e_C 19 0 19 rfl (by decide) (h := slices_S16x128_o0_19_S16x1)) ?_)
  refine Runs.bind (ld22 rfl ?_)
  refine Runs.bind (Ini.st22 (t := 21) (e_C 20 0 20 rfl (by decide) (h := slices_S16x128_o0_20_S16x1)) ?_)
  refine Runs.bind (ld22 rfl ?_)
  refine Runs.bind (Ini.st22 (t := 22) (e_C 21 0 21 rfl (by decide) (h := slices_S16x128_o0_21_S16x1)) ?_)
  refine Runs.bind (ld22 rfl ?_)
  refine Runs.bind (Ini.st22 (t := 23) (e_C 22 0 22 rfl (by decide) (h := slices_S16x128_o0_22_S16x1)) ?_)
  refine Runs.bind (ld22 rfl ?_)
  refine Runs.bind (Ini.st22 (t := 24) (e_C 23 0 23 rfl (by decide) (h := slices_S16x128_o0_23_S16x1)) ?_)
  exact Runs.pure hΦ

theorem val_30 {Φ} (hΦ : ∀ b0, Φ ⟨broadcastTo S16x128 (shapeCast S16x1 (extractStridedSlice S16x1 ![0, 29] (tC S 0) slices_S16x128_o0_29_S16x1) shapeCasts_S16x1_S16x1) broadcasts_S16x1_S16x128, b0⟩ (iniS S 1 1 1 128 29)) :
    Runs c A (ap A (k0_part30 (F := F) i) (tC S 0) (broadcastTo S16x128 (shapeCast S16x1 (extractStridedSlice S16x1 ![0, 24] (tC S 0) slices_S16x128_o0_24_S16x1) shapeCasts_S16x1_S16x1) broadcasts_S16x1_S16x128)) Φ (iniS S 1 1 1 128 24) := by
  rw [k0_part30_eq_skeleton]; unfold ap k0_part30_skel
  refine Runs.bind (ld22 rfl ?_)
  refine Runs.bind (Ini.st22 (t := 25) (e_C 24 0 24 rfl (by decide) (h := slices_S16x128_o0_24_S16x1)) ?_)
  refine Runs.bind (ld22 rfl ?_)
  refine Runs.bind (Ini.st22 (t := 26) (e_C 25 0 25 rfl (by decide) (h := slices_S16x128_o0_25_S16x1)) ?_)
  refine Runs.bind (ld22 rfl ?_)
  refine Runs.bind (Ini.st22 (t := 27) (e_C 26 0 26 rfl (by decide) (h := slices_S16x128_o0_26_S16x1)) ?_)
  refine Runs.bind (ld22 rfl ?_)
  refine Runs.bind (Ini.st22 (t := 28) (e_C 27 0 27 rfl (by decide) (h := slices_S16x128_o0_27_S16x1)) ?_)
  refine Runs.bind (ld22 rfl ?_)
  refine Runs.bind (Ini.st22 (t := 29) (e_C 28 0 28 rfl (by decide) (h := slices_S16x128_o0_28_S16x1)) ?_)
  refine Runs.bind (ld22 rfl ?_)
  exact Runs.pure (hΦ _)

theorem val_31 (v1481 : Vec F S1x1x16x128 .f32) {Φ} (hΦ : Φ (shapeCast S16x1 (extractStridedSlice S16x1 ![0, 35] (tC S 0) slices_S16x128_o0_35_S16x1) shapeCasts_S16x1_S16x1) (iniS S 1 1 1 128 35)) :
    Runs c A (ap A (k0_part31 (F := F) i) (tC S 0) (broadcastTo S16x128 (shapeCast S16x1 (extractStridedSlice S16x1 ![0, 29] (tC S 0) slices_S16x128_o0_29_S16x1) shapeCasts_S16x1_S16x1) broadcasts_S16x1_S16x128) v1481) Φ (iniS S 1 1 1 128 29) := by
  rw [k0_part31_eq_skeleton]; unfold ap k0_part31_skel
  refine Runs.bind (Ini.st22 (t := 30) (e_C 29 0 29 rfl (by decide) (h := slices_S16x128_o0_29_S16x1)) ?_)
  refine Runs.bind (ld22 rfl ?_)
  refine Runs.bind (Ini.st22 (t := 31) (e_C 30 0 30 rfl (by decide) (h := slices_S16x128_o0_30_S16x1)) ?_)
  refine Runs.bind (ld22 rfl ?_)
  refine Runs.bind (Ini.st22 (t := 32) (e_C 31 0 31 rfl (by decide) (h := slices_S16x128_o0_31_S16x1)) ?_)
  refine Runs.bind (ld22 rfl ?_)
  refine Runs.bind (Ini.st22 (t := 33) (e_C 32 0 32 rfl (by decide) (h := slices_S16x128_o0_32_S16x1)) ?_)
  refine Runs.bind (ld22 rfl ?_)
  refine Runs.bind (Ini.st22 (t := 34) (e_C 33 0 33 rfl (by decide) (h := slices_S16x128_o0_33_S16x1)) ?_)
  refine Runs.bind (ld22 rfl ?_)
  refine Runs.bind (Ini.st22 (t := 35) (e_C 34 0 34 rfl (by decide) (h := slices_S16x128_o0_34_S16x1)) ?_)
  exact Runs.pure hΦ

theorem val_32 {Φ} (hΦ : Φ (broadcastTo S16x128 (shapeCast S16x1 (extractStridedSlice S16x1 ![0, 40] (tC S 0) slices_S16x128_o0_40_S16x1) shapeCasts_S16x1_S16x1) broadcasts_S16x1_S16x128) (iniS S 1 1 1 128 40)) :
    Runs c A (ap A (k0_part32 (F := F) i) (tC S 0) (shapeCast S16x1 (extractStridedSlice S16x1 ![0, 35] (tC S 0) slices_S16x128_o0_35_S16x1) shapeCasts_S16x1_S16x1)) Φ (iniS S 1 1 1 128 35) := by
  rw [k0_part32_eq_skeleton]; unfold ap k0_part32_skel
  refine Runs.bind (ld22 rfl ?_)
  refine Runs.bind (Ini.st22 (t := 36) (e_C 35 0 35 rfl (by decide) (h := slices_S16x128_o0_35_S16x1)) ?_)
  refine Runs.bind (ld22 rfl ?_)
  refine Runs.bind (Ini.st22 (t := 37) (e_C 36 0 36 rfl (by decide) (h := slices_S16x128_o0_36_S16x1)) ?_)
  refine Runs.bind (ld22 rfl ?_)
  refine Runs.bind (Ini.st22 (t := 38) (e_C 37 0 37 rfl (by decide) (h := slices_S16x128_o0_37_S16x1)) ?_)
  refine Runs.bind (ld22 rfl ?_)
  refine Runs.bind (Ini.st22 (t := 39) (e_C 38 0 38 rfl (by decide) (h := slices_S16x128_o0_38_S16x1)) ?_)
  refine Runs.bind (ld22 rfl ?_)
  refine Runs.bind (Ini.st22 (t := 40) (e_C 39 0 39 rfl (by decide) (h := slices_S16x128_o0_39_S16x1)) ?_)
  exact Runs.pure hΦ

end Cert.KernelIdeal.Scan

end
-- ==== Proof.ScanI.Ini3.lean ====
/- What parts of the preparation compute. -/
module

public import proofs.«01_k».proof.Proof.ScanI.Defs

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {S : St F} {i : grid0.Coords}

theorem val_33 {Φ} (hΦ : Φ (extractStridedSlice S16x1 ![0, 46] (tC S 0) slices_S16x128_o0_46_S16x1) (iniS S 1 1 1 128 46)) :
    Runs c A (ap A (k0_part33 (F := F) i) (tC S 0) (broadcastTo S16x128 (shapeCast S16x1 (extractStridedSlice S16x1 ![0, 40] (tC S 0) slices_S16x128_o0_40_S16x1) shapeCasts_S16x1_S16x1) broadcasts_S16x1_S16x128)) Φ (iniS S 1 1 1 128 40) := by
  rw [k0_part33_eq_skeleton]; unfold ap k0_part33_skel
  refine Runs.bind (ld22 rfl ?_)
  refine Runs.bind (Ini.st22 (t := 41) (e_C 40 0 40 rfl (by decide) (h := slices_S16x128_o0_40_S16x1)) ?_)
  refine Runs.bind (ld22 rfl ?_)
  refine Runs.bind (Ini.st22 (t := 42) (e_C 41 0 41 rfl (by decide) (h := slices_S16x128_o0_41_S16x1)) ?_)
  refine Runs.bind (ld22 rfl ?_)
  refine Runs.bind (Ini.st22 (t := 43) (e_C 42 0 42 rfl (by decide) (h := slices_S16x128_o0_42_S16x1)) ?_)
  refine Runs.bind (ld22 rfl ?_)
  refine Runs.bind (Ini.st22 (t := 44) (e_C 43 0 43 rfl (by decide) (h := slices_S16x128_o0_43_S16x1)) ?_)
  refine Runs.bind (ld22 rfl ?_)
  refine Runs.bind (Ini.st22 (t := 45) (e_C 44 0 44 rfl (by decide) (h := slices_S16x128_o0_44_S16x1)) ?_)
  refine Runs.bind (ld22 rfl ?_)
  refine Runs.bind (Ini.st22 (t := 46) (e_C 45 0 45 rfl (by decide) (h := slices_S16x128_o0_45_S16x1)) ?_)
  exact Runs.pure hΦ

theorem val_34 {Φ} (hΦ : Φ (broadcastTo S16x128 (shapeCast S16x1 (extractStridedSlice S16x1 ![0, 51] (tC S 0) slices_S16x128_o0_51_S16x1) shapeCasts_S16x1_S16x1) broadcasts_S16x1_S16x128) (iniS S 1 1 1 128 51)) :
    Runs c A (ap A (k0_part34 (F := F) i) (tC S 0) (extractStridedSlice S16x1 ![0, 46] (tC S 0) slices_S16x128_o0_46_S16x1)) Φ (iniS S 1 1 1 128 46) := by
  rw [k0_part34_eq_skeleton]; unfold ap k0_part34_skel
  refine Runs.bind (ld22 rfl ?_)
  refine Runs.bind (Ini.st22 (t := 47) (e_C 46 0 46 rfl (by decide) (h := slices_S16x128_o0_46_S16x1)) ?_)
  refine Runs.bind (ld22 rfl ?_)
  refine Runs.bind (Ini.st22 (t := 48) (e_C 47 0 47 rfl (by decide) (h := slices_S16x128_o0_47_S16x1)) ?_)
  refine Runs.bind (ld22 rfl ?_)
  refine Runs.bind (Ini.st22 (t := 49) (e_C 48 0 48 rfl (by decide) (h := slices_S16x128_o0_48_S16x1)) ?_)
  refine Runs.bind (ld22 rfl ?_)
  refine Runs.bind (Ini.st22 (t := 50) (e_C 49 0 49 rfl (by decide) (h := slices_S16x128_o0_49_S16x1)) ?_)
  refine Runs.bind (ld22 rfl ?_)
  refine Runs.bind (Ini.st22 (t := 51) (e_C 50 0 50 rfl (by decide) (h := slices_S16x128_o0_50_S16x1)) ?_)
  exact Runs.pure hΦ

theorem val_35 {Φ} (hΦ : Φ PUnit.unit (iniS S 1 1 1 128 57)) :
    Runs c A (ap A (k0_part35 (F := F) i) (tC S 0) (broadcastTo S16x128 (shapeCast S16x1 (extractStridedSlice S16x1 ![0, 51] (tC S 0) slices_S16x128_o0_51_S16x1) shapeCasts_S16x1_S16x1) broadcasts_S16x1_S16x128)) Φ (iniS S 1 1 1 128 51) := by
  rw [k0_part35_eq_skeleton]; unfold ap k0_part35_skel
  refine Runs.bind (ld22 rfl ?_)
  refine Runs.bind (Ini.st22 (t := 52) (e_C 51 0 51 rfl (by decide) (h := slices_S16x128_o0_51_S16x1)) ?_)
  refine Runs.bind (ld22 rfl ?_)
  refine Runs.bind (Ini.st22 (t := 53) (e_C 52 0 52 rfl (by decide) (h := slices_S16x128_o0_52_S16x1)) ?_)
  refine Runs.bind (ld22 rfl ?_)
  refine Runs.bind (Ini.st22 (t := 54) (e_C 53 0 53 rfl (by decide) (h := slices_S16x128_o0_53_S16x1)) ?_)
  refine Runs.bind (ld22 rfl ?_)
  refine Runs.bind (Ini.st22 (t := 55) (e_C 54 0 54 rfl (by decide) (h := slices_S16x128_o0_54_S16x1)) ?_)
  refine Runs.bind (ld22 rfl ?_)
  refine Runs.bind (Ini.st22 (t := 56) (e_C 55 0 55 rfl (by decide) (h := slices_S16x128_o0_55_S16x1)) ?_)
  refine Runs.bind (ld22 rfl ?_)
  refine Runs.bind (Ini.st22 (t := 57) (e_C 56 0 56 rfl (by decide) (h := slices_S16x128_o0_56_S16x1)) ?_)
  exact Runs.pure hΦ

theorem val_36 {Φ} (hΦ : Φ (broadcastTo S16x128 (shapeCast S16x1 (extractStridedSlice S16x1 ![0, 62] (tC S 0) slices_S16x128_o0_62_S16x1) shapeCasts_S16x1_S16x1) broadcasts_S16x1_S16x128) (iniS S 1 1 1 128 62)) :
    Runs c A (ap A (k0_part36 (F := F) i) (tC S 0)) Φ (iniS S 1 1 1 128 57) := by
  rw [k0_part36_eq_skeleton]; unfold ap k0_part36_skel
  refine Runs.bind (ld22 rfl ?_)
  refine Runs.bind (Ini.st22 (t := 58) (e_C 57 0 57 rfl (by decide) (h := slices_S16x128_o0_57_S16x1)) ?_)
  refine Runs.bind (ld22 rfl ?_)
  refine Runs.bind (Ini.st22 (t := 59) (e_C 58 0 58 rfl (by decide) (h := slices_S16x128_o0_58_S16x1)) ?_)
  refine Runs.bind (ld22 rfl ?_)
  refine Runs.bind (Ini.st22 (t := 60) (e_C 59 0 59 rfl (by decide) (h := slices_S16x128_o0_59_S16x1)) ?_)
  refine Runs.bind (ld22 rfl ?_)
  refine Runs.bind (Ini.st22 (t := 61) (e_C 60 0 60 rfl (by decide) (h := slices_S16x128_o0_60_S16x1)) ?_)
  refine Runs.bind (ld22 rfl ?_)
  refine Runs.bind (Ini.st22 (t := 62) (e_C 61 0 61 rfl (by decide) (h := slices_S16x128_o0_61_S16x1)) ?_)
  exact Runs.pure hΦ

theorem val_37 {Φ} (hΦ : Φ (shapeCast S1x1x16x128 (broadcastTo S16x128 (shapeCast S16x1 (extractStridedSlice S16x1 ![0, 67] (tC S 0) slices_S16x128_o0_67_S16x1) shapeCasts_S16x1_S16x1) broadcasts_S16x1_S16x128) shapeCasts_S16x128_S1x1x16x128) (iniS S 1 1 1 128 67)) :
    Runs c A (ap A (k0_part37 (F := F) i) (tC S 0) (broadcastTo S16x128 (shapeCast S16x1 (extractStridedSlice S16x1 ![0, 62] (tC S 0) slices_S16x128_o0_62_S16x1) shapeCasts_S16x1_S16x1) broadcasts_S16x1_S16x128)) Φ (iniS S 1 1 1 128 62) := by
  rw [k0_part37_eq_skeleton]; unfold ap k0_part37_skel
  refine Runs.bind (ld22 rfl ?_)
  refine Runs.bind (Ini.st22 (t := 63) (e_C 62 0 62 rfl (by decide) (h := slices_S16x128_o0_62_S16x1)) ?_)
  refine Runs.bind (ld22 rfl ?_)
  refine Runs.bind (Ini.st22 (t := 64) (e_C 63 0 63 rfl (by decide) (h := slices_S16x128_o0_63_S16x1)) ?_)
  refine Runs.bind (ld22 rfl ?_)
  refine Runs.bind (Ini.st22 (t := 65) (e_C 64 0 64 rfl (by decide) (h := slices_S16x128_o0_64_S16x1)) ?_)
  refine Runs.bind (ld22 rfl ?_)
  refine Runs.bind (Ini.st22 (t := 66) (e_C 65 0 65 rfl (by decide) (h := slices_S16x128_o0_65_S16x1)) ?_)
  refine Runs.bind (ld22 rfl ?_)
  refine Runs.bind (Ini.st22 (t := 67) (e_C 66 0 66 rfl (by decide) (h := slices_S16x128_o0_66_S16x1)) ?_)
  refine Runs.bind (ld22 rfl ?_)
  exact Runs.pure hΦ

theorem val_38 {Φ} (hΦ : Φ (broadcastTo S16x128 (shapeCast S16x1 (extractStridedSlice S16x1 ![0, 73] (tC S 0) slices_S16x128_o0_73_S16x1) shapeCasts_S16x1_S16x1) broadcasts_S16x1_S16x128) (iniS S 1 1 1 128 73)) :
    Runs c A (ap A (k0_part38 (F := F) i) (tC S 0) (shapeCast S1x1x16x128 (broadcastTo S16x128 (shapeCast S16x1 (extractStridedSlice S16x1 ![0, 67] (tC S 0) slices_S16x128_o0_67_S16x1) shapeCasts_S16x1_S16x1) broadcasts_S16x1_S16x128) shapeCasts_S16x128_S1x1x16x128)) Φ (iniS S 1 1 1 128 67) := by
  rw [k0_part38_eq_skeleton]; unfold ap k0_part38_skel
  refine Runs.bind (Ini.st22 (t := 68) (e_C 67 0 67 rfl (by decide) (h := slices_S16x128_o0_67_S16x1)) ?_)
  refine Runs.bind (ld22 rfl ?_)
  refine Runs.bind (Ini.st22 (t := 69) (e_C 68 0 68 rfl (by decide) (h := slices_S16x128_o0_68_S16x1)) ?_)
  refine Runs.bind (ld22 rfl ?_)
  refine Runs.bind (Ini.st22 (t := 70) (e_C 69 0 69 rfl (by decide) (h := slices_S16x128_o0_69_S16x1)) ?_)
  refine Runs.bind (ld22 rfl ?_)
  refine Runs.bind (Ini.st22 (t := 71) (e_C 70 0 70 rfl (by decide) (h := slices_S16x128_o0_70_S16x1)) ?_)
  refine Runs.bind (ld22 rfl ?_)
  refine Runs.bind (Ini.st22 (t := 72) (e_C 71 0 71 rfl (by decide) (h := slices_S16x128_o0_71_S16x1)) ?_)
  refine Runs.bind (ld22 rfl ?_)
  refine Runs.bind (Ini.st22 (t := 73) (e_C 72 0 72 rfl (by decide) (h := slices_S16x128_o0_72_S16x1)) ?_)
  exact Runs.pure hΦ

theorem val_39 {Φ} (hΦ : Φ (broadcastTo S16x128 (shapeCast S16x1 (extractStridedSlice S16x1 ![0, 78] (tC S 0) slices_S16x128_o0_78_S16x1) shapeCasts_S16x1_S16x1) broadcasts_S16x1_S16x128) (iniS S 1 1 1 128 78)) :
    Runs c A (ap A (k0_part39 (F := F) i) (tC S 0) (broadcastTo S16x128 (shapeCast S16x1 (extractStridedSlice S16x1 ![0, 73] (tC S 0) slices_S16x128_o0_73_S16x1) shapeCasts_S16x1_S16x1) broadcasts_S16x1_S16x128)) Φ (iniS S 1 1 1 128 73) := by
  rw [k0_part39_eq_skeleton]; unfold ap k0_part39_skel
  refine Runs.bind (ld22 rfl ?_)
  refine Runs.bind (Ini.st22 (t := 74) (e_C 73 0 73 rfl (by decide) (h := slices_S16x128_o0_73_S16x1)) ?_)
  refine Runs.bind (ld22 rfl ?_)
  refine Runs.bind (Ini.st22 (t := 75) (e_C 74 0 74 rfl (by decide) (h := slices_S16x128_o0_74_S16x1)) ?_)
  refine Runs.bind (ld22 rfl ?_)
  refine Runs.bind (Ini.st22 (t := 76) (e_C 75 0 75 rfl (by decide) (h := slices_S16x128_o0_75_S16x1)) ?_)
  refine Runs.bind (ld22 rfl ?_)
  refine Runs.bind (Ini.st22 (t := 77) (e_C 76 0 76 rfl (by decide) (h := slices_S16x128_o0_76_S16x1)) ?_)
  refine Runs.bind (ld22 rfl ?_)
  refine Runs.bind (Ini.st22 (t := 78) (e_C 77 0 77 rfl (by decide) (h := slices_S16x128_o0_77_S16x1)) ?_)
  refine Runs.bind (ld22 rfl ?_)
  exact Runs.pure hΦ

theorem val_40 {Φ} (hΦ : Φ (broadcastTo S16x128 (shapeCast S16x1 (extractStridedSlice S16x1 ![0, 84] (tC S 0) slices_S16x128_o0_84_S16x1) shapeCasts_S16x1_S16x1) broadcasts_S16x1_S16x128) (iniS S 1 1 1 128 84)) :
    Runs c A (ap A (k0_part40 (F := F) i) (tC S 0) (broadcastTo S16x128 (shapeCast S16x1 (extractStridedSlice S16x1 ![0, 78] (tC S 0) slices_S16x128_o0_78_S16x1) shapeCasts_S16x1_S16x1) broadcasts_S16x1_S16x128)) Φ (iniS S 1 1 1 128 78) := by
  rw [k0_part40_eq_skeleton]; unfold ap k0_part40_skel
  refine Runs.bind (Ini.st22 (t := 79) (e_C 78 0 78 rfl (by decide) (h := slices_S16x128_o0_78_S16x1)) ?_)
  refine Runs.bind (ld22 rfl ?_)
  refine Runs.bind (Ini.st22 (t := 80) (e_C 79 0 79 rfl (by decide) (h := slices_S16x128_o0_79_S16x1)) ?_)
  refine Runs.bind (ld22 rfl ?_)
  refine Runs.bind (Ini.st22 (t := 81) (e_C 80 0 80 rfl (by decide) (h := slices_S16x128_o0_80_S16x1)) ?_)
  refine Runs.bind (ld22 rfl ?_)
  refine Runs.bind (Ini.st22 (t := 82) (e_C 81 0 81 rfl (by decide) (h := slices_S16x128_o0_81_S16x1)) ?_)
  refine Runs.bind (ld22 rfl ?_)
  refine Runs.bind (Ini.st22 (t := 83) (e_C 82 0 82 rfl (by decide) (h := slices_S16x128_o0_82_S16x1)) ?_)
  refine Runs.bind (ld22 rfl ?_)
  refine Runs.bind (Ini.st22 (t := 84) (e_C 83 0 83 rfl (by decide) (h := slices_S16x128_o0_83_S16x1)) ?_)
  exact Runs.pure hΦ

theorem val_41 {Φ} (hΦ : ∀ b0, Φ ⟨broadcastTo S16x128 (shapeCast S16x1 (extractStridedSlice S16x1 ![0, 89] (tC S 0) slices_S16x128_o0_89_S16x1) shapeCasts_S16x1_S16x1) broadcasts_S16x1_S16x128, b0⟩ (iniS S 1 1 1 128 89)) :
    Runs c A (ap A (k0_part41 (F := F) i) (tC S 0) (broadcastTo S16x128 (shapeCast S16x1 (extractStridedSlice S16x1 ![0, 84] (tC S 0) slices_S16x128_o0_84_S16x1) shapeCasts_S16x1_S16x1) broadcasts_S16x1_S16x128)) Φ (iniS S 1 1 1 128 84) := by
  rw [k0_part41_eq_skeleton]; unfold ap k0_part41_skel
  refine Runs.bind (ld22 rfl ?_)
  refine Runs.bind (Ini.st22 (t := 85) (e_C 84 0 84 rfl (by decide) (h := slices_S16x128_o0_84_S16x1)) ?_)
  refine Runs.bind (ld22 rfl ?_)
  refine Runs.bind (Ini.st22 (t := 86) (e_C 85 0 85 rfl (by decide) (h := slices_S16x128_o0_85_S16x1)) ?_)
  refine Runs.bind (ld22 rfl ?_)
  refine Runs.bind (Ini.st22 (t := 87) (e_C 86 0 86 rfl (by decide) (h := slices_S16x128_o0_86_S16x1)) ?_)
  refine Runs.bind (ld22 rfl ?_)
  refine Runs.bind (Ini.st22 (t := 88) (e_C 87 0 87 rfl (by decide) (h := slices_S16x128_o0_87_S16x1)) ?_)
  refine Runs.bind (ld22 rfl ?_)
  refine Runs.bind (Ini.st22 (t := 89) (e_C 88 0 88 rfl (by decide) (h := slices_S16x128_o0_88_S16x1)) ?_)
  refine Runs.bind (ld22 rfl ?_)
  exact Runs.pure (hΦ _)

theorem val_42 (v1841 : Vec F S1x1x16x128 .f32) {Φ} (hΦ : Φ (shapeCast S16x1 (extractStridedSlice S16x1 ![0, 95] (tC S 0) slices_S16x128_o0_95_S16x1) shapeCasts_S16x1_S16x1) (iniS S 1 1 1 128 95)) :
    Runs c A (ap A (k0_part42 (F := F) i) (tC S 0) (broadcastTo S16x128 (shapeCast S16x1 (extractStridedSlice S16x1 ![0, 89] (tC S 0) slices_S16x128_o0_89_S16x1) shapeCasts_S16x1_S16x1) broadcasts_S16x1_S16x128) v1841) Φ (iniS S 1 1 1 128 89) := by
  rw [k0_part42_eq_skeleton]; unfold ap k0_part42_skel
  refine Runs.bind (Ini.st22 (t := 90) (e_C 89 0 89 rfl (by decide) (h := slices_S16x128_o0_89_S16x1)) ?_)
  refine Runs.bind (ld22 rfl ?_)
  refine Runs.bind (Ini.st22 (t := 91) (e_C 90 0 90 rfl (by decide) (h := slices_S16x128_o0_90_S16x1)) ?_)
  refine Runs.bind (ld22 rfl ?_)
  refine Runs.bind (Ini.st22 (t := 92) (e_C 91 0 91 rfl (by decide) (h := slices_S16x128_o0_91_S16x1)) ?_)
  refine Runs.bind (ld22 rfl ?_)
  refine Runs.bind (Ini.st22 (t := 93) (e_C 92 0 92 rfl (by decide) (h := slices_S16x128_o0_92_S16x1)) ?_)
  refine Runs.bind (ld22 rfl ?_)
  refine Runs.bind (Ini.st22 (t := 94) (e_C 93 0 93 rfl (by decide) (h := slices_S16x128_o0_93_S16x1)) ?_)
  refine Runs.bind (ld22 rfl ?_)
  refine Runs.bind (Ini.st22 (t := 95) (e_C 94 0 94 rfl (by decide) (h := slices_S16x128_o0_94_S16x1)) ?_)
  exact Runs.pure hΦ

theorem val_43 {Φ} (hΦ : Φ (broadcastTo S16x128 (shapeCast S16x1 (extractStridedSlice S16x1 ![0, 100] (tC S 0) slices_S16x128_o0_100_S16x1) shapeCasts_S16x1_S16x1) broadcasts_S16x1_S16x128) (iniS S 1 1 1 128 100)) :
    Runs c A (ap A (k0_part43 (F := F) i) (tC S 0) (shapeCast S16x1 (extractStridedSlice S16x1 ![0, 95] (tC S 0) slices_S16x128_o0_95_S16x1) shapeCasts_S16x1_S16x1)) Φ (iniS S 1 1 1 128 95) := by
  rw [k0_part43_eq_skeleton]; unfold ap k0_part43_skel
  refine Runs.bind (ld22 rfl ?_)
  refine Runs.bind (Ini.st22 (t := 96) (e_C 95 0 95 rfl (by decide) (h := slices_S16x128_o0_95_S16x1)) ?_)
  refine Runs.bind (ld22 rfl ?_)
  refine Runs.bind (Ini.st22 (t := 97) (e_C 96 0 96 rfl (by decide) (h := slices_S16x128_o0_96_S16x1)) ?_)
  refine Runs.bind (ld22 rfl ?_)
  refine Runs.bind (Ini.st22 (t := 98) (e_C 97 0 97 rfl (by decide) (h := slices_S16x128_o0_97_S16x1)) ?_)
  refine Runs.bind (ld22 rfl ?_)
  refine Runs.bind (Ini.st22 (t := 99) (e_C 98 0 98 rfl (by decide) (h := slices_S16x128_o0_98_S16x1)) ?_)
  refine Runs.bind (ld22 rfl ?_)
  refine Runs.bind (Ini.st22 (t := 100) (e_C 99 0 99 rfl (by decide) (h := slices_S16x128_o0_99_S16x1)) ?_)
  exact Runs.pure hΦ

theorem val_44 {Φ} (hΦ : Φ (extractStridedSlice S16x1 ![0, 106] (tC S 0) slices_S16x128_o0_106_S16x1) (iniS S 1 1 1 128 106)) :
    Runs c A (ap A (k0_part44 (F := F) i) (tC S 0) (broadcastTo S16x128 (shapeCast S16x1 (extractStridedSlice S16x1 ![0, 100] (tC S 0) slices_S16x128_o0_100_S16x1) shapeCasts_S16x1_S16x1) broadcasts_S16x1_S16x128)) Φ (iniS S 1 1 1 128 100) := by
  rw [k0_part44_eq_skeleton]; unfold ap k0_part44_skel
  refine Runs.bind (ld22 rfl ?_)
  refine Runs.bind (Ini.st22 (t := 101) (e_C 100 0 100 rfl (by decide) (h := slices_S16x128_o0_100_S16x1)) ?_)
  refine Runs.bind (ld22 rfl ?_)
  refine Runs.bind (Ini.st22 (t := 102) (e_C 101 0 101 rfl (by decide) (h := slices_S16x128_o0_101_S16x1)) ?_)
  refine Runs.bind (ld22 rfl ?_)
  refine Runs.bind (Ini.st22 (t := 103) (e_C 102 0 102 rfl (by decide) (h := slices_S16x128_o0_102_S16x1)) ?_)
  refine Runs.bind (ld22 rfl ?_)
  refine Runs.bind (Ini.st22 (t := 104) (e_C 103 0 103 rfl (by decide) (h := slices_S16x128_o0_103_S16x1)) ?_)
  refine Runs.bind (ld22 rfl ?_)
  refine Runs.bind (Ini.st22 (t := 105) (e_C 104 0 104 rfl (by decide) (h := slices_S16x128_o0_104_S16x1)) ?_)
  refine Runs.bind (ld22 rfl ?_)
  refine Runs.bind (Ini.st22 (t := 106) (e_C 105 0 105 rfl (by decide) (h := slices_S16x128_o0_105_S16x1)) ?_)
  exact Runs.pure hΦ

theorem val_45 {Φ} (hΦ : Φ (broadcastTo S16x128 (shapeCast S16x1 (extractStridedSlice S16x1 ![0, 111] (tC S 0) slices_S16x128_o0_111_S16x1) shapeCasts_S16x1_S16x1) broadcasts_S16x1_S16x128) (iniS S 1 1 1 128 111)) :
    Runs c A (ap A (k0_part45 (F := F) i) (tC S 0) (extractStridedSlice S16x1 ![0, 106] (tC S 0) slices_S16x128_o0_106_S16x1)) Φ (iniS S 1 1 1 128 106) := by
  rw [k0_part45_eq_skeleton]; unfold ap k0_part45_skel
  refine Runs.bind (ld22 rfl ?_)
  refine Runs.bind (Ini.st22 (t := 107) (e_C 106 0 106 rfl (by decide) (h := slices_S16x128_o0_106_S16x1)) ?_)
  refine Runs.bind (ld22 rfl ?_)
  refine Runs.bind (Ini.st22 (t := 108) (e_C 107 0 107 rfl (by decide) (h := slices_S16x128_o0_107_S16x1)) ?_)
  refine Runs.bind (ld22 rfl ?_)
  refine Runs.bind (Ini.st22 (t := 109) (e_C 108 0 108 rfl (by decide) (h := slices_S16x128_o0_108_S16x1)) ?_)
  refine Runs.bind (ld22 rfl ?_)
  refine Runs.bind (Ini.st22 (t := 110) (e_C 109 0 109 rfl (by decide) (h := slices_S16x128_o0_109_S16x1)) ?_)
  refine Runs.bind (ld22 rfl ?_)
  refine Runs.bind (Ini.st22 (t := 111) (e_C 110 0 110 rfl (by decide) (h := slices_S16x128_o0_110_S16x1)) ?_)
  exact Runs.pure hΦ

theorem val_46 {Φ} (hΦ : Φ PUnit.unit (iniS S 1 1 1 128 117)) :
    Runs c A (ap A (k0_part46 (F := F) i) (tC S 0) (broadcastTo S16x128 (shapeCast S16x1 (extractStridedSlice S16x1 ![0, 111] (tC S 0) slices_S16x128_o0_111_S16x1) shapeCasts_S16x1_S16x1) broadcasts_S16x1_S16x128)) Φ (iniS S 1 1 1 128 111) := by
  rw [k0_part46_eq_skeleton]; unfold ap k0_part46_skel
  refine Runs.bind (ld22 rfl ?_)
  refine Runs.bind (Ini.st22 (t := 112) (e_C 111 0 111 rfl (by decide) (h := slices_S16x128_o0_111_S16x1)) ?_)
  refine Runs.bind (ld22 rfl ?_)
  refine Runs.bind (Ini.st22 (t := 113) (e_C 112 0 112 rfl (by decide) (h := slices_S16x128_o0_112_S16x1)) ?_)
  refine Runs.bind (ld22 rfl ?_)
  refine Runs.bind (Ini.st22 (t := 114) (e_C 113 0 113 rfl (by decide) (h := slices_S16x128_o0_113_S16x1)) ?_)
  refine Runs.bind (ld22 rfl ?_)
  refine Runs.bind (Ini.st22 (t := 115) (e_C 114 0 114 rfl (by decide) (h := slices_S16x128_o0_114_S16x1)) ?_)
  refine Runs.bind (ld22 rfl ?_)
  refine Runs.bind (Ini.st22 (t := 116) (e_C 115 0 115 rfl (by decide) (h := slices_S16x128_o0_115_S16x1)) ?_)
  refine Runs.bind (ld22 rfl ?_)
  refine Runs.bind (Ini.st22 (t := 117) (e_C 116 0 116 rfl (by decide) (h := slices_S16x128_o0_116_S16x1)) ?_)
  exact Runs.pure hΦ

theorem val_47 {Φ} (hΦ : Φ (broadcastTo S16x128 (shapeCast S16x1 (extractStridedSlice S16x1 ![0, 122] (tC S 0) slices_S16x128_o0_122_S16x1) shapeCasts_S16x1_S16x1) broadcasts_S16x1_S16x128) (iniS S 1 1 1 128 122)) :
    Runs c A (ap A (k0_part47 (F := F) i) (tC S 0)) Φ (iniS S 1 1 1 128 117) := by
  rw [k0_part47_eq_skeleton]; unfold ap k0_part47_skel
  refine Runs.bind (ld22 rfl ?_)
  refine Runs.bind (Ini.st22 (t := 118) (e_C 117 0 117 rfl (by decide) (h := slices_S16x128_o0_117_S16x1)) ?_)
  refine Runs.bind (ld22 rfl ?_)
  refine Runs.bind (Ini.st22 (t := 119) (e_C 118 0 118 rfl (by decide) (h := slices_S16x128_o0_118_S16x1)) ?_)
  refine Runs.bind (ld22 rfl ?_)
  refine Runs.bind (Ini.st22 (t := 120) (e_C 119 0 119 rfl (by decide) (h := slices_S16x128_o0_119_S16x1)) ?_)
  refine Runs.bind (ld22 rfl ?_)
  refine Runs.bind (Ini.st22 (t := 121) (e_C 120 0 120 rfl (by decide) (h := slices_S16x128_o0_120_S16x1)) ?_)
  refine Runs.bind (ld22 rfl ?_)
  refine Runs.bind (Ini.st22 (t := 122) (e_C 121 0 121 rfl (by decide) (h := slices_S16x128_o0_121_S16x1)) ?_)
  exact Runs.pure hΦ

theorem val_48 {Φ} (hΦ : Φ (shapeCast S1x1x16x128 (broadcastTo S16x128 (shapeCast S16x1 (extractStridedSlice S16x1 ![0, 127] (tC S 0) slices_S16x128_o0_127_S16x1) shapeCasts_S16x1_S16x1) broadcasts_S16x1_S16x128) shapeCasts_S16x128_S1x1x16x128) (iniS S 1 1 1 128 127)) :
    Runs c A (ap A (k0_part48 (F := F) i) (tC S 0) (broadcastTo S16x128 (shapeCast S16x1 (extractStridedSlice S16x1 ![0, 122] (tC S 0) slices_S16x128_o0_122_S16x1) shapeCasts_S16x1_S16x1) broadcasts_S16x1_S16x128)) Φ (iniS S 1 1 1 128 122) := by
  rw [k0_part48_eq_skeleton]; unfold ap k0_part48_skel
  refine Runs.bind (ld22 rfl ?_)
  refine Runs.bind (Ini.st22 (t := 123) (e_C 122 0 122 rfl (by decide) (h := slices_S16x128_o0_122_S16x1)) ?_)
  refine Runs.bind (ld22 rfl ?_)
  refine Runs.bind (Ini.st22 (t := 124) (e_C 123 0 123 rfl (by decide) (h := slices_S16x128_o0_123_S16x1)) ?_)
  refine Runs.bind (ld22 rfl ?_)
  refine Runs.bind (Ini.st22 (t := 125) (e_C 124 0 124 rfl (by decide) (h := slices_S16x128_o0_124_S16x1)) ?_)
  refine Runs.bind (ld22 rfl ?_)
  refine Runs.bind (Ini.st22 (t := 126) (e_C 125 0 125 rfl (by decide) (h := slices_S16x128_o0_125_S16x1)) ?_)
  refine Runs.bind (ld22 rfl ?_)
  refine Runs.bind (Ini.st22 (t := 127) (e_C 126 0 126 rfl (by decide) (h := slices_S16x128_o0_126_S16x1)) ?_)
  refine Runs.bind (ld22 rfl ?_)
  exact Runs.pure hΦ

end Cert.KernelIdeal.Scan

end
-- ==== Proof.ScanI.Ini4.lean ====
/- What parts of the preparation compute. -/
module

public import proofs.«01_k».proof.Proof.ScanI.Defs

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {S : St F} {i : grid0.Coords}

theorem val_49 {Φ} (hΦ : Φ ⟨tB S 1, broadcastTo S16x128 (shapeCast S16x1 (extractStridedSlice S16x1 ![0, 0] (tB S 1) slices_S16x128_o0_0_S16x1) shapeCasts_S16x1_S16x1) broadcasts_S16x1_S16x128⟩ (iniS S 2 2 2 128 128)) :
    Runs c A (ap A (k0_part49 (F := F) i) (shapeCast S1x1x16x128 (broadcastTo S16x128 (shapeCast S16x1 (extractStridedSlice S16x1 ![0, 127] (tC S 0) slices_S16x128_o0_127_S16x1) shapeCasts_S16x1_S16x1) broadcasts_S16x1_S16x128) shapeCasts_S16x128_S1x1x16x128)) Φ (iniS S 1 1 1 128 127) := by
  rw [k0_part49_eq_skeleton]; unfold ap k0_part49_skel
  refine Runs.bind (Ini.st22 (t := 128) (e_C 127 0 127 rfl (by decide) (h := slices_S16x128_o0_127_S16x1)) ?_)
  refine Runs.bind (ld4 (Z := rx S 1) (tile_eq rfl) ?_)
  refine Runs.bind (ld18 rfl ?_)
  refine Runs.bind (Ini.st18 (t := 2) (e_x 1) ?_)
  refine Runs.bind (ld6 (Z := rd S 1) (tile_eq rfl) ?_)
  refine Runs.bind (ld19 rfl ?_)
  refine Runs.bind (Ini.st19 (t := 2) (e_dt 1) ?_)
  refine Runs.bind (ld15 (Z := rf S 1) (tile_eq rfl) ?_)
  refine Runs.bind (ld20 rfl ?_)
  refine Runs.bind (Ini.st20 (t := 2) (e_f 1) ?_)
  refine Runs.bind (ld7 (Z := mB S 1) (tile_eq rfl) ?_)
  refine Runs.bind (ld8 (Z := rB S 1) (tile_eq rfl) ?_)
  exact Runs.pure hΦ

theorem val_50 {Φ} (hΦ : Φ PUnit.unit (iniS S 2 2 2 134 128)) :
    Runs c A (ap A (k0_part50 (F := F) i) (tB S 1) (broadcastTo S16x128 (shapeCast S16x1 (extractStridedSlice S16x1 ![0, 0] (tB S 1) slices_S16x128_o0_0_S16x1) shapeCasts_S16x1_S16x1) broadcasts_S16x1_S16x128)) Φ (iniS S 2 2 2 128 128) := by
  rw [k0_part50_eq_skeleton]; unfold ap k0_part50_skel
  refine Runs.bind (ld21 rfl ?_)
  refine Runs.bind (Ini.st21 (t := 129) (e_B 128 1 0 rfl (by decide) (h := slices_S16x128_o0_0_S16x1)) ?_)
  refine Runs.bind (ld21 rfl ?_)
  refine Runs.bind (Ini.st21 (t := 130) (e_B 129 1 1 rfl (by decide) (h := slices_S16x128_o0_1_S16x1)) ?_)
  refine Runs.bind (ld21 rfl ?_)
  refine Runs.bind (Ini.st21 (t := 131) (e_B 130 1 2 rfl (by decide) (h := slices_S16x128_o0_2_S16x1)) ?_)
  refine Runs.bind (ld21 rfl ?_)
  refine Runs.bind (Ini.st21 (t := 132) (e_B 131 1 3 rfl (by decide) (h := slices_S16x128_o0_3_S16x1)) ?_)
  refine Runs.bind (ld21 rfl ?_)
  refine Runs.bind (Ini.st21 (t := 133) (e_B 132 1 4 rfl (by decide) (h := slices_S16x128_o0_4_S16x1)) ?_)
  refine Runs.bind (ld21 rfl ?_)
  refine Runs.bind (Ini.st21 (t := 134) (e_B 133 1 5 rfl (by decide) (h := slices_S16x128_o0_5_S16x1)) ?_)
  exact Runs.pure hΦ

theorem val_51 {Φ} (hΦ : Φ (broadcastTo S16x128 (shapeCast S16x1 (extractStridedSlice S16x1 ![0, 11] (tB S 1) slices_S16x128_o0_11_S16x1) shapeCasts_S16x1_S16x1) broadcasts_S16x1_S16x128) (iniS S 2 2 2 139 128)) :
    Runs c A (ap A (k0_part51 (F := F) i) (tB S 1)) Φ (iniS S 2 2 2 134 128) := by
  rw [k0_part51_eq_skeleton]; unfold ap k0_part51_skel
  refine Runs.bind (ld21 rfl ?_)
  refine Runs.bind (Ini.st21 (t := 135) (e_B 134 1 6 rfl (by decide) (h := slices_S16x128_o0_6_S16x1)) ?_)
  refine Runs.bind (ld21 rfl ?_)
  refine Runs.bind (Ini.st21 (t := 136) (e_B 135 1 7 rfl (by decide) (h := slices_S16x128_o0_7_S16x1)) ?_)
  refine Runs.bind (ld21 rfl ?_)
  refine Runs.bind (Ini.st21 (t := 137) (e_B 136 1 8 rfl (by decide) (h := slices_S16x128_o0_8_S16x1)) ?_)
  refine Runs.bind (ld21 rfl ?_)
  refine Runs.bind (Ini.st21 (t := 138) (e_B 137 1 9 rfl (by decide) (h := slices_S16x128_o0_9_S16x1)) ?_)
  refine Runs.bind (ld21 rfl ?_)
  refine Runs.bind (Ini.st21 (t := 139) (e_B 138 1 10 rfl (by decide) (h := slices_S16x128_o0_10_S16x1)) ?_)
  exact Runs.pure hΦ

theorem val_52 {Φ} (hΦ : Φ (shapeCast S1x1x16x128 (broadcastTo S16x128 (shapeCast S16x1 (extractStridedSlice S16x1 ![0, 16] (tB S 1) slices_S16x128_o0_16_S16x1) shapeCasts_S16x1_S16x1) broadcasts_S16x1_S16x128) shapeCasts_S16x128_S1x1x16x128) (iniS S 2 2 2 144 128)) :
    Runs c A (ap A (k0_part52 (F := F) i) (tB S 1) (broadcastTo S16x128 (shapeCast S16x1 (extractStridedSlice S16x1 ![0, 11] (tB S 1) slices_S16x128_o0_11_S16x1) shapeCasts_S16x1_S16x1) broadcasts_S16x1_S16x128)) Φ (iniS S 2 2 2 139 128) := by
  rw [k0_part52_eq_skeleton]; unfold ap k0_part52_skel
  refine Runs.bind (ld21 rfl ?_)
  refine Runs.bind (Ini.st21 (t := 140) (e_B 139 1 11 rfl (by decide) (h := slices_S16x128_o0_11_S16x1)) ?_)
  refine Runs.bind (ld21 rfl ?_)
  refine Runs.bind (Ini.st21 (t := 141) (e_B 140 1 12 rfl (by decide) (h := slices_S16x128_o0_12_S16x1)) ?_)
  refine Runs.bind (ld21 rfl ?_)
  refine Runs.bind (Ini.st21 (t := 142) (e_B 141 1 13 rfl (by decide) (h := slices_S16x128_o0_13_S16x1)) ?_)
  refine Runs.bind (ld21 rfl ?_)
  refine Runs.bind (Ini.st21 (t := 143) (e_B 142 1 14 rfl (by decide) (h := slices_S16x128_o0_14_S16x1)) ?_)
  refine Runs.bind (ld21 rfl ?_)
  refine Runs.bind (Ini.st21 (t := 144) (e_B 143 1 15 rfl (by decide) (h := slices_S16x128_o0_15_S16x1)) ?_)
  refine Runs.bind (ld21 rfl ?_)
  exact Runs.pure hΦ

theorem val_53 {Φ} (hΦ : Φ (broadcastTo S16x128 (shapeCast S16x1 (extractStridedSlice S16x1 ![0, 22] (tB S 1) slices_S16x128_o0_22_S16x1) shapeCasts_S16x1_S16x1) broadcasts_S16x1_S16x128) (iniS S 2 2 2 150 128)) :
    Runs c A (ap A (k0_part53 (F := F) i) (tB S 1) (shapeCast S1x1x16x128 (broadcastTo S16x128 (shapeCast S16x1 (extractStridedSlice S16x1 ![0, 16] (tB S 1) slices_S16x128_o0_16_S16x1) shapeCasts_S16x1_S16x1) broadcasts_S16x1_S16x128) shapeCasts_S16x128_S1x1x16x128)) Φ (iniS S 2 2 2 144 128) := by
  rw [k0_part53_eq_skeleton]; unfold ap k0_part53_skel
  refine Runs.bind (Ini.st21 (t := 145) (e_B 144 1 16 rfl (by decide) (h := slices_S16x128_o0_16_S16x1)) ?_)
  refine Runs.bind (ld21 rfl ?_)
  refine Runs.bind (Ini.st21 (t := 146) (e_B 145 1 17 rfl (by decide) (h := slices_S16x128_o0_17_S16x1)) ?_)
  refine Runs.bind (ld21 rfl ?_)
  refine Runs.bind (Ini.st21 (t := 147) (e_B 146 1 18 rfl (by decide) (h := slices_S16x128_o0_18_S16x1)) ?_)
  refine Runs.bind (ld21 rfl ?_)
  refine Runs.bind (Ini.st21 (t := 148) (e_B 147 1 19 rfl (by decide) (h := slices_S16x128_o0_19_S16x1)) ?_)
  refine Runs.bind (ld21 rfl ?_)
  refine Runs.bind (Ini.st21 (t := 149) (e_B 148 1 20 rfl (by decide) (h := slices_S16x128_o0_20_S16x1)) ?_)
  refine Runs.bind (ld21 rfl ?_)
  refine Runs.bind (Ini.st21 (t := 150) (e_B 149 1 21 rfl (by decide) (h := slices_S16x128_o0_21_S16x1)) ?_)
  exact Runs.pure hΦ

theorem val_54 {Φ} (hΦ : Φ (broadcastTo S16x128 (shapeCast S16x1 (extractStridedSlice S16x1 ![0, 27] (tB S 1) slices_S16x128_o0_27_S16x1) shapeCasts_S16x1_S16x1) broadcasts_S16x1_S16x128) (iniS S 2 2 2 155 128)) :
    Runs c A (ap A (k0_part54 (F := F) i) (tB S 1) (broadcastTo S16x128 (shapeCast S16x1 (extractStridedSlice S16x1 ![0, 22] (tB S 1) slices_S16x128_o0_22_S16x1) shapeCasts_S16x1_S16x1) broadcasts_S16x1_S16x128)) Φ (iniS S 2 2 2 150 128) := by
  rw [k0_part54_eq_skeleton]; unfold ap k0_part54_skel
  refine Runs.bind (ld21 rfl ?_)
  refine Runs.bind (Ini.st21 (t := 151) (e_B 150 1 22 rfl (by decide) (h := slices_S16x128_o0_22_S16x1)) ?_)
  refine Runs.bind (ld21 rfl ?_)
  refine Runs.bind (Ini.st21 (t := 152) (e_B 151 1 23 rfl (by decide) (h := slices_S16x128_o0_23_S16x1)) ?_)
  refine Runs.bind (ld21 rfl ?_)
  refine Runs.bind (Ini.st21 (t := 153) (e_B 152 1 24 rfl (by decide) (h := slices_S16x128_o0_24_S16x1)) ?_)
  refine Runs.bind (ld21 rfl ?_)
  refine Runs.bind (Ini.st21 (t := 154) (e_B 153 1 25 rfl (by decide) (h := slices_S16x128_o0_25_S16x1)) ?_)
  refine Runs.bind (ld21 rfl ?_)
  refine Runs.bind (Ini.st21 (t := 155) (e_B 154 1 26 rfl (by decide) (h := slices_S16x128_o0_26_S16x1)) ?_)
  refine Runs.bind (ld21 rfl ?_)
  exact Runs.pure hΦ

theorem val_55 {Φ} (hΦ : Φ (broadcastTo S16x128 (shapeCast S16x1 (extractStridedSlice S16x1 ![0, 33] (tB S 1) slices_S16x128_o0_33_S16x1) shapeCasts_S16x1_S16x1) broadcasts_S16x1_S16x128) (iniS S 2 2 2 161 128)) :
    Runs c A (ap A (k0_part55 (F := F) i) (tB S 1) (broadcastTo S16x128 (shapeCast S16x1 (extractStridedSlice S16x1 ![0, 27] (tB S 1) slices_S16x128_o0_27_S16x1) shapeCasts_S16x1_S16x1) broadcasts_S16x1_S16x128)) Φ (iniS S 2 2 2 155 128) := by
  rw [k0_part55_eq_skeleton]; unfold ap k0_part55_skel
  refine Runs.bind (Ini.st21 (t := 156) (e_B 155 1 27 rfl (by decide) (h := slices_S16x128_o0_27_S16x1)) ?_)
  refine Runs.bind (ld21 rfl ?_)
  refine Runs.bind (Ini.st21 (t := 157) (e_B 156 1 28 rfl (by decide) (h := slices_S16x128_o0_28_S16x1)) ?_)
  refine Runs.bind (ld21 rfl ?_)
  refine Runs.bind (Ini.st21 (t := 158) (e_B 157 1 29 rfl (by decide) (h := slices_S16x128_o0_29_S16x1)) ?_)
  refine Runs.bind (ld21 rfl ?_)
  refine Runs.bind (Ini.st21 (t := 159) (e_B 158 1 30 rfl (by decide) (h := slices_S16x128_o0_30_S16x1)) ?_)
  refine Runs.bind (ld21 rfl ?_)
  refine Runs.bind (Ini.st21 (t := 160) (e_B 159 1 31 rfl (by decide) (h := slices_S16x128_o0_31_S16x1)) ?_)
  refine Runs.bind (ld21 rfl ?_)
  refine Runs.bind (Ini.st21 (t := 161) (e_B 160 1 32 rfl (by decide) (h := slices_S16x128_o0_32_S16x1)) ?_)
  exact Runs.pure hΦ

theorem val_56 {Φ} (hΦ : ∀ b0, Φ ⟨broadcastTo S16x128 (shapeCast S16x1 (extractStridedSlice S16x1 ![0, 38] (tB S 1) slices_S16x128_o0_38_S16x1) shapeCasts_S16x1_S16x1) broadcasts_S16x1_S16x128, b0⟩ (iniS S 2 2 2 166 128)) :
    Runs c A (ap A (k0_part56 (F := F) i) (tB S 1) (broadcastTo S16x128 (shapeCast S16x1 (extractStridedSlice S16x1 ![0, 33] (tB S 1) slices_S16x128_o0_33_S16x1) shapeCasts_S16x1_S16x1) broadcasts_S16x1_S16x128)) Φ (iniS S 2 2 2 161 128) := by
  rw [k0_part56_eq_skeleton]; unfold ap k0_part56_skel
  refine Runs.bind (ld21 rfl ?_)
  refine Runs.bind (Ini.st21 (t := 162) (e_B 161 1 33 rfl (by decide) (h := slices_S16x128_o0_33_S16x1)) ?_)
  refine Runs.bind (ld21 rfl ?_)
  refine Runs.bind (Ini.st21 (t := 163) (e_B 162 1 34 rfl (by decide) (h := slices_S16x128_o0_34_S16x1)) ?_)
  refine Runs.bind (ld21 rfl ?_)
  refine Runs.bind (Ini.st21 (t := 164) (e_B 163 1 35 rfl (by decide) (h := slices_S16x128_o0_35_S16x1)) ?_)
  refine Runs.bind (ld21 rfl ?_)
  refine Runs.bind (Ini.st21 (t := 165) (e_B 164 1 36 rfl (by decide) (h := slices_S16x128_o0_36_S16x1)) ?_)
  refine Runs.bind (ld21 rfl ?_)
  refine Runs.bind (Ini.st21 (t := 166) (e_B 165 1 37 rfl (by decide) (h := slices_S16x128_o0_37_S16x1)) ?_)
  refine Runs.bind (ld21 rfl ?_)
  exact Runs.pure (hΦ _)

theorem val_57 (v2333 : Vec F S1x1x16x128 .f32) {Φ} (hΦ : Φ (shapeCast S16x1 (extractStridedSlice S16x1 ![0, 44] (tB S 1) slices_S16x128_o0_44_S16x1) shapeCasts_S16x1_S16x1) (iniS S 2 2 2 172 128)) :
    Runs c A (ap A (k0_part57 (F := F) i) (tB S 1) (broadcastTo S16x128 (shapeCast S16x1 (extractStridedSlice S16x1 ![0, 38] (tB S 1) slices_S16x128_o0_38_S16x1) shapeCasts_S16x1_S16x1) broadcasts_S16x1_S16x128) v2333) Φ (iniS S 2 2 2 166 128) := by
  rw [k0_part57_eq_skeleton]; unfold ap k0_part57_skel
  refine Runs.bind (Ini.st21 (t := 167) (e_B 166 1 38 rfl (by decide) (h := slices_S16x128_o0_38_S16x1)) ?_)
  refine Runs.bind (ld21 rfl ?_)
  refine Runs.bind (Ini.st21 (t := 168) (e_B 167 1 39 rfl (by decide) (h := slices_S16x128_o0_39_S16x1)) ?_)
  refine Runs.bind (ld21 rfl ?_)
  refine Runs.bind (Ini.st21 (t := 169) (e_B 168 1 40 rfl (by decide) (h := slices_S16x128_o0_40_S16x1)) ?_)
  refine Runs.bind (ld21 rfl ?_)
  refine Runs.bind (Ini.st21 (t := 170) (e_B 169 1 41 rfl (by decide) (h := slices_S16x128_o0_41_S16x1)) ?_)
  refine Runs.bind (ld21 rfl ?_)
  refine Runs.bind (Ini.st21 (t := 171) (e_B 170 1 42 rfl (by decide) (h := slices_S16x128_o0_42_S16x1)) ?_)
  refine Runs.bind (ld21 rfl ?_)
  refine Runs.bind (Ini.st21 (t := 172) (e_B 171 1 43 rfl (by decide) (h := slices_S16x128_o0_43_S16x1)) ?_)
  exact Runs.pure hΦ

theorem val_58 {Φ} (hΦ : Φ (broadcastTo S16x128 (shapeCast S16x1 (extractStridedSlice S16x1 ![0, 49] (tB S 1) slices_S16x128_o0_49_S16x1) shapeCasts_S16x1_S16x1) broadcasts_S16x1_S16x128) (iniS S 2 2 2 177 128)) :
    Runs c A (ap A (k0_part58 (F := F) i) (tB S 1) (shapeCast S16x1 (extractStridedSlice S16x1 ![0, 44] (tB S 1) slices_S16x128_o0_44_S16x1) shapeCasts_S16x1_S16x1)) Φ (iniS S 2 2 2 172 128) := by
  rw [k0_part58_eq_skeleton]; unfold ap k0_part58_skel
  refine Runs.bind (ld21 rfl ?_)
  refine Runs.bind (Ini.st21 (t := 173) (e_B 172 1 44 rfl (by decide) (h := slices_S16x128_o0_44_S16x1)) ?_)
  refine Runs.bind (ld21 rfl ?_)
  refine Runs.bind (Ini.st21 (t := 174) (e_B 173 1 45 rfl (by decide) (h := slices_S16x128_o0_45_S16x1)) ?_)
  refine Runs.bind (ld21 rfl ?_)
  refine Runs.bind (Ini.st21 (t := 175) (e_B 174 1 46 rfl (by decide) (h := slices_S16x128_o0_46_S16x1)) ?_)
  refine Runs.bind (ld21 rfl ?_)
  refine Runs.bind (Ini.st21 (t := 176) (e_B 175 1 47 rfl (by decide) (h := slices_S16x128_o0_47_S16x1)) ?_)
  refine Runs.bind (ld21 rfl ?_)
  refine Runs.bind (Ini.st21 (t := 177) (e_B 176 1 48 rfl (by decide) (h := slices_S16x128_o0_48_S16x1)) ?_)
  exact Runs.pure hΦ

theorem val_59 {Φ} (hΦ : Φ (extractStridedSlice S16x1 ![0, 55] (tB S 1) slices_S16x128_o0_55_S16x1) (iniS S 2 2 2 183 128)) :
    Runs c A (ap A (k0_part59 (F := F) i) (tB S 1) (broadcastTo S16x128 (shapeCast S16x1 (extractStridedSlice S16x1 ![0, 49] (tB S 1) slices_S16x128_o0_49_S16x1) shapeCasts_S16x1_S16x1) broadcasts_S16x1_S16x128)) Φ (iniS S 2 2 2 177 128) := by
  rw [k0_part59_eq_skeleton]; unfold ap k0_part59_skel
  refine Runs.bind (ld21 rfl ?_)
  refine Runs.bind (Ini.st21 (t := 178) (e_B 177 1 49 rfl (by decide) (h := slices_S16x128_o0_49_S16x1)) ?_)
  refine Runs.bind (ld21 rfl ?_)
  refine Runs.bind (Ini.st21 (t := 179) (e_B 178 1 50 rfl (by decide) (h := slices_S16x128_o0_50_S16x1)) ?_)
  refine Runs.bind (ld21 rfl ?_)
  refine Runs.bind (Ini.st21 (t := 180) (e_B 179 1 51 rfl (by decide) (h := slices_S16x128_o0_51_S16x1)) ?_)
  refine Runs.bind (ld21 rfl ?_)
  refine Runs.bind (Ini.st21 (t := 181) (e_B 180 1 52 rfl (by decide) (h := slices_S16x128_o0_52_S16x1)) ?_)
  refine Runs.bind (ld21 rfl ?_)
  refine Runs.bind (Ini.st21 (t := 182) (e_B 181 1 53 rfl (by decide) (h := slices_S16x128_o0_53_S16x1)) ?_)
  refine Runs.bind (ld21 rfl ?_)
  refine Runs.bind (Ini.st21 (t := 183) (e_B 182 1 54 rfl (by decide) (h := slices_S16x128_o0_54_S16x1)) ?_)
  exact Runs.pure hΦ

theorem val_60 {Φ} (hΦ : Φ (broadcastTo S16x128 (shapeCast S16x1 (extractStridedSlice S16x1 ![0, 60] (tB S 1) slices_S16x128_o0_60_S16x1) shapeCasts_S16x1_S16x1) broadcasts_S16x1_S16x128) (iniS S 2 2 2 188 128)) :
    Runs c A (ap A (k0_part60 (F := F) i) (tB S 1) (extractStridedSlice S16x1 ![0, 55] (tB S 1) slices_S16x128_o0_55_S16x1)) Φ (iniS S 2 2 2 183 128) := by
  rw [k0_part60_eq_skeleton]; unfold ap k0_part60_skel
  refine Runs.bind (ld21 rfl ?_)
  refine Runs.bind (Ini.st21 (t := 184) (e_B 183 1 55 rfl (by decide) (h := slices_S16x128_o0_55_S16x1)) ?_)
  refine Runs.bind (ld21 rfl ?_)
  refine Runs.bind (Ini.st21 (t := 185) (e_B 184 1 56 rfl (by decide) (h := slices_S16x128_o0_56_S16x1)) ?_)
  refine Runs.bind (ld21 rfl ?_)
  refine Runs.bind (Ini.st21 (t := 186) (e_B 185 1 57 rfl (by decide) (h := slices_S16x128_o0_57_S16x1)) ?_)
  refine Runs.bind (ld21 rfl ?_)
  refine Runs.bind (Ini.st21 (t := 187) (e_B 186 1 58 rfl (by decide) (h := slices_S16x128_o0_58_S16x1)) ?_)
  refine Runs.bind (ld21 rfl ?_)
  refine Runs.bind (Ini.st21 (t := 188) (e_B 187 1 59 rfl (by decide) (h := slices_S16x128_o0_59_S16x1)) ?_)
  exact Runs.pure hΦ

theorem val_61 {Φ} (hΦ : Φ PUnit.unit (iniS S 2 2 2 194 128)) :
    Runs c A (ap A (k0_part61 (F := F) i) (tB S 1) (broadcastTo S16x128 (shapeCast S16x1 (extractStridedSlice S16x1 ![0, 60] (tB S 1) slices_S16x128_o0_60_S16x1) shapeCasts_S16x1_S16x1) broadcasts_S16x1_S16x128)) Φ (iniS S 2 2 2 188 128) := by
  rw [k0_part61_eq_skeleton]; unfold ap k0_part61_skel
  refine Runs.bind (ld21 rfl ?_)
  refine Runs.bind (Ini.st21 (t := 189) (e_B 188 1 60 rfl (by decide) (h := slices_S16x128_o0_60_S16x1)) ?_)
  refine Runs.bind (ld21 rfl ?_)
  refine Runs.bind (Ini.st21 (t := 190) (e_B 189 1 61 rfl (by decide) (h := slices_S16x128_o0_61_S16x1)) ?_)
  refine Runs.bind (ld21 rfl ?_)
  refine Runs.bind (Ini.st21 (t := 191) (e_B 190 1 62 rfl (by decide) (h := slices_S16x128_o0_62_S16x1)) ?_)
  refine Runs.bind (ld21 rfl ?_)
  refine Runs.bind (Ini.st21 (t := 192) (e_B 191 1 63 rfl (by decide) (h := slices_S16x128_o0_63_S16x1)) ?_)
  refine Runs.bind (ld21 rfl ?_)
  refine Runs.bind (Ini.st21 (t := 193) (e_B 192 1 64 rfl (by decide) (h := slices_S16x128_o0_64_S16x1)) ?_)
  refine Runs.bind (ld21 rfl ?_)
  refine Runs.bind (Ini.st21 (t := 194) (e_B 193 1 65 rfl (by decide) (h := slices_S16x128_o0_65_S16x1)) ?_)
  exact Runs.pure hΦ

theorem val_62 {Φ} (hΦ : Φ (broadcastTo S16x128 (shapeCast S16x1 (extractStridedSlice S16x1 ![0, 71] (tB S 1) slices_S16x128_o0_71_S16x1) shapeCasts_S16x1_S16x1) broadcasts_S16x1_S16x128) (iniS S 2 2 2 199 128)) :
    Runs c A (ap A (k0_part62 (F := F) i) (tB S 1)) Φ (iniS S 2 2 2 194 128) := by
  rw [k0_part62_eq_skeleton]; unfold ap k0_part62_skel
  refine Runs.bind (ld21 rfl ?_)
  refine Runs.bind (Ini.st21 (t := 195) (e_B 194 1 66 rfl (by decide) (h := slices_S16x128_o0_66_S16x1)) ?_)
  refine Runs.bind (ld21 rfl ?_)
  refine Runs.bind (Ini.st21 (t := 196) (e_B 195 1 67 rfl (by decide) (h := slices_S16x128_o0_67_S16x1)) ?_)
  refine Runs.bind (ld21 rfl ?_)
  refine Runs.bind (Ini.st21 (t := 197) (e_B 196 1 68 rfl (by decide) (h := slices_S16x128_o0_68_S16x1)) ?_)
  refine Runs.bind (ld21 rfl ?_)
  refine Runs.bind (Ini.st21 (t := 198) (e_B 197 1 69 rfl (by decide) (h := slices_S16x128_o0_69_S16x1)) ?_)
  refine Runs.bind (ld21 rfl ?_)
  refine Runs.bind (Ini.st21 (t := 199) (e_B 198 1 70 rfl (by decide) (h := slices_S16x128_o0_70_S16x1)) ?_)
  exact Runs.pure hΦ

theorem val_63 {Φ} (hΦ : Φ (shapeCast S1x1x16x128 (broadcastTo S16x128 (shapeCast S16x1 (extractStridedSlice S16x1 ![0, 76] (tB S 1) slices_S16x128_o0_76_S16x1) shapeCasts_S16x1_S16x1) broadcasts_S16x1_S16x128) shapeCasts_S16x128_S1x1x16x128) (iniS S 2 2 2 204 128)) :
    Runs c A (ap A (k0_part63 (F := F) i) (tB S 1) (broadcastTo S16x128 (shapeCast S16x1 (extractStridedSlice S16x1 ![0, 71] (tB S 1) slices_S16x128_o0_71_S16x1) shapeCasts_S16x1_S16x1) broadcasts_S16x1_S16x128)) Φ (iniS S 2 2 2 199 128) := by
  rw [k0_part63_eq_skeleton]; unfold ap k0_part63_skel
  refine Runs.bind (ld21 rfl ?_)
  refine Runs.bind (Ini.st21 (t := 200) (e_B 199 1 71 rfl (by decide) (h := slices_S16x128_o0_71_S16x1)) ?_)
  refine Runs.bind (ld21 rfl ?_)
  refine Runs.bind (Ini.st21 (t := 201) (e_B 200 1 72 rfl (by decide) (h := slices_S16x128_o0_72_S16x1)) ?_)
  refine Runs.bind (ld21 rfl ?_)
  refine Runs.bind (Ini.st21 (t := 202) (e_B 201 1 73 rfl (by decide) (h := slices_S16x128_o0_73_S16x1)) ?_)
  refine Runs.bind (ld21 rfl ?_)
  refine Runs.bind (Ini.st21 (t := 203) (e_B 202 1 74 rfl (by decide) (h := slices_S16x128_o0_74_S16x1)) ?_)
  refine Runs.bind (ld21 rfl ?_)
  refine Runs.bind (Ini.st21 (t := 204) (e_B 203 1 75 rfl (by decide) (h := slices_S16x128_o0_75_S16x1)) ?_)
  refine Runs.bind (ld21 rfl ?_)
  exact Runs.pure hΦ

theorem val_64 {Φ} (hΦ : Φ (broadcastTo S16x128 (shapeCast S16x1 (extractStridedSlice S16x1 ![0, 82] (tB S 1) slices_S16x128_o0_82_S16x1) shapeCasts_S16x1_S16x1) broadcasts_S16x1_S16x128) (iniS S 2 2 2 210 128)) :
    Runs c A (ap A (k0_part64 (F := F) i) (tB S 1) (shapeCast S1x1x16x128 (broadcastTo S16x128 (shapeCast S16x1 (extractStridedSlice S16x1 ![0, 76] (tB S 1) slices_S16x128_o0_76_S16x1) shapeCasts_S16x1_S16x1) broadcasts_S16x1_S16x128) shapeCasts_S16x128_S1x1x16x128)) Φ (iniS S 2 2 2 204 128) := by
  rw [k0_part64_eq_skeleton]; unfold ap k0_part64_skel
  refine Runs.bind (Ini.st21 (t := 205) (e_B 204 1 76 rfl (by decide) (h := slices_S16x128_o0_76_S16x1)) ?_)
  refine Runs.bind (ld21 rfl ?_)
  refine Runs.bind (Ini.st21 (t := 206) (e_B 205 1 77 rfl (by decide) (h := slices_S16x128_o0_77_S16x1)) ?_)
  refine Runs.bind (ld21 rfl ?_)
  refine Runs.bind (Ini.st21 (t := 207) (e_B 206 1 78 rfl (by decide) (h := slices_S16x128_o0_78_S16x1)) ?_)
  refine Runs.bind (ld21 rfl ?_)
  refine Runs.bind (Ini.st21 (t := 208) (e_B 207 1 79 rfl (by decide) (h := slices_S16x128_o0_79_S16x1)) ?_)
  refine Runs.bind (ld21 rfl ?_)
  refine Runs.bind (Ini.st21 (t := 209) (e_B 208 1 80 rfl (by decide) (h := slices_S16x128_o0_80_S16x1)) ?_)
  refine Runs.bind (ld21 rfl ?_)
  refine Runs.bind (Ini.st21 (t := 210) (e_B 209 1 81 rfl (by decide) (h := slices_S16x128_o0_81_S16x1)) ?_)
  exact Runs.pure hΦ

end Cert.KernelIdeal.Scan

end
-- ==== Proof.ScanI.Ini5.lean ====
/- What parts of the preparation compute. -/
module

public import proofs.«01_k».proof.Proof.ScanI.Defs

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {S : St F} {i : grid0.Coords}

theorem val_65 {Φ} (hΦ : Φ (broadcastTo S16x128 (shapeCast S16x1 (extractStridedSlice S16x1 ![0, 87] (tB S 1) slices_S16x128_o0_87_S16x1) shapeCasts_S16x1_S16x1) broadcasts_S16x1_S16x128) (iniS S 2 2 2 215 128)) :
    Runs c A (ap A (k0_part65 (F := F) i) (tB S 1) (broadcastTo S16x128 (shapeCast S16x1 (extractStridedSlice S16x1 ![0, 82] (tB S 1) slices_S16x128_o0_82_S16x1) shapeCasts_S16x1_S16x1) broadcasts_S16x1_S16x128)) Φ (iniS S 2 2 2 210 128) := by
  rw [k0_part65_eq_skeleton]; unfold ap k0_part65_skel
  refine Runs.bind (ld21 rfl ?_)
  refine Runs.bind (Ini.st21 (t := 211) (e_B 210 1 82 rfl (by decide) (h := slices_S16x128_o0_82_S16x1)) ?_)
  refine Runs.bind (ld21 rfl ?_)
  refine Runs.bind (Ini.st21 (t := 212) (e_B 211 1 83 rfl (by decide) (h := slices_S16x128_o0_83_S16x1)) ?_)
  refine Runs.bind (ld21 rfl ?_)
  refine Runs.bind (Ini.st21 (t := 213) (e_B 212 1 84 rfl (by decide) (h := slices_S16x128_o0_84_S16x1)) ?_)
  refine Runs.bind (ld21 rfl ?_)
  refine Runs.bind (Ini.st21 (t := 214) (e_B 213 1 85 rfl (by decide) (h := slices_S16x128_o0_85_S16x1)) ?_)
  refine Runs.bind (ld21 rfl ?_)
  refine Runs.bind (Ini.st21 (t := 215) (e_B 214 1 86 rfl (by decide) (h := slices_S16x128_o0_86_S16x1)) ?_)
  refine Runs.bind (ld21 rfl ?_)
  exact Runs.pure hΦ

theorem val_66 {Φ} (hΦ : Φ (broadcastTo S16x128 (shapeCast S16x1 (extractStridedSlice S16x1 ![0, 93] (tB S 1) slices_S16x128_o0_93_S16x1) shapeCasts_S16x1_S16x1) broadcasts_S16x1_S16x128) (iniS S 2 2 2 221 128)) :
    Runs c A (ap A (k0_part66 (F := F) i) (tB S 1) (broadcastTo S16x128 (shapeCast S16x1 (extractStridedSlice S16x1 ![0, 87] (tB S 1) slices_S16x128_o0_87_S16x1) shapeCasts_S16x1_S16x1) broadcasts_S16x1_S16x128)) Φ (iniS S 2 2 2 215 128) := by
  rw [k0_part66_eq_skeleton]; unfold ap k0_part66_skel
  refine Runs.bind (Ini.st21 (t := 216) (e_B 215 1 87 rfl (by decide) (h := slices_S16x128_o0_87_S16x1)) ?_)
  refine Runs.bind (ld21 rfl ?_)
  refine Runs.bind (Ini.st21 (t := 217) (e_B 216 1 88 rfl (by decide) (h := slices_S16x128_o0_88_S16x1)) ?_)
  refine Runs.bind (ld21 rfl ?_)
  refine Runs.bind (Ini.st21 (t := 218) (e_B 217 1 89 rfl (by decide) (h := slices_S16x128_o0_89_S16x1)) ?_)
  refine Runs.bind (ld21 rfl ?_)
  refine Runs.bind (Ini.st21 (t := 219) (e_B 218 1 90 rfl (by decide) (h := slices_S16x128_o0_90_S16x1)) ?_)
  refine Runs.bind (ld21 rfl ?_)
  refine Runs.bind (Ini.st21 (t := 220) (e_B 219 1 91 rfl (by decide) (h := slices_S16x128_o0_91_S16x1)) ?_)
  refine Runs.bind (ld21 rfl ?_)
  refine Runs.bind (Ini.st21 (t := 221) (e_B 220 1 92 rfl (by decide) (h := slices_S16x128_o0_92_S16x1)) ?_)
  exact Runs.pure hΦ

theorem val_67 {Φ} (hΦ : ∀ b0, Φ ⟨broadcastTo S16x128 (shapeCast S16x1 (extractStridedSlice S16x1 ![0, 98] (tB S 1) slices_S16x128_o0_98_S16x1) shapeCasts_S16x1_S16x1) broadcasts_S16x1_S16x128, b0⟩ (iniS S 2 2 2 226 128)) :
    Runs c A (ap A (k0_part67 (F := F) i) (tB S 1) (broadcastTo S16x128 (shapeCast S16x1 (extractStridedSlice S16x1 ![0, 93] (tB S 1) slices_S16x128_o0_93_S16x1) shapeCasts_S16x1_S16x1) broadcasts_S16x1_S16x128)) Φ (iniS S 2 2 2 221 128) := by
  rw [k0_part67_eq_skeleton]; unfold ap k0_part67_skel
  refine Runs.bind (ld21 rfl ?_)
  refine Runs.bind (Ini.st21 (t := 222) (e_B 221 1 93 rfl (by decide) (h := slices_S16x128_o0_93_S16x1)) ?_)
  refine Runs.bind (ld21 rfl ?_)
  refine Runs.bind (Ini.st21 (t := 223) (e_B 222 1 94 rfl (by decide) (h := slices_S16x128_o0_94_S16x1)) ?_)
  refine Runs.bind (ld21 rfl ?_)
  refine Runs.bind (Ini.st21 (t := 224) (e_B 223 1 95 rfl (by decide) (h := slices_S16x128_o0_95_S16x1)) ?_)
  refine Runs.bind (ld21 rfl ?_)
  refine Runs.bind (Ini.st21 (t := 225) (e_B 224 1 96 rfl (by decide) (h := slices_S16x128_o0_96_S16x1)) ?_)
  refine Runs.bind (ld21 rfl ?_)
  refine Runs.bind (Ini.st21 (t := 226) (e_B 225 1 97 rfl (by decide) (h := slices_S16x128_o0_97_S16x1)) ?_)
  refine Runs.bind (ld21 rfl ?_)
  exact Runs.pure (hΦ _)

theorem val_68 (v2693 : Vec F S1x1x16x128 .f32) {Φ} (hΦ : Φ (shapeCast S16x1 (extractStridedSlice S16x1 ![0, 104] (tB S 1) slices_S16x128_o0_104_S16x1) shapeCasts_S16x1_S16x1) (iniS S 2 2 2 232 128)) :
    Runs c A (ap A (k0_part68 (F := F) i) (tB S 1) (broadcastTo S16x128 (shapeCast S16x1 (extractStridedSlice S16x1 ![0, 98] (tB S 1) slices_S16x128_o0_98_S16x1) shapeCasts_S16x1_S16x1) broadcasts_S16x1_S16x128) v2693) Φ (iniS S 2 2 2 226 128) := by
  rw [k0_part68_eq_skeleton]; unfold ap k0_part68_skel
  refine Runs.bind (Ini.st21 (t := 227) (e_B 226 1 98 rfl (by decide) (h := slices_S16x128_o0_98_S16x1)) ?_)
  refine Runs.bind (ld21 rfl ?_)
  refine Runs.bind (Ini.st21 (t := 228) (e_B 227 1 99 rfl (by decide) (h := slices_S16x128_o0_99_S16x1)) ?_)
  refine Runs.bind (ld21 rfl ?_)
  refine Runs.bind (Ini.st21 (t := 229) (e_B 228 1 100 rfl (by decide) (h := slices_S16x128_o0_100_S16x1)) ?_)
  refine Runs.bind (ld21 rfl ?_)
  refine Runs.bind (Ini.st21 (t := 230) (e_B 229 1 101 rfl (by decide) (h := slices_S16x128_o0_101_S16x1)) ?_)
  refine Runs.bind (ld21 rfl ?_)
  refine Runs.bind (Ini.st21 (t := 231) (e_B 230 1 102 rfl (by decide) (h := slices_S16x128_o0_102_S16x1)) ?_)
  refine Runs.bind (ld21 rfl ?_)
  refine Runs.bind (Ini.st21 (t := 232) (e_B 231 1 103 rfl (by decide) (h := slices_S16x128_o0_103_S16x1)) ?_)
  exact Runs.pure hΦ

theorem val_69 {Φ} (hΦ : Φ (broadcastTo S16x128 (shapeCast S16x1 (extractStridedSlice S16x1 ![0, 109] (tB S 1) slices_S16x128_o0_109_S16x1) shapeCasts_S16x1_S16x1) broadcasts_S16x1_S16x128) (iniS S 2 2 2 237 128)) :
    Runs c A (ap A (k0_part69 (F := F) i) (tB S 1) (shapeCast S16x1 (extractStridedSlice S16x1 ![0, 104] (tB S 1) slices_S16x128_o0_104_S16x1) shapeCasts_S16x1_S16x1)) Φ (iniS S 2 2 2 232 128) := by
  rw [k0_part69_eq_skeleton]; unfold ap k0_part69_skel
  refine Runs.bind (ld21 rfl ?_)
  refine Runs.bind (Ini.st21 (t := 233) (e_B 232 1 104 rfl (by decide) (h := slices_S16x128_o0_104_S16x1)) ?_)
  refine Runs.bind (ld21 rfl ?_)
  refine Runs.bind (Ini.st21 (t := 234) (e_B 233 1 105 rfl (by decide) (h := slices_S16x128_o0_105_S16x1)) ?_)
  refine Runs.bind (ld21 rfl ?_)
  refine Runs.bind (Ini.st21 (t := 235) (e_B 234 1 106 rfl (by decide) (h := slices_S16x128_o0_106_S16x1)) ?_)
  refine Runs.bind (ld21 rfl ?_)
  refine Runs.bind (Ini.st21 (t := 236) (e_B 235 1 107 rfl (by decide) (h := slices_S16x128_o0_107_S16x1)) ?_)
  refine Runs.bind (ld21 rfl ?_)
  refine Runs.bind (Ini.st21 (t := 237) (e_B 236 1 108 rfl (by decide) (h := slices_S16x128_o0_108_S16x1)) ?_)
  exact Runs.pure hΦ

theorem val_70 {Φ} (hΦ : Φ (extractStridedSlice S16x1 ![0, 115] (tB S 1) slices_S16x128_o0_115_S16x1) (iniS S 2 2 2 243 128)) :
    Runs c A (ap A (k0_part70 (F := F) i) (tB S 1) (broadcastTo S16x128 (shapeCast S16x1 (extractStridedSlice S16x1 ![0, 109] (tB S 1) slices_S16x128_o0_109_S16x1) shapeCasts_S16x1_S16x1) broadcasts_S16x1_S16x128)) Φ (iniS S 2 2 2 237 128) := by
  rw [k0_part70_eq_skeleton]; unfold ap k0_part70_skel
  refine Runs.bind (ld21 rfl ?_)
  refine Runs.bind (Ini.st21 (t := 238) (e_B 237 1 109 rfl (by decide) (h := slices_S16x128_o0_109_S16x1)) ?_)
  refine Runs.bind (ld21 rfl ?_)
  refine Runs.bind (Ini.st21 (t := 239) (e_B 238 1 110 rfl (by decide) (h := slices_S16x128_o0_110_S16x1)) ?_)
  refine Runs.bind (ld21 rfl ?_)
  refine Runs.bind (Ini.st21 (t := 240) (e_B 239 1 111 rfl (by decide) (h := slices_S16x128_o0_111_S16x1)) ?_)
  refine Runs.bind (ld21 rfl ?_)
  refine Runs.bind (Ini.st21 (t := 241) (e_B 240 1 112 rfl (by decide) (h := slices_S16x128_o0_112_S16x1)) ?_)
  refine Runs.bind (ld21 rfl ?_)
  refine Runs.bind (Ini.st21 (t := 242) (e_B 241 1 113 rfl (by decide) (h := slices_S16x128_o0_113_S16x1)) ?_)
  refine Runs.bind (ld21 rfl ?_)
  refine Runs.bind (Ini.st21 (t := 243) (e_B 242 1 114 rfl (by decide) (h := slices_S16x128_o0_114_S16x1)) ?_)
  exact Runs.pure hΦ

theorem val_71 {Φ} (hΦ : Φ (broadcastTo S16x128 (shapeCast S16x1 (extractStridedSlice S16x1 ![0, 120] (tB S 1) slices_S16x128_o0_120_S16x1) shapeCasts_S16x1_S16x1) broadcasts_S16x1_S16x128) (iniS S 2 2 2 248 128)) :
    Runs c A (ap A (k0_part71 (F := F) i) (tB S 1) (extractStridedSlice S16x1 ![0, 115] (tB S 1) slices_S16x128_o0_115_S16x1)) Φ (iniS S 2 2 2 243 128) := by
  rw [k0_part71_eq_skeleton]; unfold ap k0_part71_skel
  refine Runs.bind (ld21 rfl ?_)
  refine Runs.bind (Ini.st21 (t := 244) (e_B 243 1 115 rfl (by decide) (h := slices_S16x128_o0_115_S16x1)) ?_)
  refine Runs.bind (ld21 rfl ?_)
  refine Runs.bind (Ini.st21 (t := 245) (e_B 244 1 116 rfl (by decide) (h := slices_S16x128_o0_116_S16x1)) ?_)
  refine Runs.bind (ld21 rfl ?_)
  refine Runs.bind (Ini.st21 (t := 246) (e_B 245 1 117 rfl (by decide) (h := slices_S16x128_o0_117_S16x1)) ?_)
  refine Runs.bind (ld21 rfl ?_)
  refine Runs.bind (Ini.st21 (t := 247) (e_B 246 1 118 rfl (by decide) (h := slices_S16x128_o0_118_S16x1)) ?_)
  refine Runs.bind (ld21 rfl ?_)
  refine Runs.bind (Ini.st21 (t := 248) (e_B 247 1 119 rfl (by decide) (h := slices_S16x128_o0_119_S16x1)) ?_)
  exact Runs.pure hΦ

theorem val_72 {Φ} (hΦ : Φ PUnit.unit (iniS S 2 2 2 254 128)) :
    Runs c A (ap A (k0_part72 (F := F) i) (tB S 1) (broadcastTo S16x128 (shapeCast S16x1 (extractStridedSlice S16x1 ![0, 120] (tB S 1) slices_S16x128_o0_120_S16x1) shapeCasts_S16x1_S16x1) broadcasts_S16x1_S16x128)) Φ (iniS S 2 2 2 248 128) := by
  rw [k0_part72_eq_skeleton]; unfold ap k0_part72_skel
  refine Runs.bind (ld21 rfl ?_)
  refine Runs.bind (Ini.st21 (t := 249) (e_B 248 1 120 rfl (by decide) (h := slices_S16x128_o0_120_S16x1)) ?_)
  refine Runs.bind (ld21 rfl ?_)
  refine Runs.bind (Ini.st21 (t := 250) (e_B 249 1 121 rfl (by decide) (h := slices_S16x128_o0_121_S16x1)) ?_)
  refine Runs.bind (ld21 rfl ?_)
  refine Runs.bind (Ini.st21 (t := 251) (e_B 250 1 122 rfl (by decide) (h := slices_S16x128_o0_122_S16x1)) ?_)
  refine Runs.bind (ld21 rfl ?_)
  refine Runs.bind (Ini.st21 (t := 252) (e_B 251 1 123 rfl (by decide) (h := slices_S16x128_o0_123_S16x1)) ?_)
  refine Runs.bind (ld21 rfl ?_)
  refine Runs.bind (Ini.st21 (t := 253) (e_B 252 1 124 rfl (by decide) (h := slices_S16x128_o0_124_S16x1)) ?_)
  refine Runs.bind (ld21 rfl ?_)
  refine Runs.bind (Ini.st21 (t := 254) (e_B 253 1 125 rfl (by decide) (h := slices_S16x128_o0_125_S16x1)) ?_)
  exact Runs.pure hΦ

theorem val_73 {Φ} (hΦ : Φ ⟨tC S 1, broadcastTo S16x128 (shapeCast S16x1 (extractStridedSlice S16x1 ![0, 2] (tC S 1) slices_S16x128_o0_2_S16x1) shapeCasts_S16x1_S16x1) broadcasts_S16x1_S16x128⟩ (iniS S 2 2 2 256 130)) :
    Runs c A (ap A (k0_part73 (F := F) i) (tB S 1)) Φ (iniS S 2 2 2 254 128) := by
  rw [k0_part73_eq_skeleton]; unfold ap k0_part73_skel
  refine Runs.bind (ld21 rfl ?_)
  refine Runs.bind (Ini.st21 (t := 255) (e_B 254 1 126 rfl (by decide) (h := slices_S16x128_o0_126_S16x1)) ?_)
  refine Runs.bind (ld21 rfl ?_)
  refine Runs.bind (Ini.st21 (t := 256) (e_B 255 1 127 rfl (by decide) (h := slices_S16x128_o0_127_S16x1)) ?_)
  refine Runs.bind (ld9 (Z := mC S 1) (tile_eq rfl) ?_)
  refine Runs.bind (ld10 (Z := rC S 1) (tile_eq rfl) ?_)
  refine Runs.bind (ld22 rfl ?_)
  refine Runs.bind (Ini.st22 (t := 129) (e_C 128 1 0 rfl (by decide) (h := slices_S16x128_o0_0_S16x1)) ?_)
  refine Runs.bind (ld22 rfl ?_)
  refine Runs.bind (Ini.st22 (t := 130) (e_C 129 1 1 rfl (by decide) (h := slices_S16x128_o0_1_S16x1)) ?_)
  exact Runs.pure hΦ

theorem val_74 {Φ} (hΦ : Φ (broadcastTo S16x128 (shapeCast S16x1 (extractStridedSlice S16x1 ![0, 7] (tC S 1) slices_S16x128_o0_7_S16x1) shapeCasts_S16x1_S16x1) broadcasts_S16x1_S16x128) (iniS S 2 2 2 256 135)) :
    Runs c A (ap A (k0_part74 (F := F) i) (tC S 1) (broadcastTo S16x128 (shapeCast S16x1 (extractStridedSlice S16x1 ![0, 2] (tC S 1) slices_S16x128_o0_2_S16x1) shapeCasts_S16x1_S16x1) broadcasts_S16x1_S16x128)) Φ (iniS S 2 2 2 256 130) := by
  rw [k0_part74_eq_skeleton]; unfold ap k0_part74_skel
  refine Runs.bind (ld22 rfl ?_)
  refine Runs.bind (Ini.st22 (t := 131) (e_C 130 1 2 rfl (by decide) (h := slices_S16x128_o0_2_S16x1)) ?_)
  refine Runs.bind (ld22 rfl ?_)
  refine Runs.bind (Ini.st22 (t := 132) (e_C 131 1 3 rfl (by decide) (h := slices_S16x128_o0_3_S16x1)) ?_)
  refine Runs.bind (ld22 rfl ?_)
  refine Runs.bind (Ini.st22 (t := 133) (e_C 132 1 4 rfl (by decide) (h := slices_S16x128_o0_4_S16x1)) ?_)
  refine Runs.bind (ld22 rfl ?_)
  refine Runs.bind (Ini.st22 (t := 134) (e_C 133 1 5 rfl (by decide) (h := slices_S16x128_o0_5_S16x1)) ?_)
  refine Runs.bind (ld22 rfl ?_)
  refine Runs.bind (Ini.st22 (t := 135) (e_C 134 1 6 rfl (by decide) (h := slices_S16x128_o0_6_S16x1)) ?_)
  refine Runs.bind (ld22 rfl ?_)
  exact Runs.pure hΦ

theorem val_75 {Φ} (hΦ : Φ (broadcastTo S16x128 (shapeCast S16x1 (extractStridedSlice S16x1 ![0, 13] (tC S 1) slices_S16x128_o0_13_S16x1) shapeCasts_S16x1_S16x1) broadcasts_S16x1_S16x128) (iniS S 2 2 2 256 141)) :
    Runs c A (ap A (k0_part75 (F := F) i) (tC S 1) (broadcastTo S16x128 (shapeCast S16x1 (extractStridedSlice S16x1 ![0, 7] (tC S 1) slices_S16x128_o0_7_S16x1) shapeCasts_S16x1_S16x1) broadcasts_S16x1_S16x128)) Φ (iniS S 2 2 2 256 135) := by
  rw [k0_part75_eq_skeleton]; unfold ap k0_part75_skel
  refine Runs.bind (Ini.st22 (t := 136) (e_C 135 1 7 rfl (by decide) (h := slices_S16x128_o0_7_S16x1)) ?_)
  refine Runs.bind (ld22 rfl ?_)
  refine Runs.bind (Ini.st22 (t := 137) (e_C 136 1 8 rfl (by decide) (h := slices_S16x128_o0_8_S16x1)) ?_)
  refine Runs.bind (ld22 rfl ?_)
  refine Runs.bind (Ini.st22 (t := 138) (e_C 137 1 9 rfl (by decide) (h := slices_S16x128_o0_9_S16x1)) ?_)
  refine Runs.bind (ld22 rfl ?_)
  refine Runs.bind (Ini.st22 (t := 139) (e_C 138 1 10 rfl (by decide) (h := slices_S16x128_o0_10_S16x1)) ?_)
  refine Runs.bind (ld22 rfl ?_)
  refine Runs.bind (Ini.st22 (t := 140) (e_C 139 1 11 rfl (by decide) (h := slices_S16x128_o0_11_S16x1)) ?_)
  refine Runs.bind (ld22 rfl ?_)
  refine Runs.bind (Ini.st22 (t := 141) (e_C 140 1 12 rfl (by decide) (h := slices_S16x128_o0_12_S16x1)) ?_)
  exact Runs.pure hΦ

theorem val_76 {Φ} (hΦ : ∀ b0, Φ ⟨broadcastTo S16x128 (shapeCast S16x1 (extractStridedSlice S16x1 ![0, 18] (tC S 1) slices_S16x128_o0_18_S16x1) shapeCasts_S16x1_S16x1) broadcasts_S16x1_S16x128, b0⟩ (iniS S 2 2 2 256 146)) :
    Runs c A (ap A (k0_part76 (F := F) i) (tC S 1) (broadcastTo S16x128 (shapeCast S16x1 (extractStridedSlice S16x1 ![0, 13] (tC S 1) slices_S16x128_o0_13_S16x1) shapeCasts_S16x1_S16x1) broadcasts_S16x1_S16x128)) Φ (iniS S 2 2 2 256 141) := by
  rw [k0_part76_eq_skeleton]; unfold ap k0_part76_skel
  refine Runs.bind (ld22 rfl ?_)
  refine Runs.bind (Ini.st22 (t := 142) (e_C 141 1 13 rfl (by decide) (h := slices_S16x128_o0_13_S16x1)) ?_)
  refine Runs.bind (ld22 rfl ?_)
  refine Runs.bind (Ini.st22 (t := 143) (e_C 142 1 14 rfl (by decide) (h := slices_S16x128_o0_14_S16x1)) ?_)
  refine Runs.bind (ld22 rfl ?_)
  refine Runs.bind (Ini.st22 (t := 144) (e_C 143 1 15 rfl (by decide) (h := slices_S16x128_o0_15_S16x1)) ?_)
  refine Runs.bind (ld22 rfl ?_)
  refine Runs.bind (Ini.st22 (t := 145) (e_C 144 1 16 rfl (by decide) (h := slices_S16x128_o0_16_S16x1)) ?_)
  refine Runs.bind (ld22 rfl ?_)
  refine Runs.bind (Ini.st22 (t := 146) (e_C 145 1 17 rfl (by decide) (h := slices_S16x128_o0_17_S16x1)) ?_)
  refine Runs.bind (ld22 rfl ?_)
  exact Runs.pure (hΦ _)

theorem val_77 (v2988 : Vec F S1x1x16x128 .f32) {Φ} (hΦ : Φ (shapeCast S16x1 (extractStridedSlice S16x1 ![0, 24] (tC S 1) slices_S16x128_o0_24_S16x1) shapeCasts_S16x1_S16x1) (iniS S 2 2 2 256 152)) :
    Runs c A (ap A (k0_part77 (F := F) i) (tC S 1) (broadcastTo S16x128 (shapeCast S16x1 (extractStridedSlice S16x1 ![0, 18] (tC S 1) slices_S16x128_o0_18_S16x1) shapeCasts_S16x1_S16x1) broadcasts_S16x1_S16x128) v2988) Φ (iniS S 2 2 2 256 146) := by
  rw [k0_part77_eq_skeleton]; unfold ap k0_part77_skel
  refine Runs.bind (Ini.st22 (t := 147) (e_C 146 1 18 rfl (by decide) (h := slices_S16x128_o0_18_S16x1)) ?_)
  refine Runs.bind (ld22 rfl ?_)
  refine Runs.bind (Ini.st22 (t := 148) (e_C 147 1 19 rfl (by decide) (h := slices_S16x128_o0_19_S16x1)) ?_)
  refine Runs.bind (ld22 rfl ?_)
  refine Runs.bind (Ini.st22 (t := 149) (e_C 148 1 20 rfl (by decide) (h := slices_S16x128_o0_20_S16x1)) ?_)
  refine Runs.bind (ld22 rfl ?_)
  refine Runs.bind (Ini.st22 (t := 150) (e_C 149 1 21 rfl (by decide) (h := slices_S16x128_o0_21_S16x1)) ?_)
  refine Runs.bind (ld22 rfl ?_)
  refine Runs.bind (Ini.st22 (t := 151) (e_C 150 1 22 rfl (by decide) (h := slices_S16x128_o0_22_S16x1)) ?_)
  refine Runs.bind (ld22 rfl ?_)
  refine Runs.bind (Ini.st22 (t := 152) (e_C 151 1 23 rfl (by decide) (h := slices_S16x128_o0_23_S16x1)) ?_)
  exact Runs.pure hΦ

theorem val_78 {Φ} (hΦ : Φ (broadcastTo S16x128 (shapeCast S16x1 (extractStridedSlice S16x1 ![0, 29] (tC S 1) slices_S16x128_o0_29_S16x1) shapeCasts_S16x1_S16x1) broadcasts_S16x1_S16x128) (iniS S 2 2 2 256 157)) :
    Runs c A (ap A (k0_part78 (F := F) i) (tC S 1) (shapeCast S16x1 (extractStridedSlice S16x1 ![0, 24] (tC S 1) slices_S16x128_o0_24_S16x1) shapeCasts_S16x1_S16x1)) Φ (iniS S 2 2 2 256 152) := by
  rw [k0_part78_eq_skeleton]; unfold ap k0_part78_skel
  refine Runs.bind (ld22 rfl ?_)
  refine Runs.bind (Ini.st22 (t := 153) (e_C 152 1 24 rfl (by decide) (h := slices_S16x128_o0_24_S16x1)) ?_)
  refine Runs.bind (ld22 rfl ?_)
  refine Runs.bind (Ini.st22 (t := 154) (e_C 153 1 25 rfl (by decide) (h := slices_S16x128_o0_25_S16x1)) ?_)
  refine Runs.bind (ld22 rfl ?_)
  refine Runs.bind (Ini.st22 (t := 155) (e_C 154 1 26 rfl (by decide) (h := slices_S16x128_o0_26_S16x1)) ?_)
  refine Runs.bind (ld22 rfl ?_)
  refine Runs.bind (Ini.st22 (t := 156) (e_C 155 1 27 rfl (by decide) (h := slices_S16x128_o0_27_S16x1)) ?_)
  refine Runs.bind (ld22 rfl ?_)
  refine Runs.bind (Ini.st22 (t := 157) (e_C 156 1 28 rfl (by decide) (h := slices_S16x128_o0_28_S16x1)) ?_)
  exact Runs.pure hΦ

theorem val_79 {Φ} (hΦ : Φ (extractStridedSlice S16x1 ![0, 35] (tC S 1) slices_S16x128_o0_35_S16x1) (iniS S 2 2 2 256 163)) :
    Runs c A (ap A (k0_part79 (F := F) i) (tC S 1) (broadcastTo S16x128 (shapeCast S16x1 (extractStridedSlice S16x1 ![0, 29] (tC S 1) slices_S16x128_o0_29_S16x1) shapeCasts_S16x1_S16x1) broadcasts_S16x1_S16x128)) Φ (iniS S 2 2 2 256 157) := by
  rw [k0_part79_eq_skeleton]; unfold ap k0_part79_skel
  refine Runs.bind (ld22 rfl ?_)
  refine Runs.bind (Ini.st22 (t := 158) (e_C 157 1 29 rfl (by decide) (h := slices_S16x128_o0_29_S16x1)) ?_)
  refine Runs.bind (ld22 rfl ?_)
  refine Runs.bind (Ini.st22 (t := 159) (e_C 158 1 30 rfl (by decide) (h := slices_S16x128_o0_30_S16x1)) ?_)
  refine Runs.bind (ld22 rfl ?_)
  refine Runs.bind (Ini.st22 (t := 160) (e_C 159 1 31 rfl (by decide) (h := slices_S16x128_o0_31_S16x1)) ?_)
  refine Runs.bind (ld22 rfl ?_)
  refine Runs.bind (Ini.st22 (t := 161) (e_C 160 1 32 rfl (by decide) (h := slices_S16x128_o0_32_S16x1)) ?_)
  refine Runs.bind (ld22 rfl ?_)
  refine Runs.bind (Ini.st22 (t := 162) (e_C 161 1 33 rfl (by decide) (h := slices_S16x128_o0_33_S16x1)) ?_)
  refine Runs.bind (ld22 rfl ?_)
  refine Runs.bind (Ini.st22 (t := 163) (e_C 162 1 34 rfl (by decide) (h := slices_S16x128_o0_34_S16x1)) ?_)
  exact Runs.pure hΦ

theorem val_80 {Φ} (hΦ : Φ (broadcastTo S16x128 (shapeCast S16x1 (extractStridedSlice S16x1 ![0, 40] (tC S 1) slices_S16x128_o0_40_S16x1) shapeCasts_S16x1_S16x1) broadcasts_S16x1_S16x128) (iniS S 2 2 2 256 168)) :
    Runs c A (ap A (k0_part80 (F := F) i) (tC S 1) (extractStridedSlice S16x1 ![0, 35] (tC S 1) slices_S16x128_o0_35_S16x1)) Φ (iniS S 2 2 2 256 163) := by
  rw [k0_part80_eq_skeleton]; unfold ap k0_part80_skel
  refine Runs.bind (ld22 rfl ?_)
  refine Runs.bind (Ini.st22 (t := 164) (e_C 163 1 35 rfl (by decide) (h := slices_S16x128_o0_35_S16x1)) ?_)
  refine Runs.bind (ld22 rfl ?_)
  refine Runs.bind (Ini.st22 (t := 165) (e_C 164 1 36 rfl (by decide) (h := slices_S16x128_o0_36_S16x1)) ?_)
  refine Runs.bind (ld22 rfl ?_)
  refine Runs.bind (Ini.st22 (t := 166) (e_C 165 1 37 rfl (by decide) (h := slices_S16x128_o0_37_S16x1)) ?_)
  refine Runs.bind (ld22 rfl ?_)
  refine Runs.bind (Ini.st22 (t := 167) (e_C 166 1 38 rfl (by decide) (h := slices_S16x128_o0_38_S16x1)) ?_)
  refine Runs.bind (ld22 rfl ?_)
  refine Runs.bind (Ini.st22 (t := 168) (e_C 167 1 39 rfl (by decide) (h := slices_S16x128_o0_39_S16x1)) ?_)
  exact Runs.pure hΦ

end Cert.KernelIdeal.Scan

end
-- ==== Proof.ScanI.Ini6.lean ====
/- What parts of the preparation compute. -/
module

public import proofs.«01_k».proof.Proof.ScanI.Defs

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {S : St F} {i : grid0.Coords}

theorem val_81 {Φ} (hΦ : Φ PUnit.unit (iniS S 2 2 2 256 174)) :
    Runs c A (ap A (k0_part81 (F := F) i) (tC S 1) (broadcastTo S16x128 (shapeCast S16x1 (extractStridedSlice S16x1 ![0, 40] (tC S 1) slices_S16x128_o0_40_S16x1) shapeCasts_S16x1_S16x1) broadcasts_S16x1_S16x128)) Φ (iniS S 2 2 2 256 168) := by
  rw [k0_part81_eq_skeleton]; unfold ap k0_part81_skel
  refine Runs.bind (ld22 rfl ?_)
  refine Runs.bind (Ini.st22 (t := 169) (e_C 168 1 40 rfl (by decide) (h := slices_S16x128_o0_40_S16x1)) ?_)
  refine Runs.bind (ld22 rfl ?_)
  refine Runs.bind (Ini.st22 (t := 170) (e_C 169 1 41 rfl (by decide) (h := slices_S16x128_o0_41_S16x1)) ?_)
  refine Runs.bind (ld22 rfl ?_)
  refine Runs.bind (Ini.st22 (t := 171) (e_C 170 1 42 rfl (by decide) (h := slices_S16x128_o0_42_S16x1)) ?_)
  refine Runs.bind (ld22 rfl ?_)
  refine Runs.bind (Ini.st22 (t := 172) (e_C 171 1 43 rfl (by decide) (h := slices_S16x128_o0_43_S16x1)) ?_)
  refine Runs.bind (ld22 rfl ?_)
  refine Runs.bind (Ini.st22 (t := 173) (e_C 172 1 44 rfl (by decide) (h := slices_S16x128_o0_44_S16x1)) ?_)
  refine Runs.bind (ld22 rfl ?_)
  refine Runs.bind (Ini.st22 (t := 174) (e_C 173 1 45 rfl (by decide) (h := slices_S16x128_o0_45_S16x1)) ?_)
  exact Runs.pure hΦ

theorem val_82 {Φ} (hΦ : Φ (broadcastTo S16x128 (shapeCast S16x1 (extractStridedSlice S16x1 ![0, 51] (tC S 1) slices_S16x128_o0_51_S16x1) shapeCasts_S16x1_S16x1) broadcasts_S16x1_S16x128) (iniS S 2 2 2 256 179)) :
    Runs c A (ap A (k0_part82 (F := F) i) (tC S 1)) Φ (iniS S 2 2 2 256 174) := by
  rw [k0_part82_eq_skeleton]; unfold ap k0_part82_skel
  refine Runs.bind (ld22 rfl ?_)
  refine Runs.bind (Ini.st22 (t := 175) (e_C 174 1 46 rfl (by decide) (h := slices_S16x128_o0_46_S16x1)) ?_)
  refine Runs.bind (ld22 rfl ?_)
  refine Runs.bind (Ini.st22 (t := 176) (e_C 175 1 47 rfl (by decide) (h := slices_S16x128_o0_47_S16x1)) ?_)
  refine Runs.bind (ld22 rfl ?_)
  refine Runs.bind (Ini.st22 (t := 177) (e_C 176 1 48 rfl (by decide) (h := slices_S16x128_o0_48_S16x1)) ?_)
  refine Runs.bind (ld22 rfl ?_)
  refine Runs.bind (Ini.st22 (t := 178) (e_C 177 1 49 rfl (by decide) (h := slices_S16x128_o0_49_S16x1)) ?_)
  refine Runs.bind (ld22 rfl ?_)
  refine Runs.bind (Ini.st22 (t := 179) (e_C 178 1 50 rfl (by decide) (h := slices_S16x128_o0_50_S16x1)) ?_)
  exact Runs.pure hΦ

theorem val_83 {Φ} (hΦ : Φ (shapeCast S1x1x16x128 (broadcastTo S16x128 (shapeCast S16x1 (extractStridedSlice S16x1 ![0, 56] (tC S 1) slices_S16x128_o0_56_S16x1) shapeCasts_S16x1_S16x1) broadcasts_S16x1_S16x128) shapeCasts_S16x128_S1x1x16x128) (iniS S 2 2 2 256 184)) :
    Runs c A (ap A (k0_part83 (F := F) i) (tC S 1) (broadcastTo S16x128 (shapeCast S16x1 (extractStridedSlice S16x1 ![0, 51] (tC S 1) slices_S16x128_o0_51_S16x1) shapeCasts_S16x1_S16x1) broadcasts_S16x1_S16x128)) Φ (iniS S 2 2 2 256 179) := by
  rw [k0_part83_eq_skeleton]; unfold ap k0_part83_skel
  refine Runs.bind (ld22 rfl ?_)
  refine Runs.bind (Ini.st22 (t := 180) (e_C 179 1 51 rfl (by decide) (h := slices_S16x128_o0_51_S16x1)) ?_)
  refine Runs.bind (ld22 rfl ?_)
  refine Runs.bind (Ini.st22 (t := 181) (e_C 180 1 52 rfl (by decide) (h := slices_S16x128_o0_52_S16x1)) ?_)
  refine Runs.bind (ld22 rfl ?_)
  refine Runs.bind (Ini.st22 (t := 182) (e_C 181 1 53 rfl (by decide) (h := slices_S16x128_o0_53_S16x1)) ?_)
  refine Runs.bind (ld22 rfl ?_)
  refine Runs.bind (Ini.st22 (t := 183) (e_C 182 1 54 rfl (by decide) (h := slices_S16x128_o0_54_S16x1)) ?_)
  refine Runs.bind (ld22 rfl ?_)
  refine Runs.bind (Ini.st22 (t := 184) (e_C 183 1 55 rfl (by decide) (h := slices_S16x128_o0_55_S16x1)) ?_)
  refine Runs.bind (ld22 rfl ?_)
  exact Runs.pure hΦ

theorem val_84 {Φ} (hΦ : Φ (broadcastTo S16x128 (shapeCast S16x1 (extractStridedSlice S16x1 ![0, 62] (tC S 1) slices_S16x128_o0_62_S16x1) shapeCasts_S16x1_S16x1) broadcasts_S16x1_S16x128) (iniS S 2 2 2 256 190)) :
    Runs c A (ap A (k0_part84 (F := F) i) (tC S 1) (shapeCast S1x1x16x128 (broadcastTo S16x128 (shapeCast S16x1 (extractStridedSlice S16x1 ![0, 56] (tC S 1) slices_S16x128_o0_56_S16x1) shapeCasts_S16x1_S16x1) broadcasts_S16x1_S16x128) shapeCasts_S16x128_S1x1x16x128)) Φ (iniS S 2 2 2 256 184) := by
  rw [k0_part84_eq_skeleton]; unfold ap k0_part84_skel
  refine Runs.bind (Ini.st22 (t := 185) (e_C 184 1 56 rfl (by decide) (h := slices_S16x128_o0_56_S16x1)) ?_)
  refine Runs.bind (ld22 rfl ?_)
  refine Runs.bind (Ini.st22 (t := 186) (e_C 185 1 57 rfl (by decide) (h := slices_S16x128_o0_57_S16x1)) ?_)
  refine Runs.bind (ld22 rfl ?_)
  refine Runs.bind (Ini.st22 (t := 187) (e_C 186 1 58 rfl (by decide) (h := slices_S16x128_o0_58_S16x1)) ?_)
  refine Runs.bind (ld22 rfl ?_)
  refine Runs.bind (Ini.st22 (t := 188) (e_C 187 1 59 rfl (by decide) (h := slices_S16x128_o0_59_S16x1)) ?_)
  refine Runs.bind (ld22 rfl ?_)
  refine Runs.bind (Ini.st22 (t := 189) (e_C 188 1 60 rfl (by decide) (h := slices_S16x128_o0_60_S16x1)) ?_)
  refine Runs.bind (ld22 rfl ?_)
  refine Runs.bind (Ini.st22 (t := 190) (e_C 189 1 61 rfl (by decide) (h := slices_S16x128_o0_61_S16x1)) ?_)
  exact Runs.pure hΦ

theorem val_85 {Φ} (hΦ : Φ (broadcastTo S16x128 (shapeCast S16x1 (extractStridedSlice S16x1 ![0, 67] (tC S 1) slices_S16x128_o0_67_S16x1) shapeCasts_S16x1_S16x1) broadcasts_S16x1_S16x128) (iniS S 2 2 2 256 195)) :
    Runs c A (ap A (k0_part85 (F := F) i) (tC S 1) (broadcastTo S16x128 (shapeCast S16x1 (extractStridedSlice S16x1 ![0, 62] (tC S 1) slices_S16x128_o0_62_S16x1) shapeCasts_S16x1_S16x1) broadcasts_S16x1_S16x128)) Φ (iniS S 2 2 2 256 190) := by
  rw [k0_part85_eq_skeleton]; unfold ap k0_part85_skel
  refine Runs.bind (ld22 rfl ?_)
  refine Runs.bind (Ini.st22 (t := 191) (e_C 190 1 62 rfl (by decide) (h := slices_S16x128_o0_62_S16x1)) ?_)
  refine Runs.bind (ld22 rfl ?_)
  refine Runs.bind (Ini.st22 (t := 192) (e_C 191 1 63 rfl (by decide) (h := slices_S16x128_o0_63_S16x1)) ?_)
  refine Runs.bind (ld22 rfl ?_)
  refine Runs.bind (Ini.st22 (t := 193) (e_C 192 1 64 rfl (by decide) (h := slices_S16x128_o0_64_S16x1)) ?_)
  refine Runs.bind (ld22 rfl ?_)
  refine Runs.bind (Ini.st22 (t := 194) (e_C 193 1 65 rfl (by decide) (h := slices_S16x128_o0_65_S16x1)) ?_)
  refine Runs.bind (ld22 rfl ?_)
  refine Runs.bind (Ini.st22 (t := 195) (e_C 194 1 66 rfl (by decide) (h := slices_S16x128_o0_66_S16x1)) ?_)
  refine Runs.bind (ld22 rfl ?_)
  exact Runs.pure hΦ

theorem val_86 {Φ} (hΦ : Φ (broadcastTo S16x128 (shapeCast S16x1 (extractStridedSlice S16x1 ![0, 73] (tC S 1) slices_S16x128_o0_73_S16x1) shapeCasts_S16x1_S16x1) broadcasts_S16x1_S16x128) (iniS S 2 2 2 256 201)) :
    Runs c A (ap A (k0_part86 (F := F) i) (tC S 1) (broadcastTo S16x128 (shapeCast S16x1 (extractStridedSlice S16x1 ![0, 67] (tC S 1) slices_S16x128_o0_67_S16x1) shapeCasts_S16x1_S16x1) broadcasts_S16x1_S16x128)) Φ (iniS S 2 2 2 256 195) := by
  rw [k0_part86_eq_skeleton]; unfold ap k0_part86_skel
  refine Runs.bind (Ini.st22 (t := 196) (e_C 195 1 67 rfl (by decide) (h := slices_S16x128_o0_67_S16x1)) ?_)
  refine Runs.bind (ld22 rfl ?_)
  refine Runs.bind (Ini.st22 (t := 197) (e_C 196 1 68 rfl (by decide) (h := slices_S16x128_o0_68_S16x1)) ?_)
  refine Runs.bind (ld22 rfl ?_)
  refine Runs.bind (Ini.st22 (t := 198) (e_C 197 1 69 rfl (by decide) (h := slices_S16x128_o0_69_S16x1)) ?_)
  refine Runs.bind (ld22 rfl ?_)
  refine Runs.bind (Ini.st22 (t := 199) (e_C 198 1 70 rfl (by decide) (h := slices_S16x128_o0_70_S16x1)) ?_)
  refine Runs.bind (ld22 rfl ?_)
  refine Runs.bind (Ini.st22 (t := 200) (e_C 199 1 71 rfl (by decide) (h := slices_S16x128_o0_71_S16x1)) ?_)
  refine Runs.bind (ld22 rfl ?_)
  refine Runs.bind (Ini.st22 (t := 201) (e_C 200 1 72 rfl (by decide) (h := slices_S16x128_o0_72_S16x1)) ?_)
  exact Runs.pure hΦ

theorem val_87 {Φ} (hΦ : ∀ b0, Φ ⟨broadcastTo S16x128 (shapeCast S16x1 (extractStridedSlice S16x1 ![0, 78] (tC S 1) slices_S16x128_o0_78_S16x1) shapeCasts_S16x1_S16x1) broadcasts_S16x1_S16x128, b0⟩ (iniS S 2 2 2 256 206)) :
    Runs c A (ap A (k0_part87 (F := F) i) (tC S 1) (broadcastTo S16x128 (shapeCast S16x1 (extractStridedSlice S16x1 ![0, 73] (tC S 1) slices_S16x128_o0_73_S16x1) shapeCasts_S16x1_S16x1) broadcasts_S16x1_S16x128)) Φ (iniS S 2 2 2 256 201) := by
  rw [k0_part87_eq_skeleton]; unfold ap k0_part87_skel
  refine Runs.bind (ld22 rfl ?_)
  refine Runs.bind (Ini.st22 (t := 202) (e_C 201 1 73 rfl (by decide) (h := slices_S16x128_o0_73_S16x1)) ?_)
  refine Runs.bind (ld22 rfl ?_)
  refine Runs.bind (Ini.st22 (t := 203) (e_C 202 1 74 rfl (by decide) (h := slices_S16x128_o0_74_S16x1)) ?_)
  refine Runs.bind (ld22 rfl ?_)
  refine Runs.bind (Ini.st22 (t := 204) (e_C 203 1 75 rfl (by decide) (h := slices_S16x128_o0_75_S16x1)) ?_)
  refine Runs.bind (ld22 rfl ?_)
  refine Runs.bind (Ini.st22 (t := 205) (e_C 204 1 76 rfl (by decide) (h := slices_S16x128_o0_76_S16x1)) ?_)
  refine Runs.bind (ld22 rfl ?_)
  refine Runs.bind (Ini.st22 (t := 206) (e_C 205 1 77 rfl (by decide) (h := slices_S16x128_o0_77_S16x1)) ?_)
  refine Runs.bind (ld22 rfl ?_)
  exact Runs.pure (hΦ _)

theorem val_88 (v3348 : Vec F S1x1x16x128 .f32) {Φ} (hΦ : Φ (shapeCast S16x1 (extractStridedSlice S16x1 ![0, 84] (tC S 1) slices_S16x128_o0_84_S16x1) shapeCasts_S16x1_S16x1) (iniS S 2 2 2 256 212)) :
    Runs c A (ap A (k0_part88 (F := F) i) (tC S 1) (broadcastTo S16x128 (shapeCast S16x1 (extractStridedSlice S16x1 ![0, 78] (tC S 1) slices_S16x128_o0_78_S16x1) shapeCasts_S16x1_S16x1) broadcasts_S16x1_S16x128) v3348) Φ (iniS S 2 2 2 256 206) := by
  rw [k0_part88_eq_skeleton]; unfold ap k0_part88_skel
  refine Runs.bind (Ini.st22 (t := 207) (e_C 206 1 78 rfl (by decide) (h := slices_S16x128_o0_78_S16x1)) ?_)
  refine Runs.bind (ld22 rfl ?_)
  refine Runs.bind (Ini.st22 (t := 208) (e_C 207 1 79 rfl (by decide) (h := slices_S16x128_o0_79_S16x1)) ?_)
  refine Runs.bind (ld22 rfl ?_)
  refine Runs.bind (Ini.st22 (t := 209) (e_C 208 1 80 rfl (by decide) (h := slices_S16x128_o0_80_S16x1)) ?_)
  refine Runs.bind (ld22 rfl ?_)
  refine Runs.bind (Ini.st22 (t := 210) (e_C 209 1 81 rfl (by decide) (h := slices_S16x128_o0_81_S16x1)) ?_)
  refine Runs.bind (ld22 rfl ?_)
  refine Runs.bind (Ini.st22 (t := 211) (e_C 210 1 82 rfl (by decide) (h := slices_S16x128_o0_82_S16x1)) ?_)
  refine Runs.bind (ld22 rfl ?_)
  refine Runs.bind (Ini.st22 (t := 212) (e_C 211 1 83 rfl (by decide) (h := slices_S16x128_o0_83_S16x1)) ?_)
  exact Runs.pure hΦ

theorem val_89 {Φ} (hΦ : Φ (broadcastTo S16x128 (shapeCast S16x1 (extractStridedSlice S16x1 ![0, 89] (tC S 1) slices_S16x128_o0_89_S16x1) shapeCasts_S16x1_S16x1) broadcasts_S16x1_S16x128) (iniS S 2 2 2 256 217)) :
    Runs c A (ap A (k0_part89 (F := F) i) (tC S 1) (shapeCast S16x1 (extractStridedSlice S16x1 ![0, 84] (tC S 1) slices_S16x128_o0_84_S16x1) shapeCasts_S16x1_S16x1)) Φ (iniS S 2 2 2 256 212) := by
  rw [k0_part89_eq_skeleton]; unfold ap k0_part89_skel
  refine Runs.bind (ld22 rfl ?_)
  refine Runs.bind (Ini.st22 (t := 213) (e_C 212 1 84 rfl (by decide) (h := slices_S16x128_o0_84_S16x1)) ?_)
  refine Runs.bind (ld22 rfl ?_)
  refine Runs.bind (Ini.st22 (t := 214) (e_C 213 1 85 rfl (by decide) (h := slices_S16x128_o0_85_S16x1)) ?_)
  refine Runs.bind (ld22 rfl ?_)
  refine Runs.bind (Ini.st22 (t := 215) (e_C 214 1 86 rfl (by decide) (h := slices_S16x128_o0_86_S16x1)) ?_)
  refine Runs.bind (ld22 rfl ?_)
  refine Runs.bind (Ini.st22 (t := 216) (e_C 215 1 87 rfl (by decide) (h := slices_S16x128_o0_87_S16x1)) ?_)
  refine Runs.bind (ld22 rfl ?_)
  refine Runs.bind (Ini.st22 (t := 217) (e_C 216 1 88 rfl (by decide) (h := slices_S16x128_o0_88_S16x1)) ?_)
  exact Runs.pure hΦ

theorem val_90 {Φ} (hΦ : Φ (extractStridedSlice S16x1 ![0, 95] (tC S 1) slices_S16x128_o0_95_S16x1) (iniS S 2 2 2 256 223)) :
    Runs c A (ap A (k0_part90 (F := F) i) (tC S 1) (broadcastTo S16x128 (shapeCast S16x1 (extractStridedSlice S16x1 ![0, 89] (tC S 1) slices_S16x128_o0_89_S16x1) shapeCasts_S16x1_S16x1) broadcasts_S16x1_S16x128)) Φ (iniS S 2 2 2 256 217) := by
  rw [k0_part90_eq_skeleton]; unfold ap k0_part90_skel
  refine Runs.bind (ld22 rfl ?_)
  refine Runs.bind (Ini.st22 (t := 218) (e_C 217 1 89 rfl (by decide) (h := slices_S16x128_o0_89_S16x1)) ?_)
  refine Runs.bind (ld22 rfl ?_)
  refine Runs.bind (Ini.st22 (t := 219) (e_C 218 1 90 rfl (by decide) (h := slices_S16x128_o0_90_S16x1)) ?_)
  refine Runs.bind (ld22 rfl ?_)
  refine Runs.bind (Ini.st22 (t := 220) (e_C 219 1 91 rfl (by decide) (h := slices_S16x128_o0_91_S16x1)) ?_)
  refine Runs.bind (ld22 rfl ?_)
  refine Runs.bind (Ini.st22 (t := 221) (e_C 220 1 92 rfl (by decide) (h := slices_S16x128_o0_92_S16x1)) ?_)
  refine Runs.bind (ld22 rfl ?_)
  refine Runs.bind (Ini.st22 (t := 222) (e_C 221 1 93 rfl (by decide) (h := slices_S16x128_o0_93_S16x1)) ?_)
  refine Runs.bind (ld22 rfl ?_)
  refine Runs.bind (Ini.st22 (t := 223) (e_C 222 1 94 rfl (by decide) (h := slices_S16x128_o0_94_S16x1)) ?_)
  exact Runs.pure hΦ

theorem val_91 {Φ} (hΦ : Φ (broadcastTo S16x128 (shapeCast S16x1 (extractStridedSlice S16x1 ![0, 100] (tC S 1) slices_S16x128_o0_100_S16x1) shapeCasts_S16x1_S16x1) broadcasts_S16x1_S16x128) (iniS S 2 2 2 256 228)) :
    Runs c A (ap A (k0_part91 (F := F) i) (tC S 1) (extractStridedSlice S16x1 ![0, 95] (tC S 1) slices_S16x128_o0_95_S16x1)) Φ (iniS S 2 2 2 256 223) := by
  rw [k0_part91_eq_skeleton]; unfold ap k0_part91_skel
  refine Runs.bind (ld22 rfl ?_)
  refine Runs.bind (Ini.st22 (t := 224) (e_C 223 1 95 rfl (by decide) (h := slices_S16x128_o0_95_S16x1)) ?_)
  refine Runs.bind (ld22 rfl ?_)
  refine Runs.bind (Ini.st22 (t := 225) (e_C 224 1 96 rfl (by decide) (h := slices_S16x128_o0_96_S16x1)) ?_)
  refine Runs.bind (ld22 rfl ?_)
  refine Runs.bind (Ini.st22 (t := 226) (e_C 225 1 97 rfl (by decide) (h := slices_S16x128_o0_97_S16x1)) ?_)
  refine Runs.bind (ld22 rfl ?_)
  refine Runs.bind (Ini.st22 (t := 227) (e_C 226 1 98 rfl (by decide) (h := slices_S16x128_o0_98_S16x1)) ?_)
  refine Runs.bind (ld22 rfl ?_)
  refine Runs.bind (Ini.st22 (t := 228) (e_C 227 1 99 rfl (by decide) (h := slices_S16x128_o0_99_S16x1)) ?_)
  exact Runs.pure hΦ

theorem val_92 {Φ} (hΦ : Φ PUnit.unit (iniS S 2 2 2 256 234)) :
    Runs c A (ap A (k0_part92 (F := F) i) (tC S 1) (broadcastTo S16x128 (shapeCast S16x1 (extractStridedSlice S16x1 ![0, 100] (tC S 1) slices_S16x128_o0_100_S16x1) shapeCasts_S16x1_S16x1) broadcasts_S16x1_S16x128)) Φ (iniS S 2 2 2 256 228) := by
  rw [k0_part92_eq_skeleton]; unfold ap k0_part92_skel
  refine Runs.bind (ld22 rfl ?_)
  refine Runs.bind (Ini.st22 (t := 229) (e_C 228 1 100 rfl (by decide) (h := slices_S16x128_o0_100_S16x1)) ?_)
  refine Runs.bind (ld22 rfl ?_)
  refine Runs.bind (Ini.st22 (t := 230) (e_C 229 1 101 rfl (by decide) (h := slices_S16x128_o0_101_S16x1)) ?_)
  refine Runs.bind (ld22 rfl ?_)
  refine Runs.bind (Ini.st22 (t := 231) (e_C 230 1 102 rfl (by decide) (h := slices_S16x128_o0_102_S16x1)) ?_)
  refine Runs.bind (ld22 rfl ?_)
  refine Runs.bind (Ini.st22 (t := 232) (e_C 231 1 103 rfl (by decide) (h := slices_S16x128_o0_103_S16x1)) ?_)
  refine Runs.bind (ld22 rfl ?_)
  refine Runs.bind (Ini.st22 (t := 233) (e_C 232 1 104 rfl (by decide) (h := slices_S16x128_o0_104_S16x1)) ?_)
  refine Runs.bind (ld22 rfl ?_)
  refine Runs.bind (Ini.st22 (t := 234) (e_C 233 1 105 rfl (by decide) (h := slices_S16x128_o0_105_S16x1)) ?_)
  exact Runs.pure hΦ

theorem val_93 {Φ} (hΦ : Φ (broadcastTo S16x128 (shapeCast S16x1 (extractStridedSlice S16x1 ![0, 111] (tC S 1) slices_S16x128_o0_111_S16x1) shapeCasts_S16x1_S16x1) broadcasts_S16x1_S16x128) (iniS S 2 2 2 256 239)) :
    Runs c A (ap A (k0_part93 (F := F) i) (tC S 1)) Φ (iniS S 2 2 2 256 234) := by
  rw [k0_part93_eq_skeleton]; unfold ap k0_part93_skel
  refine Runs.bind (ld22 rfl ?_)
  refine Runs.bind (Ini.st22 (t := 235) (e_C 234 1 106 rfl (by decide) (h := slices_S16x128_o0_106_S16x1)) ?_)
  refine Runs.bind (ld22 rfl ?_)
  refine Runs.bind (Ini.st22 (t := 236) (e_C 235 1 107 rfl (by decide) (h := slices_S16x128_o0_107_S16x1)) ?_)
  refine Runs.bind (ld22 rfl ?_)
  refine Runs.bind (Ini.st22 (t := 237) (e_C 236 1 108 rfl (by decide) (h := slices_S16x128_o0_108_S16x1)) ?_)
  refine Runs.bind (ld22 rfl ?_)
  refine Runs.bind (Ini.st22 (t := 238) (e_C 237 1 109 rfl (by decide) (h := slices_S16x128_o0_109_S16x1)) ?_)
  refine Runs.bind (ld22 rfl ?_)
  refine Runs.bind (Ini.st22 (t := 239) (e_C 238 1 110 rfl (by decide) (h := slices_S16x128_o0_110_S16x1)) ?_)
  exact Runs.pure hΦ

theorem val_94 {Φ} (hΦ : Φ (shapeCast S1x1x16x128 (broadcastTo S16x128 (shapeCast S16x1 (extractStridedSlice S16x1 ![0, 116] (tC S 1) slices_S16x128_o0_116_S16x1) shapeCasts_S16x1_S16x1) broadcasts_S16x1_S16x128) shapeCasts_S16x128_S1x1x16x128) (iniS S 2 2 2 256 244)) :
    Runs c A (ap A (k0_part94 (F := F) i) (tC S 1) (broadcastTo S16x128 (shapeCast S16x1 (extractStridedSlice S16x1 ![0, 111] (tC S 1) slices_S16x128_o0_111_S16x1) shapeCasts_S16x1_S16x1) broadcasts_S16x1_S16x128)) Φ (iniS S 2 2 2 256 239) := by
  rw [k0_part94_eq_skeleton]; unfold ap k0_part94_skel
  refine Runs.bind (ld22 rfl ?_)
  refine Runs.bind (Ini.st22 (t := 240) (e_C 239 1 111 rfl (by decide) (h := slices_S16x128_o0_111_S16x1)) ?_)
  refine Runs.bind (ld22 rfl ?_)
  refine Runs.bind (Ini.st22 (t := 241) (e_C 240 1 112 rfl (by decide) (h := slices_S16x128_o0_112_S16x1)) ?_)
  refine Runs.bind (ld22 rfl ?_)
  refine Runs.bind (Ini.st22 (t := 242) (e_C 241 1 113 rfl (by decide) (h := slices_S16x128_o0_113_S16x1)) ?_)
  refine Runs.bind (ld22 rfl ?_)
  refine Runs.bind (Ini.st22 (t := 243) (e_C 242 1 114 rfl (by decide) (h := slices_S16x128_o0_114_S16x1)) ?_)
  refine Runs.bind (ld22 rfl ?_)
  refine Runs.bind (Ini.st22 (t := 244) (e_C 243 1 115 rfl (by decide) (h := slices_S16x128_o0_115_S16x1)) ?_)
  refine Runs.bind (ld22 rfl ?_)
  exact Runs.pure hΦ

theorem val_95 {Φ} (hΦ : Φ (broadcastTo S16x128 (shapeCast S16x1 (extractStridedSlice S16x1 ![0, 122] (tC S 1) slices_S16x128_o0_122_S16x1) shapeCasts_S16x1_S16x1) broadcasts_S16x1_S16x128) (iniS S 2 2 2 256 250)) :
    Runs c A (ap A (k0_part95 (F := F) i) (tC S 1) (shapeCast S1x1x16x128 (broadcastTo S16x128 (shapeCast S16x1 (extractStridedSlice S16x1 ![0, 116] (tC S 1) slices_S16x128_o0_116_S16x1) shapeCasts_S16x1_S16x1) broadcasts_S16x1_S16x128) shapeCasts_S16x128_S1x1x16x128)) Φ (iniS S 2 2 2 256 244) := by
  rw [k0_part95_eq_skeleton]; unfold ap k0_part95_skel
  refine Runs.bind (Ini.st22 (t := 245) (e_C 244 1 116 rfl (by decide) (h := slices_S16x128_o0_116_S16x1)) ?_)
  refine Runs.bind (ld22 rfl ?_)
  refine Runs.bind (Ini.st22 (t := 246) (e_C 245 1 117 rfl (by decide) (h := slices_S16x128_o0_117_S16x1)) ?_)
  refine Runs.bind (ld22 rfl ?_)
  refine Runs.bind (Ini.st22 (t := 247) (e_C 246 1 118 rfl (by decide) (h := slices_S16x128_o0_118_S16x1)) ?_)
  refine Runs.bind (ld22 rfl ?_)
  refine Runs.bind (Ini.st22 (t := 248) (e_C 247 1 119 rfl (by decide) (h := slices_S16x128_o0_119_S16x1)) ?_)
  refine Runs.bind (ld22 rfl ?_)
  refine Runs.bind (Ini.st22 (t := 249) (e_C 248 1 120 rfl (by decide) (h := slices_S16x128_o0_120_S16x1)) ?_)
  refine Runs.bind (ld22 rfl ?_)
  refine Runs.bind (Ini.st22 (t := 250) (e_C 249 1 121 rfl (by decide) (h := slices_S16x128_o0_121_S16x1)) ?_)
  exact Runs.pure hΦ

theorem val_96 {Φ} (hΦ : Φ (broadcastTo S16x128 (shapeCast S16x1 (extractStridedSlice S16x1 ![0, 127] (tC S 1) slices_S16x128_o0_127_S16x1) shapeCasts_S16x1_S16x1) broadcasts_S16x1_S16x128) (iniS S 2 2 2 256 255)) :
    Runs c A (ap A (k0_part96 (F := F) i) (tC S 1) (broadcastTo S16x128 (shapeCast S16x1 (extractStridedSlice S16x1 ![0, 122] (tC S 1) slices_S16x128_o0_122_S16x1) shapeCasts_S16x1_S16x1) broadcasts_S16x1_S16x128)) Φ (iniS S 2 2 2 256 250) := by
  rw [k0_part96_eq_skeleton]; unfold ap k0_part96_skel
  refine Runs.bind (ld22 rfl ?_)
  refine Runs.bind (Ini.st22 (t := 251) (e_C 250 1 122 rfl (by decide) (h := slices_S16x128_o0_122_S16x1)) ?_)
  refine Runs.bind (ld22 rfl ?_)
  refine Runs.bind (Ini.st22 (t := 252) (e_C 251 1 123 rfl (by decide) (h := slices_S16x128_o0_123_S16x1)) ?_)
  refine Runs.bind (ld22 rfl ?_)
  refine Runs.bind (Ini.st22 (t := 253) (e_C 252 1 124 rfl (by decide) (h := slices_S16x128_o0_124_S16x1)) ?_)
  refine Runs.bind (ld22 rfl ?_)
  refine Runs.bind (Ini.st22 (t := 254) (e_C 253 1 125 rfl (by decide) (h := slices_S16x128_o0_125_S16x1)) ?_)
  refine Runs.bind (ld22 rfl ?_)
  refine Runs.bind (Ini.st22 (t := 255) (e_C 254 1 126 rfl (by decide) (h := slices_S16x128_o0_126_S16x1)) ?_)
  refine Runs.bind (ld22 rfl ?_)
  exact Runs.pure hΦ

end Cert.KernelIdeal.Scan

end
-- ==== Proof.ScanI.Ini.lean ====
/- What the preparation computes. -/
module

public import proofs.«01_k».proof.Proof.ScanI.Ini1
public import proofs.«01_k».proof.Proof.ScanI.Ini2
public import proofs.«01_k».proof.Proof.ScanI.Ini3
public import proofs.«01_k».proof.Proof.ScanI.Ini4
public import proofs.«01_k».proof.Proof.ScanI.Ini5
public import proofs.«01_k».proof.Proof.ScanI.Ini6

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {S : St F} {i : grid0.Coords}

theorem val_97 {Φ} (hΦ : Φ ⟨tB S 1, broadcastTo S16x128 (shapeCast S16x1 (extractStridedSlice S16x1 ![0, 60] (tB S 1) slices_S16x128_o0_60_S16x1) shapeCasts_S16x1_S16x1) broadcasts_S16x1_S16x128⟩ (iniS S 2 2 2 188 128)) :
    Runs c A (ap A (k0_part97 (F := F) i)) Φ (iniS S 0 0 0 0 0) := by
  rw [k0_part97_eq_skeleton]; unfold ap k0_part97_skel
  refine Runs.bind (val_1 ?_)
  try dsimp only
  refine Runs.bind (val_2 ?_)
  try dsimp only
  refine Runs.bind (val_3 ?_)
  try dsimp only
  refine Runs.bind (val_4 ?_)
  try dsimp only
  refine Runs.bind (val_5 ?_)
  try dsimp only
  refine Runs.bind (val_6 ?_)
  try dsimp only
  refine Runs.bind (val_7 ?_)
  try dsimp only
  refine Runs.bind (val_8 ?_)
  try dsimp only
  refine Runs.bind (val_9 ?_)
  try dsimp only
  refine Runs.bind (val_10 ?_)
  intro _
  try dsimp only
  refine Runs.bind (val_11 _ ?_)
  try dsimp only
  refine Runs.bind (val_12 ?_)
  try dsimp only
  refine Runs.bind (val_13 ?_)
  try dsimp only
  refine Runs.bind (val_14 ?_)
  try dsimp only
  refine Runs.bind (val_15 ?_)
  try dsimp only
  refine Runs.bind (val_16 ?_)
  try dsimp only
  refine Runs.bind (val_17 ?_)
  try dsimp only
  refine Runs.bind (val_18 ?_)
  try dsimp only
  refine Runs.bind (val_19 ?_)
  try dsimp only
  refine Runs.bind (val_20 ?_)
  try dsimp only
  refine Runs.bind (val_21 ?_)
  intro _
  try dsimp only
  refine Runs.bind (val_22 _ ?_)
  try dsimp only
  refine Runs.bind (val_23 ?_)
  try dsimp only
  refine Runs.bind (val_24 ?_)
  try dsimp only
  refine Runs.bind (val_25 ?_)
  try dsimp only
  refine Runs.bind (val_26 ?_)
  try dsimp only
  refine Runs.bind (val_27 ?_)
  try dsimp only
  refine Runs.bind (val_28 ?_)
  try dsimp only
  refine Runs.bind (val_29 ?_)
  try dsimp only
  refine Runs.bind (val_30 ?_)
  intro _
  try dsimp only
  refine Runs.bind (val_31 _ ?_)
  try dsimp only
  refine Runs.bind (val_32 ?_)
  try dsimp only
  refine Runs.bind (val_33 ?_)
  try dsimp only
  refine Runs.bind (val_34 ?_)
  try dsimp only
  refine Runs.bind (val_35 ?_)
  try dsimp only
  refine Runs.bind (val_36 ?_)
  try dsimp only
  refine Runs.bind (val_37 ?_)
  try dsimp only
  refine Runs.bind (val_38 ?_)
  try dsimp only
  refine Runs.bind (val_39 ?_)
  try dsimp only
  refine Runs.bind (val_40 ?_)
  try dsimp only
  refine Runs.bind (val_41 ?_)
  intro _
  try dsimp only
  refine Runs.bind (val_42 _ ?_)
  try dsimp only
  refine Runs.bind (val_43 ?_)
  try dsimp only
  refine Runs.bind (val_44 ?_)
  try dsimp only
  refine Runs.bind (val_45 ?_)
  try dsimp only
  refine Runs.bind (val_46 ?_)
  try dsimp only
  refine Runs.bind (val_47 ?_)
  try dsimp only
  refine Runs.bind (val_48 ?_)
  try dsimp only
  refine Runs.bind (val_49 ?_)
  try dsimp only
  refine Runs.bind (val_50 ?_)
  try dsimp only
  refine Runs.bind (val_51 ?_)
  try dsimp only
  refine Runs.bind (val_52 ?_)
  try dsimp only
  refine Runs.bind (val_53 ?_)
  try dsimp only
  refine Runs.bind (val_54 ?_)
  try dsimp only
  refine Runs.bind (val_55 ?_)
  try dsimp only
  refine Runs.bind (val_56 ?_)
  intro _
  try dsimp only
  refine Runs.bind (val_57 _ ?_)
  try dsimp only
  refine Runs.bind (val_58 ?_)
  try dsimp only
  refine Runs.bind (val_59 ?_)
  try dsimp only
  refine Runs.bind (val_60 ?_)
  try dsimp only
  exact Runs.pure hΦ

end Cert.KernelIdeal.Scan

end
-- ==== Proof.ScanI.TileDefs.lean ====
/- What one grid point computes. -/
module

public import proofs.«01_k».proof.Proof.ScanI.Ini

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One grid point: the contents as its parts leave them -/

/-- Tile `j` of the bias, of `delta`'s words, of `x`'s words, of the skip weights; one batch of the prepared scales and flags. -/
def bi (S : St F) (j : ℕ) : Vec F S1x128 .f32 := tile S.x14 S1x128.size ![0, 128 * j]
def td (S : St F) (j : ℕ) : Vec F S1x128x128 .fp8e4m3 := tile S.x5 S1x128x128.size ![0, 0, 128 * j]
def tx (S : St F) (j : ℕ) : Vec F S1x128x128 .fp8e4m3 := tile S.x3 S1x128x128.size ![0, 0, 128 * j]
def tD (S : St F) (j : ℕ) : Vec F S1x128 .f32 := tile S.x13 S1x128.size ![0, 128 * j]
def px (S : St F) (i : grid0.Coords) : Vec F S1x128x128 .f32 := tile S.x18 S1x128x128.size ![(i 1).val, 0, 0]
def pd (S : St F) (i : grid0.Coords) : Vec F S1x128x128 .f32 := tile S.x19 S1x128x128.size ![(i 1).val, 0, 0]
def pf (S : St F) (i : grid0.Coords) : Vec F S1x128x128 .f32 := tile S.x20 S1x128x128.size ![(i 1).val, 0, 0]

/-- The step sizes of tile `j`: softplus of `delta` with its bias. -/
def dl (S : St F) (i : grid0.Coords) (j : ℕ) : FVec F S128x128 .f32 := k0_pay1030 (bi S j) (td S j) (pd S i)

/-- The three tile buffers after so many stores. -/
def sU (S : St F) (i : grid0.Coords) : ℕ → Vec F S8x128x128 .f32
  | 0 => S.x25
  | n + 1 => put (sU S i n) S1x128x128.size ![n, 0, 0] (k0_pay1032 (dl S i n) (tx S n) (px S i))
def sK (S : St F) (i : grid0.Coords) : ℕ → Vec F S8x128x128 .f32
  | 0 => S.x26
  | n + 1 => put (sK S i n) S1x128x128.size ![n, 0, 0] (k0_pay1033 (tx S n) (px S i) (tD S n))
def sD (S : St F) (i : grid0.Coords) : ℕ → Vec F S8x128x128 .f32
  | 0 => S.x24
  | n + 1 => put (sD S i n) S1x128x128.size ![n, 0, 0] (k0_pay1034 (dl S i n) (pf S i))

def tilS (S : St F) (i : grid0.Coords) (a b d : ℕ) : St F := { S with x24 := sD S i a, x25 := sU S i b, x26 := sK S i d }

/-- The carried states of the loop after `t` trips, the results it has written by then. -/
def lp (S : St F) (i : grid0.Coords) : ℕ → ℕ → ℕ → FVec F S8x128 .f32
  | 0 => fun _ _ => k0_pay1078
  | t + 1 => if h : t < k0_t1_loop.trips then fun j k => (⟨S, i, ⟨t, h⟩, lp S i t⟩ : Trip F).h j k 8 else lp S i t
def yo (S : St F) (i : grid0.Coords) : ℕ → Vec F S1x128x1024 .bf16
  | 0 => S.x16
  | t + 1 => if h : t < k0_t1_loop.trips then (⟨S, i, ⟨t, h⟩, lp S i t⟩ : Trip F).yW (yo S i t) 8 else yo S i t

/-- The last states after so many of their stores. -/
def hO (X : Vec F S1x16x1024 .f32) (g : ℕ → ℕ → FVec F S8x128 .f32) : ℕ → Vec F S1x16x1024 .f32
  | 0 => X
  | n + 1 => put (hO X g n) S1x8x128.size ![0, 8 * (n % 2), 128 * (n / 2)] (shapeCast S1x8x128 (g (n / 2) (n % 2)) shapeCasts_S8x128_S1x8x128)
def houS (S : St F) (g : ℕ → ℕ → FVec F S8x128 .f32) (n : ℕ) : St F := { S with x17 := hO S.x17 g n }

section
variable {S : St F} {i : grid0.Coords} {c : Dev nD} {A : Args} {p q r n m : ℕ} {g : ℕ → ℕ → FVec F S8x128 .f32}

theorem e_U (b : ℕ) {inb : ∀ a, (![b, 0, 0] : Fin 3 → ℕ) a + S1x128x128.size a ≤ S8x128x128.size a} :
    (Rect.unit (s := S8x128x128) ![b, 0, 0] S1x128x128.size inb).overlay (sU S i b) (k0_pay1032 (dl S i b) (tx S b) (px S i)) = sU S i (b + 1) := put_eq rfl
theorem e_K (b : ℕ) {inb : ∀ a, (![b, 0, 0] : Fin 3 → ℕ) a + S1x128x128.size a ≤ S8x128x128.size a} :
    (Rect.unit (s := S8x128x128) ![b, 0, 0] S1x128x128.size inb).overlay (sK S i b) (k0_pay1033 (tx S b) (px S i) (tD S b)) = sK S i (b + 1) := put_eq rfl
theorem e_D (b : ℕ) {inb : ∀ a, (![b, 0, 0] : Fin 3 → ℕ) a + S1x128x128.size a ≤ S8x128x128.size a} :
    (Rect.unit (s := S8x128x128) ![b, 0, 0] S1x128x128.size inb).overlay (sD S i b) (k0_pay1034 (dl S i b) (pf S i)) = sD S i (b + 1) := put_eq rfl
theorem e_H {Z : Vec F S1x16x1024 .f32} (n a b : ℕ) (ha : a = 8 * (n % 2)) (hb : b = 128 * (n / 2)) {inb : ∀ x, (![0, a, b] : Fin 3 → ℕ) x + S1x8x128.size x ≤ S1x16x1024.size x} :
    (Rect.unit (s := S1x16x1024) ![0, a, b] S1x8x128.size inb).overlay (hO Z g n) (shapeCast S1x8x128 (g (n / 2) (n % 2)) shapeCasts_S8x128_S1x8x128) = hO Z g (n + 1) := by
  subst ha hb
  exact put_eq rfl

theorem Til.st24 {t : ℕ} {r' : Rect S8x128x128} {w : r'.shape.Idx → Elt F .f32} {hx : (A.a24.access r').Stores Finset.univ} {hm : Finset.univ = Finset.univ ∨ ∀ a, r'.stride a = 1}
    {Φ : PUnit → St F → Prop} (e : r'.overlay (sD S i p) w = sD S i t) (h : Φ ⟨⟩ (tilS S i t q r)) : Runs c A (Prog.lift (.store A.a24 r' w Finset.univ hx hm)) Φ (tilS S i p q r) :=
  Scan.st24 e h

theorem Til.st25 {t : ℕ} {r' : Rect S8x128x128} {w : r'.shape.Idx → Elt F .f32} {hx : (A.a25.access r').Stores Finset.univ} {hm : Finset.univ = Finset.univ ∨ ∀ a, r'.stride a = 1}
    {Φ : PUnit → St F → Prop} (e : r'.overlay (sU S i q) w = sU S i t) (h : Φ ⟨⟩ (tilS S i p t r)) : Runs c A (Prog.lift (.store A.a25 r' w Finset.univ hx hm)) Φ (tilS S i p q r) :=
  Scan.st25 e h

theorem Til.st26 {t : ℕ} {r' : Rect S8x128x128} {w : r'.shape.Idx → Elt F .f32} {hx : (A.a26.access r').Stores Finset.univ} {hm : Finset.univ = Finset.univ ∨ ∀ a, r'.stride a = 1}
    {Φ : PUnit → St F → Prop} (e : r'.overlay (sK S i r) w = sK S i t) (h : Φ ⟨⟩ (tilS S i p q t)) : Runs c A (Prog.lift (.store A.a26 r' w Finset.univ hx hm)) Φ (tilS S i p q r) :=
  Scan.st26 e h

theorem Hou.st17 {t : ℕ} {r' : Rect S1x16x1024} {w : r'.shape.Idx → Elt F .f32} {hx : (A.a17.access r').Stores Finset.univ} {hm : Finset.univ = Finset.univ ∨ ∀ a, r'.stride a = 1}
    {Φ : PUnit → St F → Prop} (e : r'.overlay (hO S.x17 g n) w = hO S.x17 g t) (h : Φ ⟨⟩ (houS S g t)) : Runs c A (Prog.lift (.store A.a17 r' w Finset.univ hx hm)) Φ (houS S g n) :=
  Scan.st17 e h
end

end Cert.KernelIdeal.Scan

end
-- ==== Proof.ScanI.Tiles1.lean ====
/- What the preparation of one grid point's tiles computes. -/
module

public import proofs.«01_k».proof.Proof.ScanI.TileDefs

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {S : St F} {i : grid0.Coords} {g : ℕ → ℕ → FVec F S8x128 .f32}

theorem val_183 (arg1 : BitVec 32) {Φ} (hΦ : Φ ⟨shapeCast S1x128 (bi S 1) shapeCasts_S1x128_S1x128, extf .f32 (shapeCast S128x128 (td S 1) shapeCasts_S1x128x128_S128x128) bitsLt_fp8e4m3_f32⟩ (tilS S i 1 1 1)) :
    Runs c A (ap A (k0_part183 (F := F) i) arg1 (dl S i 0) (tx S 0)) Φ (tilS S i 0 0 0) := by
  rw [k0_part183_eq_skeleton]; unfold ap k0_part183_skel
  refine Runs.bind (ld18 (Z := px S i) (tile_eq (k0_off1_eq i)) ?_)
  refine Runs.bind (ld25 rfl ?_)
  refine Runs.bind (Til.st25 (t := 1) (e_U 0) ?_)
  refine Runs.bind (ld13 (Z := tD S 0) (tile_eq rfl) ?_)
  refine Runs.bind (ld26 rfl ?_)
  refine Runs.bind (Til.st26 (t := 1) (e_K 0) ?_)
  refine Runs.bind (ld20 (Z := pf S i) (tile_eq (k0_off1_eq i)) ?_)
  refine Runs.bind (ld24 rfl ?_)
  refine Runs.bind (Til.st24 (t := 1) (e_D 0) ?_)
  refine Runs.bind (ld14 (Z := bi S 1) (tile_eq rfl) ?_)
  refine Runs.bind (ld5 (Z := td S 1) (tile_eq rfl) ?_)
  exact Runs.pure hΦ

theorem val_184 (arg1 : BitVec 32) {Φ} (hΦ : Φ (dl S i 1) (tilS S i 1 2 2)) :
    Runs c A (ap A (k0_part184 (F := F) i) arg1 (shapeCast S1x128 (bi S 1) shapeCasts_S1x128_S1x128) (extf .f32 (shapeCast S128x128 (td S 1) shapeCasts_S1x128x128_S128x128) bitsLt_fp8e4m3_f32)) Φ (tilS S i 1 1 1) := by
  rw [k0_part184_eq_skeleton]; unfold ap k0_part184_skel
  refine Runs.bind (ld19 (Z := pd S i) (tile_eq (k0_off1_eq i)) ?_)
  refine Runs.bind (ld3 (Z := tx S 1) (tile_eq rfl) ?_)
  refine Runs.bind (ld18 (Z := px S i) (tile_eq (k0_off1_eq i)) ?_)
  refine Runs.bind (ld25 rfl ?_)
  refine Runs.bind (Til.st25 (t := 2) (e_U 1) ?_)
  refine Runs.bind (ld13 (Z := tD S 1) (tile_eq rfl) ?_)
  refine Runs.bind (ld26 rfl ?_)
  refine Runs.bind (Til.st26 (t := 2) (e_K 1) ?_)
  exact Runs.pure hΦ

theorem val_185 (arg1 : BitVec 32) {Φ} (hΦ : Φ ⟨dl S i 2, tx S 2⟩ (tilS S i 2 2 2)) :
    Runs c A (ap A (k0_part185 (F := F) i) arg1 (dl S i 1)) Φ (tilS S i 1 2 2) := by
  rw [k0_part185_eq_skeleton]; unfold ap k0_part185_skel
  refine Runs.bind (ld20 (Z := pf S i) (tile_eq (k0_off1_eq i)) ?_)
  refine Runs.bind (ld24 rfl ?_)
  refine Runs.bind (Til.st24 (t := 2) (e_D 1) ?_)
  refine Runs.bind (ld14 (Z := bi S 2) (tile_eq rfl) ?_)
  refine Runs.bind (ld5 (Z := td S 2) (tile_eq rfl) ?_)
  refine Runs.bind (ld19 (Z := pd S i) (tile_eq (k0_off1_eq i)) ?_)
  refine Runs.bind (ld3 (Z := tx S 2) (tile_eq rfl) ?_)
  exact Runs.pure hΦ

theorem val_186 (arg1 : BitVec 32) {Φ} (hΦ : Φ ⟨shapeCast S1x128 (bi S 3) shapeCasts_S1x128_S1x128, extf .f32 (shapeCast S128x128 (td S 3) shapeCasts_S1x128x128_S128x128) bitsLt_fp8e4m3_f32⟩ (tilS S i 3 3 3)) :
    Runs c A (ap A (k0_part186 (F := F) i) arg1 (dl S i 2) (tx S 2)) Φ (tilS S i 2 2 2) := by
  rw [k0_part186_eq_skeleton]; unfold ap k0_part186_skel
  refine Runs.bind (ld18 (Z := px S i) (tile_eq (k0_off1_eq i)) ?_)
  refine Runs.bind (ld25 rfl ?_)
  refine Runs.bind (Til.st25 (t := 3) (e_U 2) ?_)
  refine Runs.bind (ld13 (Z := tD S 2) (tile_eq rfl) ?_)
  refine Runs.bind (ld26 rfl ?_)
  refine Runs.bind (Til.st26 (t := 3) (e_K 2) ?_)
  refine Runs.bind (ld20 (Z := pf S i) (tile_eq (k0_off1_eq i)) ?_)
  refine Runs.bind (ld24 rfl ?_)
  refine Runs.bind (Til.st24 (t := 3) (e_D 2) ?_)
  refine Runs.bind (ld14 (Z := bi S 3) (tile_eq rfl) ?_)
  refine Runs.bind (ld5 (Z := td S 3) (tile_eq rfl) ?_)
  exact Runs.pure hΦ

theorem val_187 (arg1 : BitVec 32) {Φ} (hΦ : Φ (dl S i 3) (tilS S i 3 4 4)) :
    Runs c A (ap A (k0_part187 (F := F) i) arg1 (shapeCast S1x128 (bi S 3) shapeCasts_S1x128_S1x128) (extf .f32 (shapeCast S128x128 (td S 3) shapeCasts_S1x128x128_S128x128) bitsLt_fp8e4m3_f32)) Φ (tilS S i 3 3 3) := by
  rw [k0_part187_eq_skeleton]; unfold ap k0_part187_skel
  refine Runs.bind (ld19 (Z := pd S i) (tile_eq (k0_off1_eq i)) ?_)
  refine Runs.bind (ld3 (Z := tx S 3) (tile_eq rfl) ?_)
  refine Runs.bind (ld18 (Z := px S i) (tile_eq (k0_off1_eq i)) ?_)
  refine Runs.bind (ld25 rfl ?_)
  refine Runs.bind (Til.st25 (t := 4) (e_U 3) ?_)
  refine Runs.bind (ld13 (Z := tD S 3) (tile_eq rfl) ?_)
  refine Runs.bind (ld26 rfl ?_)
  refine Runs.bind (Til.st26 (t := 4) (e_K 3) ?_)
  exact Runs.pure hΦ

theorem val_188 (arg1 : BitVec 32) {Φ} (hΦ : Φ ⟨dl S i 4, tx S 4⟩ (tilS S i 4 4 4)) :
    Runs c A (ap A (k0_part188 (F := F) i) arg1 (dl S i 3)) Φ (tilS S i 3 4 4) := by
  rw [k0_part188_eq_skeleton]; unfold ap k0_part188_skel
  refine Runs.bind (ld20 (Z := pf S i) (tile_eq (k0_off1_eq i)) ?_)
  refine Runs.bind (ld24 rfl ?_)
  refine Runs.bind (Til.st24 (t := 4) (e_D 3) ?_)
  refine Runs.bind (ld14 (Z := bi S 4) (tile_eq rfl) ?_)
  refine Runs.bind (ld5 (Z := td S 4) (tile_eq rfl) ?_)
  refine Runs.bind (ld19 (Z := pd S i) (tile_eq (k0_off1_eq i)) ?_)
  refine Runs.bind (ld3 (Z := tx S 4) (tile_eq rfl) ?_)
  exact Runs.pure hΦ

theorem val_189 (arg1 : BitVec 32) {Φ} (hΦ : Φ ⟨shapeCast S1x128 (bi S 5) shapeCasts_S1x128_S1x128, extf .f32 (shapeCast S128x128 (td S 5) shapeCasts_S1x128x128_S128x128) bitsLt_fp8e4m3_f32⟩ (tilS S i 5 5 5)) :
    Runs c A (ap A (k0_part189 (F := F) i) arg1 (dl S i 4) (tx S 4)) Φ (tilS S i 4 4 4) := by
  rw [k0_part189_eq_skeleton]; unfold ap k0_part189_skel
  refine Runs.bind (ld18 (Z := px S i) (tile_eq (k0_off1_eq i)) ?_)
  refine Runs.bind (ld25 rfl ?_)
  refine Runs.bind (Til.st25 (t := 5) (e_U 4) ?_)
  refine Runs.bind (ld13 (Z := tD S 4) (tile_eq rfl) ?_)
  refine Runs.bind (ld26 rfl ?_)
  refine Runs.bind (Til.st26 (t := 5) (e_K 4) ?_)
  refine Runs.bind (ld20 (Z := pf S i) (tile_eq (k0_off1_eq i)) ?_)
  refine Runs.bind (ld24 rfl ?_)
  refine Runs.bind (Til.st24 (t := 5) (e_D 4) ?_)
  refine Runs.bind (ld14 (Z := bi S 5) (tile_eq rfl) ?_)
  refine Runs.bind (ld5 (Z := td S 5) (tile_eq rfl) ?_)
  exact Runs.pure hΦ

theorem val_190 (arg1 : BitVec 32) {Φ} (hΦ : Φ (dl S i 5) (tilS S i 5 6 6)) :
    Runs c A (ap A (k0_part190 (F := F) i) arg1 (shapeCast S1x128 (bi S 5) shapeCasts_S1x128_S1x128) (extf .f32 (shapeCast S128x128 (td S 5) shapeCasts_S1x128x128_S128x128) bitsLt_fp8e4m3_f32)) Φ (tilS S i 5 5 5) := by
  rw [k0_part190_eq_skeleton]; unfold ap k0_part190_skel
  refine Runs.bind (ld19 (Z := pd S i) (tile_eq (k0_off1_eq i)) ?_)
  refine Runs.bind (ld3 (Z := tx S 5) (tile_eq rfl) ?_)
  refine Runs.bind (ld18 (Z := px S i) (tile_eq (k0_off1_eq i)) ?_)
  refine Runs.bind (ld25 rfl ?_)
  refine Runs.bind (Til.st25 (t := 6) (e_U 5) ?_)
  refine Runs.bind (ld13 (Z := tD S 5) (tile_eq rfl) ?_)
  refine Runs.bind (ld26 rfl ?_)
  refine Runs.bind (Til.st26 (t := 6) (e_K 5) ?_)
  exact Runs.pure hΦ

theorem val_191 (arg1 : BitVec 32) {Φ} (hΦ : Φ ⟨dl S i 6, tx S 6⟩ (tilS S i 6 6 6)) :
    Runs c A (ap A (k0_part191 (F := F) i) arg1 (dl S i 5)) Φ (tilS S i 5 6 6) := by
  rw [k0_part191_eq_skeleton]; unfold ap k0_part191_skel
  refine Runs.bind (ld20 (Z := pf S i) (tile_eq (k0_off1_eq i)) ?_)
  refine Runs.bind (ld24 rfl ?_)
  refine Runs.bind (Til.st24 (t := 6) (e_D 5) ?_)
  refine Runs.bind (ld14 (Z := bi S 6) (tile_eq rfl) ?_)
  refine Runs.bind (ld5 (Z := td S 6) (tile_eq rfl) ?_)
  refine Runs.bind (ld19 (Z := pd S i) (tile_eq (k0_off1_eq i)) ?_)
  refine Runs.bind (ld3 (Z := tx S 6) (tile_eq rfl) ?_)
  exact Runs.pure hΦ

theorem val_192 (arg1 : BitVec 32) {Φ} (hΦ : Φ ⟨shapeCast S1x128 (bi S 7) shapeCasts_S1x128_S1x128, extf .f32 (shapeCast S128x128 (td S 7) shapeCasts_S1x128x128_S128x128) bitsLt_fp8e4m3_f32⟩ (tilS S i 7 7 7)) :
    Runs c A (ap A (k0_part192 (F := F) i) arg1 (dl S i 6) (tx S 6)) Φ (tilS S i 6 6 6) := by
  rw [k0_part192_eq_skeleton]; unfold ap k0_part192_skel
  refine Runs.bind (ld18 (Z := px S i) (tile_eq (k0_off1_eq i)) ?_)
  refine Runs.bind (ld25 rfl ?_)
  refine Runs.bind (Til.st25 (t := 7) (e_U 6) ?_)
  refine Runs.bind (ld13 (Z := tD S 6) (tile_eq rfl) ?_)
  refine Runs.bind (ld26 rfl ?_)
  refine Runs.bind (Til.st26 (t := 7) (e_K 6) ?_)
  refine Runs.bind (ld20 (Z := pf S i) (tile_eq (k0_off1_eq i)) ?_)
  refine Runs.bind (ld24 rfl ?_)
  refine Runs.bind (Til.st24 (t := 7) (e_D 6) ?_)
  refine Runs.bind (ld14 (Z := bi S 7) (tile_eq rfl) ?_)
  refine Runs.bind (ld5 (Z := td S 7) (tile_eq rfl) ?_)
  exact Runs.pure hΦ

theorem val_193 (arg1 : BitVec 32) {Φ} (hΦ : Φ (dl S i 7) (tilS S i 7 8 8)) :
    Runs c A (ap A (k0_part193 (F := F) i) arg1 (shapeCast S1x128 (bi S 7) shapeCasts_S1x128_S1x128) (extf .f32 (shapeCast S128x128 (td S 7) shapeCasts_S1x128x128_S128x128) bitsLt_fp8e4m3_f32)) Φ (tilS S i 7 7 7) := by
  rw [k0_part193_eq_skeleton]; unfold ap k0_part193_skel
  refine Runs.bind (ld19 (Z := pd S i) (tile_eq (k0_off1_eq i)) ?_)
  refine Runs.bind (ld3 (Z := tx S 7) (tile_eq rfl) ?_)
  refine Runs.bind (ld18 (Z := px S i) (tile_eq (k0_off1_eq i)) ?_)
  refine Runs.bind (ld25 rfl ?_)
  refine Runs.bind (Til.st25 (t := 8) (e_U 7) ?_)
  refine Runs.bind (ld13 (Z := tD S 7) (tile_eq rfl) ?_)
  refine Runs.bind (ld26 rfl ?_)
  refine Runs.bind (Til.st26 (t := 8) (e_K 7) ?_)
  exact Runs.pure hΦ

end Cert.KernelIdeal.Scan

end
-- ==== Proof.ScanI.Val1.lean ====
/- What parts of the loop compute. -/
module

public import proofs.«01_k».proof.Proof.ScanI.Rules

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {X : Trip F} {Y : Vec F S8x72x128 .f32} {W : Vec F S1x128x1024 .bf16} (hw : ∀ s, Flag (X.w s))
include hw

theorem val_98 (arg1 : BitVec 32) (c0_i32_245 : BitVec 32) (c1_i32 : BitVec 32) {Φ} (hΦ : ∀ b0 b1, Φ ⟨b0, b1, X.w 0, (chk1_of_flag (hw 0)), rw8 (X.u 0 0), X.h 0 0 1, mulf (X.h 0 0 1) (q4 (X.c 0 0)), mulf (exp2 (mulf (rw8 (X.d 0 0)) (q8 (X.a 0 1 0)))) (X.h 0 1 0), X.b 1 0⟩ (X.at' (X.slab Y 0) (X.yW W 0))) :
    Runs c A (ap A (k0_part98 (F := F) X.i) arg1 c0_i32_245 c1_i32 X.t (X.h 0 0 0) (X.h 0 1 0)) Φ (X.at' (X.slab Y 0) (X.yW W 0)) := by
  rw [k0_part98_eq_skeleton]; unfold ap k0_part98_skel
  refine Runs.bind (ld2 (h1 := numel1_S1x1) (hp := rfl) (Z := X.w 0) (Trip.e_w (h1 := numel1_S1x1) (k0_off2_eq X.i X.t)) ?_)
  refine Runs.bind (Runs.assume (chk1_of_flag (hw 0)) ?_)
  refine Runs.bind (ld24 (Z := X.d 0 0) (Trip.e_d (k0_off3_eq X.t)) ?_)
  refine Runs.bind (ld25 (Z := X.u 0 0) (Trip.e_u (k0_off3_eq X.t)) ?_)
  refine Runs.bind (ld23 (Z := X.a 0 0 0) (Trip.e_a rfl) ?_)
  refine Runs.bind (ld21 (Z := X.b 0 0) (Trip.e_b (k0_off5_eq X.i X.t)) ?_)
  refine Runs.bind (ld22 (Z := X.c 0 0) (Trip.e_c (k0_off5_eq X.i X.t)) ?_)
  refine Runs.bind (ld23 (Z := X.a 0 1 0) (Trip.e_a rfl) ?_)
  refine Runs.bind (ld21 (Z := X.b 1 0) (Trip.e_b (k0_off7_eq X.i X.t)) ?_)
  exact Runs.pure (hΦ _ _)

theorem val_99 (arg1 : BitVec 32) (v501 : BitVec 32) (k0_hw1 : k0_chk1 (X.w 0)) {Φ} (hΦ : Φ ⟨X.h 0 1 1, rw8 (X.d 1 0), rw8 (X.u 1 0), X.h 1 0 1, mulf (X.h 1 0 1) (q4 (X.c 0 0)), q8 (X.a 1 1 0)⟩ (X.at' (X.slab Y 1) (X.yW W 0))) :
    Runs c A (ap A (k0_part99 (F := F) X.i) arg1 X.t (X.h 1 0 0) v501 (X.w 0) k0_hw1 (rw8 (X.u 0 0)) (mulf (X.h 0 0 1) (q4 (X.c 0 0))) (mulf (exp2 (mulf (rw8 (X.d 0 0)) (q8 (X.a 0 1 0)))) (X.h 0 1 0)) (X.b 1 0)) Φ (X.at' (X.slab Y 0) (X.yW W 0)) := by
  rw [k0_part99_eq_skeleton]; unfold ap k0_part99_skel
  refine Runs.bind (ld22 (Z := X.c 1 0) (Trip.e_c (k0_off7_eq X.i X.t)) ?_)
  refine Runs.bind (ld27 rfl ?_)
  refine Runs.bind (Trip.st27 (Trip.e_s 0 rfl) ?_)
  refine Runs.bind (ld24 (Z := X.d 1 0) (Trip.e_d (k0_off8_eq X.t)) ?_)
  refine Runs.bind (ld25 (Z := X.u 1 0) (Trip.e_u (k0_off8_eq X.t)) ?_)
  refine Runs.bind (ld23 (Z := X.a 1 0 0) (Trip.e_a rfl) ?_)
  refine Runs.bind (ld21 (Z := X.b 0 0) (Trip.e_b (k0_off5_eq X.i X.t)) ?_)
  refine Runs.bind (ld22 (Z := X.c 0 0) (Trip.e_c (k0_off5_eq X.i X.t)) ?_)
  refine Runs.bind (ld23 (Z := X.a 1 1 0) (Trip.e_a rfl) ?_)
  exact Runs.pure hΦ

theorem val_100 (arg1 : BitVec 32) (v501 : BitVec 32) (k0_hw1 : k0_chk1 (X.w 0)) {Φ} (hΦ : Φ ⟨X.h 1 1 1, rw8 (X.d 2 0), rw8 (X.u 2 0), X.h 2 0 1⟩ (X.at' (X.slab Y 2) (X.yW W 0))) :
    Runs c A (ap A (k0_part100 (F := F) X.i) arg1 X.t (X.h 1 1 0) (X.h 2 0 0) v501 (X.w 0) k0_hw1 (rw8 (X.d 1 0)) (rw8 (X.u 1 0)) (mulf (X.h 1 0 1) (q4 (X.c 0 0))) (q8 (X.a 1 1 0))) Φ (X.at' (X.slab Y 1) (X.yW W 0)) := by
  rw [k0_part100_eq_skeleton]; unfold ap k0_part100_skel
  refine Runs.bind (ld21 (Z := X.b 1 0) (Trip.e_b (k0_off7_eq X.i X.t)) ?_)
  refine Runs.bind (ld22 (Z := X.c 1 0) (Trip.e_c (k0_off7_eq X.i X.t)) ?_)
  refine Runs.bind (ld27 rfl ?_)
  refine Runs.bind (Trip.st27 (Trip.e_s 1 rfl) ?_)
  refine Runs.bind (ld24 (Z := X.d 2 0) (Trip.e_d (k0_off11_eq X.t)) ?_)
  refine Runs.bind (ld25 (Z := X.u 2 0) (Trip.e_u (k0_off11_eq X.t)) ?_)
  refine Runs.bind (ld23 (Z := X.a 2 0 0) (Trip.e_a rfl) ?_)
  refine Runs.bind (ld21 (Z := X.b 0 0) (Trip.e_b (k0_off5_eq X.i X.t)) ?_)
  exact Runs.pure hΦ

theorem val_101 (arg1 : BitVec 32) (v501 : BitVec 32) (k0_hw1 : k0_chk1 (X.w 0)) {Φ} (hΦ : Φ ⟨X.h 2 1 1, rw8 (X.d 3 0), rw8 (X.u 3 0), mulf (exp2 (mulf (rw8 (X.d 3 0)) (q8 (X.a 3 0 0)))) (X.h 3 0 0)⟩ (X.at' (X.slab Y 3) (X.yW W 0))) :
    Runs c A (ap A (k0_part101 (F := F) X.i) arg1 X.t (X.h 2 1 0) (X.h 3 0 0) v501 (X.w 0) k0_hw1 (rw8 (X.d 2 0)) (rw8 (X.u 2 0)) (X.h 2 0 1)) Φ (X.at' (X.slab Y 2) (X.yW W 0)) := by
  rw [k0_part101_eq_skeleton]; unfold ap k0_part101_skel
  refine Runs.bind (ld22 (Z := X.c 0 0) (Trip.e_c (k0_off5_eq X.i X.t)) ?_)
  refine Runs.bind (ld23 (Z := X.a 2 1 0) (Trip.e_a rfl) ?_)
  refine Runs.bind (ld21 (Z := X.b 1 0) (Trip.e_b (k0_off7_eq X.i X.t)) ?_)
  refine Runs.bind (ld22 (Z := X.c 1 0) (Trip.e_c (k0_off7_eq X.i X.t)) ?_)
  refine Runs.bind (ld27 rfl ?_)
  refine Runs.bind (Trip.st27 (Trip.e_s 2 rfl) ?_)
  refine Runs.bind (ld24 (Z := X.d 3 0) (Trip.e_d (k0_off14_eq X.t)) ?_)
  refine Runs.bind (ld25 (Z := X.u 3 0) (Trip.e_u (k0_off14_eq X.t)) ?_)
  refine Runs.bind (ld23 (Z := X.a 3 0 0) (Trip.e_a rfl) ?_)
  exact Runs.pure hΦ

theorem val_102 (arg1 : BitVec 32) (v501 : BitVec 32) (k0_hw1 : k0_chk1 (X.w 0)) {Φ} (hΦ : Φ ⟨X.h 3 0 1, X.h 3 1 1, rw8 (X.d 4 0), rw8 (X.u 4 0), X.a 4 0 0⟩ (X.at' (X.slab Y 4) (X.yW W 0))) :
    Runs c A (ap A (k0_part102 (F := F) X.i) arg1 X.t (X.h 3 1 0) v501 (X.w 0) k0_hw1 (rw8 (X.d 3 0)) (rw8 (X.u 3 0)) (mulf (exp2 (mulf (rw8 (X.d 3 0)) (q8 (X.a 3 0 0)))) (X.h 3 0 0))) Φ (X.at' (X.slab Y 3) (X.yW W 0)) := by
  rw [k0_part102_eq_skeleton]; unfold ap k0_part102_skel
  refine Runs.bind (ld21 (Z := X.b 0 0) (Trip.e_b (k0_off5_eq X.i X.t)) ?_)
  refine Runs.bind (ld22 (Z := X.c 0 0) (Trip.e_c (k0_off5_eq X.i X.t)) ?_)
  refine Runs.bind (ld23 (Z := X.a 3 1 0) (Trip.e_a rfl) ?_)
  refine Runs.bind (ld21 (Z := X.b 1 0) (Trip.e_b (k0_off7_eq X.i X.t)) ?_)
  refine Runs.bind (ld22 (Z := X.c 1 0) (Trip.e_c (k0_off7_eq X.i X.t)) ?_)
  refine Runs.bind (ld27 rfl ?_)
  refine Runs.bind (Trip.st27 (Trip.e_s 3 rfl) ?_)
  refine Runs.bind (ld24 (Z := X.d 4 0) (Trip.e_d (k0_off17_eq X.t)) ?_)
  refine Runs.bind (ld25 (Z := X.u 4 0) (Trip.e_u (k0_off17_eq X.t)) ?_)
  refine Runs.bind (ld23 (Z := X.a 4 0 0) (Trip.e_a rfl) ?_)
  exact Runs.pure hΦ

theorem val_103 (arg1 : BitVec 32) (v501 : BitVec 32) (k0_hw1 : k0_chk1 (X.w 0)) {Φ} (hΦ : Φ ⟨X.h 4 0 1, X.h 4 1 1, rw8 (X.d 5 0)⟩ (X.at' (X.slab Y 5) (X.yW W 0))) :
    Runs c A (ap A (k0_part103 (F := F) X.i) arg1 X.t (X.h 4 0 0) (X.h 4 1 0) v501 (X.w 0) k0_hw1 (rw8 (X.d 4 0)) (rw8 (X.u 4 0)) (X.a 4 0 0)) Φ (X.at' (X.slab Y 4) (X.yW W 0)) := by
  rw [k0_part103_eq_skeleton]; unfold ap k0_part103_skel
  refine Runs.bind (ld21 (Z := X.b 0 0) (Trip.e_b (k0_off5_eq X.i X.t)) ?_)
  refine Runs.bind (ld22 (Z := X.c 0 0) (Trip.e_c (k0_off5_eq X.i X.t)) ?_)
  refine Runs.bind (ld23 (Z := X.a 4 1 0) (Trip.e_a rfl) ?_)
  refine Runs.bind (ld21 (Z := X.b 1 0) (Trip.e_b (k0_off7_eq X.i X.t)) ?_)
  refine Runs.bind (ld22 (Z := X.c 1 0) (Trip.e_c (k0_off7_eq X.i X.t)) ?_)
  refine Runs.bind (ld27 rfl ?_)
  refine Runs.bind (Trip.st27 (Trip.e_s 4 rfl) ?_)
  refine Runs.bind (ld24 (Z := X.d 5 0) (Trip.e_d (k0_off20_eq X.t)) ?_)
  exact Runs.pure hΦ

theorem val_104 (arg1 : BitVec 32) (v501 : BitVec 32) (k0_hw1 : k0_chk1 (X.w 0)) {Φ} (hΦ : Φ ⟨X.h 5 0 1, X.h 5 1 1⟩ (X.at' (X.slab Y 6) (X.yW W 0))) :
    Runs c A (ap A (k0_part104 (F := F) X.i) arg1 X.t (X.h 5 0 0) (X.h 5 1 0) v501 (X.w 0) k0_hw1 (rw8 (X.d 5 0))) Φ (X.at' (X.slab Y 5) (X.yW W 0)) := by
  rw [k0_part104_eq_skeleton]; unfold ap k0_part104_skel
  refine Runs.bind (ld25 (Z := X.u 5 0) (Trip.e_u (k0_off20_eq X.t)) ?_)
  refine Runs.bind (ld23 (Z := X.a 5 0 0) (Trip.e_a rfl) ?_)
  refine Runs.bind (ld21 (Z := X.b 0 0) (Trip.e_b (k0_off5_eq X.i X.t)) ?_)
  refine Runs.bind (ld22 (Z := X.c 0 0) (Trip.e_c (k0_off5_eq X.i X.t)) ?_)
  refine Runs.bind (ld23 (Z := X.a 5 1 0) (Trip.e_a rfl) ?_)
  refine Runs.bind (ld21 (Z := X.b 1 0) (Trip.e_b (k0_off7_eq X.i X.t)) ?_)
  refine Runs.bind (ld22 (Z := X.c 1 0) (Trip.e_c (k0_off7_eq X.i X.t)) ?_)
  refine Runs.bind (ld27 rfl ?_)
  refine Runs.bind (Trip.st27 (Trip.e_s 5 rfl) ?_)
  exact Runs.pure hΦ

theorem val_105 (arg1 : BitVec 32) (v501 : BitVec 32) (k0_hw1 : k0_chk1 (X.w 0)) {Φ} (hΦ : Φ ⟨X.h 6 0 1, X.h 6 1 1, X.P 6 0⟩ (X.at' (X.slab Y 6) (X.yW W 0))) :
    Runs c A (ap A (k0_part105 (F := F) X.i) arg1 X.t (X.h 6 0 0) (X.h 6 1 0) v501 (X.w 0) k0_hw1) Φ (X.at' (X.slab Y 6) (X.yW W 0)) := by
  rw [k0_part105_eq_skeleton]; unfold ap k0_part105_skel
  refine Runs.bind (ld24 (Z := X.d 6 0) (Trip.e_d (k0_off23_eq X.t)) ?_)
  refine Runs.bind (ld25 (Z := X.u 6 0) (Trip.e_u (k0_off23_eq X.t)) ?_)
  refine Runs.bind (ld23 (Z := X.a 6 0 0) (Trip.e_a rfl) ?_)
  refine Runs.bind (ld21 (Z := X.b 0 0) (Trip.e_b (k0_off5_eq X.i X.t)) ?_)
  refine Runs.bind (ld22 (Z := X.c 0 0) (Trip.e_c (k0_off5_eq X.i X.t)) ?_)
  refine Runs.bind (ld23 (Z := X.a 6 1 0) (Trip.e_a rfl) ?_)
  refine Runs.bind (ld21 (Z := X.b 1 0) (Trip.e_b (k0_off7_eq X.i X.t)) ?_)
  refine Runs.bind (ld22 (Z := X.c 1 0) (Trip.e_c (k0_off7_eq X.i X.t)) ?_)
  exact Runs.pure hΦ

theorem val_106 (arg1 : BitVec 32) (v501 : BitVec 32) (k0_hw1 : k0_chk1 (X.w 0)) {Φ} (hΦ : Φ ⟨X.h 7 0 1, mulf (X.h 7 0 1) (q4 (X.c 0 0)), X.h 7 1 1⟩ (X.at' (X.slab Y 7) (X.yW W 0))) :
    Runs c A (ap A (k0_part106 (F := F) X.i) arg1 X.t (X.h 7 0 0) (X.h 7 1 0) v501 (X.w 0) k0_hw1 (X.P 6 0)) Φ (X.at' (X.slab Y 6) (X.yW W 0)) := by
  rw [k0_part106_eq_skeleton]; unfold ap k0_part106_skel
  refine Runs.bind (ld27 rfl ?_)
  refine Runs.bind (Trip.st27 (Trip.e_s 6 rfl) ?_)
  refine Runs.bind (ld24 (Z := X.d 7 0) (Trip.e_d (k0_off26_eq X.t)) ?_)
  refine Runs.bind (ld25 (Z := X.u 7 0) (Trip.e_u (k0_off26_eq X.t)) ?_)
  refine Runs.bind (ld23 (Z := X.a 7 0 0) (Trip.e_a rfl) ?_)
  refine Runs.bind (ld21 (Z := X.b 0 0) (Trip.e_b (k0_off5_eq X.i X.t)) ?_)
  refine Runs.bind (ld22 (Z := X.c 0 0) (Trip.e_c (k0_off5_eq X.i X.t)) ?_)
  refine Runs.bind (ld23 (Z := X.a 7 1 0) (Trip.e_a rfl) ?_)
  refine Runs.bind (ld21 (Z := X.b 1 0) (Trip.e_b (k0_off7_eq X.i X.t)) ?_)
  exact Runs.pure hΦ

theorem val_107 (arg1 : BitVec 32) (v500 : BitVec 32) (v501 : BitVec 32) {Φ} (hΦ : ∀ b0, Φ ⟨b0, X.w 1, (chk2_of_flag (hw 1)), rw8 (X.d 0 1), rw8 (X.u 0 1), X.h 0 0 2, mulf (X.h 0 0 2) (q4 (X.c 0 1))⟩ (X.at' (X.slab Y 8) (X.yW W 0))) :
    Runs c A (ap A (k0_part107 (F := F) X.i) arg1 X.t v500 v501 (X.h 0 0 1) (mulf (X.h 7 0 1) (q4 (X.c 0 0))) (X.h 7 1 1)) Φ (X.at' (X.slab Y 7) (X.yW W 0)) := by
  rw [k0_part107_eq_skeleton]; unfold ap k0_part107_skel
  refine Runs.bind (ld22 (Z := X.c 1 0) (Trip.e_c (k0_off7_eq X.i X.t)) ?_)
  refine Runs.bind (ld27 rfl ?_)
  refine Runs.bind (Trip.st27 (Trip.e_s 7 rfl) ?_)
  refine Runs.bind (ld2 (h1 := numel1_S1x1) (hp := rfl) (Z := X.w 1) (Trip.e_w (h1 := numel1_S1x1) (k0_off29_eq X.i X.t)) ?_)
  refine Runs.bind (Runs.assume (chk2_of_flag (hw 1)) ?_)
  refine Runs.bind (ld24 (Z := X.d 0 1) (Trip.e_d (k0_off30_eq X.t)) ?_)
  refine Runs.bind (ld25 (Z := X.u 0 1) (Trip.e_u (k0_off30_eq X.t)) ?_)
  refine Runs.bind (ld23 (Z := X.a 0 0 1) (Trip.e_a rfl) ?_)
  refine Runs.bind (ld21 (Z := X.b 0 1) (Trip.e_b (k0_off32_eq X.i X.t)) ?_)
  refine Runs.bind (ld22 (Z := X.c 0 1) (Trip.e_c (k0_off32_eq X.i X.t)) ?_)
  exact Runs.pure (hΦ _)

theorem val_108 (arg1 : BitVec 32) (v889 : BitVec 32) (k0_hw2 : k0_chk2 (X.w 1)) {Φ} (hΦ : Φ ⟨X.h 0 1 2, rw8 (X.d 1 1), rw8 (X.u 1 1), X.h 1 0 2⟩ (X.at' (X.slab Y 9) (X.yW W 0))) :
    Runs c A (ap A (k0_part108 (F := F) X.i) arg1 X.t (X.h 0 1 1) (X.h 1 0 1) v889 (X.w 1) k0_hw2 (rw8 (X.d 0 1)) (rw8 (X.u 0 1)) (mulf (X.h 0 0 2) (q4 (X.c 0 1)))) Φ (X.at' (X.slab Y 8) (X.yW W 0)) := by
  rw [k0_part108_eq_skeleton]; unfold ap k0_part108_skel
  refine Runs.bind (ld23 (Z := X.a 0 1 1) (Trip.e_a rfl) ?_)
  refine Runs.bind (ld21 (Z := X.b 1 1) (Trip.e_b (k0_off34_eq X.i X.t)) ?_)
  refine Runs.bind (ld22 (Z := X.c 1 1) (Trip.e_c (k0_off34_eq X.i X.t)) ?_)
  refine Runs.bind (ld27 rfl ?_)
  refine Runs.bind (Trip.st27 (Trip.e_s 8 rfl) ?_)
  refine Runs.bind (ld24 (Z := X.d 1 1) (Trip.e_d (k0_off35_eq X.t)) ?_)
  refine Runs.bind (ld25 (Z := X.u 1 1) (Trip.e_u (k0_off35_eq X.t)) ?_)
  refine Runs.bind (ld23 (Z := X.a 1 0 1) (Trip.e_a rfl) ?_)
  refine Runs.bind (ld21 (Z := X.b 0 1) (Trip.e_b (k0_off32_eq X.i X.t)) ?_)
  exact Runs.pure hΦ

end Cert.KernelIdeal.Scan

end
-- ==== Proof.ScanI.Val2.lean ====
/- What parts of the loop compute. -/
module

public import proofs.«01_k».proof.Proof.ScanI.Rules

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {X : Trip F} {Y : Vec F S8x72x128 .f32} {W : Vec F S1x128x1024 .bf16} (hw : ∀ s, Flag (X.w s))
include hw

theorem val_109 (arg1 : BitVec 32) (v889 : BitVec 32) (k0_hw2 : k0_chk2 (X.w 1)) {Φ} (hΦ : Φ ⟨X.h 1 1 2, rw8 (X.d 2 1), rw8 (X.u 2 1), mulf (exp2 (mulf (rw8 (X.d 2 1)) (q8 (X.a 2 0 1)))) (X.h 2 0 1)⟩ (X.at' (X.slab Y 10) (X.yW W 0))) :
    Runs c A (ap A (k0_part109 (F := F) X.i) arg1 X.t (X.h 1 1 1) (X.h 2 0 1) v889 (X.w 1) k0_hw2 (rw8 (X.d 1 1)) (rw8 (X.u 1 1)) (X.h 1 0 2)) Φ (X.at' (X.slab Y 9) (X.yW W 0)) := by
  rw [k0_part109_eq_skeleton]; unfold ap k0_part109_skel
  refine Runs.bind (ld22 (Z := X.c 0 1) (Trip.e_c (k0_off32_eq X.i X.t)) ?_)
  refine Runs.bind (ld23 (Z := X.a 1 1 1) (Trip.e_a rfl) ?_)
  refine Runs.bind (ld21 (Z := X.b 1 1) (Trip.e_b (k0_off34_eq X.i X.t)) ?_)
  refine Runs.bind (ld22 (Z := X.c 1 1) (Trip.e_c (k0_off34_eq X.i X.t)) ?_)
  refine Runs.bind (ld27 rfl ?_)
  refine Runs.bind (Trip.st27 (Trip.e_s 9 rfl) ?_)
  refine Runs.bind (ld24 (Z := X.d 2 1) (Trip.e_d (k0_off38_eq X.t)) ?_)
  refine Runs.bind (ld25 (Z := X.u 2 1) (Trip.e_u (k0_off38_eq X.t)) ?_)
  refine Runs.bind (ld23 (Z := X.a 2 0 1) (Trip.e_a rfl) ?_)
  exact Runs.pure hΦ

theorem val_110 (arg1 : BitVec 32) (v889 : BitVec 32) (k0_hw2 : k0_chk2 (X.w 1)) {Φ} (hΦ : Φ ⟨X.h 2 0 2, X.h 2 1 2, rw8 (X.d 3 1), rw8 (X.u 3 1)⟩ (X.at' (X.slab Y 11) (X.yW W 0))) :
    Runs c A (ap A (k0_part110 (F := F) X.i) arg1 X.t (X.h 2 1 1) v889 (X.w 1) k0_hw2 (rw8 (X.d 2 1)) (rw8 (X.u 2 1)) (mulf (exp2 (mulf (rw8 (X.d 2 1)) (q8 (X.a 2 0 1)))) (X.h 2 0 1))) Φ (X.at' (X.slab Y 10) (X.yW W 0)) := by
  rw [k0_part110_eq_skeleton]; unfold ap k0_part110_skel
  refine Runs.bind (ld21 (Z := X.b 0 1) (Trip.e_b (k0_off32_eq X.i X.t)) ?_)
  refine Runs.bind (ld22 (Z := X.c 0 1) (Trip.e_c (k0_off32_eq X.i X.t)) ?_)
  refine Runs.bind (ld23 (Z := X.a 2 1 1) (Trip.e_a rfl) ?_)
  refine Runs.bind (ld21 (Z := X.b 1 1) (Trip.e_b (k0_off34_eq X.i X.t)) ?_)
  refine Runs.bind (ld22 (Z := X.c 1 1) (Trip.e_c (k0_off34_eq X.i X.t)) ?_)
  refine Runs.bind (ld27 rfl ?_)
  refine Runs.bind (Trip.st27 (Trip.e_s 10 rfl) ?_)
  refine Runs.bind (ld24 (Z := X.d 3 1) (Trip.e_d (k0_off41_eq X.t)) ?_)
  refine Runs.bind (ld25 (Z := X.u 3 1) (Trip.e_u (k0_off41_eq X.t)) ?_)
  exact Runs.pure hΦ

theorem val_111 (arg1 : BitVec 32) (v889 : BitVec 32) (k0_hw2 : k0_chk2 (X.w 1)) {Φ} (hΦ : Φ ⟨X.h 3 0 2, X.h 3 1 2, rw8 (X.d 4 1)⟩ (X.at' (X.slab Y 12) (X.yW W 0))) :
    Runs c A (ap A (k0_part111 (F := F) X.i) arg1 X.t (X.h 3 0 1) (X.h 3 1 1) v889 (X.w 1) k0_hw2 (rw8 (X.d 3 1)) (rw8 (X.u 3 1))) Φ (X.at' (X.slab Y 11) (X.yW W 0)) := by
  rw [k0_part111_eq_skeleton]; unfold ap k0_part111_skel
  refine Runs.bind (ld23 (Z := X.a 3 0 1) (Trip.e_a rfl) ?_)
  refine Runs.bind (ld21 (Z := X.b 0 1) (Trip.e_b (k0_off32_eq X.i X.t)) ?_)
  refine Runs.bind (ld22 (Z := X.c 0 1) (Trip.e_c (k0_off32_eq X.i X.t)) ?_)
  refine Runs.bind (ld23 (Z := X.a 3 1 1) (Trip.e_a rfl) ?_)
  refine Runs.bind (ld21 (Z := X.b 1 1) (Trip.e_b (k0_off34_eq X.i X.t)) ?_)
  refine Runs.bind (ld22 (Z := X.c 1 1) (Trip.e_c (k0_off34_eq X.i X.t)) ?_)
  refine Runs.bind (ld27 rfl ?_)
  refine Runs.bind (Trip.st27 (Trip.e_s 11 rfl) ?_)
  refine Runs.bind (ld24 (Z := X.d 4 1) (Trip.e_d (k0_off44_eq X.t)) ?_)
  exact Runs.pure hΦ

theorem val_112 (arg1 : BitVec 32) (v889 : BitVec 32) (k0_hw2 : k0_chk2 (X.w 1)) {Φ} (hΦ : Φ ⟨X.h 4 0 2, X.h 4 1 2⟩ (X.at' (X.slab Y 13) (X.yW W 0))) :
    Runs c A (ap A (k0_part112 (F := F) X.i) arg1 X.t (X.h 4 0 1) (X.h 4 1 1) v889 (X.w 1) k0_hw2 (rw8 (X.d 4 1))) Φ (X.at' (X.slab Y 12) (X.yW W 0)) := by
  rw [k0_part112_eq_skeleton]; unfold ap k0_part112_skel
  refine Runs.bind (ld25 (Z := X.u 4 1) (Trip.e_u (k0_off44_eq X.t)) ?_)
  refine Runs.bind (ld23 (Z := X.a 4 0 1) (Trip.e_a rfl) ?_)
  refine Runs.bind (ld21 (Z := X.b 0 1) (Trip.e_b (k0_off32_eq X.i X.t)) ?_)
  refine Runs.bind (ld22 (Z := X.c 0 1) (Trip.e_c (k0_off32_eq X.i X.t)) ?_)
  refine Runs.bind (ld23 (Z := X.a 4 1 1) (Trip.e_a rfl) ?_)
  refine Runs.bind (ld21 (Z := X.b 1 1) (Trip.e_b (k0_off34_eq X.i X.t)) ?_)
  refine Runs.bind (ld22 (Z := X.c 1 1) (Trip.e_c (k0_off34_eq X.i X.t)) ?_)
  refine Runs.bind (ld27 rfl ?_)
  refine Runs.bind (Trip.st27 (Trip.e_s 12 rfl) ?_)
  exact Runs.pure hΦ

theorem val_113 (arg1 : BitVec 32) (v889 : BitVec 32) (k0_hw2 : k0_chk2 (X.w 1)) {Φ} (hΦ : Φ ⟨X.h 5 0 2, mulf (X.h 5 0 2) (q4 (X.c 0 1)), X.h 5 1 2, mulf (X.h 5 1 2) (q4 (X.c 1 1))⟩ (X.at' (X.slab Y 13) (X.yW W 0))) :
    Runs c A (ap A (k0_part113 (F := F) X.i) arg1 X.t (X.h 5 0 1) (X.h 5 1 1) v889 (X.w 1) k0_hw2) Φ (X.at' (X.slab Y 13) (X.yW W 0)) := by
  rw [k0_part113_eq_skeleton]; unfold ap k0_part113_skel
  refine Runs.bind (ld24 (Z := X.d 5 1) (Trip.e_d (k0_off47_eq X.t)) ?_)
  refine Runs.bind (ld25 (Z := X.u 5 1) (Trip.e_u (k0_off47_eq X.t)) ?_)
  refine Runs.bind (ld23 (Z := X.a 5 0 1) (Trip.e_a rfl) ?_)
  refine Runs.bind (ld21 (Z := X.b 0 1) (Trip.e_b (k0_off32_eq X.i X.t)) ?_)
  refine Runs.bind (ld22 (Z := X.c 0 1) (Trip.e_c (k0_off32_eq X.i X.t)) ?_)
  refine Runs.bind (ld23 (Z := X.a 5 1 1) (Trip.e_a rfl) ?_)
  refine Runs.bind (ld21 (Z := X.b 1 1) (Trip.e_b (k0_off34_eq X.i X.t)) ?_)
  refine Runs.bind (ld22 (Z := X.c 1 1) (Trip.e_c (k0_off34_eq X.i X.t)) ?_)
  exact Runs.pure hΦ

theorem val_114 (arg1 : BitVec 32) (v889 : BitVec 32) (k0_hw2 : k0_chk2 (X.w 1)) {Φ} (hΦ : Φ ⟨X.h 6 0 2, mulf (X.h 6 0 2) (q4 (X.c 0 1)), mulf (exp2 (mulf (rw8 (X.d 6 1)) (q8 (X.a 6 1 1)))) (X.h 6 1 1), mulf (q4 (X.b 1 1)) (rw8 (X.u 6 1))⟩ (X.at' (X.slab Y 14) (X.yW W 0))) :
    Runs c A (ap A (k0_part114 (F := F) X.i) arg1 X.t (X.h 6 0 1) (X.h 6 1 1) v889 (X.w 1) k0_hw2 (mulf (X.h 5 0 2) (q4 (X.c 0 1))) (mulf (X.h 5 1 2) (q4 (X.c 1 1)))) Φ (X.at' (X.slab Y 13) (X.yW W 0)) := by
  rw [k0_part114_eq_skeleton]; unfold ap k0_part114_skel
  refine Runs.bind (ld27 rfl ?_)
  refine Runs.bind (Trip.st27 (Trip.e_s 13 rfl) ?_)
  refine Runs.bind (ld24 (Z := X.d 6 1) (Trip.e_d (k0_off50_eq X.t)) ?_)
  refine Runs.bind (ld25 (Z := X.u 6 1) (Trip.e_u (k0_off50_eq X.t)) ?_)
  refine Runs.bind (ld23 (Z := X.a 6 0 1) (Trip.e_a rfl) ?_)
  refine Runs.bind (ld21 (Z := X.b 0 1) (Trip.e_b (k0_off32_eq X.i X.t)) ?_)
  refine Runs.bind (ld22 (Z := X.c 0 1) (Trip.e_c (k0_off32_eq X.i X.t)) ?_)
  refine Runs.bind (ld23 (Z := X.a 6 1 1) (Trip.e_a rfl) ?_)
  refine Runs.bind (ld21 (Z := X.b 1 1) (Trip.e_b (k0_off34_eq X.i X.t)) ?_)
  exact Runs.pure hΦ

theorem val_115 (arg1 : BitVec 32) (v889 : BitVec 32) (k0_hw2 : k0_chk2 (X.w 1)) {Φ} (hΦ : Φ ⟨X.h 6 1 2, rw8 (X.u 7 1), X.h 7 0 2, mulf (X.h 7 0 2) (q4 (X.c 0 1)), exp2 (mulf (rw8 (X.d 7 1)) (q8 (X.a 7 1 1)))⟩ (X.at' (X.slab Y 15) (X.yW W 0))) :
    Runs c A (ap A (k0_part115 (F := F) X.i) arg1 X.t (X.h 7 0 1) v889 (X.w 1) k0_hw2 (mulf (X.h 6 0 2) (q4 (X.c 0 1))) (mulf (exp2 (mulf (rw8 (X.d 6 1)) (q8 (X.a 6 1 1)))) (X.h 6 1 1)) (mulf (q4 (X.b 1 1)) (rw8 (X.u 6 1)))) Φ (X.at' (X.slab Y 14) (X.yW W 0)) := by
  rw [k0_part115_eq_skeleton]; unfold ap k0_part115_skel
  refine Runs.bind (ld22 (Z := X.c 1 1) (Trip.e_c (k0_off34_eq X.i X.t)) ?_)
  refine Runs.bind (ld27 rfl ?_)
  refine Runs.bind (Trip.st27 (Trip.e_s 14 rfl) ?_)
  refine Runs.bind (ld24 (Z := X.d 7 1) (Trip.e_d (k0_off53_eq X.t)) ?_)
  refine Runs.bind (ld25 (Z := X.u 7 1) (Trip.e_u (k0_off53_eq X.t)) ?_)
  refine Runs.bind (ld23 (Z := X.a 7 0 1) (Trip.e_a rfl) ?_)
  refine Runs.bind (ld21 (Z := X.b 0 1) (Trip.e_b (k0_off32_eq X.i X.t)) ?_)
  refine Runs.bind (ld22 (Z := X.c 0 1) (Trip.e_c (k0_off32_eq X.i X.t)) ?_)
  refine Runs.bind (ld23 (Z := X.a 7 1 1) (Trip.e_a rfl) ?_)
  exact Runs.pure hΦ

theorem val_116 (arg1 : BitVec 32) (v500 : BitVec 32) (v889 : BitVec 32) {Φ} (hΦ : ∀ b0, Φ ⟨X.h 7 1 2, b0, X.w 2, (chk3_of_flag (hw 2)), rw8 (X.d 0 2), rw8 (X.u 0 2), X.h 0 0 3⟩ (X.at' (X.slab Y 16) (X.yW W 0))) :
    Runs c A (ap A (k0_part116 (F := F) X.i) arg1 X.t v500 (X.h 7 1 1) v889 (X.h 0 0 2) (rw8 (X.u 7 1)) (mulf (X.h 7 0 2) (q4 (X.c 0 1))) (exp2 (mulf (rw8 (X.d 7 1)) (q8 (X.a 7 1 1))))) Φ (X.at' (X.slab Y 15) (X.yW W 0)) := by
  rw [k0_part116_eq_skeleton]; unfold ap k0_part116_skel
  refine Runs.bind (ld21 (Z := X.b 1 1) (Trip.e_b (k0_off34_eq X.i X.t)) ?_)
  refine Runs.bind (ld22 (Z := X.c 1 1) (Trip.e_c (k0_off34_eq X.i X.t)) ?_)
  refine Runs.bind (ld27 rfl ?_)
  refine Runs.bind (Trip.st27 (Trip.e_s 15 rfl) ?_)
  refine Runs.bind (ld2 (h1 := numel1_S1x1) (hp := rfl) (Z := X.w 2) (Trip.e_w (h1 := numel1_S1x1) (k0_off56_eq X.i X.t)) ?_)
  refine Runs.bind (Runs.assume (chk3_of_flag (hw 2)) ?_)
  refine Runs.bind (ld24 (Z := X.d 0 2) (Trip.e_d (k0_off57_eq X.t)) ?_)
  refine Runs.bind (ld25 (Z := X.u 0 2) (Trip.e_u (k0_off57_eq X.t)) ?_)
  refine Runs.bind (ld23 (Z := X.a 0 0 2) (Trip.e_a rfl) ?_)
  refine Runs.bind (ld21 (Z := X.b 0 2) (Trip.e_b (k0_off59_eq X.i X.t)) ?_)
  exact Runs.pure (hΦ _)

theorem val_117 (arg1 : BitVec 32) (v1277 : BitVec 32) (k0_hw3 : k0_chk3 (X.w 2)) {Φ} (hΦ : Φ ⟨X.h 0 1 3, rw8 (X.d 1 2), rw8 (X.u 1 2), mulf (exp2 (mulf (rw8 (X.d 1 2)) (q8 (X.a 1 0 2)))) (X.h 1 0 2)⟩ (X.at' (X.slab Y 17) (X.yW W 0))) :
    Runs c A (ap A (k0_part117 (F := F) X.i) arg1 X.t (X.h 0 1 2) (X.h 1 0 2) v1277 (X.w 2) k0_hw3 (rw8 (X.d 0 2)) (rw8 (X.u 0 2)) (X.h 0 0 3)) Φ (X.at' (X.slab Y 16) (X.yW W 0)) := by
  rw [k0_part117_eq_skeleton]; unfold ap k0_part117_skel
  refine Runs.bind (ld22 (Z := X.c 0 2) (Trip.e_c (k0_off59_eq X.i X.t)) ?_)
  refine Runs.bind (ld23 (Z := X.a 0 1 2) (Trip.e_a rfl) ?_)
  refine Runs.bind (ld21 (Z := X.b 1 2) (Trip.e_b (k0_off61_eq X.i X.t)) ?_)
  refine Runs.bind (ld22 (Z := X.c 1 2) (Trip.e_c (k0_off61_eq X.i X.t)) ?_)
  refine Runs.bind (ld27 rfl ?_)
  refine Runs.bind (Trip.st27 (Trip.e_s 16 rfl) ?_)
  refine Runs.bind (ld24 (Z := X.d 1 2) (Trip.e_d (k0_off62_eq X.t)) ?_)
  refine Runs.bind (ld25 (Z := X.u 1 2) (Trip.e_u (k0_off62_eq X.t)) ?_)
  refine Runs.bind (ld23 (Z := X.a 1 0 2) (Trip.e_a rfl) ?_)
  exact Runs.pure hΦ

theorem val_118 (arg1 : BitVec 32) (v1277 : BitVec 32) (k0_hw3 : k0_chk3 (X.w 2)) {Φ} (hΦ : Φ ⟨X.h 1 0 3, X.h 1 1 3, rw8 (X.d 2 2), rw8 (X.u 2 2)⟩ (X.at' (X.slab Y 18) (X.yW W 0))) :
    Runs c A (ap A (k0_part118 (F := F) X.i) arg1 X.t (X.h 1 1 2) v1277 (X.w 2) k0_hw3 (rw8 (X.d 1 2)) (rw8 (X.u 1 2)) (mulf (exp2 (mulf (rw8 (X.d 1 2)) (q8 (X.a 1 0 2)))) (X.h 1 0 2))) Φ (X.at' (X.slab Y 17) (X.yW W 0)) := by
  rw [k0_part118_eq_skeleton]; unfold ap k0_part118_skel
  refine Runs.bind (ld21 (Z := X.b 0 2) (Trip.e_b (k0_off59_eq X.i X.t)) ?_)
  refine Runs.bind (ld22 (Z := X.c 0 2) (Trip.e_c (k0_off59_eq X.i X.t)) ?_)
  refine Runs.bind (ld23 (Z := X.a 1 1 2) (Trip.e_a rfl) ?_)
  refine Runs.bind (ld21 (Z := X.b 1 2) (Trip.e_b (k0_off61_eq X.i X.t)) ?_)
  refine Runs.bind (ld22 (Z := X.c 1 2) (Trip.e_c (k0_off61_eq X.i X.t)) ?_)
  refine Runs.bind (ld27 rfl ?_)
  refine Runs.bind (Trip.st27 (Trip.e_s 17 rfl) ?_)
  refine Runs.bind (ld24 (Z := X.d 2 2) (Trip.e_d (k0_off65_eq X.t)) ?_)
  refine Runs.bind (ld25 (Z := X.u 2 2) (Trip.e_u (k0_off65_eq X.t)) ?_)
  exact Runs.pure hΦ

theorem val_119 (arg1 : BitVec 32) (v1277 : BitVec 32) (k0_hw3 : k0_chk3 (X.w 2)) {Φ} (hΦ : Φ ⟨X.h 2 0 3, X.h 2 1 3, shapeCast S1x128 (shapeCast S1x128 (X.d 3 2) shapeCasts_S1x1x128_S1x128) shapeCasts_S1x128_S1x128⟩ (X.at' (X.slab Y 19) (X.yW W 0))) :
    Runs c A (ap A (k0_part119 (F := F) X.i) arg1 X.t (X.h 2 0 2) (X.h 2 1 2) v1277 (X.w 2) k0_hw3 (rw8 (X.d 2 2)) (rw8 (X.u 2 2))) Φ (X.at' (X.slab Y 18) (X.yW W 0)) := by
  rw [k0_part119_eq_skeleton]; unfold ap k0_part119_skel
  refine Runs.bind (ld23 (Z := X.a 2 0 2) (Trip.e_a rfl) ?_)
  refine Runs.bind (ld21 (Z := X.b 0 2) (Trip.e_b (k0_off59_eq X.i X.t)) ?_)
  refine Runs.bind (ld22 (Z := X.c 0 2) (Trip.e_c (k0_off59_eq X.i X.t)) ?_)
  refine Runs.bind (ld23 (Z := X.a 2 1 2) (Trip.e_a rfl) ?_)
  refine Runs.bind (ld21 (Z := X.b 1 2) (Trip.e_b (k0_off61_eq X.i X.t)) ?_)
  refine Runs.bind (ld22 (Z := X.c 1 2) (Trip.e_c (k0_off61_eq X.i X.t)) ?_)
  refine Runs.bind (ld27 rfl ?_)
  refine Runs.bind (Trip.st27 (Trip.e_s 18 rfl) ?_)
  refine Runs.bind (ld24 (Z := X.d 3 2) (Trip.e_d (k0_off68_eq X.t)) ?_)
  exact Runs.pure hΦ

end Cert.KernelIdeal.Scan

end
-- ==== Proof.ScanI.Val3.lean ====
/- What parts of the loop compute. -/
module

public import proofs.«01_k».proof.Proof.ScanI.Rules

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {X : Trip F} {Y : Vec F S8x72x128 .f32} {W : Vec F S1x128x1024 .bf16} (hw : ∀ s, Flag (X.w s))
include hw

theorem val_120 (arg1 : BitVec 32) (v1277 : BitVec 32) (k0_hw3 : k0_chk3 (X.w 2)) {Φ} (hΦ : Φ ⟨X.h 3 0 3, X.h 3 1 3, X.P 3 2⟩ (X.at' (X.slab Y 19) (X.yW W 0))) :
    Runs c A (ap A (k0_part120 (F := F) X.i) arg1 X.t (X.h 3 0 2) (X.h 3 1 2) v1277 (X.w 2) k0_hw3 (shapeCast S1x128 (shapeCast S1x128 (X.d 3 2) shapeCasts_S1x1x128_S1x128) shapeCasts_S1x128_S1x128)) Φ (X.at' (X.slab Y 19) (X.yW W 0)) := by
  rw [k0_part120_eq_skeleton]; unfold ap k0_part120_skel
  refine Runs.bind (ld25 (Z := X.u 3 2) (Trip.e_u (k0_off68_eq X.t)) ?_)
  refine Runs.bind (ld23 (Z := X.a 3 0 2) (Trip.e_a rfl) ?_)
  refine Runs.bind (ld21 (Z := X.b 0 2) (Trip.e_b (k0_off59_eq X.i X.t)) ?_)
  refine Runs.bind (ld22 (Z := X.c 0 2) (Trip.e_c (k0_off59_eq X.i X.t)) ?_)
  refine Runs.bind (ld23 (Z := X.a 3 1 2) (Trip.e_a rfl) ?_)
  refine Runs.bind (ld21 (Z := X.b 1 2) (Trip.e_b (k0_off61_eq X.i X.t)) ?_)
  refine Runs.bind (ld22 (Z := X.c 1 2) (Trip.e_c (k0_off61_eq X.i X.t)) ?_)
  refine Runs.bind (ld27 rfl ?_)
  exact Runs.pure hΦ

theorem val_121 (arg1 : BitVec 32) (v1277 : BitVec 32) (k0_hw3 : k0_chk3 (X.w 2)) {Φ} (hΦ : Φ ⟨X.h 4 0 3, mulf (X.h 4 0 3) (q4 (X.c 0 2)), X.h 4 1 3, X.c 1 2⟩ (X.at' (X.slab Y 20) (X.yW W 0))) :
    Runs c A (ap A (k0_part121 (F := F) X.i) arg1 X.t (X.h 4 0 2) (X.h 4 1 2) v1277 (X.w 2) k0_hw3 (X.P 3 2)) Φ (X.at' (X.slab Y 19) (X.yW W 0)) := by
  rw [k0_part121_eq_skeleton]; unfold ap k0_part121_skel
  refine Runs.bind (Trip.st27 (Trip.e_s 19 rfl) ?_)
  refine Runs.bind (ld24 (Z := X.d 4 2) (Trip.e_d (k0_off71_eq X.t)) ?_)
  refine Runs.bind (ld25 (Z := X.u 4 2) (Trip.e_u (k0_off71_eq X.t)) ?_)
  refine Runs.bind (ld23 (Z := X.a 4 0 2) (Trip.e_a rfl) ?_)
  refine Runs.bind (ld21 (Z := X.b 0 2) (Trip.e_b (k0_off59_eq X.i X.t)) ?_)
  refine Runs.bind (ld22 (Z := X.c 0 2) (Trip.e_c (k0_off59_eq X.i X.t)) ?_)
  refine Runs.bind (ld23 (Z := X.a 4 1 2) (Trip.e_a rfl) ?_)
  refine Runs.bind (ld21 (Z := X.b 1 2) (Trip.e_b (k0_off61_eq X.i X.t)) ?_)
  refine Runs.bind (ld22 (Z := X.c 1 2) (Trip.e_c (k0_off61_eq X.i X.t)) ?_)
  exact Runs.pure hΦ

theorem val_122 (arg1 : BitVec 32) (v1277 : BitVec 32) (k0_hw3 : k0_chk3 (X.w 2)) {Φ} (hΦ : Φ ⟨rw8 (X.u 5 2), X.h 5 0 3, mulf (X.h 5 0 3) (q4 (X.c 0 2)), mulf (exp2 (mulf (rw8 (X.d 5 2)) (q8 (X.a 5 1 2)))) (X.h 5 1 2), X.b 1 2⟩ (X.at' (X.slab Y 21) (X.yW W 0))) :
    Runs c A (ap A (k0_part122 (F := F) X.i) arg1 X.t (X.h 5 0 2) (X.h 5 1 2) v1277 (X.w 2) k0_hw3 (mulf (X.h 4 0 3) (q4 (X.c 0 2))) (X.h 4 1 3) (X.c 1 2)) Φ (X.at' (X.slab Y 20) (X.yW W 0)) := by
  rw [k0_part122_eq_skeleton]; unfold ap k0_part122_skel
  refine Runs.bind (ld27 rfl ?_)
  refine Runs.bind (Trip.st27 (Trip.e_s 20 rfl) ?_)
  refine Runs.bind (ld24 (Z := X.d 5 2) (Trip.e_d (k0_off74_eq X.t)) ?_)
  refine Runs.bind (ld25 (Z := X.u 5 2) (Trip.e_u (k0_off74_eq X.t)) ?_)
  refine Runs.bind (ld23 (Z := X.a 5 0 2) (Trip.e_a rfl) ?_)
  refine Runs.bind (ld21 (Z := X.b 0 2) (Trip.e_b (k0_off59_eq X.i X.t)) ?_)
  refine Runs.bind (ld22 (Z := X.c 0 2) (Trip.e_c (k0_off59_eq X.i X.t)) ?_)
  refine Runs.bind (ld23 (Z := X.a 5 1 2) (Trip.e_a rfl) ?_)
  refine Runs.bind (ld21 (Z := X.b 1 2) (Trip.e_b (k0_off61_eq X.i X.t)) ?_)
  exact Runs.pure hΦ

theorem val_123 (arg1 : BitVec 32) (v1277 : BitVec 32) (k0_hw3 : k0_chk3 (X.w 2)) {Φ} (hΦ : Φ ⟨X.h 5 1 3, rw8 (X.d 6 2), rw8 (X.u 6 2), X.h 6 0 3, mulf (X.h 6 0 3) (q4 (X.c 0 2)), q8 (X.a 6 1 2)⟩ (X.at' (X.slab Y 22) (X.yW W 0))) :
    Runs c A (ap A (k0_part123 (F := F) X.i) arg1 X.t (X.h 6 0 2) v1277 (X.w 2) k0_hw3 (rw8 (X.u 5 2)) (mulf (X.h 5 0 3) (q4 (X.c 0 2))) (mulf (exp2 (mulf (rw8 (X.d 5 2)) (q8 (X.a 5 1 2)))) (X.h 5 1 2)) (X.b 1 2)) Φ (X.at' (X.slab Y 21) (X.yW W 0)) := by
  rw [k0_part123_eq_skeleton]; unfold ap k0_part123_skel
  refine Runs.bind (ld22 (Z := X.c 1 2) (Trip.e_c (k0_off61_eq X.i X.t)) ?_)
  refine Runs.bind (ld27 rfl ?_)
  refine Runs.bind (Trip.st27 (Trip.e_s 21 rfl) ?_)
  refine Runs.bind (ld24 (Z := X.d 6 2) (Trip.e_d (k0_off77_eq X.t)) ?_)
  refine Runs.bind (ld25 (Z := X.u 6 2) (Trip.e_u (k0_off77_eq X.t)) ?_)
  refine Runs.bind (ld23 (Z := X.a 6 0 2) (Trip.e_a rfl) ?_)
  refine Runs.bind (ld21 (Z := X.b 0 2) (Trip.e_b (k0_off59_eq X.i X.t)) ?_)
  refine Runs.bind (ld22 (Z := X.c 0 2) (Trip.e_c (k0_off59_eq X.i X.t)) ?_)
  refine Runs.bind (ld23 (Z := X.a 6 1 2) (Trip.e_a rfl) ?_)
  exact Runs.pure hΦ

theorem val_124 (arg1 : BitVec 32) (v1277 : BitVec 32) (k0_hw3 : k0_chk3 (X.w 2)) {Φ} (hΦ : Φ ⟨X.h 6 1 3, rw8 (X.d 7 2), rw8 (X.u 7 2), X.h 7 0 3⟩ (X.at' (X.slab Y 23) (X.yW W 0))) :
    Runs c A (ap A (k0_part124 (F := F) X.i) arg1 X.t (X.h 6 1 2) (X.h 7 0 2) v1277 (X.w 2) k0_hw3 (rw8 (X.d 6 2)) (rw8 (X.u 6 2)) (mulf (X.h 6 0 3) (q4 (X.c 0 2))) (q8 (X.a 6 1 2))) Φ (X.at' (X.slab Y 22) (X.yW W 0)) := by
  rw [k0_part124_eq_skeleton]; unfold ap k0_part124_skel
  refine Runs.bind (ld21 (Z := X.b 1 2) (Trip.e_b (k0_off61_eq X.i X.t)) ?_)
  refine Runs.bind (ld22 (Z := X.c 1 2) (Trip.e_c (k0_off61_eq X.i X.t)) ?_)
  refine Runs.bind (ld27 rfl ?_)
  refine Runs.bind (Trip.st27 (Trip.e_s 22 rfl) ?_)
  refine Runs.bind (ld24 (Z := X.d 7 2) (Trip.e_d (k0_off80_eq X.t)) ?_)
  refine Runs.bind (ld25 (Z := X.u 7 2) (Trip.e_u (k0_off80_eq X.t)) ?_)
  refine Runs.bind (ld23 (Z := X.a 7 0 2) (Trip.e_a rfl) ?_)
  refine Runs.bind (ld21 (Z := X.b 0 2) (Trip.e_b (k0_off59_eq X.i X.t)) ?_)
  exact Runs.pure hΦ

theorem val_125 (arg1 : BitVec 32) (v500 : BitVec 32) (v1277 : BitVec 32) (k0_hw3 : k0_chk3 (X.w 2)) {Φ} (hΦ : ∀ b0, Φ ⟨X.h 7 1 3, b0, X.w 3, (chk4_of_flag (hw 3)), rw8 (X.d 0 3), rw8 (X.u 0 3), mulf (rw8 (X.d 0 3)) (q8 (X.a 0 0 3))⟩ (X.at' (X.slab Y 24) (X.yW W 0))) :
    Runs c A (ap A (k0_part125 (F := F) X.i) arg1 X.t v500 (X.h 7 1 2) v1277 (X.w 2) k0_hw3 (rw8 (X.d 7 2)) (rw8 (X.u 7 2)) (X.h 7 0 3)) Φ (X.at' (X.slab Y 23) (X.yW W 0)) := by
  rw [k0_part125_eq_skeleton]; unfold ap k0_part125_skel
  refine Runs.bind (ld22 (Z := X.c 0 2) (Trip.e_c (k0_off59_eq X.i X.t)) ?_)
  refine Runs.bind (ld23 (Z := X.a 7 1 2) (Trip.e_a rfl) ?_)
  refine Runs.bind (ld21 (Z := X.b 1 2) (Trip.e_b (k0_off61_eq X.i X.t)) ?_)
  refine Runs.bind (ld22 (Z := X.c 1 2) (Trip.e_c (k0_off61_eq X.i X.t)) ?_)
  refine Runs.bind (ld27 rfl ?_)
  refine Runs.bind (Trip.st27 (Trip.e_s 23 rfl) ?_)
  refine Runs.bind (ld2 (h1 := numel1_S1x1) (hp := rfl) (Z := X.w 3) (Trip.e_w (h1 := numel1_S1x1) (k0_off83_eq X.i X.t)) ?_)
  refine Runs.bind (Runs.assume (chk4_of_flag (hw 3)) ?_)
  refine Runs.bind (ld24 (Z := X.d 0 3) (Trip.e_d (k0_off84_eq X.t)) ?_)
  refine Runs.bind (ld25 (Z := X.u 0 3) (Trip.e_u (k0_off84_eq X.t)) ?_)
  refine Runs.bind (ld23 (Z := X.a 0 0 3) (Trip.e_a rfl) ?_)
  exact Runs.pure (hΦ _)

theorem val_126 (arg1 : BitVec 32) (v1665 : BitVec 32) (k0_hw4 : k0_chk4 (X.w 3)) {Φ} (hΦ : Φ ⟨X.h 0 0 4, X.h 0 1 4, rw8 (X.d 1 3), shapeCast S1x128 (X.u 1 3) shapeCasts_S1x1x128_S1x128⟩ (X.at' (X.slab Y 25) (X.yW W 0))) :
    Runs c A (ap A (k0_part126 (F := F) X.i) arg1 X.t (X.h 0 0 3) (X.h 0 1 3) v1665 (X.w 3) k0_hw4 (rw8 (X.d 0 3)) (rw8 (X.u 0 3)) (mulf (rw8 (X.d 0 3)) (q8 (X.a 0 0 3)))) Φ (X.at' (X.slab Y 24) (X.yW W 0)) := by
  rw [k0_part126_eq_skeleton]; unfold ap k0_part126_skel
  refine Runs.bind (ld21 (Z := X.b 0 3) (Trip.e_b (k0_off86_eq X.i X.t)) ?_)
  refine Runs.bind (ld22 (Z := X.c 0 3) (Trip.e_c (k0_off86_eq X.i X.t)) ?_)
  refine Runs.bind (ld23 (Z := X.a 0 1 3) (Trip.e_a rfl) ?_)
  refine Runs.bind (ld21 (Z := X.b 1 3) (Trip.e_b (k0_off88_eq X.i X.t)) ?_)
  refine Runs.bind (ld22 (Z := X.c 1 3) (Trip.e_c (k0_off88_eq X.i X.t)) ?_)
  refine Runs.bind (ld27 rfl ?_)
  refine Runs.bind (Trip.st27 (Trip.e_s 24 rfl) ?_)
  refine Runs.bind (ld24 (Z := X.d 1 3) (Trip.e_d (k0_off89_eq X.t)) ?_)
  refine Runs.bind (ld25 (Z := X.u 1 3) (Trip.e_u (k0_off89_eq X.t)) ?_)
  exact Runs.pure hΦ

theorem val_127 (arg1 : BitVec 32) (v1665 : BitVec 32) (k0_hw4 : k0_chk4 (X.w 3)) {Φ} (hΦ : Φ ⟨X.h 1 0 4, X.h 1 1 4, X.d 2 3⟩ (X.at' (X.slab Y 26) (X.yW W 0))) :
    Runs c A (ap A (k0_part127 (F := F) X.i) arg1 X.t (X.h 1 0 3) (X.h 1 1 3) v1665 (X.w 3) k0_hw4 (rw8 (X.d 1 3)) (shapeCast S1x128 (X.u 1 3) shapeCasts_S1x1x128_S1x128)) Φ (X.at' (X.slab Y 25) (X.yW W 0)) := by
  rw [k0_part127_eq_skeleton]; unfold ap k0_part127_skel
  refine Runs.bind (ld23 (Z := X.a 1 0 3) (Trip.e_a rfl) ?_)
  refine Runs.bind (ld21 (Z := X.b 0 3) (Trip.e_b (k0_off86_eq X.i X.t)) ?_)
  refine Runs.bind (ld22 (Z := X.c 0 3) (Trip.e_c (k0_off86_eq X.i X.t)) ?_)
  refine Runs.bind (ld23 (Z := X.a 1 1 3) (Trip.e_a rfl) ?_)
  refine Runs.bind (ld21 (Z := X.b 1 3) (Trip.e_b (k0_off88_eq X.i X.t)) ?_)
  refine Runs.bind (ld22 (Z := X.c 1 3) (Trip.e_c (k0_off88_eq X.i X.t)) ?_)
  refine Runs.bind (ld27 rfl ?_)
  refine Runs.bind (Trip.st27 (Trip.e_s 25 rfl) ?_)
  refine Runs.bind (ld24 (Z := X.d 2 3) (Trip.e_d (k0_off92_eq X.t)) ?_)
  exact Runs.pure hΦ

theorem val_128 (arg1 : BitVec 32) (v1665 : BitVec 32) (k0_hw4 : k0_chk4 (X.w 3)) {Φ} (hΦ : Φ ⟨X.h 2 0 4, X.h 2 1 4, X.P 2 3⟩ (X.at' (X.slab Y 26) (X.yW W 0))) :
    Runs c A (ap A (k0_part128 (F := F) X.i) arg1 X.t (X.h 2 0 3) (X.h 2 1 3) v1665 (X.w 3) k0_hw4 (X.d 2 3)) Φ (X.at' (X.slab Y 26) (X.yW W 0)) := by
  rw [k0_part128_eq_skeleton]; unfold ap k0_part128_skel
  refine Runs.bind (ld25 (Z := X.u 2 3) (Trip.e_u (k0_off92_eq X.t)) ?_)
  refine Runs.bind (ld23 (Z := X.a 2 0 3) (Trip.e_a rfl) ?_)
  refine Runs.bind (ld21 (Z := X.b 0 3) (Trip.e_b (k0_off86_eq X.i X.t)) ?_)
  refine Runs.bind (ld22 (Z := X.c 0 3) (Trip.e_c (k0_off86_eq X.i X.t)) ?_)
  refine Runs.bind (ld23 (Z := X.a 2 1 3) (Trip.e_a rfl) ?_)
  refine Runs.bind (ld21 (Z := X.b 1 3) (Trip.e_b (k0_off88_eq X.i X.t)) ?_)
  refine Runs.bind (ld22 (Z := X.c 1 3) (Trip.e_c (k0_off88_eq X.i X.t)) ?_)
  exact Runs.pure hΦ

theorem val_129 (arg1 : BitVec 32) (v1665 : BitVec 32) (k0_hw4 : k0_chk4 (X.w 3)) {Φ} (hΦ : Φ ⟨X.h 3 0 4, mulf (X.h 3 0 4) (q4 (X.c 0 3)), X.h 3 1 4⟩ (X.at' (X.slab Y 27) (X.yW W 0))) :
    Runs c A (ap A (k0_part129 (F := F) X.i) arg1 X.t (X.h 3 0 3) (X.h 3 1 3) v1665 (X.w 3) k0_hw4 (X.P 2 3)) Φ (X.at' (X.slab Y 26) (X.yW W 0)) := by
  rw [k0_part129_eq_skeleton]; unfold ap k0_part129_skel
  refine Runs.bind (ld27 rfl ?_)
  refine Runs.bind (Trip.st27 (Trip.e_s 26 rfl) ?_)
  refine Runs.bind (ld24 (Z := X.d 3 3) (Trip.e_d (k0_off95_eq X.t)) ?_)
  refine Runs.bind (ld25 (Z := X.u 3 3) (Trip.e_u (k0_off95_eq X.t)) ?_)
  refine Runs.bind (ld23 (Z := X.a 3 0 3) (Trip.e_a rfl) ?_)
  refine Runs.bind (ld21 (Z := X.b 0 3) (Trip.e_b (k0_off86_eq X.i X.t)) ?_)
  refine Runs.bind (ld22 (Z := X.c 0 3) (Trip.e_c (k0_off86_eq X.i X.t)) ?_)
  refine Runs.bind (ld23 (Z := X.a 3 1 3) (Trip.e_a rfl) ?_)
  refine Runs.bind (ld21 (Z := X.b 1 3) (Trip.e_b (k0_off88_eq X.i X.t)) ?_)
  exact Runs.pure hΦ

theorem val_130 (arg1 : BitVec 32) (v1665 : BitVec 32) (k0_hw4 : k0_chk4 (X.w 3)) {Φ} (hΦ : Φ ⟨rw8 (X.u 4 3), X.h 4 0 4, mulf (X.h 4 0 4) (q4 (X.c 0 3)), mulf (exp2 (mulf (rw8 (X.d 4 3)) (q8 (X.a 4 1 3)))) (X.h 4 1 3)⟩ (X.at' (X.slab Y 28) (X.yW W 0))) :
    Runs c A (ap A (k0_part130 (F := F) X.i) arg1 X.t (X.h 4 0 3) (X.h 4 1 3) v1665 (X.w 3) k0_hw4 (mulf (X.h 3 0 4) (q4 (X.c 0 3))) (X.h 3 1 4)) Φ (X.at' (X.slab Y 27) (X.yW W 0)) := by
  rw [k0_part130_eq_skeleton]; unfold ap k0_part130_skel
  refine Runs.bind (ld22 (Z := X.c 1 3) (Trip.e_c (k0_off88_eq X.i X.t)) ?_)
  refine Runs.bind (ld27 rfl ?_)
  refine Runs.bind (Trip.st27 (Trip.e_s 27 rfl) ?_)
  refine Runs.bind (ld24 (Z := X.d 4 3) (Trip.e_d (k0_off98_eq X.t)) ?_)
  refine Runs.bind (ld25 (Z := X.u 4 3) (Trip.e_u (k0_off98_eq X.t)) ?_)
  refine Runs.bind (ld23 (Z := X.a 4 0 3) (Trip.e_a rfl) ?_)
  refine Runs.bind (ld21 (Z := X.b 0 3) (Trip.e_b (k0_off86_eq X.i X.t)) ?_)
  refine Runs.bind (ld22 (Z := X.c 0 3) (Trip.e_c (k0_off86_eq X.i X.t)) ?_)
  refine Runs.bind (ld23 (Z := X.a 4 1 3) (Trip.e_a rfl) ?_)
  exact Runs.pure hΦ

end Cert.KernelIdeal.Scan

end
-- ==== Proof.ScanI.Val4.lean ====
/- What parts of the loop compute. -/
module

public import proofs.«01_k».proof.Proof.ScanI.Rules

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {X : Trip F} {Y : Vec F S8x72x128 .f32} {W : Vec F S1x128x1024 .bf16} (hw : ∀ s, Flag (X.w s))
include hw

theorem val_131 (arg1 : BitVec 32) (v1665 : BitVec 32) (k0_hw4 : k0_chk4 (X.w 3)) {Φ} (hΦ : Φ ⟨X.h 4 1 4, rw8 (X.d 5 3), rw8 (X.u 5 3), X.h 5 0 4, mulf (X.h 5 0 4) (q4 (X.c 0 3))⟩ (X.at' (X.slab Y 29) (X.yW W 0))) :
    Runs c A (ap A (k0_part131 (F := F) X.i) arg1 X.t (X.h 5 0 3) v1665 (X.w 3) k0_hw4 (rw8 (X.u 4 3)) (mulf (X.h 4 0 4) (q4 (X.c 0 3))) (mulf (exp2 (mulf (rw8 (X.d 4 3)) (q8 (X.a 4 1 3)))) (X.h 4 1 3))) Φ (X.at' (X.slab Y 28) (X.yW W 0)) := by
  rw [k0_part131_eq_skeleton]; unfold ap k0_part131_skel
  refine Runs.bind (ld21 (Z := X.b 1 3) (Trip.e_b (k0_off88_eq X.i X.t)) ?_)
  refine Runs.bind (ld22 (Z := X.c 1 3) (Trip.e_c (k0_off88_eq X.i X.t)) ?_)
  refine Runs.bind (ld27 rfl ?_)
  refine Runs.bind (Trip.st27 (Trip.e_s 28 rfl) ?_)
  refine Runs.bind (ld24 (Z := X.d 5 3) (Trip.e_d (k0_off101_eq X.t)) ?_)
  refine Runs.bind (ld25 (Z := X.u 5 3) (Trip.e_u (k0_off101_eq X.t)) ?_)
  refine Runs.bind (ld23 (Z := X.a 5 0 3) (Trip.e_a rfl) ?_)
  refine Runs.bind (ld21 (Z := X.b 0 3) (Trip.e_b (k0_off86_eq X.i X.t)) ?_)
  refine Runs.bind (ld22 (Z := X.c 0 3) (Trip.e_c (k0_off86_eq X.i X.t)) ?_)
  exact Runs.pure hΦ

theorem val_132 (arg1 : BitVec 32) (v1665 : BitVec 32) (k0_hw4 : k0_chk4 (X.w 3)) {Φ} (hΦ : Φ ⟨X.h 5 1 4, rw8 (X.d 6 3), rw8 (X.u 6 3), X.h 6 0 4⟩ (X.at' (X.slab Y 30) (X.yW W 0))) :
    Runs c A (ap A (k0_part132 (F := F) X.i) arg1 X.t (X.h 5 1 3) (X.h 6 0 3) v1665 (X.w 3) k0_hw4 (rw8 (X.d 5 3)) (rw8 (X.u 5 3)) (mulf (X.h 5 0 4) (q4 (X.c 0 3)))) Φ (X.at' (X.slab Y 29) (X.yW W 0)) := by
  rw [k0_part132_eq_skeleton]; unfold ap k0_part132_skel
  refine Runs.bind (ld23 (Z := X.a 5 1 3) (Trip.e_a rfl) ?_)
  refine Runs.bind (ld21 (Z := X.b 1 3) (Trip.e_b (k0_off88_eq X.i X.t)) ?_)
  refine Runs.bind (ld22 (Z := X.c 1 3) (Trip.e_c (k0_off88_eq X.i X.t)) ?_)
  refine Runs.bind (ld27 rfl ?_)
  refine Runs.bind (Trip.st27 (Trip.e_s 29 rfl) ?_)
  refine Runs.bind (ld24 (Z := X.d 6 3) (Trip.e_d (k0_off104_eq X.t)) ?_)
  refine Runs.bind (ld25 (Z := X.u 6 3) (Trip.e_u (k0_off104_eq X.t)) ?_)
  refine Runs.bind (ld23 (Z := X.a 6 0 3) (Trip.e_a rfl) ?_)
  refine Runs.bind (ld21 (Z := X.b 0 3) (Trip.e_b (k0_off86_eq X.i X.t)) ?_)
  exact Runs.pure hΦ

theorem val_133 (arg1 : BitVec 32) (v1665 : BitVec 32) (k0_hw4 : k0_chk4 (X.w 3)) {Φ} (hΦ : Φ ⟨X.h 6 1 4, rw8 (X.d 7 3), rw8 (X.u 7 3), mulf (exp2 (mulf (rw8 (X.d 7 3)) (q8 (X.a 7 0 3)))) (X.h 7 0 3)⟩ (X.at' (X.slab Y 31) (X.yW W 0))) :
    Runs c A (ap A (k0_part133 (F := F) X.i) arg1 X.t (X.h 6 1 3) (X.h 7 0 3) v1665 (X.w 3) k0_hw4 (rw8 (X.d 6 3)) (rw8 (X.u 6 3)) (X.h 6 0 4)) Φ (X.at' (X.slab Y 30) (X.yW W 0)) := by
  rw [k0_part133_eq_skeleton]; unfold ap k0_part133_skel
  refine Runs.bind (ld22 (Z := X.c 0 3) (Trip.e_c (k0_off86_eq X.i X.t)) ?_)
  refine Runs.bind (ld23 (Z := X.a 6 1 3) (Trip.e_a rfl) ?_)
  refine Runs.bind (ld21 (Z := X.b 1 3) (Trip.e_b (k0_off88_eq X.i X.t)) ?_)
  refine Runs.bind (ld22 (Z := X.c 1 3) (Trip.e_c (k0_off88_eq X.i X.t)) ?_)
  refine Runs.bind (ld27 rfl ?_)
  refine Runs.bind (Trip.st27 (Trip.e_s 30 rfl) ?_)
  refine Runs.bind (ld24 (Z := X.d 7 3) (Trip.e_d (k0_off107_eq X.t)) ?_)
  refine Runs.bind (ld25 (Z := X.u 7 3) (Trip.e_u (k0_off107_eq X.t)) ?_)
  refine Runs.bind (ld23 (Z := X.a 7 0 3) (Trip.e_a rfl) ?_)
  exact Runs.pure hΦ

theorem val_134 (arg1 : BitVec 32) (v500 : BitVec 32) (v1665 : BitVec 32) (k0_hw4 : k0_chk4 (X.w 3)) {Φ} (hΦ : ∀ b0, Φ ⟨X.h 7 0 4, X.h 7 1 4, b0, X.w 4, (chk5_of_flag (hw 4)), rw8 (X.d 0 4)⟩ (X.at' (X.slab Y 32) (X.yW W 0))) :
    Runs c A (ap A (k0_part134 (F := F) X.i) arg1 X.t v500 (X.h 7 1 3) v1665 (X.w 3) k0_hw4 (rw8 (X.d 7 3)) (rw8 (X.u 7 3)) (mulf (exp2 (mulf (rw8 (X.d 7 3)) (q8 (X.a 7 0 3)))) (X.h 7 0 3))) Φ (X.at' (X.slab Y 31) (X.yW W 0)) := by
  rw [k0_part134_eq_skeleton]; unfold ap k0_part134_skel
  refine Runs.bind (ld21 (Z := X.b 0 3) (Trip.e_b (k0_off86_eq X.i X.t)) ?_)
  refine Runs.bind (ld22 (Z := X.c 0 3) (Trip.e_c (k0_off86_eq X.i X.t)) ?_)
  refine Runs.bind (ld23 (Z := X.a 7 1 3) (Trip.e_a rfl) ?_)
  refine Runs.bind (ld21 (Z := X.b 1 3) (Trip.e_b (k0_off88_eq X.i X.t)) ?_)
  refine Runs.bind (ld22 (Z := X.c 1 3) (Trip.e_c (k0_off88_eq X.i X.t)) ?_)
  refine Runs.bind (ld27 rfl ?_)
  refine Runs.bind (Trip.st27 (Trip.e_s 31 rfl) ?_)
  refine Runs.bind (ld2 (h1 := numel1_S1x1) (hp := rfl) (Z := X.w 4) (Trip.e_w (h1 := numel1_S1x1) (k0_off110_eq X.i X.t)) ?_)
  refine Runs.bind (Runs.assume (chk5_of_flag (hw 4)) ?_)
  refine Runs.bind (ld24 (Z := X.d 0 4) (Trip.e_d (k0_off111_eq X.t)) ?_)
  exact Runs.pure (hΦ _)

theorem val_135 (arg1 : BitVec 32) (v2053 : BitVec 32) (k0_hw5 : k0_chk5 (X.w 4)) {Φ} (hΦ : Φ ⟨X.h 0 0 5, X.h 0 1 5⟩ (X.at' (X.slab Y 33) (X.yW W 0))) :
    Runs c A (ap A (k0_part135 (F := F) X.i) arg1 X.t (X.h 0 0 4) (X.h 0 1 4) v2053 (X.w 4) k0_hw5 (rw8 (X.d 0 4))) Φ (X.at' (X.slab Y 32) (X.yW W 0)) := by
  rw [k0_part135_eq_skeleton]; unfold ap k0_part135_skel
  refine Runs.bind (ld25 (Z := X.u 0 4) (Trip.e_u (k0_off111_eq X.t)) ?_)
  refine Runs.bind (ld23 (Z := X.a 0 0 4) (Trip.e_a rfl) ?_)
  refine Runs.bind (ld21 (Z := X.b 0 4) (Trip.e_b (k0_off113_eq X.i X.t)) ?_)
  refine Runs.bind (ld22 (Z := X.c 0 4) (Trip.e_c (k0_off113_eq X.i X.t)) ?_)
  refine Runs.bind (ld23 (Z := X.a 0 1 4) (Trip.e_a rfl) ?_)
  refine Runs.bind (ld21 (Z := X.b 1 4) (Trip.e_b (k0_off115_eq X.i X.t)) ?_)
  refine Runs.bind (ld22 (Z := X.c 1 4) (Trip.e_c (k0_off115_eq X.i X.t)) ?_)
  refine Runs.bind (ld27 rfl ?_)
  refine Runs.bind (Trip.st27 (Trip.e_s 32 rfl) ?_)
  exact Runs.pure hΦ

theorem val_136 (arg1 : BitVec 32) (v2053 : BitVec 32) (k0_hw5 : k0_chk5 (X.w 4)) {Φ} (hΦ : Φ ⟨X.h 1 0 5, X.h 1 1 5, X.P 1 4⟩ (X.at' (X.slab Y 33) (X.yW W 0))) :
    Runs c A (ap A (k0_part136 (F := F) X.i) arg1 X.t (X.h 1 0 4) (X.h 1 1 4) v2053 (X.w 4) k0_hw5) Φ (X.at' (X.slab Y 33) (X.yW W 0)) := by
  rw [k0_part136_eq_skeleton]; unfold ap k0_part136_skel
  refine Runs.bind (ld24 (Z := X.d 1 4) (Trip.e_d (k0_off116_eq X.t)) ?_)
  refine Runs.bind (ld25 (Z := X.u 1 4) (Trip.e_u (k0_off116_eq X.t)) ?_)
  refine Runs.bind (ld23 (Z := X.a 1 0 4) (Trip.e_a rfl) ?_)
  refine Runs.bind (ld21 (Z := X.b 0 4) (Trip.e_b (k0_off113_eq X.i X.t)) ?_)
  refine Runs.bind (ld22 (Z := X.c 0 4) (Trip.e_c (k0_off113_eq X.i X.t)) ?_)
  refine Runs.bind (ld23 (Z := X.a 1 1 4) (Trip.e_a rfl) ?_)
  refine Runs.bind (ld21 (Z := X.b 1 4) (Trip.e_b (k0_off115_eq X.i X.t)) ?_)
  refine Runs.bind (ld22 (Z := X.c 1 4) (Trip.e_c (k0_off115_eq X.i X.t)) ?_)
  exact Runs.pure hΦ

theorem val_137 (arg1 : BitVec 32) (v2053 : BitVec 32) (k0_hw5 : k0_chk5 (X.w 4)) {Φ} (hΦ : Φ ⟨X.h 2 0 5, mulf (X.h 2 0 5) (q4 (X.c 0 4)), X.h 2 1 5⟩ (X.at' (X.slab Y 34) (X.yW W 0))) :
    Runs c A (ap A (k0_part137 (F := F) X.i) arg1 X.t (X.h 2 0 4) (X.h 2 1 4) v2053 (X.w 4) k0_hw5 (X.P 1 4)) Φ (X.at' (X.slab Y 33) (X.yW W 0)) := by
  rw [k0_part137_eq_skeleton]; unfold ap k0_part137_skel
  refine Runs.bind (ld27 rfl ?_)
  refine Runs.bind (Trip.st27 (Trip.e_s 33 rfl) ?_)
  refine Runs.bind (ld24 (Z := X.d 2 4) (Trip.e_d (k0_off119_eq X.t)) ?_)
  refine Runs.bind (ld25 (Z := X.u 2 4) (Trip.e_u (k0_off119_eq X.t)) ?_)
  refine Runs.bind (ld23 (Z := X.a 2 0 4) (Trip.e_a rfl) ?_)
  refine Runs.bind (ld21 (Z := X.b 0 4) (Trip.e_b (k0_off113_eq X.i X.t)) ?_)
  refine Runs.bind (ld22 (Z := X.c 0 4) (Trip.e_c (k0_off113_eq X.i X.t)) ?_)
  refine Runs.bind (ld23 (Z := X.a 2 1 4) (Trip.e_a rfl) ?_)
  refine Runs.bind (ld21 (Z := X.b 1 4) (Trip.e_b (k0_off115_eq X.i X.t)) ?_)
  exact Runs.pure hΦ

theorem val_138 (arg1 : BitVec 32) (v2053 : BitVec 32) (k0_hw5 : k0_chk5 (X.w 4)) {Φ} (hΦ : Φ ⟨rw8 (X.u 3 4), X.h 3 0 5, mulf (X.h 3 0 5) (q4 (X.c 0 4)), mulf (exp2 (mulf (rw8 (X.d 3 4)) (q8 (X.a 3 1 4)))) (X.h 3 1 4)⟩ (X.at' (X.slab Y 35) (X.yW W 0))) :
    Runs c A (ap A (k0_part138 (F := F) X.i) arg1 X.t (X.h 3 0 4) (X.h 3 1 4) v2053 (X.w 4) k0_hw5 (mulf (X.h 2 0 5) (q4 (X.c 0 4))) (X.h 2 1 5)) Φ (X.at' (X.slab Y 34) (X.yW W 0)) := by
  rw [k0_part138_eq_skeleton]; unfold ap k0_part138_skel
  refine Runs.bind (ld22 (Z := X.c 1 4) (Trip.e_c (k0_off115_eq X.i X.t)) ?_)
  refine Runs.bind (ld27 rfl ?_)
  refine Runs.bind (Trip.st27 (Trip.e_s 34 rfl) ?_)
  refine Runs.bind (ld24 (Z := X.d 3 4) (Trip.e_d (k0_off122_eq X.t)) ?_)
  refine Runs.bind (ld25 (Z := X.u 3 4) (Trip.e_u (k0_off122_eq X.t)) ?_)
  refine Runs.bind (ld23 (Z := X.a 3 0 4) (Trip.e_a rfl) ?_)
  refine Runs.bind (ld21 (Z := X.b 0 4) (Trip.e_b (k0_off113_eq X.i X.t)) ?_)
  refine Runs.bind (ld22 (Z := X.c 0 4) (Trip.e_c (k0_off113_eq X.i X.t)) ?_)
  refine Runs.bind (ld23 (Z := X.a 3 1 4) (Trip.e_a rfl) ?_)
  exact Runs.pure hΦ

theorem val_139 (arg1 : BitVec 32) (v2053 : BitVec 32) (k0_hw5 : k0_chk5 (X.w 4)) {Φ} (hΦ : Φ ⟨X.h 3 1 5, rw8 (X.d 4 4), rw8 (X.u 4 4), X.h 4 0 5, mulf (X.h 4 0 5) (q4 (X.c 0 4))⟩ (X.at' (X.slab Y 36) (X.yW W 0))) :
    Runs c A (ap A (k0_part139 (F := F) X.i) arg1 X.t (X.h 4 0 4) v2053 (X.w 4) k0_hw5 (rw8 (X.u 3 4)) (mulf (X.h 3 0 5) (q4 (X.c 0 4))) (mulf (exp2 (mulf (rw8 (X.d 3 4)) (q8 (X.a 3 1 4)))) (X.h 3 1 4))) Φ (X.at' (X.slab Y 35) (X.yW W 0)) := by
  rw [k0_part139_eq_skeleton]; unfold ap k0_part139_skel
  refine Runs.bind (ld21 (Z := X.b 1 4) (Trip.e_b (k0_off115_eq X.i X.t)) ?_)
  refine Runs.bind (ld22 (Z := X.c 1 4) (Trip.e_c (k0_off115_eq X.i X.t)) ?_)
  refine Runs.bind (ld27 rfl ?_)
  refine Runs.bind (Trip.st27 (Trip.e_s 35 rfl) ?_)
  refine Runs.bind (ld24 (Z := X.d 4 4) (Trip.e_d (k0_off125_eq X.t)) ?_)
  refine Runs.bind (ld25 (Z := X.u 4 4) (Trip.e_u (k0_off125_eq X.t)) ?_)
  refine Runs.bind (ld23 (Z := X.a 4 0 4) (Trip.e_a rfl) ?_)
  refine Runs.bind (ld21 (Z := X.b 0 4) (Trip.e_b (k0_off113_eq X.i X.t)) ?_)
  refine Runs.bind (ld22 (Z := X.c 0 4) (Trip.e_c (k0_off113_eq X.i X.t)) ?_)
  exact Runs.pure hΦ

theorem val_140 (arg1 : BitVec 32) (v2053 : BitVec 32) (k0_hw5 : k0_chk5 (X.w 4)) {Φ} (hΦ : Φ ⟨X.h 4 1 5, rw8 (X.d 5 4), rw8 (X.u 5 4), X.h 5 0 5⟩ (X.at' (X.slab Y 37) (X.yW W 0))) :
    Runs c A (ap A (k0_part140 (F := F) X.i) arg1 X.t (X.h 4 1 4) (X.h 5 0 4) v2053 (X.w 4) k0_hw5 (rw8 (X.d 4 4)) (rw8 (X.u 4 4)) (mulf (X.h 4 0 5) (q4 (X.c 0 4)))) Φ (X.at' (X.slab Y 36) (X.yW W 0)) := by
  rw [k0_part140_eq_skeleton]; unfold ap k0_part140_skel
  refine Runs.bind (ld23 (Z := X.a 4 1 4) (Trip.e_a rfl) ?_)
  refine Runs.bind (ld21 (Z := X.b 1 4) (Trip.e_b (k0_off115_eq X.i X.t)) ?_)
  refine Runs.bind (ld22 (Z := X.c 1 4) (Trip.e_c (k0_off115_eq X.i X.t)) ?_)
  refine Runs.bind (ld27 rfl ?_)
  refine Runs.bind (Trip.st27 (Trip.e_s 36 rfl) ?_)
  refine Runs.bind (ld24 (Z := X.d 5 4) (Trip.e_d (k0_off128_eq X.t)) ?_)
  refine Runs.bind (ld25 (Z := X.u 5 4) (Trip.e_u (k0_off128_eq X.t)) ?_)
  refine Runs.bind (ld23 (Z := X.a 5 0 4) (Trip.e_a rfl) ?_)
  refine Runs.bind (ld21 (Z := X.b 0 4) (Trip.e_b (k0_off113_eq X.i X.t)) ?_)
  exact Runs.pure hΦ

theorem val_141 (arg1 : BitVec 32) (v2053 : BitVec 32) (k0_hw5 : k0_chk5 (X.w 4)) {Φ} (hΦ : Φ ⟨X.h 5 1 5, rw8 (X.d 6 4), rw8 (X.u 6 4), mulf (exp2 (mulf (rw8 (X.d 6 4)) (q8 (X.a 6 0 4)))) (X.h 6 0 4)⟩ (X.at' (X.slab Y 38) (X.yW W 0))) :
    Runs c A (ap A (k0_part141 (F := F) X.i) arg1 X.t (X.h 5 1 4) (X.h 6 0 4) v2053 (X.w 4) k0_hw5 (rw8 (X.d 5 4)) (rw8 (X.u 5 4)) (X.h 5 0 5)) Φ (X.at' (X.slab Y 37) (X.yW W 0)) := by
  rw [k0_part141_eq_skeleton]; unfold ap k0_part141_skel
  refine Runs.bind (ld22 (Z := X.c 0 4) (Trip.e_c (k0_off113_eq X.i X.t)) ?_)
  refine Runs.bind (ld23 (Z := X.a 5 1 4) (Trip.e_a rfl) ?_)
  refine Runs.bind (ld21 (Z := X.b 1 4) (Trip.e_b (k0_off115_eq X.i X.t)) ?_)
  refine Runs.bind (ld22 (Z := X.c 1 4) (Trip.e_c (k0_off115_eq X.i X.t)) ?_)
  refine Runs.bind (ld27 rfl ?_)
  refine Runs.bind (Trip.st27 (Trip.e_s 37 rfl) ?_)
  refine Runs.bind (ld24 (Z := X.d 6 4) (Trip.e_d (k0_off131_eq X.t)) ?_)
  refine Runs.bind (ld25 (Z := X.u 6 4) (Trip.e_u (k0_off131_eq X.t)) ?_)
  refine Runs.bind (ld23 (Z := X.a 6 0 4) (Trip.e_a rfl) ?_)
  exact Runs.pure hΦ

end Cert.KernelIdeal.Scan

end
-- ==== Proof.ScanI.Val5.lean ====
/- What parts of the loop compute. -/
module

public import proofs.«01_k».proof.Proof.ScanI.Rules

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {X : Trip F} {Y : Vec F S8x72x128 .f32} {W : Vec F S1x128x1024 .bf16} (hw : ∀ s, Flag (X.w s))
include hw

theorem val_142 (arg1 : BitVec 32) (v2053 : BitVec 32) (k0_hw5 : k0_chk5 (X.w 4)) {Φ} (hΦ : Φ ⟨X.h 6 0 5, X.h 6 1 5, rw8 (X.d 7 4), rw8 (X.u 7 4)⟩ (X.at' (X.slab Y 39) (X.yW W 0))) :
    Runs c A (ap A (k0_part142 (F := F) X.i) arg1 X.t (X.h 6 1 4) v2053 (X.w 4) k0_hw5 (rw8 (X.d 6 4)) (rw8 (X.u 6 4)) (mulf (exp2 (mulf (rw8 (X.d 6 4)) (q8 (X.a 6 0 4)))) (X.h 6 0 4))) Φ (X.at' (X.slab Y 38) (X.yW W 0)) := by
  rw [k0_part142_eq_skeleton]; unfold ap k0_part142_skel
  refine Runs.bind (ld21 (Z := X.b 0 4) (Trip.e_b (k0_off113_eq X.i X.t)) ?_)
  refine Runs.bind (ld22 (Z := X.c 0 4) (Trip.e_c (k0_off113_eq X.i X.t)) ?_)
  refine Runs.bind (ld23 (Z := X.a 6 1 4) (Trip.e_a rfl) ?_)
  refine Runs.bind (ld21 (Z := X.b 1 4) (Trip.e_b (k0_off115_eq X.i X.t)) ?_)
  refine Runs.bind (ld22 (Z := X.c 1 4) (Trip.e_c (k0_off115_eq X.i X.t)) ?_)
  refine Runs.bind (ld27 rfl ?_)
  refine Runs.bind (Trip.st27 (Trip.e_s 38 rfl) ?_)
  refine Runs.bind (ld24 (Z := X.d 7 4) (Trip.e_d (k0_off134_eq X.t)) ?_)
  refine Runs.bind (ld25 (Z := X.u 7 4) (Trip.e_u (k0_off134_eq X.t)) ?_)
  exact Runs.pure hΦ

theorem val_143 (arg1 : BitVec 32) (v500 : BitVec 32) (v2053 : BitVec 32) (k0_hw5 : k0_chk5 (X.w 4)) {Φ} (hΦ : ∀ b0, Φ ⟨X.h 7 0 5, X.h 7 1 5, b0, X.w 5, (chk6_of_flag (hw 5))⟩ (X.at' (X.slab Y 40) (X.yW W 0))) :
    Runs c A (ap A (k0_part143 (F := F) X.i) arg1 X.t v500 (X.h 7 0 4) (X.h 7 1 4) v2053 (X.w 4) k0_hw5 (rw8 (X.d 7 4)) (rw8 (X.u 7 4))) Φ (X.at' (X.slab Y 39) (X.yW W 0)) := by
  rw [k0_part143_eq_skeleton]; unfold ap k0_part143_skel
  refine Runs.bind (ld23 (Z := X.a 7 0 4) (Trip.e_a rfl) ?_)
  refine Runs.bind (ld21 (Z := X.b 0 4) (Trip.e_b (k0_off113_eq X.i X.t)) ?_)
  refine Runs.bind (ld22 (Z := X.c 0 4) (Trip.e_c (k0_off113_eq X.i X.t)) ?_)
  refine Runs.bind (ld23 (Z := X.a 7 1 4) (Trip.e_a rfl) ?_)
  refine Runs.bind (ld21 (Z := X.b 1 4) (Trip.e_b (k0_off115_eq X.i X.t)) ?_)
  refine Runs.bind (ld22 (Z := X.c 1 4) (Trip.e_c (k0_off115_eq X.i X.t)) ?_)
  refine Runs.bind (ld27 rfl ?_)
  refine Runs.bind (Trip.st27 (Trip.e_s 39 rfl) ?_)
  refine Runs.bind (ld2 (h1 := numel1_S1x1) (hp := rfl) (Z := X.w 5) (Trip.e_w (h1 := numel1_S1x1) (k0_off137_eq X.i X.t)) ?_)
  refine Runs.bind (Runs.assume (chk6_of_flag (hw 5)) ?_)
  exact Runs.pure (hΦ _)

theorem val_144 (arg1 : BitVec 32) (v2441 : BitVec 32) (k0_hw6 : k0_chk6 (X.w 5)) {Φ} (hΦ : Φ ⟨X.h 0 0 6, mulf (X.h 0 0 6) (q4 (X.c 0 5)), X.h 0 1 6, mulf (X.h 0 1 6) (q4 (X.c 1 5))⟩ (X.at' (X.slab Y 40) (X.yW W 0))) :
    Runs c A (ap A (k0_part144 (F := F) X.i) arg1 X.t (X.h 0 0 5) (X.h 0 1 5) v2441 (X.w 5) k0_hw6) Φ (X.at' (X.slab Y 40) (X.yW W 0)) := by
  rw [k0_part144_eq_skeleton]; unfold ap k0_part144_skel
  refine Runs.bind (ld24 (Z := X.d 0 5) (Trip.e_d (k0_off138_eq X.t)) ?_)
  refine Runs.bind (ld25 (Z := X.u 0 5) (Trip.e_u (k0_off138_eq X.t)) ?_)
  refine Runs.bind (ld23 (Z := X.a 0 0 5) (Trip.e_a rfl) ?_)
  refine Runs.bind (ld21 (Z := X.b 0 5) (Trip.e_b (k0_off140_eq X.i X.t)) ?_)
  refine Runs.bind (ld22 (Z := X.c 0 5) (Trip.e_c (k0_off140_eq X.i X.t)) ?_)
  refine Runs.bind (ld23 (Z := X.a 0 1 5) (Trip.e_a rfl) ?_)
  refine Runs.bind (ld21 (Z := X.b 1 5) (Trip.e_b (k0_off142_eq X.i X.t)) ?_)
  refine Runs.bind (ld22 (Z := X.c 1 5) (Trip.e_c (k0_off142_eq X.i X.t)) ?_)
  exact Runs.pure hΦ

theorem val_145 (arg1 : BitVec 32) (v2441 : BitVec 32) (k0_hw6 : k0_chk6 (X.w 5)) {Φ} (hΦ : Φ ⟨X.h 1 0 6, mulf (X.h 1 0 6) (q4 (X.c 0 5)), mulf (exp2 (mulf (rw8 (X.d 1 5)) (q8 (X.a 1 1 5)))) (X.h 1 1 5), mulf (q4 (X.b 1 5)) (rw8 (X.u 1 5))⟩ (X.at' (X.slab Y 41) (X.yW W 0))) :
    Runs c A (ap A (k0_part145 (F := F) X.i) arg1 X.t (X.h 1 0 5) (X.h 1 1 5) v2441 (X.w 5) k0_hw6 (mulf (X.h 0 0 6) (q4 (X.c 0 5))) (mulf (X.h 0 1 6) (q4 (X.c 1 5)))) Φ (X.at' (X.slab Y 40) (X.yW W 0)) := by
  rw [k0_part145_eq_skeleton]; unfold ap k0_part145_skel
  refine Runs.bind (ld27 rfl ?_)
  refine Runs.bind (Trip.st27 (Trip.e_s 40 rfl) ?_)
  refine Runs.bind (ld24 (Z := X.d 1 5) (Trip.e_d (k0_off143_eq X.t)) ?_)
  refine Runs.bind (ld25 (Z := X.u 1 5) (Trip.e_u (k0_off143_eq X.t)) ?_)
  refine Runs.bind (ld23 (Z := X.a 1 0 5) (Trip.e_a rfl) ?_)
  refine Runs.bind (ld21 (Z := X.b 0 5) (Trip.e_b (k0_off140_eq X.i X.t)) ?_)
  refine Runs.bind (ld22 (Z := X.c 0 5) (Trip.e_c (k0_off140_eq X.i X.t)) ?_)
  refine Runs.bind (ld23 (Z := X.a 1 1 5) (Trip.e_a rfl) ?_)
  refine Runs.bind (ld21 (Z := X.b 1 5) (Trip.e_b (k0_off142_eq X.i X.t)) ?_)
  exact Runs.pure hΦ

theorem val_146 (arg1 : BitVec 32) (v2441 : BitVec 32) (k0_hw6 : k0_chk6 (X.w 5)) {Φ} (hΦ : Φ ⟨X.h 1 1 6, rw8 (X.u 2 5), X.h 2 0 6, mulf (X.h 2 0 6) (q4 (X.c 0 5)), exp2 (mulf (rw8 (X.d 2 5)) (q8 (X.a 2 1 5)))⟩ (X.at' (X.slab Y 42) (X.yW W 0))) :
    Runs c A (ap A (k0_part146 (F := F) X.i) arg1 X.t (X.h 2 0 5) v2441 (X.w 5) k0_hw6 (mulf (X.h 1 0 6) (q4 (X.c 0 5))) (mulf (exp2 (mulf (rw8 (X.d 1 5)) (q8 (X.a 1 1 5)))) (X.h 1 1 5)) (mulf (q4 (X.b 1 5)) (rw8 (X.u 1 5)))) Φ (X.at' (X.slab Y 41) (X.yW W 0)) := by
  rw [k0_part146_eq_skeleton]; unfold ap k0_part146_skel
  refine Runs.bind (ld22 (Z := X.c 1 5) (Trip.e_c (k0_off142_eq X.i X.t)) ?_)
  refine Runs.bind (ld27 rfl ?_)
  refine Runs.bind (Trip.st27 (Trip.e_s 41 rfl) ?_)
  refine Runs.bind (ld24 (Z := X.d 2 5) (Trip.e_d (k0_off146_eq X.t)) ?_)
  refine Runs.bind (ld25 (Z := X.u 2 5) (Trip.e_u (k0_off146_eq X.t)) ?_)
  refine Runs.bind (ld23 (Z := X.a 2 0 5) (Trip.e_a rfl) ?_)
  refine Runs.bind (ld21 (Z := X.b 0 5) (Trip.e_b (k0_off140_eq X.i X.t)) ?_)
  refine Runs.bind (ld22 (Z := X.c 0 5) (Trip.e_c (k0_off140_eq X.i X.t)) ?_)
  refine Runs.bind (ld23 (Z := X.a 2 1 5) (Trip.e_a rfl) ?_)
  exact Runs.pure hΦ

theorem val_147 (arg1 : BitVec 32) (v2441 : BitVec 32) (k0_hw6 : k0_chk6 (X.w 5)) {Φ} (hΦ : Φ ⟨X.h 2 1 6, rw8 (X.d 3 5), rw8 (X.u 3 5), X.h 3 0 6, q4 (X.c 0 5)⟩ (X.at' (X.slab Y 43) (X.yW W 0))) :
    Runs c A (ap A (k0_part147 (F := F) X.i) arg1 X.t (X.h 2 1 5) (X.h 3 0 5) v2441 (X.w 5) k0_hw6 (rw8 (X.u 2 5)) (mulf (X.h 2 0 6) (q4 (X.c 0 5))) (exp2 (mulf (rw8 (X.d 2 5)) (q8 (X.a 2 1 5))))) Φ (X.at' (X.slab Y 42) (X.yW W 0)) := by
  rw [k0_part147_eq_skeleton]; unfold ap k0_part147_skel
  refine Runs.bind (ld21 (Z := X.b 1 5) (Trip.e_b (k0_off142_eq X.i X.t)) ?_)
  refine Runs.bind (ld22 (Z := X.c 1 5) (Trip.e_c (k0_off142_eq X.i X.t)) ?_)
  refine Runs.bind (ld27 rfl ?_)
  refine Runs.bind (Trip.st27 (Trip.e_s 42 rfl) ?_)
  refine Runs.bind (ld24 (Z := X.d 3 5) (Trip.e_d (k0_off149_eq X.t)) ?_)
  refine Runs.bind (ld25 (Z := X.u 3 5) (Trip.e_u (k0_off149_eq X.t)) ?_)
  refine Runs.bind (ld23 (Z := X.a 3 0 5) (Trip.e_a rfl) ?_)
  refine Runs.bind (ld21 (Z := X.b 0 5) (Trip.e_b (k0_off140_eq X.i X.t)) ?_)
  refine Runs.bind (ld22 (Z := X.c 0 5) (Trip.e_c (k0_off140_eq X.i X.t)) ?_)
  exact Runs.pure hΦ

theorem val_148 (arg1 : BitVec 32) (v2441 : BitVec 32) (k0_hw6 : k0_chk6 (X.w 5)) {Φ} (hΦ : Φ ⟨X.h 3 1 6, rw8 (X.d 4 5), rw8 (X.u 4 5), mulf (exp2 (mulf (rw8 (X.d 4 5)) (q8 (X.a 4 0 5)))) (X.h 4 0 5), q4 (X.b 0 5)⟩ (X.at' (X.slab Y 44) (X.yW W 0))) :
    Runs c A (ap A (k0_part148 (F := F) X.i) arg1 X.t (X.h 3 1 5) (X.h 4 0 5) v2441 (X.w 5) k0_hw6 (rw8 (X.d 3 5)) (rw8 (X.u 3 5)) (X.h 3 0 6) (q4 (X.c 0 5))) Φ (X.at' (X.slab Y 43) (X.yW W 0)) := by
  rw [k0_part148_eq_skeleton]; unfold ap k0_part148_skel
  refine Runs.bind (ld23 (Z := X.a 3 1 5) (Trip.e_a rfl) ?_)
  refine Runs.bind (ld21 (Z := X.b 1 5) (Trip.e_b (k0_off142_eq X.i X.t)) ?_)
  refine Runs.bind (ld22 (Z := X.c 1 5) (Trip.e_c (k0_off142_eq X.i X.t)) ?_)
  refine Runs.bind (ld27 rfl ?_)
  refine Runs.bind (Trip.st27 (Trip.e_s 43 rfl) ?_)
  refine Runs.bind (ld24 (Z := X.d 4 5) (Trip.e_d (k0_off152_eq X.t)) ?_)
  refine Runs.bind (ld25 (Z := X.u 4 5) (Trip.e_u (k0_off152_eq X.t)) ?_)
  refine Runs.bind (ld23 (Z := X.a 4 0 5) (Trip.e_a rfl) ?_)
  refine Runs.bind (ld21 (Z := X.b 0 5) (Trip.e_b (k0_off140_eq X.i X.t)) ?_)
  exact Runs.pure hΦ

theorem val_149 (arg1 : BitVec 32) (v2441 : BitVec 32) (k0_hw6 : k0_chk6 (X.w 5)) {Φ} (hΦ : Φ ⟨X.h 4 0 6, X.h 4 1 6, rw8 (X.d 5 5), rw8 (X.u 5 5), mulf (rw8 (X.d 5 5)) (q8 (X.a 5 0 5))⟩ (X.at' (X.slab Y 45) (X.yW W 0))) :
    Runs c A (ap A (k0_part149 (F := F) X.i) arg1 X.t (X.h 4 1 5) v2441 (X.w 5) k0_hw6 (rw8 (X.d 4 5)) (rw8 (X.u 4 5)) (mulf (exp2 (mulf (rw8 (X.d 4 5)) (q8 (X.a 4 0 5)))) (X.h 4 0 5)) (q4 (X.b 0 5))) Φ (X.at' (X.slab Y 44) (X.yW W 0)) := by
  rw [k0_part149_eq_skeleton]; unfold ap k0_part149_skel
  refine Runs.bind (ld22 (Z := X.c 0 5) (Trip.e_c (k0_off140_eq X.i X.t)) ?_)
  refine Runs.bind (ld23 (Z := X.a 4 1 5) (Trip.e_a rfl) ?_)
  refine Runs.bind (ld21 (Z := X.b 1 5) (Trip.e_b (k0_off142_eq X.i X.t)) ?_)
  refine Runs.bind (ld22 (Z := X.c 1 5) (Trip.e_c (k0_off142_eq X.i X.t)) ?_)
  refine Runs.bind (ld27 rfl ?_)
  refine Runs.bind (Trip.st27 (Trip.e_s 44 rfl) ?_)
  refine Runs.bind (ld24 (Z := X.d 5 5) (Trip.e_d (k0_off155_eq X.t)) ?_)
  refine Runs.bind (ld25 (Z := X.u 5 5) (Trip.e_u (k0_off155_eq X.t)) ?_)
  refine Runs.bind (ld23 (Z := X.a 5 0 5) (Trip.e_a rfl) ?_)
  exact Runs.pure hΦ

theorem val_150 (arg1 : BitVec 32) (v2441 : BitVec 32) (k0_hw6 : k0_chk6 (X.w 5)) {Φ} (hΦ : Φ ⟨X.h 5 0 6, X.h 5 1 6, rw8 (X.d 6 5), shapeCast S1x128 (X.u 6 5) shapeCasts_S1x1x128_S1x128⟩ (X.at' (X.slab Y 46) (X.yW W 0))) :
    Runs c A (ap A (k0_part150 (F := F) X.i) arg1 X.t (X.h 5 0 5) (X.h 5 1 5) v2441 (X.w 5) k0_hw6 (rw8 (X.d 5 5)) (rw8 (X.u 5 5)) (mulf (rw8 (X.d 5 5)) (q8 (X.a 5 0 5)))) Φ (X.at' (X.slab Y 45) (X.yW W 0)) := by
  rw [k0_part150_eq_skeleton]; unfold ap k0_part150_skel
  refine Runs.bind (ld21 (Z := X.b 0 5) (Trip.e_b (k0_off140_eq X.i X.t)) ?_)
  refine Runs.bind (ld22 (Z := X.c 0 5) (Trip.e_c (k0_off140_eq X.i X.t)) ?_)
  refine Runs.bind (ld23 (Z := X.a 5 1 5) (Trip.e_a rfl) ?_)
  refine Runs.bind (ld21 (Z := X.b 1 5) (Trip.e_b (k0_off142_eq X.i X.t)) ?_)
  refine Runs.bind (ld22 (Z := X.c 1 5) (Trip.e_c (k0_off142_eq X.i X.t)) ?_)
  refine Runs.bind (ld27 rfl ?_)
  refine Runs.bind (Trip.st27 (Trip.e_s 45 rfl) ?_)
  refine Runs.bind (ld24 (Z := X.d 6 5) (Trip.e_d (k0_off158_eq X.t)) ?_)
  refine Runs.bind (ld25 (Z := X.u 6 5) (Trip.e_u (k0_off158_eq X.t)) ?_)
  exact Runs.pure hΦ

theorem val_151 (arg1 : BitVec 32) (v2441 : BitVec 32) (k0_hw6 : k0_chk6 (X.w 5)) {Φ} (hΦ : Φ ⟨X.h 6 0 6, X.h 6 1 6, X.d 7 5⟩ (X.at' (X.slab Y 47) (X.yW W 0))) :
    Runs c A (ap A (k0_part151 (F := F) X.i) arg1 X.t (X.h 6 0 5) (X.h 6 1 5) v2441 (X.w 5) k0_hw6 (rw8 (X.d 6 5)) (shapeCast S1x128 (X.u 6 5) shapeCasts_S1x1x128_S1x128)) Φ (X.at' (X.slab Y 46) (X.yW W 0)) := by
  rw [k0_part151_eq_skeleton]; unfold ap k0_part151_skel
  refine Runs.bind (ld23 (Z := X.a 6 0 5) (Trip.e_a rfl) ?_)
  refine Runs.bind (ld21 (Z := X.b 0 5) (Trip.e_b (k0_off140_eq X.i X.t)) ?_)
  refine Runs.bind (ld22 (Z := X.c 0 5) (Trip.e_c (k0_off140_eq X.i X.t)) ?_)
  refine Runs.bind (ld23 (Z := X.a 6 1 5) (Trip.e_a rfl) ?_)
  refine Runs.bind (ld21 (Z := X.b 1 5) (Trip.e_b (k0_off142_eq X.i X.t)) ?_)
  refine Runs.bind (ld22 (Z := X.c 1 5) (Trip.e_c (k0_off142_eq X.i X.t)) ?_)
  refine Runs.bind (ld27 rfl ?_)
  refine Runs.bind (Trip.st27 (Trip.e_s 46 rfl) ?_)
  refine Runs.bind (ld24 (Z := X.d 7 5) (Trip.e_d (k0_off161_eq X.t)) ?_)
  exact Runs.pure hΦ

theorem val_152 (arg1 : BitVec 32) (v2441 : BitVec 32) (k0_hw6 : k0_chk6 (X.w 5)) {Φ} (hΦ : Φ ⟨X.h 7 0 6, X.h 7 1 6, X.P 7 5⟩ (X.at' (X.slab Y 47) (X.yW W 0))) :
    Runs c A (ap A (k0_part152 (F := F) X.i) arg1 X.t (X.h 7 0 5) (X.h 7 1 5) v2441 (X.w 5) k0_hw6 (X.d 7 5)) Φ (X.at' (X.slab Y 47) (X.yW W 0)) := by
  rw [k0_part152_eq_skeleton]; unfold ap k0_part152_skel
  refine Runs.bind (ld25 (Z := X.u 7 5) (Trip.e_u (k0_off161_eq X.t)) ?_)
  refine Runs.bind (ld23 (Z := X.a 7 0 5) (Trip.e_a rfl) ?_)
  refine Runs.bind (ld21 (Z := X.b 0 5) (Trip.e_b (k0_off140_eq X.i X.t)) ?_)
  refine Runs.bind (ld22 (Z := X.c 0 5) (Trip.e_c (k0_off140_eq X.i X.t)) ?_)
  refine Runs.bind (ld23 (Z := X.a 7 1 5) (Trip.e_a rfl) ?_)
  refine Runs.bind (ld21 (Z := X.b 1 5) (Trip.e_b (k0_off142_eq X.i X.t)) ?_)
  refine Runs.bind (ld22 (Z := X.c 1 5) (Trip.e_c (k0_off142_eq X.i X.t)) ?_)
  exact Runs.pure hΦ

end Cert.KernelIdeal.Scan

end
-- ==== Proof.ScanI.Val6.lean ====
/- What parts of the loop compute. -/
module

public import proofs.«01_k».proof.Proof.ScanI.Rules

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {X : Trip F} {Y : Vec F S8x72x128 .f32} {W : Vec F S1x128x1024 .bf16} (hw : ∀ s, Flag (X.w s))
include hw

theorem val_153 (arg1 : BitVec 32) (v500 : BitVec 32) {Φ} (hΦ : ∀ b0, Φ ⟨b0, X.w 6, (chk7_of_flag (hw 6)), rw8 (X.u 0 6), X.h 0 0 7, mulf (X.h 0 0 7) (q4 (X.c 0 6)), mulf (exp2 (mulf (rw8 (X.d 0 6)) (q8 (X.a 0 1 6)))) (X.h 0 1 6), X.b 1 6⟩ (X.at' (X.slab Y 48) (X.yW W 0))) :
    Runs c A (ap A (k0_part153 (F := F) X.i) arg1 X.t v500 (X.h 0 0 6) (X.h 0 1 6) (X.P 7 5)) Φ (X.at' (X.slab Y 47) (X.yW W 0)) := by
  rw [k0_part153_eq_skeleton]; unfold ap k0_part153_skel
  refine Runs.bind (ld27 rfl ?_)
  refine Runs.bind (Trip.st27 (Trip.e_s 47 rfl) ?_)
  refine Runs.bind (ld2 (h1 := numel1_S1x1) (hp := rfl) (Z := X.w 6) (Trip.e_w (h1 := numel1_S1x1) (k0_off164_eq X.i X.t)) ?_)
  refine Runs.bind (Runs.assume (chk7_of_flag (hw 6)) ?_)
  refine Runs.bind (ld24 (Z := X.d 0 6) (Trip.e_d (k0_off165_eq X.t)) ?_)
  refine Runs.bind (ld25 (Z := X.u 0 6) (Trip.e_u (k0_off165_eq X.t)) ?_)
  refine Runs.bind (ld23 (Z := X.a 0 0 6) (Trip.e_a rfl) ?_)
  refine Runs.bind (ld21 (Z := X.b 0 6) (Trip.e_b (k0_off167_eq X.i X.t)) ?_)
  refine Runs.bind (ld22 (Z := X.c 0 6) (Trip.e_c (k0_off167_eq X.i X.t)) ?_)
  refine Runs.bind (ld23 (Z := X.a 0 1 6) (Trip.e_a rfl) ?_)
  refine Runs.bind (ld21 (Z := X.b 1 6) (Trip.e_b (k0_off169_eq X.i X.t)) ?_)
  exact Runs.pure (hΦ _)

theorem val_154 (arg1 : BitVec 32) (v2829 : BitVec 32) (k0_hw7 : k0_chk7 (X.w 6)) {Φ} (hΦ : Φ ⟨X.h 0 1 7, rw8 (X.d 1 6), rw8 (X.u 1 6), X.h 1 0 7, mulf (X.h 1 0 7) (q4 (X.c 0 6)), q8 (X.a 1 1 6)⟩ (X.at' (X.slab Y 49) (X.yW W 0))) :
    Runs c A (ap A (k0_part154 (F := F) X.i) arg1 X.t (X.h 1 0 6) v2829 (X.w 6) k0_hw7 (rw8 (X.u 0 6)) (mulf (X.h 0 0 7) (q4 (X.c 0 6))) (mulf (exp2 (mulf (rw8 (X.d 0 6)) (q8 (X.a 0 1 6)))) (X.h 0 1 6)) (X.b 1 6)) Φ (X.at' (X.slab Y 48) (X.yW W 0)) := by
  rw [k0_part154_eq_skeleton]; unfold ap k0_part154_skel
  refine Runs.bind (ld22 (Z := X.c 1 6) (Trip.e_c (k0_off169_eq X.i X.t)) ?_)
  refine Runs.bind (ld27 rfl ?_)
  refine Runs.bind (Trip.st27 (Trip.e_s 48 rfl) ?_)
  refine Runs.bind (ld24 (Z := X.d 1 6) (Trip.e_d (k0_off170_eq X.t)) ?_)
  refine Runs.bind (ld25 (Z := X.u 1 6) (Trip.e_u (k0_off170_eq X.t)) ?_)
  refine Runs.bind (ld23 (Z := X.a 1 0 6) (Trip.e_a rfl) ?_)
  refine Runs.bind (ld21 (Z := X.b 0 6) (Trip.e_b (k0_off167_eq X.i X.t)) ?_)
  refine Runs.bind (ld22 (Z := X.c 0 6) (Trip.e_c (k0_off167_eq X.i X.t)) ?_)
  refine Runs.bind (ld23 (Z := X.a 1 1 6) (Trip.e_a rfl) ?_)
  exact Runs.pure hΦ

theorem val_155 (arg1 : BitVec 32) (v2829 : BitVec 32) (k0_hw7 : k0_chk7 (X.w 6)) {Φ} (hΦ : Φ ⟨X.h 1 1 7, rw8 (X.d 2 6), rw8 (X.u 2 6), X.h 2 0 7⟩ (X.at' (X.slab Y 50) (X.yW W 0))) :
    Runs c A (ap A (k0_part155 (F := F) X.i) arg1 X.t (X.h 1 1 6) (X.h 2 0 6) v2829 (X.w 6) k0_hw7 (rw8 (X.d 1 6)) (rw8 (X.u 1 6)) (mulf (X.h 1 0 7) (q4 (X.c 0 6))) (q8 (X.a 1 1 6))) Φ (X.at' (X.slab Y 49) (X.yW W 0)) := by
  rw [k0_part155_eq_skeleton]; unfold ap k0_part155_skel
  refine Runs.bind (ld21 (Z := X.b 1 6) (Trip.e_b (k0_off169_eq X.i X.t)) ?_)
  refine Runs.bind (ld22 (Z := X.c 1 6) (Trip.e_c (k0_off169_eq X.i X.t)) ?_)
  refine Runs.bind (ld27 rfl ?_)
  refine Runs.bind (Trip.st27 (Trip.e_s 49 rfl) ?_)
  refine Runs.bind (ld24 (Z := X.d 2 6) (Trip.e_d (k0_off173_eq X.t)) ?_)
  refine Runs.bind (ld25 (Z := X.u 2 6) (Trip.e_u (k0_off173_eq X.t)) ?_)
  refine Runs.bind (ld23 (Z := X.a 2 0 6) (Trip.e_a rfl) ?_)
  refine Runs.bind (ld21 (Z := X.b 0 6) (Trip.e_b (k0_off167_eq X.i X.t)) ?_)
  exact Runs.pure hΦ

theorem val_156 (arg1 : BitVec 32) (v2829 : BitVec 32) (k0_hw7 : k0_chk7 (X.w 6)) {Φ} (hΦ : Φ ⟨X.h 2 1 7, rw8 (X.d 3 6), rw8 (X.u 3 6), mulf (exp2 (mulf (rw8 (X.d 3 6)) (q8 (X.a 3 0 6)))) (X.h 3 0 6)⟩ (X.at' (X.slab Y 51) (X.yW W 0))) :
    Runs c A (ap A (k0_part156 (F := F) X.i) arg1 X.t (X.h 2 1 6) (X.h 3 0 6) v2829 (X.w 6) k0_hw7 (rw8 (X.d 2 6)) (rw8 (X.u 2 6)) (X.h 2 0 7)) Φ (X.at' (X.slab Y 50) (X.yW W 0)) := by
  rw [k0_part156_eq_skeleton]; unfold ap k0_part156_skel
  refine Runs.bind (ld22 (Z := X.c 0 6) (Trip.e_c (k0_off167_eq X.i X.t)) ?_)
  refine Runs.bind (ld23 (Z := X.a 2 1 6) (Trip.e_a rfl) ?_)
  refine Runs.bind (ld21 (Z := X.b 1 6) (Trip.e_b (k0_off169_eq X.i X.t)) ?_)
  refine Runs.bind (ld22 (Z := X.c 1 6) (Trip.e_c (k0_off169_eq X.i X.t)) ?_)
  refine Runs.bind (ld27 rfl ?_)
  refine Runs.bind (Trip.st27 (Trip.e_s 50 rfl) ?_)
  refine Runs.bind (ld24 (Z := X.d 3 6) (Trip.e_d (k0_off176_eq X.t)) ?_)
  refine Runs.bind (ld25 (Z := X.u 3 6) (Trip.e_u (k0_off176_eq X.t)) ?_)
  refine Runs.bind (ld23 (Z := X.a 3 0 6) (Trip.e_a rfl) ?_)
  exact Runs.pure hΦ

theorem val_157 (arg1 : BitVec 32) (v2829 : BitVec 32) (k0_hw7 : k0_chk7 (X.w 6)) {Φ} (hΦ : Φ ⟨X.h 3 0 7, X.h 3 1 7, rw8 (X.d 4 6), rw8 (X.u 4 6), X.a 4 0 6⟩ (X.at' (X.slab Y 52) (X.yW W 0))) :
    Runs c A (ap A (k0_part157 (F := F) X.i) arg1 X.t (X.h 3 1 6) v2829 (X.w 6) k0_hw7 (rw8 (X.d 3 6)) (rw8 (X.u 3 6)) (mulf (exp2 (mulf (rw8 (X.d 3 6)) (q8 (X.a 3 0 6)))) (X.h 3 0 6))) Φ (X.at' (X.slab Y 51) (X.yW W 0)) := by
  rw [k0_part157_eq_skeleton]; unfold ap k0_part157_skel
  refine Runs.bind (ld21 (Z := X.b 0 6) (Trip.e_b (k0_off167_eq X.i X.t)) ?_)
  refine Runs.bind (ld22 (Z := X.c 0 6) (Trip.e_c (k0_off167_eq X.i X.t)) ?_)
  refine Runs.bind (ld23 (Z := X.a 3 1 6) (Trip.e_a rfl) ?_)
  refine Runs.bind (ld21 (Z := X.b 1 6) (Trip.e_b (k0_off169_eq X.i X.t)) ?_)
  refine Runs.bind (ld22 (Z := X.c 1 6) (Trip.e_c (k0_off169_eq X.i X.t)) ?_)
  refine Runs.bind (ld27 rfl ?_)
  refine Runs.bind (Trip.st27 (Trip.e_s 51 rfl) ?_)
  refine Runs.bind (ld24 (Z := X.d 4 6) (Trip.e_d (k0_off179_eq X.t)) ?_)
  refine Runs.bind (ld25 (Z := X.u 4 6) (Trip.e_u (k0_off179_eq X.t)) ?_)
  refine Runs.bind (ld23 (Z := X.a 4 0 6) (Trip.e_a rfl) ?_)
  exact Runs.pure hΦ

theorem val_158 (arg1 : BitVec 32) (v2829 : BitVec 32) (k0_hw7 : k0_chk7 (X.w 6)) {Φ} (hΦ : Φ ⟨X.h 4 0 7, X.h 4 1 7, rw8 (X.d 5 6)⟩ (X.at' (X.slab Y 53) (X.yW W 0))) :
    Runs c A (ap A (k0_part158 (F := F) X.i) arg1 X.t (X.h 4 0 6) (X.h 4 1 6) v2829 (X.w 6) k0_hw7 (rw8 (X.d 4 6)) (rw8 (X.u 4 6)) (X.a 4 0 6)) Φ (X.at' (X.slab Y 52) (X.yW W 0)) := by
  rw [k0_part158_eq_skeleton]; unfold ap k0_part158_skel
  refine Runs.bind (ld21 (Z := X.b 0 6) (Trip.e_b (k0_off167_eq X.i X.t)) ?_)
  refine Runs.bind (ld22 (Z := X.c 0 6) (Trip.e_c (k0_off167_eq X.i X.t)) ?_)
  refine Runs.bind (ld23 (Z := X.a 4 1 6) (Trip.e_a rfl) ?_)
  refine Runs.bind (ld21 (Z := X.b 1 6) (Trip.e_b (k0_off169_eq X.i X.t)) ?_)
  refine Runs.bind (ld22 (Z := X.c 1 6) (Trip.e_c (k0_off169_eq X.i X.t)) ?_)
  refine Runs.bind (ld27 rfl ?_)
  refine Runs.bind (Trip.st27 (Trip.e_s 52 rfl) ?_)
  refine Runs.bind (ld24 (Z := X.d 5 6) (Trip.e_d (k0_off182_eq X.t)) ?_)
  exact Runs.pure hΦ

theorem val_159 (arg1 : BitVec 32) (v2829 : BitVec 32) (k0_hw7 : k0_chk7 (X.w 6)) {Φ} (hΦ : Φ ⟨X.h 5 0 7, X.h 5 1 7⟩ (X.at' (X.slab Y 54) (X.yW W 0))) :
    Runs c A (ap A (k0_part159 (F := F) X.i) arg1 X.t (X.h 5 0 6) (X.h 5 1 6) v2829 (X.w 6) k0_hw7 (rw8 (X.d 5 6))) Φ (X.at' (X.slab Y 53) (X.yW W 0)) := by
  rw [k0_part159_eq_skeleton]; unfold ap k0_part159_skel
  refine Runs.bind (ld25 (Z := X.u 5 6) (Trip.e_u (k0_off182_eq X.t)) ?_)
  refine Runs.bind (ld23 (Z := X.a 5 0 6) (Trip.e_a rfl) ?_)
  refine Runs.bind (ld21 (Z := X.b 0 6) (Trip.e_b (k0_off167_eq X.i X.t)) ?_)
  refine Runs.bind (ld22 (Z := X.c 0 6) (Trip.e_c (k0_off167_eq X.i X.t)) ?_)
  refine Runs.bind (ld23 (Z := X.a 5 1 6) (Trip.e_a rfl) ?_)
  refine Runs.bind (ld21 (Z := X.b 1 6) (Trip.e_b (k0_off169_eq X.i X.t)) ?_)
  refine Runs.bind (ld22 (Z := X.c 1 6) (Trip.e_c (k0_off169_eq X.i X.t)) ?_)
  refine Runs.bind (ld27 rfl ?_)
  refine Runs.bind (Trip.st27 (Trip.e_s 53 rfl) ?_)
  exact Runs.pure hΦ

theorem val_160 (arg1 : BitVec 32) (v2829 : BitVec 32) (k0_hw7 : k0_chk7 (X.w 6)) {Φ} (hΦ : Φ ⟨X.h 6 0 7, X.h 6 1 7, X.P 6 6⟩ (X.at' (X.slab Y 54) (X.yW W 0))) :
    Runs c A (ap A (k0_part160 (F := F) X.i) arg1 X.t (X.h 6 0 6) (X.h 6 1 6) v2829 (X.w 6) k0_hw7) Φ (X.at' (X.slab Y 54) (X.yW W 0)) := by
  rw [k0_part160_eq_skeleton]; unfold ap k0_part160_skel
  refine Runs.bind (ld24 (Z := X.d 6 6) (Trip.e_d (k0_off185_eq X.t)) ?_)
  refine Runs.bind (ld25 (Z := X.u 6 6) (Trip.e_u (k0_off185_eq X.t)) ?_)
  refine Runs.bind (ld23 (Z := X.a 6 0 6) (Trip.e_a rfl) ?_)
  refine Runs.bind (ld21 (Z := X.b 0 6) (Trip.e_b (k0_off167_eq X.i X.t)) ?_)
  refine Runs.bind (ld22 (Z := X.c 0 6) (Trip.e_c (k0_off167_eq X.i X.t)) ?_)
  refine Runs.bind (ld23 (Z := X.a 6 1 6) (Trip.e_a rfl) ?_)
  refine Runs.bind (ld21 (Z := X.b 1 6) (Trip.e_b (k0_off169_eq X.i X.t)) ?_)
  refine Runs.bind (ld22 (Z := X.c 1 6) (Trip.e_c (k0_off169_eq X.i X.t)) ?_)
  exact Runs.pure hΦ

theorem val_161 (arg1 : BitVec 32) (v2829 : BitVec 32) (k0_hw7 : k0_chk7 (X.w 6)) {Φ} (hΦ : Φ ⟨X.h 7 0 7, mulf (X.h 7 0 7) (q4 (X.c 0 6)), X.h 7 1 7⟩ (X.at' (X.slab Y 55) (X.yW W 0))) :
    Runs c A (ap A (k0_part161 (F := F) X.i) arg1 X.t (X.h 7 0 6) (X.h 7 1 6) v2829 (X.w 6) k0_hw7 (X.P 6 6)) Φ (X.at' (X.slab Y 54) (X.yW W 0)) := by
  rw [k0_part161_eq_skeleton]; unfold ap k0_part161_skel
  refine Runs.bind (ld27 rfl ?_)
  refine Runs.bind (Trip.st27 (Trip.e_s 54 rfl) ?_)
  refine Runs.bind (ld24 (Z := X.d 7 6) (Trip.e_d (k0_off188_eq X.t)) ?_)
  refine Runs.bind (ld25 (Z := X.u 7 6) (Trip.e_u (k0_off188_eq X.t)) ?_)
  refine Runs.bind (ld23 (Z := X.a 7 0 6) (Trip.e_a rfl) ?_)
  refine Runs.bind (ld21 (Z := X.b 0 6) (Trip.e_b (k0_off167_eq X.i X.t)) ?_)
  refine Runs.bind (ld22 (Z := X.c 0 6) (Trip.e_c (k0_off167_eq X.i X.t)) ?_)
  refine Runs.bind (ld23 (Z := X.a 7 1 6) (Trip.e_a rfl) ?_)
  refine Runs.bind (ld21 (Z := X.b 1 6) (Trip.e_b (k0_off169_eq X.i X.t)) ?_)
  exact Runs.pure hΦ

theorem val_162 (arg1 : BitVec 32) (v500 : BitVec 32) (v2829 : BitVec 32) {Φ} (hΦ : ∀ b0, Φ ⟨b0, X.w 7, (chk8_of_flag (hw 7)), rw8 (X.d 0 7), rw8 (X.u 0 7), X.h 0 0 8, mulf (X.h 0 0 8) (q4 (X.c 0 7))⟩ (X.at' (X.slab Y 56) (X.yW W 0))) :
    Runs c A (ap A (k0_part162 (F := F) X.i) arg1 X.t v500 v2829 (X.h 0 0 7) (mulf (X.h 7 0 7) (q4 (X.c 0 6))) (X.h 7 1 7)) Φ (X.at' (X.slab Y 55) (X.yW W 0)) := by
  rw [k0_part162_eq_skeleton]; unfold ap k0_part162_skel
  refine Runs.bind (ld22 (Z := X.c 1 6) (Trip.e_c (k0_off169_eq X.i X.t)) ?_)
  refine Runs.bind (ld27 rfl ?_)
  refine Runs.bind (Trip.st27 (Trip.e_s 55 rfl) ?_)
  refine Runs.bind (ld2 (h1 := numel1_S1x1) (hp := rfl) (Z := X.w 7) (Trip.e_w (h1 := numel1_S1x1) (k0_off191_eq X.i X.t)) ?_)
  refine Runs.bind (Runs.assume (chk8_of_flag (hw 7)) ?_)
  refine Runs.bind (ld24 (Z := X.d 0 7) (Trip.e_d (k0_off192_eq X.t)) ?_)
  refine Runs.bind (ld25 (Z := X.u 0 7) (Trip.e_u (k0_off192_eq X.t)) ?_)
  refine Runs.bind (ld23 (Z := X.a 0 0 7) (Trip.e_a rfl) ?_)
  refine Runs.bind (ld21 (Z := X.b 0 7) (Trip.e_b (k0_off194_eq X.i X.t)) ?_)
  refine Runs.bind (ld22 (Z := X.c 0 7) (Trip.e_c (k0_off194_eq X.i X.t)) ?_)
  exact Runs.pure (hΦ _)

theorem val_163 (arg1 : BitVec 32) (v3217 : BitVec 32) (k0_hw8 : k0_chk8 (X.w 7)) {Φ} (hΦ : Φ ⟨X.h 0 1 8, rw8 (X.d 1 7), rw8 (X.u 1 7), X.h 1 0 8⟩ (X.at' (X.slab Y 57) (X.yW W 0))) :
    Runs c A (ap A (k0_part163 (F := F) X.i) arg1 X.t (X.h 0 1 7) (X.h 1 0 7) v3217 (X.w 7) k0_hw8 (rw8 (X.d 0 7)) (rw8 (X.u 0 7)) (mulf (X.h 0 0 8) (q4 (X.c 0 7)))) Φ (X.at' (X.slab Y 56) (X.yW W 0)) := by
  rw [k0_part163_eq_skeleton]; unfold ap k0_part163_skel
  refine Runs.bind (ld23 (Z := X.a 0 1 7) (Trip.e_a rfl) ?_)
  refine Runs.bind (ld21 (Z := X.b 1 7) (Trip.e_b (k0_off196_eq X.i X.t)) ?_)
  refine Runs.bind (ld22 (Z := X.c 1 7) (Trip.e_c (k0_off196_eq X.i X.t)) ?_)
  refine Runs.bind (ld27 rfl ?_)
  refine Runs.bind (Trip.st27 (Trip.e_s 56 rfl) ?_)
  refine Runs.bind (ld24 (Z := X.d 1 7) (Trip.e_d (k0_off197_eq X.t)) ?_)
  refine Runs.bind (ld25 (Z := X.u 1 7) (Trip.e_u (k0_off197_eq X.t)) ?_)
  refine Runs.bind (ld23 (Z := X.a 1 0 7) (Trip.e_a rfl) ?_)
  refine Runs.bind (ld21 (Z := X.b 0 7) (Trip.e_b (k0_off194_eq X.i X.t)) ?_)
  exact Runs.pure hΦ

end Cert.KernelIdeal.Scan

end
-- ==== Proof.ScanI.Val7.lean ====
/- What parts of the loop compute. -/
module

public import proofs.«01_k».proof.Proof.ScanI.Rules

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {X : Trip F} {Y : Vec F S8x72x128 .f32} {W : Vec F S1x128x1024 .bf16} (hw : ∀ s, Flag (X.w s))
include hw

theorem val_164 (arg1 : BitVec 32) (v3217 : BitVec 32) (k0_hw8 : k0_chk8 (X.w 7)) {Φ} (hΦ : Φ ⟨X.h 1 1 8, rw8 (X.d 2 7), rw8 (X.u 2 7), mulf (exp2 (mulf (rw8 (X.d 2 7)) (q8 (X.a 2 0 7)))) (X.h 2 0 7)⟩ (X.at' (X.slab Y 58) (X.yW W 0))) :
    Runs c A (ap A (k0_part164 (F := F) X.i) arg1 X.t (X.h 1 1 7) (X.h 2 0 7) v3217 (X.w 7) k0_hw8 (rw8 (X.d 1 7)) (rw8 (X.u 1 7)) (X.h 1 0 8)) Φ (X.at' (X.slab Y 57) (X.yW W 0)) := by
  rw [k0_part164_eq_skeleton]; unfold ap k0_part164_skel
  refine Runs.bind (ld22 (Z := X.c 0 7) (Trip.e_c (k0_off194_eq X.i X.t)) ?_)
  refine Runs.bind (ld23 (Z := X.a 1 1 7) (Trip.e_a rfl) ?_)
  refine Runs.bind (ld21 (Z := X.b 1 7) (Trip.e_b (k0_off196_eq X.i X.t)) ?_)
  refine Runs.bind (ld22 (Z := X.c 1 7) (Trip.e_c (k0_off196_eq X.i X.t)) ?_)
  refine Runs.bind (ld27 rfl ?_)
  refine Runs.bind (Trip.st27 (Trip.e_s 57 rfl) ?_)
  refine Runs.bind (ld24 (Z := X.d 2 7) (Trip.e_d (k0_off200_eq X.t)) ?_)
  refine Runs.bind (ld25 (Z := X.u 2 7) (Trip.e_u (k0_off200_eq X.t)) ?_)
  refine Runs.bind (ld23 (Z := X.a 2 0 7) (Trip.e_a rfl) ?_)
  exact Runs.pure hΦ

theorem val_165 (arg1 : BitVec 32) (v3217 : BitVec 32) (k0_hw8 : k0_chk8 (X.w 7)) {Φ} (hΦ : Φ ⟨X.h 2 0 8, X.h 2 1 8, rw8 (X.d 3 7), rw8 (X.u 3 7)⟩ (X.at' (X.slab Y 59) (X.yW W 0))) :
    Runs c A (ap A (k0_part165 (F := F) X.i) arg1 X.t (X.h 2 1 7) v3217 (X.w 7) k0_hw8 (rw8 (X.d 2 7)) (rw8 (X.u 2 7)) (mulf (exp2 (mulf (rw8 (X.d 2 7)) (q8 (X.a 2 0 7)))) (X.h 2 0 7))) Φ (X.at' (X.slab Y 58) (X.yW W 0)) := by
  rw [k0_part165_eq_skeleton]; unfold ap k0_part165_skel
  refine Runs.bind (ld21 (Z := X.b 0 7) (Trip.e_b (k0_off194_eq X.i X.t)) ?_)
  refine Runs.bind (ld22 (Z := X.c 0 7) (Trip.e_c (k0_off194_eq X.i X.t)) ?_)
  refine Runs.bind (ld23 (Z := X.a 2 1 7) (Trip.e_a rfl) ?_)
  refine Runs.bind (ld21 (Z := X.b 1 7) (Trip.e_b (k0_off196_eq X.i X.t)) ?_)
  refine Runs.bind (ld22 (Z := X.c 1 7) (Trip.e_c (k0_off196_eq X.i X.t)) ?_)
  refine Runs.bind (ld27 rfl ?_)
  refine Runs.bind (Trip.st27 (Trip.e_s 58 rfl) ?_)
  refine Runs.bind (ld24 (Z := X.d 3 7) (Trip.e_d (k0_off203_eq X.t)) ?_)
  refine Runs.bind (ld25 (Z := X.u 3 7) (Trip.e_u (k0_off203_eq X.t)) ?_)
  exact Runs.pure hΦ

theorem val_166 (arg1 : BitVec 32) (v3217 : BitVec 32) (k0_hw8 : k0_chk8 (X.w 7)) {Φ} (hΦ : Φ ⟨X.h 3 0 8, X.h 3 1 8, rw8 (X.d 4 7)⟩ (X.at' (X.slab Y 60) (X.yW W 0))) :
    Runs c A (ap A (k0_part166 (F := F) X.i) arg1 X.t (X.h 3 0 7) (X.h 3 1 7) v3217 (X.w 7) k0_hw8 (rw8 (X.d 3 7)) (rw8 (X.u 3 7))) Φ (X.at' (X.slab Y 59) (X.yW W 0)) := by
  rw [k0_part166_eq_skeleton]; unfold ap k0_part166_skel
  refine Runs.bind (ld23 (Z := X.a 3 0 7) (Trip.e_a rfl) ?_)
  refine Runs.bind (ld21 (Z := X.b 0 7) (Trip.e_b (k0_off194_eq X.i X.t)) ?_)
  refine Runs.bind (ld22 (Z := X.c 0 7) (Trip.e_c (k0_off194_eq X.i X.t)) ?_)
  refine Runs.bind (ld23 (Z := X.a 3 1 7) (Trip.e_a rfl) ?_)
  refine Runs.bind (ld21 (Z := X.b 1 7) (Trip.e_b (k0_off196_eq X.i X.t)) ?_)
  refine Runs.bind (ld22 (Z := X.c 1 7) (Trip.e_c (k0_off196_eq X.i X.t)) ?_)
  refine Runs.bind (ld27 rfl ?_)
  refine Runs.bind (Trip.st27 (Trip.e_s 59 rfl) ?_)
  refine Runs.bind (ld24 (Z := X.d 4 7) (Trip.e_d (k0_off206_eq X.t)) ?_)
  exact Runs.pure hΦ

theorem val_167 (arg1 : BitVec 32) (v3217 : BitVec 32) (k0_hw8 : k0_chk8 (X.w 7)) {Φ} (hΦ : Φ ⟨X.h 4 0 8, X.h 4 1 8⟩ (X.at' (X.slab Y 61) (X.yW W 0))) :
    Runs c A (ap A (k0_part167 (F := F) X.i) arg1 X.t (X.h 4 0 7) (X.h 4 1 7) v3217 (X.w 7) k0_hw8 (rw8 (X.d 4 7))) Φ (X.at' (X.slab Y 60) (X.yW W 0)) := by
  rw [k0_part167_eq_skeleton]; unfold ap k0_part167_skel
  refine Runs.bind (ld25 (Z := X.u 4 7) (Trip.e_u (k0_off206_eq X.t)) ?_)
  refine Runs.bind (ld23 (Z := X.a 4 0 7) (Trip.e_a rfl) ?_)
  refine Runs.bind (ld21 (Z := X.b 0 7) (Trip.e_b (k0_off194_eq X.i X.t)) ?_)
  refine Runs.bind (ld22 (Z := X.c 0 7) (Trip.e_c (k0_off194_eq X.i X.t)) ?_)
  refine Runs.bind (ld23 (Z := X.a 4 1 7) (Trip.e_a rfl) ?_)
  refine Runs.bind (ld21 (Z := X.b 1 7) (Trip.e_b (k0_off196_eq X.i X.t)) ?_)
  refine Runs.bind (ld22 (Z := X.c 1 7) (Trip.e_c (k0_off196_eq X.i X.t)) ?_)
  refine Runs.bind (ld27 rfl ?_)
  refine Runs.bind (Trip.st27 (Trip.e_s 60 rfl) ?_)
  exact Runs.pure hΦ

theorem val_168 (arg1 : BitVec 32) (v3217 : BitVec 32) (k0_hw8 : k0_chk8 (X.w 7)) {Φ} (hΦ : Φ ⟨X.h 5 0 8, mulf (X.h 5 0 8) (q4 (X.c 0 7)), X.h 5 1 8, mulf (X.h 5 1 8) (q4 (X.c 1 7))⟩ (X.at' (X.slab Y 61) (X.yW W 0))) :
    Runs c A (ap A (k0_part168 (F := F) X.i) arg1 X.t (X.h 5 0 7) (X.h 5 1 7) v3217 (X.w 7) k0_hw8) Φ (X.at' (X.slab Y 61) (X.yW W 0)) := by
  rw [k0_part168_eq_skeleton]; unfold ap k0_part168_skel
  refine Runs.bind (ld24 (Z := X.d 5 7) (Trip.e_d (k0_off209_eq X.t)) ?_)
  refine Runs.bind (ld25 (Z := X.u 5 7) (Trip.e_u (k0_off209_eq X.t)) ?_)
  refine Runs.bind (ld23 (Z := X.a 5 0 7) (Trip.e_a rfl) ?_)
  refine Runs.bind (ld21 (Z := X.b 0 7) (Trip.e_b (k0_off194_eq X.i X.t)) ?_)
  refine Runs.bind (ld22 (Z := X.c 0 7) (Trip.e_c (k0_off194_eq X.i X.t)) ?_)
  refine Runs.bind (ld23 (Z := X.a 5 1 7) (Trip.e_a rfl) ?_)
  refine Runs.bind (ld21 (Z := X.b 1 7) (Trip.e_b (k0_off196_eq X.i X.t)) ?_)
  refine Runs.bind (ld22 (Z := X.c 1 7) (Trip.e_c (k0_off196_eq X.i X.t)) ?_)
  exact Runs.pure hΦ

theorem val_169 (arg1 : BitVec 32) (v3217 : BitVec 32) (k0_hw8 : k0_chk8 (X.w 7)) {Φ} (hΦ : Φ ⟨X.h 6 0 8, mulf (X.h 6 0 8) (q4 (X.c 0 7)), mulf (exp2 (mulf (rw8 (X.d 6 7)) (q8 (X.a 6 1 7)))) (X.h 6 1 7), mulf (q4 (X.b 1 7)) (rw8 (X.u 6 7))⟩ (X.at' (X.slab Y 62) (X.yW W 0))) :
    Runs c A (ap A (k0_part169 (F := F) X.i) arg1 X.t (X.h 6 0 7) (X.h 6 1 7) v3217 (X.w 7) k0_hw8 (mulf (X.h 5 0 8) (q4 (X.c 0 7))) (mulf (X.h 5 1 8) (q4 (X.c 1 7)))) Φ (X.at' (X.slab Y 61) (X.yW W 0)) := by
  rw [k0_part169_eq_skeleton]; unfold ap k0_part169_skel
  refine Runs.bind (ld27 rfl ?_)
  refine Runs.bind (Trip.st27 (Trip.e_s 61 rfl) ?_)
  refine Runs.bind (ld24 (Z := X.d 6 7) (Trip.e_d (k0_off212_eq X.t)) ?_)
  refine Runs.bind (ld25 (Z := X.u 6 7) (Trip.e_u (k0_off212_eq X.t)) ?_)
  refine Runs.bind (ld23 (Z := X.a 6 0 7) (Trip.e_a rfl) ?_)
  refine Runs.bind (ld21 (Z := X.b 0 7) (Trip.e_b (k0_off194_eq X.i X.t)) ?_)
  refine Runs.bind (ld22 (Z := X.c 0 7) (Trip.e_c (k0_off194_eq X.i X.t)) ?_)
  refine Runs.bind (ld23 (Z := X.a 6 1 7) (Trip.e_a rfl) ?_)
  refine Runs.bind (ld21 (Z := X.b 1 7) (Trip.e_b (k0_off196_eq X.i X.t)) ?_)
  exact Runs.pure hΦ

theorem val_170 (arg1 : BitVec 32) (v3217 : BitVec 32) (k0_hw8 : k0_chk8 (X.w 7)) {Φ} (hΦ : Φ ⟨X.h 6 1 8, rw8 (X.u 7 7), X.h 7 0 8, mulf (X.h 7 0 8) (q4 (X.c 0 7)), exp2 (mulf (rw8 (X.d 7 7)) (q8 (X.a 7 1 7)))⟩ (X.at' (X.slab Y 63) (X.yW W 0))) :
    Runs c A (ap A (k0_part170 (F := F) X.i) arg1 X.t (X.h 7 0 7) v3217 (X.w 7) k0_hw8 (mulf (X.h 6 0 8) (q4 (X.c 0 7))) (mulf (exp2 (mulf (rw8 (X.d 6 7)) (q8 (X.a 6 1 7)))) (X.h 6 1 7)) (mulf (q4 (X.b 1 7)) (rw8 (X.u 6 7)))) Φ (X.at' (X.slab Y 62) (X.yW W 0)) := by
  rw [k0_part170_eq_skeleton]; unfold ap k0_part170_skel
  refine Runs.bind (ld22 (Z := X.c 1 7) (Trip.e_c (k0_off196_eq X.i X.t)) ?_)
  refine Runs.bind (ld27 rfl ?_)
  refine Runs.bind (Trip.st27 (Trip.e_s 62 rfl) ?_)
  refine Runs.bind (ld24 (Z := X.d 7 7) (Trip.e_d (k0_off215_eq X.t)) ?_)
  refine Runs.bind (ld25 (Z := X.u 7 7) (Trip.e_u (k0_off215_eq X.t)) ?_)
  refine Runs.bind (ld23 (Z := X.a 7 0 7) (Trip.e_a rfl) ?_)
  refine Runs.bind (ld21 (Z := X.b 0 7) (Trip.e_b (k0_off194_eq X.i X.t)) ?_)
  refine Runs.bind (ld22 (Z := X.c 0 7) (Trip.e_c (k0_off194_eq X.i X.t)) ?_)
  refine Runs.bind (ld23 (Z := X.a 7 1 7) (Trip.e_a rfl) ?_)
  exact Runs.pure hΦ

theorem val_171 (arg1 : BitVec 32) (v3217 : BitVec 32) {Φ} (hΦ : Φ ⟨X.h 7 1 8, q8 (X.r 0 0), q8 (X.r 0 1), q8 (X.r 0 2), q8 (X.r 0 3), q8 (X.r 0 4), q8 (X.r 0 5), q8 (X.r 0 6)⟩ (X.at' (X.slab Y 64) (X.yW W 0))) :
    Runs c A (ap A (k0_part171 (F := F) X.i) arg1 X.t (X.h 7 1 7) v3217 (rw8 (X.u 7 7)) (mulf (X.h 7 0 8) (q4 (X.c 0 7))) (exp2 (mulf (rw8 (X.d 7 7)) (q8 (X.a 7 1 7))))) Φ (X.at' (X.slab Y 63) (X.yW W 0)) := by
  rw [k0_part171_eq_skeleton]; unfold ap k0_part171_skel
  refine Runs.bind (ld21 (Z := X.b 1 7) (Trip.e_b (k0_off196_eq X.i X.t)) ?_)
  refine Runs.bind (ld22 (Z := X.c 1 7) (Trip.e_c (k0_off196_eq X.i X.t)) ?_)
  refine Runs.bind (ld27 rfl ?_)
  refine Runs.bind (Trip.st27 (Trip.e_s 63 rfl) ?_)
  refine Runs.bind (ld27 (Z := X.r 0 0) (Trip.e_r (j := 0) (i := 0) (by decide) (by decide) rfl) ?_)
  refine Runs.bind (ld27 (Z := X.r 0 1) (Trip.e_r (j := 0) (i := 1) (by decide) (by decide) rfl) ?_)
  refine Runs.bind (ld27 (Z := X.r 0 2) (Trip.e_r (j := 0) (i := 2) (by decide) (by decide) rfl) ?_)
  refine Runs.bind (ld27 (Z := X.r 0 3) (Trip.e_r (j := 0) (i := 3) (by decide) (by decide) rfl) ?_)
  refine Runs.bind (ld27 (Z := X.r 0 4) (Trip.e_r (j := 0) (i := 4) (by decide) (by decide) rfl) ?_)
  refine Runs.bind (ld27 (Z := X.r 0 5) (Trip.e_r (j := 0) (i := 5) (by decide) (by decide) rfl) ?_)
  refine Runs.bind (ld27 (Z := X.r 0 6) (Trip.e_r (j := 0) (i := 6) (by decide) (by decide) rfl) ?_)
  exact Runs.pure hΦ

theorem val_172 (v500 : BitVec 32) {Φ} (hΦ : Φ ⟨q8 (X.r 1 0), q8 (X.r 1 1), q8 (X.r 1 2), q8 (X.r 1 3)⟩ (X.at' (X.slab Y 64) (X.yW W 1))) :
    Runs c A (ap A (k0_part172 (F := F) X.i) X.t v500 (q8 (X.r 0 0)) (q8 (X.r 0 1)) (q8 (X.r 0 2)) (q8 (X.r 0 3)) (q8 (X.r 0 4)) (q8 (X.r 0 5)) (q8 (X.r 0 6))) Φ (X.at' (X.slab Y 64) (X.yW W 0)) := by
  rw [k0_part172_eq_skeleton]; unfold ap k0_part172_skel
  refine Runs.bind (ld27 (Z := X.r 0 7) (Trip.e_r (j := 0) (i := 7) (by decide) (by decide) rfl) ?_)
  refine Runs.bind (ld11 (Z := X.z 0) (Trip.e_z (k0_off218_eq X.t)) ?_)
  refine Runs.bind (ld26 (Z := X.k 0) (Trip.e_k (k0_off219_eq X.t)) ?_)
  refine Runs.bind (ld16 rfl ?_)
  refine Runs.bind (Trip.st16 (Trip.e_y (n := 0) (k0_off218_eq X.t) rfl) ?_)
  refine Runs.bind (ld27 (Z := X.r 1 0) (Trip.e_r (j := 1) (i := 0) (by decide) (by decide) rfl) ?_)
  refine Runs.bind (ld27 (Z := X.r 1 1) (Trip.e_r (j := 1) (i := 1) (by decide) (by decide) rfl) ?_)
  refine Runs.bind (ld27 (Z := X.r 1 2) (Trip.e_r (j := 1) (i := 2) (by decide) (by decide) rfl) ?_)
  refine Runs.bind (ld27 (Z := X.r 1 3) (Trip.e_r (j := 1) (i := 3) (by decide) (by decide) rfl) ?_)
  exact Runs.pure hΦ

theorem val_173 (v500 : BitVec 32) {Φ} (hΦ : Φ (X.r 2 0) (X.at' (X.slab Y 64) (X.yW W 2))) :
    Runs c A (ap A (k0_part173 (F := F) X.i) X.t v500 (q8 (X.r 1 0)) (q8 (X.r 1 1)) (q8 (X.r 1 2)) (q8 (X.r 1 3))) Φ (X.at' (X.slab Y 64) (X.yW W 1)) := by
  rw [k0_part173_eq_skeleton]; unfold ap k0_part173_skel
  refine Runs.bind (ld27 (Z := X.r 1 4) (Trip.e_r (j := 1) (i := 4) (by decide) (by decide) rfl) ?_)
  refine Runs.bind (ld27 (Z := X.r 1 5) (Trip.e_r (j := 1) (i := 5) (by decide) (by decide) rfl) ?_)
  refine Runs.bind (ld27 (Z := X.r 1 6) (Trip.e_r (j := 1) (i := 6) (by decide) (by decide) rfl) ?_)
  refine Runs.bind (ld27 (Z := X.r 1 7) (Trip.e_r (j := 1) (i := 7) (by decide) (by decide) rfl) ?_)
  refine Runs.bind (ld11 (Z := X.z 1) (Trip.e_z (k0_off220_eq X.t)) ?_)
  refine Runs.bind (ld26 (Z := X.k 1) (Trip.e_k (k0_off221_eq X.t)) ?_)
  refine Runs.bind (ld16 rfl ?_)
  refine Runs.bind (Trip.st16 (Trip.e_y (n := 1) (k0_off220_eq X.t) rfl) ?_)
  refine Runs.bind (ld27 (Z := X.r 2 0) (Trip.e_r (j := 2) (i := 0) (by decide) (by decide) rfl) ?_)
  exact Runs.pure hΦ

theorem val_174 (v500 : BitVec 32) {Φ} (hΦ : Φ ⟨addf (addf (addf (q8 (X.r 2 0)) (q8 (X.r 2 1))) (addf (q8 (X.r 2 2)) (q8 (X.r 2 3)))) (addf (addf (q8 (X.r 2 4)) (q8 (X.r 2 5))) (addf (q8 (X.r 2 6)) (q8 (X.r 2 7)))), divf (extf .f32 (shapeCast S8x128 (X.z 2) shapeCasts_S1x8x128_S8x128) bitsLt_bf16_f32) (addf (broadcast S8x128 (Scalar.ofBits .f32 0x3F800000#32)) (exp2 (mulf (extf .f32 (shapeCast S8x128 (X.z 2) shapeCasts_S1x8x128_S8x128) bitsLt_bf16_f32) (broadcast S8x128 (Named.named κ "neg_log2e" 0xBFB8AA3B#32)))))⟩ (X.at' (X.slab Y 64) (X.yW W 2))) :
    Runs c A (ap A (k0_part174 (F := F) X.i) X.t v500 (X.r 2 0)) Φ (X.at' (X.slab Y 64) (X.yW W 2)) := by
  rw [k0_part174_eq_skeleton]; unfold ap k0_part174_skel
  refine Runs.bind (ld27 (Z := X.r 2 1) (Trip.e_r (j := 2) (i := 1) (by decide) (by decide) rfl) ?_)
  refine Runs.bind (ld27 (Z := X.r 2 2) (Trip.e_r (j := 2) (i := 2) (by decide) (by decide) rfl) ?_)
  refine Runs.bind (ld27 (Z := X.r 2 3) (Trip.e_r (j := 2) (i := 3) (by decide) (by decide) rfl) ?_)
  refine Runs.bind (ld27 (Z := X.r 2 4) (Trip.e_r (j := 2) (i := 4) (by decide) (by decide) rfl) ?_)
  refine Runs.bind (ld27 (Z := X.r 2 5) (Trip.e_r (j := 2) (i := 5) (by decide) (by decide) rfl) ?_)
  refine Runs.bind (ld27 (Z := X.r 2 6) (Trip.e_r (j := 2) (i := 6) (by decide) (by decide) rfl) ?_)
  refine Runs.bind (ld27 (Z := X.r 2 7) (Trip.e_r (j := 2) (i := 7) (by decide) (by decide) rfl) ?_)
  refine Runs.bind (ld11 (Z := X.z 2) (Trip.e_z (k0_off222_eq X.t)) ?_)
  exact Runs.pure hΦ

end Cert.KernelIdeal.Scan

end
-- ==== Proof.ScanI.Val8.lean ====
/- What parts of the loop compute. -/
module

public import proofs.«01_k».proof.Proof.ScanI.Rules

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {X : Trip F} {Y : Vec F S8x72x128 .f32} {W : Vec F S1x128x1024 .bf16} (hw : ∀ s, Flag (X.w s))
include hw

theorem val_175 (v500 : BitVec 32) {Φ} (hΦ : Φ (addf (addf (addf (q8 (X.r 3 0)) (q8 (X.r 3 1))) (addf (q8 (X.r 3 2)) (q8 (X.r 3 3)))) (addf (addf (q8 (X.r 3 4)) (q8 (X.r 3 5))) (addf (q8 (X.r 3 6)) (q8 (X.r 3 7))))) (X.at' (X.slab Y 64) (X.yW W 3))) :
    Runs c A (ap A (k0_part175 (F := F) X.i) X.t v500 (addf (addf (addf (q8 (X.r 2 0)) (q8 (X.r 2 1))) (addf (q8 (X.r 2 2)) (q8 (X.r 2 3)))) (addf (addf (q8 (X.r 2 4)) (q8 (X.r 2 5))) (addf (q8 (X.r 2 6)) (q8 (X.r 2 7))))) (divf (extf .f32 (shapeCast S8x128 (X.z 2) shapeCasts_S1x8x128_S8x128) bitsLt_bf16_f32) (addf (broadcast S8x128 (Scalar.ofBits .f32 0x3F800000#32)) (exp2 (mulf (extf .f32 (shapeCast S8x128 (X.z 2) shapeCasts_S1x8x128_S8x128) bitsLt_bf16_f32) (broadcast S8x128 (Named.named κ "neg_log2e" 0xBFB8AA3B#32))))))) Φ (X.at' (X.slab Y 64) (X.yW W 2)) := by
  rw [k0_part175_eq_skeleton]; unfold ap k0_part175_skel
  refine Runs.bind (ld26 (Z := X.k 2) (Trip.e_k (k0_off223_eq X.t)) ?_)
  refine Runs.bind (ld16 rfl ?_)
  refine Runs.bind (Trip.st16 (Trip.e_y (n := 2) (k0_off222_eq X.t) rfl) ?_)
  refine Runs.bind (ld27 (Z := X.r 3 0) (Trip.e_r (j := 3) (i := 0) (by decide) (by decide) rfl) ?_)
  refine Runs.bind (ld27 (Z := X.r 3 1) (Trip.e_r (j := 3) (i := 1) (by decide) (by decide) rfl) ?_)
  refine Runs.bind (ld27 (Z := X.r 3 2) (Trip.e_r (j := 3) (i := 2) (by decide) (by decide) rfl) ?_)
  refine Runs.bind (ld27 (Z := X.r 3 3) (Trip.e_r (j := 3) (i := 3) (by decide) (by decide) rfl) ?_)
  refine Runs.bind (ld27 (Z := X.r 3 4) (Trip.e_r (j := 3) (i := 4) (by decide) (by decide) rfl) ?_)
  refine Runs.bind (ld27 (Z := X.r 3 5) (Trip.e_r (j := 3) (i := 5) (by decide) (by decide) rfl) ?_)
  refine Runs.bind (ld27 (Z := X.r 3 6) (Trip.e_r (j := 3) (i := 6) (by decide) (by decide) rfl) ?_)
  refine Runs.bind (ld27 (Z := X.r 3 7) (Trip.e_r (j := 3) (i := 7) (by decide) (by decide) rfl) ?_)
  exact Runs.pure hΦ

theorem val_176 (v500 : BitVec 32) {Φ} (hΦ : Φ ⟨q8 (X.r 4 0), q8 (X.r 4 1), q8 (X.r 4 2), q8 (X.r 4 3), q8 (X.r 4 4), q8 (X.r 4 5)⟩ (X.at' (X.slab Y 64) (X.yW W 4))) :
    Runs c A (ap A (k0_part176 (F := F) X.i) X.t v500 (addf (addf (addf (q8 (X.r 3 0)) (q8 (X.r 3 1))) (addf (q8 (X.r 3 2)) (q8 (X.r 3 3)))) (addf (addf (q8 (X.r 3 4)) (q8 (X.r 3 5))) (addf (q8 (X.r 3 6)) (q8 (X.r 3 7)))))) Φ (X.at' (X.slab Y 64) (X.yW W 3)) := by
  rw [k0_part176_eq_skeleton]; unfold ap k0_part176_skel
  refine Runs.bind (ld11 (Z := X.z 3) (Trip.e_z (k0_off224_eq X.t)) ?_)
  refine Runs.bind (ld26 (Z := X.k 3) (Trip.e_k (k0_off225_eq X.t)) ?_)
  refine Runs.bind (ld16 rfl ?_)
  refine Runs.bind (Trip.st16 (Trip.e_y (n := 3) (k0_off224_eq X.t) rfl) ?_)
  refine Runs.bind (ld27 (Z := X.r 4 0) (Trip.e_r (j := 4) (i := 0) (by decide) (by decide) rfl) ?_)
  refine Runs.bind (ld27 (Z := X.r 4 1) (Trip.e_r (j := 4) (i := 1) (by decide) (by decide) rfl) ?_)
  refine Runs.bind (ld27 (Z := X.r 4 2) (Trip.e_r (j := 4) (i := 2) (by decide) (by decide) rfl) ?_)
  refine Runs.bind (ld27 (Z := X.r 4 3) (Trip.e_r (j := 4) (i := 3) (by decide) (by decide) rfl) ?_)
  refine Runs.bind (ld27 (Z := X.r 4 4) (Trip.e_r (j := 4) (i := 4) (by decide) (by decide) rfl) ?_)
  refine Runs.bind (ld27 (Z := X.r 4 5) (Trip.e_r (j := 4) (i := 5) (by decide) (by decide) rfl) ?_)
  exact Runs.pure hΦ

theorem val_177 (v500 : BitVec 32) {Φ} (hΦ : Φ ⟨q8 (X.r 5 0), q8 (X.r 5 1), q8 (X.r 5 2)⟩ (X.at' (X.slab Y 64) (X.yW W 5))) :
    Runs c A (ap A (k0_part177 (F := F) X.i) X.t v500 (q8 (X.r 4 0)) (q8 (X.r 4 1)) (q8 (X.r 4 2)) (q8 (X.r 4 3)) (q8 (X.r 4 4)) (q8 (X.r 4 5))) Φ (X.at' (X.slab Y 64) (X.yW W 4)) := by
  rw [k0_part177_eq_skeleton]; unfold ap k0_part177_skel
  refine Runs.bind (ld27 (Z := X.r 4 6) (Trip.e_r (j := 4) (i := 6) (by decide) (by decide) rfl) ?_)
  refine Runs.bind (ld27 (Z := X.r 4 7) (Trip.e_r (j := 4) (i := 7) (by decide) (by decide) rfl) ?_)
  refine Runs.bind (ld11 (Z := X.z 4) (Trip.e_z (k0_off226_eq X.t)) ?_)
  refine Runs.bind (ld26 (Z := X.k 4) (Trip.e_k (k0_off227_eq X.t)) ?_)
  refine Runs.bind (ld16 rfl ?_)
  refine Runs.bind (Trip.st16 (Trip.e_y (n := 4) (k0_off226_eq X.t) rfl) ?_)
  refine Runs.bind (ld27 (Z := X.r 5 0) (Trip.e_r (j := 5) (i := 0) (by decide) (by decide) rfl) ?_)
  refine Runs.bind (ld27 (Z := X.r 5 1) (Trip.e_r (j := 5) (i := 1) (by decide) (by decide) rfl) ?_)
  refine Runs.bind (ld27 (Z := X.r 5 2) (Trip.e_r (j := 5) (i := 2) (by decide) (by decide) rfl) ?_)
  exact Runs.pure hΦ

theorem val_178 (v500 : BitVec 32) {Φ} (hΦ : Φ PUnit.unit (X.at' (X.slab Y 64) (X.yW W 6))) :
    Runs c A (ap A (k0_part178 (F := F) X.i) X.t v500 (q8 (X.r 5 0)) (q8 (X.r 5 1)) (q8 (X.r 5 2))) Φ (X.at' (X.slab Y 64) (X.yW W 5)) := by
  rw [k0_part178_eq_skeleton]; unfold ap k0_part178_skel
  refine Runs.bind (ld27 (Z := X.r 5 3) (Trip.e_r (j := 5) (i := 3) (by decide) (by decide) rfl) ?_)
  refine Runs.bind (ld27 (Z := X.r 5 4) (Trip.e_r (j := 5) (i := 4) (by decide) (by decide) rfl) ?_)
  refine Runs.bind (ld27 (Z := X.r 5 5) (Trip.e_r (j := 5) (i := 5) (by decide) (by decide) rfl) ?_)
  refine Runs.bind (ld27 (Z := X.r 5 6) (Trip.e_r (j := 5) (i := 6) (by decide) (by decide) rfl) ?_)
  refine Runs.bind (ld27 (Z := X.r 5 7) (Trip.e_r (j := 5) (i := 7) (by decide) (by decide) rfl) ?_)
  refine Runs.bind (ld11 (Z := X.z 5) (Trip.e_z (k0_off228_eq X.t)) ?_)
  refine Runs.bind (ld26 (Z := X.k 5) (Trip.e_k (k0_off229_eq X.t)) ?_)
  refine Runs.bind (ld16 rfl ?_)
  refine Runs.bind (Trip.st16 (Trip.e_y (n := 5) (k0_off228_eq X.t) rfl) ?_)
  exact Runs.pure hΦ

theorem val_179 (v500 : BitVec 32) {Φ} (hΦ : Φ ⟨addf (addf (addf (q8 (X.r 6 0)) (q8 (X.r 6 1))) (addf (q8 (X.r 6 2)) (q8 (X.r 6 3)))) (addf (addf (q8 (X.r 6 4)) (q8 (X.r 6 5))) (addf (q8 (X.r 6 6)) (q8 (X.r 6 7)))), extf .f32 (shapeCast S8x128 (X.z 6) shapeCasts_S1x8x128_S8x128) bitsLt_bf16_f32, addf (broadcast S8x128 (Scalar.ofBits .f32 0x3F800000#32)) (exp2 (mulf (extf .f32 (shapeCast S8x128 (X.z 6) shapeCasts_S1x8x128_S8x128) bitsLt_bf16_f32) (broadcast S8x128 (Named.named κ "neg_log2e" 0xBFB8AA3B#32))))⟩ (X.at' (X.slab Y 64) (X.yW W 6))) :
    Runs c A (ap A (k0_part179 (F := F) X.i) X.t v500) Φ (X.at' (X.slab Y 64) (X.yW W 6)) := by
  rw [k0_part179_eq_skeleton]; unfold ap k0_part179_skel
  refine Runs.bind (ld27 (Z := X.r 6 0) (Trip.e_r (j := 6) (i := 0) (by decide) (by decide) rfl) ?_)
  refine Runs.bind (ld27 (Z := X.r 6 1) (Trip.e_r (j := 6) (i := 1) (by decide) (by decide) rfl) ?_)
  refine Runs.bind (ld27 (Z := X.r 6 2) (Trip.e_r (j := 6) (i := 2) (by decide) (by decide) rfl) ?_)
  refine Runs.bind (ld27 (Z := X.r 6 3) (Trip.e_r (j := 6) (i := 3) (by decide) (by decide) rfl) ?_)
  refine Runs.bind (ld27 (Z := X.r 6 4) (Trip.e_r (j := 6) (i := 4) (by decide) (by decide) rfl) ?_)
  refine Runs.bind (ld27 (Z := X.r 6 5) (Trip.e_r (j := 6) (i := 5) (by decide) (by decide) rfl) ?_)
  refine Runs.bind (ld27 (Z := X.r 6 6) (Trip.e_r (j := 6) (i := 6) (by decide) (by decide) rfl) ?_)
  refine Runs.bind (ld27 (Z := X.r 6 7) (Trip.e_r (j := 6) (i := 7) (by decide) (by decide) rfl) ?_)
  refine Runs.bind (ld11 (Z := X.z 6) (Trip.e_z (k0_off230_eq X.t)) ?_)
  exact Runs.pure hΦ

theorem val_180 (v500 : BitVec 32) {Φ} (hΦ : Φ ⟨addf (q8 (X.r 7 0)) (q8 (X.r 7 1)), addf (q8 (X.r 7 2)) (q8 (X.r 7 3)), addf (q8 (X.r 7 4)) (q8 (X.r 7 5)), addf (q8 (X.r 7 6)) (q8 (X.r 7 7))⟩ (X.at' (X.slab Y 64) (X.yW W 7))) :
    Runs c A (ap A (k0_part180 (F := F) X.i) X.t v500 (addf (addf (addf (q8 (X.r 6 0)) (q8 (X.r 6 1))) (addf (q8 (X.r 6 2)) (q8 (X.r 6 3)))) (addf (addf (q8 (X.r 6 4)) (q8 (X.r 6 5))) (addf (q8 (X.r 6 6)) (q8 (X.r 6 7))))) (extf .f32 (shapeCast S8x128 (X.z 6) shapeCasts_S1x8x128_S8x128) bitsLt_bf16_f32) (addf (broadcast S8x128 (Scalar.ofBits .f32 0x3F800000#32)) (exp2 (mulf (extf .f32 (shapeCast S8x128 (X.z 6) shapeCasts_S1x8x128_S8x128) bitsLt_bf16_f32) (broadcast S8x128 (Named.named κ "neg_log2e" 0xBFB8AA3B#32)))))) Φ (X.at' (X.slab Y 64) (X.yW W 6)) := by
  rw [k0_part180_eq_skeleton]; unfold ap k0_part180_skel
  refine Runs.bind (ld26 (Z := X.k 6) (Trip.e_k (k0_off231_eq X.t)) ?_)
  refine Runs.bind (ld16 rfl ?_)
  refine Runs.bind (Trip.st16 (Trip.e_y (n := 6) (k0_off230_eq X.t) rfl) ?_)
  refine Runs.bind (ld27 (Z := X.r 7 0) (Trip.e_r (j := 7) (i := 0) (by decide) (by decide) rfl) ?_)
  refine Runs.bind (ld27 (Z := X.r 7 1) (Trip.e_r (j := 7) (i := 1) (by decide) (by decide) rfl) ?_)
  refine Runs.bind (ld27 (Z := X.r 7 2) (Trip.e_r (j := 7) (i := 2) (by decide) (by decide) rfl) ?_)
  refine Runs.bind (ld27 (Z := X.r 7 3) (Trip.e_r (j := 7) (i := 3) (by decide) (by decide) rfl) ?_)
  refine Runs.bind (ld27 (Z := X.r 7 4) (Trip.e_r (j := 7) (i := 4) (by decide) (by decide) rfl) ?_)
  refine Runs.bind (ld27 (Z := X.r 7 5) (Trip.e_r (j := 7) (i := 5) (by decide) (by decide) rfl) ?_)
  refine Runs.bind (ld27 (Z := X.r 7 6) (Trip.e_r (j := 7) (i := 6) (by decide) (by decide) rfl) ?_)
  refine Runs.bind (ld27 (Z := X.r 7 7) (Trip.e_r (j := 7) (i := 7) (by decide) (by decide) rfl) ?_)
  exact Runs.pure hΦ

end Cert.KernelIdeal.Scan

end
-- ==== Proof.ScanI.ValLoop.lean ====
/- What one trip of the loop computes. -/
module

public import proofs.«01_k».proof.Proof.ScanI.Val1
public import proofs.«01_k».proof.Proof.ScanI.Val2
public import proofs.«01_k».proof.Proof.ScanI.Val3
public import proofs.«01_k».proof.Proof.ScanI.Val4
public import proofs.«01_k».proof.Proof.ScanI.Val5
public import proofs.«01_k».proof.Proof.ScanI.Val6
public import proofs.«01_k».proof.Proof.ScanI.Val7
public import proofs.«01_k».proof.Proof.ScanI.Val8

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {X : Trip F} {Y : Vec F S8x72x128 .f32} {W : Vec F S1x128x1024 .bf16} (hw : ∀ s, Flag (X.w s))
include hw

theorem val_181 (arg1 : BitVec 32) (c0_i32_245 : BitVec 32) (c1_i32 : BitVec 32) {Φ} (hΦ : ∀ b0 b1, Φ ⟨b0, X.h 4 0 6, X.h 4 1 6, X.h 5 0 6, X.h 5 1 6, X.h 6 0 6, X.h 6 1 6, X.h 7 0 6, X.h 7 1 6, b1, X.w 6, (chk7_of_flag (hw 6)), X.h 0 0 7, X.h 0 1 7, X.h 1 0 7, X.h 1 1 7, X.h 2 0 7, X.h 2 1 7, X.h 3 0 7, X.h 3 1 7, rw8 (X.d 4 6), rw8 (X.u 4 6), X.a 4 0 6⟩ (X.at' (X.slab Y 52) (X.yW W 0))) :
    Runs c A (ap A (k0_part181 (F := F) X.i) arg1 c0_i32_245 c1_i32 X.t (X.h 0 0 0) (X.h 0 1 0) (X.h 1 0 0) (X.h 1 1 0) (X.h 2 0 0) (X.h 2 1 0) (X.h 3 0 0) (X.h 3 1 0) (X.h 4 0 0) (X.h 4 1 0) (X.h 5 0 0) (X.h 5 1 0) (X.h 6 0 0) (X.h 6 1 0) (X.h 7 0 0) (X.h 7 1 0)) Φ (X.at' (X.slab Y 0) (X.yW W 0)) := by
  rw [k0_part181_eq_skeleton]; unfold ap k0_part181_skel
  refine Runs.bind (val_98 hw _ _ _ ?_)
  intro _ _
  try dsimp only
  refine Runs.bind (val_99 hw _ _ _ ?_)
  try dsimp only
  refine Runs.bind (val_100 hw _ _ _ ?_)
  try dsimp only
  refine Runs.bind (val_101 hw _ _ _ ?_)
  try dsimp only
  refine Runs.bind (val_102 hw _ _ _ ?_)
  try dsimp only
  refine Runs.bind (val_103 hw _ _ _ ?_)
  try dsimp only
  refine Runs.bind (val_104 hw _ _ _ ?_)
  try dsimp only
  refine Runs.bind (val_105 hw _ _ _ ?_)
  try dsimp only
  refine Runs.bind (val_106 hw _ _ _ ?_)
  try dsimp only
  refine Runs.bind (val_107 hw _ _ _ ?_)
  intro _
  try dsimp only
  refine Runs.bind (val_108 hw _ _ _ ?_)
  try dsimp only
  refine Runs.bind (val_109 hw _ _ _ ?_)
  try dsimp only
  refine Runs.bind (val_110 hw _ _ _ ?_)
  try dsimp only
  refine Runs.bind (val_111 hw _ _ _ ?_)
  try dsimp only
  refine Runs.bind (val_112 hw _ _ _ ?_)
  try dsimp only
  refine Runs.bind (val_113 hw _ _ _ ?_)
  try dsimp only
  refine Runs.bind (val_114 hw _ _ _ ?_)
  try dsimp only
  refine Runs.bind (val_115 hw _ _ _ ?_)
  try dsimp only
  refine Runs.bind (val_116 hw _ _ _ ?_)
  intro _
  try dsimp only
  refine Runs.bind (val_117 hw _ _ _ ?_)
  try dsimp only
  refine Runs.bind (val_118 hw _ _ _ ?_)
  try dsimp only
  refine Runs.bind (val_119 hw _ _ _ ?_)
  try dsimp only
  refine Runs.bind (val_120 hw _ _ _ ?_)
  try dsimp only
  refine Runs.bind (val_121 hw _ _ _ ?_)
  try dsimp only
  refine Runs.bind (val_122 hw _ _ _ ?_)
  try dsimp only
  refine Runs.bind (val_123 hw _ _ _ ?_)
  try dsimp only
  refine Runs.bind (val_124 hw _ _ _ ?_)
  try dsimp only
  refine Runs.bind (val_125 hw _ _ _ _ ?_)
  intro _
  try dsimp only
  refine Runs.bind (val_126 hw _ _ _ ?_)
  try dsimp only
  refine Runs.bind (val_127 hw _ _ _ ?_)
  try dsimp only
  refine Runs.bind (val_128 hw _ _ _ ?_)
  try dsimp only
  refine Runs.bind (val_129 hw _ _ _ ?_)
  try dsimp only
  refine Runs.bind (val_130 hw _ _ _ ?_)
  try dsimp only
  refine Runs.bind (val_131 hw _ _ _ ?_)
  try dsimp only
  refine Runs.bind (val_132 hw _ _ _ ?_)
  try dsimp only
  refine Runs.bind (val_133 hw _ _ _ ?_)
  try dsimp only
  refine Runs.bind (val_134 hw _ _ _ _ ?_)
  intro _
  try dsimp only
  refine Runs.bind (val_135 hw _ _ _ ?_)
  try dsimp only
  refine Runs.bind (val_136 hw _ _ _ ?_)
  try dsimp only
  refine Runs.bind (val_137 hw _ _ _ ?_)
  try dsimp only
  refine Runs.bind (val_138 hw _ _ _ ?_)
  try dsimp only
  refine Runs.bind (val_139 hw _ _ _ ?_)
  try dsimp only
  refine Runs.bind (val_140 hw _ _ _ ?_)
  try dsimp only
  refine Runs.bind (val_141 hw _ _ _ ?_)
  try dsimp only
  refine Runs.bind (val_142 hw _ _ _ ?_)
  try dsimp only
  refine Runs.bind (val_143 hw _ _ _ _ ?_)
  intro _
  try dsimp only
  refine Runs.bind (val_144 hw _ _ _ ?_)
  try dsimp only
  refine Runs.bind (val_145 hw _ _ _ ?_)
  try dsimp only
  refine Runs.bind (val_146 hw _ _ _ ?_)
  try dsimp only
  refine Runs.bind (val_147 hw _ _ _ ?_)
  try dsimp only
  refine Runs.bind (val_148 hw _ _ _ ?_)
  try dsimp only
  refine Runs.bind (val_149 hw _ _ _ ?_)
  try dsimp only
  refine Runs.bind (val_150 hw _ _ _ ?_)
  try dsimp only
  refine Runs.bind (val_151 hw _ _ _ ?_)
  try dsimp only
  refine Runs.bind (val_152 hw _ _ _ ?_)
  try dsimp only
  refine Runs.bind (val_153 hw _ _ ?_)
  intro _
  try dsimp only
  refine Runs.bind (val_154 hw _ _ _ ?_)
  try dsimp only
  refine Runs.bind (val_155 hw _ _ _ ?_)
  try dsimp only
  refine Runs.bind (val_156 hw _ _ _ ?_)
  try dsimp only
  refine Runs.bind (val_157 hw _ _ _ ?_)
  try dsimp only
  exact Runs.pure (hΦ _ _)

theorem val_loop (arg1 : BitVec 32) (v419 : FVec F S128x128 .f32) {Φ} (hΦ : Φ (X.h 0 0 8, X.h 0 1 8, X.h 1 0 8, X.h 1 1 8, X.h 2 0 8, X.h 2 1 8, X.h 3 0 8, X.h 3 1 8, X.h 4 0 8, X.h 4 1 8, X.h 5 0 8, X.h 5 1 8, X.h 6 0 8, X.h 6 1 8, X.h 7 0 8, X.h 7 1 8) (X.at' (X.slab Y 64) (X.yW W 8))) :
    Runs c A (ap A (k0_t1_body (F := F) X.i) arg1 v419 X.t (X.g 0 0, X.g 0 1, X.g 1 0, X.g 1 1, X.g 2 0, X.g 2 1, X.g 3 0, X.g 3 1, X.g 4 0, X.g 4 1, X.g 5 0, X.g 5 1, X.g 6 0, X.g 6 1, X.g 7 0, X.g 7 1)) Φ (X.at' Y W) := by
  unfold ap k0_t1_body
  dsimp only
  refine Runs.bind (val_181 hw _ _ _ ?_)
  intro _ _
  dsimp only
  refine Runs.bind (val_158 hw _ _ _ ?_)
  try dsimp only
  refine Runs.bind (val_159 hw _ _ _ ?_)
  try dsimp only
  refine Runs.bind (val_160 hw _ _ _ ?_)
  try dsimp only
  refine Runs.bind (val_161 hw _ _ _ ?_)
  try dsimp only
  refine Runs.bind (val_162 hw _ _ _ ?_)
  intro _
  try dsimp only
  refine Runs.bind (val_163 hw _ _ _ ?_)
  try dsimp only
  refine Runs.bind (val_164 hw _ _ _ ?_)
  try dsimp only
  refine Runs.bind (val_165 hw _ _ _ ?_)
  try dsimp only
  refine Runs.bind (val_166 hw _ _ _ ?_)
  try dsimp only
  refine Runs.bind (val_167 hw _ _ _ ?_)
  try dsimp only
  refine Runs.bind (val_168 hw _ _ _ ?_)
  try dsimp only
  refine Runs.bind (val_169 hw _ _ _ ?_)
  try dsimp only
  refine Runs.bind (val_170 hw _ _ _ ?_)
  try dsimp only
  refine Runs.bind (val_171 hw _ _ ?_)
  try dsimp only
  refine Runs.bind (val_172 hw _ ?_)
  try dsimp only
  refine Runs.bind (val_173 hw _ ?_)
  try dsimp only
  refine Runs.bind (val_174 hw _ ?_)
  try dsimp only
  refine Runs.bind (val_175 hw _ ?_)
  try dsimp only
  refine Runs.bind (val_176 hw _ ?_)
  try dsimp only
  refine Runs.bind (val_177 hw _ ?_)
  try dsimp only
  refine Runs.bind (val_178 hw _ ?_)
  try dsimp only
  refine Runs.bind (val_179 hw _ ?_)
  try dsimp only
  refine Runs.bind (val_180 hw _ ?_)
  try dsimp only
  refine Runs.bind (ld11 (Z := X.z 7) (Trip.e_z (k0_off232_eq X.t)) ?_)
  refine Runs.bind (ld26 (Z := X.k 7) (Trip.e_k (k0_off233_eq X.t)) ?_)
  refine Runs.bind (ld16 rfl ?_)
  refine Runs.bind (Trip.st16 (Trip.e_y (n := 7) (k0_off232_eq X.t) rfl) ?_)
  exact Runs.pure hΦ

end Cert.KernelIdeal.Scan

end
-- ==== Proof.ScanI.For.lean ====
/- What the loop computes. -/
module

public import proofs.«01_k».proof.Proof.ScanI.TileDefs
public import proofs.«01_k».proof.Proof.ScanI.ValLoop

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {S : St F} {i : grid0.Coords} {g : ℕ → ℕ → FVec F S8x128 .f32}

/-- The contents when the loop is over. -/
def lpS (S : St F) (i : grid0.Coords) (Y : Vec F S8x72x128 .f32) (t : ℕ) : St F := { S with x27 := Y, x16 := yo S i t }

theorem val_for (hF : ∀ x, Flag (S.x2 x)) (arg1 : BitVec 32) (v419 : FVec F S128x128 .f32) {Φ}
    (hΦ : ∀ Y, Φ ((lp S i k0_t1_loop.trips 0 0, lp S i k0_t1_loop.trips 0 1, lp S i k0_t1_loop.trips 1 0, lp S i k0_t1_loop.trips 1 1, lp S i k0_t1_loop.trips 2 0, lp S i k0_t1_loop.trips 2 1, lp S i k0_t1_loop.trips 3 0, lp S i k0_t1_loop.trips 3 1, lp S i k0_t1_loop.trips 4 0, lp S i k0_t1_loop.trips 4 1, lp S i k0_t1_loop.trips 5 0, lp S i k0_t1_loop.trips 5 1, lp S i k0_t1_loop.trips 6 0, lp S i k0_t1_loop.trips 6 1, lp S i k0_t1_loop.trips 7 0, lp S i k0_t1_loop.trips 7 1)) (lpS S i Y k0_t1_loop.trips)) :
    Runs c A (Scf.Loop.for k0_t1_loop k0_t1_ok (k0_pay1078 (F := F), k0_pay1078 (F := F), k0_pay1078 (F := F), k0_pay1078 (F := F), k0_pay1078 (F := F), k0_pay1078 (F := F), k0_pay1078 (F := F), k0_pay1078 (F := F), k0_pay1078 (F := F), k0_pay1078 (F := F), k0_pay1078 (F := F), k0_pay1078 (F := F), k0_pay1078 (F := F), k0_pay1078 (F := F), k0_pay1078 (F := F), k0_pay1078 (F := F)) (ap A (k0_t1_body (F := F) i) arg1 v419)) Φ S := by
  refine Runs.for (fun t acc s => acc = ((lp S i t 0 0, lp S i t 0 1, lp S i t 1 0, lp S i t 1 1, lp S i t 2 0, lp S i t 2 1, lp S i t 3 0, lp S i t 3 1, lp S i t 4 0, lp S i t 4 1, lp S i t 5 0, lp S i t 5 1, lp S i t 6 0, lp S i t 6 1, lp S i t 7 0, lp S i t 7 1)) ∧ ∃ Y, s = lpS S i Y t) ⟨rfl, S.x27, rfl⟩ ?_ ?_
  · rintro k acc s ⟨rfl, Y, rfl⟩
    have ht : k.val < k0_t1_loop.trips := k.isLt
    let X : Trip F := ⟨S, i, ⟨k.val, ht⟩, lp S i k.val⟩
    refine val_loop (X := X) (Y := Y) (W := yo S i k.val) (fun s => hF _) arg1 v419 ⟨?_, X.slab Y 64, ?_⟩
    · have e : lp S i (k.val + 1) = fun j q => X.h j q 8 := dif_pos ht
      rw [e]
    · have e : yo S i (k.val + 1) = X.yW (yo S i k.val) 8 := dif_pos ht
      unfold lpS
      rw [e]
      rfl
  · rintro acc s ⟨rfl, Y, rfl⟩
    exact hΦ Y

end Cert.KernelIdeal.Scan

end
-- ==== Proof.ScanI.Tiles2.lean ====
/- What one grid point computes. -/
module

public import proofs.«01_k».proof.Proof.ScanI.Tiles1
public import proofs.«01_k».proof.Proof.ScanI.For

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {S : St F} {i : grid0.Coords} {g : ℕ → ℕ → FVec F S8x128 .f32}

theorem val_194 (hF : ∀ x, Flag (S.x2 x)) (arg1 : BitVec 32) {Φ} (hΦ : ∀ Y, ∀ g, g = lp (tilS S i 8 8 8) i k0_t1_loop.trips → Φ ⟨g 2 1, g 3 0, g 3 1, g 4 0, g 4 1, g 5 0, g 5 1, g 6 0, g 6 1, g 7 0, g 7 1⟩ (houS (lpS (tilS S i 8 8 8) i Y k0_t1_loop.trips) g 5)) :
    Runs c A (ap A (k0_part194 (F := F) i) arg1 (dl S i 7)) Φ (tilS S i 7 8 8) := by
  rw [k0_part194_eq_skeleton]; unfold ap k0_part194_skel
  refine Runs.bind (ld20 (Z := pf S i) (tile_eq (k0_off1_eq i)) ?_)
  refine Runs.bind (ld24 rfl ?_)
  refine Runs.bind (Til.st24 (t := 8) (e_D 7) ?_)
  refine Runs.bind (val_for (S := tilS S i 8 8 8) (by exact hF) arg1 (dl S i 7) ?_)
  intro Y
  have hΦ := hΦ Y _ rfl
  generalize lp (tilS S i 8 8 8) i k0_t1_loop.trips = g at hΦ ⊢
  generalize lpS (tilS S i 8 8 8) i Y k0_t1_loop.trips = T at hΦ ⊢
  change Runs c A _ Φ (houS T g 0)
  dsimp only
  refine Runs.bind (ld17 rfl ?_)
  refine Runs.bind (Hou.st17 (t := 1) (e_H 0 0 0 rfl rfl) ?_)
  refine Runs.bind (ld17 rfl ?_)
  refine Runs.bind (Hou.st17 (t := 2) (e_H 1 8 0 rfl rfl) ?_)
  refine Runs.bind (ld17 rfl ?_)
  refine Runs.bind (Hou.st17 (t := 3) (e_H 2 0 128 rfl rfl) ?_)
  refine Runs.bind (ld17 rfl ?_)
  refine Runs.bind (Hou.st17 (t := 4) (e_H 3 8 128 rfl rfl) ?_)
  refine Runs.bind (ld17 rfl ?_)
  refine Runs.bind (Hou.st17 (t := 5) (e_H 4 0 256 rfl rfl) ?_)
  exact Runs.pure hΦ

theorem val_195 {Φ} (hΦ : ∀ b0, Φ (b0) (houS S g 13)) :
    Runs c A (ap A (k0_part195 (F := F) i) (g 2 1) (g 3 0) (g 3 1) (g 4 0) (g 4 1) (g 5 0) (g 5 1) (g 6 0)) Φ (houS S g 5) := by
  rw [k0_part195_eq_skeleton]; unfold ap k0_part195_skel
  refine Runs.bind (ld17 rfl ?_)
  refine Runs.bind (Hou.st17 (t := 6) (e_H 5 8 256 rfl rfl) ?_)
  refine Runs.bind (ld17 rfl ?_)
  refine Runs.bind (Hou.st17 (t := 7) (e_H 6 0 384 rfl rfl) ?_)
  refine Runs.bind (ld17 rfl ?_)
  refine Runs.bind (Hou.st17 (t := 8) (e_H 7 8 384 rfl rfl) ?_)
  refine Runs.bind (ld17 rfl ?_)
  refine Runs.bind (Hou.st17 (t := 9) (e_H 8 0 512 rfl rfl) ?_)
  refine Runs.bind (ld17 rfl ?_)
  refine Runs.bind (Hou.st17 (t := 10) (e_H 9 8 512 rfl rfl) ?_)
  refine Runs.bind (ld17 rfl ?_)
  refine Runs.bind (Hou.st17 (t := 11) (e_H 10 0 640 rfl rfl) ?_)
  refine Runs.bind (ld17 rfl ?_)
  refine Runs.bind (Hou.st17 (t := 12) (e_H 11 8 640 rfl rfl) ?_)
  refine Runs.bind (ld17 rfl ?_)
  refine Runs.bind (Hou.st17 (t := 13) (e_H 12 0 768 rfl rfl) ?_)
  refine Runs.bind (ld17 rfl ?_)
  exact Runs.pure (hΦ _)

end Cert.KernelIdeal.Scan

end
-- ==== Proof.ScanI.Body.lean ====
/- What one grid point computes. -/
module

public import proofs.«01_k».proof.Proof.ScanI.Tiles2
public import proofs.«01_k».proof.Proof.ScanI.Ini

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable {c : Dev nD} {A : Args} {S : St F} {i : grid0.Coords} {g : ℕ → ℕ → FVec F S8x128 .f32}

/-- Whether the preparation runs here; whether the decay tables are made here. -/
def c1 (i : grid0.Coords) : BitVec 1 := Scalar.cmpi .ne (Scalar.extui (Scalar.andi (Scalar.cmpi .eq (BitVec.ofNat 32 (i 0).val) 0#32) (Scalar.cmpi .eq (BitVec.ofNat 32 (i 1).val) 0#32)) : BitVec 32) 0#32
def c2 (i : grid0.Coords) : BitVec 1 := Scalar.cmpi .ne (Scalar.extui (Scalar.cmpi .eq (BitVec.ofNat 32 (i 1).val) 0#32) : BitVec 32) 0#32
def fst (S : St F) (i : grid0.Coords) : St F := if c1 i = 1#1 then iniS S 2 2 2 256 256 else S
def sA (S : St F) : Vec F S2x16x1024 .f32 := put (put S.x23 S1x16x1024.size ![0, 0, 0] (k0_pay1028 (tile S.x12 S16x1024.size ![0, 0]))) S1x16x1024.size ![1, 0, 0] k0_pay1029
def snd (S : St F) (i : grid0.Coords) : St F := if c2 i = 1#1 then { S with x23 := sA S } else S

theorem val_182 {Φ} (hΦ : ∀ b0, Φ ⟨b0, dl (snd (fst S i) i) i 0, tx (snd (fst S i) i) 0⟩ (snd (fst S i) i)) :
    Runs c A (ap A (k0_part182 (F := F) i)) Φ S := by
  rw [k0_part182_eq_skeleton]; unfold ap k0_part182_skel
  dsimp only
  split
  · rename_i h
    rw [show fst S i = iniS S 2 2 2 256 256 from if_pos h] at hΦ
    change Runs c A _ _ (iniS S 0 0 0 0 0)
    refine Runs.bind (val_97 ?_)
    dsimp only
    refine Runs.bind (val_61 ?_)
    try dsimp only
    refine Runs.bind (val_62 ?_)
    try dsimp only
    refine Runs.bind (val_63 ?_)
    try dsimp only
    refine Runs.bind (val_64 ?_)
    try dsimp only
    refine Runs.bind (val_65 ?_)
    try dsimp only
    refine Runs.bind (val_66 ?_)
    try dsimp only
    refine Runs.bind (val_67 ?_)
    intro _
    try dsimp only
    refine Runs.bind (val_68 _ ?_)
    try dsimp only
    refine Runs.bind (val_69 ?_)
    try dsimp only
    refine Runs.bind (val_70 ?_)
    try dsimp only
    refine Runs.bind (val_71 ?_)
    try dsimp only
    refine Runs.bind (val_72 ?_)
    try dsimp only
    refine Runs.bind (val_73 ?_)
    try dsimp only
    refine Runs.bind (val_74 ?_)
    try dsimp only
    refine Runs.bind (val_75 ?_)
    try dsimp only
    refine Runs.bind (val_76 ?_)
    intro _
    try dsimp only
    refine Runs.bind (val_77 _ ?_)
    try dsimp only
    refine Runs.bind (val_78 ?_)
    try dsimp only
    refine Runs.bind (val_79 ?_)
    try dsimp only
    refine Runs.bind (val_80 ?_)
    try dsimp only
    refine Runs.bind (val_81 ?_)
    try dsimp only
    refine Runs.bind (val_82 ?_)
    try dsimp only
    refine Runs.bind (val_83 ?_)
    try dsimp only
    refine Runs.bind (val_84 ?_)
    try dsimp only
    refine Runs.bind (val_85 ?_)
    try dsimp only
    refine Runs.bind (val_86 ?_)
    try dsimp only
    refine Runs.bind (val_87 ?_)
    intro _
    try dsimp only
    refine Runs.bind (val_88 _ ?_)
    try dsimp only
    refine Runs.bind (val_89 ?_)
    try dsimp only
    refine Runs.bind (val_90 ?_)
    try dsimp only
    refine Runs.bind (val_91 ?_)
    try dsimp only
    refine Runs.bind (val_92 ?_)
    try dsimp only
    refine Runs.bind (val_93 ?_)
    try dsimp only
    refine Runs.bind (val_94 ?_)
    try dsimp only
    refine Runs.bind (val_95 ?_)
    try dsimp only
    refine Runs.bind (val_96 ?_)
    try dsimp only
    refine Runs.bind (Ini.st22 (t := 256) (e_C 255 1 127 rfl (by decide) (h := slices_S16x128_o0_127_S16x1)) ?_)
    generalize iniS S 2 2 2 256 256 = S at hΦ ⊢
    try dsimp only
    split
    · rename_i h
      have e : snd S i = { S with x23 := sA S } := if_pos h
      rw [e] at hΦ
      refine Runs.bind (ld12 (Z := tile S.x12 S16x1024.size ![0, 0]) (tile_eq rfl) ?_)
      refine Runs.bind (ld23 rfl ?_)
      refine Runs.bind (st23 (put_eq rfl) ?_)
      refine Runs.bind (ld23 rfl ?_)
      refine Runs.bind (st23 (Z := sA S) (put_eq rfl) ?_)
      generalize ({ S with x23 := sA S } : St F) = S at hΦ ⊢
      refine Runs.bind (ld14 (Z := bi S 0) (tile_eq rfl) ?_)
      refine Runs.bind (ld5 (Z := td S 0) (tile_eq rfl) ?_)
      refine Runs.bind (ld19 (Z := pd S i) (tile_eq (k0_off1_eq i)) ?_)
      refine Runs.bind (ld3 (Z := tx S 0) (tile_eq rfl) ?_)
      exact Runs.pure (hΦ _)
    · rename_i h
      rw [show snd S i = S from if_neg h] at hΦ
      refine Runs.bind (ld14 (Z := bi S 0) (tile_eq rfl) ?_)
      refine Runs.bind (ld5 (Z := td S 0) (tile_eq rfl) ?_)
      refine Runs.bind (ld19 (Z := pd S i) (tile_eq (k0_off1_eq i)) ?_)
      refine Runs.bind (ld3 (Z := tx S 0) (tile_eq rfl) ?_)
      exact Runs.pure (hΦ _)
  · rename_i h
    rw [show fst S i = S from if_neg h] at hΦ
    try dsimp only
    split
    · rename_i h
      have e : snd S i = { S with x23 := sA S } := if_pos h
      rw [e] at hΦ
      refine Runs.bind (ld12 (Z := tile S.x12 S16x1024.size ![0, 0]) (tile_eq rfl) ?_)
      refine Runs.bind (ld23 rfl ?_)
      refine Runs.bind (st23 (put_eq rfl) ?_)
      refine Runs.bind (ld23 rfl ?_)
      refine Runs.bind (st23 (Z := sA S) (put_eq rfl) ?_)
      generalize ({ S with x23 := sA S } : St F) = S at hΦ ⊢
      refine Runs.bind (ld14 (Z := bi S 0) (tile_eq rfl) ?_)
      refine Runs.bind (ld5 (Z := td S 0) (tile_eq rfl) ?_)
      refine Runs.bind (ld19 (Z := pd S i) (tile_eq (k0_off1_eq i)) ?_)
      refine Runs.bind (ld3 (Z := tx S 0) (tile_eq rfl) ?_)
      exact Runs.pure (hΦ _)
    · rename_i h
      rw [show snd S i = S from if_neg h] at hΦ
      refine Runs.bind (ld14 (Z := bi S 0) (tile_eq rfl) ?_)
      refine Runs.bind (ld5 (Z := td S 0) (tile_eq rfl) ?_)
      refine Runs.bind (ld19 (Z := pd S i) (tile_eq (k0_off1_eq i)) ?_)
      refine Runs.bind (ld3 (Z := tx S 0) (tile_eq rfl) ?_)
      exact Runs.pure (hΦ _)

/-- The contents one grid point leaves, the slab aside. -/
def endS (S : St F) (i : grid0.Coords) (Y : Vec F S8x72x128 .f32) : St F :=
  houS (lpS (tilS (snd (fst S i) i) i 8 8 8) i Y k0_t1_loop.trips) (lp (tilS (snd (fst S i) i) i 8 8 8) i k0_t1_loop.trips) 16

theorem fst_x2 (S : St F) (i : grid0.Coords) : (fst S i).x2 = S.x2 := by unfold fst; split <;> rfl
theorem snd_x2 (S : St F) (i : grid0.Coords) : (snd S i).x2 = S.x2 := by unfold snd; split <;> rfl

theorem val_body (hF : ∀ x, Flag (S.x2 x)) {Φ} (hΦ : ∀ Y, Φ PUnit.unit (endS S i Y)) :
    Runs c A (ap A (cc0_body (F := F) i)) Φ S := by
  rw [cc0_body_eq_skeleton]; unfold ap cc0_body_skel
  refine Runs.bind (val_182 ?_)
  intro _
  have hF' : ∀ x, Flag ((snd (fst S i) i).x2 x) := fun x => by rw [snd_x2, fst_x2]; exact hF x
  unfold endS at hΦ
  generalize snd (fst S i) i = S at hΦ hF' ⊢
  change Runs c A _ Φ (tilS S i 0 0 0)
  dsimp only
  refine Runs.bind (val_183 _ ?_)
  try dsimp only
  refine Runs.bind (val_184 _ ?_)
  try dsimp only
  refine Runs.bind (val_185 _ ?_)
  try dsimp only
  refine Runs.bind (val_186 _ ?_)
  try dsimp only
  refine Runs.bind (val_187 _ ?_)
  try dsimp only
  refine Runs.bind (val_188 _ ?_)
  try dsimp only
  refine Runs.bind (val_189 _ ?_)
  try dsimp only
  refine Runs.bind (val_190 _ ?_)
  try dsimp only
  refine Runs.bind (val_191 _ ?_)
  try dsimp only
  refine Runs.bind (val_192 _ ?_)
  try dsimp only
  refine Runs.bind (val_193 _ ?_)
  try dsimp only
  refine Runs.bind (val_194 hF' _ ?_)
  rintro Y g rfl
  have hΦ := hΦ Y
  generalize lp (tilS S i 8 8 8) i k0_t1_loop.trips = g at hΦ ⊢
  generalize lpS (tilS S i 8 8 8) i Y k0_t1_loop.trips = T at hΦ ⊢
  dsimp only
  refine Runs.bind (val_195 ?_)
  intro _
  try dsimp only
  refine Runs.bind (Hou.st17 (t := 14) (e_H 13 8 768 rfl rfl) ?_)
  refine Runs.bind (ld17 rfl ?_)
  refine Runs.bind (Hou.st17 (t := 15) (e_H 14 0 896 rfl rfl) ?_)
  refine Runs.bind (ld17 rfl ?_)
  refine Runs.bind (Hou.st17 (t := 16) (e_H 15 8 896 rfl rfl) ?_)
  exact Runs.pure hΦ

end Cert.KernelIdeal.Scan

end
-- ==== Proof.ScanI.Spec.lean ====
/- What the call computes, element by element. -/
module

public import proofs.«01_k».proof.Proof.ScanI.Body

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The values, element by element, as functions of the argument arrays -/

/-- The arrays the one call reads. -/
structure In (F : FTy → Type) where
  fl : Vec F S2x128 .i32
  x : Vec F S2x128x8192 .fp8e4m3
  xs : Vec F S2x128 .f32
  dt : Vec F S2x128x8192 .fp8e4m3
  ds : Vec F S2x128 .f32
  B : Vec F S2x128x16 .fp8e4m3
  Bs : Vec F S2x128 .f32
  C : Vec F S2x128x16 .fp8e4m3
  Cs : Vec F S2x128 .f32
  z : Vec F S2x128x8192 .bf16
  A : Vec F S16x8192 .f32
  Dv : Vec F S1x8192 .f32
  bi : Vec F S1x8192 .f32
  fs : Vec F S2x128 .i32

instance : Pos S2x128x8192 := ⟨by decide⟩
instance : Pos S16x8192 := ⟨by decide⟩
instance : Pos S1x8192 := ⟨by decide⟩
instance : Pos S1x128x16 := ⟨by decide⟩
instance : Pos S1x128x128 := ⟨by decide⟩
instance : Pos S1x1x16x128 := ⟨by decide⟩
instance : Pos S1x1x8x128 := ⟨by decide⟩
instance : Pos S1x1x128 := ⟨by decide⟩
instance : Pos S128x16 := ⟨by decide⟩
instance : Pos S16x1 := ⟨by decide⟩
instance : Pos S2x16x8192 := ⟨by decide⟩

/-- The zero, the one, the decay table's second plane. -/
def f0 : F .f32 := Scalar.ofBits .f32 0x00000000#32
def f1 : F .f32 := Scalar.ofBits .f32 0x3F800000#32

/-- Softplus as the call computes it. -/
def softp (v : F .f32) : F .f32 :=
  let e : F .f32 := FloatOps.exp2 (FloatOps.mulf (FloatOps.subf f0 (FloatOps.absf v)) (Named.named κ "log2e" 0x3FB8AA3B#32))
  let w : F .f32 := FloatOps.addf f1 e
  FloatOps.addf (FloatOps.maximumf v f0) (FloatOps.addf (FloatOps.log w) (FloatOps.subf e (FloatOps.subf w f1)))

/-- The gate. -/
def gateV (z : F .bf16) : F .f32 :=
  let v : F .f32 := FloatOps.extf .f32 bitsLt_bf16_f32 z
  FloatOps.divf v (FloatOps.addf f1 (FloatOps.exp2 (FloatOps.mulf v (Named.named κ "neg_log2e" 0xBFB8AA3B#32))))

namespace In

variable (I : In F)

/-- `x` and the step with their scales multiplied in. -/
def xf (b t ch : ℕ) : F .f32 := FloatOps.mulf (FloatOps.extf .f32 bitsLt_fp8e4m3_f32 (I.x (pt ![b, t, ch]))) (I.xs (pt ![b, t]))
def dl (b t ch : ℕ) : F .f32 :=
  softp (FloatOps.addf (FloatOps.mulf (FloatOps.extf .f32 bitsLt_fp8e4m3_f32 (I.dt (pt ![b, t, ch]))) (I.ds (pt ![b, t]))) (I.bi (pt ![0, ch])))
def u (b t ch : ℕ) : F .f32 := FloatOps.mulf (I.dl b t ch) (I.xf b t ch)
def sk (b t ch : ℕ) : F .f32 := FloatOps.mulf (I.Dv (pt ![0, ch])) (I.xf b t ch)
/-- The flag as a number; the step the decay uses. -/
def fg (b t : ℕ) : F .f32 := FloatOps.sitofp .f32 (I.fs (pt ![b, t]))
def dd (b t ch : ℕ) : F .f32 := Scalar.select (FloatOps.cmpf .ogt (I.fg b t) f0) f1 (I.dl b t ch)
def Bf (b t n : ℕ) : F .f32 := FloatOps.mulf (FloatOps.extf .f32 bitsLt_fp8e4m3_f32 (I.B (pt ![b, t, n]))) (I.Bs (pt ![b, t]))
def Cf (b t n : ℕ) : F .f32 := FloatOps.mulf (FloatOps.extf .f32 bitsLt_fp8e4m3_f32 (I.C (pt ![b, t, n]))) (I.Cs (pt ![b, t]))
/-- The decay table: the first plane, and the second, which resets. -/
def at0 (n ch : ℕ) : F .f32 := FloatOps.mulf (FloatOps.subf f0 (FloatOps.exp (I.A (pt ![n, ch])))) (Named.named κ "log2e" 0x3FB8AA3B#32)
def at1 (w n ch : ℕ) : F .f32 := if w % 2 = 0 then I.at0 n ch else Named.named κ "reset_mask" 0xFF61B1E6#32

/-- The state before token `t`. -/
def h (b n ch : ℕ) : ℕ → F .f32
  | 0 => f0
  | t + 1 => FloatOps.addf (FloatOps.mulf (FloatOps.exp2 (FloatOps.mulf (I.dd b t ch) (I.at1 (I.fl (pt ![b, t])).toNat n ch))) (h b n ch t)) (FloatOps.mulf (I.Bf b t n) (I.u b t ch))

/-- Two halves' products with `C`. -/
def P (b t ch i : ℕ) : F .f32 :=
  FloatOps.addf (FloatOps.mulf (I.h b i ch (t + 1)) (I.Cf b t i)) (FloatOps.mulf (I.h b (8 + i) ch (t + 1)) (I.Cf b t (8 + i)))

/-- The output. -/
def y (b t ch : ℕ) : F .bf16 :=
  FloatOps.truncf .bf16 bitsLt_bf16_f32 (FloatOps.mulf (FloatOps.addf (FloatOps.addf
    (FloatOps.addf (FloatOps.addf (I.P b t ch 0) (I.P b t ch 1)) (FloatOps.addf (I.P b t ch 2) (I.P b t ch 3)))
    (FloatOps.addf (FloatOps.addf (I.P b t ch 4) (I.P b t ch 5)) (FloatOps.addf (I.P b t ch 6) (I.P b t ch 7)))) (I.sk b t ch)) (gateV (I.z (pt ![b, t, ch]))))

/-! ## The contents of the scratch buffers -/

def cX : Vec F S2x128x128 .f32 := fun x => I.xs (pt ![(x 0).val, (x 1).val])
def cD : Vec F S2x128x128 .f32 := fun x => I.ds (pt ![(x 0).val, (x 1).val])
def cF : Vec F S2x128x128 .f32 := fun x => I.fg (x 0).val (x 1).val
def cB : Vec F S2x128x16x128 .f32 := fun x => I.Bf (x 0).val (x 1).val (x 2).val
def cC : Vec F S2x128x16x128 .f32 := fun x => I.Cf (x 0).val (x 1).val (x 2).val
def cA (ci : ℕ) : Vec F S2x16x1024 .f32 := fun x => I.at1 (x 0).val (x 1).val (1024 * ci + (x 2).val)
def yB (ci b : ℕ) : Vec F S1x128x1024 .bf16 := fun x => I.y b (x 1).val (1024 * ci + (x 2).val)
def hB (ci b : ℕ) : Vec F S1x16x1024 .f32 := fun x => I.h b (x 1).val (1024 * ci + (x 2).val) 128

/-- The contents a grid point reads are the arrays' parts there. -/
structure Reads (ci b : ℕ) (S : St F) : Prop where
  h2 : S.x2 = I.fl
  h3 : S.x3 = fun x => I.x (pt ![b, (x 1).val, 1024 * ci + (x 2).val])
  h4 : S.x4 = I.xs
  h5 : S.x5 = fun x => I.dt (pt ![b, (x 1).val, 1024 * ci + (x 2).val])
  h6 : S.x6 = I.ds
  h7 : S.x7 = I.B
  h8 : S.x8 = I.Bs
  h9 : S.x9 = I.C
  h10 : S.x10 = I.Cs
  h11 : S.x11 = fun x => I.z (pt ![b, (x 1).val, 1024 * ci + (x 2).val])
  h12 : S.x12 = fun x => I.A (pt ![(x 0).val, 1024 * ci + (x 1).val])
  h13 : S.x13 = fun x => I.Dv (pt ![0, 1024 * ci + (x 1).val])
  h14 : S.x14 = fun x => I.bi (pt ![0, 1024 * ci + (x 1).val])
  h15 : S.x15 = I.fs

/-- The five prepared buffers. -/
structure Prep (S : St F) : Prop where
  h18 : S.x18 = I.cX
  h19 : S.x19 = I.cD
  h20 : S.x20 = I.cF
  h21 : S.x21 = I.cB
  h22 : S.x22 = I.cC

end In

end Cert.KernelIdeal.Scan

end
-- ==== Proof.ScanI.Reads.lean ====
/- Reading the shape operations at an element. -/
module

public import proofs.«01_k».proof.Proof.ScanI.Spec

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem put_hit {s : Shape} {α : Type} {X : s.Idx → α} {sz o : Fin s.rank → ℕ} {v : (⟨s.rank, sz⟩ : Shape).Idx → α} {x : s.Idx} (y : (⟨s.rank, sz⟩ : Shape).Idx)
    (h : ∀ a, (x a).val = o a + (y a).val) : put X sz o v x = v y := by
  have hy : ∀ a, (y a).val < sz a := fun a => (y a).isLt
  unfold put
  rw [dif_pos fun a => by have := h a; have := hy a; omega]
  exact congrArg v (funext fun a => Fin.ext (by have := h a; show (x a).val - o a = _; omega))

theorem put_miss {s : Shape} {α : Type} {X : s.Idx → α} {sz o : Fin s.rank → ℕ} {v : (⟨s.rank, sz⟩ : Shape).Idx → α} {x : s.Idx} (a : Fin s.rank)
    (h : (x a).val < o a ∨ o a + sz a ≤ (x a).val) : put X sz o v x = X x := by
  unfold put
  rw [dif_neg fun hh => by have := hh a; omega]

/-! ## Reading the shape operations -/

theorem ptx {s : Shape} [Pos s] {α : Type} (v : s.Idx → α) {o : Fin s.rank → ℕ} {x : s.Idx} (h : ∀ a, o a = (x a).val) : v x = v (pt o) :=
  congrArg v (pt_eq h).symm

theorem ax2 {p : Fin 2 → Prop} (h0 : p 0) (h1 : p 1) : ∀ a, p a := fun a => match a with | ⟨0, _⟩ => h0 | ⟨1, _⟩ => h1
theorem ax3 {p : Fin 3 → Prop} (h0 : p 0) (h1 : p 1) (h2 : p 2) : ∀ a, p a := fun a => match a with | ⟨0, _⟩ => h0 | ⟨1, _⟩ => h1 | ⟨2, _⟩ => h2
theorem ax4 {p : Fin 4 → Prop} (h0 : p 0) (h1 : p 1) (h2 : p 2) (h3 : p 3) : ∀ a, p a :=
  fun a => match a with | ⟨0, _⟩ => h0 | ⟨1, _⟩ => h1 | ⟨2, _⟩ => h2 | ⟨3, _⟩ => h3

section
variable {α : Type}
theorem rd_add (v : S128x128.Idx → α) (h) (x : S1x128x128.Idx) : shapeCast S1x128x128 v h x = v (pt ![(x 1).val, (x 2).val]) :=
  (shapeCast_addUnit_apply _ v h x).trans (ptx v (ax2 rfl rfl))
theorem rd_add8 (v : S8x128.Idx → α) (h) (x : S1x8x128.Idx) : shapeCast S1x8x128 v h x = v (pt ![(x 1).val, (x 2).val]) :=
  (shapeCast_addUnit_apply _ v h x).trans (ptx v (ax2 rfl rfl))
theorem rd_addA (v : S16x1024.Idx → α) (h) (x : S1x16x1024.Idx) : shapeCast S1x16x1024 v h x = v (pt ![(x 1).val, (x 2).val]) :=
  (shapeCast_addUnit_apply _ v h x).trans (ptx v (ax2 rfl rfl))
theorem rd_drop (v : S1x128x128.Idx → α) (h) (x : S128x128.Idx) : shapeCast S128x128 v h x = v (pt ![0, (x 0).val, (x 1).val]) :=
  (shapeCast_dropUnit_apply _ v h x).trans (ptx v (ax3 rfl rfl rfl))
theorem rd_drop8 (v : S1x8x128.Idx → α) (h) (x : S8x128.Idx) : shapeCast S8x128 v h x = v (pt ![0, (x 0).val, (x 1).val]) :=
  (shapeCast_dropUnit_apply _ v h x).trans (ptx v (ax3 rfl rfl rfl))
theorem rd_dropR (v : S1x1x128.Idx → α) (h) (x : S1x128.Idx) : shapeCast S1x128 v h x = v (pt ![0, (x 0).val, (x 1).val]) :=
  (shapeCast_dropUnit_apply _ v h x).trans (ptx v (ax3 rfl rfl rfl))
theorem rd_drop16 (v : S1x128x16.Idx → α) (h) (x : S128x16.Idx) : shapeCast S128x16 v h x = v (pt ![0, (x 0).val, (x 1).val]) :=
  (shapeCast_dropUnit_apply _ v h x).trans (ptx v (ax3 rfl rfl rfl))
theorem rd_drop4 (v : S1x1x8x128.Idx → α) (h) (x : S8x128.Idx) : shapeCast S8x128 v h x = v (pt ![0, 0, (x 0).val, (x 1).val]) :=
  shapeCast_apply v h x _ (by
    have h0 : (x 0).val < 8 := (x 0).isLt
    have h1 : (x 1).val < 128 := (x 1).isLt
    show Shape.rankPi ![1, 1, 8, 128] _ = Shape.rankPi ![8, 128] _
    simp [Shape.rankPi, pt]
    rw [Nat.mod_eq_of_lt h0, Nat.mod_eq_of_lt h1])
theorem rd_addC (v : S16x128.Idx → α) (h) (x : S1x1x16x128.Idx) : shapeCast S1x1x16x128 v h x = v (pt ![(x 2).val, (x 3).val]) :=
  shapeCast_apply v h x _ (by
    have h0 : (x 0).val < 1 := (x 0).isLt
    have h1 : (x 1).val < 1 := (x 1).isLt
    have h2 : (x 2).val < 16 := (x 2).isLt
    have h3 : (x 3).val < 128 := (x 3).isLt
    show Shape.rankPi ![16, 128] _ = Shape.rankPi ![1, 1, 16, 128] _
    simp [Shape.rankPi, pt]
    rw [Nat.mod_eq_of_lt h2, Nat.mod_eq_of_lt h3, Nat.lt_one_iff.mp h0, Nat.lt_one_iff.mp h1]
    simp)
theorem rd_bc (v : S1x128.Idx → α) (h) (x : S128x128.Idx) : broadcastTo S128x128 v h x = v (pt ![0, (x 1).val]) :=
  broadcastTo_apply v h x _ (ax2 rfl (pt_val (x 1).isLt))
theorem rd_bc16 (v : S1x128.Idx → α) (h) (x : S16x128.Idx) : broadcastTo S16x128 v h x = v (pt ![0, (x 1).val]) :=
  broadcastTo_apply v h x _ (ax2 rfl (pt_val (x 1).isLt))
theorem rd_bc8 (v : S1x128.Idx → α) (h) (x : S8x128.Idx) : broadcastTo S8x128 v h x = v (pt ![0, (x 1).val]) :=
  broadcastTo_apply v h x _ (ax2 rfl (pt_val (x 1).isLt))
theorem rd_bcC (v : S16x1.Idx → α) (h) (x : S16x128.Idx) : broadcastTo S16x128 v h x = v (pt ![(x 0).val, 0]) :=
  broadcastTo_apply v h x _ (ax2 (pt_val (x 0).isLt) rfl)
theorem rd_tr (v : S128x128.Idx → α) (h) (x : S128x128.Idx) : transpose S128x128 [1, 0] v h x = v (pt ![(x 1).val, (x 0).val]) :=
  transpose_apply _ v h x _ (ax2 (pt_val (s := S128x128) (o := ![(x 1).val, (x 0).val]) (a := 1) (x 0).isLt) (pt_val (s := S128x128) (o := ![(x 1).val, (x 0).val]) (a := 0) (x 1).isLt))
theorem rd_tr16 (v : S128x16.Idx → α) (h) (x : S16x128.Idx) : transpose S16x128 [1, 0] v h x = v (pt ![(x 1).val, (x 0).val]) :=
  transpose_apply _ v h x _ (ax2 (pt_val (s := S128x16) (o := ![(x 1).val, (x 0).val]) (a := 1) (x 0).isLt) (pt_val (s := S128x16) (o := ![(x 1).val, (x 0).val]) (a := 0) (x 1).isLt))
theorem rd_col (v : S16x128.Idx → α) (n : ℕ) (h) (x : S16x1.Idx) : extractStridedSlice S16x1 ![0, n] v h x = v (pt ![(x 0).val, n]) :=
  extractStridedSlice_apply _ v h x _ (by
    have hn : n < 128 := by have := h.2 1; simp at this; omega
    have h1 : (x 1).val < 1 := (x 1).isLt
    refine ax2 ?_ ?_
    · show (x 0).val % 16 = 0 + (x 0).val
      have : (x 0).val < 16 := (x 0).isLt
      omega
    · show n % 128 = n + (x 1).val
      omega)
end

end Cert.KernelIdeal.Scan

end
-- ==== Proof.ScanI.Cover.lean ====
/- The prepared buffers, element by element. -/
module

public import proofs.«01_k».proof.Proof.ScanI.Reads

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem pt_congr {s : Shape} [Pos s] {o o' : Fin s.rank → ℕ} (h : ∀ a, o a % s.size a = o' a % s.size a) : pt (s := s) o = pt o' :=
  funext fun a => Fin.ext (h a)

variable {I : In F} {ci b : ℕ} {S : St F} {i : grid0.Coords}

theorem pay4_at (v : Vec F S1x128 .f32) (x : S1x128x128.Idx) : k0_pay4 v x = v (pt ![0, (x 1).val]) := by
  unfold k0_pay4
  dsimp only
  rw [rd_add, rd_tr, rd_bc, shapeCast_self]
  exact congrArg v (pt_congr (ax2 rfl (by show ((x 1).val % 128) % 128 % 128 = (x 1).val % 128; omega)))
theorem pay5_at (v : Vec F S1x128 .f32) (x : S1x128x128.Idx) : k0_pay5 v x = v (pt ![0, (x 1).val]) := by
  unfold k0_pay5
  dsimp only
  rw [rd_add, rd_tr, rd_bc, shapeCast_self]
  exact congrArg v (pt_congr (ax2 rfl (by show ((x 1).val % 128) % 128 % 128 = (x 1).val % 128; omega)))
theorem pay6_at (v : Vec F S1x128 .i32) (x : S1x128x128.Idx) : k0_pay6 v x = FloatOps.sitofp .f32 (v (pt ![0, (x 1).val])) := by
  unfold k0_pay6
  dsimp only
  rw [rd_add, rd_tr, rd_bc, shapeCast_self, shapeCast_self]
  exact congrArg (fun q => FloatOps.sitofp .f32 (v q)) (pt_congr (ax2 rfl (by show ((x 1).val % 128) % 128 % 128 = (x 1).val % 128; omega)))
theorem pay7_at (v : Vec F S1x128x16 .fp8e4m3) (w : Vec F S1x128 .f32) (x : S16x128.Idx) :
    k0_pay7 v w x = FloatOps.mulf (FloatOps.extf .f32 bitsLt_fp8e4m3_f32 (v (pt ![0, (x 1).val, (x 0).val]))) (w (pt ![0, (x 1).val])) := by
  unfold k0_pay7
  show FloatOps.mulf (transpose S16x128 [1, 0] (extf .f32 (shapeCast S128x16 v shapeCasts_S1x128x16_S128x16) bitsLt_fp8e4m3_f32) transposes_S128x16_p1_0_S16x128 x)
    (broadcastTo S16x128 w broadcasts_S1x128_S16x128 x) = _
  rw [rd_tr16, rd_bc16]
  unfold extf
  rw [rd_drop16]
  refine congrArg (fun q => FloatOps.mulf (FloatOps.extf .f32 bitsLt_fp8e4m3_f32 (v q)) (w (pt ![0, (x 1).val]))) (pt_congr (ax3 rfl ?_ ?_))
  · show ((x 1).val % 128) % 128 = (x 1).val % 128; omega
  · show ((x 0).val % 16) % 16 = (x 0).val % 16; omega
theorem colOf_at (f : FVec F S16x128 .f32) (n : ℕ) (hn : n < 128) (x : S1x1x16x128.Idx) : colOf f n x = f (pt ![(x 2).val, n]) := by
  have hs : S16x128.Slices ![0, n] S16x1 := ⟨rfl, ax2 (by show 0 + 16 ≤ 16; omega) (by show n + 1 ≤ 128; omega)⟩
  unfold colOf
  rw [dif_pos hs, rd_addC, rd_bcC, shapeCast_self, rd_col]
  exact congrArg f (pt_congr (ax2 (by show ((x 2).val % 16) % 16 % 16 = (x 2).val % 16; omega) rfl))

/-! ## The prepared buffers, whole -/

theorem sx_at (hr : I.Reads ci b S) : ∀ n ≤ 2, ∀ x : S2x128x128.Idx, (x 0).val < n → sx S n x = I.cX x
  | 0, _, x, h => absurd h (by omega)
  | n + 1, hn, x, h => by
    unfold sx
    by_cases h0 : (x 0).val = n
    · rw [put_hit (pt (s := S1x128x128) ![0, (x 1).val, (x 2).val]) (ax3 (by show (x 0).val = n + 0 % 1; omega)
        (by show (x 1).val = 0 + (x 1).val % 128; have : (x 1).val < 128 := (x 1).isLt; omega) (by show (x 2).val = 0 + (x 2).val % 128; have : (x 2).val < 128 := (x 2).isLt; omega)), pay4_at]
      unfold rx tile In.cX
      rw [hr.h4]
      refine congrArg I.xs (pt_congr (ax2 ?_ ?_))
      · show (n + 0 % 1) % 2 = (x 0).val % 2; omega
      · show (0 + ((x 1).val % 128) % 128) % 128 = (x 1).val % 128; omega
    · rw [put_miss 0 (by show (x 0).val < n ∨ n + 1 ≤ (x 0).val; omega)]
      exact sx_at hr n (by omega) x (by omega)
theorem sd_at (hr : I.Reads ci b S) : ∀ n ≤ 2, ∀ x : S2x128x128.Idx, (x 0).val < n → sd S n x = I.cD x
  | 0, _, x, h => absurd h (by omega)
  | n + 1, hn, x, h => by
    unfold sd
    by_cases h0 : (x 0).val = n
    · rw [put_hit (pt (s := S1x128x128) ![0, (x 1).val, (x 2).val]) (ax3 (by show (x 0).val = n + 0 % 1; omega)
        (by show (x 1).val = 0 + (x 1).val % 128; have : (x 1).val < 128 := (x 1).isLt; omega) (by show (x 2).val = 0 + (x 2).val % 128; have : (x 2).val < 128 := (x 2).isLt; omega)), pay5_at]
      unfold rd tile In.cD
      rw [hr.h6]
      refine congrArg I.ds (pt_congr (ax2 ?_ ?_))
      · show (n + 0 % 1) % 2 = (x 0).val % 2; omega
      · show (0 + ((x 1).val % 128) % 128) % 128 = (x 1).val % 128; omega
    · rw [put_miss 0 (by show (x 0).val < n ∨ n + 1 ≤ (x 0).val; omega)]
      exact sd_at hr n (by omega) x (by omega)
theorem sf_at (hr : I.Reads ci b S) : ∀ n ≤ 2, ∀ x : S2x128x128.Idx, (x 0).val < n → sf S n x = I.cF x
  | 0, _, x, h => absurd h (by omega)
  | n + 1, hn, x, h => by
    unfold sf
    by_cases h0 : (x 0).val = n
    · rw [put_hit (pt (s := S1x128x128) ![0, (x 1).val, (x 2).val]) (ax3 (by show (x 0).val = n + 0 % 1; omega)
        (by show (x 1).val = 0 + (x 1).val % 128; have : (x 1).val < 128 := (x 1).isLt; omega) (by show (x 2).val = 0 + (x 2).val % 128; have : (x 2).val < 128 := (x 2).isLt; omega)), pay6_at]
      unfold rf tile In.cF In.fg
      rw [hr.h15]
      refine congrArg (fun q => FloatOps.sitofp .f32 (I.fs q)) (pt_congr (ax2 ?_ ?_))
      · show (n + 0 % 1) % 2 = (x 0).val % 2; omega
      · show (0 + ((x 1).val % 128) % 128) % 128 = (x 1).val % 128; omega
    · rw [put_miss 0 (by show (x 0).val < n ∨ n + 1 ≤ (x 0).val; omega)]
      exact sf_at hr n (by omega) x (by omega)

theorem tB_at (hr : I.Reads ci b S) (a n t : ℕ) (ha : a < 2) (hn : n < 16) (ht : t < 128) : tB S a (pt ![n, t]) = I.Bf a t n := by
  unfold tB
  rw [pay7_at]
  unfold mB rB tile In.Bf
  rw [hr.h7, hr.h8]
  refine congrArg₂ (fun p q => FloatOps.mulf (FloatOps.extf .f32 bitsLt_fp8e4m3_f32 (I.B p)) (I.Bs q)) (pt_congr (ax3 ?_ ?_ ?_)) (pt_congr (ax2 ?_ ?_))
  · show (a + 0 % 1) % 2 = a % 2; omega
  · show (0 + t % 128 % 128) % 128 = t % 128; omega
  · show (0 + n % 16 % 16) % 16 = n % 16; omega
  · show (a + 0 % 1) % 2 = a % 2; omega
  · show (0 + t % 128 % 128) % 128 = t % 128; omega
theorem sB_at (hr : I.Reads ci b S) : ∀ n ≤ 256, ∀ x : S2x128x16x128.Idx, 128 * (x 0).val + (x 1).val < n → sB S n x = I.cB x
  | 0, _, x, h => absurd h (by omega)
  | n + 1, hn, x, h => by
    have h1 : (x 1).val < 128 := (x 1).isLt
    have h2 : (x 2).val < 16 := (x 2).isLt
    have h3 : (x 3).val < 128 := (x 3).isLt
    unfold sB
    by_cases h0 : 128 * (x 0).val + (x 1).val = n
    · have ea : n / 128 = (x 0).val := by omega
      have eb : n % 128 = (x 1).val := by omega
      rw [ea, eb, put_hit (pt (s := S1x1x16x128) ![0, 0, (x 2).val, (x 3).val]) (ax4 (by show (x 0).val = (x 0).val + 0 % 1; omega) (by show (x 1).val = (x 1).val + 0 % 1; omega)
        (by show (x 2).val = 0 + (x 2).val % 16; omega) (by show (x 3).val = 0 + (x 3).val % 128; omega)), colOf_at _ _ h1]
      have := tB_at hr (x 0).val (x 2).val (x 1).val (x 0).isLt h2 h1
      rw [show (pt (s := S16x128) ![((pt (s := S1x1x16x128) ![0, 0, (x 2).val, (x 3).val]) 2).val, (x 1).val]) = pt ![(x 2).val, (x 1).val] from pt_congr (ax2 (by show (x 2).val % 16 % 16 = (x 2).val % 16; omega) rfl)]
      exact this
    · have : put (sB S n) S1x1x16x128.size ![n / 128, n % 128, 0, 0] (colOf (tB S (n / 128)) (n % 128)) x = sB S n x := by
        by_cases hq : (x 0).val = n / 128
        · exact put_miss 1 (by show (x 1).val < n % 128 ∨ n % 128 + 1 ≤ (x 1).val; omega)
        · exact put_miss 0 (by show (x 0).val < n / 128 ∨ n / 128 + 1 ≤ (x 0).val; omega)
      rw [this]
      exact sB_at hr n (by omega) x (by omega)

theorem tC_at (hr : I.Reads ci b S) (a n t : ℕ) (ha : a < 2) (hn : n < 16) (ht : t < 128) : tC S a (pt ![n, t]) = I.Cf a t n := by
  unfold tC
  rw [pay7_at]
  unfold mC rC tile In.Cf
  rw [hr.h9, hr.h10]
  refine congrArg₂ (fun p q => FloatOps.mulf (FloatOps.extf .f32 bitsLt_fp8e4m3_f32 (I.C p)) (I.Cs q)) (pt_congr (ax3 ?_ ?_ ?_)) (pt_congr (ax2 ?_ ?_))
  · show (a + 0 % 1) % 2 = a % 2; omega
  · show (0 + t % 128 % 128) % 128 = t % 128; omega
  · show (0 + n % 16 % 16) % 16 = n % 16; omega
  · show (a + 0 % 1) % 2 = a % 2; omega
  · show (0 + t % 128 % 128) % 128 = t % 128; omega
theorem sC_at (hr : I.Reads ci b S) : ∀ n ≤ 256, ∀ x : S2x128x16x128.Idx, 128 * (x 0).val + (x 1).val < n → sC S n x = I.cC x
  | 0, _, x, h => absurd h (by omega)
  | n + 1, hn, x, h => by
    have h1 : (x 1).val < 128 := (x 1).isLt
    have h2 : (x 2).val < 16 := (x 2).isLt
    have h3 : (x 3).val < 128 := (x 3).isLt
    unfold sC
    by_cases h0 : 128 * (x 0).val + (x 1).val = n
    · have ea : n / 128 = (x 0).val := by omega
      have eb : n % 128 = (x 1).val := by omega
      rw [ea, eb, put_hit (pt (s := S1x1x16x128) ![0, 0, (x 2).val, (x 3).val]) (ax4 (by show (x 0).val = (x 0).val + 0 % 1; omega) (by show (x 1).val = (x 1).val + 0 % 1; omega)
        (by show (x 2).val = 0 + (x 2).val % 16; omega) (by show (x 3).val = 0 + (x 3).val % 128; omega)), colOf_at _ _ h1]
      have := tC_at hr (x 0).val (x 2).val (x 1).val (x 0).isLt h2 h1
      rw [show (pt (s := S16x128) ![((pt (s := S1x1x16x128) ![0, 0, (x 2).val, (x 3).val]) 2).val, (x 1).val]) = pt ![(x 2).val, (x 1).val] from pt_congr (ax2 (by show (x 2).val % 16 % 16 = (x 2).val % 16; omega) rfl)]
      exact this
    · have : put (sC S n) S1x1x16x128.size ![n / 128, n % 128, 0, 0] (colOf (tC S (n / 128)) (n % 128)) x = sC S n x := by
        by_cases hq : (x 0).val = n / 128
        · exact put_miss 1 (by show (x 1).val < n % 128 ∨ n % 128 + 1 ≤ (x 1).val; omega)
        · exact put_miss 0 (by show (x 0).val < n / 128 ∨ n / 128 + 1 ≤ (x 0).val; omega)
      rw [this]
      exact sC_at hr n (by omega) x (by omega)

theorem iniS_prep (hr : I.Reads ci b S) : I.Prep (iniS S 2 2 2 256 256) where
  h18 := funext fun x => sx_at hr 2 le_rfl x (x 0).isLt
  h19 := funext fun x => sd_at hr 2 le_rfl x (x 0).isLt
  h20 := funext fun x => sf_at hr 2 le_rfl x (x 0).isLt
  h21 := funext fun x => sB_at hr 256 le_rfl x (by have h0 : (x 0).val < 2 := (x 0).isLt; have h1 : (x 1).val < 128 := (x 1).isLt; omega)
  h22 := funext fun x => sC_at hr 256 le_rfl x (by have h0 : (x 0).val < 2 := (x 0).isLt; have h1 : (x 1).val < 128 := (x 1).isLt; omega)

theorem sA_eq (hr : I.Reads ci b S) : sA S = I.cA ci := by
  funext x
  have h0 : (x 0).val < 2 := (x 0).isLt
  have h1 : (x 1).val < 16 := (x 1).isLt
  have h2 : (x 2).val < 1024 := (x 2).isLt
  unfold sA In.cA In.at1
  by_cases hx : (x 0).val = 0
  · rw [put_miss 0 (Or.inl (by show (x 0).val < 1; omega)), put_hit (pt (s := S1x16x1024) ![0, (x 1).val, (x 2).val]) (ax3 (by show (x 0).val = 0 + 0 % 1; omega)
        (by show (x 1).val = 0 + (x 1).val % 16; omega) (by show (x 2).val = 0 + (x 2).val % 1024; omega)), if_pos (by omega)]
    unfold k0_pay1028
    simp only [rd_addA, shapeCast_self]
    unfold tile In.at0
    rw [hr.h12]
    refine congrArg (fun q => FloatOps.mulf (FloatOps.subf f0 (FloatOps.exp (I.A q))) (Named.named κ "log2e" 0x3FB8AA3B#32)) (pt_congr (ax2 ?_ ?_))
    · show (0 + (x 1).val % 16 % 16) % 16 % 16 = (x 1).val % 16; omega
    · show (1024 * ci + (0 + (x 2).val % 1024 % 1024) % 1024) % 8192 = (1024 * ci + (x 2).val) % 8192
      rw [show (0 + (x 2).val % 1024 % 1024) % 1024 = (x 2).val by omega]
  · rw [put_hit (pt (s := S1x16x1024) ![0, (x 1).val, (x 2).val]) (ax3 (by show (x 0).val = 1 + 0 % 1; omega)
        (by show (x 1).val = 0 + (x 1).val % 16; omega) (by show (x 2).val = 0 + (x 2).val % 1024; omega)), if_neg (by omega)]
    unfold k0_pay1029
    simp only [rd_addA]
    rfl

end Cert.KernelIdeal.Scan

end
-- ==== Proof.ScanI.Vals.lean ====
/- What a grid point leaves, element by element. -/
module

public import proofs.«01_k».proof.Proof.ScanI.Cover

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable {I : In F} {ci b : ℕ} {S : St F} {i : grid0.Coords}

/-! ## The tile buffers, whole -/

theorem pay1030_at (v8 : Vec F S1x128 .f32) (v10 : Vec F S1x128x128 .fp8e4m3) (v14 : Vec F S1x128x128 .f32) (x : S128x128.Idx) :
    k0_pay1030 v8 v10 v14 x = softp (FloatOps.addf (FloatOps.mulf (FloatOps.extf .f32 bitsLt_fp8e4m3_f32 (v10 (pt ![0, (x 0).val, (x 1).val]))) (v14 (pt ![0, (x 0).val, (x 1).val])))
      (v8 (pt ![0, (x 1).val]))) := by
  change softp (FloatOps.addf (FloatOps.mulf (FloatOps.extf .f32 bitsLt_fp8e4m3_f32 (shapeCast S128x128 v10 shapeCasts_S1x128x128_S128x128 x)) (shapeCast S128x128 v14 shapeCasts_S1x128x128_S128x128 x))
    (broadcastTo S128x128 (shapeCast S1x128 v8 shapeCasts_S1x128_S1x128) broadcasts_S1x128_S128x128 x)) = _
  rw [rd_drop, rd_drop, rd_bc, shapeCast_self]
theorem pay1031_at (v10 : Vec F S1x128x128 .fp8e4m3) (v14 : Vec F S1x128x128 .f32) (x : S128x128.Idx) :
    k0_pay1031 v10 v14 x = FloatOps.mulf (FloatOps.extf .f32 bitsLt_fp8e4m3_f32 (v10 (pt ![0, (x 0).val, (x 1).val]))) (v14 (pt ![0, (x 0).val, (x 1).val])) := by
  change (FloatOps.mulf (FloatOps.extf .f32 bitsLt_fp8e4m3_f32 (shapeCast S128x128 v10 shapeCasts_S1x128x128_S128x128 x)) (shapeCast S128x128 v14 shapeCasts_S1x128x128_S128x128 x)) = _
  rw [rd_drop, rd_drop]
theorem pay1032_at (f : FVec F S128x128 .f32) (v10 : Vec F S1x128x128 .fp8e4m3) (v14 : Vec F S1x128x128 .f32) (x : S1x128x128.Idx) :
    k0_pay1032 f v10 v14 x = FloatOps.mulf (f (pt ![(x 1).val, (x 2).val])) (k0_pay1031 v10 v14 (pt ![(x 1).val, (x 2).val])) := by
  unfold k0_pay1032
  dsimp only
  rw [rd_add]
  rfl
theorem pay1033_at (v10 : Vec F S1x128x128 .fp8e4m3) (v14 : Vec F S1x128x128 .f32) (w : Vec F S1x128 .f32) (x : S1x128x128.Idx) :
    k0_pay1033 v10 v14 w x = FloatOps.mulf (w (pt ![0, (x 2).val])) (k0_pay1031 v10 v14 (pt ![(x 1).val, (x 2).val])) := by
  unfold k0_pay1033
  dsimp only
  rw [rd_add]
  change FloatOps.mulf (broadcastTo S128x128 (shapeCast S1x128 w shapeCasts_S1x128_S1x128) broadcasts_S1x128_S128x128 _) _ = _
  rw [rd_bc, shapeCast_self]
  exact congrArg (fun q => FloatOps.mulf (w q) _) (pt_congr (ax2 rfl (by show (x 2).val % 128 % 128 = (x 2).val % 128; omega)))
theorem pay1034_at (f : FVec F S128x128 .f32) (v : Vec F S1x128x128 .f32) (x : S1x128x128.Idx) :
    k0_pay1034 f v x = Scalar.select (FloatOps.cmpf .ogt (v (pt ![0, (x 1).val, (x 2).val])) f0) f1 (f (pt ![(x 1).val, (x 2).val])) := by
  unfold k0_pay1034
  dsimp only
  rw [rd_add]
  change Scalar.select (FloatOps.cmpf .ogt (shapeCast S128x128 v shapeCasts_S1x128x128_S128x128 _) f0) f1 _ = _
  rw [rd_drop]
  exact congrArg (fun q => Scalar.select (FloatOps.cmpf .ogt (v q) f0) f1 _) (pt_congr (ax3 rfl (by show (x 1).val % 128 % 128 = (x 1).val % 128; omega) (by show (x 2).val % 128 % 128 = (x 2).val % 128; omega)))

/-- What the tiles read. -/
theorem tx_at (hr : I.Reads ci b S) (j : ℕ) (hj : j < 8) (x : S1x128x128.Idx) : tx S j x = I.x (pt ![b, (x 1).val, 1024 * ci + 128 * j + (x 2).val]) := by
  have h1 : (x 1).val < 128 := (x 1).isLt
  have h2 : (x 2).val < 128 := (x 2).isLt
  unfold tx tile
  rw [hr.h3]
  refine congrArg I.x (pt_congr (ax3 rfl ?_ ?_))
  · show ((0 + (x 1).val) % 128) % 128 = (x 1).val % 128; omega
  · show (1024 * ci + (128 * j + (x 2).val) % 1024) % 8192 = (1024 * ci + 128 * j + (x 2).val) % 8192
    rw [Nat.mod_eq_of_lt (show 128 * j + (x 2).val < 1024 by omega), Nat.add_assoc]
theorem td_at (hr : I.Reads ci b S) (j : ℕ) (hj : j < 8) (x : S1x128x128.Idx) : td S j x = I.dt (pt ![b, (x 1).val, 1024 * ci + 128 * j + (x 2).val]) := by
  have h1 : (x 1).val < 128 := (x 1).isLt
  have h2 : (x 2).val < 128 := (x 2).isLt
  unfold td tile
  rw [hr.h5]
  refine congrArg I.dt (pt_congr (ax3 rfl ?_ ?_))
  · show ((0 + (x 1).val) % 128) % 128 = (x 1).val % 128; omega
  · show (1024 * ci + (128 * j + (x 2).val) % 1024) % 8192 = (1024 * ci + 128 * j + (x 2).val) % 8192
    rw [Nat.mod_eq_of_lt (show 128 * j + (x 2).val < 1024 by omega), Nat.add_assoc]
theorem tD_at (hr : I.Reads ci b S) (j : ℕ) (hj : j < 8) (x : S1x128.Idx) : tD S j x = I.Dv (pt ![0, 1024 * ci + 128 * j + (x 1).val]) := by
  have h1 : (x 1).val < 128 := (x 1).isLt
  unfold tD tile
  rw [hr.h13]
  refine congrArg I.Dv (pt_congr (ax2 rfl ?_))
  show (1024 * ci + (128 * j + (x 1).val) % 1024) % 8192 = (1024 * ci + 128 * j + (x 1).val) % 8192
  rw [Nat.mod_eq_of_lt (show 128 * j + (x 1).val < 1024 by omega), Nat.add_assoc]
theorem bi_at (hr : I.Reads ci b S) (j : ℕ) (hj : j < 8) (x : S1x128.Idx) : bi S j x = I.bi (pt ![0, 1024 * ci + 128 * j + (x 1).val]) := by
  have h1 : (x 1).val < 128 := (x 1).isLt
  unfold bi tile
  rw [hr.h14]
  refine congrArg I.bi (pt_congr (ax2 rfl ?_))
  show (1024 * ci + (128 * j + (x 1).val) % 1024) % 8192 = (1024 * ci + 128 * j + (x 1).val) % 8192
  rw [Nat.mod_eq_of_lt (show 128 * j + (x 1).val < 1024 by omega), Nat.add_assoc]
theorem px_at (hp : I.Prep S) (hi : (i 1).val = b) (x : S1x128x128.Idx) : px S i x = I.xs (pt ![b, (x 1).val]) := by
  have h0 : (x 0).val < 1 := (x 0).isLt
  unfold px tile
  rw [hp.h18, hi]
  refine congrArg I.xs (pt_congr (ax2 ?_ ?_))
  · show (b + (x 0).val) % 2 % 2 = b % 2; omega
  · show (0 + (x 1).val) % 128 % 128 = (x 1).val % 128; omega
theorem pd_at (hp : I.Prep S) (hi : (i 1).val = b) (x : S1x128x128.Idx) : pd S i x = I.ds (pt ![b, (x 1).val]) := by
  have h0 : (x 0).val < 1 := (x 0).isLt
  unfold pd tile
  rw [hp.h19, hi]
  refine congrArg I.ds (pt_congr (ax2 ?_ ?_))
  · show (b + (x 0).val) % 2 % 2 = b % 2; omega
  · show (0 + (x 1).val) % 128 % 128 = (x 1).val % 128; omega
theorem pf_at (hp : I.Prep S) (hi : (i 1).val = b) (x : S1x128x128.Idx) : pf S i x = I.fg b (x 1).val := by
  have h0 : (x 0).val < 1 := (x 0).isLt
  unfold pf tile
  rw [hp.h20, hi]
  refine congrArg (fun q => FloatOps.sitofp .f32 (I.fs q)) (pt_congr (ax2 ?_ ?_))
  · show (b + (x 0).val) % 2 % 2 = b % 2; omega
  · show (0 + (x 1).val) % 128 % 128 = (x 1).val % 128; omega

theorem dl_at (hr : I.Reads ci b S) (hp : I.Prep S) (hi : (i 1).val = b) (j t l : ℕ) (hj : j < 8) (ht : t < 128) (hl : l < 128) :
    dl S i j (pt ![t, l]) = I.dl b t (1024 * ci + 128 * j + l) := by
  have e1 : ((pt (s := S128x128) ![t, l]) 0).val = t := pt_val (s := S128x128) (a := 0) (o := ![t, l]) ht
  have e2 : ((pt (s := S128x128) ![t, l]) 1).val = l := pt_val (s := S128x128) (a := 1) (o := ![t, l]) hl
  have e3 : ((pt (s := S1x128x128) ![0, t, l]) 1).val = t := pt_val (s := S1x128x128) (a := 1) (o := ![0, t, l]) ht
  have e4 : ((pt (s := S1x128x128) ![0, t, l]) 2).val = l := pt_val (s := S1x128x128) (a := 2) (o := ![0, t, l]) hl
  have e5 : ((pt (s := S1x128) ![0, l]) 1).val = l := pt_val (s := S1x128) (a := 1) (o := ![0, l]) hl
  unfold dl
  rw [pay1030_at, e1, e2, td_at hr j hj, pd_at hp hi, bi_at hr j hj, e3, e4, e5]
  rfl
theorem xf_at (hr : I.Reads ci b S) (hp : I.Prep S) (hi : (i 1).val = b) (j t l : ℕ) (hj : j < 8) (ht : t < 128) (hl : l < 128) :
    k0_pay1031 (tx S j) (px S i) (pt ![t, l]) = I.xf b t (1024 * ci + 128 * j + l) := by
  have e1 : ((pt (s := S128x128) ![t, l]) 0).val = t := pt_val (s := S128x128) (a := 0) (o := ![t, l]) ht
  have e2 : ((pt (s := S128x128) ![t, l]) 1).val = l := pt_val (s := S128x128) (a := 1) (o := ![t, l]) hl
  have e3 : ((pt (s := S1x128x128) ![0, t, l]) 1).val = t := pt_val (s := S1x128x128) (a := 1) (o := ![0, t, l]) ht
  have e4 : ((pt (s := S1x128x128) ![0, t, l]) 2).val = l := pt_val (s := S1x128x128) (a := 2) (o := ![0, t, l]) hl
  rw [pay1031_at, e1, e2, tx_at hr j hj, px_at hp hi, e3, e4]
  rfl

theorem sU_at (hr : I.Reads ci b S) (hp : I.Prep S) (hi : (i 1).val = b) : ∀ n ≤ 8, ∀ x : S8x128x128.Idx, (x 0).val < n → sU S i n x = I.u b (x 1).val (1024 * ci + 128 * (x 0).val + (x 2).val)
  | 0, _, x, h => absurd h (by omega)
  | n + 1, hn, x, h => by
    have h1 : (x 1).val < 128 := (x 1).isLt
    have h2 : (x 2).val < 128 := (x 2).isLt
    unfold sU
    by_cases h0 : (x 0).val = n
    · have e3 : ((pt (s := S1x128x128) ![0, (x 1).val, (x 2).val]) 1).val = (x 1).val := pt_val (s := S1x128x128) (a := 1) (o := ![0, (x 1).val, (x 2).val]) h1
      have e4 : ((pt (s := S1x128x128) ![0, (x 1).val, (x 2).val]) 2).val = (x 2).val := pt_val (s := S1x128x128) (a := 2) (o := ![0, (x 1).val, (x 2).val]) h2
      rw [put_hit (pt (s := S1x128x128) ![0, (x 1).val, (x 2).val]) (ax3 (by show (x 0).val = n + 0 % 1; omega)
        (by show (x 1).val = 0 + (x 1).val % 128; omega) (by show (x 2).val = 0 + (x 2).val % 128; omega)), pay1032_at, e3, e4, dl_at hr hp hi n _ _ (by omega) h1 h2, xf_at hr hp hi n _ _ (by omega) h1 h2]
      rw [h0]
      rfl
    · rw [put_miss 0 (by show (x 0).val < n ∨ n + 1 ≤ (x 0).val; omega)]
      exact sU_at hr hp hi n (by omega) x (by omega)

theorem sK_at (hr : I.Reads ci b S) (hp : I.Prep S) (hi : (i 1).val = b) : ∀ n ≤ 8, ∀ x : S8x128x128.Idx, (x 0).val < n → sK S i n x = I.sk b (x 1).val (1024 * ci + 128 * (x 0).val + (x 2).val)
  | 0, _, x, h => absurd h (by omega)
  | n + 1, hn, x, h => by
    have h1 : (x 1).val < 128 := (x 1).isLt
    have h2 : (x 2).val < 128 := (x 2).isLt
    unfold sK
    by_cases h0 : (x 0).val = n
    · have e3 : ((pt (s := S1x128x128) ![0, (x 1).val, (x 2).val]) 1).val = (x 1).val := pt_val (s := S1x128x128) (a := 1) (o := ![0, (x 1).val, (x 2).val]) h1
      have e4 : ((pt (s := S1x128x128) ![0, (x 1).val, (x 2).val]) 2).val = (x 2).val := pt_val (s := S1x128x128) (a := 2) (o := ![0, (x 1).val, (x 2).val]) h2
      rw [put_hit (pt (s := S1x128x128) ![0, (x 1).val, (x 2).val]) (ax3 (by show (x 0).val = n + 0 % 1; omega)
        (by show (x 1).val = 0 + (x 1).val % 128; omega) (by show (x 2).val = 0 + (x 2).val % 128; omega)), pay1033_at, e3, e4, tD_at hr n (by omega), xf_at hr hp hi n _ _ (by omega) h1 h2]
      rw [show ((pt (s := S1x128) ![0, (x 2).val]) 1).val = (x 2).val from pt_val (s := S1x128) (a := 1) (o := ![0, (x 2).val]) h2]
      rw [h0]
      rfl
    · rw [put_miss 0 (by show (x 0).val < n ∨ n + 1 ≤ (x 0).val; omega)]
      exact sK_at hr hp hi n (by omega) x (by omega)

theorem sD_at (hr : I.Reads ci b S) (hp : I.Prep S) (hi : (i 1).val = b) : ∀ n ≤ 8, ∀ x : S8x128x128.Idx, (x 0).val < n → sD S i n x = I.dd b (x 1).val (1024 * ci + 128 * (x 0).val + (x 2).val)
  | 0, _, x, h => absurd h (by omega)
  | n + 1, hn, x, h => by
    have h1 : (x 1).val < 128 := (x 1).isLt
    have h2 : (x 2).val < 128 := (x 2).isLt
    unfold sD
    by_cases h0 : (x 0).val = n
    · have e3 : ((pt (s := S1x128x128) ![0, (x 1).val, (x 2).val]) 1).val = (x 1).val := pt_val (s := S1x128x128) (a := 1) (o := ![0, (x 1).val, (x 2).val]) h1
      have e4 : ((pt (s := S1x128x128) ![0, (x 1).val, (x 2).val]) 2).val = (x 2).val := pt_val (s := S1x128x128) (a := 2) (o := ![0, (x 1).val, (x 2).val]) h2
      rw [put_hit (pt (s := S1x128x128) ![0, (x 1).val, (x 2).val]) (ax3 (by show (x 0).val = n + 0 % 1; omega)
        (by show (x 1).val = 0 + (x 1).val % 128; omega) (by show (x 2).val = 0 + (x 2).val % 128; omega)), pay1034_at, e3, e4, pf_at hp hi, dl_at hr hp hi n _ _ (by omega) h1 h2]
      rw [e3]
      rw [h0]
      rfl
    · rw [put_miss 0 (by show (x 0).val < n ∨ n + 1 ≤ (x 0).val; omega)]
      exact sD_at hr hp hi n (by omega) x (by omega)

/-! ## The loop -/

/-- What the loop reads. -/
structure In.Ready (I : In F) (ci b : ℕ) (T : St F) : Prop where
  h2 : T.x2 = I.fl
  h11 : T.x11 = fun x => I.z (pt ![b, (x 1).val, 1024 * ci + (x 2).val])
  h21 : T.x21 = I.cB
  h22 : T.x22 = I.cC
  h23 : T.x23 = I.cA ci
  h24 : T.x24 = fun x => I.dd b (x 1).val (1024 * ci + 128 * (x 0).val + (x 2).val)
  h25 : T.x25 = fun x => I.u b (x 1).val (1024 * ci + 128 * (x 0).val + (x 2).val)
  h26 : T.x26 = fun x => I.sk b (x 1).val (1024 * ci + 128 * (x 0).val + (x 2).val)

theorem tilS_ready (hr : I.Reads ci b S) (hp : I.Prep S) (hA : S.x23 = I.cA ci) (hi : (i 1).val = b) : I.Ready ci b (tilS S i 8 8 8) where
  h2 := hr.h2
  h11 := hr.h11
  h21 := hp.h21
  h22 := hp.h22
  h23 := hA
  h24 := funext fun x => sD_at hr hp hi 8 le_rfl x (x 0).isLt
  h25 := funext fun x => sU_at hr hp hi 8 le_rfl x (x 0).isLt
  h26 := funext fun x => sK_at hr hp hi 8 le_rfl x (x 0).isLt

theorem nxt_at (d u : Vec F S1x1x128 .f32) (a : Vec F S1x8x128 .f32) (v : Vec F S1x1x8x128 .f32) (h : FVec F S8x128 .f32) (x : S8x128.Idx) :
    nxt d u a v h x = FloatOps.addf (FloatOps.mulf (FloatOps.exp2 (FloatOps.mulf (d (pt ![0, 0, (x 1).val])) (a (pt ![0, (x 0).val, (x 1).val])))) (h x))
      (FloatOps.mulf (v (pt ![0, 0, (x 0).val, (x 1).val])) (u (pt ![0, 0, (x 1).val]))) := by
  have e : ∀ w : Vec F S1x1x128 .f32, rw8 w x = w (pt ![0, 0, (x 1).val]) := fun w => by
    unfold rw8
    rw [rd_bc8, shapeCast_self, rd_dropR]
    exact congrArg w (pt_congr (ax3 rfl rfl (by show (x 1).val % 128 % 128 = (x 1).val % 128; omega)))
  change FloatOps.addf (FloatOps.mulf (FloatOps.exp2 (FloatOps.mulf (rw8 d x) (q8 a x))) (h x)) (FloatOps.mulf (q4 v x) (rw8 u x)) = _
  rw [e, e]
  unfold q8 q4
  rw [rd_drop8, rd_drop4]

variable {X : Trip F}

theorem trips_lt (t : Fin k0_t1_loop.trips) : t.val < 16 := lt_of_lt_of_eq t.isLt (by decide)

theorem Trip.h_at (hT : I.Ready ci b X.S) (hi : (X.i 1).val = b) (hg : ∀ j k, j < 8 → k < 2 → ∀ x, X.g j k x = I.h b (8 * k + (x 0).val) (1024 * ci + 128 * j + (x 1).val) (8 * X.t.val))
    (j k : ℕ) (hj : j < 8) (hk : k < 2) : ∀ s ≤ 8, ∀ x, X.h j k s x = I.h b (8 * k + (x 0).val) (1024 * ci + 128 * j + (x 1).val) (8 * X.t.val + s)
  | 0, _, x => hg j k hj hk x
  | s + 1, hs, x => by
    have ht := trips_lt X.t
    have h0 : (x 0).val < 8 := (x 0).isLt
    have h1 : (x 1).val < 128 := (x 1).isLt
    have et : 8 * X.t.val + s < 128 := by omega
    have hb : b < 2 := hi ▸ (X.i 1).isLt
    have ew : X.w s = I.fl (pt ![b, 8 * X.t.val + s]) := by unfold Trip.w; rw [hT.h2, hi]
    have e1 : X.d j s (pt ![0, 0, (x 1).val]) = I.dd b (8 * X.t.val + s) (1024 * ci + 128 * j + (x 1).val) := by
      unfold Trip.d tile
      rw [hT.h24]
      show I.dd b ((8 * X.t.val + s + 0 % 1) % 128) (1024 * ci + 128 * ((j + 0 % 1) % 8) + (0 + (x 1).val % 128) % 128) = _
      rw [show (8 * X.t.val + s + 0 % 1) % 128 = 8 * X.t.val + s by omega, show (j + 0 % 1) % 8 = j by omega, show (0 + (x 1).val % 128) % 128 = (x 1).val by omega]
    have e2 : X.u j s (pt ![0, 0, (x 1).val]) = I.u b (8 * X.t.val + s) (1024 * ci + 128 * j + (x 1).val) := by
      unfold Trip.u tile
      rw [hT.h25]
      show I.u b ((8 * X.t.val + s + 0 % 1) % 128) (1024 * ci + 128 * ((j + 0 % 1) % 8) + (0 + (x 1).val % 128) % 128) = _
      rw [show (8 * X.t.val + s + 0 % 1) % 128 = 8 * X.t.val + s by omega, show (j + 0 % 1) % 8 = j by omega, show (0 + (x 1).val % 128) % 128 = (x 1).val by omega]
    have e3 : X.a j k s (pt ![0, (x 0).val, (x 1).val]) = I.at1 (I.fl (pt ![b, 8 * X.t.val + s])).toNat (8 * k + (x 0).val) (1024 * ci + 128 * j + (x 1).val) := by
      unfold Trip.a tile
      rw [hT.h23, ew]
      show I.at1 (((I.fl (pt ![b, 8 * X.t.val + s])).toNat + 0 % 1) % 2) ((8 * k + (x 0).val % 8) % 16) (1024 * ci + (128 * j + (x 1).val % 128) % 1024) = _
      rw [show (8 * k + (x 0).val % 8) % 16 = 8 * k + (x 0).val by omega, show 1024 * ci + (128 * j + (x 1).val % 128) % 1024 = 1024 * ci + 128 * j + (x 1).val by omega]
      unfold In.at1
      simp
    have e4 : X.b k s (pt ![0, 0, (x 0).val, (x 1).val]) = I.Bf b (8 * X.t.val + s) (8 * k + (x 0).val) := by
      unfold Trip.b tile
      rw [hT.h21, hi]
      show I.Bf ((b + 0 % 1) % 2) ((8 * X.t.val + s + 0 % 1) % 128) ((8 * k + (x 0).val % 8) % 16) = _
      rw [show (b + 0 % 1) % 2 = b by omega, show (8 * X.t.val + s + 0 % 1) % 128 = 8 * X.t.val + s by omega, show (8 * k + (x 0).val % 8) % 16 = 8 * k + (x 0).val by omega]
    have ih := Trip.h_at hT hi hg j k hj hk s (by omega) x
    show nxt _ _ _ _ (X.h j k s) x = _
    rw [nxt_at, e1, e2, e3, e4, ih]
    rfl

theorem Trip.c_at (hT : I.Ready ci b X.S) (hi : (X.i 1).val = b) (k s : ℕ) (hk : k < 2) (hs : s < 8) (x : S8x128.Idx) :
    X.c k s (pt ![0, 0, (x 0).val, (x 1).val]) = I.Cf b (8 * X.t.val + s) (8 * k + (x 0).val) := by
  have ht := trips_lt X.t
  have h0 : (x 0).val < 8 := (x 0).isLt
  have hb : b < 2 := hi ▸ (X.i 1).isLt
  unfold Trip.c tile
  rw [hT.h22, hi]
  show I.Cf ((b + 0 % 1) % 2) ((8 * X.t.val + s + 0 % 1) % 128) ((8 * k + (x 0).val % 8) % 16) = _
  rw [show (b + 0 % 1) % 2 = b by omega, show (8 * X.t.val + s + 0 % 1) % 128 = 8 * X.t.val + s by omega, show (8 * k + (x 0).val % 8) % 16 = 8 * k + (x 0).val by omega]

theorem Trip.P_at (hT : I.Ready ci b X.S) (hi : (X.i 1).val = b) (hg : ∀ j k, j < 8 → k < 2 → ∀ x, X.g j k x = I.h b (8 * k + (x 0).val) (1024 * ci + 128 * j + (x 1).val) (8 * X.t.val))
    (j s : ℕ) (hj : j < 8) (hs : s < 8) (x : S8x128.Idx) : X.P j s x = I.P b (8 * X.t.val + s) (1024 * ci + 128 * j + (x 1).val) (x 0).val := by
  show FloatOps.addf (FloatOps.mulf (X.h j 0 (s + 1) x) (q4 (X.c 0 s) x)) (FloatOps.mulf (X.h j 1 (s + 1) x) (q4 (X.c 1 s) x)) = _
  unfold q4
  rw [rd_drop4, rd_drop4, Trip.c_at hT hi 0 s (by omega) hs, Trip.c_at hT hi 1 s (by omega) hs, Trip.h_at hT hi hg j 0 hj (by omega) _ (by omega), Trip.h_at hT hi hg j 1 hj (by omega) _ (by omega)]
  unfold In.P
  rw [show 8 * 0 + (x 0).val = (x 0).val by omega, show 8 * 1 + (x 0).val = 8 + (x 0).val by omega]
  rfl

theorem out8_at (r : ℕ → Vec F S1x8x128 .f32) (k : Vec F S1x8x128 .f32) (z : Vec F S1x8x128 .bf16) (x : S1x8x128.Idx) :
    out8 r k z x = FloatOps.truncf .bf16 bitsLt_bf16_f32 (FloatOps.mulf (FloatOps.addf (FloatOps.addf
      (FloatOps.addf (FloatOps.addf (r 0 x) (r 1 x)) (FloatOps.addf (r 2 x) (r 3 x)))
      (FloatOps.addf (FloatOps.addf (r 4 x) (r 5 x)) (FloatOps.addf (r 6 x) (r 7 x)))) (k x)) (gateV (z x))) := by
  have h0 : (x 0).val < 1 := (x 0).isLt
  have e : (pt (s := S1x8x128) ![0, ((pt (s := S8x128) ![(x 1).val, (x 2).val]) 0).val, ((pt (s := S8x128) ![(x 1).val, (x 2).val]) 1).val]) = x :=
    pt_eq (ax3 (by show 0 = (x 0).val; omega) (pt_val (s := S8x128) (a := 0) (o := ![(x 1).val, (x 2).val]) (x 1).isLt) (pt_val (s := S8x128) (a := 1) (o := ![(x 1).val, (x 2).val]) (x 2).isLt))
  have er : ∀ v : Vec F S1x8x128 .f32, q8 v (pt ![(x 1).val, (x 2).val]) = v x := fun v => by unfold q8; rw [rd_drop8, e]
  have ez : shapeCast S8x128 z shapeCasts_S1x8x128_S8x128 (pt ![(x 1).val, (x 2).val]) = z x := by rw [rd_drop8, e]
  unfold out8
  rw [rd_add8]
  change FloatOps.truncf .bf16 bitsLt_bf16_f32 (FloatOps.mulf (FloatOps.addf (FloatOps.addf
      (FloatOps.addf (FloatOps.addf (q8 (r 0) _) (q8 (r 1) _)) (FloatOps.addf (q8 (r 2) _) (q8 (r 3) _)))
      (FloatOps.addf (FloatOps.addf (q8 (r 4) _) (q8 (r 5) _)) (FloatOps.addf (q8 (r 6) _) (q8 (r 7) _)))) (q8 k _)) (gateV (shapeCast S8x128 z shapeCasts_S1x8x128_S8x128 _))) = _
  simp only [er, ez]

theorem Trip.y_at (hT : I.Ready ci b X.S) (hi : (X.i 1).val = b) (hg : ∀ j k, j < 8 → k < 2 → ∀ x, X.g j k x = I.h b (8 * k + (x 0).val) (1024 * ci + 128 * j + (x 1).val) (8 * X.t.val))
    (j : ℕ) (hj : j < 8) (x : S1x8x128.Idx) : X.y j x = I.y b (8 * X.t.val + (x 1).val) (1024 * ci + 128 * j + (x 2).val) := by
  have ht := trips_lt X.t
  have h0 : (x 0).val < 1 := (x 0).isLt
  have h1 : (x 1).val < 8 := (x 1).isLt
  have h2 : (x 2).val < 128 := (x 2).isLt
  have er : ∀ i, i < 8 → X.r j i x = I.P b (8 * X.t.val + (x 1).val) (1024 * ci + 128 * j + (x 2).val) i := fun i hi' => by
    unfold Trip.r
    rw [Trip.P_at hT hi hg j _ hj h1, show ((pt (s := S8x128) ![i, (x 2).val]) 1).val = (x 2).val from pt_val (s := S8x128) (a := 1) (o := ![i, (x 2).val]) h2,
      show ((pt (s := S8x128) ![i, (x 2).val]) 0).val = i from pt_val (s := S8x128) (a := 0) (o := ![i, (x 2).val]) hi']
  have ek : X.k j x = I.sk b (8 * X.t.val + (x 1).val) (1024 * ci + 128 * j + (x 2).val) := by
    unfold Trip.k tile
    rw [hT.h26]
    show I.sk b ((8 * X.t.val + (x 1).val) % 128) (1024 * ci + 128 * ((j + (x 0).val) % 8) + (0 + (x 2).val) % 128) = _
    rw [show (8 * X.t.val + (x 1).val) % 128 = 8 * X.t.val + (x 1).val by omega, show (j + (x 0).val) % 8 = j by omega, show (0 + (x 2).val) % 128 = (x 2).val by omega]
  have ez : X.z j x = I.z (pt ![b, 8 * X.t.val + (x 1).val, 1024 * ci + 128 * j + (x 2).val]) := by
    unfold Trip.z tile
    rw [hT.h11]
    refine congrArg I.z (pt_congr (ax3 rfl ?_ ?_))
    · show (8 * X.t.val + (x 1).val) % 128 % 128 = (8 * X.t.val + (x 1).val) % 128; omega
    · show (1024 * ci + (128 * j + (x 2).val) % 1024) % 8192 = (1024 * ci + 128 * j + (x 2).val) % 8192
      rw [Nat.mod_eq_of_lt (show 128 * j + (x 2).val < 1024 by omega), Nat.add_assoc]
  unfold Trip.y
  rw [out8_at, er 0 (by omega), er 1 (by omega), er 2 (by omega), er 3 (by omega), er 4 (by omega), er 5 (by omega), er 6 (by omega), er 7 (by omega), ek, ez]
  rfl

theorem Trip.yW_out {W : Vec F S1x128x1024 .bf16} (x : S1x128x1024.Idx) (hx : (x 1).val < 8 * X.t.val) : ∀ n, X.yW W n x = W x
  | 0 => rfl
  | n + 1 => by
    unfold Trip.yW
    rw [put_miss 1 (Or.inl (by show (x 1).val < 8 * X.t.val; omega))]
    exact Trip.yW_out x hx n

theorem Trip.yW_at (hT : I.Ready ci b X.S) (hi : (X.i 1).val = b) (hg : ∀ j k, j < 8 → k < 2 → ∀ x, X.g j k x = I.h b (8 * k + (x 0).val) (1024 * ci + 128 * j + (x 1).val) (8 * X.t.val))
    {W : Vec F S1x128x1024 .bf16} (x : S1x128x1024.Idx) (h1 : 8 * X.t.val ≤ (x 1).val) (h1' : (x 1).val < 8 * X.t.val + 8) :
    ∀ n ≤ 8, (x 2).val < 128 * n → X.yW W n x = I.yB ci b x
  | 0, _, h => absurd h (by omega)
  | n + 1, hn, h => by
    have h0 : (x 0).val < 1 := (x 0).isLt
    unfold Trip.yW
    by_cases h2 : (x 2).val < 128 * n
    · rw [put_miss 2 (Or.inl h2)]
      exact Trip.yW_at hT hi hg x h1 h1' n (by omega) h2
    · have e1 : ((pt (s := S1x8x128) ![0, (x 1).val - 8 * X.t.val, (x 2).val - 128 * n]) 1).val = (x 1).val - 8 * X.t.val := pt_val (s := S1x8x128) (a := 1) (o := ![0, (x 1).val - 8 * X.t.val, (x 2).val - 128 * n]) (by show (x 1).val - 8 * X.t.val < 8; omega)
      have e2 : ((pt (s := S1x8x128) ![0, (x 1).val - 8 * X.t.val, (x 2).val - 128 * n]) 2).val = (x 2).val - 128 * n := pt_val (s := S1x8x128) (a := 2) (o := ![0, (x 1).val - 8 * X.t.val, (x 2).val - 128 * n]) (by show (x 2).val - 128 * n < 128; omega)
      rw [put_hit (pt (s := S1x8x128) ![0, (x 1).val - 8 * X.t.val, (x 2).val - 128 * n]) (ax3 (by show (x 0).val = 0 + 0 % 1; omega) (by show (x 1).val = 8 * X.t.val + _; rw [e1]; omega)
        (by show (x 2).val = 128 * n + _; rw [e2]; omega)), Trip.y_at hT hi hg n (by omega), e1, e2]
      unfold In.yB
      rw [show 8 * X.t.val + ((x 1).val - 8 * X.t.val) = (x 1).val by omega, show 1024 * ci + 128 * n + ((x 2).val - 128 * n) = 1024 * ci + (x 2).val by omega]

theorem lp_at (hT : I.Ready ci b S) (hi : (i 1).val = b) : ∀ t ≤ 16, ∀ j k, j < 8 → k < 2 → ∀ x, lp S i t j k x = I.h b (8 * k + (x 0).val) (1024 * ci + 128 * j + (x 1).val) (8 * t)
  | 0, _, j, k, hj, hk, x => rfl
  | t + 1, ht, j, k, hj, hk, x => by
    have h : t < k0_t1_loop.trips := lt_of_lt_of_eq (show t < 16 by omega) (by decide)
    unfold lp
    rw [dif_pos h]
    have := Trip.h_at (X := ⟨S, i, ⟨t, h⟩, lp S i t⟩) hT hi (lp_at hT hi t (by omega)) j k hj hk 8 le_rfl x
    exact this

theorem yo_at (hT : I.Ready ci b S) (hi : (i 1).val = b) : ∀ t ≤ 16, ∀ x : S1x128x1024.Idx, (x 1).val < 8 * t → yo S i t x = I.yB ci b x
  | 0, _, x, h => absurd h (by omega)
  | t + 1, ht, x, hx => by
    have h : t < k0_t1_loop.trips := lt_of_lt_of_eq (show t < 16 by omega) (by decide)
    unfold yo
    rw [dif_pos h]
    by_cases h1 : (x 1).val < 8 * t
    · rw [Trip.yW_out (X := ⟨S, i, ⟨t, h⟩, lp S i t⟩) x h1]
      exact yo_at hT hi t (by omega) x h1
    · exact Trip.yW_at (X := ⟨S, i, ⟨t, h⟩, lp S i t⟩) hT hi (lp_at hT hi t (by omega)) x (by show 8 * t ≤ _; omega) (by show _ < 8 * t + 8; omega) 8 le_rfl (x 2).isLt

theorem hO_at {X : Vec F S1x16x1024 .f32} {g : ℕ → ℕ → FVec F S8x128 .f32} : ∀ n ≤ 16, ∀ x : S1x16x1024.Idx, 2 * ((x 2).val / 128) + (x 1).val / 8 < n →
    hO X g n x = g ((x 2).val / 128) ((x 1).val / 8) (pt ![(x 1).val % 8, (x 2).val % 128])
  | 0, _, x, h => absurd h (by omega)
  | n + 1, hn, x, h => by
    have h0 : (x 0).val < 1 := (x 0).isLt
    have h1 : (x 1).val < 16 := (x 1).isLt
    have h2 : (x 2).val < 1024 := (x 2).isLt
    unfold hO
    by_cases hx : 2 * ((x 2).val / 128) + (x 1).val / 8 = n
    · have ea : n / 2 = (x 2).val / 128 := by omega
      have eb : n % 2 = (x 1).val / 8 := by omega
      rw [ea, eb, put_hit (pt (s := S1x8x128) ![0, (x 1).val % 8, (x 2).val % 128]) (ax3 (by show (x 0).val = 0 + 0 % 1; omega) (by show (x 1).val = 8 * ((x 1).val / 8) + (x 1).val % 8 % 8; omega)
        (by show (x 2).val = 128 * ((x 2).val / 128) + (x 2).val % 128 % 128; omega)), rd_add8]
      refine congrArg (g ((x 2).val / 128) ((x 1).val / 8)) (pt_congr (ax2 ?_ ?_))
      · show (x 1).val % 8 % 8 % 8 = (x 1).val % 8 % 8; omega
      · show (x 2).val % 128 % 128 % 128 = (x 2).val % 128 % 128; omega
    · have : put (hO X g n) S1x8x128.size ![0, 8 * (n % 2), 128 * (n / 2)] (shapeCast S1x8x128 (g (n / 2) (n % 2)) shapeCasts_S8x128_S1x8x128) x = hO X g n x := by
        by_cases hq : (x 2).val / 128 = n / 2
        · exact put_miss 1 (by show (x 1).val < 8 * (n % 2) ∨ 8 * (n % 2) + 8 ≤ (x 1).val; omega)
        · exact put_miss 2 (by show (x 2).val < 128 * (n / 2) ∨ 128 * (n / 2) + 128 ≤ (x 2).val; omega)
      rw [this]
      exact hO_at n (by omega) x (by omega)

/-! ## One grid point -/

theorem In.Reads.fst (hr : I.Reads ci b S) : I.Reads ci b (fst S i) := by
  unfold Scan.fst
  split
  · exact ⟨hr.h2, hr.h3, hr.h4, hr.h5, hr.h6, hr.h7, hr.h8, hr.h9, hr.h10, hr.h11, hr.h12, hr.h13, hr.h14, hr.h15⟩
  · exact hr
theorem In.Reads.snd (hr : I.Reads ci b S) : I.Reads ci b (snd S i) := by
  unfold Scan.snd
  split
  · exact ⟨hr.h2, hr.h3, hr.h4, hr.h5, hr.h6, hr.h7, hr.h8, hr.h9, hr.h10, hr.h11, hr.h12, hr.h13, hr.h14, hr.h15⟩
  · exact hr
theorem fst_prep (hr : I.Reads ci b S) (hp : c1 i ≠ 1#1 → I.Prep S) : I.Prep (fst S i) := by
  unfold Scan.fst
  split
  · exact iniS_prep hr
  · rename_i h; exact hp h
theorem snd_prep (hp : I.Prep S) : I.Prep (snd S i) := by
  unfold Scan.snd
  split
  · exact ⟨hp.h18, hp.h19, hp.h20, hp.h21, hp.h22⟩
  · exact hp
theorem fst_x23 : (fst S i).x23 = S.x23 := by unfold Scan.fst; split <;> rfl
theorem snd_x23 (hr : I.Reads ci b S) (hA : c2 i ≠ 1#1 → S.x23 = I.cA ci) : (snd S i).x23 = I.cA ci := by
  unfold Scan.snd
  split
  · exact sA_eq hr
  · rename_i h; exact hA h

theorem In.Reads.til (hr : I.Reads ci b S) (p q r : ℕ) : I.Reads ci b (tilS S i p q r) := ⟨hr.h2, hr.h3, hr.h4, hr.h5, hr.h6, hr.h7, hr.h8, hr.h9, hr.h10, hr.h11, hr.h12, hr.h13, hr.h14, hr.h15⟩
theorem In.Reads.lpS (hr : I.Reads ci b S) {Y : Vec F S8x72x128 .f32} {t : ℕ} : I.Reads ci b (lpS S i Y t) := ⟨hr.h2, hr.h3, hr.h4, hr.h5, hr.h6, hr.h7, hr.h8, hr.h9, hr.h10, hr.h11, hr.h12, hr.h13, hr.h14, hr.h15⟩
theorem In.Reads.houS (hr : I.Reads ci b S) {g : ℕ → ℕ → FVec F S8x128 .f32} {n : ℕ} : I.Reads ci b (houS S g n) := ⟨hr.h2, hr.h3, hr.h4, hr.h5, hr.h6, hr.h7, hr.h8, hr.h9, hr.h10, hr.h11, hr.h12, hr.h13, hr.h14, hr.h15⟩

/-- What a grid point leaves: its two blocks, the prepared buffers and the decay table; what it read is unchanged. -/
theorem endS_at (hr : I.Reads ci b S) (hi : (i 1).val = b) (hp : c1 i ≠ 1#1 → I.Prep S) (hA : c2 i ≠ 1#1 → S.x23 = I.cA ci) (Y : Vec F S8x72x128 .f32) :
    (endS S i Y).x16 = I.yB ci b ∧ (endS S i Y).x17 = I.hB ci b ∧ I.Prep (endS S i Y) ∧ (endS S i Y).x23 = I.cA ci ∧ I.Reads ci b (endS S i Y) := by
  have hr2 : I.Reads ci b (snd (fst S i) i) := hr.fst.snd
  have hp2 : I.Prep (snd (fst S i) i) := snd_prep (fst_prep hr hp)
  have hA2 : (snd (fst S i) i).x23 = I.cA ci := snd_x23 hr.fst fun h => by rw [fst_x23]; exact hA h
  unfold endS
  generalize snd (fst S i) i = T at hr2 hp2 hA2 ⊢
  have hT := tilS_ready (i := i) hr2 hp2 hA2 hi
  refine ⟨?_, ?_, ?_, hA2, ?_⟩
  · funext x
    have e16 : k0_t1_loop.trips = 16 := by decide
    show yo (tilS T i 8 8 8) i k0_t1_loop.trips x = _
    rw [e16]
    exact yo_at hT hi 16 le_rfl x (x 1).isLt
  · funext x
    have h1 : (x 1).val < 16 := (x 1).isLt
    have h2 : (x 2).val < 1024 := (x 2).isLt
    have e16 : k0_t1_loop.trips = 16 := by decide
    show hO _ (lp (tilS T i 8 8 8) i k0_t1_loop.trips) 16 x = _
    rw [e16, hO_at 16 le_rfl x (by omega), lp_at hT hi 16 le_rfl _ _ (by omega) (by omega)]
    unfold In.hB
    rw [show 8 * ((x 1).val / 8) + ((pt (s := S8x128) ![(x 1).val % 8, (x 2).val % 128]) 0).val = (x 1).val from by show 8 * ((x 1).val / 8) + (x 1).val % 8 % 8 = (x 1).val; omega,
      show 1024 * ci + 128 * ((x 2).val / 128) + ((pt (s := S8x128) ![(x 1).val % 8, (x 2).val % 128]) 1).val = 1024 * ci + (x 2).val from by
        show 1024 * ci + 128 * ((x 2).val / 128) + (x 2).val % 128 % 128 = 1024 * ci + (x 2).val; omega]
  · exact ⟨hp2.h18, hp2.h19, hp2.h20, hp2.h21, hp2.h22⟩
  · exact ((hr2.til 8 8 8).lpS).houS

end Cert.KernelIdeal.Scan

end
-- ==== Proof.ScanI.Kit.lean ====
/- What the launch of the kernel hands its body: the arrays as the region finds them, the table, the blocks of the windows. -/
module

public import proofs.«01_k».proof.Proof.Gen.KernelIdeal.Skeleton
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body at point `t`, as the pipeline calls it. -/
abbrev bodyAt0 (a : (pcfg0 (F := F)).Adm) (t : Fin (cfg0 a).N) : Prog (TpuEff nD τ sig (Elt F) Λ₀ .tc) PUnit :=
  cc0_body (grid0.coords t) (Memref.whole main_arg12) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer no host operation before the region writes is found as launched. -/
theorem V_of (c : Dev nD) {b : Ref sig .tc} (h : ∀ op ∈ (hostOps0 : List (HloOp τ sig (Elt F))), Proc.devRef .tc b ∉ op.writes) : V m c b = m ((c : Thread nD τ).loc b) :=
  StableHlo.after_of_forall_not_mem (b := Proc.devRef .tc b) _ _ h
theorem V_main_arg0 (c : Dev nD) : V m c main_arg0 = m ((c : Thread nD τ).loc main_arg0) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) := V_of m c (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2x128 .i32 := Memref.whole main_arg12
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0 holds its block at every point. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 holds its block at every point. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 holds its block at every point. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 holds its block at every point. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 holds its block at every point. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5 holds its block at every point. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6 holds its block at every point. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7 holds its block at every point. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Window 8 holds its block at every point. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Window 9 holds its block at every point. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Window 10 holds its block at every point. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Window 11 holds its block at every point. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Window 12 holds its block at every point. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      ((h c).2 main_arg9 (by decide : main_arg9 ∈ Pipeline.restRefs sig spec0)).trans (V_main_arg9 m c),
      ((h c).2 main_arg10 (by decide : main_arg10 ∈ Pipeline.restRefs sig spec0)).trans (V_main_arg10 m c),
      ((h c).2 main_arg11 (by decide : main_arg11 ∈ Pipeline.restRefs sig spec0)).trans (V_main_arg11 m c),
      ((h c).2 main_arg12 (by decide : main_arg12 ∈ Pipeline.restRefs sig spec0)).trans (V_main_arg12 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x128x1024 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x128x1024 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S2x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2x128x16 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S2x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S2x128x16 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S2x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x128x1024 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S16x1024 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1024 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x1024 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S2x128 .i32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x128x1024 .bf16 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x16x1024 .f32 := spec0_14.stage ((cfgM m hO).slots t 14)
abbrev hs0_14 (hO : Ok m) (t : Fin (cfgM m hO).N) : (ms0_14 m hO t).IsWhole := hstage0_14 (((cfgM m hO).slots t 14).cast nbuf0_14)

/-- The scratch operands: whole scoped buffers of the kernel's own, passed beside the windows. -/
abbrev scM0_0 : Memref sig .tc .vmem S2x128x128 .f32 := Memref.whole cc0_scratch0
abbrev scM0_1 : Memref sig .tc .vmem S2x128x128 .f32 := Memref.whole cc0_scratch1
abbrev scM0_2 : Memref sig .tc .vmem S2x128x128 .f32 := Memref.whole cc0_scratch2
abbrev scM0_3 : Memref sig .tc .vmem S2x128x16x128 .f32 := Memref.whole cc0_scratch3
abbrev scM0_4 : Memref sig .tc .vmem S2x128x16x128 .f32 := Memref.whole cc0_scratch4
abbrev scM0_5 : Memref sig .tc .vmem S2x16x1024 .f32 := Memref.whole cc0_scratch5
abbrev scM0_6 : Memref sig .tc .vmem S8x128x128 .f32 := Memref.whole cc0_scratch6
abbrev scM0_7 : Memref sig .tc .vmem S8x128x128 .f32 := Memref.whole cc0_scratch7
abbrev scM0_8 : Memref sig .tc .vmem S8x128x128 .f32 := Memref.whole cc0_scratch8
abbrev scM0_9 : Memref sig .tc .vmem S8x72x128 .f32 := Memref.whole cc0_scratch9

/-- The frame kit's invariant with the scratch operands as memrefs owned at some contents (`Gen.scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

end Cert.KernelIdeal.Scan

end
-- ==== Proof.ScanI.Blocks.lean ====
/- The blocks the kernel's body is handed, read off the arrays, and what they say of the numbers of the scan. -/
module

public import proofs.«01_k».proof.Proof.ScanI.Vals
public import proofs.«01_k».proof.Proof.ScanI.Kit
public import Idealize.ShloMosaic.Lib.Pipeline.ValueKit

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ)

/-- The arrays of the scan as the kernel is handed them. -/
def inM : In F where
  fl := tbl m 0
  x := V m 0 main_arg0
  xs := V m 0 main_arg1
  dt := V m 0 main_arg2
  ds := V m 0 main_arg3
  B := V m 0 main_arg4
  Bs := V m 0 main_arg5
  C := V m 0 main_arg6
  Cs := V m 0 main_arg7
  z := V m 0 main_arg8
  A := V m 0 main_v0
  Dv := V m 0 main_v1
  bi := V m 0 main_v2
  fs := V m 0 main_v4

/-- The block of channels point `t` works on. -/
abbrev ciT (t : Fin grid0.N) : ℕ := (grid0.coords t 0).val
/-- The batch point `t` works on. -/
abbrev biT (t : Fin grid0.N) : ℕ := (grid0.coords t 1).val

theorem ciT_lt (t : Fin grid0.N) : ciT t < 8 := (grid0.coords t 0).isLt
theorem biT_lt (t : Fin grid0.N) : biT t < 2 := (grid0.coords t 1).isLt

theorem toNat_ci (t : Fin grid0.N) : (BitVec.ofNat 32 (grid0.coords t 0).val).toNat = ciT t := by
  have := ciT_lt t; unfold ciT at *; rw [BitVec.toNat_ofNat]; omega
theorem toNat_bi (t : Fin grid0.N) : (BitVec.ofNat 32 (grid0.coords t 1).val).toNat = biT t := by
  have := biT_lt t; unfold biT at *; rw [BitVec.toNat_ofNat]; omega

/-- The block of window 0 at each point. -/
theorem idx0 (t : Fin grid0.N) : cc0_transform_0 (grid0.coords t) = ![biT t, 0, ciT t] := by
  unfold cc0_transform_0
  simp only [toNat_ci, toNat_bi]; try rfl
/-- The block of window 1 at each point. -/
theorem idx1 (t : Fin grid0.N) : cc0_transform_1 (grid0.coords t) = ![0, 0] := by
  unfold cc0_transform_1
  simp only [toNat_ci, toNat_bi]; try rfl
/-- The block of window 2 at each point. -/
theorem idx2 (t : Fin grid0.N) : cc0_transform_2 (grid0.coords t) = ![biT t, 0, ciT t] := by
  unfold cc0_transform_2
  simp only [toNat_ci, toNat_bi]; try rfl
/-- The block of window 3 at each point. -/
theorem idx3 (t : Fin grid0.N) : cc0_transform_3 (grid0.coords t) = ![0, 0] := by
  unfold cc0_transform_3
  simp only [toNat_ci, toNat_bi]; try rfl
/-- The block of window 4 at each point. -/
theorem idx4 (t : Fin grid0.N) : cc0_transform_4 (grid0.coords t) = ![0, 0, 0] := by
  unfold cc0_transform_4
  simp only [toNat_ci, toNat_bi]; try rfl
/-- The block of window 5 at each point. -/
theorem idx5 (t : Fin grid0.N) : cc0_transform_5 (grid0.coords t) = ![0, 0] := by
  unfold cc0_transform_5
  simp only [toNat_ci, toNat_bi]; try rfl
/-- The block of window 6 at each point. -/
theorem idx6 (t : Fin grid0.N) : cc0_transform_6 (grid0.coords t) = ![0, 0, 0] := by
  unfold cc0_transform_6
  simp only [toNat_ci, toNat_bi]; try rfl
/-- The block of window 7 at each point. -/
theorem idx7 (t : Fin grid0.N) : cc0_transform_7 (grid0.coords t) = ![0, 0] := by
  unfold cc0_transform_7
  simp only [toNat_ci, toNat_bi]; try rfl
/-- The block of window 8 at each point. -/
theorem idx8 (t : Fin grid0.N) : cc0_transform_8 (grid0.coords t) = ![biT t, 0, ciT t] := by
  unfold cc0_transform_8
  simp only [toNat_ci, toNat_bi]; try rfl
/-- The block of window 9 at each point. -/
theorem idx9 (t : Fin grid0.N) : cc0_transform_9 (grid0.coords t) = ![0, ciT t] := by
  unfold cc0_transform_9
  simp only [toNat_ci, toNat_bi]; try rfl
/-- The block of window 10 at each point. -/
theorem idx10 (t : Fin grid0.N) : cc0_transform_10 (grid0.coords t) = ![0, ciT t] := by
  unfold cc0_transform_10
  simp only [toNat_ci, toNat_bi]; try rfl
/-- The block of window 11 at each point. -/
theorem idx11 (t : Fin grid0.N) : cc0_transform_11 (grid0.coords t) = ![0, ciT t] := by
  unfold cc0_transform_11
  simp only [toNat_ci, toNat_bi]; try rfl
/-- The block of window 12 at each point. -/
theorem idx12 (t : Fin grid0.N) : cc0_transform_12 (grid0.coords t) = ![0, 0] := by
  unfold cc0_transform_12
  simp only [toNat_ci, toNat_bi]; try rfl
/-- The block of window 13 at each point. -/
theorem idx13 (t : Fin grid0.N) : cc0_transform_13 (grid0.coords t) = ![biT t, 0, ciT t] := by
  unfold cc0_transform_13
  simp only [toNat_ci, toNat_bi]; try rfl
/-- The block of window 14 at each point. -/
theorem idx14 (t : Fin grid0.N) : cc0_transform_14 (grid0.coords t) = ![biT t, 0, ciT t] := by
  unfold cc0_transform_14
  simp only [toNat_ci, toNat_bi]; try rfl
/-- What window 0 hands the body. -/
theorem blk0 (hO : Ok m) (t : Fin grid0.N) : (iblk m hO 0 0 t : Vec F S1x128x1024 .fp8e4m3) = (fun (x : S1x128x1024.Idx) => (inM m).x (pt ![biT t, (x 1).val, 1024 * ciT t + (x 2).val])) := by
  have h8 := ciT_lt t
  have h2 := biT_lt t
  have ht := idx0 t
  funext (x : S1x128x1024.Idx)
  unfold iblk
  refine (View.read_apply ..).trans ?_
  show V m 0 main_arg0 _ = V m 0 main_arg0 _
  congr 1
  funext a
  apply Fin.ext
  have b0 : (x 0).val < 1 := (x 0).isLt
  have b1 : (x 1).val < 128 := (x 1).isLt
  have b2 : (x 2).val < 1024 := (x 2).isLt
  match a with
  | ⟨0, _⟩ =>
    show cc0_transform_0 (grid0.coords t) 0 * 1 + 1 * (x 0).val = (biT t) % 2
    rw [ht]; simp; try omega
  | ⟨1, _⟩ =>
    show cc0_transform_0 (grid0.coords t) 1 * 128 + 1 * (x 1).val = ((x 1).val) % 128
    rw [ht]; simp; try omega
  | ⟨2, _⟩ =>
    show cc0_transform_0 (grid0.coords t) 2 * 1024 + 1 * (x 2).val = (1024 * ciT t + (x 2).val) % 8192
    rw [ht]; simp; try omega
/-- What window 1 hands the body. -/
theorem blk1 (hO : Ok m) (t : Fin grid0.N) : (iblk m hO 0 1 t : Vec F S2x128 .f32) = (inM m).xs := by
  have h8 := ciT_lt t
  have h2 := biT_lt t
  have ht := idx1 t
  funext (x : S2x128.Idx)
  unfold iblk
  refine (View.read_apply ..).trans ?_
  show V m 0 main_arg1 _ = V m 0 main_arg1 _
  congr 1
  funext a
  apply Fin.ext
  have b0 : (x 0).val < 2 := (x 0).isLt
  have b1 : (x 1).val < 128 := (x 1).isLt
  match a with
  | ⟨0, _⟩ =>
    show cc0_transform_1 (grid0.coords t) 0 * 2 + 1 * (x 0).val = (x 0).val
    rw [ht]; simp; try omega
  | ⟨1, _⟩ =>
    show cc0_transform_1 (grid0.coords t) 1 * 128 + 1 * (x 1).val = (x 1).val
    rw [ht]; simp; try omega
/-- What window 2 hands the body. -/
theorem blk2 (hO : Ok m) (t : Fin grid0.N) : (iblk m hO 0 2 t : Vec F S1x128x1024 .fp8e4m3) = (fun (x : S1x128x1024.Idx) => (inM m).dt (pt ![biT t, (x 1).val, 1024 * ciT t + (x 2).val])) := by
  have h8 := ciT_lt t
  have h2 := biT_lt t
  have ht := idx2 t
  funext (x : S1x128x1024.Idx)
  unfold iblk
  refine (View.read_apply ..).trans ?_
  show V m 0 main_arg2 _ = V m 0 main_arg2 _
  congr 1
  funext a
  apply Fin.ext
  have b0 : (x 0).val < 1 := (x 0).isLt
  have b1 : (x 1).val < 128 := (x 1).isLt
  have b2 : (x 2).val < 1024 := (x 2).isLt
  match a with
  | ⟨0, _⟩ =>
    show cc0_transform_2 (grid0.coords t) 0 * 1 + 1 * (x 0).val = (biT t) % 2
    rw [ht]; simp; try omega
  | ⟨1, _⟩ =>
    show cc0_transform_2 (grid0.coords t) 1 * 128 + 1 * (x 1).val = ((x 1).val) % 128
    rw [ht]; simp; try omega
  | ⟨2, _⟩ =>
    show cc0_transform_2 (grid0.coords t) 2 * 1024 + 1 * (x 2).val = (1024 * ciT t + (x 2).val) % 8192
    rw [ht]; simp; try omega
/-- What window 3 hands the body. -/
theorem blk3 (hO : Ok m) (t : Fin grid0.N) : (iblk m hO 0 3 t : Vec F S2x128 .f32) = (inM m).ds := by
  have h8 := ciT_lt t
  have h2 := biT_lt t
  have ht := idx3 t
  funext (x : S2x128.Idx)
  unfold iblk
  refine (View.read_apply ..).trans ?_
  show V m 0 main_arg3 _ = V m 0 main_arg3 _
  congr 1
  funext a
  apply Fin.ext
  have b0 : (x 0).val < 2 := (x 0).isLt
  have b1 : (x 1).val < 128 := (x 1).isLt
  match a with
  | ⟨0, _⟩ =>
    show cc0_transform_3 (grid0.coords t) 0 * 2 + 1 * (x 0).val = (x 0).val
    rw [ht]; simp; try omega
  | ⟨1, _⟩ =>
    show cc0_transform_3 (grid0.coords t) 1 * 128 + 1 * (x 1).val = (x 1).val
    rw [ht]; simp; try omega
/-- What window 4 hands the body. -/
theorem blk4 (hO : Ok m) (t : Fin grid0.N) : (iblk m hO 0 4 t : Vec F S2x128x16 .fp8e4m3) = (inM m).B := by
  have h8 := ciT_lt t
  have h2 := biT_lt t
  have ht := idx4 t
  funext (x : S2x128x16.Idx)
  unfold iblk
  refine (View.read_apply ..).trans ?_
  show V m 0 main_arg4 _ = V m 0 main_arg4 _
  congr 1
  funext a
  apply Fin.ext
  have b0 : (x 0).val < 2 := (x 0).isLt
  have b1 : (x 1).val < 128 := (x 1).isLt
  have b2 : (x 2).val < 16 := (x 2).isLt
  match a with
  | ⟨0, _⟩ =>
    show cc0_transform_4 (grid0.coords t) 0 * 2 + 1 * (x 0).val = (x 0).val
    rw [ht]; simp; try omega
  | ⟨1, _⟩ =>
    show cc0_transform_4 (grid0.coords t) 1 * 128 + 1 * (x 1).val = (x 1).val
    rw [ht]; simp; try omega
  | ⟨2, _⟩ =>
    show cc0_transform_4 (grid0.coords t) 2 * 16 + 1 * (x 2).val = (x 2).val
    rw [ht]; simp; try omega
/-- What window 5 hands the body. -/
theorem blk5 (hO : Ok m) (t : Fin grid0.N) : (iblk m hO 0 5 t : Vec F S2x128 .f32) = (inM m).Bs := by
  have h8 := ciT_lt t
  have h2 := biT_lt t
  have ht := idx5 t
  funext (x : S2x128.Idx)
  unfold iblk
  refine (View.read_apply ..).trans ?_
  show V m 0 main_arg5 _ = V m 0 main_arg5 _
  congr 1
  funext a
  apply Fin.ext
  have b0 : (x 0).val < 2 := (x 0).isLt
  have b1 : (x 1).val < 128 := (x 1).isLt
  match a with
  | ⟨0, _⟩ =>
    show cc0_transform_5 (grid0.coords t) 0 * 2 + 1 * (x 0).val = (x 0).val
    rw [ht]; simp; try omega
  | ⟨1, _⟩ =>
    show cc0_transform_5 (grid0.coords t) 1 * 128 + 1 * (x 1).val = (x 1).val
    rw [ht]; simp; try omega
/-- What window 6 hands the body. -/
theorem blk6 (hO : Ok m) (t : Fin grid0.N) : (iblk m hO 0 6 t : Vec F S2x128x16 .fp8e4m3) = (inM m).C := by
  have h8 := ciT_lt t
  have h2 := biT_lt t
  have ht := idx6 t
  funext (x : S2x128x16.Idx)
  unfold iblk
  refine (View.read_apply ..).trans ?_
  show V m 0 main_arg6 _ = V m 0 main_arg6 _
  congr 1
  funext a
  apply Fin.ext
  have b0 : (x 0).val < 2 := (x 0).isLt
  have b1 : (x 1).val < 128 := (x 1).isLt
  have b2 : (x 2).val < 16 := (x 2).isLt
  match a with
  | ⟨0, _⟩ =>
    show cc0_transform_6 (grid0.coords t) 0 * 2 + 1 * (x 0).val = (x 0).val
    rw [ht]; simp; try omega
  | ⟨1, _⟩ =>
    show cc0_transform_6 (grid0.coords t) 1 * 128 + 1 * (x 1).val = (x 1).val
    rw [ht]; simp; try omega
  | ⟨2, _⟩ =>
    show cc0_transform_6 (grid0.coords t) 2 * 16 + 1 * (x 2).val = (x 2).val
    rw [ht]; simp; try omega
/-- What window 7 hands the body. -/
theorem blk7 (hO : Ok m) (t : Fin grid0.N) : (iblk m hO 0 7 t : Vec F S2x128 .f32) = (inM m).Cs := by
  have h8 := ciT_lt t
  have h2 := biT_lt t
  have ht := idx7 t
  funext (x : S2x128.Idx)
  unfold iblk
  refine (View.read_apply ..).trans ?_
  show V m 0 main_arg7 _ = V m 0 main_arg7 _
  congr 1
  funext a
  apply Fin.ext
  have b0 : (x 0).val < 2 := (x 0).isLt
  have b1 : (x 1).val < 128 := (x 1).isLt
  match a with
  | ⟨0, _⟩ =>
    show cc0_transform_7 (grid0.coords t) 0 * 2 + 1 * (x 0).val = (x 0).val
    rw [ht]; simp; try omega
  | ⟨1, _⟩ =>
    show cc0_transform_7 (grid0.coords t) 1 * 128 + 1 * (x 1).val = (x 1).val
    rw [ht]; simp; try omega
/-- What window 8 hands the body. -/
theorem blk8 (hO : Ok m) (t : Fin grid0.N) : (iblk m hO 0 8 t : Vec F S1x128x1024 .bf16) = (fun (x : S1x128x1024.Idx) => (inM m).z (pt ![biT t, (x 1).val, 1024 * ciT t + (x 2).val])) := by
  have h8 := ciT_lt t
  have h2 := biT_lt t
  have ht := idx8 t
  funext (x : S1x128x1024.Idx)
  unfold iblk
  refine (View.read_apply ..).trans ?_
  show V m 0 main_arg8 _ = V m 0 main_arg8 _
  congr 1
  funext a
  apply Fin.ext
  have b0 : (x 0).val < 1 := (x 0).isLt
  have b1 : (x 1).val < 128 := (x 1).isLt
  have b2 : (x 2).val < 1024 := (x 2).isLt
  match a with
  | ⟨0, _⟩ =>
    show cc0_transform_8 (grid0.coords t) 0 * 1 + 1 * (x 0).val = (biT t) % 2
    rw [ht]; simp; try omega
  | ⟨1, _⟩ =>
    show cc0_transform_8 (grid0.coords t) 1 * 128 + 1 * (x 1).val = ((x 1).val) % 128
    rw [ht]; simp; try omega
  | ⟨2, _⟩ =>
    show cc0_transform_8 (grid0.coords t) 2 * 1024 + 1 * (x 2).val = (1024 * ciT t + (x 2).val) % 8192
    rw [ht]; simp; try omega
/-- What window 9 hands the body. -/
theorem blk9 (hO : Ok m) (t : Fin grid0.N) : (iblk m hO 0 9 t : Vec F S16x1024 .f32) = (fun (x : S16x1024.Idx) => (inM m).A (pt ![(x 0).val, 1024 * ciT t + (x 1).val])) := by
  have h8 := ciT_lt t
  have h2 := biT_lt t
  have ht := idx9 t
  funext (x : S16x1024.Idx)
  unfold iblk
  refine (View.read_apply ..).trans ?_
  show V m 0 main_v0 _ = V m 0 main_v0 _
  congr 1
  funext a
  apply Fin.ext
  have b0 : (x 0).val < 16 := (x 0).isLt
  have b1 : (x 1).val < 1024 := (x 1).isLt
  match a with
  | ⟨0, _⟩ =>
    show cc0_transform_9 (grid0.coords t) 0 * 16 + 1 * (x 0).val = ((x 0).val) % 16
    rw [ht]; simp; try omega
  | ⟨1, _⟩ =>
    show cc0_transform_9 (grid0.coords t) 1 * 1024 + 1 * (x 1).val = (1024 * ciT t + (x 1).val) % 8192
    rw [ht]; simp; try omega
/-- What window 10 hands the body. -/
theorem blk10 (hO : Ok m) (t : Fin grid0.N) : (iblk m hO 0 10 t : Vec F S1x1024 .f32) = (fun (x : S1x1024.Idx) => (inM m).Dv (pt ![0, 1024 * ciT t + (x 1).val])) := by
  have h8 := ciT_lt t
  have h2 := biT_lt t
  have ht := idx10 t
  funext (x : S1x1024.Idx)
  unfold iblk
  refine (View.read_apply ..).trans ?_
  show V m 0 main_v1 _ = V m 0 main_v1 _
  congr 1
  funext a
  apply Fin.ext
  have b0 : (x 0).val < 1 := (x 0).isLt
  have b1 : (x 1).val < 1024 := (x 1).isLt
  match a with
  | ⟨0, _⟩ =>
    show cc0_transform_10 (grid0.coords t) 0 * 1 + 1 * (x 0).val = (0) % 1
    rw [ht]; simp; try omega
  | ⟨1, _⟩ =>
    show cc0_transform_10 (grid0.coords t) 1 * 1024 + 1 * (x 1).val = (1024 * ciT t + (x 1).val) % 8192
    rw [ht]; simp; try omega
/-- What window 11 hands the body. -/
theorem blk11 (hO : Ok m) (t : Fin grid0.N) : (iblk m hO 0 11 t : Vec F S1x1024 .f32) = (fun (x : S1x1024.Idx) => (inM m).bi (pt ![0, 1024 * ciT t + (x 1).val])) := by
  have h8 := ciT_lt t
  have h2 := biT_lt t
  have ht := idx11 t
  funext (x : S1x1024.Idx)
  unfold iblk
  refine (View.read_apply ..).trans ?_
  show V m 0 main_v2 _ = V m 0 main_v2 _
  congr 1
  funext a
  apply Fin.ext
  have b0 : (x 0).val < 1 := (x 0).isLt
  have b1 : (x 1).val < 1024 := (x 1).isLt
  match a with
  | ⟨0, _⟩ =>
    show cc0_transform_11 (grid0.coords t) 0 * 1 + 1 * (x 0).val = (0) % 1
    rw [ht]; simp; try omega
  | ⟨1, _⟩ =>
    show cc0_transform_11 (grid0.coords t) 1 * 1024 + 1 * (x 1).val = (1024 * ciT t + (x 1).val) % 8192
    rw [ht]; simp; try omega
/-- What window 12 hands the body. -/
theorem blk12 (hO : Ok m) (t : Fin grid0.N) : (iblk m hO 0 12 t : Vec F S2x128 .i32) = (inM m).fs := by
  have h8 := ciT_lt t
  have h2 := biT_lt t
  have ht := idx12 t
  funext (x : S2x128.Idx)
  unfold iblk
  refine (View.read_apply ..).trans ?_
  show V m 0 main_v4 _ = V m 0 main_v4 _
  congr 1
  funext a
  apply Fin.ext
  have b0 : (x 0).val < 2 := (x 0).isLt
  have b1 : (x 1).val < 128 := (x 1).isLt
  match a with
  | ⟨0, _⟩ =>
    show cc0_transform_12 (grid0.coords t) 0 * 2 + 1 * (x 0).val = (x 0).val
    rw [ht]; simp; try omega
  | ⟨1, _⟩ =>
    show cc0_transform_12 (grid0.coords t) 1 * 128 + 1 * (x 1).val = (x 1).val
    rw [ht]; simp; try omega

end Cert.KernelIdeal.Scan

end
-- ==== Proof.ScanI.RunV.lean ====
/- The launch of the kernel: it ends, its argument arrays unchanged, its result arrays holding the scan. -/
module

public import proofs.«01_k».proof.Proof.ScanI.Blocks
public import Idealize.ShloMosaic.Lib.Pipeline.Value
public import Idealize.ShloMosaic.Lib.Claim

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Every word of the table is a flag. -/
abbrev Hyps (m : (ℓ : Loc nD τ sig) → Buf (Elt F) ℓ) : Prop := ∀ j : S2x128.Idx, Flag (tbl m 0 j)

variable (m : (ℓ : Loc nD τ sig) → Buf (Elt F) ℓ) (ρ : Dev nD → PrngReg)

/-- What is kept from one grid point to the next: after the first point the five prepared buffers hold their values, and the sixth the
    decay of the channels of the point before. -/
def Inv (n : ℕ) (s : St F) : Prop := n ≠ 0 → (inM m).Prep s ∧ ∃ p : Fin grid0.N, p.val + 1 = n ∧ s.x23 = (inM m).cA (ciT p)

/-- The scratch between grid points, with what is kept there. -/
def keep (n : ℕ) (c : Dev nD) : sProp 𝕄 := iprop(iprop((∃ s : St F, ⌜Inv m n s⌝ ∗ owns (c : Thread nD τ) scM0_0 fullShare s.x18 ∗ owns (c : Thread nD τ) scM0_1 fullShare s.x19 ∗ owns (c : Thread nD τ) scM0_2 fullShare s.x20 ∗ owns (c : Thread nD τ) scM0_3 fullShare s.x21 ∗ owns (c : Thread nD τ) scM0_4 fullShare s.x22 ∗ owns (c : Thread nD τ) scM0_5 fullShare s.x23 ∗ owns (c : Thread nD τ) scM0_6 fullShare s.x24 ∗ owns (c : Thread nD τ) scM0_7 fullShare s.x25 ∗ owns (c : Thread nD τ) scM0_8 fullShare s.x26 ∗ owns (c : Thread nD τ) scM0_9 fullShare s.x27) ∗ (∃ r, prngReg c r)) ∗ owns (c : Thread nD τ) tbM0_0 fullShare.right (tbl m 0 : Vec F S2x128 .i32))

/-- The proof data of the one pipeline on core `c`: the arrays as the region finds them (`V`); after the body at
    point `t` each input's buffer at its block and the outputs at the scan's blocks; between points the scratch as `keep` says; nothing owed;
    full shares. -/
def dats (hO : Ok m) (hH : Hyps m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, h⟩ => (inM m).yB (ciT t) (biT t)
    | ⟨14, h⟩ => (inM m).hB (ciT t) (biT t)
  Φ t := keep m t.val c
  q _ := fullShare
  owed _ := 0

/-- The proof data's arrays are the region-entry contents: the proof data's definition projected (`dsimp`), so that
    `V` — a fold over @main's host prefix, long for some programs — is never unfolded to check it. -/
theorem A_eq (hO : Ok m) (hH : Hyps m) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m) (c : Dev nD) (t : Fin (cfgM m hO).N) : (dats m hO hH 0 c).after 0 t = iblk m hO c 0 t := by dsimp only [dats]; try rfl
theorem after0_1 (hO : Ok m) (hH : Hyps m) (c : Dev nD) (t : Fin (cfgM m hO).N) : (dats m hO hH 0 c).after 1 t = iblk m hO c 1 t := by dsimp only [dats]; try rfl
theorem after0_2 (hO : Ok m) (hH : Hyps m) (c : Dev nD) (t : Fin (cfgM m hO).N) : (dats m hO hH 0 c).after 2 t = iblk m hO c 2 t := by dsimp only [dats]; try rfl
theorem after0_3 (hO : Ok m) (hH : Hyps m) (c : Dev nD) (t : Fin (cfgM m hO).N) : (dats m hO hH 0 c).after 3 t = iblk m hO c 3 t := by dsimp only [dats]; try rfl
theorem after0_4 (hO : Ok m) (hH : Hyps m) (c : Dev nD) (t : Fin (cfgM m hO).N) : (dats m hO hH 0 c).after 4 t = iblk m hO c 4 t := by dsimp only [dats]; try rfl
theorem after0_5 (hO : Ok m) (hH : Hyps m) (c : Dev nD) (t : Fin (cfgM m hO).N) : (dats m hO hH 0 c).after 5 t = iblk m hO c 5 t := by dsimp only [dats]; try rfl
theorem after0_6 (hO : Ok m) (hH : Hyps m) (c : Dev nD) (t : Fin (cfgM m hO).N) : (dats m hO hH 0 c).after 6 t = iblk m hO c 6 t := by dsimp only [dats]; try rfl
theorem after0_7 (hO : Ok m) (hH : Hyps m) (c : Dev nD) (t : Fin (cfgM m hO).N) : (dats m hO hH 0 c).after 7 t = iblk m hO c 7 t := by dsimp only [dats]; try rfl
theorem after0_8 (hO : Ok m) (hH : Hyps m) (c : Dev nD) (t : Fin (cfgM m hO).N) : (dats m hO hH 0 c).after 8 t = iblk m hO c 8 t := by dsimp only [dats]; try rfl
theorem after0_9 (hO : Ok m) (hH : Hyps m) (c : Dev nD) (t : Fin (cfgM m hO).N) : (dats m hO hH 0 c).after 9 t = iblk m hO c 9 t := by dsimp only [dats]; try rfl
theorem after0_10 (hO : Ok m) (hH : Hyps m) (c : Dev nD) (t : Fin (cfgM m hO).N) : (dats m hO hH 0 c).after 10 t = iblk m hO c 10 t := by dsimp only [dats]; try rfl
theorem after0_11 (hO : Ok m) (hH : Hyps m) (c : Dev nD) (t : Fin (cfgM m hO).N) : (dats m hO hH 0 c).after 11 t = iblk m hO c 11 t := by dsimp only [dats]; try rfl
theorem after0_12 (hO : Ok m) (hH : Hyps m) (c : Dev nD) (t : Fin (cfgM m hO).N) : (dats m hO hH 0 c).after 12 t = iblk m hO c 12 t := by dsimp only [dats]; try rfl
theorem after0_13 (hO : Ok m) (hH : Hyps m) (c : Dev nD) (t : Fin (cfgM m hO).N) : (dats m hO hH 0 c).after 13 t = (inM m).yB (ciT t) (biT t) := by dsimp only [dats]; try rfl
theorem after0_14 (hO : Ok m) (hH : Hyps m) (c : Dev nD) (t : Fin (cfgM m hO).N) : (dats m hO hH 0 c).after 14 t = (inM m).hB (ciT t) (biT t) := by dsimp only [dats]; try rfl

/-- Each input's current staging buffer holds its block at every point, fetched there or not (`beforeK_W_of`). -/
theorem before0_0 (hO : Ok m) (hH : Hyps m) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m) (c : Dev nD) (t : Fin (cfgM m hO).N) (d) : (dats m hO hH 0 c).before 7 t d = iblk m hO c 7 t :=
  before0_7_of m hO (dats m hO hH 0 c) (A_eq m hO hH c 7) (after0_7 m hO hH c) t d
theorem before0_8 (hO : Ok m) (hH : Hyps m) (c : Dev nD) (t : Fin (cfgM m hO).N) (d) : (dats m hO hH 0 c).before 8 t d = iblk m hO c 8 t :=
  before0_8_of m hO (dats m hO hH 0 c) (A_eq m hO hH c 8) (after0_8 m hO hH c) t d
theorem before0_9 (hO : Ok m) (hH : Hyps m) (c : Dev nD) (t : Fin (cfgM m hO).N) (d) : (dats m hO hH 0 c).before 9 t d = iblk m hO c 9 t :=
  before0_9_of m hO (dats m hO hH 0 c) (A_eq m hO hH c 9) (after0_9 m hO hH c) t d
theorem before0_10 (hO : Ok m) (hH : Hyps m) (c : Dev nD) (t : Fin (cfgM m hO).N) (d) : (dats m hO hH 0 c).before 10 t d = iblk m hO c 10 t :=
  before0_10_of m hO (dats m hO hH 0 c) (A_eq m hO hH c 10) (after0_10 m hO hH c) t d
theorem before0_11 (hO : Ok m) (hH : Hyps m) (c : Dev nD) (t : Fin (cfgM m hO).N) (d) : (dats m hO hH 0 c).before 11 t d = iblk m hO c 11 t :=
  before0_11_of m hO (dats m hO hH 0 c) (A_eq m hO hH c 11) (after0_11 m hO hH c) t d
theorem before0_12 (hO : Ok m) (hH : Hyps m) (c : Dev nD) (t : Fin (cfgM m hO).N) (d) : (dats m hO hH 0 c).before 12 t d = iblk m hO c 12 t :=
  before0_12_of m hO (dats m hO hH 0 c) (A_eq m hO hH c 12) (after0_12 m hO hH c) t d

/-! ## The body obligation, at a generic point -/

/-- What the body is called with at point `t`, -/
def bodyPre (hO : Ok m) (hH : Hyps m) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d))
    ∗ (∃ d, owns (c : Thread nD τ) (ms0_9 m hO t) fullShare ((dats m hO hH 0 c).before 9 t d))
    ∗ (∃ d, owns (c : Thread nD τ) (ms0_10 m hO t) fullShare ((dats m hO hH 0 c).before 10 t d))
    ∗ (∃ d, owns (c : Thread nD τ) (ms0_11 m hO t) fullShare ((dats m hO hH 0 c).before 11 t d))
    ∗ (∃ d, owns (c : Thread nD τ) (ms0_12 m hO t) fullShare ((dats m hO hH 0 c).before 12 t d))
    ∗ (∃ d, owns (c : Thread nD τ) (ms0_13 m hO t) fullShare ((dats m hO hH 0 c).before 13 t d))
    ∗ (∃ d, owns (c : Thread nD τ) (ms0_14 m hO t) fullShare ((dats m hO hH 0 c).before 14 t d)))

/-- and what it returns. -/
def bodyPost (hO : Ok m) (hH : Hyps m) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t)
    ∗ owns (c : Thread nD τ) (ms0_9 m hO t) fullShare ((dats m hO hH 0 c).after 9 t)
    ∗ owns (c : Thread nD τ) (ms0_10 m hO t) fullShare ((dats m hO hH 0 c).after 10 t)
    ∗ owns (c : Thread nD τ) (ms0_11 m hO t) fullShare ((dats m hO hH 0 c).after 11 t)
    ∗ owns (c : Thread nD τ) (ms0_12 m hO t) fullShare ((dats m hO hH 0 c).after 12 t)
    ∗ owns (c : Thread nD τ) (ms0_13 m hO t) fullShare ((dats m hO hH 0 c).after 13 t)
    ∗ owns (c : Thread nD τ) (ms0_14 m hO t) fullShare ((dats m hO hH 0 c).after 14 t))

/-- The memrefs of the body at point `t`. -/
abbrev args0 (hO : Ok m) (t : Fin (cfgM m hO).N) : Args where
  a2 := tbM0_0
  h2 := htbM0_0
  a3 := ms0_0 m hO t
  h3 := hs0_0 m hO t
  a4 := ms0_1 m hO t
  h4 := hs0_1 m hO t
  a5 := ms0_2 m hO t
  h5 := hs0_2 m hO t
  a6 := ms0_3 m hO t
  h6 := hs0_3 m hO t
  a7 := ms0_4 m hO t
  h7 := hs0_4 m hO t
  a8 := ms0_5 m hO t
  h8 := hs0_5 m hO t
  a9 := ms0_6 m hO t
  h9 := hs0_6 m hO t
  a10 := ms0_7 m hO t
  h10 := hs0_7 m hO t
  a11 := ms0_8 m hO t
  h11 := hs0_8 m hO t
  a12 := ms0_9 m hO t
  h12 := hs0_9 m hO t
  a13 := ms0_10 m hO t
  h13 := hs0_10 m hO t
  a14 := ms0_11 m hO t
  h14 := hs0_11 m hO t
  a15 := ms0_12 m hO t
  h15 := hs0_12 m hO t
  a16 := ms0_13 m hO t
  h16 := hs0_13 m hO t
  a17 := ms0_14 m hO t
  h17 := hs0_14 m hO t
  a18 := scM0_0
  h18 := Memref.isWhole_whole _
  a19 := scM0_1
  h19 := Memref.isWhole_whole _
  a20 := scM0_2
  h20 := Memref.isWhole_whole _
  a21 := scM0_3
  h21 := Memref.isWhole_whole _
  a22 := scM0_4
  h22 := Memref.isWhole_whole _
  a23 := scM0_5
  h23 := Memref.isWhole_whole _
  a24 := scM0_6
  h24 := Memref.isWhole_whole _
  a25 := scM0_7
  h25 := Memref.isWhole_whole _
  a26 := scM0_8
  h26 := Memref.isWhole_whole _
  a27 := scM0_9
  h27 := Memref.isWhole_whole _

/-- What is held, spelled out. -/
theorem own_eq (c : Dev nD) (A : Args) (s : St F) : own c A s = iprop(owns (c : Thread nD τ) A.a2 fullShare.right s.x2 ∗ owns (c : Thread nD τ) A.a3 fullShare s.x3 ∗ owns (c : Thread nD τ) A.a4 fullShare s.x4 ∗ owns (c : Thread nD τ) A.a5 fullShare s.x5 ∗ owns (c : Thread nD τ) A.a6 fullShare s.x6 ∗ owns (c : Thread nD τ) A.a7 fullShare s.x7 ∗ owns (c : Thread nD τ) A.a8 fullShare s.x8 ∗ owns (c : Thread nD τ) A.a9 fullShare s.x9 ∗ owns (c : Thread nD τ) A.a10 fullShare s.x10 ∗ owns (c : Thread nD τ) A.a11 fullShare s.x11 ∗ owns (c : Thread nD τ) A.a12 fullShare s.x12 ∗ owns (c : Thread nD τ) A.a13 fullShare s.x13 ∗ owns (c : Thread nD τ) A.a14 fullShare s.x14 ∗ owns (c : Thread nD τ) A.a15 fullShare s.x15 ∗ owns (c : Thread nD τ) A.a16 fullShare s.x16 ∗ owns (c : Thread nD τ) A.a17 fullShare s.x17 ∗ owns (c : Thread nD τ) A.a18 fullShare s.x18 ∗ owns (c : Thread nD τ) A.a19 fullShare s.x19 ∗ owns (c : Thread nD τ) A.a20 fullShare s.x20 ∗ owns (c : Thread nD τ) A.a21 fullShare s.x21 ∗ owns (c : Thread nD τ) A.a22 fullShare s.x22 ∗ owns (c : Thread nD τ) A.a23 fullShare s.x23 ∗ owns (c : Thread nD τ) A.a24 fullShare s.x24 ∗ owns (c : Thread nD τ) A.a25 fullShare s.x25 ∗ owns (c : Thread nD τ) A.a26 fullShare s.x26 ∗ owns (c : Thread nD τ) A.a27 fullShare s.x27) := by
  unfold own; rfl

theorem PhiT0_owns (c : Dev nD) : (Pipeline.ΦT pre0 (tbl m) c : sProp 𝕄) = owns (c : Thread nD τ) tbM0_0 fullShare.right (tbl m 0 : Vec F S2x128 .i32) :=
  (PhiT0_eq m c).trans (owns_whole (c : Thread nD τ) _ _ _).symm

/-- The first coordinate test, in numbers. -/
theorem c1_of : ∀ t : Fin grid0.N, c1 (grid0.coords t) ≠ 1#1 → t.val ≠ 0 := by unfold c1; decide +kernel
/-- The second: a point of the second batch follows one of the first with the same channels. -/
theorem c2_of : ∀ t : Fin grid0.N, c2 (grid0.coords t) ≠ 1#1 → t.val ≠ 0 ∧ ∀ p : Fin grid0.N, p.val + 1 = t.val → ciT p = ciT t := by unfold c2 ciT; decide +kernel

/-- What the body reads at a point is the arrays' parts there. -/
theorem reads_at (hO : Ok m) (t : Fin grid0.N) (s : St F) (h2 : s.x2 = tbl m 0) (h3 : s.x3 = iblk m hO 0 0 t) (h4 : s.x4 = iblk m hO 0 1 t) (h5 : s.x5 = iblk m hO 0 2 t) (h6 : s.x6 = iblk m hO 0 3 t) (h7 : s.x7 = iblk m hO 0 4 t) (h8 : s.x8 = iblk m hO 0 5 t) (h9 : s.x9 = iblk m hO 0 6 t) (h10 : s.x10 = iblk m hO 0 7 t) (h11 : s.x11 = iblk m hO 0 8 t) (h12 : s.x12 = iblk m hO 0 9 t) (h13 : s.x13 = iblk m hO 0 10 t) (h14 : s.x14 = iblk m hO 0 11 t) (h15 : s.x15 = iblk m hO 0 12 t) : (inM m).Reads (ciT t) (biT t) s where
  h2 := h2
  h3 := h3.trans (blk0 m hO t)
  h4 := h4.trans (blk1 m hO t)
  h5 := h5.trans (blk2 m hO t)
  h6 := h6.trans (blk3 m hO t)
  h7 := h7.trans (blk4 m hO t)
  h8 := h8.trans (blk5 m hO t)
  h9 := h9.trans (blk6 m hO t)
  h10 := h10.trans (blk7 m hO t)
  h11 := h11.trans (blk8 m hO t)
  h12 := h12.trans (blk9 m hO t)
  h13 := h13.trans (blk10 m hO t)
  h14 := h14.trans (blk11 m hO t)
  h15 := h15.trans (blk12 m hO t)

set_option maxHeartbeats 4800000 in
/-- The body at any point: the inputs' memrefs hold their blocks, so the body runs, keeps them, and leaves the scan's blocks. -/
theorem sound_body (hO : Ok m) (hH : Hyps m) (c : Dev nD) (t : Fin (cfgM m hO).N) :
    bodyPre m hO hH c t ⊢ wp frame (wpE (defs₀ (F := F)) Variants.none c none) Set.univ (bodyAt0 (adm m hO) t) (fun _ => bodyPost m hO hH c t) := by
  obtain rfl : c = 0 := Subsingleton.elim _ _
  unfold bodyPre bodyPost
  simp only [before0_0, before0_1, before0_2, before0_3, before0_4, before0_5, before0_6, before0_7, before0_8, before0_9, before0_10, before0_11, before0_12]
  rw [show (dats m hO hH 0 0).owesAt () t.succ = (dats m hO hH 0 0).owesAt () t.castSucc from rfl,
    after0_0, after0_1, after0_2, after0_3, after0_4, after0_5, after0_6, after0_7, after0_8, after0_9, after0_10, after0_11, after0_12, after0_13, after0_14]
  rw [show (dats m hO hH 0 0).Φ t.castSucc = keep m t.val 0 from rfl, show (dats m hO hH 0 0).Φ t.succ = keep m (t.val + 1) 0 from rfl]
  unfold keep
  iintro ⟨⟨⟨⟨%e, %hI, HS0, HS1, HS2, HS3, HS4, HS5, HS6, HS7, HS8, HS9⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have key := val_body (F := F) (c := 0) (A := args0 m hO t) (i := grid0.coords t) (S := ⟨tbl m 0, iblk m hO 0 0 t, iblk m hO 0 1 t, iblk m hO 0 2 t, iblk m hO 0 3 t, iblk m hO 0 4 t, iblk m hO 0 5 t, iblk m hO 0 6 t, iblk m hO 0 7 t, iblk m hO 0 8 t, iblk m hO 0 9 t, iblk m hO 0 10 t, iblk m hO 0 11 t, iblk m hO 0 12 t, (dats m hO hH 0 0).before 13 t d13, (dats m hO hH 0 0).before 14 t d14, e.x18, e.x19, e.x20, e.x21, e.x22, e.x23, e.x24, e.x25, e.x26, e.x27⟩) hH
    (Φ := fun _ s' => Inv m (t.val + 1) s' ∧ s'.x2 = tbl m 0 ∧ s'.x3 = iblk m hO 0 0 t ∧ s'.x4 = iblk m hO 0 1 t ∧ s'.x5 = iblk m hO 0 2 t ∧ s'.x6 = iblk m hO 0 3 t ∧ s'.x7 = iblk m hO 0 4 t ∧ s'.x8 = iblk m hO 0 5 t ∧ s'.x9 = iblk m hO 0 6 t ∧ s'.x10 = iblk m hO 0 7 t ∧ s'.x11 = iblk m hO 0 8 t ∧ s'.x12 = iblk m hO 0 9 t ∧ s'.x13 = iblk m hO 0 10 t ∧ s'.x14 = iblk m hO 0 11 t ∧ s'.x15 = iblk m hO 0 12 t ∧ s'.x16 = (inM m).yB (ciT t) (biT t) ∧ s'.x17 = (inM m).hB (ciT t) (biT t)) (fun Y => by
      have hE := endS_at (I := inM m) (ci := ciT t) (b := biT t) (i := grid0.coords t) (S := ⟨tbl m 0, iblk m hO 0 0 t, iblk m hO 0 1 t, iblk m hO 0 2 t, iblk m hO 0 3 t, iblk m hO 0 4 t, iblk m hO 0 5 t, iblk m hO 0 6 t, iblk m hO 0 7 t, iblk m hO 0 8 t, iblk m hO 0 9 t, iblk m hO 0 10 t, iblk m hO 0 11 t, iblk m hO 0 12 t, (dats m hO hH 0 0).before 13 t d13, (dats m hO hH 0 0).before 14 t d14, e.x18, e.x19, e.x20, e.x21, e.x22, e.x23, e.x24, e.x25, e.x26, e.x27⟩)
        (reads_at m hO t _ rfl rfl rfl rfl rfl rfl rfl rfl rfl rfl rfl rfl rfl rfl) rfl
        (fun h => ⟨(hI (c1_of t h)).1.h18, (hI (c1_of t h)).1.h19, (hI (c1_of t h)).1.h20, (hI (c1_of t h)).1.h21, (hI (c1_of t h)).1.h22⟩)
        (fun h => by
          obtain ⟨p, hp, hx⟩ := (hI (c2_of t h).1).2
          rw [← (c2_of t h).2 p hp]; exact hx) Y
      obtain ⟨e16, e17, eP, e23, eR⟩ := hE
      exact ⟨fun _ => ⟨eP, t, rfl, e23⟩, eR.h2, eR.h3.trans (blk0 m hO t).symm, eR.h4.trans (blk1 m hO t).symm, eR.h5.trans (blk2 m hO t).symm, eR.h6.trans (blk3 m hO t).symm, eR.h7.trans (blk4 m hO t).symm, eR.h8.trans (blk5 m hO t).symm, eR.h9.trans (blk6 m hO t).symm, eR.h10.trans (blk7 m hO t).symm, eR.h11.trans (blk8 m hO t).symm, eR.h12.trans (blk9 m hO t).symm, eR.h13.trans (blk10 m hO t).symm, eR.h14.trans (blk11 m hO t).symm, eR.h15.trans (blk12 m hO t).symm, e16, e17⟩)
  unfold Runs at key
  simp only [own_eq] at key
  have key' := key.trans (wp_wand frame (wpE (defs₀ (F := F)) Variants.none ((0 : Dev nD) : Thread nD τ) none) Set.univ (Q' := fun _ => iprop(iprop(iprop((∃ s : St F, ⌜Inv m (t.val + 1) s⌝ ∗ owns ((0 : Dev nD) : Thread nD τ) scM0_0 fullShare s.x18 ∗ owns ((0 : Dev nD) : Thread nD τ) scM0_1 fullShare s.x19 ∗ owns ((0 : Dev nD) : Thread nD τ) scM0_2 fullShare s.x20 ∗ owns ((0 : Dev nD) : Thread nD τ) scM0_3 fullShare s.x21 ∗ owns ((0 : Dev nD) : Thread nD τ) scM0_4 fullShare s.x22 ∗ owns ((0 : Dev nD) : Thread nD τ) scM0_5 fullShare s.x23 ∗ owns ((0 : Dev nD) : Thread nD τ) scM0_6 fullShare s.x24 ∗ owns ((0 : Dev nD) : Thread nD τ) scM0_7 fullShare s.x25 ∗ owns ((0 : Dev nD) : Thread nD τ) scM0_8 fullShare s.x26 ∗ owns ((0 : Dev nD) : Thread nD τ) scM0_9 fullShare s.x27) ∗ (∃ r, prngReg (0 : Dev nD) r)) ∗ owns ((0 : Dev nD) : Thread nD τ) tbM0_0 fullShare.right (tbl m 0 : Vec F S2x128 .i32)) ∗ (dats m hO hH 0 0).owesAt () t.castSucc ∗ owns ((0 : Dev nD) : Thread nD τ) (ms0_0 m hO t) fullShare (iblk m hO 0 0 t) ∗ owns ((0 : Dev nD) : Thread nD τ) (ms0_1 m hO t) fullShare (iblk m hO 0 1 t) ∗ owns ((0 : Dev nD) : Thread nD τ) (ms0_2 m hO t) fullShare (iblk m hO 0 2 t) ∗ owns ((0 : Dev nD) : Thread nD τ) (ms0_3 m hO t) fullShare (iblk m hO 0 3 t) ∗ owns ((0 : Dev nD) : Thread nD τ) (ms0_4 m hO t) fullShare (iblk m hO 0 4 t) ∗ owns ((0 : Dev nD) : Thread nD τ) (ms0_5 m hO t) fullShare (iblk m hO 0 5 t) ∗ owns ((0 : Dev nD) : Thread nD τ) (ms0_6 m hO t) fullShare (iblk m hO 0 6 t) ∗ owns ((0 : Dev nD) : Thread nD τ) (ms0_7 m hO t) fullShare (iblk m hO 0 7 t) ∗ owns ((0 : Dev nD) : Thread nD τ) (ms0_8 m hO t) fullShare (iblk m hO 0 8 t) ∗ owns ((0 : Dev nD) : Thread nD τ) (ms0_9 m hO t) fullShare (iblk m hO 0 9 t) ∗ owns ((0 : Dev nD) : Thread nD τ) (ms0_10 m hO t) fullShare (iblk m hO 0 10 t) ∗ owns ((0 : Dev nD) : Thread nD τ) (ms0_11 m hO t) fullShare (iblk m hO 0 11 t) ∗ owns ((0 : Dev nD) : Thread nD τ) (ms0_12 m hO t) fullShare (iblk m hO 0 12 t) ∗ owns ((0 : Dev nD) : Thread nD τ) (ms0_13 m hO t) fullShare ((inM m).yB (ciT t) (biT t)) ∗ owns ((0 : Dev nD) : Thread nD τ) (ms0_14 m hO t) fullShare ((inM m).hB (ciT t) (biT t)))))
  iapply key' $$ [HT0 H0 H1 H2 H3 H4 H5 H6 H7 H8 H9 H10 H11 H12 H13 H14 HS0 HS1 HS2 HS3 HS4 HS5 HS6 HS7 HS8 HS9]
  · isplitl [HT0]; · iexact HT0
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    iexact HS9
  iintro %a ⟨%s', %hk, HT0, H0, H1, H2, H3, H4, H5, H6, H7, H8, H9, H10, H11, H12, H13, H14, HS0, HS1, HS2, HS3, HS4, HS5, HS6, HS7, HS8, HS9⟩
  obtain ⟨kI, k2, k3, k4, k5, k6, k7, k8, k9, k10, k11, k12, k13, k14, k15, k16, k17⟩ := hk
  rw [k2, k3, k4, k5, k6, k7, k8, k9, k10, k11, k12, k13, k14, k15, k16, k17]
  isplitl [HS0 HS1 HS2 HS3 HS4 HS5 HS6 HS7 HS8 HS9 Hg HT0]
  · isplitl [HS0 HS1 HS2 HS3 HS4 HS5 HS6 HS7 HS8 HS9 Hg]
    · isplitl [HS0 HS1 HS2 HS3 HS4 HS5 HS6 HS7 HS8 HS9]
      · iexists s'
        isplitr
        · ipureintro; exact kI
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iexact HS9
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (hH : Hyps m) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

theorem keep_in (hO : Ok m) (hH : Hyps m) (c : Dev nD) : iprop(Pipeline.ΦA spec0 c ∗ Pipeline.ΦT pre0 (tbl m) c) ⊢ (dats m hO hH 0 c).Φ 0 := by
  rw [show (dats m hO hH 0 c).Φ 0 = keep m 0 c from rfl, PhiT0_owns, PhiA0_eq]
  unfold keep
  iintro ⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩, ⟨%e8, HS8⟩, ⟨%e9, HS9⟩⟩, Hg⟩, HT0⟩
  isplitl [HS0 HS1 HS2 HS3 HS4 HS5 HS6 HS7 HS8 HS9 Hg]
  · isplitl [HS0 HS1 HS2 HS3 HS4 HS5 HS6 HS7 HS8 HS9]
    · iexists (⟨tbl m 0, iblk m hO c 0 t0_0, iblk m hO c 1 t0_0, iblk m hO c 2 t0_0, iblk m hO c 3 t0_0, iblk m hO c 4 t0_0, iblk m hO c 5 t0_0, iblk m hO c 6 t0_0, iblk m hO c 7 t0_0, iblk m hO c 8 t0_0, iblk m hO c 9 t0_0, iblk m hO c 10 t0_0, iblk m hO c 11 t0_0, iblk m hO c 12 t0_0, (inM m).yB 0 0, (inM m).hB 0 0, e0, e1, e2, e3, e4, e5, e6, e7, e8, e9⟩ : St F)
      isplitr
      · ipureintro; exact fun h => absurd rfl h
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  iexact HT0

theorem keep_out (hO : Ok m) (hH : Hyps m) (c : Dev nD) : (dats m hO hH 0 c).Φ (Fin.last (cfgM m hO).N) ⊢ Pipeline.ΦA spec0 c := by
  rw [show (dats m hO hH 0 c).Φ (Fin.last (cfgM m hO).N) = keep m (cfgM m hO).N c from rfl, PhiA0_eq]
  unfold keep
  iintro ⟨⟨⟨%e, %hI, HS0, HS1, HS2, HS3, HS4, HS5, HS6, HS7, HS8, HS9⟩, Hg⟩, HT0⟩
  iclear HT0
  isplitl [HS0 HS1 HS2 HS3 HS4 HS5 HS6 HS7 HS8 HS9]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

-- implicit arguments are found by unifying its conclusion with this one, which takes unfolding plain
-- definitions in a metavariable's type
set_option backward.isDefEq.respectTransparency.types false in
/-- The launch, every semaphore counter at zero at the end, every array holding what its points wrote. -/
theorem run_main_quiescent (hO : Ok m) (hH : Hyps m) : θ_run defs (onTc (τ := τ) (main (F := F))) (s₀ m ρ) (fun r => Pipeline.FramePost (Pipeline.pin pcfgs fun _ => adm m hO) (dats m hO hH) 0 (V m) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hin := keep_in m hO hH) (hout := keep_out m hO hH)

/-- The kernel ends; its two result arrays hold what the points wrote, its arguments are unchanged, every counter is at zero. -/
theorem run_all (hO : Ok m) (hH : Hyps m) : θ_run defs (onTc (τ := τ) (main (F := F))) ⟨m, fun _ => 0, ρ⟩ (fun r => (∀ c : Dev nD,
      r.2.mem ((c.tc : Thread nD τ).loc main_v5_0) = (dats m hO hH 0 c).arrAt 13 (cfgM m hO).N
      ∧ r.2.mem ((c.tc : Thread nD τ).loc main_v5_1) = (dats m hO hH 0 c).arrAt 14 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r hh => ⟨fun c => ⟨(hh.1 c).1 13, (hh.1 c).1 14,
      ((hh.1 c).1 0).trans (((dats m hO hH 0 c).arrAt_in 0 rfl _).trans ((A_eq m hO hH c 0).trans (V_main_arg0 m c))),
      ((hh.1 c).1 1).trans (((dats m hO hH 0 c).arrAt_in 1 rfl _).trans ((A_eq m hO hH c 1).trans (V_main_arg1 m c))),
      ((hh.1 c).1 2).trans (((dats m hO hH 0 c).arrAt_in 2 rfl _).trans ((A_eq m hO hH c 2).trans (V_main_arg2 m c))),
      ((hh.1 c).1 3).trans (((dats m hO hH 0 c).arrAt_in 3 rfl _).trans ((A_eq m hO hH c 3).trans (V_main_arg3 m c))),
      ((hh.1 c).1 4).trans (((dats m hO hH 0 c).arrAt_in 4 rfl _).trans ((A_eq m hO hH c 4).trans (V_main_arg4 m c))),
      ((hh.1 c).1 5).trans (((dats m hO hH 0 c).arrAt_in 5 rfl _).trans ((A_eq m hO hH c 5).trans (V_main_arg5 m c))),
      ((hh.1 c).1 6).trans (((dats m hO hH 0 c).arrAt_in 6 rfl _).trans ((A_eq m hO hH c 6).trans (V_main_arg6 m c))),
      ((hh.1 c).1 7).trans (((dats m hO hH 0 c).arrAt_in 7 rfl _).trans ((A_eq m hO hH c 7).trans (V_main_arg7 m c))),
      ((hh.1 c).1 8).trans (((dats m hO hH 0 c).arrAt_in 8 rfl _).trans ((A_eq m hO hH c 8).trans (V_main_arg8 m c))),
      ((hh.1 c).2 main_arg9 (by decide : main_arg9 ∈ Pipeline.restRefs sig spec0)).trans (V_main_arg9 m c),
      ((hh.1 c).2 main_arg10 (by decide : main_arg10 ∈ Pipeline.restRefs sig spec0)).trans (V_main_arg10 m c),
      ((hh.1 c).2 main_arg11 (by decide : main_arg11 ∈ Pipeline.restRefs sig spec0)).trans (V_main_arg11 m c),
      ((hh.1 c).2 main_arg12 (by decide : main_arg12 ∈ Pipeline.restRefs sig spec0)).trans (V_main_arg12 m c)⟩, hh.2⟩) (run_main_quiescent m ρ hO hH)

/-- The argument arrays end unchanged and every semaphore counter ends at zero. -/
theorem frame (hO : Ok m) (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r hh => ⟨fun c => (hh.1 c).2.2, hh.2⟩) (run_all m ρ hO hH)

end Cert.KernelIdeal.Scan

end
-- ==== Proof.Bridge.Frame.lean ====
/- The kernel's frame, from the frame proved of the program of its ideal form over any floats. -/
module

public import proofs.«01_k».proof.Proof.Bridge.Same
public import proofs.«01_k».proof.Proof.ScanI.RunV

@[expose] public section

set_option maxRecDepth 65536
set_option maxHeartbeats 1000000

noncomputable section

namespace Cert.Kernel.Scan

open Cert.Kernel
open Idealize.ShloMosaic Idealize.SL.Sem Idealize.ShloMosaic.TcCoe

variable {F : FTy → Type} [FloatOps F]

/-- Where every word of the table is a flag, the kernel ends, its arguments unchanged and every semaphore counter at zero. -/
theorem frame (m : (ℓ : Loc nD τ sig) → Buf (Elt F) ℓ) (ρ : Dev nD → PrngReg)
    (hH : ∀ j : S2x128.Idx, (m (((0 : Dev nD) : Thread nD τ).loc main_arg12) : Vec F S2x128 .i32) j = 0#32 ∨ (m (((0 : Dev nD) : Thread nD τ).loc main_arg12) : Vec F S2x128 .i32) j = 1#32) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  have hI : Cert.KernelIdeal.Scan.Hyps (F := F) m := fun j => by
    have e : Cert.KernelIdeal.Scan.tbl (F := F) m 0 = m (((0 : Dev nD) : Thread nD τ).loc main_arg12) := @Cert.KernelIdeal.Scan.V_main_arg12 F _ word m 0
    rw [e]
    exact hH j
  have h := @Cert.KernelIdeal.Scan.frame F _ word m ρ (by trivial) hI
  rw [defs_eq, main_eq]
  exact h

end Cert.Kernel.Scan

end
-- ==== Proof.ScanI.Final.lean ====
/- The two result arrays of the kernel, whole. -/
module

public import proofs.«01_k».proof.Proof.ScanI.RunV
public import Idealize.ShloMosaic.Lib.Pipeline.ValueKit

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat Cfg Window)

variable {F : FTy → Type} [FloatOps F] [Named F]
variable (m : (ℓ : Loc nD τ sig) → Buf (Elt F) ℓ)

/-- The outputs of the scan, all tokens and channels. -/
def resY : Vec F S2x128x8192 .bf16 := fun x => (inM m).y (x 0).val (x 1).val (x 2).val
/-- The last state of the scan, all channels. -/
def resH : Vec F S2x16x8192 .f32 := fun x => (inM m).h (x 0).val (x 1).val (x 2).val 128

/-- Every pair of a channel block and a batch has its grid point. -/
theorem pick_fin : ∀ (p : Fin 8) (q : Fin 2), ∃ t : Fin grid0.N, biT t = q.val ∧ ciT t = p.val := by unfold biT ciT; decide +kernel
theorem pick (p q : ℕ) (hp : p < 8) (hq : q < 2) : ∃ t : Fin grid0.N, biT t = q ∧ ciT t = p := pick_fin ⟨p, hp⟩ ⟨q, hq⟩

theorem flush13 (hO : Ok m) (t : Fin grid0.N) : ((cfgM m hO).win 13).flush t = true := by
  show Pipeline.Window.flushOf grid0 true cc0_transform_13 t = true
  revert t
  unfold Pipeline.Window.flushOf
  decide +kernel

theorem flushed13 (hO : Ok m) (hH : Hyps m) (t : Fin (cfgM m hO).N) :
    (dats m hO hH 0 0).flushed 13 t = (((cfgM m hO).win 13).blk t).view.read (Elt F) (resY m) := by
  have h8 := ciT_lt t
  have h2 := biT_lt t
  have ht := idx13 t
  show ((cfgM m hO).win 13).cut (grid0.coords t) ((dats m hO hH 0 0).after 13 t) = _
  rw [after0_13]
  funext (x : S1x128x1024.Idx)
  refine Eq.trans ?_ (View.read_apply ..).symm
  have b0 : (x 0).val < 1 := (x 0).isLt
  have b1 : (x 1).val < 128 := (x 1).isLt
  have b2 : (x 2).val < 1024 := (x 2).isLt
  refine Eq.trans (b := resY m (pt ![biT t, (x 1).val, 1024 * ciT t + (x 2).val])) ?_ ?_
  · have q0 : ((pt ![biT t, (x 1).val, 1024 * ciT t + (x 2).val] : S2x128x8192.Idx) 0).val = biT t := pt_val (s := S2x128x8192) (o := ![biT t, (x 1).val, 1024 * ciT t + (x 2).val]) (a := 0) h2
    have q1 : ((pt ![biT t, (x 1).val, 1024 * ciT t + (x 2).val] : S2x128x8192.Idx) 1).val = (x 1).val := pt_val (s := S2x128x8192) (o := ![biT t, (x 1).val, 1024 * ciT t + (x 2).val]) (a := 1) b1
    have q2 : ((pt ![biT t, (x 1).val, 1024 * ciT t + (x 2).val] : S2x128x8192.Idx) 2).val = 1024 * ciT t + (x 2).val := pt_val (s := S2x128x8192) (o := ![biT t, (x 1).val, 1024 * ciT t + (x 2).val]) (a := 2) (by show 1024 * ciT t + (x 2).val < 8192; omega)
    show (inM m).y (biT t) (x 1).val (1024 * ciT t + (x 2).val) = (inM m).y ((pt ![biT t, (x 1).val, 1024 * ciT t + (x 2).val] : S2x128x8192.Idx) 0).val ((pt ![biT t, (x 1).val, 1024 * ciT t + (x 2).val] : S2x128x8192.Idx) 1).val ((pt ![biT t, (x 1).val, 1024 * ciT t + (x 2).val] : S2x128x8192.Idx) 2).val
    rw [q0, q1, q2]
  · show resY m _ = resY m _
    congr 1
    funext a
    apply Fin.ext
    match a with
    | ⟨0, _⟩ =>
      show (biT t) % 2 = cc0_transform_13 (grid0.coords t) 0 * 1 + 1 * (x 0).val
      rw [ht]; simp; try omega
    | ⟨1, _⟩ =>
      show ((x 1).val) % 128 = cc0_transform_13 (grid0.coords t) 1 * 128 + 1 * (x 1).val
      rw [ht]; simp; try omega
    | ⟨2, _⟩ =>
      show (1024 * ciT t + (x 2).val) % 8192 = cc0_transform_13 (grid0.coords t) 2 * 1024 + 1 * (x 2).val
      rw [ht]; simp; try omega

/-- The whole result array. -/
theorem final13 (hO : Ok m) (hH : Hyps m) : (dats m hO hH 0 0).arrAt 13 (cfgM m hO).N = resY m :=
  (dats m hO hH 0 0).arrAt_eq_of_cover 13 (resY m) (fun t _ => flushed13 m hO hH t) fun (i : S2x128x8192.Idx) => by
    have b0 : (i 0).val < 2 := (i 0).isLt
    have b1 : (i 1).val < 128 := (i 1).isLt
    have b2 : (i 2).val < 8192 := (i 2).isLt
    obtain ⟨t, hb, hc⟩ := pick ((i 2).val / 1024) (i 0).val (by omega) b0
    refine ⟨t, flush13 m hO t, ?_⟩
    have ht := idx13 t
    refine (congrArg (fun q => i ∈ q) (View.set_slice_whole main_v5_0 (((cfgM m hO).win 13).rect t))).mpr ?_
    refine Rect.mem_set_unit.mpr ?_
    intro a
    match a with
    | ⟨0, _⟩ =>
      show cc0_transform_13 (grid0.coords t) 0 * 1 ≤ (i 0).val ∧ (i 0).val < cc0_transform_13 (grid0.coords t) 0 * 1 + 1
      rw [ht]; simp; try omega
    | ⟨1, _⟩ =>
      show cc0_transform_13 (grid0.coords t) 1 * 128 ≤ (i 1).val ∧ (i 1).val < cc0_transform_13 (grid0.coords t) 1 * 128 + 128
      rw [ht]; simp; try omega
    | ⟨2, _⟩ =>
      show cc0_transform_13 (grid0.coords t) 2 * 1024 ≤ (i 2).val ∧ (i 2).val < cc0_transform_13 (grid0.coords t) 2 * 1024 + 1024
      rw [ht]; simp; try omega

theorem flush14 (hO : Ok m) (t : Fin grid0.N) : ((cfgM m hO).win 14).flush t = true := by
  show Pipeline.Window.flushOf grid0 true cc0_transform_14 t = true
  revert t
  unfold Pipeline.Window.flushOf
  decide +kernel

theorem flushed14 (hO : Ok m) (hH : Hyps m) (t : Fin (cfgM m hO).N) :
    (dats m hO hH 0 0).flushed 14 t = (((cfgM m hO).win 14).blk t).view.read (Elt F) (resH m) := by
  have h8 := ciT_lt t
  have h2 := biT_lt t
  have ht := idx14 t
  show ((cfgM m hO).win 14).cut (grid0.coords t) ((dats m hO hH 0 0).after 14 t) = _
  rw [after0_14]
  funext (x : S1x16x1024.Idx)
  refine Eq.trans ?_ (View.read_apply ..).symm
  have b0 : (x 0).val < 1 := (x 0).isLt
  have b1 : (x 1).val < 16 := (x 1).isLt
  have b2 : (x 2).val < 1024 := (x 2).isLt
  refine Eq.trans (b := resH m (pt ![biT t, (x 1).val, 1024 * ciT t + (x 2).val])) ?_ ?_
  · have q0 : ((pt ![biT t, (x 1).val, 1024 * ciT t + (x 2).val] : S2x16x8192.Idx) 0).val = biT t := pt_val (s := S2x16x8192) (o := ![biT t, (x 1).val, 1024 * ciT t + (x 2).val]) (a := 0) h2
    have q1 : ((pt ![biT t, (x 1).val, 1024 * ciT t + (x 2).val] : S2x16x8192.Idx) 1).val = (x 1).val := pt_val (s := S2x16x8192) (o := ![biT t, (x 1).val, 1024 * ciT t + (x 2).val]) (a := 1) b1
    have q2 : ((pt ![biT t, (x 1).val, 1024 * ciT t + (x 2).val] : S2x16x8192.Idx) 2).val = 1024 * ciT t + (x 2).val := pt_val (s := S2x16x8192) (o := ![biT t, (x 1).val, 1024 * ciT t + (x 2).val]) (a := 2) (by show 1024 * ciT t + (x 2).val < 8192; omega)
    show (inM m).h (biT t) (x 1).val (1024 * ciT t + (x 2).val) 128 = (inM m).h ((pt ![biT t, (x 1).val, 1024 * ciT t + (x 2).val] : S2x16x8192.Idx) 0).val ((pt ![biT t, (x 1).val, 1024 * ciT t + (x 2).val] : S2x16x8192.Idx) 1).val ((pt ![biT t, (x 1).val, 1024 * ciT t + (x 2).val] : S2x16x8192.Idx) 2).val 128
    rw [q0, q1, q2]
  · show resH m _ = resH m _
    congr 1
    funext a
    apply Fin.ext
    match a with
    | ⟨0, _⟩ =>
      show (biT t) % 2 = cc0_transform_14 (grid0.coords t) 0 * 1 + 1 * (x 0).val
      rw [ht]; simp; try omega
    | ⟨1, _⟩ =>
      show ((x 1).val) % 16 = cc0_transform_14 (grid0.coords t) 1 * 16 + 1 * (x 1).val
      rw [ht]; simp; try omega
    | ⟨2, _⟩ =>
      show (1024 * ciT t + (x 2).val) % 8192 = cc0_transform_14 (grid0.coords t) 2 * 1024 + 1 * (x 2).val
      rw [ht]; simp; try omega

/-- The whole result array. -/
theorem final14 (hO : Ok m) (hH : Hyps m) : (dats m hO hH 0 0).arrAt 14 (cfgM m hO).N = resH m :=
  (dats m hO hH 0 0).arrAt_eq_of_cover 14 (resH m) (fun t _ => flushed14 m hO hH t) fun (i : S2x16x8192.Idx) => by
    have b0 : (i 0).val < 2 := (i 0).isLt
    have b1 : (i 1).val < 16 := (i 1).isLt
    have b2 : (i 2).val < 8192 := (i 2).isLt
    obtain ⟨t, hb, hc⟩ := pick ((i 2).val / 1024) (i 0).val (by omega) b0
    refine ⟨t, flush14 m hO t, ?_⟩
    have ht := idx14 t
    refine (congrArg (fun q => i ∈ q) (View.set_slice_whole main_v5_1 (((cfgM m hO).win 14).rect t))).mpr ?_
    refine Rect.mem_set_unit.mpr ?_
    intro a
    match a with
    | ⟨0, _⟩ =>
      show cc0_transform_14 (grid0.coords t) 0 * 1 ≤ (i 0).val ∧ (i 0).val < cc0_transform_14 (grid0.coords t) 0 * 1 + 1
      rw [ht]; simp; try omega
    | ⟨1, _⟩ =>
      show cc0_transform_14 (grid0.coords t) 1 * 16 ≤ (i 1).val ∧ (i 1).val < cc0_transform_14 (grid0.coords t) 1 * 16 + 16
      rw [ht]; simp; try omega
    | ⟨2, _⟩ =>
      show cc0_transform_14 (grid0.coords t) 2 * 1024 ≤ (i 2).val ∧ (i 2).val < cc0_transform_14 (grid0.coords t) 2 * 1024 + 1024
      rw [ht]; simp; try omega

end Cert.KernelIdeal.Scan

end
-- ==== Proof.ScanI.Host.lean ====
/- What the arrays prepared before the call hold: the transposed state matrix, the two rows, and the flags unchanged. -/
module

public import proofs.«01_k».proof.Proof.ScanI.Blocks
public import Idealize.ShloMosaic.Lib.Claim

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic Idealize.SL.Sem

variable {F : FTy → Type} [FloatOps F] [Named F]
variable (m : (ℓ : Loc nD τ sig) → Buf (Elt F) ℓ)

/-- The state matrix is handed over transposed. -/
theorem V_v0 (c : Dev nD) : (V m c main_v0 : Vec F S16x8192 .f32) = transpose S16x8192 [1, 0] (m ((c : Thread nD τ).loc main_arg9) : Vec F S8192x16 .f32) transposes_S8192x16_S16x8192_1_0 := by
  entry_read
  rfl

/-- The skip weights are handed over as one row. -/
theorem V_v1 (c : Dev nD) : (V m c main_v1 : Vec F S1x8192 .f32) = shapeCast S1x8192 (m ((c : Thread nD τ).loc main_arg10) : Vec F S8192 .f32) shapeCasts_S8192_S1x8192 := by
  entry_read
  rfl

/-- The bias is handed over as one row. -/
theorem V_v2 (c : Dev nD) : (V m c main_v2 : Vec F S1x8192 .f32) = shapeCast S1x8192 (m ((c : Thread nD τ).loc main_arg11) : Vec F S8192 .f32) shapeCasts_S8192_S1x8192 := by
  entry_read
  rfl

/-- Adding zero leaves the flags as they are. -/
theorem V_v4 (c : Dev nD) : (V m c main_v4 : Vec F S2x128 .i32) = m ((c : Thread nD τ).loc main_arg12) := by
  have e : (V m c main_v4 : Vec F S2x128 .i32) = addi (m ((c : Thread nD τ).loc main_arg12) : Vec F S2x128 .i32) (broadcastInDim S2x128 ![] bcast_S_S2x128 (constantI S_ 32 0#32)) := by
    entry_read
    rfl
  rw [e]
  funext x
  exact BitVec.add_zero _

instance : Pos S8192x16 := ⟨by decide⟩
instance : Pos S8192 := ⟨by decide⟩

/-- Entry (n, ch) of the transposed state matrix. -/
theorem v0_at (c : Dev nD) (n ch : ℕ) (hn : n < 16) (hc : ch < 8192) :
    (V m c main_v0 : Vec F S16x8192 .f32) (pt ![n, ch] : S16x8192.Idx) = (m ((c : Thread nD τ).loc main_arg9) : Vec F S8192x16 .f32) (pt ![ch, n] : S8192x16.Idx) := by
  rw [V_v0]
  exact transpose_apply _ _ _ _ _ (ax2 ((pt_val (s := S8192x16) (o := ![ch, n]) (a := 1) hn).trans (pt_val (s := S16x8192) (o := ![n, ch]) (a := 0) hn).symm) ((pt_val (s := S8192x16) (o := ![ch, n]) (a := 0) hc).trans (pt_val (s := S16x8192) (o := ![n, ch]) (a := 1) hc).symm))

/-- A row read back as the vector it came from. -/
theorem row_at {α : Type} (v : S8192.Idx → α) (h) (ch : ℕ) :
    shapeCast S1x8192 v h (pt ![0, ch] : S1x8192.Idx) = v (pt ![ch] : S8192.Idx) :=
  shapeCast_apply v h _ _ (by
    show Shape.rankPi ![8192] _ = Shape.rankPi ![1, 8192] _
    simp [Shape.rankPi, Shape.prodPi, pt]
    try omega)

end Cert.KernelIdeal.Scan

end
-- ==== Proof.Ref.Alg.lean ====
/- The extended real arithmetic the two programs' values are compared by. -/
module

public import proofs.«01_k».proof.Proof.ScanI.Spec
public import Idealize.ShloMosaic.Lib.Pipeline.ValueKit
public import Idealize.ShloMosaic.Lib.IdealHost

@[expose] public section

noncomputable section

namespace Cert.Alg

open Idealize.ShloMosaic
open Cert.KernelIdeal.Scan

/-- The reciprocal of the logarithm of two. -/
abbrev lg : EReal := (((Real.log 2)⁻¹ : ℝ) : EReal)

theorem lg_pos : (0 : ℝ) < (Real.log 2)⁻¹ := inv_pos.mpr (Real.log_pos one_lt_two)

/-- A power of two at a multiple of the reciprocal logarithm is an exponential. -/
theorem exp2_lg (x : EReal) : Ideal.exp2 (x * lg) = Ideal.exp x := by
  induction x using EReal.rec with
  | bot => rw [EReal.bot_mul_coe_of_pos lg_pos]; rfl
  | top => rw [EReal.top_mul_coe_of_pos lg_pos]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos two_pos]
    congr 1
    have h : Real.log 2 ≠ 0 := (Real.log_pos one_lt_two).ne'
    field_simp

/-- The same with the sign turned. -/
theorem exp2_neg_lg (x : EReal) : Ideal.exp2 (x * ((-((Real.log 2)⁻¹) : ℝ) : EReal)) = Ideal.exp (-x) := by
  rw [EReal.coe_neg, mul_neg, ← neg_mul]; exact exp2_lg _

/-- An exponential is not negative. -/
theorem exp_nonneg (x : EReal) : 0 ≤ Ideal.exp x := by
  induction x using EReal.rec with
  | bot => exact le_rfl
  | top => exact le_top
  | coe r => exact EReal.coe_nonneg.mpr (Real.exp_pos r).le

/-- Below `⊤` an exponential is a real number. -/
theorem exp_real {x : EReal} (h : x ≠ ⊤) : ∃ r : ℝ, Ideal.exp x = (r : EReal) := by
  induction x using EReal.rec with
  | bot => exact ⟨0, rfl⟩
  | top => exact absurd rfl h
  | coe r => exact ⟨_, rfl⟩

theorem neg_abs_ne_top (v : EReal) : 0 - max v (-v) ≠ ⊤ := by
  induction v using EReal.rec with
  | bot => simp
  | top => simp
  | coe r =>
    rw [← EReal.coe_neg]
    rcases le_total r (-r) with h | h
    · rw [max_eq_right (EReal.coe_le_coe_iff.mpr h), zero_sub, ← EReal.coe_neg]; exact EReal.coe_ne_top _
    · rw [max_eq_left (EReal.coe_le_coe_iff.mpr h), zero_sub, ← EReal.coe_neg]; exact EReal.coe_ne_top _

/-- The correction the compensated logarithm adds is nothing. -/
theorem comp_zero {e : EReal} (h : ∃ r : ℝ, e = (r : EReal)) : e - ((1 + e) - 1) = 0 := by
  obtain ⟨r, rfl⟩ := h
  rw [← EReal.coe_one, ← EReal.coe_add, ← EReal.coe_sub, ← EReal.coe_sub]
  norm_num

/-- The two constants, as extended reals. -/
abbrev z0 : EReal := f0 (F := Ideal)
abbrev z1 : EReal := f1 (F := Ideal)

theorem f0_eq : z0 = 0 := Ideal.ofBits_zero_f32
theorem f1_eq : z1 = 1 := Ideal.ofBits_one_f32

/-- Softplus in its textbook form. -/
theorem softp_eq (v : Ideal .f32) : softp v = (max v 0 + Ideal.log1p (Ideal.exp (0 - max v (-v))) : EReal) := by
  unfold softp
  show (max v z0 : EReal) + (Ideal.log (z1 + Ideal.exp2 ((z0 - max v (-v)) * lg)) + (Ideal.exp2 ((z0 - max v (-v)) * lg) - ((z1 + Ideal.exp2 ((z0 - max v (-v)) * lg)) - z1))) = _
  rw [f0_eq, f1_eq, exp2_lg, comp_zero (exp_real (neg_abs_ne_top v)), add_zero]
  rfl

/-- The gate in its textbook form. -/
theorem gate_eq (z : Ideal .bf16) : gateV z = ((z : EReal) * Ideal.logistic z : EReal) := by
  unfold gateV
  show Ideal.div (z : EReal) (z1 + Ideal.exp2 (z * ((-((Real.log 2)⁻¹) : ℝ) : EReal))) = (z : EReal) * Ideal.div 1 (1 + Ideal.exp (-z))
  rw [f1_eq, exp2_neg_lg]
  have h : (1 + Ideal.exp (-z) : EReal) ≠ 0 := by
    have h1 : (0 : EReal) < 1 + Ideal.exp (-z) := lt_of_lt_of_le zero_lt_one (le_add_of_nonneg_right (exp_nonneg _))
    exact h1.ne'
  unfold Ideal.div
  rw [if_neg h, if_neg h, one_mul]

/-- A sum of sixteen terms in the order of a tree. -/
theorem tree_sum (p : ℕ → EReal) :
    ((p 0 + p 8) + (p 1 + p 9) + ((p 2 + p 10) + (p 3 + p 11))) + ((p 4 + p 12) + (p 5 + p 13) + ((p 6 + p 14) + (p 7 + p 15))) = ∑ k : Fin 16, p k.val := by
  simp only [Fin.sum_univ_succ, Fin.sum_univ_zero, Fin.val_zero, Fin.val_succ, add_zero]
  abel

/-- The softplus the reference's text computes. -/
def rsoft (v : Ideal .f32) : Ideal .f32 :=
  Scalar.select (FloatOps.cmpf .one (FloatOps.subf v f0) (FloatOps.subf v f0)) (FloatOps.addf v f0)
    (FloatOps.addf (FloatOps.maximumf v f0) (FloatOps.log1p (FloatOps.exp (FloatOps.subf f0 (FloatOps.absf (FloatOps.subf v f0))))))

theorem rsoft_eq (v : Ideal .f32) : rsoft v = softp v := by
  rw [softp_eq]
  unfold rsoft
  have h : FloatOps.cmpf (F := Ideal) .one (FloatOps.subf v f0) (FloatOps.subf v f0) = 0#1 := by
    show BitVec.ofBool (decide (_ ≠ _)) = _
    simp
  rw [h]
  show (max v z0 : EReal) + Ideal.log1p (Ideal.exp (z0 - max (v - z0) (-(v - z0)))) = _
  rw [f0_eq, sub_zero]

/-- The decay: the reference multiplies by one minus the flag, the kernel takes the second plane of its table. -/
theorem decay_eq (I : In Ideal) (hfs : I.fs = I.fl) (hfl : ∀ x, I.fl x = 0#32 ∨ I.fl x = 1#32) (b t n ch : ℕ) :
    (FloatOps.exp2 (FloatOps.mulf (I.dd b t ch) (I.at1 (I.fl (pt ![b, t])).toNat n ch)) : Ideal .f32)
      = FloatOps.mulf (FloatOps.exp (FloatOps.mulf (I.dl b t ch) (FloatOps.subf f0 (FloatOps.exp (I.A (pt ![n, ch]))))))
          (FloatOps.sitofp .f32 (1#32 - I.fl (pt ![b, t]))) := by
  unfold In.dd In.fg
  rw [hfs]
  rcases hfl (pt ![b, t]) with h | h <;> rw [h]
  · have hc : FloatOps.cmpf (F := Ideal) .ogt (FloatOps.sitofp .f32 0#32) f0 = 0#1 := by
      show BitVec.ofBool (decide ((z0 : EReal) < (((0#32 : BitVec 32).toInt : ℝ) : EReal))) = _
      rw [f0_eq]; simp
    rw [hc]
    show Ideal.exp2 ((I.dl b t ch : EReal) * ((z0 - Ideal.exp (I.A (pt ![n, ch]))) * lg)) = Ideal.exp ((I.dl b t ch : EReal) * (z0 - Ideal.exp (I.A (pt ![n, ch])))) * ((((1#32 - 0#32 : BitVec 32).toInt : ℝ)) : EReal)
    rw [← mul_assoc, exp2_lg]
    have : (1#32 - 0#32 : BitVec 32).toInt = 1 := by decide
    rw [this]; simp
  · have hc : FloatOps.cmpf (F := Ideal) .ogt (FloatOps.sitofp .f32 1#32) f0 = 1#1 := by
      show BitVec.ofBool (decide ((z0 : EReal) < (((1#32 : BitVec 32).toInt : ℝ) : EReal))) = _
      rw [f0_eq]
      have : (1#32 : BitVec 32).toInt = 1 := by decide
      rw [this]; simp
    rw [hc]
    show Ideal.exp2 ((z1 : EReal) * ⊥) = Ideal.exp ((I.dl b t ch : EReal) * (z0 - Ideal.exp (I.A (pt ![n, ch])))) * ((((1#32 - 1#32 : BitVec 32).toInt : ℝ)) : EReal)
    rw [f1_eq, one_mul]
    have : (1#32 - 1#32 : BitVec 32).toInt = 0 := by decide
    rw [this]; simp

end Cert.Alg

end
-- ==== Proof.Ref.Pays.lean ====
/- The reference's vectors read element by element. -/
module

public import proofs.«01_k».proof.Proof.Gen.ReferenceIdeal.Loops
public import proofs.«01_k».proof.Proof.ScanI.Cover
public import proofs.«01_k».proof.Proof.Ref.Alg

@[expose] public section

set_option maxRecDepth 16384

noncomputable section

namespace Cert.ReferenceIdeal.Scan

open Cert.ReferenceIdeal Cert.ReferenceIdeal.Gen
open Idealize.ShloMosaic
open Cert.KernelIdeal.Scan (Pos pt pt_eq pt_val ptx ax2 ax3 f0 f1)
open Cert.Alg

instance : Pos S2x8192 := ⟨by decide⟩
instance : Pos S2x1 := ⟨by decide⟩
instance : Pos S2 := ⟨by decide⟩
instance : Pos S2x1x8192 := ⟨by decide⟩
instance : Pos S2x1x16 := ⟨by decide⟩
instance : Pos S2x16 := ⟨by decide⟩
instance : Pos S8192 := ⟨by decide⟩
instance : Pos S8192x16 := ⟨by decide⟩
instance : Pos S16x8192 := ⟨by decide⟩
instance : Pos S1x8192 := ⟨by decide⟩
instance : Pos S1x16x8192 := ⟨by decide⟩
instance : Pos S2x1x1 := ⟨by decide⟩
instance : Pos S2x16x1 := ⟨by decide⟩
instance : Pos S2x16x8192 := ⟨by decide⟩
instance : Pos S2x128x8192 := ⟨by decide⟩
instance : Pos S2x128x16 := ⟨by decide⟩
instance : Pos S2x128 := ⟨by decide⟩

theorem ax1 {p : Fin 1 → Prop} (h0 : p 0) : ∀ a, p a := fun a => match a with | ⟨0, _⟩ => h0

section
variable {α : Type}

theorem c_row (v : S2x1x8192.Idx → α) (h) (x : S2x8192.Idx) : shapeCast S2x8192 v h x = v (pt ![(x 0).val, 0, (x 1).val]) :=
  shapeCast_apply v h x _ (by
    have h0 : (x 0).val < 2 := (x 0).isLt
    have h1 : (x 1).val < 8192 := (x 1).isLt
    show Shape.rankPi ![2, 1, 8192] _ = Shape.rankPi ![2, 8192] _
    simp [Shape.rankPi, Shape.prodPi, pt]
    try omega)
theorem c_one (v : S2x1.Idx → α) (h) (x : S2.Idx) : shapeCast S2 v h x = v (pt ![(x 0).val, 0]) :=
  shapeCast_apply v h x _ (by
    have h0 : (x 0).val < 2 := (x 0).isLt
    show Shape.rankPi ![2, 1] _ = Shape.rankPi ![2] _
    simp [Shape.rankPi, Shape.prodPi, pt]
    try omega)
theorem c_16 (v : S2x1x16.Idx → α) (h) (x : S2x16.Idx) : shapeCast S2x16 v h x = v (pt ![(x 0).val, 0, (x 1).val]) :=
  shapeCast_apply v h x _ (by
    have h0 : (x 0).val < 2 := (x 0).isLt
    have h1 : (x 1).val < 16 := (x 1).isLt
    show Shape.rankPi ![2, 1, 16] _ = Shape.rankPi ![2, 16] _
    simp [Shape.rankPi, Shape.prodPi, pt]
    try omega)
theorem b_one (v : S2.Idx → α) (h h') (x : S2x8192.Idx) : broadcastTo S2x8192 (shapeCast S2x1 v h) h' x = v (pt ![(x 0).val]) :=
  (broadcastTo_apply _ h' x (pt ![(x 0).val, 0]) (ax2 (pt_val (x 0).isLt) rfl)).trans (shapeCast_apply v h _ _ (by
    have h0 : (x 0).val < 2 := (x 0).isLt
    show Shape.rankPi ![2] _ = Shape.rankPi ![2, 1] _
    simp [Shape.rankPi, Shape.prodPi, pt]
    try omega))
theorem b_one16 (v : S2.Idx → α) (h h') (x : S2x16.Idx) : broadcastTo S2x16 (shapeCast S2x1 v h) h' x = v (pt ![(x 0).val]) :=
  (broadcastTo_apply _ h' x (pt ![(x 0).val, 0]) (ax2 (pt_val (x 0).isLt) rfl)).trans (shapeCast_apply v h _ _ (by
    have h0 : (x 0).val < 2 := (x 0).isLt
    show Shape.rankPi ![2] _ = Shape.rankPi ![2, 1] _
    simp [Shape.rankPi, Shape.prodPi, pt]
    try omega))
theorem b_ch (v : S8192.Idx → α) (h h') (x : S2x8192.Idx) : broadcastTo S2x8192 (shapeCast S1x8192 v h) h' x = v (pt ![(x 1).val]) :=
  (broadcastTo_apply _ h' x (pt ![0, (x 1).val]) (ax2 rfl (pt_val (x 1).isLt))).trans (shapeCast_apply v h _ _ (by
    have h1 : (x 1).val < 8192 := (x 1).isLt
    show Shape.rankPi ![8192] _ = Shape.rankPi ![1, 8192] _
    simp [Shape.rankPi, Shape.prodPi, pt]
    try omega))
theorem b_bc (v : S2x8192.Idx → α) (h h') (x : S2x16x8192.Idx) : broadcastTo S2x16x8192 (shapeCast S2x1x8192 v h) h' x = v (pt ![(x 0).val, (x 2).val]) :=
  (broadcastTo_apply _ h' x (pt ![(x 0).val, 0, (x 2).val]) (ax3 (pt_val (x 0).isLt) rfl (pt_val (s := S2x1x8192) (o := ![(x 0).val, 0, (x 2).val]) (a := 2) (x 2).isLt))).trans (shapeCast_apply v h _ _ (by
    have h0 : (x 0).val < 2 := (x 0).isLt
    have h1 : (x 2).val < 8192 := (x 2).isLt
    show Shape.rankPi ![2, 8192] _ = Shape.rankPi ![2, 1, 8192] _
    simp [Shape.rankPi, Shape.prodPi, pt]
    try omega))
theorem b_nc (v : S16x8192.Idx → α) (h h') (x : S2x16x8192.Idx) : broadcastTo S2x16x8192 (shapeCast S1x16x8192 v h) h' x = v (pt ![(x 1).val, (x 2).val]) :=
  (broadcastTo_apply _ h' x (pt ![0, (x 1).val, (x 2).val]) (ax3 rfl (pt_val (s := S1x16x8192) (o := ![0, (x 1).val, (x 2).val]) (a := 1) (x 1).isLt) (pt_val (s := S1x16x8192) (o := ![0, (x 1).val, (x 2).val]) (a := 2) (x 2).isLt))).trans (shapeCast_apply v h _ _ (by
    have h0 : (x 1).val < 16 := (x 1).isLt
    have h1 : (x 2).val < 8192 := (x 2).isLt
    show Shape.rankPi ![16, 8192] _ = Shape.rankPi ![1, 16, 8192] _
    simp [Shape.rankPi, Shape.prodPi, pt]
    try omega))
theorem b_k (v : S2.Idx → α) (h h') (x : S2x16x8192.Idx) : broadcastTo S2x16x8192 (shapeCast S2x1x1 v h) h' x = v (pt ![(x 0).val]) :=
  (broadcastTo_apply _ h' x (pt ![(x 0).val, 0, 0]) (ax3 (pt_val (x 0).isLt) rfl rfl)).trans (shapeCast_apply v h _ _ (by
    have h0 : (x 0).val < 2 := (x 0).isLt
    show Shape.rankPi ![2] _ = Shape.rankPi ![2, 1, 1] _
    simp [Shape.rankPi, Shape.prodPi, pt]
    try omega))
theorem b_bn (v : S2x16.Idx → α) (h h') (x : S2x16x8192.Idx) : broadcastTo S2x16x8192 (shapeCast S2x16x1 v h) h' x = v (pt ![(x 0).val, (x 1).val]) :=
  (broadcastTo_apply _ h' x (pt ![(x 0).val, (x 1).val, 0]) (ax3 (pt_val (x 0).isLt) (pt_val (s := S2x16x1) (o := ![(x 0).val, (x 1).val, 0]) (a := 1) (x 1).isLt) rfl)).trans (shapeCast_apply v h _ _ (by
    have h0 : (x 0).val < 2 := (x 0).isLt
    have h1 : (x 1).val < 16 := (x 1).isLt
    show Shape.rankPi ![2, 16] _ = Shape.rankPi ![2, 16, 1] _
    simp [Shape.rankPi, Shape.prodPi, pt]
    try omega))
theorem b_out (v : S2x8192.Idx → α) (h h' h'') (x : S2x128x8192.Idx) : broadcastTo S2x128x8192 (shapeCast S2x1x8192 (shapeCast S2x1x8192 v h) h') h'' x = v (pt ![(x 0).val, (x 2).val]) := by
  rw [shapeCast_self]
  exact (broadcastTo_apply _ h'' x (pt ![(x 0).val, 0, (x 2).val]) (ax3 (pt_val (x 0).isLt) rfl (pt_val (s := S2x1x8192) (o := ![(x 0).val, 0, (x 2).val]) (a := 2) (x 2).isLt))).trans (shapeCast_apply v h _ _ (by
    have h0 : (x 0).val < 2 := (x 0).isLt
    have h1 : (x 2).val < 8192 := (x 2).isLt
    show Shape.rankPi ![2, 8192] _ = Shape.rankPi ![2, 1, 8192] _
    simp [Shape.rankPi, Shape.prodPi, pt]
    try omega))
theorem t_A (v : S8192x16.Idx → α) (h) (x : S16x8192.Idx) : transpose S16x8192 [1, 0] v h x = v (pt ![(x 1).val, (x 0).val]) :=
  transpose_apply _ v h x _ (ax2 (pt_val (s := S8192x16) (o := ![(x 1).val, (x 0).val]) (a := 1) (x 0).isLt) (pt_val (s := S8192x16) (o := ![(x 1).val, (x 0).val]) (a := 0) (x 1).isLt))
/-- A row or column loaded at token `k`. -/
theorem ld_row {o : ℕ} (v : S2x128x8192.Idx → α) (k : ℕ) (hk : o = k) (h) (x : S2x1x8192.Idx) : v ((Rect.unit (s := S2x128x8192) ![0, o, 0] ![2, 1, 8192] h).idx x) = v (pt ![(x 0).val, k, (x 2).val]) := by
  subst hk
  refine ptx v (ax3 ?_ ?_ ?_)
  · show (x 0).val = 0 + 1 * (x 0).val; omega
  · have : (x 1).val < 1 := (x 1).isLt
    show o = o + 1 * (x 1).val; omega
  · show (x 2).val = 0 + 1 * (x 2).val; omega
theorem ld_16 {o : ℕ} (v : S2x128x16.Idx → α) (k : ℕ) (hk : o = k) (h) (x : S2x1x16.Idx) : v ((Rect.unit (s := S2x128x16) ![0, o, 0] ![2, 1, 16] h).idx x) = v (pt ![(x 0).val, k, (x 2).val]) := by
  subst hk
  refine ptx v (ax3 ?_ ?_ ?_)
  · show (x 0).val = 0 + 1 * (x 0).val; omega
  · have : (x 1).val < 1 := (x 1).isLt
    show o = o + 1 * (x 1).val; omega
  · show (x 2).val = 0 + 1 * (x 2).val; omega
theorem ld_one {o : ℕ} (v : S2x128.Idx → α) (k : ℕ) (hk : o = k) (h) (x : S2x1.Idx) : v ((Rect.unit (s := S2x128) ![0, o] ![2, 1] h).idx x) = v (pt ![(x 0).val, k]) := by
  subst hk
  refine ptx v (ax2 ?_ ?_)
  · show (x 0).val = 0 + 1 * (x 0).val; omega
  · have : (x 1).val < 1 := (x 1).isLt
    show o = o + 1 * (x 1).val; omega
end

open Cert.KernelIdeal.Scan (pt_congr)

theorem pay1_at (v0 : Vec Ideal S8192x16 .f32) (x : S16x8192.Idx) : k0_pay1 v0 x = FloatOps.subf f0 (FloatOps.exp (v0 (pt ![(x 1).val, (x 0).val]))) := by
  unfold k0_pay1
  exact t_A _ _ x

theorem pay6_at (v15 : Vec Ideal S2x1x8192 .fp8e4m3) (v19 : Vec Ideal S2x1 .f32) (x : S2x8192.Idx) :
    k0_pay6 v15 v19 x = FloatOps.mulf (FloatOps.extf .f32 bitsLt_fp8e4m3_f32 (v15 (pt ![(x 0).val, 0, (x 1).val]))) (v19 (pt ![(x 0).val, 0])) := by
  unfold k0_pay6
  show FloatOps.mulf (F := Ideal) (FloatOps.extf .f32 _ (shapeCast S2x8192 v15 _ x)) (broadcastTo S2x8192 (shapeCast S2x1 (shapeCast S2 v19 _) _) _ x) = _
  rw [b_one, c_row, c_one]
  exact congrArg _ (congrArg v19 (pt_congr (ax2 (Nat.mod_mod _ _) rfl)))

theorem pay7_at (v15 : Vec Ideal S2x1x16 .fp8e4m3) (v19 : Vec Ideal S2x1 .f32) (x : S2x16.Idx) :
    k0_pay7 v15 v19 x = FloatOps.mulf (FloatOps.extf .f32 bitsLt_fp8e4m3_f32 (v15 (pt ![(x 0).val, 0, (x 1).val]))) (v19 (pt ![(x 0).val, 0])) := by
  unfold k0_pay7
  show FloatOps.mulf (F := Ideal) (FloatOps.extf .f32 _ (shapeCast S2x16 v15 _ x)) (broadcastTo S2x16 (shapeCast S2x1 (shapeCast S2 v19 _) _) _ x) = _
  rw [b_one16, c_16, c_one]
  exact congrArg _ (congrArg v19 (pt_congr (ax2 (Nat.mod_mod _ _) rfl)))

theorem pay8_at (v15 : Vec Ideal S2x1x16 .fp8e4m3) (v19 : Vec Ideal S2x1 .f32) (x : S2x16.Idx) :
    k0_pay8 v15 v19 x = FloatOps.mulf (FloatOps.extf .f32 bitsLt_fp8e4m3_f32 (v15 (pt ![(x 0).val, 0, (x 1).val]))) (v19 (pt ![(x 0).val, 0])) :=
  pay7_at v15 v19 x

theorem pay9_at (v6 : Vec Ideal S8192 .f32) (v15 : Vec Ideal S2x1x8192 .fp8e4m3) (v19 : Vec Ideal S2x1 .f32) (x : S2x8192.Idx) :
    k0_pay9 v6 v15 v19 x = FloatOps.addf (FloatOps.mulf (FloatOps.extf .f32 bitsLt_fp8e4m3_f32 (v15 (pt ![(x 0).val, 0, (x 1).val]))) (v19 (pt ![(x 0).val, 0]))) (v6 (pt ![(x 1).val])) := by
  unfold k0_pay9
  show FloatOps.addf (k0_pay6 v15 v19 x) (broadcastTo S2x8192 (shapeCast S1x8192 v6 _) _ x) = _
  rw [pay6_at, b_ch]

/-- The new state, element by element, over the vectors it is computed from. -/
theorem pay12_at (v4 : FVec Ideal S16x8192 .f32) (H : FVec Ideal S2x16x8192 .f32) (v23 : FVec Ideal S2x8192 .f32) (v43 : FVec Ideal S2x16 .f32) (v6 : Vec Ideal S8192 .f32) (v25 : Vec Ideal S2x1x8192 .fp8e4m3) (v29 : Vec Ideal S2x1 .f32) (v73 : Vec Ideal S2x1 .i32) (x : S2x16x8192.Idx) :
    k0_pay12 v4 H v23 v43 (k0_pay9 v6 v25 v29) f0 (k0_pay10 v6 v25 v29) k0_pay11 v73 x
      = FloatOps.addf (FloatOps.mulf (FloatOps.mulf (FloatOps.exp (FloatOps.mulf (rsoft (k0_pay9 v6 v25 v29 (pt ![(x 0).val, (x 2).val]))) (v4 (pt ![(x 1).val, (x 2).val])))) (FloatOps.sitofp .f32 (1#32 - v73 (pt ![(x 0).val, 0])))) (H x))
          (FloatOps.mulf (v43 (pt ![(x 0).val, (x 1).val])) (FloatOps.mulf (rsoft (k0_pay9 v6 v25 v29 (pt ![(x 0).val, (x 2).val]))) (v23 (pt ![(x 0).val, (x 2).val])))) := by
  unfold k0_pay12 k0_pay10 k0_pay11
  have hk : shapeCast S2 v73 shapeCasts_S2x1_S2 (pt ![(x 0).val]) = v73 (pt ![(x 0).val, 0]) :=
    (c_one v73 _ _).trans (congrArg v73 (pt_congr (ax2 (Nat.mod_mod _ _) rfl)))
  rw [← hk]
  generalize k0_pay9 v6 v25 v29 = w
  show FloatOps.addf (FloatOps.mulf (FloatOps.mulf (FloatOps.exp (FloatOps.mulf (broadcastTo S2x16x8192 (shapeCast S2x1x8192 _ _) _ x) (broadcastTo S2x16x8192 (shapeCast S1x16x8192 v4 _) _ x))) (broadcastTo S2x16x8192 (shapeCast S2x1x1 _ _) _ x)) (H x)) (FloatOps.mulf (broadcastTo S2x16x8192 (shapeCast S2x16x1 v43 _) _ x) (broadcastTo S2x16x8192 (shapeCast S2x1x8192 _ _) _ x)) = _
  rw [b_bc, b_nc, b_k, b_bn, b_bc]
  rfl

/-- The output row, element by element. -/
theorem pay14_at (v4 : FVec Ideal S16x8192 .f32) (v5 : Vec Ideal S8192 .f32) (H : FVec Ideal S2x16x8192 .f32) (v23 : FVec Ideal S2x8192 .f32) (v43 v53 : FVec Ideal S2x16 .f32) (v56 : FVec Ideal S2x8192 .f32) (c : Ideal .f32) (v58 v59 : FVec Ideal S2x8192 .f32) (v73 : Vec Ideal S2x1 .i32) (v103 : Vec Ideal S2x1x8192 .bf16) (h) (x : S2x128x8192.Idx) :
    broadcastTo S2x128x8192 (k0_pay14 v4 v5 H v23 v43 v53 v56 c v58 v59 v73 v103) h x
      = ((((∑ k : Fin 16, (k0_pay12 v4 H v23 v43 v56 c v58 v59 v73 (pt ![(x 0).val, k.val, (x 2).val]) : EReal) * v53 (pt ![(x 0).val, k.val])) + (v5 (pt ![(x 2).val]) : EReal) * v23 (pt ![(x 0).val, (x 2).val]))
          * ((v103 (pt ![(x 0).val, 0, (x 2).val]) : EReal) * Ideal.logistic (v103 (pt ![(x 0).val, 0, (x 2).val])))) : EReal) := by
  have h0 : (x 0).val < 2 := (x 0).isLt
  have h2 : (x 2).val < 8192 := (x 2).isLt
  unfold k0_pay14
  rw [b_out]
  have hz : shapeCast S2x8192 v103 shapeCasts_S2x1x8192_S2x8192 (pt ![(x 0).val, (x 2).val]) = v103 (pt ![(x 0).val, 0, (x 2).val]) :=
    (c_row v103 _ _).trans (congrArg v103 (pt_congr (ax3 (Nat.mod_mod _ _) rfl (Nat.mod_mod _ _))))
  have hd : broadcastTo S2x8192 (shapeCast S1x8192 v5 shapeCasts_S8192_S1x8192) broadcasts_S1x8192_S2x8192 (pt ![(x 0).val, (x 2).val]) = v5 (pt ![(x 2).val]) :=
    (b_ch v5 _ _ _).trans (congrArg v5 (pt_congr (ax1 (Nat.mod_mod _ _))))
  rw [← hz, ← hd]
  generalize hw : k0_pay12 v4 H v23 v43 v56 c v58 v59 v73 = w
  have hm := Ideal.multiReduction_add_single (mulf w (broadcastTo S2x16x8192 (shapeCast S2x16x1 v53 shapeCasts_S2x16_S2x16x1) broadcasts_S2x16x1_S2x16x8192)) 0x00000000#32 reduces_S2x16x8192_S2x8192 (.inl rfl) rfl (pt ![(x 0).val, (x 2).val])
  refine (congrArg (fun s : EReal => (s + (broadcastTo S2x8192 (shapeCast S1x8192 v5 shapeCasts_S8192_S1x8192) broadcasts_S1x8192_S2x8192 (pt ![(x 0).val, (x 2).val]) : EReal) * v23 (pt ![(x 0).val, (x 2).val]))
    * ((shapeCast S2x8192 v103 shapeCasts_S2x1x8192_S2x8192 (pt ![(x 0).val, (x 2).val]) : EReal) * Ideal.logistic (shapeCast S2x8192 v103 shapeCasts_S2x1x8192_S2x8192 (pt ![(x 0).val, (x 2).val])))) hm).trans ?_
  refine congrArg (fun s : EReal => (s + (broadcastTo S2x8192 (shapeCast S1x8192 v5 shapeCasts_S8192_S1x8192) broadcasts_S1x8192_S2x8192 (pt ![(x 0).val, (x 2).val]) : EReal) * v23 (pt ![(x 0).val, (x 2).val]))
    * ((shapeCast S2x8192 v103 shapeCasts_S2x1x8192_S2x8192 (pt ![(x 0).val, (x 2).val]) : EReal) * Ideal.logistic (shapeCast S2x8192 v103 shapeCasts_S2x1x8192_S2x8192 (pt ![(x 0).val, (x 2).val])))) (Finset.sum_congr rfl fun k _ => ?_)
  show (w _ : EReal) * broadcastTo S2x16x8192 (shapeCast S2x16x1 v53 _) _ _ = _
  rw [b_bn]
  have hk : k.val < 16 := k.isLt
  refine congrArg₂ (fun a b : EReal => a * b) ?_ ?_
  · refine ptx w (ax3 ?_ ?_ ?_)
    · exact (pt_val (s := S2x8192) (o := ![(x 0).val, (x 2).val]) (a := 0) h0).symm
    · rfl
    · exact (pt_val (s := S2x8192) (o := ![(x 0).val, (x 2).val]) (a := 1) h2).symm
  · refine congrArg v53 (pt_congr (ax2 ?_ ?_))
    · exact congrArg (· % 2) (pt_val (s := S2x8192) (o := ![(x 0).val, (x 2).val]) (a := 0) h0)
    · rfl

end Cert.ReferenceIdeal.Scan

end
-- ==== Proof.Ref.Trip.lean ====
/- One token of the reference, and all of them. -/
module

public import proofs.«01_k».proof.Proof.Ref.Pays
public import Idealize.ShloMosaic.Lib.WordArith.Masks

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.Tactic
open Cert.KernelIdeal.Scan (Pos pt pt_eq pt_val ptx pt_congr ax2 ax3 f0 f1 In)
open Cert.Alg

/-- What the reference reads at one token, in the numbers of the scan. -/
structure Tok (I : In Ideal) (k : ℕ) (v0 : Vec Ideal S8192x16 .f32) (v5 v6 : Vec Ideal S8192 .f32) (v15 : Vec Ideal S2x1x8192 .fp8e4m3) (v19 : Vec Ideal S2x1 .f32) (v25 : Vec Ideal S2x1x8192 .fp8e4m3) (v29 : Vec Ideal S2x1 .f32)
    (v35 : Vec Ideal S2x1x16 .fp8e4m3) (v39 : Vec Ideal S2x1 .f32) (v45 : Vec Ideal S2x1x16 .fp8e4m3) (v49 : Vec Ideal S2x1 .f32) (v73 : Vec Ideal S2x1 .i32) (v103 : Vec Ideal S2x1x8192 .bf16) : Prop where
  a0 : ∀ n ch, n < 16 → ch < 8192 → v0 (pt ![ch, n]) = I.A (pt ![n, ch])
  a5 : ∀ ch, ch < 8192 → v5 (pt ![ch]) = I.Dv (pt ![0, ch])
  a6 : ∀ ch, ch < 8192 → v6 (pt ![ch]) = I.bi (pt ![0, ch])
  a15 : ∀ b ch, b < 2 → ch < 8192 → v15 (pt ![b, 0, ch]) = I.x (pt ![b, k, ch])
  a19 : ∀ b, b < 2 → v19 (pt ![b, 0]) = I.xs (pt ![b, k])
  a25 : ∀ b ch, b < 2 → ch < 8192 → v25 (pt ![b, 0, ch]) = I.dt (pt ![b, k, ch])
  a29 : ∀ b, b < 2 → v29 (pt ![b, 0]) = I.ds (pt ![b, k])
  a35 : ∀ b n, b < 2 → n < 16 → v35 (pt ![b, 0, n]) = I.B (pt ![b, k, n])
  a39 : ∀ b, b < 2 → v39 (pt ![b, 0]) = I.Bs (pt ![b, k])
  a45 : ∀ b n, b < 2 → n < 16 → v45 (pt ![b, 0, n]) = I.C (pt ![b, k, n])
  a49 : ∀ b, b < 2 → v49 (pt ![b, 0]) = I.Cs (pt ![b, k])
  a73 : ∀ b, b < 2 → v73 (pt ![b, 0]) = I.fl (pt ![b, k])
  a103 : ∀ b ch, b < 2 → ch < 8192 → v103 (pt ![b, 0, ch]) = I.z (pt ![b, k, ch])
  fs : I.fs = I.fl
  fl : ∀ x, I.fl x = 0#32 ∨ I.fl x = 1#32

section
variable {I : In Ideal} {k : ℕ} {v0 : Vec Ideal S8192x16 .f32} {v5 v6 : Vec Ideal S8192 .f32} {v15 : Vec Ideal S2x1x8192 .fp8e4m3} {v19 : Vec Ideal S2x1 .f32} {v25 : Vec Ideal S2x1x8192 .fp8e4m3} {v29 : Vec Ideal S2x1 .f32}
    {v35 : Vec Ideal S2x1x16 .fp8e4m3} {v39 : Vec Ideal S2x1 .f32} {v45 : Vec Ideal S2x1x16 .fp8e4m3} {v49 : Vec Ideal S2x1 .f32} {v73 : Vec Ideal S2x1 .i32} {v103 : Vec Ideal S2x1x8192 .bf16}
variable (T : Tok I k v0 v5 v6 v15 v19 v25 v29 v35 v39 v45 v49 v73 v103)
include T

theorem Tok.A (n ch : ℕ) (hn : n < 16) (hc : ch < 8192) : k0_pay1 v0 (pt ![n, ch]) = FloatOps.subf f0 (FloatOps.exp (I.A (pt ![n, ch]))) := by
  have q0 : ((pt ![n, ch] : S16x8192.Idx) 0).val = n := pt_val (s := S16x8192) (o := ![n, ch]) (a := 0) hn
  have q1 : ((pt ![n, ch] : S16x8192.Idx) 1).val = ch := pt_val (s := S16x8192) (o := ![n, ch]) (a := 1) hc
  rw [pay1_at, q0, q1, T.a0 n ch hn hc]
theorem Tok.xf (b ch : ℕ) (hb : b < 2) (hc : ch < 8192) : k0_pay6 v15 v19 (pt ![b, ch]) = I.xf b k ch := by
  have q0 : ((pt ![b, ch] : S2x8192.Idx) 0).val = b := pt_val (s := S2x8192) (o := ![b, ch]) (a := 0) hb
  have q1 : ((pt ![b, ch] : S2x8192.Idx) 1).val = ch := pt_val (s := S2x8192) (o := ![b, ch]) (a := 1) hc
  rw [pay6_at, q0, q1, T.a15 b ch hb hc, T.a19 b hb]
  rfl
theorem Tok.dl (b ch : ℕ) (hb : b < 2) (hc : ch < 8192) : rsoft (k0_pay9 v6 v25 v29 (pt ![b, ch])) = I.dl b k ch := by
  have q0 : ((pt ![b, ch] : S2x8192.Idx) 0).val = b := pt_val (s := S2x8192) (o := ![b, ch]) (a := 0) hb
  have q1 : ((pt ![b, ch] : S2x8192.Idx) 1).val = ch := pt_val (s := S2x8192) (o := ![b, ch]) (a := 1) hc
  rw [rsoft_eq, pay9_at, q0, q1, T.a25 b ch hb hc, T.a29 b hb, T.a6 ch hc]
  rfl
theorem Tok.B (b n : ℕ) (hb : b < 2) (hn : n < 16) : k0_pay7 v35 v39 (pt ![b, n]) = I.Bf b k n := by
  have q0 : ((pt ![b, n] : S2x16.Idx) 0).val = b := pt_val (s := S2x16) (o := ![b, n]) (a := 0) hb
  have q1 : ((pt ![b, n] : S2x16.Idx) 1).val = n := pt_val (s := S2x16) (o := ![b, n]) (a := 1) hn
  rw [pay7_at, q0, q1, T.a35 b n hb hn, T.a39 b hb]
  rfl
theorem Tok.C (b n : ℕ) (hb : b < 2) (hn : n < 16) : k0_pay8 v45 v49 (pt ![b, n]) = I.Cf b k n := by
  have q0 : ((pt ![b, n] : S2x16.Idx) 0).val = b := pt_val (s := S2x16) (o := ![b, n]) (a := 0) hb
  have q1 : ((pt ![b, n] : S2x16.Idx) 1).val = n := pt_val (s := S2x16) (o := ![b, n]) (a := 1) hn
  rw [pay8_at, q0, q1, T.a45 b n hb hn, T.a49 b hb]
  rfl

/-- The state after one more token. -/
theorem Tok.h {H : FVec Ideal S2x16x8192 .f32} (hH : ∀ x : S2x16x8192.Idx, H x = I.h (x 0).val (x 1).val (x 2).val k) (x : S2x16x8192.Idx) :
    k0_pay12 (k0_pay1 v0) H (k0_pay6 v15 v19) (k0_pay7 v35 v39) (k0_pay9 v6 v25 v29) f0 (k0_pay10 v6 v25 v29) k0_pay11 v73 x = I.h (x 0).val (x 1).val (x 2).val (k + 1) := by
  have h0 : (x 0).val < 2 := (x 0).isLt
  have h1 : (x 1).val < 16 := (x 1).isLt
  have h2 : (x 2).val < 8192 := (x 2).isLt
  rw [pay12_at, T.dl _ _ h0 h2, T.A _ _ h1 h2, T.a73 _ h0, T.B _ _ h0 h1, T.xf _ _ h0 h2, hH, ← decay_eq I T.fs T.fl]
  rfl

/-- The output row of the token. -/
theorem Tok.y {H : FVec Ideal S2x16x8192 .f32} (hH : ∀ x : S2x16x8192.Idx, H x = I.h (x 0).val (x 1).val (x 2).val k) (h) (x : S2x128x8192.Idx) :
    broadcastTo S2x128x8192 (k0_pay14 (k0_pay1 v0) v5 H (k0_pay6 v15 v19) (k0_pay7 v35 v39) (k0_pay8 v45 v49) (k0_pay9 v6 v25 v29) f0 (k0_pay10 v6 v25 v29) k0_pay11 v73 v103) h x = I.y (x 0).val k (x 2).val := by
  have h0 : (x 0).val < 2 := (x 0).isLt
  have h2 : (x 2).val < 8192 := (x 2).isLt
  rw [pay14_at, T.a5 _ h2, T.xf _ _ h0 h2, T.a103 _ _ h0 h2]
  have hs : (∑ n : Fin 16, (k0_pay12 (k0_pay1 v0) H (k0_pay6 v15 v19) (k0_pay7 v35 v39) (k0_pay9 v6 v25 v29) f0 (k0_pay10 v6 v25 v29) k0_pay11 v73 (pt ![(x 0).val, n.val, (x 2).val]) : EReal) * k0_pay8 v45 v49 (pt ![(x 0).val, n.val]))
      = ∑ n : Fin 16, (I.h (x 0).val n.val (x 2).val (k + 1) : EReal) * I.Cf (x 0).val k n.val := by
    refine Finset.sum_congr rfl fun n _ => ?_
    rw [T.h hH, T.C _ _ h0 n.isLt]
    have q0 : ((pt ![(x 0).val, n.val, (x 2).val] : S2x16x8192.Idx) 0).val = (x 0).val := pt_val (s := S2x16x8192) (o := ![(x 0).val, n.val, (x 2).val]) (a := 0) h0
    have q1 : ((pt ![(x 0).val, n.val, (x 2).val] : S2x16x8192.Idx) 1).val = n.val := pt_val (s := S2x16x8192) (o := ![(x 0).val, n.val, (x 2).val]) (a := 1) n.isLt
    have q2 : ((pt ![(x 0).val, n.val, (x 2).val] : S2x16x8192.Idx) 2).val = (x 2).val := pt_val (s := S2x16x8192) (o := ![(x 0).val, n.val, (x 2).val]) (a := 2) h2
    rw [q0, q1, q2]
  rw [hs, ← tree_sum fun n => (I.h (x 0).val n (x 2).val (k + 1) : EReal) * I.Cf (x 0).val k n, ← gate_eq]
  rfl
end

abbrev R1 (k : Fin k0_t1_loop.trips) := Rect.unit (s := S2x128x8192) (k0_off1 k) S2x1x8192.size (k0_off1_inb k)
abbrev R2 (k : Fin k0_t1_loop.trips) := Rect.unit (s := S2x128) (k0_off2 k) S2x1.size (k0_off2_inb k)
abbrev R3 (k : Fin k0_t1_loop.trips) := Rect.unit (s := S2x128x16) (k0_off3 k) S2x1x16.size (k0_off3_inb k)

theorem off_k (k : Fin k0_t1_loop.trips) : BitVec.toNat (Scalar.indexCast (Scf.iv 0#32 1#32 k.val)) = k.val := by
  have hk : k.val < 128 := k.isLt
  show (Scf.iv 0#32 1#32 k.val).toNat = k.val
  exact WordArith.toNat_iv_zero_one k.val (by omega)

theorem ld1 {e : EltTy} (v : Vec Ideal S2x128x8192 e) (k : Fin k0_t1_loop.trips) (b ch : ℕ) (hb : b < 2) (hc : ch < 8192) : View.ld v (R1 k) (pt ![b, 0, ch] : S2x1x8192.Idx) = v (pt ![b, k.val, ch]) := by
  have q0 : ((pt ![b, 0, ch] : S2x1x8192.Idx) 0).val = b := pt_val (s := S2x1x8192) (o := ![b, 0, ch]) (a := 0) hb
  have q2 : ((pt ![b, 0, ch] : S2x1x8192.Idx) 2).val = ch := pt_val (s := S2x1x8192) (o := ![b, 0, ch]) (a := 2) hc
  refine (ld_row v k.val (off_k k) _ _).trans ?_
  rw [q0, q2]
theorem ld2 {e : EltTy} (v : Vec Ideal S2x128 e) (k : Fin k0_t1_loop.trips) (b : ℕ) (hb : b < 2) : View.ld v (R2 k) (pt ![b, 0] : S2x1.Idx) = v (pt ![b, k.val]) := by
  have q0 : ((pt ![b, 0] : S2x1.Idx) 0).val = b := pt_val (s := S2x1) (o := ![b, 0]) (a := 0) hb
  refine (ld_one v k.val (off_k k) _ _).trans ?_
  rw [q0]
theorem ld3 {e : EltTy} (v : Vec Ideal S2x128x16 e) (k : Fin k0_t1_loop.trips) (b n : ℕ) (hb : b < 2) (hn : n < 16) : View.ld v (R3 k) (pt ![b, 0, n] : S2x1x16.Idx) = v (pt ![b, k.val, n]) := by
  have q0 : ((pt ![b, 0, n] : S2x1x16.Idx) 0).val = b := pt_val (s := S2x1x16) (o := ![b, 0, n]) (a := 0) hb
  have q2 : ((pt ![b, 0, n] : S2x1x16.Idx) 2).val = n := pt_val (s := S2x1x16) (o := ![b, 0, n]) (a := 2) hn
  refine (ld_16 v k.val (off_k k) _ _).trans ?_
  rw [q0, q2]

/-- The row of token `k` is chosen by comparing the token's number. -/
theorem pay4_at (a : BitVec 32) (k : ℕ) (ha : a.toNat = k) (hk : k < 128) (acc : FVec Ideal S2x128x8192 .f32) (v : FVec Ideal S2x1x8192 .f32) (x : S2x128x8192.Idx) :
    k0_pay4 acc (k0_pay13 a) v x = if (x 1).val = k then broadcastTo S2x128x8192 v (by decide) x else acc x := by
  have h1 : (x 1).val < 128 := (x 1).isLt
  unfold k0_pay4 k0_pay13
  show Scalar.select (Scalar.cmpi .eq (iota .tc S2x128x8192 32 [1] (by decide) x) a) (broadcastTo S2x128x8192 v _ x) (acc x) = _
  rw [iota_single_apply]
  by_cases h : (x 1).val = k
  · rw [if_pos h]
    have : BitVec.ofNat 32 (x 1).val = a := by
      apply BitVec.eq_of_toNat_eq
      rw [BitVec.toNat_ofNat, ha]; omega
    rw [this]
    simp [Scalar.cmpi, Scalar.select, IntOp.cmpi]
  · rw [if_neg h]
    have : BitVec.ofNat 32 (x 1).val ≠ a := by
      intro hh
      have := congrArg BitVec.toNat hh
      rw [BitVec.toNat_ofNat, ha] at this; omega
    have hb : (BitVec.ofNat 32 (x 1).val == a) = false := beq_eq_false_iff_ne.mpr this
    simp [Scalar.cmpi, Scalar.select, IntOp.cmpi, hb]

/-- The arrays of the reference are the arrays of the scan. -/
structure Arr (I : In Ideal) (v0 : Vec Ideal S8192x16 .f32) (v5 v6 : Vec Ideal S8192 .f32) (x0 : Vec Ideal S2x128x8192 .fp8e4m3) (x1 : Vec Ideal S2x128 .f32) (x2 : Vec Ideal S2x128x8192 .fp8e4m3) (x3 : Vec Ideal S2x128 .f32) (x4 : Vec Ideal S2x128x16 .fp8e4m3) (x5 : Vec Ideal S2x128 .f32) (x6 : Vec Ideal S2x128x16 .fp8e4m3) (x7 : Vec Ideal S2x128 .f32) (x8 : Vec Ideal S2x128x8192 .bf16) (x12 : Vec Ideal S2x128 .i32) : Prop where
  a0 : ∀ n ch, n < 16 → ch < 8192 → v0 (pt ![ch, n]) = I.A (pt ![n, ch])
  a5 : ∀ ch, ch < 8192 → v5 (pt ![ch]) = I.Dv (pt ![0, ch])
  a6 : ∀ ch, ch < 8192 → v6 (pt ![ch]) = I.bi (pt ![0, ch])
  b0 : x0 = I.x
  b1 : x1 = I.xs
  b2 : x2 = I.dt
  b3 : x3 = I.ds
  b4 : x4 = I.B
  b5 : x5 = I.Bs
  b6 : x6 = I.C
  b7 : x7 = I.Cs
  b8 : x8 = I.z
  b12 : x12 = I.fl
  fs : I.fs = I.fl
  fl : ∀ x, I.fl x = 0#32 ∨ I.fl x = 1#32

/-- What one pass of the loop carries on: the state after the token, and the output array with the token's row put in. -/
theorem trip_at {I : In Ideal} (𝒱 : Variants) (c : Dev nD) (bd : Option 𝒱.V) (arg0 : Memref sig .tc .vmem S2x128x8192 .fp8e4m3) (harg0 : arg0.IsWhole) (arg1 : Memref sig .tc .vmem S2x128 .f32) (harg1 : arg1.IsWhole) (arg2 : Memref sig .tc .vmem S2x128x8192 .fp8e4m3) (harg2 : arg2.IsWhole) (arg3 : Memref sig .tc .vmem S2x128 .f32) (harg3 : arg3.IsWhole) (arg4 : Memref sig .tc .vmem S2x128x16 .fp8e4m3) (harg4 : arg4.IsWhole) (arg5 : Memref sig .tc .vmem S2x128 .f32) (harg5 : arg5.IsWhole) (arg6 : Memref sig .tc .vmem S2x128x16 .fp8e4m3) (harg6 : arg6.IsWhole) (arg7 : Memref sig .tc .vmem S2x128 .f32) (harg7 : arg7.IsWhole) (arg8 : Memref sig .tc .vmem S2x128x8192 .bf16) (harg8 : arg8.IsWhole) (arg9 : Memref sig .tc .vmem S8192x16 .f32) (harg9 : arg9.IsWhole) (arg10 : Memref sig .tc .vmem S8192 .f32) (harg10 : arg10.IsWhole) (arg11 : Memref sig .tc .vmem S8192 .f32) (harg11 : arg11.IsWhole) (arg12 : Memref sig .tc .vmem S2x128 .i32) (harg12 : arg12.IsWhole) (arg13 : Memref sig .tc .vmem S2x128x8192 .bf16) (harg13 : arg13.IsWhole) (arg14 : Memref sig .tc .vmem S2x16x8192 .f32) (harg14 : arg14.IsWhole)  (v0 : Vec Ideal S8192x16 .f32) (v5 v6 : Vec Ideal S8192 .f32) (x0 : Vec Ideal S2x128x8192 .fp8e4m3) (x1 : Vec Ideal S2x128 .f32) (x2 : Vec Ideal S2x128x8192 .fp8e4m3) (x3 : Vec Ideal S2x128 .f32) (x4 : Vec Ideal S2x128x16 .fp8e4m3) (x5 : Vec Ideal S2x128 .f32) (x6 : Vec Ideal S2x128x16 .fp8e4m3) (x7 : Vec Ideal S2x128 .f32) (x8 : Vec Ideal S2x128x8192 .bf16) (x12 : Vec Ideal S2x128 .i32)
    (M : Arr I v0 v5 v6 x0 x1 x2 x3 x4 x5 x6 x7 x8 x12) (k : Fin k0_t1_loop.trips) (acc : FVec Ideal S2x16x8192 .f32 × FVec Ideal S2x128x8192 .f32)
    (hH : ∀ x : S2x16x8192.Idx, acc.1 x = I.h (x 0).val (x 1).val (x 2).val k.val) :
    (∀ x : S2x16x8192.Idx, (tripR_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v0 v5 v6 (harg0.unread x0) (harg1.unread x1) (harg2.unread x2) (harg3.unread x3) (harg4.unread x4) (harg5.unread x5) (harg6.unread x6) (harg7.unread x7) (harg8.unread x8) (harg12.unread x12) k acc).1 x = I.h (x 0).val (x 1).val (x 2).val (k.val + 1))
    ∧ ∀ x : S2x128x8192.Idx, (tripR_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v0 v5 v6 (harg0.unread x0) (harg1.unread x1) (harg2.unread x2) (harg3.unread x3) (harg4.unread x4) (harg5.unread x5) (harg6.unread x6) (harg7.unread x7) (harg8.unread x8) (harg12.unread x12) k acc).2 x = if (x 1).val = k.val then I.y (x 0).val k.val (x 2).val else acc.2 x := by
  obtain ⟨a0, a5, a6, rfl, rfl, rfl, rfl, rfl, rfl, rfl, rfl, rfl, rfl, hfs, hfl⟩ := M
  have hk : k.val < 128 := k.isLt
  have ho := off_k k
  unfold tripR_k0_t1 trip_k0_t1
  dsimp only
  sl_unfold_words
  simp only [View.readAt_eq_ld, Memref.IsWhole.read_unread]
  have T : Tok I k.val v0 v5 v6 (View.ld I.x (R1 k)) (View.ld I.xs (R2 k)) (View.ld I.dt (R1 k)) (View.ld I.ds (R2 k)) (View.ld I.B (R3 k)) (View.ld I.Bs (R2 k)) (View.ld I.C (R3 k)) (View.ld I.Cs (R2 k)) (View.ld I.fl (R2 k)) (View.ld I.z (R1 k)) :=
    ⟨a0, a5, a6, fun b ch hb hc => ld1 I.x k b ch hb hc, fun b hb => ld2 I.xs k b hb, fun b ch hb hc => ld1 I.dt k b ch hb hc, fun b hb => ld2 I.ds k b hb, fun b n hb hn => ld3 I.B k b n hb hn,
      fun b hb => ld2 I.Bs k b hb, fun b n hb hn => ld3 I.C k b n hb hn, fun b hb => ld2 I.Cs k b hb, fun b hb => ld2 I.fl k b hb, fun b ch hb hc => ld1 I.z k b ch hb hc, hfs, hfl⟩
  refine ⟨fun x => T.h hH x, fun x => ?_⟩
  refine Eq.trans (b := if (x 1).val = k.val then broadcastTo S2x128x8192 _ (by decide) x else acc.2 x) ?_ (congrArg (fun s => if (x 1).val = k.val then s else acc.2 x) (T.y hH (by decide) x))
  refine (pay4_at (Scf.iv 0#32 1#32 k.val) k.val ho hk _ _ x).trans ?_
  rfl

end Cert.ReferenceIdeal.Scan

end
-- ==== Proof.Ref.Out.lean ====
/- What the reference leaves in its two results. -/
module

public import proofs.«01_k».proof.Proof.Ref.Trip
public import proofs.«01_k».proof.Proof.Gen.ReferenceIdeal.Value
public import Idealize.ShloMosaic.Lib.Pipeline.ValueKit

@[expose] public section

set_option maxRecDepth 16384

noncomputable section

namespace Cert.ReferenceIdeal.Scan

open Cert.ReferenceIdeal Cert.ReferenceIdeal.Gen
open Idealize.ShloMosaic Idealize.ShloMosaic.TcCoe Idealize.ShloMosaic.Tactic Idealize.SL.Sem
open Cert.KernelIdeal.Scan (Pos pt pt_eq pt_val ptx pt_congr ax2 ax3 f0 f1 In)
open Cert.Alg

/-- Before each pass the carried pair is the state reached so far and the rows written so far. -/
theorem st_at {I : In Ideal} (𝒱 : Variants) (c : Dev nD) (bd : Option 𝒱.V) (arg0 : Memref sig .tc .vmem S2x128x8192 .fp8e4m3) (harg0 : arg0.IsWhole) (arg1 : Memref sig .tc .vmem S2x128 .f32) (harg1 : arg1.IsWhole) (arg2 : Memref sig .tc .vmem S2x128x8192 .fp8e4m3) (harg2 : arg2.IsWhole) (arg3 : Memref sig .tc .vmem S2x128 .f32) (harg3 : arg3.IsWhole) (arg4 : Memref sig .tc .vmem S2x128x16 .fp8e4m3) (harg4 : arg4.IsWhole) (arg5 : Memref sig .tc .vmem S2x128 .f32) (harg5 : arg5.IsWhole) (arg6 : Memref sig .tc .vmem S2x128x16 .fp8e4m3) (harg6 : arg6.IsWhole) (arg7 : Memref sig .tc .vmem S2x128 .f32) (harg7 : arg7.IsWhole) (arg8 : Memref sig .tc .vmem S2x128x8192 .bf16) (harg8 : arg8.IsWhole) (arg9 : Memref sig .tc .vmem S8192x16 .f32) (harg9 : arg9.IsWhole) (arg10 : Memref sig .tc .vmem S8192 .f32) (harg10 : arg10.IsWhole) (arg11 : Memref sig .tc .vmem S8192 .f32) (harg11 : arg11.IsWhole) (arg12 : Memref sig .tc .vmem S2x128 .i32) (harg12 : arg12.IsWhole) (arg13 : Memref sig .tc .vmem S2x128x8192 .bf16) (harg13 : arg13.IsWhole) (arg14 : Memref sig .tc .vmem S2x16x8192 .f32) (harg14 : arg14.IsWhole)  (v0 : Vec Ideal S8192x16 .f32) (v5 v6 : Vec Ideal S8192 .f32) (x0 : Vec Ideal S2x128x8192 .fp8e4m3) (x1 : Vec Ideal S2x128 .f32) (x2 : Vec Ideal S2x128x8192 .fp8e4m3) (x3 : Vec Ideal S2x128 .f32) (x4 : Vec Ideal S2x128x16 .fp8e4m3) (x5 : Vec Ideal S2x128 .f32) (x6 : Vec Ideal S2x128x16 .fp8e4m3) (x7 : Vec Ideal S2x128 .f32) (x8 : Vec Ideal S2x128x8192 .bf16) (x12 : Vec Ideal S2x128 .i32)
    (M : Arr I v0 v5 v6 x0 x1 x2 x3 x4 x5 x6 x7 x8 x12) (init : FVec Ideal S2x16x8192 .f32 × FVec Ideal S2x128x8192 .f32) (hi : ∀ x, init.1 x = z0) :
    ∀ k : ℕ, k ≤ 128 →
    (∀ x : S2x16x8192.Idx, (st_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v0 v5 v6 (harg0.unread x0) (harg1.unread x1) (harg2.unread x2) (harg3.unread x3) (harg4.unread x4) (harg5.unread x5) (harg6.unread x6) (harg7.unread x7) (harg8.unread x8) (harg12.unread x12) init k).1 x = I.h (x 0).val (x 1).val (x 2).val k)
    ∧ ∀ x : S2x128x8192.Idx, (x 1).val < k → (st_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v0 v5 v6 (harg0.unread x0) (harg1.unread x1) (harg2.unread x2) (harg3.unread x3) (harg4.unread x4) (harg5.unread x5) (harg6.unread x6) (harg7.unread x7) (harg8.unread x8) (harg12.unread x12) init k).2 x = I.y (x 0).val (x 1).val (x 2).val
  | 0, _ => by
    rw [st_k0_t1_zero]
    exact ⟨fun x => hi x, fun x h => absurd h (Nat.not_lt_zero _)⟩
  | k + 1, hk => by
    have hk' : k < k0_t1_loop.trips := by show k < 128; omega
    obtain ⟨ih1, ih2⟩ := st_at 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v0 v5 v6 x0 x1 x2 x3 x4 x5 x6 x7 x8 x12 M init hi k (by omega)
    have T := trip_at (I := I) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v0 v5 v6 x0 x1 x2 x3 x4 x5 x6 x7 x8 x12 M ⟨k, hk'⟩ (st_k0_t1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v0 v5 v6 (harg0.unread x0) (harg1.unread x1) (harg2.unread x2) (harg3.unread x3) (harg4.unread x4) (harg5.unread x5) (harg6.unread x6) (harg7.unread x7) (harg8.unread x8) (harg12.unread x12) init k) ih1
    have S := st_k0_t1_succ (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v0 v5 v6 (harg0.unread x0) (harg1.unread x1) (harg2.unread x2) (harg3.unread x3) (harg4.unread x4) (harg5.unread x5) (harg6.unread x6) (harg7.unread x7) (harg8.unread x8) (harg12.unread x12) init ⟨k, hk'⟩
    dsimp only at S T
    rw [S]
    refine ⟨T.1, fun x hx => (T.2 x).trans ?_⟩
    by_cases h : (x 1).val = k
    · rw [if_pos h, h]
    · rw [if_neg h]; exact ih2 x (by omega)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

set_option maxHeartbeats 1600000 in
/-- The output array, whole. -/
theorem out13_at {I : In Ideal} (c : Dev nD) (arg0 : Memref sig .tc .vmem S2x128x8192 .fp8e4m3) (harg0 : arg0.IsWhole) (arg1 : Memref sig .tc .vmem S2x128 .f32) (harg1 : arg1.IsWhole) (arg2 : Memref sig .tc .vmem S2x128x8192 .fp8e4m3) (harg2 : arg2.IsWhole) (arg3 : Memref sig .tc .vmem S2x128 .f32) (harg3 : arg3.IsWhole) (arg4 : Memref sig .tc .vmem S2x128x16 .fp8e4m3) (harg4 : arg4.IsWhole) (arg5 : Memref sig .tc .vmem S2x128 .f32) (harg5 : arg5.IsWhole) (arg6 : Memref sig .tc .vmem S2x128x16 .fp8e4m3) (harg6 : arg6.IsWhole) (arg7 : Memref sig .tc .vmem S2x128 .f32) (harg7 : arg7.IsWhole) (arg8 : Memref sig .tc .vmem S2x128x8192 .bf16) (harg8 : arg8.IsWhole) (arg9 : Memref sig .tc .vmem S8192x16 .f32) (harg9 : arg9.IsWhole) (arg10 : Memref sig .tc .vmem S8192 .f32) (harg10 : arg10.IsWhole) (arg11 : Memref sig .tc .vmem S8192 .f32) (harg11 : arg11.IsWhole) (arg12 : Memref sig .tc .vmem S2x128 .i32) (harg12 : arg12.IsWhole) (arg13 : Memref sig .tc .vmem S2x128x8192 .bf16) (harg13 : arg13.IsWhole) (arg14 : Memref sig .tc .vmem S2x16x8192 .f32) (harg14 : arg14.IsWhole)  (x0 : Vec Ideal S2x128x8192 .fp8e4m3) (x1 : Vec Ideal S2x128 .f32) (x2 : Vec Ideal S2x128x8192 .fp8e4m3) (x3 : Vec Ideal S2x128 .f32) (x4 : Vec Ideal S2x128x16 .fp8e4m3) (x5 : Vec Ideal S2x128 .f32) (x6 : Vec Ideal S2x128x16 .fp8e4m3) (x7 : Vec Ideal S2x128 .f32) (x8 : Vec Ideal S2x128x8192 .bf16) (x9 : Vec Ideal S8192x16 .f32) (x10 : Vec Ideal S8192 .f32) (x11 : Vec Ideal S8192 .f32) (x12 : Vec Ideal S2x128 .i32) (M : Arr I x9 x10 x11 x0 x1 x2 x3 x4 x5 x6 x7 x8 x12) :
    out0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 = fun x => I.y (x 0).val (x 1).val (x 2).val := by
  unfold out0_A_13
  rw [View.read_writes_eq_canon _ _ _ (cover0_A_13 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)]
  unfold kernelRun0_A
  dsimp only
  sl_unfold_words
  rw [View.canon_unit_zero hz3]
  simp only [View.readAt_eq_ld, Memref.IsWhole.read_unread, View.ld_unit_zero (S := S8192x16) hz2, View.ld_unit_zero (S := S8192) hz1, shapeCast_self]
  funext x
  have h1 : (x 1).val < 128 := (x 1).isLt
  exact (st_at Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 x9 x10 x11 x0 x1 x2 x3 x4 x5 x6 x7 x8 x12 M (k0_pay2, k0_pay3) (fun _ => rfl) 128 le_rfl).2 x h1

set_option maxHeartbeats 1600000 in
/-- The final state, whole. -/
theorem out14_at {I : In Ideal} (c : Dev nD) (arg0 : Memref sig .tc .vmem S2x128x8192 .fp8e4m3) (harg0 : arg0.IsWhole) (arg1 : Memref sig .tc .vmem S2x128 .f32) (harg1 : arg1.IsWhole) (arg2 : Memref sig .tc .vmem S2x128x8192 .fp8e4m3) (harg2 : arg2.IsWhole) (arg3 : Memref sig .tc .vmem S2x128 .f32) (harg3 : arg3.IsWhole) (arg4 : Memref sig .tc .vmem S2x128x16 .fp8e4m3) (harg4 : arg4.IsWhole) (arg5 : Memref sig .tc .vmem S2x128 .f32) (harg5 : arg5.IsWhole) (arg6 : Memref sig .tc .vmem S2x128x16 .fp8e4m3) (harg6 : arg6.IsWhole) (arg7 : Memref sig .tc .vmem S2x128 .f32) (harg7 : arg7.IsWhole) (arg8 : Memref sig .tc .vmem S2x128x8192 .bf16) (harg8 : arg8.IsWhole) (arg9 : Memref sig .tc .vmem S8192x16 .f32) (harg9 : arg9.IsWhole) (arg10 : Memref sig .tc .vmem S8192 .f32) (harg10 : arg10.IsWhole) (arg11 : Memref sig .tc .vmem S8192 .f32) (harg11 : arg11.IsWhole) (arg12 : Memref sig .tc .vmem S2x128 .i32) (harg12 : arg12.IsWhole) (arg13 : Memref sig .tc .vmem S2x128x8192 .bf16) (harg13 : arg13.IsWhole) (arg14 : Memref sig .tc .vmem S2x16x8192 .f32) (harg14 : arg14.IsWhole)  (x0 : Vec Ideal S2x128x8192 .fp8e4m3) (x1 : Vec Ideal S2x128 .f32) (x2 : Vec Ideal S2x128x8192 .fp8e4m3) (x3 : Vec Ideal S2x128 .f32) (x4 : Vec Ideal S2x128x16 .fp8e4m3) (x5 : Vec Ideal S2x128 .f32) (x6 : Vec Ideal S2x128x16 .fp8e4m3) (x7 : Vec Ideal S2x128 .f32) (x8 : Vec Ideal S2x128x8192 .bf16) (x9 : Vec Ideal S8192x16 .f32) (x10 : Vec Ideal S8192 .f32) (x11 : Vec Ideal S8192 .f32) (x12 : Vec Ideal S2x128 .i32) (M : Arr I x9 x10 x11 x0 x1 x2 x3 x4 x5 x6 x7 x8 x12) :
    out0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 = fun x => I.h (x 0).val (x 1).val (x 2).val 128 := by
  unfold out0_A_14
  rw [View.read_writes_eq_canon _ _ _ (cover0_A_14 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12)]
  unfold kernelRun0_A
  dsimp only
  sl_unfold_words
  rw [View.canon_unit_zero hz3]
  simp only [View.readAt_eq_ld, Memref.IsWhole.read_unread, View.ld_unit_zero (S := S8192x16) hz2, View.ld_unit_zero (S := S8192) hz1, shapeCast_self]
  funext x
  exact (st_at Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 x9 x10 x11 x0 x1 x2 x3 x4 x5 x6 x7 x8 x12 M (k0_pay2, k0_pay3) (fun _ => rfl) 128 le_rfl).1 x

end Cert.ReferenceIdeal.Scan

end
-- ==== Proof.Ref.Value.lean ====
/- The reference's two results: the one grid point hands the body the whole arguments and stores the whole results. -/
module

public import proofs.«01_k».proof.Proof.Ref.Out

@[expose] public section

set_option maxRecDepth 16384

noncomputable section

namespace Cert.ReferenceIdeal.Scan

open Cert.ReferenceIdeal Cert.ReferenceIdeal.Gen Cert.KernelIdeal.Scan
open Idealize.ShloMosaic Idealize.ShloMosaic.TcCoe Idealize.ShloMosaic.Tactic Idealize.SL.Sem

variable (m : (ℓ : Loc nD τ sig) → Buf (Elt Ideal) ℓ)

/-- Operand 0 is staged whole. -/
theorem blk0 (c : Dev nD) (t : Fin cfg0.N) : (iblk m c 0 t : Vec Ideal S2x128x8192 .fp8e4m3) = m ((c : Thread nD τ).loc main_arg0) := by
  funext (x : S2x128x8192.Idx)
  unfold iblk
  refine (View.read_apply ..).trans ?_
  refine Eq.trans ?_ (congrFun (V_main_arg0 m c) x)
  show V m c main_arg0 _ = V m c main_arg0 _
  congr 1
  funext a
  apply Fin.ext
  match a with
  | ⟨0, _⟩ => show 0 * 2 + 1 * (x 0).val = (x 0).val; omega
  | ⟨1, _⟩ => show 0 * 128 + 1 * (x 1).val = (x 1).val; omega
  | ⟨2, _⟩ => show 0 * 8192 + 1 * (x 2).val = (x 2).val; omega

/-- Operand 1 is staged whole. -/
theorem blk1 (c : Dev nD) (t : Fin cfg0.N) : (iblk m c 1 t : Vec Ideal S2x128 .f32) = m ((c : Thread nD τ).loc main_arg1) := by
  funext (x : S2x128.Idx)
  unfold iblk
  refine (View.read_apply ..).trans ?_
  refine Eq.trans ?_ (congrFun (V_main_arg1 m c) x)
  show V m c main_arg1 _ = V m c main_arg1 _
  congr 1
  funext a
  apply Fin.ext
  match a with
  | ⟨0, _⟩ => show 0 * 2 + 1 * (x 0).val = (x 0).val; omega
  | ⟨1, _⟩ => show 0 * 128 + 1 * (x 1).val = (x 1).val; omega

/-- Operand 2 is staged whole. -/
theorem blk2 (c : Dev nD) (t : Fin cfg0.N) : (iblk m c 2 t : Vec Ideal S2x128x8192 .fp8e4m3) = m ((c : Thread nD τ).loc main_arg2) := by
  funext (x : S2x128x8192.Idx)
  unfold iblk
  refine (View.read_apply ..).trans ?_
  refine Eq.trans ?_ (congrFun (V_main_arg2 m c) x)
  show V m c main_arg2 _ = V m c main_arg2 _
  congr 1
  funext a
  apply Fin.ext
  match a with
  | ⟨0, _⟩ => show 0 * 2 + 1 * (x 0).val = (x 0).val; omega
  | ⟨1, _⟩ => show 0 * 128 + 1 * (x 1).val = (x 1).val; omega
  | ⟨2, _⟩ => show 0 * 8192 + 1 * (x 2).val = (x 2).val; omega

/-- Operand 3 is staged whole. -/
theorem blk3 (c : Dev nD) (t : Fin cfg0.N) : (iblk m c 3 t : Vec Ideal S2x128 .f32) = m ((c : Thread nD τ).loc main_arg3) := by
  funext (x : S2x128.Idx)
  unfold iblk
  refine (View.read_apply ..).trans ?_
  refine Eq.trans ?_ (congrFun (V_main_arg3 m c) x)
  show V m c main_arg3 _ = V m c main_arg3 _
  congr 1
  funext a
  apply Fin.ext
  match a with
  | ⟨0, _⟩ => show 0 * 2 + 1 * (x 0).val = (x 0).val; omega
  | ⟨1, _⟩ => show 0 * 128 + 1 * (x 1).val = (x 1).val; omega

/-- Operand 4 is staged whole. -/
theorem blk4 (c : Dev nD) (t : Fin cfg0.N) : (iblk m c 4 t : Vec Ideal S2x128x16 .fp8e4m3) = m ((c : Thread nD τ).loc main_arg4) := by
  funext (x : S2x128x16.Idx)
  unfold iblk
  refine (View.read_apply ..).trans ?_
  refine Eq.trans ?_ (congrFun (V_main_arg4 m c) x)
  show V m c main_arg4 _ = V m c main_arg4 _
  congr 1
  funext a
  apply Fin.ext
  match a with
  | ⟨0, _⟩ => show 0 * 2 + 1 * (x 0).val = (x 0).val; omega
  | ⟨1, _⟩ => show 0 * 128 + 1 * (x 1).val = (x 1).val; omega
  | ⟨2, _⟩ => show 0 * 16 + 1 * (x 2).val = (x 2).val; omega

/-- Operand 5 is staged whole. -/
theorem blk5 (c : Dev nD) (t : Fin cfg0.N) : (iblk m c 5 t : Vec Ideal S2x128 .f32) = m ((c : Thread nD τ).loc main_arg5) := by
  funext (x : S2x128.Idx)
  unfold iblk
  refine (View.read_apply ..).trans ?_
  refine Eq.trans ?_ (congrFun (V_main_arg5 m c) x)
  show V m c main_arg5 _ = V m c main_arg5 _
  congr 1
  funext a
  apply Fin.ext
  match a with
  | ⟨0, _⟩ => show 0 * 2 + 1 * (x 0).val = (x 0).val; omega
  | ⟨1, _⟩ => show 0 * 128 + 1 * (x 1).val = (x 1).val; omega

/-- Operand 6 is staged whole. -/
theorem blk6 (c : Dev nD) (t : Fin cfg0.N) : (iblk m c 6 t : Vec Ideal S2x128x16 .fp8e4m3) = m ((c : Thread nD τ).loc main_arg6) := by
  funext (x : S2x128x16.Idx)
  unfold iblk
  refine (View.read_apply ..).trans ?_
  refine Eq.trans ?_ (congrFun (V_main_arg6 m c) x)
  show V m c main_arg6 _ = V m c main_arg6 _
  congr 1
  funext a
  apply Fin.ext
  match a with
  | ⟨0, _⟩ => show 0 * 2 + 1 * (x 0).val = (x 0).val; omega
  | ⟨1, _⟩ => show 0 * 128 + 1 * (x 1).val = (x 1).val; omega
  | ⟨2, _⟩ => show 0 * 16 + 1 * (x 2).val = (x 2).val; omega

/-- Operand 7 is staged whole. -/
theorem blk7 (c : Dev nD) (t : Fin cfg0.N) : (iblk m c 7 t : Vec Ideal S2x128 .f32) = m ((c : Thread nD τ).loc main_arg7) := by
  funext (x : S2x128.Idx)
  unfold iblk
  refine (View.read_apply ..).trans ?_
  refine Eq.trans ?_ (congrFun (V_main_arg7 m c) x)
  show V m c main_arg7 _ = V m c main_arg7 _
  congr 1
  funext a
  apply Fin.ext
  match a with
  | ⟨0, _⟩ => show 0 * 2 + 1 * (x 0).val = (x 0).val; omega
  | ⟨1, _⟩ => show 0 * 128 + 1 * (x 1).val = (x 1).val; omega

/-- Operand 8 is staged whole. -/
theorem blk8 (c : Dev nD) (t : Fin cfg0.N) : (iblk m c 8 t : Vec Ideal S2x128x8192 .bf16) = m ((c : Thread nD τ).loc main_arg8) := by
  funext (x : S2x128x8192.Idx)
  unfold iblk
  refine (View.read_apply ..).trans ?_
  refine Eq.trans ?_ (congrFun (V_main_arg8 m c) x)
  show V m c main_arg8 _ = V m c main_arg8 _
  congr 1
  funext a
  apply Fin.ext
  match a with
  | ⟨0, _⟩ => show 0 * 2 + 1 * (x 0).val = (x 0).val; omega
  | ⟨1, _⟩ => show 0 * 128 + 1 * (x 1).val = (x 1).val; omega
  | ⟨2, _⟩ => show 0 * 8192 + 1 * (x 2).val = (x 2).val; omega

/-- Operand 9 is staged whole. -/
theorem blk9 (c : Dev nD) (t : Fin cfg0.N) : (iblk m c 9 t : Vec Ideal S8192x16 .f32) = m ((c : Thread nD τ).loc main_arg9) := by
  funext (x : S8192x16.Idx)
  unfold iblk
  refine (View.read_apply ..).trans ?_
  refine Eq.trans ?_ (congrFun (V_main_arg9 m c) x)
  show V m c main_arg9 _ = V m c main_arg9 _
  congr 1
  funext a
  apply Fin.ext
  match a with
  | ⟨0, _⟩ => show 0 * 8192 + 1 * (x 0).val = (x 0).val; omega
  | ⟨1, _⟩ => show 0 * 16 + 1 * (x 1).val = (x 1).val; omega

/-- Operand 10 is staged whole. -/
theorem blk10 (c : Dev nD) (t : Fin cfg0.N) : (iblk m c 10 t : Vec Ideal S8192 .f32) = m ((c : Thread nD τ).loc main_arg10) := by
  funext (x : S8192.Idx)
  unfold iblk
  refine (View.read_apply ..).trans ?_
  refine Eq.trans ?_ (congrFun (V_main_arg10 m c) x)
  show V m c main_arg10 _ = V m c main_arg10 _
  congr 1
  funext a
  apply Fin.ext
  match a with
  | ⟨0, _⟩ => show 0 * 8192 + 1 * (x 0).val = (x 0).val; omega

/-- Operand 11 is staged whole. -/
theorem blk11 (c : Dev nD) (t : Fin cfg0.N) : (iblk m c 11 t : Vec Ideal S8192 .f32) = m ((c : Thread nD τ).loc main_arg11) := by
  funext (x : S8192.Idx)
  unfold iblk
  refine (View.read_apply ..).trans ?_
  refine Eq.trans ?_ (congrFun (V_main_arg11 m c) x)
  show V m c main_arg11 _ = V m c main_arg11 _
  congr 1
  funext a
  apply Fin.ext
  match a with
  | ⟨0, _⟩ => show 0 * 8192 + 1 * (x 0).val = (x 0).val; omega

/-- Operand 12 is staged whole. -/
theorem blk12 (c : Dev nD) (t : Fin cfg0.N) : (iblk m c 12 t : Vec Ideal S2x128 .i32) = m ((c : Thread nD τ).loc main_arg12) := by
  funext (x : S2x128.Idx)
  unfold iblk
  refine (View.read_apply ..).trans ?_
  refine Eq.trans ?_ (congrFun (V_main_arg12 m c) x)
  show V m c main_arg12 _ = V m c main_arg12 _
  congr 1
  funext a
  apply Fin.ext
  match a with
  | ⟨0, _⟩ => show 0 * 2 + 1 * (x 0).val = (x 0).val; omega
  | ⟨1, _⟩ => show 0 * 128 + 1 * (x 1).val = (x 1).val; omega

/-- Result 0 of the reference when its arguments are those of the recurrence `I`. -/
theorem final13 (c : Dev nD) (I : In Ideal) (M : Arr I (m ((c : Thread nD τ).loc main_arg9)) (m ((c : Thread nD τ).loc main_arg10)) (m ((c : Thread nD τ).loc main_arg11)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12))) :
    ((dats m 0 c).arrAt 13 cfg0.N : Vec Ideal S2x128x8192 .bf16) = fun x => I.y (x 0).val (x 1).val (x 2).val :=
  (dats m 0 c).arrAt_eq_of_cover 13 (fun x : S2x128x8192.Idx => I.y (x 0).val (x 1).val (x 2).val) (fun t _ => by
    rw [Value.flushed13_A, blk0, blk1, blk2, blk3, blk4, blk5, blk6, blk7, blk8, blk9, blk10, blk11, blk12, out13_at c _ _ _ _ _ _ _ _ _ _ _ _ _ _ _ _ _ _ _ _ _ _ _ _ _ _ _ _ _ _ _ _ _ _ _ _ _ _ _ _ _ _ _ M]
    funext (x : S2x128x8192.Idx)
    refine Eq.trans ?_ (View.read_apply ..).symm
    refine congrArg (fun x : S2x128x8192.Idx => I.y (x 0).val (x 1).val (x 2).val) (?_ : x = _)
    funext a
    apply Fin.ext
    match a with
    | ⟨0, _⟩ => show (x 0).val = 0 * 2 + 1 * (x 0).val; omega
    | ⟨1, _⟩ => show (x 1).val = 0 * 128 + 1 * (x 1).val; omega
    | ⟨2, _⟩ => show (x 2).val = 0 * 8192 + 1 * (x 2).val; omega) fun (i : S2x128x8192.Idx) => by
    have b0 : (i 0).val < 2 := (i 0).isLt
    have b1 : (i 1).val < 128 := (i 1).isLt
    have b2 : (i 2).val < 8192 := (i 2).isLt
    refine ⟨⟨0, by decide⟩, by decide +kernel, ?_⟩
    refine (congrArg (fun q => i ∈ q) (View.set_slice_whole main_v0_0 ((cfg0.win 13).rect ⟨0, by decide⟩))).mpr ?_
    refine Rect.mem_set_unit.mpr ?_
    intro a
    match a with
    | ⟨0, _⟩ => show 0 * 2 ≤ (i 0).val ∧ (i 0).val < 0 * 2 + 2; omega
    | ⟨1, _⟩ => show 0 * 128 ≤ (i 1).val ∧ (i 1).val < 0 * 128 + 128; omega
    | ⟨2, _⟩ => show 0 * 8192 ≤ (i 2).val ∧ (i 2).val < 0 * 8192 + 8192; omega

/-- Result 1 of the reference when its arguments are those of the recurrence `I`. -/
theorem final14 (c : Dev nD) (I : In Ideal) (M : Arr I (m ((c : Thread nD τ).loc main_arg9)) (m ((c : Thread nD τ).loc main_arg10)) (m ((c : Thread nD τ).loc main_arg11)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg12))) :
    ((dats m 0 c).arrAt 14 cfg0.N : Vec Ideal S2x16x8192 .f32) = fun x => I.h (x 0).val (x 1).val (x 2).val 128 :=
  (dats m 0 c).arrAt_eq_of_cover 14 (fun x : S2x16x8192.Idx => I.h (x 0).val (x 1).val (x 2).val 128) (fun t _ => by
    rw [Value.flushed14_A, blk0, blk1, blk2, blk3, blk4, blk5, blk6, blk7, blk8, blk9, blk10, blk11, blk12, out14_at c _ _ _ _ _ _ _ _ _ _ _ _ _ _ _ _ _ _ _ _ _ _ _ _ _ _ _ _ _ _ _ _ _ _ _ _ _ _ _ _ _ _ _ M]
    funext (x : S2x16x8192.Idx)
    refine Eq.trans ?_ (View.read_apply ..).symm
    refine congrArg (fun x : S2x16x8192.Idx => I.h (x 0).val (x 1).val (x 2).val 128) (?_ : x = _)
    funext a
    apply Fin.ext
    match a with
    | ⟨0, _⟩ => show (x 0).val = 0 * 2 + 1 * (x 0).val; omega
    | ⟨1, _⟩ => show (x 1).val = 0 * 16 + 1 * (x 1).val; omega
    | ⟨2, _⟩ => show (x 2).val = 0 * 8192 + 1 * (x 2).val; omega) fun (i : S2x16x8192.Idx) => by
    have b0 : (i 0).val < 2 := (i 0).isLt
    have b1 : (i 1).val < 16 := (i 1).isLt
    have b2 : (i 2).val < 8192 := (i 2).isLt
    refine ⟨⟨0, by decide⟩, by decide +kernel, ?_⟩
    refine (congrArg (fun q => i ∈ q) (View.set_slice_whole main_v0_1 ((cfg0.win 14).rect ⟨0, by decide⟩))).mpr ?_
    refine Rect.mem_set_unit.mpr ?_
    intro a
    match a with
    | ⟨0, _⟩ => show 0 * 2 ≤ (i 0).val ∧ (i 0).val < 0 * 2 + 2; omega
    | ⟨1, _⟩ => show 0 * 16 ≤ (i 1).val ∧ (i 1).val < 0 * 16 + 16; omega
    | ⟨2, _⟩ => show 0 * 8192 ≤ (i 2).val ∧ (i 2).val < 0 * 8192 + 8192; omega

end Cert.ReferenceIdeal.Scan

end
-- ==== Proof.lean ====
/- Every claim of `Cert.Claim` from the modules that prove it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.Pre_reset_is_flag
public import proofs.«01_k».proof.Proof.Gen.ReferenceIdeal
public import proofs.«01_k».proof.Proof.Gen.ReferenceIdeal.Frame
public import proofs.«01_k».proof.Proof.Gen.ReferenceIdeal.Value
public import proofs.«01_k».proof.Proof.Bridge.Frame
public import proofs.«01_k».proof.Proof.ScanI.Final
public import proofs.«01_k».proof.Proof.ScanI.Host
public import proofs.«01_k».proof.Proof.Ref.Value
public import Idealize.ShloMosaic.Adequacy
public import Idealize.ShloMosaic.Init

@[expose] public section

set_option maxRecDepth 16384

noncomputable section

namespace Cert.Proof

open Idealize.ShloMosaic Idealize.SL.Sem Idealize.ShloMosaic.TcCoe

/-- A word that is 0 or 1 by the two comparisons of the precondition. -/
theorem flag_of_cmp (w : BitVec 32) (h : (BitVec.ofBool (w == 0#32)) ||| (BitVec.ofBool (w == 1#32)) = 1#1) : w = 0#32 ∨ w = 1#32 := by
  by_cases h0 : w = 0#32
  · exact .inl h0
  by_cases h1 : w = 1#32
  · exact .inr h1
  exfalso
  rw [beq_eq_false_iff_ne.mpr h0, beq_eq_false_iff_ne.mpr h1] at h
  exact absurd h (by decide)

/-- The precondition makes every word of the kernel's table a flag. -/
theorem hyps_kernel (m : (ℓ : Loc Cert.Kernel.nD Cert.Kernel.τ Cert.Kernel.sig) → Buf (Elt Bits) ℓ) (h : Cert.Pre_Kernel (hPre_reset_is_flag := Cert.Pre_reset_is_flag.Gen.facts) m) (j : Cert.Kernel.S2x128.Idx) :
    (m (((0 : Dev Cert.Kernel.nD) : Thread Cert.Kernel.nD Cert.Kernel.τ).loc Cert.Kernel.main_arg12) : Vec Bits Cert.Kernel.S2x128 .i32) j = 0#32 ∨ (m (((0 : Dev Cert.Kernel.nD) : Thread Cert.Kernel.nD Cert.Kernel.τ).loc Cert.Kernel.main_arg12) : Vec Bits Cert.Kernel.S2x128 .i32) j = 1#32 :=
  flag_of_cmp _ (congrFun (h 0) j)

/-- The precondition makes every word of the ideal kernel's table a flag. -/
theorem hyps_kernelIdeal (m : (ℓ : Loc Cert.KernelIdeal.nD Cert.KernelIdeal.τ Cert.KernelIdeal.sig) → Buf (Elt Ideal) ℓ) (h : Cert.Pre_KernelIdeal (hPre_reset_is_flag := Cert.Pre_reset_is_flag.Gen.facts) m) :
    Cert.KernelIdeal.Scan.Hyps m := fun j => by
  have h' := congrFun (h 0) j
  have e : Cert.KernelIdeal.Scan.tbl m 0 = m (((0 : Dev Cert.KernelIdeal.nD) : Thread Cert.KernelIdeal.nD Cert.KernelIdeal.τ).loc Cert.KernelIdeal.main_arg12) := Cert.KernelIdeal.Scan.V_main_arg12 m 0
  rw [e]
  exact flag_of_cmp _ h'

open Cert.KernelIdeal.Scan in
/-- The arguments, as both programs are handed them, are the arrays of one recurrence. -/
theorem arr (m : (ℓ : Loc Cert.KernelIdeal.nD Cert.KernelIdeal.τ Cert.KernelIdeal.sig) → Buf (Elt Ideal) ℓ) (h : Cert.KernelIdeal.Scan.Hyps m) :
    Cert.ReferenceIdeal.Scan.Arr (Cert.KernelIdeal.Scan.inM m) (m (((0 : Dev Cert.KernelIdeal.nD).tc : Thread Cert.KernelIdeal.nD Cert.KernelIdeal.τ).loc Cert.KernelIdeal.main_arg9)) (m (((0 : Dev Cert.KernelIdeal.nD).tc : Thread Cert.KernelIdeal.nD Cert.KernelIdeal.τ).loc Cert.KernelIdeal.main_arg10)) (m (((0 : Dev Cert.KernelIdeal.nD).tc : Thread Cert.KernelIdeal.nD Cert.KernelIdeal.τ).loc Cert.KernelIdeal.main_arg11)) (m (((0 : Dev Cert.KernelIdeal.nD).tc : Thread Cert.KernelIdeal.nD Cert.KernelIdeal.τ).loc Cert.KernelIdeal.main_arg0)) (m (((0 : Dev Cert.KernelIdeal.nD).tc : Thread Cert.KernelIdeal.nD Cert.KernelIdeal.τ).loc Cert.KernelIdeal.main_arg1)) (m (((0 : Dev Cert.KernelIdeal.nD).tc : Thread Cert.KernelIdeal.nD Cert.KernelIdeal.τ).loc Cert.KernelIdeal.main_arg2)) (m (((0 : Dev Cert.KernelIdeal.nD).tc : Thread Cert.KernelIdeal.nD Cert.KernelIdeal.τ).loc Cert.KernelIdeal.main_arg3)) (m (((0 : Dev Cert.KernelIdeal.nD).tc : Thread Cert.KernelIdeal.nD Cert.KernelIdeal.τ).loc Cert.KernelIdeal.main_arg4)) (m (((0 : Dev Cert.KernelIdeal.nD).tc : Thread Cert.KernelIdeal.nD Cert.KernelIdeal.τ).loc Cert.KernelIdeal.main_arg5)) (m (((0 : Dev Cert.KernelIdeal.nD).tc : Thread Cert.KernelIdeal.nD Cert.KernelIdeal.τ).loc Cert.KernelIdeal.main_arg6)) (m (((0 : Dev Cert.KernelIdeal.nD).tc : Thread Cert.KernelIdeal.nD Cert.KernelIdeal.τ).loc Cert.KernelIdeal.main_arg7)) (m (((0 : Dev Cert.KernelIdeal.nD).tc : Thread Cert.KernelIdeal.nD Cert.KernelIdeal.τ).loc Cert.KernelIdeal.main_arg8)) (m (((0 : Dev Cert.KernelIdeal.nD).tc : Thread Cert.KernelIdeal.nD Cert.KernelIdeal.τ).loc Cert.KernelIdeal.main_arg12)) where
  a0 n ch hn hc := (v0_at m 0 n ch hn hc).symm
  a5 ch _ := ((congrFun (V_v1 m 0) _).trans (row_at _ _ ch)).symm
  a6 ch _ := ((congrFun (V_v2 m 0) _).trans (row_at _ _ ch)).symm
  b0 := (V_main_arg0 m 0).symm
  b1 := (V_main_arg1 m 0).symm
  b2 := (V_main_arg2 m 0).symm
  b3 := (V_main_arg3 m 0).symm
  b4 := (V_main_arg4 m 0).symm
  b5 := (V_main_arg5 m 0).symm
  b6 := (V_main_arg6 m 0).symm
  b7 := (V_main_arg7 m 0).symm
  b8 := (V_main_arg8 m 0).symm
  b12 := (V_main_arg12 m 0).symm
  fs := (V_v4 m 0).trans (V_main_arg12 m 0).symm
  fl x := h x

/-- Over the reals with infinities, the kernel and the reference end with the same two results and leave their arguments unchanged. -/
theorem algebraic : Cert.algebraic_KernelIdeal_ReferenceIdeal (hKernelIdeal := Cert.KernelIdeal.Gen.facts) (hReferenceIdeal := Cert.ReferenceIdeal.Gen.facts) (hPre_reset_is_flag := Cert.Pre_reset_is_flag.Gen.facts) := by
  intro m g m' g' hp hin
  have hH := hyps_kernelIdeal m hp
  have hO : Cert.KernelIdeal.Scan.Ok m := by trivial
  refine ⟨fun _ => Cert.KernelIdeal.Scan.resY m, fun _ => Cert.KernelIdeal.Scan.resH m, ?_, ?_⟩
  · refine θ_run_mono (Cert.KernelIdeal.Scan.run_all m g hO hH) ?_
    intro r hr c
    obtain ⟨y, hh, rest⟩ := hr.1 c
    obtain rfl : c = 0 := Subsingleton.elim _ _
    exact ⟨y.trans (Cert.KernelIdeal.Scan.final13 m hO hH), hh.trans (Cert.KernelIdeal.Scan.final14 m hO hH), rest⟩
  · refine θ_run_mono (Cert.ReferenceIdeal.Value.run_blocks m' g') ?_
    intro r hr c
    obtain ⟨y, hh, rest⟩ := hr c
    obtain rfl : c = 0 := Subsingleton.elim _ _
    obtain ⟨e0, e1, e2, e3, e4, e5, e6, e7, e8, e9, e10, e11, e12⟩ := hin 0
    have M := arr m hH
    rw [← e0, ← e1, ← e2, ← e3, ← e4, ← e5, ← e6, ← e7, ← e8, ← e9, ← e10, ← e11, ← e12] at M
    exact ⟨y.trans (Cert.ReferenceIdeal.Scan.final13 m' 0 _ M), hh.trans (Cert.ReferenceIdeal.Scan.final14 m' 0 _ M), rest⟩

/-- Every claim: the three programs finish and leave their arguments unchanged, the named constants have the bits the kernel has, and the two results agree. -/
theorem claim : Cert.Claim := ⟨Cert.Kernel.Gen.facts, Cert.KernelIdeal.Gen.facts, Cert.ReferenceIdeal.Gen.facts, Cert.Pre_reset_is_flag.Gen.facts,
  fun m g h => Cert.Kernel.Scan.frame m g (hyps_kernel m h),
  fun m g h => Cert.KernelIdeal.Scan.frame m g (by trivial) (hyps_kernelIdeal m h),
  fun m ρ _ => Cert.ReferenceIdeal.Gen.frame m ρ,
  fun m ρ _ => Cert.ReferenceIdeal.Gen.frame m ρ,
  ⟨IdealRules.named_const.statement Cert.KernelIdeal.κ "log2e" .f32 0x3FB8AA3B#32 _ rfl,
    IdealRules.named_const.statement Cert.KernelIdeal.κ "reset_mask" .f32 0xFF61B1E6#32 _ rfl,
    IdealRules.named_const.statement Cert.KernelIdeal.κ "neg_log2e" .f32 0xBFB8AA3B#32 _ rfl⟩,
  algebraic⟩

end Cert.Proof

end
